-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v105_0)) (v1 : (c : Dev Cert.KernelIdeal.nD) → Buf (Elt Ideal) ((c.tc : Thread Cert.KernelIdeal.nD Cert.KernelIdeal.τ).loc Cert.KernelIdeal.main_v105_1)) (v2 : (c : Dev Cert.KernelIdeal.nD) → Buf (Elt Ideal) ((c.tc : Thread Cert.KernelIdeal.nD Cert.KernelIdeal.τ).loc Cert.KernelIdeal.main_v105_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105_0) = v0 c
          ∧ r.2.mem ((c.tc : Thread Cert.KernelIdeal.nD Cert.KernelIdeal.τ).loc Cert.KernelIdeal.main_v105_1) = v1 c
          ∧ r.2.mem ((c.tc : Thread Cert.KernelIdeal.nD Cert.KernelIdeal.τ).loc Cert.KernelIdeal.main_v105_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_v241) = v1 c
          ∧ r.2.mem ((c.tc : Thread Cert.ReferenceIdeal.nD Cert.ReferenceIdeal.τ).loc Cert.ReferenceIdeal.main_v243) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v18_0)) (v1 : (c : Dev Cert.Kernel9Ideal.nD) → Buf (Elt Ideal) ((c.tc : Thread Cert.Kernel9Ideal.nD Cert.Kernel9Ideal.τ).loc Cert.Kernel9Ideal.main_v18_1)) (v2 : (c : Dev Cert.Kernel9Ideal.nD) → Buf (Elt Ideal) ((c.tc : Thread Cert.Kernel9Ideal.nD Cert.Kernel9Ideal.τ).loc Cert.Kernel9Ideal.main_v18_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18_0) = v0 c
          ∧ r.2.mem ((c.tc : Thread Cert.Kernel9Ideal.nD Cert.Kernel9Ideal.τ).loc Cert.Kernel9Ideal.main_v18_1) = v1 c
          ∧ r.2.mem ((c.tc : Thread Cert.Kernel9Ideal.nD Cert.Kernel9Ideal.τ).loc Cert.Kernel9Ideal.main_v18_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_v20) = v1 c
          ∧ r.2.mem ((c.tc : Thread Cert.Reference9Ideal.nD Cert.Reference9Ideal.τ).loc Cert.Reference9Ideal.main_v21) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v22_0)) (v1 : (c : Dev Cert.Kernel11Ideal.nD) → Buf (Elt Ideal) ((c.tc : Thread Cert.Kernel11Ideal.nD Cert.Kernel11Ideal.τ).loc Cert.Kernel11Ideal.main_v22_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v22_0) = v0 c
          ∧ r.2.mem ((c.tc : Thread Cert.Kernel11Ideal.nD Cert.Kernel11Ideal.τ).loc Cert.Kernel11Ideal.main_v22_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v60) = v0 c
          ∧ r.2.mem ((c.tc : Thread Cert.Reference11Ideal.nD Cert.Reference11Ideal.τ).loc Cert.Reference11Ideal.main_v61) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v77) = v0 c
          ∧ r.2.mem ((c.tc : Thread Cert.Reference12Ideal.nD Cert.Reference12Ideal.τ).loc Cert.Reference12Ideal.main_v78) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v14_0)) (v1 : (c : Dev Cert.Kernel14Ideal.nD) → Buf (Elt Ideal) ((c.tc : Thread Cert.Kernel14Ideal.nD Cert.Kernel14Ideal.τ).loc Cert.Kernel14Ideal.main_v14_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v14_0) = v0 c
          ∧ r.2.mem ((c.tc : Thread Cert.Kernel14Ideal.nD Cert.Kernel14Ideal.τ).loc Cert.Kernel14Ideal.main_v14_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v21) = v0 c
          ∧ r.2.mem ((c.tc : Thread Cert.Reference14Ideal.nD Cert.Reference14Ideal.τ).loc Cert.Reference14Ideal.main_v22) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg3) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v7_0)) (v1 : (c : Dev Cert.Kernel21Ideal.nD) → Buf (Elt Ideal) ((c.tc : Thread Cert.Kernel21Ideal.nD Cert.Kernel21Ideal.τ).loc Cert.Kernel21Ideal.main_v7_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v7_0) = v0 c
          ∧ r.2.mem ((c.tc : Thread Cert.Kernel21Ideal.nD Cert.Kernel21Ideal.τ).loc Cert.Kernel21Ideal.main_v7_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v14) = v0 c
          ∧ r.2.mem ((c.tc : Thread Cert.Reference21Ideal.nD Cert.Reference21Ideal.τ).loc Cert.Reference21Ideal.main_v16) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v7_0)) (v1 : (c : Dev Cert.Kernel22Ideal.nD) → Buf (Elt Ideal) ((c.tc : Thread Cert.Kernel22Ideal.nD Cert.Kernel22Ideal.τ).loc Cert.Kernel22Ideal.main_v7_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v7_0) = v0 c
          ∧ r.2.mem ((c.tc : Thread Cert.Kernel22Ideal.nD Cert.Kernel22Ideal.τ).loc Cert.Kernel22Ideal.main_v7_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_v7) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v22_0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v22_0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v82) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite11 : Cert.Pre_finite11.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S512x49152 : Shape := ⟨2, ![512, 49152]⟩
abbrev S512x16384 : Shape := ⟨2, ![512, 16384]⟩
abbrev S1x8192x8x128 : Shape := ⟨4, ![1, 8192, 8, 128]⟩
abbrev S1x8192x8 : Shape := ⟨3, ![1, 8192, 8]⟩
abbrev S_ : Shape := ⟨0, ![]⟩

class Facts : Prop where
  bitsLt_bf16_f32 : FTy.bits .bf16 < FTy.bits .f32
  bcast_S_S512x49152 : S_.BroadcastsInDim S512x49152 (![] : Fin 0 → Fin S512x49152.rank)
  bcast_S_S512x16384 : S_.BroadcastsInDim S512x16384 (![] : Fin 0 → Fin S512x16384.rank)
  bcast_S_S1x8192x8x128 : S_.BroadcastsInDim S1x8192x8x128 (![] : Fin 0 → Fin S1x8192x8x128.rank)
  bcast_S_S1x8192x8 : S_.BroadcastsInDim S1x8192x8 (![] : Fin 0 → Fin S1x8192x8.rank)

variable [Facts]

def fn_part1 {F : FTy → Type} [FloatOps F] (main_v3 : IVec S512x49152 1) (main_v7 : IVec S512x16384 1) (main_v10 : IVec S1x8192x8x128 1) (main_v13 : IVec S1x8192x8 1) (main_v16 : IVec S1x8192x8x128 1) (main_v17 : FVec F S1x8192x8 .f32) (main_cst_4 : FVec F S_ .f32) : IVec S512x49152 1 × IVec S512x16384 1 × IVec S1x8192x8x128 1 × IVec S1x8192x8 1 × IVec S1x8192x8x128 1 × IVec S1x8192x8 1 :=
  let main_v18 : FVec F S1x8192x8 .f32 := broadcastInDim S1x8192x8 ![] bcast_S_S1x8192x8 main_cst_4
  let main_v19 : IVec S1x8192x8 1 := cmpf .olt main_v17 main_v18
  (main_v3, main_v7, main_v10, main_v13, main_v16, main_v19)

def fn {F : FTy → Type} [FloatOps F] (main_arg0 : FVec F S512x49152 .bf16) (main_arg1 : FVec F S512x16384 .bf16) (main_arg2 : FVec F S1x8192x8x128 .f32) (main_arg3 : FVec F S1x8192x8 .f32) (main_arg4 : FVec F S1x8192x8x128 .f32) (main_arg5 : FVec F S1x8192x8 .f32) : IVec S512x49152 1 × IVec S512x16384 1 × IVec S1x8192x8x128 1 × IVec S1x8192x8 1 × IVec S1x8192x8x128 1 × IVec S1x8192x8 1 :=
  let main_v0 : FVec F S512x49152 .f32 := (extf .f32 · bitsLt_bf16_f32) main_arg0
  let main_v1 : FVec F S512x49152 .f32 := Host.absf main_v0
  let main_cst : FVec F S_ .f32 := constant S_ .f32 0x7F800000#32
  let main_v2 : FVec F S512x49152 .f32 := broadcastInDim S512x49152 ![] bcast_S_S512x49152 main_cst
  let main_v3 : IVec S512x49152 1 := cmpf .olt main_v1 main_v2
  let main_v4 : FVec F S512x16384 .f32 := (extf .f32 · bitsLt_bf16_f32) main_arg1
  let main_v5 : FVec F S512x16384 .f32 := Host.absf main_v4
  let main_cst_0 : FVec F S_ .f32 := constant S_ .f32 0x7F800000#32
  let main_v6 : FVec F S512x16384 .f32 := broadcastInDim S512x16384 ![] bcast_S_S512x16384 main_cst_0
  let main_v7 : IVec S512x16384 1 := cmpf .olt main_v5 main_v6
  let main_v8 : FVec F S1x8192x8x128 .f32 := Host.absf main_arg2
  let main_cst_1 : FVec F S_ .f32 := constant S_ .f32 0x7F800000#32
  let main_v9 : FVec F S1x8192x8x128 .f32 := broadcastInDim S1x8192x8x128 ![] bcast_S_S1x8192x8x128 main_cst_1
  let main_v10 : IVec S1x8192x8x128 1 := cmpf .olt main_v8 main_v9
  let main_v11 : FVec F S1x8192x8 .f32 := Host.absf main_arg3
  let main_cst_2 : FVec F S_ .f32 := constant S_ .f32 0x7F800000#32
  let main_v12 : FVec F S1x8192x8 .f32 := broadcastInDim S1x8192x8 ![] bcast_S_S1x8192x8 main_cst_2
  let main_v13 : IVec S1x8192x8 1 := cmpf .olt main_v11 main_v12
  let main_v14 : FVec F S1x8192x8x128 .f32 := Host.absf main_arg4
  let main_cst_3 : FVec F S_ .f32 := constant S_ .f32 0x7F800000#32
  let main_v15 : FVec F S1x8192x8x128 .f32 := broadcastInDim S1x8192x8x128 ![] bcast_S_S1x8192x8x128 main_cst_3
  let main_v16 : IVec S1x8192x8x128 1 := cmpf .olt main_v14 main_v15
  let main_v17 : FVec F S1x8192x8 .f32 := Host.absf main_arg5
  let main_cst_4 : FVec F S_ .f32 := constant S_ .f32 0x7F800000#32
  fn_part1 (F := F) main_v3 main_v7 main_v10 main_v13 main_v16 main_v17 main_cst_4
-- ==== Pre_finite11.lean ====
abbrev S8192x8192 : Shape := ⟨2, ![8192, 8192]⟩
abbrev S2048x8192 : Shape := ⟨2, ![2048, 8192]⟩
abbrev S8192x2048 : Shape := ⟨2, ![8192, 2048]⟩
abbrev S1x2048 : Shape := ⟨2, ![1, 2048]⟩
abbrev S_ : Shape := ⟨0, ![]⟩

class Facts : Prop where
  bcast_S_S8192x8192 : S_.BroadcastsInDim S8192x8192 (![] : Fin 0 → Fin S8192x8192.rank)
  bcast_S_S2048x8192 : S_.BroadcastsInDim S2048x8192 (![] : Fin 0 → Fin S2048x8192.rank)
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x8192 .f32) (main_arg1 : FVec F S2048x8192 .f32) (main_arg2 : FVec F S8192x2048 .f32) (main_arg3 : FVec F S8192x2048 .f32) (main_arg4 : FVec F S1x2048 .f32) : IVec S8192x8192 1 × IVec S2048x8192 1 × IVec S8192x2048 1 × IVec S8192x2048 1 × IVec S1x2048 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_v3 : FVec F S2048x8192 .f32 := Host.absf main_arg1
  let main_cst_0 : FVec F S_ .f32 := constant S_ .f32 0x7F800000#32
  let main_v4 : FVec F S2048x8192 .f32 := broadcastInDim S2048x8192 ![] bcast_S_S2048x8192 main_cst_0
  let main_v5 : IVec S2048x8192 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Pre_finite12.lean ====
abbrev S8192x8192 : Shape := ⟨2, ![8192, 8192]⟩
abbrev S8192x2048 : Shape := ⟨2, ![8192, 2048]⟩
abbrev S1x2048 : Shape := ⟨2, ![1, 2048]⟩
abbrev S_ : Shape := ⟨0, ![]⟩

class Facts : Prop where
  bcast_S_S8192x8192 : S_.BroadcastsInDim S8192x8192 (![] : Fin 0 → Fin S8192x8192.rank)
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn_part1 {F : FTy → Type} [FloatOps F] (main_arg6 : FVec F S1x2048 .f32) (main_arg7 : FVec F S8192x2048 .f32) (main_v2 : IVec S8192x8192 1) (main_v5 : IVec S8192x2048 1) (main_v8 : IVec S8192x2048 1) (main_v11 : IVec S1x2048 1) (main_v14 : IVec S1x2048 1) (main_v17 : IVec S1x2048 1) : IVec S8192x8192 1 × IVec S8192x2048 1 × IVec S8192x2048 1 × IVec S1x2048 1 × IVec S1x2048 1 × IVec S1x2048 1 × IVec S1x2048 1 × IVec S8192x2048 1 :=
  let main_v18 : FVec F S1x2048 .f32 := Host.absf main_arg6
  let main_cst_5 : FVec F S_ .f32 := constant S_ .f32 0x7F800000#32
  let main_v19 : FVec F S1x2048 .f32 := broadcastInDim S1x2048 ![] bcast_S_S1x2048 main_cst_5
  let main_v20 : IVec S1x2048 1 := cmpf .olt main_v18 main_v19
  let main_v21 : FVec F S8192x2048 .f32 := Host.absf main_arg7
  let main_cst_6 : FVec F S_ .f32 := constant S_ .f32 0x7F800000#32
  let main_v22 : FVec F S8192x2048 .f32 := broadcastInDim S8192x2048 ![] bcast_S_S8192x2048 main_cst_6
  let main_v23 : IVec S8192x2048 1 := cmpf .olt main_v21 main_v22
  (main_v2, main_v5, main_v8, main_v11, main_v14, main_v17, main_v20, main_v23)

def fn {F : FTy → Type} [FloatOps F] (main_arg0 : FVec F S8192x8192 .f32) (main_arg1 : FVec F S8192x2048 .f32) (main_arg2 : FVec F S8192x2048 .f32) (main_arg3 : FVec F S1x2048 .f32) (main_arg4 : FVec F S1x2048 .f32) (main_arg5 : FVec F S1x2048 .f32) (main_arg6 : FVec F S1x2048 .f32) (main_arg7 : FVec F S8192x2048 .f32) : IVec S8192x8192 1 × IVec S8192x2048 1 × IVec S8192x2048 1 × IVec S1x2048 1 × IVec S1x2048 1 × IVec S1x2048 1 × IVec S1x2048 1 × IVec S8192x2048 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  let main_v15 : FVec F S1x2048 .f32 := Host.absf main_arg5
  let main_cst_4 : FVec F S_ .f32 := constant S_ .f32 0x7F800000#32
  let main_v16 : FVec F S1x2048 .f32 := broadcastInDim S1x2048 ![] bcast_S_S1x2048 main_cst_4
  let main_v17 : IVec S1x2048 1 := cmpf .olt main_v15 main_v16
  fn_part1 (F := F) main_arg6 main_arg7 main_v2 main_v5 main_v8 main_v11 main_v14 main_v17
-- ==== Kernel.lean ====
abbrev S512x49152 : Shape := ⟨2, ![512, 49152]⟩
abbrev S512x16384 : Shape := ⟨2, ![512, 16384]⟩
abbrev S1x8192x8x128 : Shape := ⟨4, ![1, 8192, 8, 128]⟩
abbrev S1x8192x8 : Shape := ⟨3, ![1, 8192, 8]⟩
abbrev S_ : Shape := ⟨0, ![]⟩
abbrev S1x16x1x128x8x128 : Shape := ⟨6, ![1, 16, 1, 128, 8, 128]⟩
abbrev S1x512x16x8x128 : Shape := ⟨5, ![1, 512, 16, 8, 128]⟩
abbrev S1x16x512x8x128 : Shape := ⟨5, ![1, 16, 512, 8, 128]⟩
abbrev S1x16x4x128x8x128 : Shape := ⟨6, ![1, 16, 4, 128, 8, 128]⟩
abbrev S1x16x3x128x8x128 : Shape := ⟨6, ![1, 16, 3, 128, 8, 128]⟩
abbrev S1x16x4x256x8x128 : Shape := ⟨6, ![1, 16, 4, 256, 8, 128]⟩
abbrev S1x16x4x8x128x256 : Shape := ⟨6, ![1, 16, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S4x128x256 : Shape := ⟨3, ![4, 128, 256]⟩
abbrev S1x1x4x1x128x256 : Shape := ⟨6, ![1, 1, 4, 1, 128, 256]⟩
abbrev S1x16x4x8x128 : Shape := ⟨5, ![1, 16, 4, 8, 128]⟩
abbrev S1x16x4x8x128x1 : Shape := ⟨6, ![1, 16, 4, 8, 128, 1]⟩
abbrev S1x16x4x8x128x128 : Shape := ⟨6, ![1, 16, 4, 8, 128, 128]⟩
abbrev S1x16x4x128x8 : Shape := ⟨5, ![1, 16, 4, 128, 8]⟩
abbrev S1x16x4x128x8x1 : Shape := ⟨6, ![1, 16, 4, 128, 8, 1]⟩
abbrev S1x16x512x8 : Shape := ⟨4, ![1, 16, 512, 8]⟩
abbrev S1x512x16x8 : Shape := ⟨4, ![1, 512, 16, 8]⟩
abbrev S1x8192x8x16 : Shape := ⟨4, ![1, 8192, 8, 16]⟩
abbrev S512x2048 : Shape := ⟨2, ![512, 2048]⟩
abbrev S512x1024 : Shape := ⟨2, ![512, 1024]⟩
abbrev S512x128 : Shape := ⟨2, ![512, 128]⟩
abbrev S128x1024 : Shape := ⟨2, ![128, 1024]⟩
abbrev S128x128 : Shape := ⟨2, ![128, 128]⟩
abbrev S256x128 : Shape := ⟨2, ![256, 128]⟩

abbrev nBuf : Space → Nat
  | .hbm => 127
  | .vmem => 22
  | .smem => 0
  | _ => 0

abbrev bufTy : (tb : Table) → Fin (tcTables nBuf tb) → BufTy
  | .hbm, ⟨0, _⟩ => ⟨S512x49152, .bf16⟩
  | .hbm, ⟨1, _⟩ => ⟨S512x16384, .bf16⟩
  | .hbm, ⟨2, _⟩ => ⟨S1x8192x8x128, .f32⟩
  | .hbm, ⟨3, _⟩ => ⟨S1x8192x8, .f32⟩
  | .hbm, ⟨4, _⟩ => ⟨S1x8192x8x128, .f32⟩
  | .hbm, ⟨5, _⟩ => ⟨S1x8192x8, .f32⟩
  | .hbm, ⟨6, _⟩ => ⟨S512x49152, .f32⟩
  | .hbm, ⟨7, _⟩ => ⟨S_, .f32⟩
  | .hbm, ⟨8, _⟩ => ⟨S1x16x1x128x8x128, .f32⟩
  | .hbm, ⟨9, _⟩ => ⟨S512x16384, .f32⟩
  | .hbm, ⟨10, _⟩ => ⟨S1x512x16x8x128, .f32⟩
  | .hbm, ⟨11, _⟩ => ⟨S1x16x512x8x128, .f32⟩
  | .hbm, ⟨12, _⟩ => ⟨S1x16x4x128x8x128, .f32⟩
  | .hbm, ⟨13, _⟩ => ⟨S512x16384, .f32⟩
  | .hbm, ⟨14, _⟩ => ⟨S1x512x16x8x128, .f32⟩
  | .hbm, ⟨15, _⟩ => ⟨S1x16x512x8x128, .f32⟩
  | .hbm, ⟨16, _⟩ => ⟨S1x16x4x128x8x128, .f32⟩
  | .hbm, ⟨17, _⟩ => ⟨S1x16x3x128x8x128, .f32⟩
  | .hbm, ⟨18, _⟩ => ⟨S1x16x4x128x8x128, .f32⟩
  | .hbm, ⟨19, _⟩ => ⟨S1x16x4x256x8x128, .f32⟩
  | .hbm, ⟨20, _⟩ => ⟨S512x16384, .f32⟩
  | .hbm, ⟨21, _⟩ => ⟨S1x512x16x8x128, .f32⟩
  | .hbm, ⟨22, _⟩ => ⟨S1x16x512x8x128, .f32⟩
  | .hbm, ⟨23, _⟩ => ⟨S1x16x4x128x8x128, .f32⟩
  | .hbm, ⟨24, _⟩ => ⟨S1x16x3x128x8x128, .f32⟩
  | .hbm, ⟨25, _⟩ => ⟨S1x16x4x128x8x128, .f32⟩
  | .hbm, ⟨26, _⟩ => ⟨S1x16x4x256x8x128, .f32⟩
  | .hbm, ⟨27, _⟩ => ⟨S1x16x4x8x128x256, .f32⟩
  | .hbm, ⟨28, _⟩ => ⟨S_, .f32⟩
  | .hbm, ⟨29, _⟩ => ⟨S1x16x4x8x128x256, .f32⟩
  | .hbm, ⟨30, _⟩ => ⟨S1x16x4x8x128x256, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S1x128x256, .i1⟩
  | .hbm, ⟨49, _⟩ => ⟨S4, .i32⟩
  | .hbm, ⟨50, _⟩ => ⟨S4x1x1, .i32⟩
  | .hbm, ⟨51, _⟩ => ⟨S_, .i32⟩
  | .hbm, ⟨52, _⟩ => ⟨S4x1x1, .i32⟩
  | .hbm, ⟨53, _⟩ => ⟨S4x1x1, .i1⟩
  | .hbm, ⟨54, _⟩ => ⟨S_, .i32⟩
  | .hbm, ⟨55, _⟩ => ⟨S1x256, .i32⟩
  | .hbm, ⟨56, _⟩ => ⟨S1x256, .i1⟩
  | .hbm, ⟨57, _⟩ => ⟨S1x1x256, .i1⟩
  | .hbm, ⟨58, _⟩ => ⟨S4x1x256, .i1⟩
  | .hbm, ⟨59, _⟩ => ⟨S4x1x256, .i1⟩
  | .hbm, ⟨60, _⟩ => ⟨S4x1x256, .i1⟩
  | .hbm, ⟨61, _⟩ => ⟨S4x128x256, .i1⟩
  | .hbm, ⟨62, _⟩ => ⟨S4x128x256, .i1⟩
  | .hbm, ⟨63, _⟩ => ⟨S4x128x256, .i1⟩
  | .hbm, ⟨64, _⟩ => ⟨S1x1x4x1x128x256, .i1⟩
  | .hbm, ⟨65, _⟩ => ⟨S_, .f32⟩
  | .hbm, ⟨66, _⟩ => ⟨S_, .f32⟩
  | .hbm, ⟨67, _⟩ => ⟨S1x16x4x8x128x256, .i1⟩
  | .hbm, ⟨68, _⟩ => ⟨S1x16x4x8x128x256, .f32⟩
  | .hbm, ⟨69, _⟩ => ⟨S1x16x4x8x128x256, .f32⟩
  | .hbm, ⟨70, _⟩ => ⟨S_, .f32⟩
  | .hbm, ⟨71, _⟩ => ⟨S1x16x4x8x128, .f32⟩
  | .hbm, ⟨72, _⟩ => ⟨S1x16x4x8x128x1, .f32⟩
  | .hbm, ⟨73, _⟩ => ⟨S1x16x4x8x128x256, .f32⟩
  | .hbm, ⟨74, _⟩ => ⟨S1x16x4x8x128x256, .f32⟩
  | .hbm, ⟨75, _⟩ => ⟨S1x16x4x8x128x256, .f32⟩
  | .hbm, ⟨76, _⟩ => ⟨S_, .f32⟩
  | .hbm, ⟨77, _⟩ => ⟨S1x16x4x8x128, .f32⟩
  | .hbm, ⟨78, _⟩ => ⟨S1x16x4x8x128x128, .f32⟩
  | .hbm, ⟨79, _⟩ => ⟨S1x16x4x128x8x128, .f32⟩
  | .hbm, ⟨80, _⟩ => ⟨S1x16x4x128x8, .f32⟩
  | .hbm, ⟨81, _⟩ => ⟨S1x16x4x128x8x1, .f32⟩
  | .hbm, ⟨82, _⟩ => ⟨S1x16x4x128x8x128, .f32⟩
  | .hbm, ⟨83, _⟩ => ⟨S1x16x4x128x8x128, .f32⟩
  | .hbm, ⟨84, _⟩ => ⟨S1x16x4x8x128, .f32⟩
  | .hbm, ⟨85, _⟩ => ⟨S1x16x4x8x128, .f32⟩
  | .hbm, ⟨86, _⟩ => ⟨S1x16x4x8x128, .f32⟩
  | .hbm, ⟨87, _⟩ => ⟨S1x16x4x128x8, .f32⟩
  | .hbm, ⟨88, _⟩ => ⟨S1x16x512x8x128, .f32⟩
  | .hbm, ⟨89, _⟩ => ⟨S1x512x16x8x128, .f32⟩
  | .hbm, ⟨90, _⟩ => ⟨S1x8192x8x128, .f32⟩
  | .hbm, ⟨91, _⟩ => ⟨S1x16x512x8, .f32⟩
  | .hbm, ⟨92, _⟩ => ⟨S1x512x16x8, .f32⟩
  | .hbm, ⟨93, _⟩ => ⟨S1x8192x8, .f32⟩
  | .hbm, ⟨94, _⟩ => ⟨S1x8192x8, .f32⟩
  | .hbm, ⟨95, _⟩ => ⟨S1x8192x8, .f32⟩
  | .hbm, ⟨96, _⟩ => ⟨S1x8192x8, .f32⟩
  | .hbm, ⟨97, _⟩ => ⟨S1x8192x8, .f32⟩
  | .hbm, ⟨98, _⟩ => ⟨S1x8192x8, .f32⟩
  | .hbm, ⟨99, _⟩ => ⟨S1x8192x8, .f32⟩
  | .hbm, ⟨100, _⟩ => ⟨S1x8192x8, .f32⟩
  | .hbm, ⟨101, _⟩ => ⟨S1x8192x8, .f32⟩
  | .hbm, ⟨102, _⟩ => ⟨S1x8192x8, .f32⟩
  | .hbm, ⟨103, _⟩ => ⟨S1x8192x8, .f32⟩
  | .hbm, ⟨104, _⟩ => ⟨S1x8192x8, .f32⟩
  | .hbm, ⟨105, _⟩ => ⟨S1x8192x8, .f32⟩
  | .hbm, ⟨106, _⟩ => ⟨S1x8192x8, .f32⟩
  | .hbm, ⟨107, _⟩ => ⟨S1x8192x8x128, .f32⟩
  | .hbm, ⟨108, _⟩ => ⟨S1x8192x8x128, .f32⟩
  | .hbm, ⟨109, _⟩ => ⟨S1x8192x8, .f32⟩
  | .hbm, ⟨110, _⟩ => ⟨S1x8192x8x128, .f32⟩
  | .hbm, ⟨111, _⟩ => ⟨S1x8192x8x128, .f32⟩
  | .hbm, ⟨112, _⟩ => ⟨S1x8192x8x128, .f32⟩
  | .hbm, ⟨113, _⟩ => ⟨S1x8192x8, .f32⟩
  | .hbm, ⟨114, _⟩ => ⟨S1x8192x8x128, .f32⟩
  | .hbm, ⟨115, _⟩ => ⟨S1x8192x8x128, .f32⟩
  | .hbm, ⟨116, _⟩ => ⟨S1x8192x8x128, .f32⟩
  | .hbm, ⟨117, _⟩ => ⟨S512x16384, .f32⟩
  | .hbm, ⟨118, _⟩ => ⟨S1x8192x8x128, .f32⟩
  | .hbm, ⟨119, _⟩ => ⟨S1x8192x8, .f32⟩
  | .hbm, ⟨120, _⟩ => ⟨S1x8192x8x16, .f32⟩
  | .hbm, ⟨121, _⟩ => ⟨S512x2048, .f32⟩
  | .hbm, ⟨122, _⟩ => ⟨S1x8192x8x16, .f32⟩
  | .hbm, ⟨123, _⟩ => ⟨S512x2048, .f32⟩
  | .hbm, ⟨124, _⟩ => ⟨S512x16384, .bf16⟩
  | .hbm, ⟨125, _⟩ => ⟨S512x16384, .bf16⟩
  | .hbm, ⟨126, _⟩ => ⟨S512x16384, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S128x1024, .bf16⟩
  | .local _ .vmem, ⟨19, _⟩ => ⟨S128x1024, .bf16⟩
  | .local _ .vmem, ⟨20, _⟩ => ⟨S512x1024, .f32⟩
  | .local _ .vmem, ⟨21, _⟩ => ⟨S512x1024, .f32⟩
  | _, _ => ⟨S512x49152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_1 : Ref sig .tc := ⟨.hbm, 41, rfl⟩
abbrev main_v32 : Ref sig .tc := ⟨.hbm, 42, rfl⟩
abbrev main_v33 : Ref sig .tc := ⟨.hbm, 43, rfl⟩
abbrev main_c_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_3 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105_0 : Ref sig .tc := ⟨.hbm, 124, rfl⟩
abbrev main_v105_1 : Ref sig .tc := ⟨.hbm, 125, rfl⟩
abbrev main_v105_2 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c1_i32 : BitVec 32 := 1#32
  let v3 : BitVec 1 := Scalar.cmpi .slt arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c16_i32 : BitVec 32 := 16#32
  let v1 : BitVec 32 := Scalar.addi arg0 c16_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c32_i32 : BitVec 32 := 32#32
  let v1 : BitVec 32 := Scalar.addi arg0 c32_i32
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let v1 : BitVec 32 := Scalar.addi arg0 c0_i32_0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let v1 : BitVec 32 := Scalar.addi arg0 c0_i32_0
  let c0_i32_1 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S512x49152 : Shape := ⟨2, ![512, 49152]⟩
abbrev S512x16384 : Shape := ⟨2, ![512, 16384]⟩
abbrev S1x8192x8x128 : Shape := ⟨4, ![1, 8192, 8, 128]⟩
abbrev S1x8192x8 : Shape := ⟨3, ![1, 8192, 8]⟩
abbrev S1x512x16x8x128 : Shape := ⟨5, ![1, 512, 16, 8, 128]⟩
abbrev S1x16x512x8x128 : Shape := ⟨5, ![1, 16, 512, 8, 128]⟩
abbrev S1x16x4x128x8x128 : Shape := ⟨6, ![1, 16, 4, 128, 8, 128]⟩
abbrev S1x16x1x128x8x128 : Shape := ⟨6, ![1, 16, 1, 128, 8, 128]⟩
abbrev S_ : Shape := ⟨0, ![]⟩
abbrev S1x16x3x128x8x128 : Shape := ⟨6, ![1, 16, 3, 128, 8, 128]⟩
abbrev S1x16x4x256x8x128 : Shape := ⟨6, ![1, 16, 4, 256, 8, 128]⟩
abbrev S1x16x4x8x128x256 : Shape := ⟨6, ![1, 16, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S4x128x256 : Shape := ⟨3, ![4, 128, 256]⟩
abbrev S1x1x4x1x128x256 : Shape := ⟨6, ![1, 1, 4, 1, 128, 256]⟩
abbrev S1x16x4x8x128 : Shape := ⟨5, ![1, 16, 4, 8, 128]⟩
abbrev S1x16x4x8x128x1 : Shape := ⟨6, ![1, 16, 4, 8, 128, 1]⟩
abbrev S1x16x4x8x128x128 : Shape := ⟨6, ![1, 16, 4, 8, 128, 128]⟩
abbrev S1x16x4x128x8 : Shape := ⟨5, ![1, 16, 4, 128, 8]⟩
abbrev S1x16x4x128x8x1 : Shape := ⟨6, ![1, 16, 4, 128, 8, 1]⟩
abbrev S1x16x512x8 : Shape := ⟨4, ![1, 16, 512, 8]⟩
abbrev S1x512x16x8 : Shape := ⟨4, ![1, 512, 16, 8]⟩
abbrev S1x1x8192x8 : Shape := ⟨4, ![1, 1, 8192, 8]⟩
abbrev S3x1x8192x8 : Shape := ⟨4, ![3, 1, 8192, 8]⟩
abbrev S3x1x8192x8x1 : Shape := ⟨5, ![3, 1, 8192, 8, 1]⟩
abbrev S1x1x8192x8x128 : Shape := ⟨5, ![1, 1, 8192, 8, 128]⟩
abbrev S3x1x8192x8x128 : Shape := ⟨5, ![3, 1, 8192, 8, 128]⟩
abbrev S3x8192x8 : Shape := ⟨3, ![3, 8192, 8]⟩
abbrev S8192x8 : Shape := ⟨2, ![8192, 8]⟩
abbrev S16x4x128x8 : Shape := ⟨4, ![16, 4, 128, 8]⟩
abbrev S16x4x8x128 : Shape := ⟨4, ![16, 4, 8, 128]⟩
abbrev S1x16x4x8x256x128 : Shape := ⟨6, ![1, 16, 4, 8, 256, 128]⟩

abbrev nBuf : Space → Nat
  | .hbm => 298
  | .vmem => 0
  | .smem => 0
  | _ => 0

abbrev hbmTy0_0 (i : Nat) : BufTy := match i % 128 with
  | 0 => ⟨S512x49152, .bf16⟩
  | 1 => ⟨S512x16384, .bf16⟩
  | 2 => ⟨S1x8192x8x128, .f32⟩
  | 3 => ⟨S1x8192x8, .f32⟩
  | 4 => ⟨S1x8192x8x128, .f32⟩
  | 5 => ⟨S1x8192x8, .f32⟩
  | 6 => ⟨S512x16384, .bf16⟩
  | 7 => ⟨S512x16384, .f32⟩
  | 8 => ⟨S1x8192x8x128, .f32⟩
  | 9 => ⟨S512x16384, .bf16⟩
  | 10 => ⟨S512x16384, .f32⟩
  | 11 => ⟨S1x8192x8x128, .f32⟩
  | 12 => ⟨S512x16384, .bf16⟩
  | 13 => ⟨S512x16384, .f32⟩
  | 14 => ⟨S1x8192x8x128, .f32⟩
  | 15 => ⟨S1x512x16x8x128, .f32⟩
  | 16 => ⟨S1x16x512x8x128, .f32⟩
  | 17 => ⟨S1x16x4x128x8x128, .f32⟩
  | 18 => ⟨S1x512x16x8x128, .f32⟩
  | 19 => ⟨S1x16x512x8x128, .f32⟩
  | 20 => ⟨S1x16x4x128x8x128, .f32⟩
  | 21 => ⟨S1x16x1x128x8x128, .f32⟩
  | 22 => ⟨S_, .f32⟩
  | 23 => ⟨S1x16x1x128x8x128, .f32⟩
  | 24 => ⟨S1x16x3x128x8x128, .f32⟩
  | 25 => ⟨S1x16x4x128x8x128, .f32⟩
  | 26 => ⟨S_, .f32⟩
  | 27 => ⟨S1x16x1x128x8x128, .f32⟩
  | 28 => ⟨S1x16x4x256x8x128, .f32⟩
  | 29 => ⟨S1x512x16x8x128, .f32⟩
  | 30 => ⟨S1x16x512x8x128, .f32⟩
  | 31 => ⟨S1x16x4x128x8x128, .f32⟩
  | 32 => ⟨S1x16x1x128x8x128, .f32⟩
  | 33 => ⟨S_, .f32⟩
  | 34 => ⟨S1x16x1x128x8x128, .f32⟩
  | 35 => ⟨S1x16x3x128x8x128, .f32⟩
  | 36 => ⟨S1x16x4x128x8x128, .f32⟩
  | 37 => ⟨S_, .f32⟩
  | 38 => ⟨S1x16x1x128x8x128, .f32⟩
  | 39 => ⟨S1x16x4x256x8x128, .f32⟩
  | 40 => ⟨S1x16x4x8x128x256, .f32⟩
  | 41 => ⟨S_, .f32⟩
  | 42 => ⟨S1x16x4x8x128x256, .f32⟩
  | 43 => ⟨S1x16x4x8x128x256, .f32⟩
  | 44 => ⟨S128, .i32⟩
  | 45 => ⟨S128x1, .i32⟩
  | 46 => ⟨S256, .i32⟩
  | 47 => ⟨S1x256, .i32⟩
  | 48 => ⟨S_, .i32⟩
  | 49 => ⟨S128x1, .i32⟩
  | 50 => ⟨S128x1, .i32⟩
  | 51 => ⟨S128x256, .i32⟩
  | 52 => ⟨S128x256, .i32⟩
  | 53 => ⟨S128x256, .i32⟩
  | 54 => ⟨S_, .i32⟩
  | 55 => ⟨S128x256, .i32⟩
  | 56 => ⟨S128x256, .i1⟩
  | 57 => ⟨S_, .i32⟩
  | 58 => ⟨S128x256, .i32⟩
  | 59 => ⟨S128x256, .i1⟩
  | 60 => ⟨S128x256, .i1⟩
  | 61 => ⟨S1x128x256, .i1⟩
  | 62 => ⟨S4, .i32⟩
  | 63 => ⟨S4x1x1, .i32⟩
  | 64 => ⟨S_, .i32⟩
  | 65 => ⟨S4x1x1, .i32⟩
  | 66 => ⟨S4x1x1, .i1⟩
  | 67 => ⟨S_, .i32⟩
  | 68 => ⟨S1x256, .i32⟩
  | 69 => ⟨S1x256, .i1⟩
  | 70 => ⟨S1x1x256, .i1⟩
  | 71 => ⟨S4x1x256, .i1⟩
  | 72 => ⟨S4x1x256, .i1⟩
  | 73 => ⟨S4x1x256, .i1⟩
  | 74 => ⟨S4x128x256, .i1⟩
  | 75 => ⟨S4x128x256, .i1⟩
  | 76 => ⟨S4x128x256, .i1⟩
  | 77 => ⟨S1x1x4x1x128x256, .i1⟩
  | 78 => ⟨S_, .f32⟩
  | 79 => ⟨S_, .f32⟩
  | 80 => ⟨S1x16x4x8x128x256, .i1⟩
  | 81 => ⟨S1x16x4x8x128x256, .f32⟩
  | 82 => ⟨S1x16x4x8x128x256, .f32⟩
  | 83 => ⟨S_, .f32⟩
  | 84 => ⟨S1x16x4x8x128x256, .f32⟩
  | 85 => ⟨S_, .f32⟩
  | 86 => ⟨S1x16x4x8x128, .f32⟩
  | 87 => ⟨S1x16x4x8x128x1, .f32⟩
  | 88 => ⟨S1x16x4x8x128x256, .f32⟩
  | 89 => ⟨S1x16x4x8x128x256, .i1⟩
  | 90 => ⟨S1x16x4x8x128x256, .f32⟩
  | 91 => ⟨S_, .f32⟩
  | 92 => ⟨S1x16x4x8x128, .f32⟩
  | 93 => ⟨S1x16x4x8x128x1, .f32⟩
  | 94 => ⟨S1x16x4x8x128x256, .f32⟩
  | 95 => ⟨S1x16x4x8x128x256, .f32⟩
  | 96 => ⟨S1x16x4x8x128x256, .f32⟩
  | 97 => ⟨S_, .f32⟩
  | 98 => ⟨S1x16x4x8x128, .f32⟩
  | 99 => ⟨S1x16x4x8x128x128, .f32⟩
  | 100 => ⟨S1x16x4x128x8x128, .f32⟩
  | 101 => ⟨S1x16x4x128x8, .f32⟩
  | 102 => ⟨S1x16x4x128x8x1, .f32⟩
  | 103 => ⟨S1x16x4x128x8x128, .f32⟩
  | 104 => ⟨S1x16x4x128x8x128, .f32⟩
  | 105 => ⟨S1x16x4x128x8x1, .f32⟩
  | 106 => ⟨S_, .f32⟩
  | 107 => ⟨S1x16x4x128x8x1, .f32⟩
  | 108 => ⟨S1x16x4x128x8x1, .f32⟩
  | 109 => ⟨S1x16x4x8x128, .f32⟩
  | 110 => ⟨S1x16x4x8x128, .f32⟩
  | 111 => ⟨S1x16x4x8x128, .f32⟩
  | 112 => ⟨S1x16x4x128x8, .f32⟩
  | 113 => ⟨S1x16x512x8x128, .f32⟩
  | 114 => ⟨S1x512x16x8x128, .f32⟩
  | 115 => ⟨S1x8192x8x128, .f32⟩
  | 116 => ⟨S1x16x512x8, .f32⟩
  | 117 => ⟨S1x512x16x8, .f32⟩
  | 118 => ⟨S1x8192x8, .f32⟩
  | 119 => ⟨S1x1x8192x8, .f32⟩
  | 120 => ⟨S1x1x8192x8, .f32⟩
  | 121 => ⟨S1x1x8192x8, .f32⟩
  | 122 => ⟨S3x1x8192x8, .f32⟩
  | 123 => ⟨S_, .f32⟩
  | 124 => ⟨S1x8192x8, .f32⟩
  | 125 => ⟨S_, .f32⟩
  | 126 => ⟨S1x8192x8, .f32⟩
  | 127 => ⟨S_, .f32⟩
  | _ => ⟨S512x49152, .bf16⟩

abbrev hbmTy0_1 (i : Nat) : BufTy := match i % 128 with
  | 0 => ⟨S1x8192x8, .f32⟩
  | 1 => ⟨S1x1x8192x8, .f32⟩
  | 2 => ⟨S3x1x8192x8, .f32⟩
  | 3 => ⟨S3x1x8192x8, .i1⟩
  | 4 => ⟨S3x1x8192x8, .f32⟩
  | 5 => ⟨S_, .f32⟩
  | 6 => ⟨S1x8192x8, .f32⟩
  | 7 => ⟨S_, .f32⟩
  | 8 => ⟨S1x8192x8, .f32⟩
  | 9 => ⟨S1x8192x8, .f32⟩
  | 10 => ⟨S_, .f32⟩
  | 11 => ⟨S1x8192x8, .f32⟩
  | 12 => ⟨S1x8192x8, .i1⟩
  | 13 => ⟨S_, .f32⟩
  | 14 => ⟨S1x8192x8, .f32⟩
  | 15 => ⟨S1x8192x8, .i1⟩
  | 16 => ⟨S_, .f32⟩
  | 17 => ⟨S1x8192x8, .f32⟩
  | 18 => ⟨S_, .f32⟩
  | 19 => ⟨S1x8192x8, .f32⟩
  | 20 => ⟨S_, .f32⟩
  | 21 => ⟨S1x8192x8, .f32⟩
  | 22 => ⟨S1x8192x8, .f32⟩
  | 23 => ⟨S1x8192x8, .f32⟩
  | 24 => ⟨S1x1x8192x8, .f32⟩
  | 25 => ⟨S3x1x8192x8, .f32⟩
  | 26 => ⟨S3x1x8192x8, .f32⟩
  | 27 => ⟨S3x1x8192x8, .f32⟩
  | 28 => ⟨S_, .f32⟩
  | 29 => ⟨S1x8192x8, .f32⟩
  | 30 => ⟨S1x1x8192x8, .f32⟩
  | 31 => ⟨S3x1x8192x8, .f32⟩
  | 32 => ⟨S3x1x8192x8, .f32⟩
  | 33 => ⟨S1x1x8192x8, .f32⟩
  | 34 => ⟨S_, .f32⟩
  | 35 => ⟨S1x1x8192x8, .f32⟩
  | 36 => ⟨S1x1x8192x8, .f32⟩
  | 37 => ⟨S3x1x8192x8x1, .f32⟩
  | 38 => ⟨S1x1x8192x8x128, .f32⟩
  | 39 => ⟨S1x1x8192x8x128, .f32⟩
  | 40 => ⟨S1x1x8192x8x128, .f32⟩
  | 41 => ⟨S3x1x8192x8x128, .f32⟩
  | 42 => ⟨S_, .f32⟩
  | 43 => ⟨S1x8192x8x128, .f32⟩
  | 44 => ⟨S_, .f32⟩
  | 45 => ⟨S1x8192x8x128, .f32⟩
  | 46 => ⟨S3x1x8192x8x128, .f32⟩
  | 47 => ⟨S3x1x8192x8x128, .f32⟩
  | 48 => ⟨S_, .f32⟩
  | 49 => ⟨S1x8192x8x128, .f32⟩
  | 50 => ⟨S512x16384, .f32⟩
  | 51 => ⟨S1x8192x8x128, .f32⟩
  | 52 => ⟨S3x1x8192x8x128, .f32⟩
  | 53 => ⟨S3x1x8192x8x128, .f32⟩
  | 54 => ⟨S3x1x8192x8x128, .f32⟩
  | 55 => ⟨S3x1x8192x8x128, .f32⟩
  | 56 => ⟨S_, .f32⟩
  | 57 => ⟨S3x1x8192x8, .f32⟩
  | 58 => ⟨S3x1x8192x8x1, .f32⟩
  | 59 => ⟨S1x1x8192x8x128, .f32⟩
  | 60 => ⟨S1x8192x8x128, .f32⟩
  | 61 => ⟨S1x1x8192x8x128, .f32⟩
  | 62 => ⟨S1x8192x8x128, .f32⟩
  | 63 => ⟨S1x1x8192x8x128, .f32⟩
  | 64 => ⟨S1x8192x8x128, .f32⟩
  | 65 => ⟨S_, .f32⟩
  | 66 => ⟨S3x8192x8, .f32⟩
  | 67 => ⟨S3x1x8192x8, .f32⟩
  | 68 => ⟨S3x1x8192x8, .f32⟩
  | 69 => ⟨S3x1x8192x8, .f32⟩
  | 70 => ⟨S3x1x8192x8, .f32⟩
  | 71 => ⟨S_, .f32⟩
  | 72 => ⟨S1x8192x8, .f32⟩
  | 73 => ⟨S1x1x8192x8, .f32⟩
  | 74 => ⟨S1x1x8192x8, .f32⟩
  | 75 => ⟨S3x1x8192x8, .f32⟩
  | 76 => ⟨S3x1x8192x8, .f32⟩
  | 77 => ⟨S_, .f32⟩
  | 78 => ⟨S8192x8, .f32⟩
  | 79 => ⟨S1x8192x8, .f32⟩
  | 80 => ⟨S3x1x8192x8, .f32⟩
  | 81 => ⟨S3x1x8192x8, .f32⟩
  | 82 => ⟨S3x1x8192x8, .f32⟩
  | 83 => ⟨S1x1x8192x8, .f32⟩
  | 84 => ⟨S1x8192x8, .f32⟩
  | 85 => ⟨S1x1x8192x8, .f32⟩
  | 86 => ⟨S1x8192x8, .f32⟩
  | 87 => ⟨S1x1x8192x8, .f32⟩
  | 88 => ⟨S1x8192x8, .f32⟩
  | 89 => ⟨S1x512x16x8, .f32⟩
  | 90 => ⟨S1x16x512x8, .f32⟩
  | 91 => ⟨S1x16x4x128x8, .f32⟩
  | 92 => ⟨S1x512x16x8x128, .f32⟩
  | 93 => ⟨S1x16x512x8x128, .f32⟩
  | 94 => ⟨S1x16x4x128x8x128, .f32⟩
  | 95 => ⟨S1x16x4x8x128, .f32⟩
  | 96 => ⟨S1x16x4x8x128, .f32⟩
  | 97 => ⟨S1x16x4x8x128x1, .f32⟩
  | 98 => ⟨S1x16x4x128x8x128, .f32⟩
  | 99 => ⟨S1x16x4x128x8x128, .f32⟩
  | 100 => ⟨S1x16x4x128x8x128, .f32⟩
  | 101 => ⟨S_, .f32⟩
  | 102 => ⟨S1x16x4x128x8, .f32⟩
  | 103 => ⟨S1x16x4x128x8x1, .f32⟩
  | 104 => ⟨S1x16x4x128x8x1, .f32⟩
  | 105 => ⟨S1x16x4x128x8x128, .f32⟩
  | 106 => ⟨S1x16x4x128x8x128, .f32⟩
  | 107 => ⟨S_, .f32⟩
  | 108 => ⟨S16x4x128x8, .f32⟩
  | 109 => ⟨S1x16x4x128x8, .f32⟩
  | 110 => ⟨S1x16x4x8x128, .f32⟩
  | 111 => ⟨S1x16x4x8x128, .f32⟩
  | 112 => ⟨S1x16x4x8x128x128, .f32⟩
  | 113 => ⟨S1x16x4x8x128x256, .f32⟩
  | 114 => ⟨S1x16x4x8x128x256, .f32⟩
  | 115 => ⟨S1x16x4x256x8x128, .f32⟩
  | 116 => ⟨S1x16x4x8x128x256, .f32⟩
  | 117 => ⟨S1x16x4x8x128x256, .f32⟩
  | 118 => ⟨S1x16x4x8x128x256, .f32⟩
  | 119 => ⟨S1x16x4x8x128x256, .f32⟩
  | 120 => ⟨S_, .f32⟩
  | 121 => ⟨S1x16x4x8x128, .f32⟩
  | 122 => ⟨S1x16x4x8x128x1, .f32⟩
  | 123 => ⟨S1x16x4x8x128x1, .f32⟩
  | 124 => ⟨S_, .f32⟩
  | 125 => ⟨S16x4x8x128, .f32⟩
  | 126 => ⟨S1x16x4x8x128, .f32⟩
  | 127 => ⟨S1x16x4x8x128, .f32⟩
  | _ => ⟨S512x49152, .bf16⟩

abbrev hbmTy0_2 (i : Nat) : BufTy := match i % 128 with
  | 0 => ⟨S1x16x4x8x128x256, .f32⟩
  | 1 => ⟨S1x16x4x8x128x256, .f32⟩
  | 2 => ⟨S1x16x4x8x128x256, .f32⟩
  | 3 => ⟨S_, .f32⟩
  | 4 => ⟨S1x16x4x8x128x256, .f32⟩
  | 5 => ⟨S1x16x4x8x128x256, .f32⟩
  | 6 => ⟨S_, .f32⟩
  | 7 => ⟨S1x16x4x8x128x256, .f32⟩
  | 8 => ⟨S1x16x4x8x128x256, .f32⟩
  | 9 => ⟨S1x16x4x8x256x128, .f32⟩
  | 10 => ⟨S1x16x4x256x8x128, .f32⟩
  | 11 => ⟨S1x16x4x8x128x128, .f32⟩
  | 12 => ⟨S1x16x4x128x8x128, .f32⟩
  | 13 => ⟨S1x16x4x128x8x128, .f32⟩
  | 14 => ⟨S1x16x4x128x8x128, .f32⟩
  | 15 => ⟨S1x16x1x128x8x128, .f32⟩
  | 16 => ⟨S1x16x3x128x8x128, .f32⟩
  | 17 => ⟨S_, .f32⟩
  | 18 => ⟨S1x16x4x128x8x128, .f32⟩
  | 19 => ⟨S1x16x4x128x8x128, .f32⟩
  | 20 => ⟨S1x16x512x8x128, .f32⟩
  | 21 => ⟨S1x512x16x8x128, .f32⟩
  | 22 => ⟨S1x8192x8x128, .f32⟩
  | 23 => ⟨S1x16x4x128x8x128, .f32⟩
  | 24 => ⟨S1x16x4x128x8x128, .f32⟩
  | 25 => ⟨S1x16x1x128x8x128, .f32⟩
  | 26 => ⟨S1x16x3x128x8x128, .f32⟩
  | 27 => ⟨S_, .f32⟩
  | 28 => ⟨S1x16x4x128x8x128, .f32⟩
  | 29 => ⟨S1x16x4x128x8x128, .f32⟩
  | 30 => ⟨S1x16x512x8x128, .f32⟩
  | 31 => ⟨S1x512x16x8x128, .f32⟩
  | 32 => ⟨S1x8192x8x128, .f32⟩
  | 33 => ⟨S1x16x512x8x128, .f32⟩
  | 34 => ⟨S1x512x16x8x128, .f32⟩
  | 35 => ⟨S1x8192x8x128, .f32⟩
  | 36 => ⟨S512x16384, .f32⟩
  | 37 => ⟨S512x16384, .bf16⟩
  | 38 => ⟨S512x16384, .f32⟩
  | 39 => ⟨S512x16384, .bf16⟩
  | 40 => ⟨S512x16384, .f32⟩
  | 41 => ⟨S512x16384, .bf16⟩
  | _ => ⟨S512x49152, .bf16⟩

abbrev hbmTy (i : Nat) : BufTy := match i / 128 with
  | 0 => hbmTy0_0 i
  | 1 => hbmTy0_1 i
  | 2 => hbmTy0_2 i
  | _ => ⟨S512x49152, .bf16⟩

abbrev bufTy : (tb : Table) → Fin (tcTables nBuf tb) → BufTy
  | .hbm, ⟨i, _⟩ => hbmTy i
  | _, _ => ⟨S512x49152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_6 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_call0_v0 : Ref sig .tc := ⟨.hbm, 79, rfl⟩
abbrev main_v62_1 : Ref sig .tc := ⟨.hbm, 80, rfl⟩
abbrev main_call0_v2 : Ref sig .tc := ⟨.hbm, 81, rfl⟩
abbrev main_v62_0 : Ref sig .tc := ⟨.hbm, 82, rfl⟩
abbrev main_call0_cst : Ref sig .tc := ⟨.hbm, 83, rfl⟩
abbrev main_v62_2 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_12 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_13 : Ref sig .tc := ⟨.hbm, 123, rfl⟩
abbrev main_v97 : Ref sig .tc := ⟨.hbm, 124, rfl⟩
abbrev main_cst_14 : Ref sig .tc := ⟨.hbm, 125, rfl⟩
abbrev main_v98 : Ref sig .tc := ⟨.hbm, 126, rfl⟩
abbrev main_cst_15 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_16 : Ref sig .tc := ⟨.hbm, 133, rfl⟩
abbrev main_v104 : Ref sig .tc := ⟨.hbm, 134, rfl⟩
abbrev main_cst_17 : Ref sig .tc := ⟨.hbm, 135, rfl⟩
abbrev main_v105 : Ref sig .tc := ⟨.hbm, 136, rfl⟩
abbrev main_v106 : Ref sig .tc := ⟨.hbm, 137, rfl⟩
abbrev main_cst_18 : Ref sig .tc := ⟨.hbm, 138, rfl⟩
abbrev main_v107 : Ref sig .tc := ⟨.hbm, 139, rfl⟩
abbrev main_v108 : Ref sig .tc := ⟨.hbm, 140, rfl⟩
abbrev main_cst_19 : Ref sig .tc := ⟨.hbm, 141, rfl⟩
abbrev main_v109 : Ref sig .tc := ⟨.hbm, 142, rfl⟩
abbrev main_v110 : Ref sig .tc := ⟨.hbm, 143, rfl⟩
abbrev main_cst_20 : Ref sig .tc := ⟨.hbm, 144, rfl⟩
abbrev main_v111 : Ref sig .tc := ⟨.hbm, 145, rfl⟩
abbrev main_cst_21 : Ref sig .tc := ⟨.hbm, 146, rfl⟩
abbrev main_v112 : Ref sig .tc := ⟨.hbm, 147, rfl⟩
abbrev main_cst_22 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_23 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_24 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_25 : Ref sig .tc := ⟨.hbm, 170, rfl⟩
abbrev main_v132 : Ref sig .tc := ⟨.hbm, 171, rfl⟩
abbrev main_cst_26 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_27 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_28 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_29 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_30 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_31 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_cst_32 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_cst_33 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_cst_34 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_cst_35 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_call1_cst : Ref sig .tc := ⟨.hbm, 259, rfl⟩
abbrev main_call1_v0 : Ref sig .tc := ⟨.hbm, 260, rfl⟩
abbrev main_v210 : Ref sig .tc := ⟨.hbm, 261, rfl⟩
abbrev main_cst_36 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_cst_37 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_cst_38 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩

abbrev nD : Nat := 1
abbrev τ : Topo := Topo.v7x

variable {F : FTy → Type} [FloatOps F]
-- ==== Kernel2.lean ====
abbrev S8192x2048 : Shape := ⟨2, ![8192, 2048]⟩
abbrev S8192x8192 : Shape := ⟨2, ![8192, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x2048, .bf16⟩
  | .hbm, ⟨10, _⟩ => ⟨S8192x2048, .bf16⟩
  | .hbm, ⟨11, _⟩ => ⟨S8192x8192, .bf16⟩
  | .hbm, ⟨12, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S8192x8192 : Shape := ⟨2, ![8192, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S8192x2048 : Shape := ⟨2, ![8192, 2048]⟩
abbrev S8192x8192 : Shape := ⟨2, ![8192, 8192]⟩
abbrev S_ : Shape := ⟨0, ![]⟩
abbrev S1x8192x2048 : Shape := ⟨3, ![1, 8192, 2048]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .bf16⟩
  | .hbm, ⟨8, _⟩ => ⟨S1x8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S1x8192x2048 : Shape := ⟨3, ![1, 8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | .hbm, ⟨12, _⟩ => ⟨S1x8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S8192x8192 : Shape := ⟨2, ![8192, 8192]⟩
abbrev S8192x2048 : Shape := ⟨2, ![8192, 2048]⟩
abbrev S4x2048x2048 : Shape := ⟨3, ![4, 2048, 2048]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .bf16⟩
  | .hbm, ⟨3, _⟩ => ⟨S8192x8192, .bf16⟩
  | .hbm, ⟨4, _⟩ => ⟨S4x2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S2048x8192, .f32⟩
  | .hbm, ⟨4, _⟩ => ⟨S8192x8192, .f32⟩
  | .hbm, ⟨5, _⟩ => ⟨S8192x2048, .f32⟩
  | .hbm, ⟨6, _⟩ => ⟨S2048x8192, .f32⟩
  | .hbm, ⟨7, _⟩ => ⟨S2048x8192, .bf16⟩
  | .hbm, ⟨8, _⟩ => ⟨S2048x4x2048, .bf16⟩
  | .hbm, ⟨9, _⟩ => ⟨S4x2048x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x8192 : Shape := ⟨2, ![8192, 8192]⟩
abbrev S8192x2048 : Shape := ⟨2, ![8192, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩
abbrev S256x2048 : Shape := ⟨2, ![256, 2048]⟩

abbrev nBuf : Space → Nat
  | .hbm => 8
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S2048x8192, .f32⟩
  | .hbm, ⟨3, _⟩ => ⟨S8192x8192, .bf16⟩
  | .hbm, ⟨4, _⟩ => ⟨S2048x8192, .bf16⟩
  | .hbm, ⟨5, _⟩ => ⟨S2048x4x2048, .bf16⟩
  | .hbm, ⟨6, _⟩ => ⟨S4x2048x2048, .bf16⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference5Ideal.lean ====
abbrev S8192x8192 : Shape := ⟨2, ![8192, 8192]⟩
abbrev S8192x2048 : Shape := ⟨2, ![8192, 2048]⟩
abbrev S2048x8192 : Shape := ⟨2, ![2048, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S2048x8192, .f32⟩
  | .hbm, ⟨3, _⟩ => ⟨S_, .f32⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel6.lean ====
abbrev S8192x2048 : Shape := ⟨2, ![8192, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S8192x8192, .bf16⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .bf16⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel7.lean ====
abbrev S8192x8192 : Shape := ⟨2, ![8192, 8192]⟩
abbrev S8192x2048 : Shape := ⟨2, ![8192, 2048]⟩
abbrev S4x2048x2048 : Shape := ⟨3, ![4, 2048, 2048]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .bf16⟩
  | .hbm, ⟨3, _⟩ => ⟨S8192x8192, .bf16⟩
  | .hbm, ⟨4, _⟩ => ⟨S4x2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S2048x8192, .f32⟩
  | .hbm, ⟨4, _⟩ => ⟨S8192x8192, .f32⟩
  | .hbm, ⟨5, _⟩ => ⟨S8192x2048, .f32⟩
  | .hbm, ⟨6, _⟩ => ⟨S2048x8192, .f32⟩
  | .hbm, ⟨7, _⟩ => ⟨S2048x8192, .bf16⟩
  | .hbm, ⟨8, _⟩ => ⟨S2048x4x2048, .bf16⟩
  | .hbm, ⟨9, _⟩ => ⟨S4x2048x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S1x2048x2048 : Shape := ⟨3, ![1, 2048, 2048]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S1x2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S1x2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x2048 : Shape := ⟨2, ![1024, 2048]⟩
abbrev S8192x8192 : Shape := ⟨2, ![8192, 8192]⟩
abbrev S8192x4096 : Shape := ⟨2, ![8192, 4096]⟩
abbrev S_ : Shape := ⟨0, ![]⟩
abbrev S1024x4x512 : Shape := ⟨3, ![1024, 4, 512]⟩
abbrev S4x1024x512 : Shape := ⟨3, ![4, 1024, 512]⟩
abbrev S8192x2048 : Shape := ⟨2, ![8192, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 28
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024x2048, .f32⟩
  | .hbm, ⟨4, _⟩ => ⟨S8192x8192, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x1024, .bf16⟩
  | .hbm, ⟨15, _⟩ => ⟨S8192x1024, .bf16⟩
  | .hbm, ⟨16, _⟩ => ⟨S1024x2048, .bf16⟩
  | .hbm, ⟨17, _⟩ => ⟨S1024x4x512, .bf16⟩
  | .hbm, ⟨18, _⟩ => ⟨S4x1024x512, .bf16⟩
  | .hbm, ⟨19, _⟩ => ⟨S1024x2048, .bf16⟩
  | .hbm, ⟨20, _⟩ => ⟨S1024x4x512, .bf16⟩
  | .hbm, ⟨21, _⟩ => ⟨S4x1024x512, .bf16⟩
  | .hbm, ⟨22, _⟩ => ⟨S8192x4096, .f32⟩
  | .hbm, ⟨23, _⟩ => ⟨S8192x8192, .f32⟩
  | .hbm, ⟨24, _⟩ => ⟨S8192x8192, .bf16⟩
  | .hbm, ⟨25, _⟩ => ⟨S8192x2048, .bf16⟩
  | .hbm, ⟨26, _⟩ => ⟨S8192x2048, .bf16⟩
  | .hbm, ⟨27, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S8192x1024 : Shape := ⟨2, ![8192, 1024]⟩
abbrev S1024x2048 : Shape := ⟨2, ![1024, 2048]⟩
abbrev S8192x8192 : Shape := ⟨2, ![8192, 8192]⟩
abbrev S8192x2048 : Shape := ⟨2, ![8192, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024x2048, .f32⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | .hbm, ⟨29, _⟩ => ⟨S8192x2048, .bf16⟩
  | .hbm, ⟨30, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1x2048 : Shape := ⟨2, ![1, 2048]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .bf16⟩
  | .hbm, ⟨6, _⟩ => ⟨S2048x2048, .bf16⟩
  | .hbm, ⟨7, _⟩ => ⟨S8192x2048, .f32⟩
  | .hbm, ⟨8, _⟩ => ⟨S8192x1, .f32⟩
  | .hbm, ⟨9, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x1, .f32⟩
  | .local _ .vmem, ⟨10, _⟩ => ⟨S512x1, .f32⟩
  | .local _ .vmem, ⟨11, _⟩ => ⟨S512x2048, .bf16⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference10Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel11.lean ====
abbrev S8192x8192 : Shape := ⟨2, ![8192, 8192]⟩
abbrev S2048x8192 : Shape := ⟨2, ![2048, 8192]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048x4x2048 : Shape := ⟨3, ![2048, 4, 2048]⟩
abbrev S4x2048x2048 : Shape := ⟨3, ![4, 2048, 2048]⟩
abbrev S16x8x2048 : Shape := ⟨3, ![16, 8, 2048]⟩
abbrev S512x2048 : Shape := ⟨2, ![512, 2048]⟩
abbrev S1x2048x2048 : Shape := ⟨3, ![1, 2048, 2048]⟩
abbrev S512x1 : Shape := ⟨2, ![512, 1]⟩
abbrev S1x8x2048 : Shape := ⟨3, ![1, 8, 2048]⟩
abbrev S2048x2048 : Shape := ⟨2, ![2048, 2048]⟩
abbrev S128x2048 : Shape := ⟨2, ![128, 2048]⟩
abbrev S128x1 : Shape := ⟨2, ![128, 1]⟩
abbrev S128 : Shape := ⟨1, ![128]⟩
abbrev S2048 : Shape := ⟨1, ![2048]⟩
abbrev S8x2048 : Shape := ⟨2, ![8, 2048]⟩

abbrev nBuf : Space → Nat
  | .hbm => 35
  | .vmem => 18
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x8192, .bf16⟩
  | .hbm, ⟨29, _⟩ => ⟨S2048x8192, .bf16⟩
  | .hbm, ⟨30, _⟩ => ⟨S2048x4x2048, .bf16⟩
  | .hbm, ⟨31, _⟩ => ⟨S4x2048x2048, .bf16⟩
  | .hbm, ⟨32, _⟩ => ⟨S8192x2048, .f32⟩
  | .hbm, ⟨33, _⟩ => ⟨S8192x2048, .bf16⟩
  | .hbm, ⟨34, _⟩ => ⟨S16x8x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x1, .f32⟩
  | .local _ .vmem, ⟨9, _⟩ => ⟨S512x1, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x8x2048, .f32⟩
  | .local _ .vmem, ⟨16, _⟩ => ⟨S1x8x2048, .f32⟩
  | .local _ .vmem, ⟨17, _⟩ => ⟨S512x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference11Ideal.lean ====
abbrev S8192x8192 : Shape := ⟨2, ![8192, 8192]⟩
abbrev S2048x8192 : Shape := ⟨2, ![2048, 8192]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x8192, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x2048, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x2048, .f32⟩
  | .hbm, ⟨82, _⟩ => ⟨S8192x2048, .f32⟩
  | .hbm, ⟨83, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Kernel12.lean ====
abbrev S8192x8192 : Shape := ⟨2, ![8192, 8192]⟩
abbrev S8192x2048 : Shape := ⟨2, ![8192, 2048]⟩
abbrev S1x2048 : Shape := ⟨2, ![1, 2048]⟩
abbrev S_ : Shape := ⟨0, ![]⟩
abbrev S16x8x2048 : Shape := ⟨3, ![16, 8, 2048]⟩
abbrev S512x2048 : Shape := ⟨2, ![512, 2048]⟩
abbrev S2048x2048 : Shape := ⟨2, ![2048, 2048]⟩
abbrev S1x8x2048 : Shape := ⟨3, ![1, 8, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩
abbrev S1 : Shape := ⟨1, ![1]⟩
abbrev S1x1 : Shape := ⟨2, ![1, 1]⟩
abbrev S8x2048 : Shape := ⟨2, ![8, 2048]⟩

abbrev nBuf : Space → Nat
  | .hbm => 17
  | .vmem => 19
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .bf16⟩
  | .hbm, ⟨13, _⟩ => ⟨S8192x2048, .bf16⟩
  | .hbm, ⟨14, _⟩ => ⟨S8192x2048, .f32⟩
  | .hbm, ⟨15, _⟩ => ⟨S8192x2048, .bf16⟩
  | .hbm, ⟨16, _⟩ => ⟨S16x8x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S1x8x2048, .f32⟩
  | .local _ .vmem, ⟨17, _⟩ => ⟨S1x8x2048, .f32⟩
  | .local _ .vmem, ⟨18, _⟩ => ⟨S512x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== Reference12Ideal.lean ====
abbrev S8192x8192 : Shape := ⟨2, ![8192, 8192]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 112
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S8192x2048, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x2048, .f32⟩
  | .hbm, ⟨110, _⟩ => ⟨S8192x2048, .f32⟩
  | .hbm, ⟨111, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_cst_12 : Ref sig .tc := ⟨.hbm, 69, rfl⟩
abbrev main_cst_13 : Ref sig .tc := ⟨.hbm, 70, rfl⟩
abbrev main_v46 : Ref sig .tc := ⟨.hbm, 71, rfl⟩
abbrev main_v47 : Ref sig .tc := ⟨.hbm, 72, rfl⟩
abbrev main_cst_14 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_15 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_17 : Ref sig .tc := ⟨.hbm, 91, rfl⟩
abbrev main_v63 : Ref sig .tc := ⟨.hbm, 92, rfl⟩
abbrev main_v64 : Ref sig .tc := ⟨.hbm, 93, rfl⟩
abbrev main_cst_18 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_19 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_20 : Ref sig .tc := ⟨.hbm, 104, rfl⟩
abbrev main_v73 : Ref sig .tc := ⟨.hbm, 105, rfl⟩
abbrev main_v74 : Ref sig .tc := ⟨.hbm, 106, rfl⟩
abbrev main_cst_21 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S8192x8192 : Shape := ⟨2, ![8192, 8192]⟩
abbrev S8192x4096 : Shape := ⟨2, ![8192, 4096]⟩
abbrev S_ : Shape := ⟨0, ![]⟩
abbrev S512x2048 : Shape := ⟨2, ![512, 2048]⟩
abbrev S512x4096 : Shape := ⟨2, ![512, 4096]⟩

abbrev nBuf : Space → Nat
  | .hbm => 24
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x8192, .f32⟩
  | .hbm, ⟨3, _⟩ => ⟨S8192x2048, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x8192, .f32⟩
  | .hbm, ⟨16, _⟩ => ⟨S8192x8192, .bf16⟩
  | .hbm, ⟨17, _⟩ => ⟨S8192x2048, .bf16⟩
  | .hbm, ⟨18, _⟩ => ⟨S2048x2048, .bf16⟩
  | .hbm, ⟨19, _⟩ => ⟨S8192x2048, .bf16⟩
  | .hbm, ⟨20, _⟩ => ⟨S8192x2048, .bf16⟩
  | .hbm, ⟨21, _⟩ => ⟨S8192x2048, .bf16⟩
  | .hbm, ⟨22, _⟩ => ⟨S8192x2048, .bf16⟩
  | .hbm, ⟨23, _⟩ => ⟨S8192x8192, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x4096, .bf16⟩
  | .local _ .vmem, ⟨16, _⟩ => ⟨S512x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference14Ideal.lean ====
abbrev S8192x2048 : Shape := ⟨2, ![8192, 2048]⟩
abbrev S2048x2048 : Shape := ⟨2, ![2048, 2048]⟩
abbrev S8192x8192 : Shape := ⟨2, ![8192, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x8192, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | .hbm, ⟨31, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel15.lean ====
abbrev S8192x2048 : Shape := ⟨2, ![8192, 2048]⟩
abbrev S8192x1024 : Shape := ⟨2, ![8192, 1024]⟩
abbrev S4x1024x512 : Shape := ⟨3, ![4, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .bf16⟩
  | .hbm, ⟨3, _⟩ => ⟨S8192x2048, .bf16⟩
  | .hbm, ⟨4, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S8192x1024 : Shape := ⟨2, ![8192, 1024]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | .hbm, ⟨8, _⟩ => ⟨S1024x4x512, .bf16⟩
  | .hbm, ⟨9, _⟩ => ⟨S4x1024x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S2048x2048 : Shape := ⟨2, ![2048, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S2048x2048 : Shape := ⟨2, ![2048, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S512x2048 : Shape := ⟨2, ![512, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S512x2048 : Shape := ⟨2, ![512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S1024x512 : Shape := ⟨2, ![1024, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S256x256 : Shape := ⟨2, ![256, 256]⟩

abbrev nBuf : Space → Nat
  | .hbm => 9
  | .vmem => 9
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference19Ideal.lean ====
abbrev S256x256 : Shape := ⟨2, ![256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x2048 : Shape := ⟨2, ![8, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S8x2048 : Shape := ⟨2, ![8, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S1024x4x512 : Shape := ⟨3, ![1024, 4, 512]⟩
abbrev S4x1024x512 : Shape := ⟨3, ![4, 1024, 512]⟩
abbrev S4x512x1024 : Shape := ⟨3, ![4, 512, 1024]⟩
abbrev S2048x1024 : Shape := ⟨2, ![2048, 1024]⟩
abbrev S8x8x1024 : Shape := ⟨3, ![8, 8, 1024]⟩
abbrev S1024x1024 : Shape := ⟨2, ![1024, 1024]⟩
abbrev S1x8x1024 : Shape := ⟨3, ![1, 8, 1024]⟩
abbrev S1024 : Shape := ⟨1, ![1024]⟩
abbrev S8x1024 : Shape := ⟨2, ![8, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x1024, .f32⟩
  | .hbm, ⟨3, _⟩ => ⟨S1x1024, .f32⟩
  | .hbm, ⟨4, _⟩ => ⟨S8192x2048, .bf16⟩
  | .hbm, ⟨5, _⟩ => ⟨S1024x4x512, .f32⟩
  | .hbm, ⟨6, _⟩ => ⟨S4x1024x512, .f32⟩
  | .hbm, ⟨7, _⟩ => ⟨S4x1024x512, .bf16⟩
  | .hbm, ⟨8, _⟩ => ⟨S8192x1024, .bf16⟩
  | .hbm, ⟨9, _⟩ => ⟨S4x512x1024, .bf16⟩
  | .hbm, ⟨10, _⟩ => ⟨S2048x1024, .bf16⟩
  | .hbm, ⟨11, _⟩ => ⟨S8192x1024, .bf16⟩
  | .hbm, ⟨12, _⟩ => ⟨S8x8x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x8x1024, .f32⟩
  | .local _ .vmem, ⟨9, _⟩ => ⟨S1x8x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference21Ideal.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S8x1x1024 : Shape := ⟨3, ![8, 1, 1024]⟩
abbrev S8x1024x1024 : Shape := ⟨3, ![8, 1024, 1024]⟩
abbrev S_ : Shape := ⟨0, ![]⟩
abbrev S8x1024 : Shape := ⟨2, ![8, 1024]⟩
abbrev S8x7x1024 : Shape := ⟨3, ![8, 7, 1024]⟩
abbrev S8x8x1024 : Shape := ⟨3, ![8, 8, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x1024, .f32⟩
  | .hbm, ⟨3, _⟩ => ⟨S1x1024, .f32⟩
  | .hbm, ⟨4, _⟩ => ⟨S8x1x1024, .f32⟩
  | .hbm, ⟨5, _⟩ => ⟨S8x1024x1024, .f32⟩
  | .hbm, ⟨6, _⟩ => ⟨S8x1024x1024, .f32⟩
  | .hbm, ⟨7, _⟩ => ⟨S8x1024x1024, .f32⟩
  | .hbm, ⟨8, _⟩ => ⟨S8192x1024, .f32⟩
  | .hbm, ⟨9, _⟩ => ⟨S8192x2048, .f32⟩
  | .hbm, ⟨10, _⟩ => ⟨S8192x1024, .f32⟩
  | .hbm, ⟨11, _⟩ => ⟨S8x1024x1024, .f32⟩
  | .hbm, ⟨12, _⟩ => ⟨S8x1024x1024, .f32⟩
  | .hbm, ⟨13, _⟩ => ⟨S_, .f32⟩
  | .hbm, ⟨14, _⟩ => ⟨S8x1024, .f32⟩
  | .hbm, ⟨15, _⟩ => ⟨S8x1x1024, .f32⟩
  | .hbm, ⟨16, _⟩ => ⟨S8x1024x1024, .f32⟩
  | .hbm, ⟨17, _⟩ => ⟨S8x1024x1024, .f32⟩
  | .hbm, ⟨18, _⟩ => ⟨S8192x1024, .f32⟩
  | .hbm, ⟨19, _⟩ => ⟨S8192x1024, .bf16⟩
  | .hbm, ⟨20, _⟩ => ⟨S_, .f32⟩
  | .hbm, ⟨21, _⟩ => ⟨S8x7x1024, .f32⟩
  | .hbm, ⟨22, _⟩ => ⟨S8x8x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel22.lean ====
abbrev S8192x2048 : Shape := ⟨2, ![8192, 2048]⟩
abbrev S1024x2048 : Shape := ⟨2, ![1024, 2048]⟩
abbrev S8192x1024 : Shape := ⟨2, ![8192, 1024]⟩
abbrev S1024x4x512 : Shape := ⟨3, ![1024, 4, 512]⟩
abbrev S4x1024x512 : Shape := ⟨3, ![4, 1024, 512]⟩
abbrev S4x512x1024 : Shape := ⟨3, ![4, 512, 1024]⟩
abbrev S2048x1024 : Shape := ⟨2, ![2048, 1024]⟩
abbrev S8192x128 : Shape := ⟨2, ![8192, 128]⟩
abbrev S2048x4096 : Shape := ⟨2, ![2048, 4096]⟩
abbrev S512x16384 : Shape := ⟨2, ![512, 16384]⟩
abbrev S2048x512 : Shape := ⟨2, ![2048, 512]⟩
abbrev S512x2048 : Shape := ⟨2, ![512, 2048]⟩
abbrev S512x1024 : Shape := ⟨2, ![512, 1024]⟩
abbrev S512x128 : Shape := ⟨2, ![512, 128]⟩
abbrev S128x4096 : Shape := ⟨2, ![128, 4096]⟩
abbrev S32x16384 : Shape := ⟨2, ![32, 16384]⟩
abbrev S128x512 : Shape := ⟨2, ![128, 512]⟩
abbrev S32x2048 : Shape := ⟨2, ![32, 2048]⟩
abbrev S8x512x128 : Shape := ⟨3, ![8, 512, 128]⟩
abbrev S1x512x128 : Shape := ⟨3, ![1, 512, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 16
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x1024, .f32⟩
  | .hbm, ⟨3, _⟩ => ⟨S8192x2048, .bf16⟩
  | .hbm, ⟨4, _⟩ => ⟨S1024x4x512, .f32⟩
  | .hbm, ⟨5, _⟩ => ⟨S4x1024x512, .f32⟩
  | .hbm, ⟨6, _⟩ => ⟨S4x1024x512, .bf16⟩
  | .hbm, ⟨7, _⟩ => ⟨S8192x1024, .bf16⟩
  | .hbm, ⟨8, _⟩ => ⟨S4x512x1024, .bf16⟩
  | .hbm, ⟨9, _⟩ => ⟨S2048x1024, .bf16⟩
  | .hbm, ⟨10, _⟩ => ⟨S8192x1024, .bf16⟩
  | .hbm, ⟨11, _⟩ => ⟨S8192x128, .f32⟩
  | .hbm, ⟨12, _⟩ => ⟨S2048x4096, .bf16⟩
  | .hbm, ⟨13, _⟩ => ⟨S512x16384, .bf16⟩
  | .hbm, ⟨14, _⟩ => ⟨S2048x512, .f32⟩
  | .hbm, ⟨15, _⟩ => ⟨S512x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x128, .f32⟩
  | .local _ .vmem, ⟨8, _⟩ => ⟨S512x128, .f32⟩
  | .local _ .vmem, ⟨9, _⟩ => ⟨S128x4096, .bf16⟩
  | .local _ .vmem, ⟨10, _⟩ => ⟨S128x4096, .bf16⟩
  | .local _ .vmem, ⟨11, _⟩ => ⟨S32x16384, .bf16⟩
  | .local _ .vmem, ⟨12, _⟩ => ⟨S32x16384, .bf16⟩
  | .local _ .vmem, ⟨13, _⟩ => ⟨S128x512, .f32⟩
  | .local _ .vmem, ⟨14, _⟩ => ⟨S128x512, .f32⟩
  | .local _ .vmem, ⟨15, _⟩ => ⟨S32x2048, .f32⟩
  | .local _ .vmem, ⟨16, _⟩ => ⟨S32x2048, .f32⟩
  | .local _ .vmem, ⟨17, _⟩ => ⟨S8x512x128, .f32⟩
  | .local _ .vmem, ⟨18, _⟩ => ⟨S1x512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev main_v7_4 : Ref sig .tc := ⟨.hbm, 14, rfl⟩
abbrev main_v7_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S32x16384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference22Ideal.lean ====
abbrev S8192x2048 : Shape := ⟨2, ![8192, 2048]⟩
abbrev S1024x2048 : Shape := ⟨2, ![1024, 2048]⟩
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8192x8x16 : Shape := ⟨3, ![8192, 8, 16]⟩
abbrev S8192x128 : Shape := ⟨2, ![8192, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x1024, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8192x1024, .bf16⟩
  | .hbm, ⟨10, _⟩ => ⟨S8192x8x16, .f32⟩
  | .hbm, ⟨11, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel23.lean ====
abbrev S8192x2048 : Shape := ⟨2, ![8192, 2048]⟩
abbrev S1x8192 : Shape := ⟨2, ![1, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S8192x8192 : Shape := ⟨2, ![8192, 8192]⟩
abbrev S2048x12288 : Shape := ⟨2, ![2048, 12288]⟩
abbrev S512x49152 : Shape := ⟨2, ![512, 49152]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S256x4096 : Shape := ⟨2, ![256, 4096]⟩
abbrev S64x16384 : Shape := ⟨2, ![64, 16384]⟩
abbrev S8x1024x128 : Shape := ⟨3, ![8, 1024, 128]⟩
abbrev S2048x1024 : Shape := ⟨2, ![2048, 1024]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 30
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x8192, .i32⟩
  | .hbm, ⟨2, _⟩ => ⟨S2048x8192, .f32⟩
  | .hbm, ⟨3, _⟩ => ⟨S8192x2048, .bf16⟩
  | .hbm, ⟨4, _⟩ => ⟨S2048x8192, .bf16⟩
  | .hbm, ⟨5, _⟩ => ⟨S2048x4x2048, .bf16⟩
  | .hbm, ⟨6, _⟩ => ⟨S4x2048x2048, .bf16⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S1x8192, .f32⟩
  | .hbm, ⟨16, _⟩ => ⟨S8192, .f32⟩
  | .hbm, ⟨17, _⟩ => ⟨S8192x1, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x128, .f32⟩
  | .hbm, ⟨25, _⟩ => ⟨S8192x64, .f32⟩
  | .hbm, ⟨26, _⟩ => ⟨S8192x128, .f32⟩
  | .hbm, ⟨27, _⟩ => ⟨S8192x8192, .bf16⟩
  | .hbm, ⟨28, _⟩ => ⟨S2048x12288, .bf16⟩
  | .hbm, ⟨29, _⟩ => ⟨S512x49152, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S256x4096, .bf16⟩
  | .local _ .vmem, ⟨11, _⟩ => ⟨S256x4096, .bf16⟩
  | .local _ .vmem, ⟨12, _⟩ => ⟨S64x16384, .bf16⟩
  | .local _ .vmem, ⟨13, _⟩ => ⟨S64x16384, .bf16⟩
  | .local _ .vmem, ⟨14, _⟩ => ⟨S8x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v22_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 1], ![false, false, false]⟩

def k0_cond3 (i : grid0.Coords) : BitVec 1 :=
  let arg1 : BitVec 32 := BitVec.ofNat 32 (i 1).val
  let c3_i32 : BitVec 32 := 3#32
  let v11 : BitVec 1 := Scalar.cmpi .slt arg1 c3_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg1 : BitVec 32 := BitVec.ofNat 32 (i 1).val
  let c3_i32_7 : BitVec 32 := 3#32
  let v14 : BitVec 1 := Scalar.cmpi .eq arg1 c3_i32_7
  let v15 : BitVec 32 := Scalar.extui v14
  let c0_i32_8 : BitVec 32 := 0#32
  let v16 : BitVec 1 := Scalar.cmpi .ne v15 c0_i32_8
  v16

def k0_cond5 (i : grid0.Coords) : BitVec 1 :=
  let arg1 : BitVec 32 := BitVec.ofNat 32 (i 1).val
  let c4_i32 : BitVec 32 := 4#32
  let v17 : BitVec 1 := Scalar.cmpi .sge arg1 c4_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.minsi arg1 c2_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.minsi arg1 c2_i32
  let c0_i32 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S64x16384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference23Ideal.lean ====
abbrev S8192x2048 : Shape := ⟨2, ![8192, 2048]⟩
abbrev S1x8192 : Shape := ⟨2, ![1, 8192]⟩
abbrev S2048x8192 : Shape := ⟨2, ![2048, 8192]⟩
abbrev S8192x8192 : Shape := ⟨2, ![8192, 8192]⟩
abbrev S8192x1024 : Shape := ⟨2, ![8192, 1024]⟩
abbrev S1x8192x8x128 : Shape := ⟨4, ![1, 8192, 8, 128]⟩
abbrev S64 : Shape := ⟨1, ![64]⟩
abbrev S_ : Shape := ⟨0, ![]⟩
abbrev S1x8192x1 : Shape := ⟨3, ![1, 8192, 1]⟩
abbrev S1x1x64 : Shape := ⟨3, ![1, 1, 64]⟩
abbrev S1x8192x64 : Shape := ⟨3, ![1, 8192, 64]⟩
abbrev S1x8192x1x64 : Shape := ⟨4, ![1, 8192, 1, 64]⟩
abbrev S1x8192x8x64 : Shape := ⟨4, ![1, 8192, 8, 64]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x8192, .i32⟩
  | .hbm, ⟨2, _⟩ => ⟨S2048x8192, .f32⟩
  | .hbm, ⟨3, _⟩ => ⟨S8192x8192, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S1x8192x8x128, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S1x8192, .f32⟩
  | .hbm, ⟨20, _⟩ => ⟨S1x8192x1, .f32⟩
  | .hbm, ⟨21, _⟩ => ⟨S1x1x64, .f32⟩
  | .hbm, ⟨22, _⟩ => ⟨S1x8192x64, .f32⟩
  | .hbm, ⟨23, _⟩ => ⟨S1x8192x64, .f32⟩
  | .hbm, ⟨24, _⟩ => ⟨S1x8192x64, .f32⟩
  | .hbm, ⟨25, _⟩ => ⟨S1x8192x64, .f32⟩
  | .hbm, ⟨26, _⟩ => ⟨S1x8192x1x64, .f32⟩
  | .hbm, ⟨27, _⟩ => ⟨S1x8192x64, .f32⟩
  | .hbm, ⟨28, _⟩ => ⟨S1x8192x1x64, .f32⟩
  | .hbm, ⟨29, _⟩ => ⟨S1x8192x8x64, .f32⟩
  | .hbm, ⟨30, _⟩ => ⟨S1x8192x8x64, .f32⟩
  | .hbm, ⟨31, _⟩ => ⟨S1x8192x8x64, .f32⟩
  | .hbm, ⟨32, _⟩ => ⟨S1x8192x8x64, .f32⟩
  | .hbm, ⟨33, _⟩ => ⟨S1x8192x8x64, .f32⟩
  | .hbm, ⟨34, _⟩ => ⟨S1x8192x8x64, .f32⟩
  | .hbm, ⟨35, _⟩ => ⟨S1x8192x8x64, .f32⟩
  | .hbm, ⟨36, _⟩ => ⟨S1x8192x8x64, .f32⟩
  | .hbm, ⟨37, _⟩ => ⟨S1x8192x8x64, .f32⟩
  | .hbm, ⟨38, _⟩ => ⟨S1x8192x8x64, .f32⟩
  | .hbm, ⟨39, _⟩ => ⟨S1x8192x8x64, .f32⟩
  | .hbm, ⟨40, _⟩ => ⟨S1x8192x8x64, .f32⟩
  | .hbm, ⟨41, _⟩ => ⟨S1x8192x8x128, .f32⟩
  | .hbm, ⟨42, _⟩ => ⟨S8192x1024, .f32⟩
  | .hbm, ⟨43, _⟩ => ⟨S1x8192x8x128, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S1x8192, .f32⟩
  | .hbm, ⟨53, _⟩ => ⟨S1x8192x1, .f32⟩
  | .hbm, ⟨54, _⟩ => ⟨S1x1x64, .f32⟩
  | .hbm, ⟨55, _⟩ => ⟨S1x8192x64, .f32⟩
  | .hbm, ⟨56, _⟩ => ⟨S1x8192x64, .f32⟩
  | .hbm, ⟨57, _⟩ => ⟨S1x8192x64, .f32⟩
  | .hbm, ⟨58, _⟩ => ⟨S1x8192x64, .f32⟩
  | .hbm, ⟨59, _⟩ => ⟨S1x8192x1x64, .f32⟩
  | .hbm, ⟨60, _⟩ => ⟨S1x8192x64, .f32⟩
  | .hbm, ⟨61, _⟩ => ⟨S1x8192x1x64, .f32⟩
  | .hbm, ⟨62, _⟩ => ⟨S1x8192x8x64, .f32⟩
  | .hbm, ⟨63, _⟩ => ⟨S1x8192x8x64, .f32⟩
  | .hbm, ⟨64, _⟩ => ⟨S1x8192x8x64, .f32⟩
  | .hbm, ⟨65, _⟩ => ⟨S1x8192x8x64, .f32⟩
  | .hbm, ⟨66, _⟩ => ⟨S1x8192x8x64, .f32⟩
  | .hbm, ⟨67, _⟩ => ⟨S1x8192x8x64, .f32⟩
  | .hbm, ⟨68, _⟩ => ⟨S1x8192x8x64, .f32⟩
  | .hbm, ⟨69, _⟩ => ⟨S1x8192x8x64, .f32⟩
  | .hbm, ⟨70, _⟩ => ⟨S1x8192x8x64, .f32⟩
  | .hbm, ⟨71, _⟩ => ⟨S1x8192x8x64, .f32⟩
  | .hbm, ⟨72, _⟩ => ⟨S1x8192x8x64, .f32⟩
  | .hbm, ⟨73, _⟩ => ⟨S1x8192x8x64, .f32⟩
  | .hbm, ⟨74, _⟩ => ⟨S1x8192x8x128, .f32⟩
  | .hbm, ⟨75, _⟩ => ⟨S8192x1024, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S8192x2048, .f32⟩
  | .hbm, ⟨88, _⟩ => ⟨S8192x2048, .f32⟩
  | .hbm, ⟨89, _⟩ => ⟨S_, .f32⟩
  | .hbm, ⟨90, _⟩ => ⟨S8192x2048, .f32⟩
  | .hbm, ⟨91, _⟩ => ⟨S8192x2048, .f32⟩
  | .hbm, ⟨92, _⟩ => ⟨S8192x8192, .f32⟩
  | .hbm, ⟨93, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_cst_3 : Ref sig .tc := ⟨.hbm, 78, rfl⟩
abbrev main_v71 : Ref sig .tc := ⟨.hbm, 79, rfl⟩
abbrev main_v72 : Ref sig .tc := ⟨.hbm, 80, rfl⟩
abbrev main_cst_4 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_5 : Ref sig .tc := ⟨.hbm, 86, rfl⟩
abbrev main_v77 : Ref sig .tc := ⟨.hbm, 87, rfl⟩
abbrev main_v78 : Ref sig .tc := ⟨.hbm, 88, rfl⟩
abbrev main_cst_6 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩

abbrev nD : Nat := 1
abbrev τ : Topo := Topo.v7x

variable {F : FTy → Type} [FloatOps F]
-- ==== Proof.MergeGrad.lean ====
/-
  The gradient behind the mixer's output product and the gates. A grid point multiplies a block of rows of the gradient with
  the transposed output weight, and stores the product weighted by the attention's gate and by the pool mixer's gate, which
  are read from the columns of the array that holds the input projections and the gates side by side. The 16 points' blocks
  are the two whole arrays.
-/
module

public import proofs.«01_k».proof.Proof.Gen.Kernel14Ideal.Value
public import proofs.«01_k».proof.Proof.Gen.Reference14Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.MergeGrad

open Cert.Kernel14Ideal Cert.Kernel14Ideal.Gen Cert.Kernel14Ideal.Value Idealize.ShloMosaic Idealize.ShloMosaic.TcCoe Idealize.SL.Sem

/-! ## One grid point -/

section Point

variable (x0 : Vec Ideal S512x2048 .bf16) (x1 : Vec Ideal S2048x2048 .bf16) (x2 x3 x4 x5 : FVec Ideal S512x2048 .bf16)

theorem point_attn : out0_6 (F := Ideal) x0 x1 x2 x3 x4 x5 = k0_pay5 (F := Ideal) x0 x1 x2 := by
  frame_out

theorem point_pool : out0_7 (F := Ideal) x0 x1 x2 x3 x4 x5 = k0_pay6 (F := Ideal) x0 x1 x3 := by
  frame_out

/-- A point's product at an index. -/
def dot (r : Fin 512) (l : Fin 2048) : EReal := ∑ k : Fin 2048, x0 (ix2 r k) * x1 (ix2 l k)

theorem attn_at (r : Fin 512) (l : Fin 2048) : k0_pay5 (F := Ideal) x0 x1 x2 (ix2 r l) = dot x0 x1 r l * x2 (ix2 r l) := by
  unfold k0_pay5 k0_pay2 k0_pay3 dot
  pointwise

theorem pool_at (r : Fin 512) (l : Fin 2048) : k0_pay6 (F := Ideal) x0 x1 x3 (ix2 r l) = dot x0 x1 r l * x3 (ix2 r l) := by
  unfold k0_pay6 k0_pay2 k0_pay4 dot
  pointwise

end Point

/-! ## The blocks a point is handed -/

variable (m : (ℓ : Loc nD τ sig) → Buf (Elt Ideal) ℓ) (c : Dev nD)

theorem index0 (t : Fin cfg0.N) : win0_0.index t 0 = t.val ∧ win0_0.index t 1 = 0 := by revert t; decide +kernel
theorem index1 (t : Fin cfg0.N) : win0_1.index t 0 = 0 ∧ win0_1.index t 1 = 0 := by revert t; decide +kernel
theorem index2 (t : Fin cfg0.N) : win0_2.index t 0 = t.val ∧ win0_2.index t 1 = 2 := by revert t; decide +kernel
theorem index3 (t : Fin cfg0.N) : win0_3.index t 0 = t.val ∧ win0_3.index t 1 = 3 := by revert t; decide +kernel
theorem index6 (t : Fin cfg0.N) : win0_6.index t 0 = t.val ∧ win0_6.index t 1 = 0 := by revert t; decide +kernel
theorem index7 (t : Fin cfg0.N) : win0_7.index t 0 = t.val ∧ win0_7.index t 1 = 0 := by revert t; decide +kernel

/-- The four input blocks of a point that are used. -/
abbrev rows (t : Fin cfg0.N) : Vec Ideal S512x2048 .bf16 := iblk m c 0 t
abbrev weight (t : Fin cfg0.N) : Vec Ideal S2048x2048 .bf16 := iblk m c 1 t
abbrev attnGate (t : Fin cfg0.N) : FVec Ideal S512x2048 .bf16 := iblk m c 2 t
abbrev poolGate (t : Fin cfg0.N) : FVec Ideal S512x2048 .bf16 := iblk m c 3 t

/-- The gradient's rows, the weight and the gated projection, as they are handed. -/
abbrev rowsOf (X : FVec Ideal S8192x2048 .f32) : FVec Ideal S8192x2048 .bf16 := truncf .bf16 X bitsLt_bf16_f32
abbrev weightOf (W : FVec Ideal S2048x2048 .f32) : FVec Ideal S2048x2048 .bf16 := truncf .bf16 W bitsLt_bf16_f32
abbrev ones : FVec Ideal S8192x4096 .f32 := broadcastInDim S8192x4096 ![] bcast_S_S8192x4096 (constant S_ .f32 0x3F800000#32)
abbrev gates (H : FVec Ideal S8192x8192 .f32) : FVec Ideal S8192x4096 .f32 :=
  Host.divf ones (addf ones (Host.exp (Host.negf (extractStridedSlice S8192x4096 ![0, 4096] H slices_S8192x8192_S8192x4096_0_4096 : FVec Ideal S8192x4096 .f32))))
abbrev gatedOf (H : FVec Ideal S8192x8192 .f32) : FVec Ideal S8192x8192 .bf16 :=
  truncf .bf16 (concatenate S8192x8192 1
    [⟨S8192x4096, (extractStridedSlice S8192x4096 ![0, 0] H slices_S8192x8192_S8192x4096_0_0 : FVec Ideal S8192x4096 .f32)⟩, ⟨S8192x4096, gates H⟩]
    concatenates_S8192x4096_S8192x4096_S8192x8192_d1 : FVec Ideal S8192x8192 .f32) bitsLt_bf16_f32

theorem rows_handed : V m c main_v10 = rowsOf (m ((c : Thread nD τ).loc main_arg0)) := by
  have e : V m c main_v10 = StableHlo.after hostOps0 (fun b => m (c, b)) (Proc.devRef .tc main_v10) := rfl
  rw [e]
  simp only [hostOps0]
  after_results_simp

theorem weight_handed : V m c main_v11 = weightOf (m ((c : Thread nD τ).loc main_arg1)) := by
  have e : V m c main_v11 = StableHlo.after hostOps0 (fun b => m (c, b)) (Proc.devRef .tc main_v11) := rfl
  rw [e]
  simp only [hostOps0]
  after_results_simp

theorem gated_handed : V m c main_v9 = gatedOf (m ((c : Thread nD τ).loc main_arg2)) := by
  have e : V m c main_v9 = StableHlo.after hostOps0 (fun b => m (c, b)) (Proc.devRef .tc main_v9) := rfl
  rw [e]
  simp only [hostOps0]
  after_results_simp
  rfl

/-- Place `r` of row block `p` of sixteen. -/
abbrev place (p : Fin 16) (r : Fin 512) : Fin 8192 := ⟨512 * p.val + r.val, by omega⟩

/-- The column of the projection that holds the attention's gate of an output column, and the pool mixer's. -/
abbrev attnPlace (j : Fin 2048) : Fin 8192 := ⟨4096 + j.val, by omega⟩
abbrev poolPlace (j : Fin 2048) : Fin 8192 := ⟨6144 + j.val, by omega⟩

theorem rows_blk (t : Fin cfg0.N) (p : Fin 16) (hp : t.val = p.val) (r : Fin 512) (k : Fin 2048) (A : FVec Ideal S8192x2048 .bf16) (hA : V m c main_v10 = A) :
    rows m c t (ix2 r k) = A (ix2 (place p r) k) := by
  subst hA
  unfold rows iblk
  rw [View.read_apply]
  refine congrArg (V m c main_v10) (funext fun a => Fin.ext ?_)
  match a with
  | ⟨0, _⟩ => show win0_0.index t 0 * 512 + 1 * r.val = 512 * p.val + r.val; rw [(index0 t).1, hp]; omega
  | ⟨1, _⟩ => show win0_0.index t 1 * 2048 + 1 * k.val = k.val; rw [(index0 t).2]; omega

theorem weight_blk (t : Fin cfg0.N) (j k : Fin 2048) (A : FVec Ideal S2048x2048 .bf16) (hA : V m c main_v11 = A) : weight m c t (ix2 j k) = A (ix2 j k) := by
  subst hA
  unfold weight iblk
  rw [View.read_apply]
  refine congrArg (V m c main_v11) (funext fun a => Fin.ext ?_)
  match a with
  | ⟨0, _⟩ => show win0_1.index t 0 * 2048 + 1 * j.val = j.val; rw [(index1 t).1]; omega
  | ⟨1, _⟩ => show win0_1.index t 1 * 2048 + 1 * k.val = k.val; rw [(index1 t).2]; omega

theorem attnGate_blk (t : Fin cfg0.N) (p : Fin 16) (hp : t.val = p.val) (r : Fin 512) (l : Fin 2048) (A : FVec Ideal S8192x8192 .bf16) (hA : V m c main_v9 = A) :
    attnGate m c t (ix2 r l) = A (ix2 (place p r) (attnPlace l)) := by
  subst hA
  unfold attnGate iblk
  rw [View.read_apply]
  refine congrArg (V m c main_v9) (funext fun a => Fin.ext ?_)
  match a with
  | ⟨0, _⟩ => show win0_2.index t 0 * 512 + 1 * r.val = 512 * p.val + r.val; rw [(index2 t).1, hp]; omega
  | ⟨1, _⟩ => show win0_2.index t 1 * 2048 + 1 * l.val = 4096 + l.val; rw [(index2 t).2]; omega

theorem poolGate_blk (t : Fin cfg0.N) (p : Fin 16) (hp : t.val = p.val) (r : Fin 512) (l : Fin 2048) (A : FVec Ideal S8192x8192 .bf16) (hA : V m c main_v9 = A) :
    poolGate m c t (ix2 r l) = A (ix2 (place p r) (poolPlace l)) := by
  subst hA
  unfold poolGate iblk
  rw [View.read_apply]
  refine congrArg (V m c main_v9) (funext fun a => Fin.ext ?_)
  match a with
  | ⟨0, _⟩ => show win0_3.index t 0 * 512 + 1 * r.val = 512 * p.val + r.val; rw [(index3 t).1, hp]; omega
  | ⟨1, _⟩ => show win0_3.index t 1 * 2048 + 1 * l.val = 6144 + l.val; rw [(index3 t).2]; omega

theorem rowsOf_at (X : FVec Ideal S8192x2048 .f32) (i : Fin 8192) (k : Fin 2048) : rowsOf X (ix2 i k) = X (ix2 i k) := by
  unfold rowsOf
  pointwise

theorem weightOf_at (W : FVec Ideal S2048x2048 .f32) (j k : Fin 2048) : weightOf W (ix2 j k) = W (ix2 j k) := by
  unfold weightOf
  pointwise

/-- The logistic function, as it is written. -/
abbrev logistic (x : EReal) : EReal := Ideal.div 1 (1 + Ideal.exp (-x))

theorem gatedOf_attn (H : FVec Ideal S8192x8192 .f32) (i : Fin 8192) (j : Fin 2048) : gatedOf H (ix2 i (attnPlace j)) = logistic (H (ix2 i (attnPlace j))) := by
  unfold gatedOf gates ones
  pointwise

theorem gatedOf_pool (H : FVec Ideal S8192x8192 .f32) (i : Fin 8192) (j : Fin 2048) : gatedOf H (ix2 i (poolPlace j)) = logistic (H (ix2 i (poolPlace j))) := by
  unfold gatedOf gates ones
  pointwise
  rw [dif_neg (by omega)]
  have e : (⟨4096 + (6144 + j.val - 4096), by omega⟩ : Fin 8192) = poolPlace j := Fin.ext (by show 4096 + (6144 + j.val - 4096) = 6144 + j.val; omega)
  rw [e]

/-! ## The arrays, and the reference -/

section Whole

variable (D : FVec Ideal S8192x2048 .f32) (W : FVec Ideal S2048x2048 .f32) (H : FVec Ideal S8192x8192 .f32)

/-- The whole product at an index, and the two results as functions of the arguments. -/
def whole (i : Fin 8192) (j : Fin 2048) : EReal := ∑ k : Fin 2048, D (ix2 i k) * W (ix2 j k)
def attnGrad : FVec Ideal S8192x2048 .bf16 := fun y => logistic (H (ix2 (y 0 : Fin 8192) (attnPlace (y 1)))) * whole D W (y 0) (y 1)
def poolGrad : FVec Ideal S8192x2048 .bf16 := fun y => logistic (H (ix2 (y 0 : Fin 8192) (poolPlace (y 1)))) * whole D W (y 0) (y 1)

variable (hD : D = m ((c : Thread nD τ).loc main_arg0)) (hW : W = m ((c : Thread nD τ).loc main_arg1)) (hH : H = m ((c : Thread nD τ).loc main_arg2))

include hD hW in
theorem dot_whole (t : Fin cfg0.N) (p : Fin 16) (hp : t.val = p.val) (r : Fin 512) (l : Fin 2048) : dot (rows m c t) (weight m c t) r l = whole D W (place p r) l := by
  have hl : V m c main_v10 = rowsOf D := by rw [hD]; exact rows_handed m c
  have hr : V m c main_v11 = weightOf W := by rw [hW]; exact weight_handed m c
  unfold dot whole
  simp only [rows_blk m c t p hp _ _ _ hl, weight_blk m c t _ _ _ hr, rowsOf_at, weightOf_at]

include hD hW hH in
theorem point_attnGrad (t : Fin cfg0.N) (p : Fin 16) (hp : t.val = p.val) (r : Fin 512) (l : Fin 2048) :
    k0_pay5 (F := Ideal) (rows m c t) (weight m c t) (attnGate m c t) (ix2 r l) = attnGrad D W H (ix2 (place p r) l) := by
  have hg : V m c main_v9 = gatedOf H := by rw [hH]; exact gated_handed m c
  rw [attn_at, dot_whole m c D W hD hW t p hp, attnGate_blk m c t p hp r l _ hg, gatedOf_attn, mul_comm]
  rfl

include hD hW hH in
theorem array_attn : (dats m 0 c).arrAt 6 cfg0.N = attnGrad D W H := by
  refine (dats m 0 c).arrAt_eq_of_covers 6 _ (by decide +kernel) fun t hf y => ?_
  have ht : t.val < 16 := lt_of_lt_of_eq t.isLt (N_0 : cfg0.N = 16)
  have e := after0_6 m c t
  rw [point_attn] at e
  have i0 : win0_6.index t 0 * 512 + 1 * (y 0).val = 512 * t.val + (y 0).val := by rw [(index6 t).1]; omega
  have i1 : win0_6.index t 1 * 2048 + 1 * (y 1).val = (y 1).val := by rw [(index6 t).2, Nat.zero_mul, Nat.zero_add, Nat.one_mul]
  have hy : y = (ix2 (y 0 : Fin 512) (y 1 : Fin 2048) : S512x2048.Idx) := eq_ix2 y
  have hz : ((cfg0.win 6).blk t).view.emb y = (ix2 (place ⟨t.val, ht⟩ (y 0)) (y 1) : S8192x2048.Idx) :=
    funext fun a => match a with | ⟨0, _⟩ => Fin.ext i0 | ⟨1, _⟩ => Fin.ext i1
  rw [hz, ← point_attnGrad m c D W H hD hW hH t ⟨t.val, ht⟩ rfl (y 0) (y 1), ← hy]
  exact congrFun e y

include hD hW hH in
theorem point_poolGrad (t : Fin cfg0.N) (p : Fin 16) (hp : t.val = p.val) (r : Fin 512) (l : Fin 2048) :
    k0_pay6 (F := Ideal) (rows m c t) (weight m c t) (poolGate m c t) (ix2 r l) = poolGrad D W H (ix2 (place p r) l) := by
  have hg : V m c main_v9 = gatedOf H := by rw [hH]; exact gated_handed m c
  rw [pool_at, dot_whole m c D W hD hW t p hp, poolGate_blk m c t p hp r l _ hg, gatedOf_pool, mul_comm]
  rfl

include hD hW hH in
theorem array_pool : (dats m 0 c).arrAt 7 cfg0.N = poolGrad D W H := by
  refine (dats m 0 c).arrAt_eq_of_covers 7 _ (by decide +kernel) fun t hf y => ?_
  have ht : t.val < 16 := lt_of_lt_of_eq t.isLt (N_0 : cfg0.N = 16)
  have e := after0_7 m c t
  rw [point_pool] at e
  have i0 : win0_7.index t 0 * 512 + 1 * (y 0).val = 512 * t.val + (y 0).val := by rw [(index7 t).1]; omega
  have i1 : win0_7.index t 1 * 2048 + 1 * (y 1).val = (y 1).val := by rw [(index7 t).2, Nat.zero_mul, Nat.zero_add, Nat.one_mul]
  have hy : y = (ix2 (y 0 : Fin 512) (y 1 : Fin 2048) : S512x2048.Idx) := eq_ix2 y
  have hz : ((cfg0.win 7).blk t).view.emb y = (ix2 (place ⟨t.val, ht⟩ (y 0)) (y 1) : S8192x2048.Idx) :=
    funext fun a => match a with | ⟨0, _⟩ => Fin.ext i0 | ⟨1, _⟩ => Fin.ext i1
  rw [hz, ← point_poolGrad m c D W H hD hW hH t ⟨t.val, ht⟩ rfl (y 0) (y 1), ← hy]
  exact congrFun e y

/-- The reference's gate and its results. -/
abbrev refOnes : FVec Ideal S8192x2048 .f32 := broadcastInDim Cert.Reference14Ideal.S8192x2048 ![] Cert.Reference14Ideal.Gen.bcast_S_S8192x2048 (constant Cert.Reference14Ideal.S_ .f32 0x3F800000#32)
abbrev refGate (Z : FVec Ideal S8192x2048 .f32) : FVec Ideal S8192x2048 .f32 := Host.divf refOnes (addf refOnes (Host.exp (Host.negf Z)))
abbrev refGrad (Z : FVec Ideal S8192x2048 .f32) : FVec Ideal S8192x2048 .bf16 :=
  truncf .bf16 (mulf (refGate Z) (Host.dotGeneral Cert.Reference14Ideal.dot_S8192x2048_S2048x2048_S8192x2048_1_1_0_0_n_n none D W)) Cert.Reference14Ideal.Gen.bitsLt_bf16_f32
abbrev attnPart : FVec Ideal S8192x2048 .f32 := extractStridedSlice Cert.Reference14Ideal.S8192x2048 ![0, 4096] H Cert.Reference14Ideal.Gen.slices_S8192x8192_S8192x2048_0_4096
abbrev poolPart : FVec Ideal S8192x2048 .f32 := extractStridedSlice Cert.Reference14Ideal.S8192x2048 ![0, 6144] H Cert.Reference14Ideal.Gen.slices_S8192x8192_S8192x2048_0_6144

theorem refGrad_at (Z : FVec Ideal S8192x2048 .f32) (i : Fin 8192) (j : Fin 2048) : refGrad D W Z (ix2 i j) = logistic (Z (ix2 i j)) * whole D W i j := by
  unfold refGrad refGate refOnes whole
  pointwise

theorem attnPart_at (i : Fin 8192) (j : Fin 2048) : attnPart H (ix2 i j) = H (ix2 i (attnPlace j)) := by
  unfold attnPart
  pointwise

theorem poolPart_at (i : Fin 8192) (j : Fin 2048) : poolPart H (ix2 i j) = H (ix2 i (poolPlace j)) := by
  unfold poolPart
  pointwise

theorem same_attn : refGrad D W (attnPart H) = attnGrad D W H := by
  refine funext fun y => ?_
  obtain ⟨i, j, rfl⟩ : ∃ (i : Fin 8192) (j : Fin 2048), y = ix2 i j := ⟨_, _, eq_ix2 y⟩
  refine (refGrad_at D W _ i j).trans ?_
  rw [attnPart_at]
  rfl

theorem same_pool : refGrad D W (poolPart H) = poolGrad D W H := by
  refine funext fun y => ?_
  obtain ⟨i, j, rfl⟩ : ∃ (i : Fin 8192) (j : Fin 2048), y = ix2 i j := ⟨_, _, eq_ix2 y⟩
  refine (refGrad_at D W _ i j).trans ?_
  rw [poolPart_at]
  rfl

end Whole

theorem agree : Cert.algebraic_Kernel14Ideal_Reference14Ideal (hKernel14Ideal := Cert.Kernel14Ideal.Gen.facts) (hReference14Ideal := Cert.Reference14Ideal.Gen.facts) := by
  intro m g m' g' _ he
  refine ⟨fun c => (dats m 0 c).arrAt 6 cfg0.N, fun c => (dats m 0 c).arrAt 7 cfg0.N, ?_, ?_⟩
  · refine (θ_run _ _ _).mono (fun r h c => ?_) (Cert.Kernel14Ideal.Value.run_blocks m g)
    obtain ⟨r0, r1, _, rest⟩ := h c
    exact ⟨r0, r1, rest⟩
  · refine (θ_run _ _ _).mono (fun r h c => ?_) (Cert.Reference14Ideal.Value.run m' g')
    obtain ⟨r0, r1, rest⟩ := h c
    obtain ⟨e0, e1, e2, _⟩ := he c
    exact ⟨r0.trans ((same_attn _ _ _).trans (array_attn m c _ _ _ e0 e1 e2).symm), r1.trans ((same_pool _ _ _).trans (array_pool m c _ _ _ e0 e1 e2).symm), rest⟩

end Cert.MergeGrad

end
-- ==== Proof.Parts.lean ====
/-
  Sums taken in four parts of 2048 terms.
-/
module

public import Idealize.ShloMosaic.PureOps
public import Idealize.ShloMosaic.Lib.Pipeline.ValueKit

@[expose] public section

noncomputable section

namespace Cert.Parts

open Idealize.ShloMosaic

/-- Term `k` of part `s`. -/
abbrev at' (s : Fin 4) (k : Fin 2048) : Fin 8192 := ⟨2048 * s.val + k.val, by have := s.isLt; have := k.isLt; omega⟩

/-- Four parts added one after another, from zero, are the whole sum. -/
theorem four_parts (f : Fin 8192 → EReal) :
    (((0 + ∑ k, f (at' 0 k)) + ∑ k, f (at' 1 k)) + ∑ k, f (at' 2 k)) + ∑ k, f (at' 3 k) = ∑ k, f k := by
  have e : ∑ k, f k = ∑ s : Fin 4, ∑ k : Fin 2048, f (at' s k) := by
    rw [← Finset.sum_product', Finset.univ_product_univ]
    refine (Equiv.sum_comp (finProdFinEquiv (m := 4) (n := 2048)) f).symm.trans (Finset.sum_congr rfl fun p _ => congrArg f (Fin.ext ?_))
    show p.2.val + 2048 * p.1.val = 2048 * p.1.val + p.2.val
    omega
  rw [e, Fin.sum_univ_four, zero_add]

end Cert.Parts

end
-- ==== Proof.WeightBranch.lean ====
/-
  The gradient of a branch's output weight, stored as four column blocks. A grid point adds the product of a block of rows to
  the accumulator; four points make two of the column blocks, the first of them starting from zero and the last storing the
  two halves of the sum's columns one after the other. Together the four row blocks are all the rows, so the sum is the
  contraction over the whole row axis, which is what the reference computes and then cuts into column blocks.
-/
module

public import proofs.«01_k».proof.Proof.Parts
public import proofs.«01_k».proof.Proof.Gen.Kernel15Ideal.Value
public import proofs.«01_k».proof.Proof.Gen.Reference15Ideal.Run
public import proofs.«01_k».proof.Defs
public import Idealize.ShloMosaic.Lib.Pointwise
public import Idealize.ShloMosaic.Lib.Pipeline.ValueKit
public import Idealize.ShloMosaic.Lib.Claim
public import Idealize.ShloMosaic.Lib.Pipeline.ReadBack

@[expose] public section

set_option backward.isDefEq.respectTransparency false
set_option maxRecDepth 16384

noncomputable section

namespace Cert.WeightBranch

open Cert.Kernel15Ideal Cert.Kernel15Ideal.Gen Cert.Kernel15Ideal.Value Idealize.ShloMosaic Idealize.ShloMosaic.TcCoe Idealize.SL.Sem Cert.Parts

/-! ## What a block's last point stores -/

/-- Column `l` of half `h` of the sum. -/
abbrev half (h : Fin 2) (l : Fin 512) : Fin 1024 := ⟨512 * h.val + l.val, by omega⟩

/-- The two halves of the sum's columns, one above the other. -/
def stored (A : Vec Ideal S1024x1024 .f32) (y : S2x1024x512.Idx) : EReal := A (ix2 (y 1 : Fin 1024) (half (y 0) (y 2)))

theorem slab_index (x : S1x1024x512.Idx) : ∃ (r : Fin 1024) (l : Fin 512), x = ix3 0 r l :=
  ⟨x 1, x 2, funext fun a => match a with | ⟨0, _⟩ => Fin.ext (Nat.lt_one_iff.mp (x 0).isLt) | ⟨1, _⟩ => rfl | ⟨2, _⟩ => rfl⟩

theorem mem_slab (o : ℕ) (inb : ∀ a, (![o, 0, 0] : Fin 3 → ℕ) a + (![1, 1024, 512] : Fin 3 → ℕ) a ≤ S2x1024x512.size a) (y : S2x1024x512.Idx) (h : (y 0).val = o) :
    y ∈ (Rect.unit (s := S2x1024x512) ![o, 0, 0] ![1, 1024, 512] inb).set := by
  refine (Rect.mem_set_unit (inb := inb)).mpr fun a => ?_
  match a with
  | ⟨0, _⟩ => exact ⟨le_of_eq h.symm, by show (y 0).val < o + 1; omega⟩
  | ⟨1, _⟩ => exact ⟨Nat.zero_le _, by have : (y 1).val < 1024 := (y 1).isLt; show (y 1).val < 0 + 1024; omega⟩
  | ⟨2, _⟩ => exact ⟨Nat.zero_le _, by have : (y 2).val < 512 := (y 2).isLt; show (y 2).val < 0 + 512; omega⟩

theorem pay3_at (v : Vec Ideal S1024x512 .f32) (r : Fin 1024) (l : Fin 512) : k0_pay3 (F := Ideal) v (ix3 0 r l) = v (ix2 r l) := by
  unfold k0_pay3
  pointwise

theorem pay4_at (v : Vec Ideal S1024x512 .f32) (r : Fin 1024) (l : Fin 512) : k0_pay4 (F := Ideal) v (ix3 0 r l) = v (ix2 r l) := by
  unfold k0_pay4
  pointwise

/-- Columns `512 * h` and on of the sum, and slab `h` of the block. -/
theorem half_cols (o : ℕ) (h : Fin 2) (ho : o = 512 * h.val) (inb : ∀ a, (![0, o] : Fin 2 → ℕ) a + (![1024, 512] : Fin 2 → ℕ) a ≤ S1024x1024.size a) (A : Vec Ideal S1024x1024 .f32)
    (r : Fin 1024) (l : Fin 512) : View.ld (Val := Elt Ideal) (e' := .f32) A (Rect.unit (s := S1024x1024) ![0, o] ![1024, 512] inb) (ix2 r l) = A (ix2 r (half h l)) := by
  refine congrArg A (funext fun a => Fin.ext ?_)
  match a with
  | ⟨0, _⟩ => show 0 + 1 * r.val = r.val; omega
  | ⟨1, _⟩ => show o + 1 * l.val = 512 * h.val + l.val; omega

theorem slab_emb (h : Fin 2) (o : ℕ) (ho : o = h.val) (inb : ∀ a, (![o, 0, 0] : Fin 3 → ℕ) a + (![1, 1024, 512] : Fin 3 → ℕ) a ≤ S2x1024x512.size a) (r : Fin 1024) (l : Fin 512) :
    (Rect.unit (s := S2x1024x512) ![o, 0, 0] ![1, 1024, 512] inb).emb (ix3 0 r l) = (ix3 h r l : S2x1024x512.Idx) := by
  refine funext fun a => Fin.ext ?_
  match a with
  | ⟨0, _⟩ => show o + 1 * 0 = h.val; omega
  | ⟨1, _⟩ => show 0 + 1 * r.val = r.val; omega
  | ⟨2, _⟩ => show 0 + 1 * l.val = l.val; omega

theorem first_half (A : Vec Ideal S1024x1024 .f32) (r : Fin 1024) (l : Fin 512) :
    k0_pay3 (F := Ideal) (View.ld (Val := Elt Ideal) (e' := .f32) A (Rect.unit (s := S1024x1024) ![0, 0] ![1024, 512] inb_S1024x1024_S1024x512_0_0)) (ix3 0 r l)
      = stored A ((Rect.unit (s := S2x1024x512) ![0, 0, 0] ![1, 1024, 512] inb_S2x1024x512_S1x1024x512_0_0_0).emb (ix3 0 r l)) := by
  rw [pay3_at, half_cols 0 0 rfl, slab_emb 0 0 rfl]
  rfl

theorem second_half (A : Vec Ideal S1024x1024 .f32) (r : Fin 1024) (l : Fin 512) :
    k0_pay4 (F := Ideal) (View.ld (Val := Elt Ideal) (e' := .f32) A (Rect.unit (s := S1024x1024) ![0, 512] ![1024, 512] inb_S1024x1024_S1024x512_0_512)) (ix3 0 r l)
      = stored A ((Rect.unit (s := S2x1024x512) ![1, 0, 0] ![1, 1024, 512] inb_S2x1024x512_S1x1024x512_1_0_0).emb (ix3 0 r l)) := by
  rw [pay4_at, half_cols 512 1 rfl, slab_emb 1 1 rfl]
  rfl

/-! ## One grid point -/

section Point

variable (c : Dev nD) (i : grid0.Coords) (arg3 : Memref sig .tc .vmem S2048x1024 .bf16) (harg3 : arg3.IsWhole) (arg4 : Memref sig .tc .vmem S2048x1024 .bf16) (harg4 : arg4.IsWhole)
  (arg5 : Memref sig .tc .vmem S2x1024x512 .bf16) (harg5 : arg5.IsWhole) (arg6 : Memref sig .tc .vmem S1024x1024 .f32) (harg6 : arg6.IsWhole)
  (x0 : Vec Ideal S2048x1024 .bf16) (x1 : Vec Ideal S2048x1024 .bf16) (acc : Vec Ideal S1024x1024 .f32)

theorem first_point (hc0 : cond0_0 i) (hc1 : ¬cond0_1 i) : sout0_A_0 c i arg3 harg3 arg4 harg4 arg5 harg5 arg6 harg6 hc0 hc1 x0 x1 = k0_pay2 k0_pay1 x0 x1 := by
  frame_out

theorem middle_point (hc0 : ¬cond0_0 i) (hc1 : ¬cond0_1 i) : sout0_B_0 c i arg3 harg3 arg4 harg4 arg5 harg5 arg6 harg6 hc0 hc1 x0 x1 acc = k0_pay2 acc x0 x1 := by
  frame_out

/-- The last point stores the two halves of the sum's columns. -/
theorem last_point (hc0 : ¬cond0_0 i) (hc1 : cond0_1 i) (y : S2x1024x512.Idx) :
    out0_C_2 c i arg3 harg3 arg4 harg4 arg5 harg5 arg6 harg6 hc0 hc1 x0 x1 acc y = stored (k0_pay2 acc x0 x1) y := by
  frame_out
  simp (disch := decide) only [View.readCov_fill]
  refine View.canon_apply_of_pieces (Val := Elt Ideal) (e := .bf16) (stored (k0_pay2 acc x0 x1)) _ ?_ y ?_
  · intro p hp x
    rcases List.mem_cons.mp hp with rfl | hp
    · obtain ⟨r, l, rfl⟩ := slab_index x
      exact second_half (k0_pay2 acc x0 x1) r l
    rcases List.mem_cons.mp hp with rfl | hp
    · obtain ⟨r, l, rfl⟩ := slab_index x
      exact first_half (k0_pay2 acc x0 x1) r l
    exact absurd hp List.not_mem_nil
  · have hy : (y 0).val < 2 := (y 0).isLt
    rcases (by omega : (y 0).val = 0 ∨ (y 0).val = 1) with h | h
    · exact ⟨_, List.mem_cons_of_mem _ List.mem_cons_self, mem_slab 0 inb_S2x1024x512_S1x1024x512_0_0_0 y h⟩
    · exact ⟨_, List.mem_cons_self, mem_slab 1 inb_S2x1024x512_S1x1024x512_1_0_0 y h⟩

end Point

/-- A step of the accumulation at an index. -/
theorem step_at (acc : Vec Ideal S1024x1024 .f32) (a : Vec Ideal S2048x1024 .bf16) (b : Vec Ideal S2048x1024 .bf16) (r j : Fin 1024) :
    k0_pay2 (F := Ideal) acc a b (ix2 r j) = acc (ix2 r j) + ∑ k : Fin 2048, a (ix2 k r) * b (ix2 k j) := by
  unfold k0_pay2
  pointwise

theorem zero_at (r j : Fin 1024) : k0_pay1 (F := Ideal) (ix2 r j) = 0 := by
  unfold k0_pay1
  pointwise

/-! ## The four points of a block -/

variable (m : (ℓ : Loc nD τ sig) → Buf (Elt Ideal) ℓ) (c : Dev nD)

/-- The carried pair after a point: the output block and the accumulator. -/
abbrev Carried := Vec Ideal S2x1024x512 .bf16 × Vec Ideal S1024x1024 .f32

/-- The two input blocks of a point. -/
abbrev left (t : Fin cfg0.N) : Vec Ideal S2048x1024 .bf16 := iblk m c 0 t
abbrev right (t : Fin cfg0.N) : Vec Ideal S2048x1024 .bf16 := iblk m c 1 t

/-- The first of a block's points leaves one product, whatever was there. -/
theorem scratch_first (t : Fin cfg0.N) (h4 : t.val % 4 = 0) (acc : Carried) :
    (stAt0 m c t.val t.isLt acc).2 = k0_pay2 (F := Ideal) (k0_pay1 (F := Ideal)) (left m c t) (right m c t) := by
  rw [stAt0_A m c t acc h4 (fun e => by omega)]
  dsimp only
  exact first_point c (grid0.coords t) (ms0_0 t) (hs0_0 t) (ms0_1 t) (hs0_1 t) (ms0_2 t) (hs0_2 t) scM0_0 (Memref.isWhole_whole _) (left m c t) (right m c t) _ _

/-- A point in between adds a product. -/
theorem scratch_middle (t : Fin cfg0.N) (h4 : ¬t.val % 4 = 0) (h3 : ¬t.val % 4 = 3) (acc : Carried) :
    (stAt0 m c t.val t.isLt acc).2 = k0_pay2 (F := Ideal) acc.2 (left m c t) (right m c t) :=
  by
  rw [stAt0_B m c t acc h4 h3]
  dsimp only
  exact middle_point c (grid0.coords t) (ms0_0 t) (hs0_0 t) (ms0_1 t) (hs0_1 t) (ms0_2 t) (hs0_2 t) scM0_0 (Memref.isWhole_whole _) (left m c t) (right m c t) acc.2 _ _

/-- The last one adds a product and stores. -/
theorem block_last (t : Fin cfg0.N) (h3 : t.val % 4 = 3) (acc : Carried) (y : S2x1024x512.Idx) :
    (stAt0 m c t.val t.isLt acc).1 y = stored (k0_pay2 acc.2 (left m c t) (right m c t)) y := by
  rw [stAt0_C m c t acc (fun e => by omega) h3]
  dsimp only
  exact last_point c (grid0.coords t) (ms0_0 t) (hs0_0 t) (ms0_1 t) (hs0_1 t) (ms0_2 t) (hs0_2 t) scM0_0 (Memref.isWhole_whole _) (left m c t) (right m c t) acc.2 _ _ y

/-- What the first of a block's points leaves. -/
theorem after_first : ∀ (n : ℕ) (h : n < cfg0.N), n % 4 = 0 → (outsAt0 m c n h).2 = k0_pay2 (F := Ideal) (k0_pay1 (F := Ideal)) (left m c ⟨n, h⟩) (right m c ⟨n, h⟩)
  | 0, h, h4 => (congrArg Prod.snd (outsAt0_zero m c h)).trans (scratch_first m c ⟨0, h⟩ h4 _)
  | n + 1, h, h4 => (congrArg Prod.snd (outsAt0_succ m c n h)).trans (scratch_first m c ⟨n + 1, h⟩ h4 _)

/-- A product added to what the point before left. -/
theorem after_middle (n : ℕ) (h : n + 1 < cfg0.N) (h4 : ¬(n + 1) % 4 = 0) (h3 : ¬(n + 1) % 4 = 3) :
    (outsAt0 m c (n + 1) h).2 = k0_pay2 (F := Ideal) (outsAt0 m c n (Nat.lt_of_succ_lt h)).2 (left m c ⟨n + 1, h⟩) (right m c ⟨n + 1, h⟩) :=
  (congrArg Prod.snd (outsAt0_succ m c n h)).trans (scratch_middle m c ⟨n + 1, h⟩ h4 h3 _)

theorem after_last (n : ℕ) (h : n + 1 < cfg0.N) (h3 : (n + 1) % 4 = 3) (y : S2x1024x512.Idx) :
    (outsAt0 m c (n + 1) h).1 y = stored (k0_pay2 (outsAt0 m c n (Nat.lt_of_succ_lt h)).2 (left m c ⟨n + 1, h⟩) (right m c ⟨n + 1, h⟩)) y :=
  (congrArg (fun p : Carried => p.1 y) (outsAt0_succ m c n h)).trans (block_last m c ⟨n + 1, h⟩ h3 _ y)

/-- The block its four points leave. -/
theorem block_eq (q : ℕ) (h : 4 * q + 3 < cfg0.N) (y : S2x1024x512.Idx) :
    (outsAt0 m c (4 * q + 3) h).1 y = stored (k0_pay2 (k0_pay2 (k0_pay2 (k0_pay2 (k0_pay1 (F := Ideal))
      (left m c ⟨4 * q, by omega⟩) (right m c ⟨4 * q, by omega⟩))
      (left m c ⟨4 * q + 1, by omega⟩) (right m c ⟨4 * q + 1, by omega⟩))
      (left m c ⟨4 * q + 2, by omega⟩) (right m c ⟨4 * q + 2, by omega⟩))
      (left m c ⟨4 * q + 3, h⟩) (right m c ⟨4 * q + 3, h⟩)) y := by
  rw [after_last m c (4 * q + 2) h (by omega), after_middle m c (4 * q + 1) (by omega) (by omega) (by omega),
    after_middle m c (4 * q) (by omega) (by omega) (by omega), after_first m c (4 * q) (by omega) (by omega)]

/-! ## The blocks a point is handed -/

theorem index0 (t : Fin cfg0.N) : win0_0.index t 0 = t.val % 4 ∧ win0_0.index t 1 = 0 := by revert t; decide +kernel
theorem index1 (t : Fin cfg0.N) : win0_1.index t 0 = t.val % 4 ∧ win0_1.index t 1 = t.val / 4 := by revert t; decide +kernel

/-- The activations and the gradient, as they are handed. -/
abbrev rowsOf (X : FVec Ideal S8192x1024 .f32) : FVec Ideal S8192x1024 .bf16 := truncf .bf16 X bitsLt_bf16_f32
abbrev gradOf (D : FVec Ideal S8192x2048 .f32) : FVec Ideal S8192x2048 .bf16 := truncf .bf16 D bitsLt_bf16_f32

theorem rows_handed : V m c main_v0 = rowsOf (m ((c : Thread nD τ).loc main_arg1)) := by
  have e : V m c main_v0 = StableHlo.after hostOps0 (fun b => m (c, b)) (Proc.devRef .tc main_v0) := rfl
  rw [e]
  simp only [hostOps0]
  after_results_simp

theorem grad_handed : V m c main_v1 = gradOf (m ((c : Thread nD τ).loc main_arg0)) := by
  have e : V m c main_v1 = StableHlo.after hostOps0 (fun b => m (c, b)) (Proc.devRef .tc main_v1) := rfl
  rw [e]
  simp only [hostOps0]
  after_results_simp

/-- The whole operands. -/
def wholeLeft : FVec Ideal S8192x1024 .bf16 := V m c main_v0
def wholeRight : FVec Ideal S8192x2048 .bf16 := V m c main_v1

/-- Column `l` of half `h` of the pair `b` of column blocks, of all columns. -/
abbrev colAt (b h : Fin 2) (l : Fin 512) : Fin 2048 := ⟨1024 * b.val + (512 * h.val + l.val), by omega⟩

/-- Rows `2048 * s` and on. -/
theorem left_blk (t : Fin cfg0.N) (s : Fin 4) (hs : t.val % 4 = s.val) (k : Fin 2048) (r : Fin 1024) :
    left m c t (ix2 k r) = wholeLeft m c (ix2 (at' s k) r) := by
  unfold left iblk wholeLeft
  rw [View.read_apply]
  refine congrArg (V m c main_v0) (funext fun a => Fin.ext ?_)
  match a with
  | ⟨0, _⟩ => show win0_0.index t 0 * 2048 + 1 * k.val = 2048 * s.val + k.val; rw [(index0 t).1, hs]; omega
  | ⟨1, _⟩ => show win0_0.index t 1 * 1024 + 1 * r.val = r.val; rw [(index0 t).2]; omega

/-- Rows `2048 * s` and on, columns `1024 * b` and on. -/
theorem right_blk (t : Fin cfg0.N) (s : Fin 4) (hs : t.val % 4 = s.val) (b h : Fin 2) (hj : t.val / 4 = b.val) (k : Fin 2048) (l : Fin 512) :
    right m c t (ix2 k (half h l)) = wholeRight m c (ix2 (at' s k) (colAt b h l)) := by
  unfold right iblk wholeRight
  rw [View.read_apply]
  refine congrArg (V m c main_v1) (funext fun a => Fin.ext ?_)
  match a with
  | ⟨0, _⟩ => show win0_1.index t 0 * 2048 + 1 * k.val = 2048 * s.val + k.val; rw [(index1 t).1, hs]; omega
  | ⟨1, _⟩ => show win0_1.index t 1 * 1024 + 1 * (512 * h.val + l.val) = 1024 * b.val + (512 * h.val + l.val); rw [(index1 t).2, hj]; omega

/-- A point's step at an index, in terms of the whole operands. -/
theorem step_whole (n : ℕ) (hn : n < cfg0.N) (s : Fin 4) (b h : Fin 2) (e : n = 4 * b.val + s.val)
    (acc : Vec Ideal S1024x1024 .f32) (r : Fin 1024) (l : Fin 512) :
    k0_pay2 (F := Ideal) acc (left m c ⟨n, hn⟩) (right m c ⟨n, hn⟩) (ix2 r (half h l))
      = acc (ix2 r (half h l)) + ∑ k : Fin 2048, wholeLeft m c (ix2 (at' s k) r) * wholeRight m c (ix2 (at' s k) (colAt b h l)) := by
  rw [step_at]
  refine congrArg (acc (ix2 r (half h l)) + ·) (Finset.sum_congr rfl fun k _ => ?_)
  rw [left_blk m c ⟨n, hn⟩ s (by show n % 4 = _; omega), right_blk m c ⟨n, hn⟩ s (by show n % 4 = _; omega) b h (by show n / 4 = _; omega)]

/-! ## The array, and the reference -/

/-- The result. -/
def result : FVec Ideal S4x1024x512 .bf16 := G2 m c

/-- Half `h` of the pair `b`, of the four column blocks. -/
abbrev blockAt (b h : Fin 2) : Fin 4 := ⟨2 * b.val + h.val, by omega⟩

/-- The result at an index: the contraction over all rows. -/
theorem result_at (b h : Fin 2) (r : Fin 1024) (l : Fin 512) :
    result m c (ix3 (blockAt b h) r l) = ∑ k : Fin 8192, wholeLeft m c (ix2 k r) * wholeRight m c (ix2 k (colAt b h l)) := by
  have hN : cfg0.N = 8 := N_0
  have hq : pt2Of (ix3 (blockAt b h) r l) = 4 * b.val + 3 := by
    show 4 * (1 * ((2 * b.val + h.val) / 2 - 0) + 1 * (r.val / 1024 - 0) + 1 * (l.val / 512 - 0)) + 3 = _
    omega
  have hl : loc2Of (ix3 (blockAt b h) r l) = (ix3 h r l : S2x1024x512.Idx) := by
    refine funext fun a => Fin.ext ?_
    match a with
    | ⟨0, _⟩ => show (2 * b.val + h.val) % 2 = h.val; omega
    | ⟨1, _⟩ => show r.val % 1024 = r.val; omega
    | ⟨2, _⟩ => show l.val % 512 = l.val; omega
  have hlt : 4 * b.val + 3 < cfg0.N := by omega
  have hp : pt2Of (ix3 (blockAt b h) r l) < cfg0.N := by rw [hq]; exact hlt
  have e : result m c (ix3 (blockAt b h) r l) = (outsAt0 m c (4 * b.val + 3) hlt).1 (ix3 h r l) := by
    unfold result G2
    rw [dif_pos hp, hl, fold0_congr m c _ (by omega) (4 * b.val + 3) (by omega) hq, ← outsAt0_sweep m c _ hlt]
  rw [e, block_eq m c _ hlt]
  refine (step_whole m c (4 * b.val + 3) hlt 3 b h rfl _ r l).trans ?_
  rw [step_whole m c (4 * b.val + 2) (by omega) 2 b h rfl, step_whole m c (4 * b.val + 1) (by omega) 1 b h rfl,
    step_whole m c (4 * b.val) (by omega) 0 b h rfl, zero_at]
  exact four_parts fun k => wholeLeft m c (ix2 k r) * wholeRight m c (ix2 k (colAt b h l))

/-- The reference's whole gradient, and its column blocks. -/
abbrev gradient (D : FVec Ideal S8192x2048 .f32) (X : FVec Ideal S8192x1024 .f32) : FVec Ideal Cert.Reference15Ideal.S1024x2048 .bf16 :=
  truncf .bf16 (transpose Cert.Reference15Ideal.S1024x2048 [1, 0]
    (Host.dotGeneral Cert.Reference15Ideal.dot_S8192x2048_S8192x1024_S2048x1024_0_0_1_1_n_n none D X) Cert.Reference15Ideal.Gen.transposes_S2048x1024_S1024x2048_1_0)
    Cert.Reference15Ideal.Gen.bitsLt_bf16_f32
abbrev columns (G : FVec Ideal Cert.Reference15Ideal.S1024x2048 .bf16) : FVec Ideal S4x1024x512 .bf16 :=
  transpose Cert.Reference15Ideal.S4x1024x512 [1, 0, 2] (shapeCast _ G Cert.Reference15Ideal.Gen.shapeCasts_S1024x2048_S1024x4x512)
    Cert.Reference15Ideal.Gen.transposes_S1024x4x512_S4x1024x512_1_0_2

theorem gradient_at (D : FVec Ideal S8192x2048 .f32) (X : FVec Ideal S8192x1024 .f32) (i : Fin 1024) (j : Fin 2048) :
    gradient D X (ix2 i j) = ∑ k : Fin 8192, D (ix2 k j) * X (ix2 k i) := by
  unfold gradient
  pointwise

theorem columns_at (G : FVec Ideal Cert.Reference15Ideal.S1024x2048 .bf16) (b h : Fin 2) (r : Fin 1024) (l : Fin 512) :
    columns G (ix3 (blockAt b h) r l) = G (ix2 r (colAt b h l)) := by
  unfold columns
  pointwise
  exact congrArg (fun q => G (ix2 r q)) (Fin.ext (by show (2 * b.val + h.val) * 512 + l.val = 1024 * b.val + (512 * h.val + l.val); omega))

theorem rowsOf_at (X : FVec Ideal S8192x1024 .f32) (i : Fin 8192) (j : Fin 1024) : rowsOf X (ix2 i j) = X (ix2 i j) := by
  unfold rowsOf
  pointwise

theorem gradOf_at (D : FVec Ideal S8192x2048 .f32) (i : Fin 8192) (j : Fin 2048) : gradOf D (ix2 i j) = D (ix2 i j) := by
  unfold gradOf
  pointwise

/-- The reference's result is the kernel's. -/
theorem same (D : FVec Ideal S8192x2048 .f32) (X : FVec Ideal S8192x1024 .f32) (hD : D = m ((c : Thread nD τ).loc main_arg0))
    (hX : X = m ((c : Thread nD τ).loc main_arg1)) : columns (gradient D X) = G2 m c := by
  refine funext fun y => ?_
  obtain ⟨q, r, l, rfl⟩ : ∃ (q : Fin 4) (r : Fin 1024) (l : Fin 512), y = ix3 q r l :=
    ⟨y 0, y 1, y 2, funext fun a => match a with | ⟨0, _⟩ => rfl | ⟨1, _⟩ => rfl | ⟨2, _⟩ => rfl⟩
  obtain ⟨b, h, rfl⟩ : ∃ b h : Fin 2, q = blockAt b h :=
    ⟨⟨q.val / 2, by omega⟩, ⟨q.val % 2, by omega⟩, Fin.ext (by show q.val = 2 * (q.val / 2) + q.val % 2; omega)⟩
  have hl : wholeLeft m c = rowsOf X := by rw [hX]; exact rows_handed m c
  have hr : wholeRight m c = gradOf D := by rw [hD]; exact grad_handed m c
  refine ((columns_at _ b h r l).trans (gradient_at D X r _)).trans (Eq.trans ?_ (result_at m c b h r l).symm)
  rw [hl, hr]
  exact Finset.sum_congr rfl fun k _ => by rw [rowsOf_at, gradOf_at, mul_comm]

theorem agree : Cert.algebraic_Kernel15Ideal_Reference15Ideal (hKernel15Ideal := Cert.Kernel15Ideal.Gen.facts) (hReference15Ideal := Cert.Reference15Ideal.Gen.facts) := by
  intro m g m' g' _ he
  refine ⟨fun c => G2 m c, Cert.Kernel15Ideal.Value.run m g, ?_⟩
  refine (θ_run _ _ _).mono (fun r h c => ?_) (Cert.Reference15Ideal.Value.run m' g')
  obtain ⟨r0, rest⟩ := h c
  obtain ⟨e0, e1⟩ := he c
  exact ⟨r0.trans (same m c _ _ e0 e1), rest⟩

end Cert.WeightBranch

end
-- ==== Proof.Step.lean ====
/-
  One parameter's optimiser step, as it is written: the new running mean of the gradient, the new running mean of its square,
  and the amount by which the parameter moves.
-/
module

public import Idealize.ShloMosaic.Lib.Pointwise

@[expose] public section

noncomputable section

namespace Cert.Step

open Idealize.ShloMosaic

/-- The numbers of the step, as they are written. -/
abbrev keepMean : EReal := Ideal.ofBits FTy.f32 0x3F666666#32
abbrev takeMean : EReal := Ideal.ofBits FTy.f32 0x3DCCCCCD#32
abbrev keepSquare : EReal := Ideal.ofBits FTy.f32 0x3F7FBE77#32
abbrev takeSquare : EReal := Ideal.ofBits FTy.f32 0x3A83126F#32
abbrev biasMean : EReal := Ideal.ofBits FTy.f32 0x3F26BD02#32
abbrev biasSquare : EReal := Ideal.ofBits FTy.f32 0x3C231ACC#32
abbrev small : EReal := Ideal.ofBits FTy.f32 0x322BCC77#32
abbrev decay : EReal := Ideal.ofBits FTy.f32 0x3C23D70A#32
abbrev rate : EReal := Ideal.ofBits FTy.f32 0xBA83126F#32

/-- The new mean from the old mean `a` and the gradient `g`, and the new mean square from the old one `b`. -/
def mean (a g : EReal) : EReal := keepMean * a + takeMean * g
def square (b g : EReal) : EReal := keepSquare * b + takeSquare * (g * g)

/-- The move of a parameter `w`. -/
def move (w a b g : EReal) : EReal :=
  rate * (Ideal.div (Ideal.div (mean a g) biasMean) (Ideal.sqrt (Ideal.div (square b g) biasSquare) + small) + decay * w)

/-! ## The same as arrays of any shape -/

variable {T : Shape} (h : Shape.BroadcastsInDim (⟨0, ![]⟩ : Shape) T ![]) (W A B G M S : FVec Ideal T .f32)

/-- A number in every place, the new means of the gradient, and the move from the new means. -/
abbrev num (b : BitVec 32) : FVec Ideal T .f32 := broadcastInDim T ![] h (constant (⟨0, ![]⟩ : Shape) .f32 b)
abbrev arrayMean : FVec Ideal T .f32 := addf (mulf (num h 0x3F666666#32) A) (mulf (num h 0x3DCCCCCD#32) G)
abbrev arraySquare : FVec Ideal T .f32 := addf (mulf (num h 0x3F7FBE77#32) B) (mulf (num h 0x3A83126F#32) (mulf G G))
abbrev arrayMove : FVec Ideal T .f32 :=
  mulf (num h 0xBA83126F#32) (addf (Host.divf (Host.divf M (num h 0x3F26BD02#32)) (addf (Host.sqrt (Host.divf S (num h 0x3C231ACC#32))) (num h 0x322BCC77#32))) (mulf (num h 0x3C23D70A#32) W))

theorem arrayMean_eq : arrayMean h A G = fun y => mean (A y) (G y) := rfl

theorem arraySquare_eq : arraySquare h B G = fun y => square (B y) (G y) := rfl

theorem arrayMove_eq : arrayMove h W (arrayMean h A G) (arraySquare h B G) = fun y => move (W y) (A y) (B y) (G y) := rfl

end Cert.Step

end
-- ==== Proof.StepWide.lean ====
/-
  The optimiser's step of a square weight. A grid point adds the two parts of the gradient of its block of rows and stores the
  sum, the weight's move and the two new means; the 8 points' blocks are the four whole arrays.
-/
module

public import proofs.«01_k».proof.Proof.Step
public import proofs.«01_k».proof.Proof.Gen.Kernel16Ideal.Value
public import proofs.«01_k».proof.Proof.Gen.Reference16Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.StepWide

open Cert.Kernel16Ideal Cert.Kernel16Ideal.Gen Cert.Kernel16Ideal.Value Idealize.ShloMosaic Idealize.ShloMosaic.TcCoe Idealize.SL.Sem

/-! ## One grid point -/

section Point

variable (x0 x1 x2 x3 x4 : FVec Ideal S256x2048 .f32)

theorem point_sum : out0_5 (F := Ideal) x0 x1 x2 x3 x4 = k0_pay1 (F := Ideal) x3 x4 := by
  frame_out

theorem point_move : out0_6 (F := Ideal) x0 x1 x2 x3 x4 = k0_pay4 (F := Ideal) x3 x4 x1 x2 x0 := by
  frame_out

theorem point_mean : out0_7 (F := Ideal) x0 x1 x2 x3 x4 = k0_pay2 (F := Ideal) x3 x4 x1 := by
  frame_out

theorem point_square : out0_8 (F := Ideal) x0 x1 x2 x3 x4 = k0_pay3 (F := Ideal) x3 x4 x2 := by
  frame_out

theorem sum_at (r : Fin 256) (l : Fin 2048) : k0_pay1 (F := Ideal) x3 x4 (ix2 r l) = x3 (ix2 r l) + x4 (ix2 r l) := by
  unfold k0_pay1
  pointwise

theorem mean_at (r : Fin 256) (l : Fin 2048) : k0_pay2 (F := Ideal) x3 x4 x1 (ix2 r l) = Step.mean (x1 (ix2 r l)) (x3 (ix2 r l) + x4 (ix2 r l)) := by
  unfold k0_pay2 k0_pay1 Step.mean
  pointwise

theorem square_at (r : Fin 256) (l : Fin 2048) : k0_pay3 (F := Ideal) x3 x4 x2 (ix2 r l) = Step.square (x2 (ix2 r l)) (x3 (ix2 r l) + x4 (ix2 r l)) := by
  unfold k0_pay3 k0_pay1 Step.square
  pointwise

theorem move_at (r : Fin 256) (l : Fin 2048) : k0_pay4 (F := Ideal) x3 x4 x1 x2 x0 (ix2 r l) = Step.move (x0 (ix2 r l)) (x1 (ix2 r l)) (x2 (ix2 r l)) (x3 (ix2 r l) + x4 (ix2 r l)) := by
  unfold k0_pay4 Step.move
  simp only [← mean_at, ← square_at]
  pointwise

end Point

/-! ## The blocks a point is handed -/

variable (m : (ℓ : Loc nD τ sig) → Buf (Elt Ideal) ℓ) (c : Dev nD)

theorem index0 (t : Fin cfg0.N) : win0_0.index t 0 = t.val ∧ win0_0.index t 1 = 0 := by revert t; decide +kernel
theorem index1 (t : Fin cfg0.N) : win0_1.index t 0 = t.val ∧ win0_1.index t 1 = 0 := by revert t; decide +kernel
theorem index2 (t : Fin cfg0.N) : win0_2.index t 0 = t.val ∧ win0_2.index t 1 = 0 := by revert t; decide +kernel
theorem index3 (t : Fin cfg0.N) : win0_3.index t 0 = t.val ∧ win0_3.index t 1 = 0 := by revert t; decide +kernel
theorem index4 (t : Fin cfg0.N) : win0_4.index t 0 = t.val ∧ win0_4.index t 1 = 0 := by revert t; decide +kernel
theorem index5 (t : Fin cfg0.N) : win0_5.index t 0 = t.val ∧ win0_5.index t 1 = 0 := by revert t; decide +kernel
theorem index6 (t : Fin cfg0.N) : win0_6.index t 0 = t.val ∧ win0_6.index t 1 = 0 := by revert t; decide +kernel
theorem index7 (t : Fin cfg0.N) : win0_7.index t 0 = t.val ∧ win0_7.index t 1 = 0 := by revert t; decide +kernel
theorem index8 (t : Fin cfg0.N) : win0_8.index t 0 = t.val ∧ win0_8.index t 1 = 0 := by revert t; decide +kernel

/-- The input blocks of a point: the parameter, the two means, and the parts of the gradient. -/
abbrev weight (t : Fin cfg0.N) : FVec Ideal S256x2048 .f32 := iblk m c 0 t
abbrev mean (t : Fin cfg0.N) : FVec Ideal S256x2048 .f32 := iblk m c 1 t
abbrev square (t : Fin cfg0.N) : FVec Ideal S256x2048 .f32 := iblk m c 2 t
abbrev first (t : Fin cfg0.N) : FVec Ideal S256x2048 .f32 := iblk m c 3 t
abbrev second (t : Fin cfg0.N) : FVec Ideal S256x2048 .f32 := iblk m c 4 t

/-- Place `r` of row block `p` of the 8. -/
abbrev place (p : Fin 8) (r : Fin 256) : Fin 2048 := ⟨256 * p.val + r.val, by omega⟩

theorem weight_blk (t : Fin cfg0.N) (p : Fin 8) (hp : t.val = p.val) (r : Fin 256) (l : Fin 2048) : weight m c t (ix2 r l) = m ((c : Thread nD τ).loc main_arg0) (ix2 (place p r) l) := by
  unfold weight iblk
  rw [View.read_apply]
  refine (congrArg (V m c main_arg0) (funext fun a => Fin.ext ?_)).trans (congrFun (V_main_arg0 m c) _)
  match a with
  | ⟨0, _⟩ => show win0_0.index t 0 * 256 + 1 * r.val = 256 * p.val + r.val; rw [(index0 t).1, hp]; omega
  | ⟨1, _⟩ => show win0_0.index t 1 * 2048 + 1 * l.val = l.val; rw [(index0 t).2, Nat.zero_mul, Nat.zero_add, Nat.one_mul]

theorem mean_blk (t : Fin cfg0.N) (p : Fin 8) (hp : t.val = p.val) (r : Fin 256) (l : Fin 2048) : mean m c t (ix2 r l) = m ((c : Thread nD τ).loc main_arg1) (ix2 (place p r) l) := by
  unfold mean iblk
  rw [View.read_apply]
  refine (congrArg (V m c main_arg1) (funext fun a => Fin.ext ?_)).trans (congrFun (V_main_arg1 m c) _)
  match a with
  | ⟨0, _⟩ => show win0_1.index t 0 * 256 + 1 * r.val = 256 * p.val + r.val; rw [(index1 t).1, hp]; omega
  | ⟨1, _⟩ => show win0_1.index t 1 * 2048 + 1 * l.val = l.val; rw [(index1 t).2, Nat.zero_mul, Nat.zero_add, Nat.one_mul]

theorem square_blk (t : Fin cfg0.N) (p : Fin 8) (hp : t.val = p.val) (r : Fin 256) (l : Fin 2048) : square m c t (ix2 r l) = m ((c : Thread nD τ).loc main_arg2) (ix2 (place p r) l) := by
  unfold square iblk
  rw [View.read_apply]
  refine (congrArg (V m c main_arg2) (funext fun a => Fin.ext ?_)).trans (congrFun (V_main_arg2 m c) _)
  match a with
  | ⟨0, _⟩ => show win0_2.index t 0 * 256 + 1 * r.val = 256 * p.val + r.val; rw [(index2 t).1, hp]; omega
  | ⟨1, _⟩ => show win0_2.index t 1 * 2048 + 1 * l.val = l.val; rw [(index2 t).2, Nat.zero_mul, Nat.zero_add, Nat.one_mul]

theorem first_blk (t : Fin cfg0.N) (p : Fin 8) (hp : t.val = p.val) (r : Fin 256) (l : Fin 2048) : first m c t (ix2 r l) = m ((c : Thread nD τ).loc main_arg3) (ix2 (place p r) l) := by
  unfold first iblk
  rw [View.read_apply]
  refine (congrArg (V m c main_arg3) (funext fun a => Fin.ext ?_)).trans (congrFun (V_main_arg3 m c) _)
  match a with
  | ⟨0, _⟩ => show win0_3.index t 0 * 256 + 1 * r.val = 256 * p.val + r.val; rw [(index3 t).1, hp]; omega
  | ⟨1, _⟩ => show win0_3.index t 1 * 2048 + 1 * l.val = l.val; rw [(index3 t).2, Nat.zero_mul, Nat.zero_add, Nat.one_mul]

theorem second_blk (t : Fin cfg0.N) (p : Fin 8) (hp : t.val = p.val) (r : Fin 256) (l : Fin 2048) : second m c t (ix2 r l) = m ((c : Thread nD τ).loc main_arg4) (ix2 (place p r) l) := by
  unfold second iblk
  rw [View.read_apply]
  refine (congrArg (V m c main_arg4) (funext fun a => Fin.ext ?_)).trans (congrFun (V_main_arg4 m c) _)
  match a with
  | ⟨0, _⟩ => show win0_4.index t 0 * 256 + 1 * r.val = 256 * p.val + r.val; rw [(index4 t).1, hp]; omega
  | ⟨1, _⟩ => show win0_4.index t 1 * 2048 + 1 * l.val = l.val; rw [(index4 t).2, Nat.zero_mul, Nat.zero_add, Nat.one_mul]

/-! ## The arrays -/

section Whole

variable (W A B X Y : FVec Ideal S2048x2048 .f32)

/-- The gradient, the move, the new mean and the new mean square as functions of the arguments. -/
def sums : FVec Ideal S2048x2048 .f32 := fun y => X y + Y y
def moves : FVec Ideal S2048x2048 .f32 := fun y => Step.move (W y) (A y) (B y) (X y + Y y)
def means : FVec Ideal S2048x2048 .f32 := fun y => Step.mean (A y) (X y + Y y)
def squares : FVec Ideal S2048x2048 .f32 := fun y => Step.square (B y) (X y + Y y)

variable (hW : W = m ((c : Thread nD τ).loc main_arg0)) (hA : A = m ((c : Thread nD τ).loc main_arg1)) (hB : B = m ((c : Thread nD τ).loc main_arg2)) (hX : X = m ((c : Thread nD τ).loc main_arg3)) (hY : Y = m ((c : Thread nD τ).loc main_arg4))

include hX hY in
theorem point_sums (t : Fin cfg0.N) (p : Fin 8) (hp : t.val = p.val) (r : Fin 256) (l : Fin 2048) : k0_pay1 (F := Ideal) (first m c t) (second m c t) (ix2 r l) = sums X Y (ix2 (place p r) l) := by
  subst hX hY
  rw [sum_at, first_blk m c t p hp, second_blk m c t p hp]
  rfl

include hX hY in
theorem array_sums : (dats m 0 c).arrAt 5 cfg0.N = sums X Y := by
  refine (dats m 0 c).arrAt_eq_of_covers 5 _ (by decide +kernel) fun t hf y => ?_
  have ht : t.val < 8 := lt_of_lt_of_eq t.isLt (N_0 : cfg0.N = 8)
  have e := after0_5 m c t
  rw [point_sum] at e
  have i0 : win0_5.index t 0 * 256 + 1 * (y 0).val = 256 * t.val + (y 0).val := by rw [(index5 t).1]; omega
  have i1 : win0_5.index t 1 * 2048 + 1 * (y 1).val = (y 1).val := by rw [(index5 t).2, Nat.zero_mul, Nat.zero_add, Nat.one_mul]
  have hy : y = (ix2 (y 0 : Fin 256) (y 1 : Fin 2048) : S256x2048.Idx) := eq_ix2 y
  have hz : ((cfg0.win 5).blk t).view.emb y = (ix2 (place ⟨t.val, ht⟩ (y 0)) (y 1) : S2048x2048.Idx) :=
    funext fun a => match a with | ⟨0, _⟩ => Fin.ext i0 | ⟨1, _⟩ => Fin.ext i1
  rw [hz, ← point_sums m c X Y hX hY t ⟨t.val, ht⟩ rfl (y 0) (y 1), ← hy]
  exact congrFun e y

include hW hA hB hX hY in
theorem point_moves (t : Fin cfg0.N) (p : Fin 8) (hp : t.val = p.val) (r : Fin 256) (l : Fin 2048) : k0_pay4 (F := Ideal) (first m c t) (second m c t) (mean m c t) (square m c t) (weight m c t) (ix2 r l) = moves W A B X Y (ix2 (place p r) l) := by
  subst hW hA hB hX hY
  rw [move_at, weight_blk m c t p hp, mean_blk m c t p hp, square_blk m c t p hp, first_blk m c t p hp, second_blk m c t p hp]
  rfl

include hW hA hB hX hY in
theorem array_moves : (dats m 0 c).arrAt 6 cfg0.N = moves W A B X Y := by
  refine (dats m 0 c).arrAt_eq_of_covers 6 _ (by decide +kernel) fun t hf y => ?_
  have ht : t.val < 8 := lt_of_lt_of_eq t.isLt (N_0 : cfg0.N = 8)
  have e := after0_6 m c t
  rw [point_move] at e
  have i0 : win0_6.index t 0 * 256 + 1 * (y 0).val = 256 * t.val + (y 0).val := by rw [(index6 t).1]; omega
  have i1 : win0_6.index t 1 * 2048 + 1 * (y 1).val = (y 1).val := by rw [(index6 t).2, Nat.zero_mul, Nat.zero_add, Nat.one_mul]
  have hy : y = (ix2 (y 0 : Fin 256) (y 1 : Fin 2048) : S256x2048.Idx) := eq_ix2 y
  have hz : ((cfg0.win 6).blk t).view.emb y = (ix2 (place ⟨t.val, ht⟩ (y 0)) (y 1) : S2048x2048.Idx) :=
    funext fun a => match a with | ⟨0, _⟩ => Fin.ext i0 | ⟨1, _⟩ => Fin.ext i1
  rw [hz, ← point_moves m c W A B X Y hW hA hB hX hY t ⟨t.val, ht⟩ rfl (y 0) (y 1), ← hy]
  exact congrFun e y

include hA hX hY in
theorem point_means (t : Fin cfg0.N) (p : Fin 8) (hp : t.val = p.val) (r : Fin 256) (l : Fin 2048) : k0_pay2 (F := Ideal) (first m c t) (second m c t) (mean m c t) (ix2 r l) = means A X Y (ix2 (place p r) l) := by
  subst hA hX hY
  rw [mean_at, mean_blk m c t p hp, first_blk m c t p hp, second_blk m c t p hp]
  rfl

include hA hX hY in
theorem array_means : (dats m 0 c).arrAt 7 cfg0.N = means A X Y := by
  refine (dats m 0 c).arrAt_eq_of_covers 7 _ (by decide +kernel) fun t hf y => ?_
  have ht : t.val < 8 := lt_of_lt_of_eq t.isLt (N_0 : cfg0.N = 8)
  have e := after0_7 m c t
  rw [point_mean] at e
  have i0 : win0_7.index t 0 * 256 + 1 * (y 0).val = 256 * t.val + (y 0).val := by rw [(index7 t).1]; omega
  have i1 : win0_7.index t 1 * 2048 + 1 * (y 1).val = (y 1).val := by rw [(index7 t).2, Nat.zero_mul, Nat.zero_add, Nat.one_mul]
  have hy : y = (ix2 (y 0 : Fin 256) (y 1 : Fin 2048) : S256x2048.Idx) := eq_ix2 y
  have hz : ((cfg0.win 7).blk t).view.emb y = (ix2 (place ⟨t.val, ht⟩ (y 0)) (y 1) : S2048x2048.Idx) :=
    funext fun a => match a with | ⟨0, _⟩ => Fin.ext i0 | ⟨1, _⟩ => Fin.ext i1
  rw [hz, ← point_means m c A X Y hA hX hY t ⟨t.val, ht⟩ rfl (y 0) (y 1), ← hy]
  exact congrFun e y

include hB hX hY in
theorem point_squares (t : Fin cfg0.N) (p : Fin 8) (hp : t.val = p.val) (r : Fin 256) (l : Fin 2048) : k0_pay3 (F := Ideal) (first m c t) (second m c t) (square m c t) (ix2 r l) = squares B X Y (ix2 (place p r) l) := by
  subst hB hX hY
  rw [square_at, square_blk m c t p hp, first_blk m c t p hp, second_blk m c t p hp]
  rfl

include hB hX hY in
theorem array_squares : (dats m 0 c).arrAt 8 cfg0.N = squares B X Y := by
  refine (dats m 0 c).arrAt_eq_of_covers 8 _ (by decide +kernel) fun t hf y => ?_
  have ht : t.val < 8 := lt_of_lt_of_eq t.isLt (N_0 : cfg0.N = 8)
  have e := after0_8 m c t
  rw [point_square] at e
  have i0 : win0_8.index t 0 * 256 + 1 * (y 0).val = 256 * t.val + (y 0).val := by rw [(index8 t).1]; omega
  have i1 : win0_8.index t 1 * 2048 + 1 * (y 1).val = (y 1).val := by rw [(index8 t).2, Nat.zero_mul, Nat.zero_add, Nat.one_mul]
  have hy : y = (ix2 (y 0 : Fin 256) (y 1 : Fin 2048) : S256x2048.Idx) := eq_ix2 y
  have hz : ((cfg0.win 8).blk t).view.emb y = (ix2 (place ⟨t.val, ht⟩ (y 0)) (y 1) : S2048x2048.Idx) :=
    funext fun a => match a with | ⟨0, _⟩ => Fin.ext i0 | ⟨1, _⟩ => Fin.ext i1
  rw [hz, ← point_squares m c B X Y hB hX hY t ⟨t.val, ht⟩ rfl (y 0) (y 1), ← hy]
  exact congrFun e y

end Whole

theorem agree : Cert.algebraic_Kernel16Ideal_Reference16Ideal (hKernel16Ideal := Cert.Kernel16Ideal.Gen.facts) (hReference16Ideal := Cert.Reference16Ideal.Gen.facts) := by
  intro m g m' g' _ he
  refine ⟨fun c => (dats m 0 c).arrAt 5 cfg0.N, fun c => (dats m 0 c).arrAt 6 cfg0.N, fun c => (dats m 0 c).arrAt 7 cfg0.N, fun c => (dats m 0 c).arrAt 8 cfg0.N,
    Cert.Kernel16Ideal.Value.run_blocks m g, ?_⟩
  refine (θ_run _ _ _).mono (fun r h c => ?_) (Cert.Reference16Ideal.Value.run m' g')
  obtain ⟨r0, r1, r2, r3, rest⟩ := h c
  obtain ⟨e0, e1, e2, e3, e4⟩ := he c
  exact ⟨r0.trans (array_sums m c _ _ e3 e4).symm,
    r1.trans ((Step.arrayMove_eq Cert.Reference16Ideal.Gen.bcast_S_S2048x2048 _ _ _ _).trans (array_moves m c _ _ _ _ _ e0 e1 e2 e3 e4).symm),
    r2.trans ((Step.arrayMean_eq Cert.Reference16Ideal.Gen.bcast_S_S2048x2048 _ _).trans (array_means m c _ _ _ e1 e3 e4).symm),
    r3.trans ((Step.arraySquare_eq Cert.Reference16Ideal.Gen.bcast_S_S2048x2048 _ _).trans (array_squares m c _ _ _ e2 e3 e4).symm), rest⟩

end Cert.StepWide

end
-- ==== Proof.StepOut.lean ====
/-
  The optimiser's step of the mixer's output weight. A grid point adds the two parts of the gradient of its block of rows and
  stores the sum, the weight's move and the two new means; the 2 points' blocks are the four whole arrays.
-/
module

public import proofs.«01_k».proof.Proof.Step
public import proofs.«01_k».proof.Proof.Gen.Kernel17Ideal.Value
public import proofs.«01_k».proof.Proof.Gen.Reference17Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.StepOut

open Cert.Kernel17Ideal Cert.Kernel17Ideal.Gen Cert.Kernel17Ideal.Value Idealize.ShloMosaic Idealize.ShloMosaic.TcCoe Idealize.SL.Sem

/-! ## One grid point -/

section Point

variable (x0 x1 x2 x3 x4 : FVec Ideal S256x2048 .f32)

theorem point_sum : out0_5 (F := Ideal) x0 x1 x2 x3 x4 = k0_pay1 (F := Ideal) x3 x4 := by
  frame_out

theorem point_move : out0_6 (F := Ideal) x0 x1 x2 x3 x4 = k0_pay4 (F := Ideal) x3 x4 x1 x2 x0 := by
  frame_out

theorem point_mean : out0_7 (F := Ideal) x0 x1 x2 x3 x4 = k0_pay2 (F := Ideal) x3 x4 x1 := by
  frame_out

theorem point_square : out0_8 (F := Ideal) x0 x1 x2 x3 x4 = k0_pay3 (F := Ideal) x3 x4 x2 := by
  frame_out

theorem sum_at (r : Fin 256) (l : Fin 2048) : k0_pay1 (F := Ideal) x3 x4 (ix2 r l) = x3 (ix2 r l) + x4 (ix2 r l) := by
  unfold k0_pay1
  pointwise

theorem mean_at (r : Fin 256) (l : Fin 2048) : k0_pay2 (F := Ideal) x3 x4 x1 (ix2 r l) = Step.mean (x1 (ix2 r l)) (x3 (ix2 r l) + x4 (ix2 r l)) := by
  unfold k0_pay2 k0_pay1 Step.mean
  pointwise

theorem square_at (r : Fin 256) (l : Fin 2048) : k0_pay3 (F := Ideal) x3 x4 x2 (ix2 r l) = Step.square (x2 (ix2 r l)) (x3 (ix2 r l) + x4 (ix2 r l)) := by
  unfold k0_pay3 k0_pay1 Step.square
  pointwise

theorem move_at (r : Fin 256) (l : Fin 2048) : k0_pay4 (F := Ideal) x3 x4 x1 x2 x0 (ix2 r l) = Step.move (x0 (ix2 r l)) (x1 (ix2 r l)) (x2 (ix2 r l)) (x3 (ix2 r l) + x4 (ix2 r l)) := by
  unfold k0_pay4 Step.move
  simp only [← mean_at, ← square_at]
  pointwise

end Point

/-! ## The blocks a point is handed -/

variable (m : (ℓ : Loc nD τ sig) → Buf (Elt Ideal) ℓ) (c : Dev nD)

theorem index0 (t : Fin cfg0.N) : win0_0.index t 0 = t.val ∧ win0_0.index t 1 = 0 := by revert t; decide +kernel
theorem index1 (t : Fin cfg0.N) : win0_1.index t 0 = t.val ∧ win0_1.index t 1 = 0 := by revert t; decide +kernel
theorem index2 (t : Fin cfg0.N) : win0_2.index t 0 = t.val ∧ win0_2.index t 1 = 0 := by revert t; decide +kernel
theorem index3 (t : Fin cfg0.N) : win0_3.index t 0 = t.val ∧ win0_3.index t 1 = 0 := by revert t; decide +kernel
theorem index4 (t : Fin cfg0.N) : win0_4.index t 0 = t.val ∧ win0_4.index t 1 = 0 := by revert t; decide +kernel
theorem index5 (t : Fin cfg0.N) : win0_5.index t 0 = t.val ∧ win0_5.index t 1 = 0 := by revert t; decide +kernel
theorem index6 (t : Fin cfg0.N) : win0_6.index t 0 = t.val ∧ win0_6.index t 1 = 0 := by revert t; decide +kernel
theorem index7 (t : Fin cfg0.N) : win0_7.index t 0 = t.val ∧ win0_7.index t 1 = 0 := by revert t; decide +kernel
theorem index8 (t : Fin cfg0.N) : win0_8.index t 0 = t.val ∧ win0_8.index t 1 = 0 := by revert t; decide +kernel

/-- The input blocks of a point: the parameter, the two means, and the parts of the gradient. -/
abbrev weight (t : Fin cfg0.N) : FVec Ideal S256x2048 .f32 := iblk m c 0 t
abbrev mean (t : Fin cfg0.N) : FVec Ideal S256x2048 .f32 := iblk m c 1 t
abbrev square (t : Fin cfg0.N) : FVec Ideal S256x2048 .f32 := iblk m c 2 t
abbrev first (t : Fin cfg0.N) : FVec Ideal S256x2048 .f32 := iblk m c 3 t
abbrev second (t : Fin cfg0.N) : FVec Ideal S256x2048 .f32 := iblk m c 4 t

/-- Place `r` of row block `p` of the 2. -/
abbrev place (p : Fin 2) (r : Fin 256) : Fin 512 := ⟨256 * p.val + r.val, by omega⟩

theorem weight_blk (t : Fin cfg0.N) (p : Fin 2) (hp : t.val = p.val) (r : Fin 256) (l : Fin 2048) : weight m c t (ix2 r l) = m ((c : Thread nD τ).loc main_arg0) (ix2 (place p r) l) := by
  unfold weight iblk
  rw [View.read_apply]
  refine (congrArg (V m c main_arg0) (funext fun a => Fin.ext ?_)).trans (congrFun (V_main_arg0 m c) _)
  match a with
  | ⟨0, _⟩ => show win0_0.index t 0 * 256 + 1 * r.val = 256 * p.val + r.val; rw [(index0 t).1, hp]; omega
  | ⟨1, _⟩ => show win0_0.index t 1 * 2048 + 1 * l.val = l.val; rw [(index0 t).2, Nat.zero_mul, Nat.zero_add, Nat.one_mul]

theorem mean_blk (t : Fin cfg0.N) (p : Fin 2) (hp : t.val = p.val) (r : Fin 256) (l : Fin 2048) : mean m c t (ix2 r l) = m ((c : Thread nD τ).loc main_arg1) (ix2 (place p r) l) := by
  unfold mean iblk
  rw [View.read_apply]
  refine (congrArg (V m c main_arg1) (funext fun a => Fin.ext ?_)).trans (congrFun (V_main_arg1 m c) _)
  match a with
  | ⟨0, _⟩ => show win0_1.index t 0 * 256 + 1 * r.val = 256 * p.val + r.val; rw [(index1 t).1, hp]; omega
  | ⟨1, _⟩ => show win0_1.index t 1 * 2048 + 1 * l.val = l.val; rw [(index1 t).2, Nat.zero_mul, Nat.zero_add, Nat.one_mul]

theorem square_blk (t : Fin cfg0.N) (p : Fin 2) (hp : t.val = p.val) (r : Fin 256) (l : Fin 2048) : square m c t (ix2 r l) = m ((c : Thread nD τ).loc main_arg2) (ix2 (place p r) l) := by
  unfold square iblk
  rw [View.read_apply]
  refine (congrArg (V m c main_arg2) (funext fun a => Fin.ext ?_)).trans (congrFun (V_main_arg2 m c) _)
  match a with
  | ⟨0, _⟩ => show win0_2.index t 0 * 256 + 1 * r.val = 256 * p.val + r.val; rw [(index2 t).1, hp]; omega
  | ⟨1, _⟩ => show win0_2.index t 1 * 2048 + 1 * l.val = l.val; rw [(index2 t).2, Nat.zero_mul, Nat.zero_add, Nat.one_mul]

theorem first_blk (t : Fin cfg0.N) (p : Fin 2) (hp : t.val = p.val) (r : Fin 256) (l : Fin 2048) : first m c t (ix2 r l) = m ((c : Thread nD τ).loc main_arg3) (ix2 (place p r) l) := by
  unfold first iblk
  rw [View.read_apply]
  refine (congrArg (V m c main_arg3) (funext fun a => Fin.ext ?_)).trans (congrFun (V_main_arg3 m c) _)
  match a with
  | ⟨0, _⟩ => show win0_3.index t 0 * 256 + 1 * r.val = 256 * p.val + r.val; rw [(index3 t).1, hp]; omega
  | ⟨1, _⟩ => show win0_3.index t 1 * 2048 + 1 * l.val = l.val; rw [(index3 t).2, Nat.zero_mul, Nat.zero_add, Nat.one_mul]

theorem second_blk (t : Fin cfg0.N) (p : Fin 2) (hp : t.val = p.val) (r : Fin 256) (l : Fin 2048) : second m c t (ix2 r l) = m ((c : Thread nD τ).loc main_arg4) (ix2 (place p r) l) := by
  unfold second iblk
  rw [View.read_apply]
  refine (congrArg (V m c main_arg4) (funext fun a => Fin.ext ?_)).trans (congrFun (V_main_arg4 m c) _)
  match a with
  | ⟨0, _⟩ => show win0_4.index t 0 * 256 + 1 * r.val = 256 * p.val + r.val; rw [(index4 t).1, hp]; omega
  | ⟨1, _⟩ => show win0_4.index t 1 * 2048 + 1 * l.val = l.val; rw [(index4 t).2, Nat.zero_mul, Nat.zero_add, Nat.one_mul]

/-! ## The arrays -/

section Whole

variable (W A B X Y : FVec Ideal S512x2048 .f32)

/-- The gradient, the move, the new mean and the new mean square as functions of the arguments. -/
def sums : FVec Ideal S512x2048 .f32 := fun y => X y + Y y
def moves : FVec Ideal S512x2048 .f32 := fun y => Step.move (W y) (A y) (B y) (X y + Y y)
def means : FVec Ideal S512x2048 .f32 := fun y => Step.mean (A y) (X y + Y y)
def squares : FVec Ideal S512x2048 .f32 := fun y => Step.square (B y) (X y + Y y)

variable (hW : W = m ((c : Thread nD τ).loc main_arg0)) (hA : A = m ((c : Thread nD τ).loc main_arg1)) (hB : B = m ((c : Thread nD τ).loc main_arg2)) (hX : X = m ((c : Thread nD τ).loc main_arg3)) (hY : Y = m ((c : Thread nD τ).loc main_arg4))

include hX hY in
theorem point_sums (t : Fin cfg0.N) (p : Fin 2) (hp : t.val = p.val) (r : Fin 256) (l : Fin 2048) : k0_pay1 (F := Ideal) (first m c t) (second m c t) (ix2 r l) = sums X Y (ix2 (place p r) l) := by
  subst hX hY
  rw [sum_at, first_blk m c t p hp, second_blk m c t p hp]
  rfl

include hX hY in
theorem array_sums : (dats m 0 c).arrAt 5 cfg0.N = sums X Y := by
  refine (dats m 0 c).arrAt_eq_of_covers 5 _ (by decide +kernel) fun t hf y => ?_
  have ht : t.val < 2 := lt_of_lt_of_eq t.isLt (N_0 : cfg0.N = 2)
  have e := after0_5 m c t
  rw [point_sum] at e
  have i0 : win0_5.index t 0 * 256 + 1 * (y 0).val = 256 * t.val + (y 0).val := by rw [(index5 t).1]; omega
  have i1 : win0_5.index t 1 * 2048 + 1 * (y 1).val = (y 1).val := by rw [(index5 t).2, Nat.zero_mul, Nat.zero_add, Nat.one_mul]
  have hy : y = (ix2 (y 0 : Fin 256) (y 1 : Fin 2048) : S256x2048.Idx) := eq_ix2 y
  have hz : ((cfg0.win 5).blk t).view.emb y = (ix2 (place ⟨t.val, ht⟩ (y 0)) (y 1) : S512x2048.Idx) :=
    funext fun a => match a with | ⟨0, _⟩ => Fin.ext i0 | ⟨1, _⟩ => Fin.ext i1
  rw [hz, ← point_sums m c X Y hX hY t ⟨t.val, ht⟩ rfl (y 0) (y 1), ← hy]
  exact congrFun e y

include hW hA hB hX hY in
theorem point_moves (t : Fin cfg0.N) (p : Fin 2) (hp : t.val = p.val) (r : Fin 256) (l : Fin 2048) : k0_pay4 (F := Ideal) (first m c t) (second m c t) (mean m c t) (square m c t) (weight m c t) (ix2 r l) = moves W A B X Y (ix2 (place p r) l) := by
  subst hW hA hB hX hY
  rw [move_at, weight_blk m c t p hp, mean_blk m c t p hp, square_blk m c t p hp, first_blk m c t p hp, second_blk m c t p hp]
  rfl

include hW hA hB hX hY in
theorem array_moves : (dats m 0 c).arrAt 6 cfg0.N = moves W A B X Y := by
  refine (dats m 0 c).arrAt_eq_of_covers 6 _ (by decide +kernel) fun t hf y => ?_
  have ht : t.val < 2 := lt_of_lt_of_eq t.isLt (N_0 : cfg0.N = 2)
  have e := after0_6 m c t
  rw [point_move] at e
  have i0 : win0_6.index t 0 * 256 + 1 * (y 0).val = 256 * t.val + (y 0).val := by rw [(index6 t).1]; omega
  have i1 : win0_6.index t 1 * 2048 + 1 * (y 1).val = (y 1).val := by rw [(index6 t).2, Nat.zero_mul, Nat.zero_add, Nat.one_mul]
  have hy : y = (ix2 (y 0 : Fin 256) (y 1 : Fin 2048) : S256x2048.Idx) := eq_ix2 y
  have hz : ((cfg0.win 6).blk t).view.emb y = (ix2 (place ⟨t.val, ht⟩ (y 0)) (y 1) : S512x2048.Idx) :=
    funext fun a => match a with | ⟨0, _⟩ => Fin.ext i0 | ⟨1, _⟩ => Fin.ext i1
  rw [hz, ← point_moves m c W A B X Y hW hA hB hX hY t ⟨t.val, ht⟩ rfl (y 0) (y 1), ← hy]
  exact congrFun e y

include hA hX hY in
theorem point_means (t : Fin cfg0.N) (p : Fin 2) (hp : t.val = p.val) (r : Fin 256) (l : Fin 2048) : k0_pay2 (F := Ideal) (first m c t) (second m c t) (mean m c t) (ix2 r l) = means A X Y (ix2 (place p r) l) := by
  subst hA hX hY
  rw [mean_at, mean_blk m c t p hp, first_blk m c t p hp, second_blk m c t p hp]
  rfl

include hA hX hY in
theorem array_means : (dats m 0 c).arrAt 7 cfg0.N = means A X Y := by
  refine (dats m 0 c).arrAt_eq_of_covers 7 _ (by decide +kernel) fun t hf y => ?_
  have ht : t.val < 2 := lt_of_lt_of_eq t.isLt (N_0 : cfg0.N = 2)
  have e := after0_7 m c t
  rw [point_mean] at e
  have i0 : win0_7.index t 0 * 256 + 1 * (y 0).val = 256 * t.val + (y 0).val := by rw [(index7 t).1]; omega
  have i1 : win0_7.index t 1 * 2048 + 1 * (y 1).val = (y 1).val := by rw [(index7 t).2, Nat.zero_mul, Nat.zero_add, Nat.one_mul]
  have hy : y = (ix2 (y 0 : Fin 256) (y 1 : Fin 2048) : S256x2048.Idx) := eq_ix2 y
  have hz : ((cfg0.win 7).blk t).view.emb y = (ix2 (place ⟨t.val, ht⟩ (y 0)) (y 1) : S512x2048.Idx) :=
    funext fun a => match a with | ⟨0, _⟩ => Fin.ext i0 | ⟨1, _⟩ => Fin.ext i1
  rw [hz, ← point_means m c A X Y hA hX hY t ⟨t.val, ht⟩ rfl (y 0) (y 1), ← hy]
  exact congrFun e y

include hB hX hY in
theorem point_squares (t : Fin cfg0.N) (p : Fin 2) (hp : t.val = p.val) (r : Fin 256) (l : Fin 2048) : k0_pay3 (F := Ideal) (first m c t) (second m c t) (square m c t) (ix2 r l) = squares B X Y (ix2 (place p r) l) := by
  subst hB hX hY
  rw [square_at, square_blk m c t p hp, first_blk m c t p hp, second_blk m c t p hp]
  rfl

include hB hX hY in
theorem array_squares : (dats m 0 c).arrAt 8 cfg0.N = squares B X Y := by
  refine (dats m 0 c).arrAt_eq_of_covers 8 _ (by decide +kernel) fun t hf y => ?_
  have ht : t.val < 2 := lt_of_lt_of_eq t.isLt (N_0 : cfg0.N = 2)
  have e := after0_8 m c t
  rw [point_square] at e
  have i0 : win0_8.index t 0 * 256 + 1 * (y 0).val = 256 * t.val + (y 0).val := by rw [(index8 t).1]; omega
  have i1 : win0_8.index t 1 * 2048 + 1 * (y 1).val = (y 1).val := by rw [(index8 t).2, Nat.zero_mul, Nat.zero_add, Nat.one_mul]
  have hy : y = (ix2 (y 0 : Fin 256) (y 1 : Fin 2048) : S256x2048.Idx) := eq_ix2 y
  have hz : ((cfg0.win 8).blk t).view.emb y = (ix2 (place ⟨t.val, ht⟩ (y 0)) (y 1) : S512x2048.Idx) :=
    funext fun a => match a with | ⟨0, _⟩ => Fin.ext i0 | ⟨1, _⟩ => Fin.ext i1
  rw [hz, ← point_squares m c B X Y hB hX hY t ⟨t.val, ht⟩ rfl (y 0) (y 1), ← hy]
  exact congrFun e y

end Whole

theorem agree : Cert.algebraic_Kernel17Ideal_Reference17Ideal (hKernel17Ideal := Cert.Kernel17Ideal.Gen.facts) (hReference17Ideal := Cert.Reference17Ideal.Gen.facts) := by
  intro m g m' g' _ he
  refine ⟨fun c => (dats m 0 c).arrAt 5 cfg0.N, fun c => (dats m 0 c).arrAt 6 cfg0.N, fun c => (dats m 0 c).arrAt 7 cfg0.N, fun c => (dats m 0 c).arrAt 8 cfg0.N,
    Cert.Kernel17Ideal.Value.run_blocks m g, ?_⟩
  refine (θ_run _ _ _).mono (fun r h c => ?_) (Cert.Reference17Ideal.Value.run m' g')
  obtain ⟨r0, r1, r2, r3, rest⟩ := h c
  obtain ⟨e0, e1, e2, e3, e4⟩ := he c
  exact ⟨r0.trans (array_sums m c _ _ e3 e4).symm,
    r1.trans ((Step.arrayMove_eq Cert.Reference17Ideal.Gen.bcast_S_S512x2048 _ _ _ _).trans (array_moves m c _ _ _ _ _ e0 e1 e2 e3 e4).symm),
    r2.trans ((Step.arrayMean_eq Cert.Reference17Ideal.Gen.bcast_S_S512x2048 _ _).trans (array_means m c _ _ _ e1 e3 e4).symm),
    r3.trans ((Step.arraySquare_eq Cert.Reference17Ideal.Gen.bcast_S_S512x2048 _ _).trans (array_squares m c _ _ _ e2 e3 e4).symm), rest⟩

end Cert.StepOut

end
-- ==== Proof.StepBranch.lean ====
/-
  The optimiser's step of a branch's weight. A grid point adds the two parts of the gradient of its block of rows and stores
  the sum, the weight's move and the two new means; the 4 points' blocks are the four whole arrays.
-/
module

public import proofs.«01_k».proof.Proof.Step
public import proofs.«01_k».proof.Proof.Gen.Kernel18Ideal.Value
public import proofs.«01_k».proof.Proof.Gen.Reference18Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.StepBranch

open Cert.Kernel18Ideal Cert.Kernel18Ideal.Gen Cert.Kernel18Ideal.Value Idealize.ShloMosaic Idealize.ShloMosaic.TcCoe Idealize.SL.Sem

/-! ## One grid point -/

section Point

variable (x0 x1 x2 x3 x4 : FVec Ideal S256x512 .f32)

theorem point_sum : out0_5 (F := Ideal) x0 x1 x2 x3 x4 = k0_pay1 (F := Ideal) x3 x4 := by
  frame_out

theorem point_move : out0_6 (F := Ideal) x0 x1 x2 x3 x4 = k0_pay4 (F := Ideal) x3 x4 x1 x2 x0 := by
  frame_out

theorem point_mean : out0_7 (F := Ideal) x0 x1 x2 x3 x4 = k0_pay2 (F := Ideal) x3 x4 x1 := by
  frame_out

theorem point_square : out0_8 (F := Ideal) x0 x1 x2 x3 x4 = k0_pay3 (F := Ideal) x3 x4 x2 := by
  frame_out

theorem sum_at (r : Fin 256) (l : Fin 512) : k0_pay1 (F := Ideal) x3 x4 (ix2 r l) = x3 (ix2 r l) + x4 (ix2 r l) := by
  unfold k0_pay1
  pointwise

theorem mean_at (r : Fin 256) (l : Fin 512) : k0_pay2 (F := Ideal) x3 x4 x1 (ix2 r l) = Step.mean (x1 (ix2 r l)) (x3 (ix2 r l) + x4 (ix2 r l)) := by
  unfold k0_pay2 k0_pay1 Step.mean
  pointwise

theorem square_at (r : Fin 256) (l : Fin 512) : k0_pay3 (F := Ideal) x3 x4 x2 (ix2 r l) = Step.square (x2 (ix2 r l)) (x3 (ix2 r l) + x4 (ix2 r l)) := by
  unfold k0_pay3 k0_pay1 Step.square
  pointwise

theorem move_at (r : Fin 256) (l : Fin 512) : k0_pay4 (F := Ideal) x3 x4 x1 x2 x0 (ix2 r l) = Step.move (x0 (ix2 r l)) (x1 (ix2 r l)) (x2 (ix2 r l)) (x3 (ix2 r l) + x4 (ix2 r l)) := by
  unfold k0_pay4 Step.move
  simp only [← mean_at, ← square_at]
  pointwise

end Point

/-! ## The blocks a point is handed -/

variable (m : (ℓ : Loc nD τ sig) → Buf (Elt Ideal) ℓ) (c : Dev nD)

theorem index0 (t : Fin cfg0.N) : win0_0.index t 0 = t.val ∧ win0_0.index t 1 = 0 := by revert t; decide +kernel
theorem index1 (t : Fin cfg0.N) : win0_1.index t 0 = t.val ∧ win0_1.index t 1 = 0 := by revert t; decide +kernel
theorem index2 (t : Fin cfg0.N) : win0_2.index t 0 = t.val ∧ win0_2.index t 1 = 0 := by revert t; decide +kernel
theorem index3 (t : Fin cfg0.N) : win0_3.index t 0 = t.val ∧ win0_3.index t 1 = 0 := by revert t; decide +kernel
theorem index4 (t : Fin cfg0.N) : win0_4.index t 0 = t.val ∧ win0_4.index t 1 = 0 := by revert t; decide +kernel
theorem index5 (t : Fin cfg0.N) : win0_5.index t 0 = t.val ∧ win0_5.index t 1 = 0 := by revert t; decide +kernel
theorem index6 (t : Fin cfg0.N) : win0_6.index t 0 = t.val ∧ win0_6.index t 1 = 0 := by revert t; decide +kernel
theorem index7 (t : Fin cfg0.N) : win0_7.index t 0 = t.val ∧ win0_7.index t 1 = 0 := by revert t; decide +kernel
theorem index8 (t : Fin cfg0.N) : win0_8.index t 0 = t.val ∧ win0_8.index t 1 = 0 := by revert t; decide +kernel

/-- The input blocks of a point: the parameter, the two means, and the parts of the gradient. -/
abbrev weight (t : Fin cfg0.N) : FVec Ideal S256x512 .f32 := iblk m c 0 t
abbrev mean (t : Fin cfg0.N) : FVec Ideal S256x512 .f32 := iblk m c 1 t
abbrev square (t : Fin cfg0.N) : FVec Ideal S256x512 .f32 := iblk m c 2 t
abbrev first (t : Fin cfg0.N) : FVec Ideal S256x512 .f32 := iblk m c 3 t
abbrev second (t : Fin cfg0.N) : FVec Ideal S256x512 .f32 := iblk m c 4 t

/-- Place `r` of row block `p` of the 4. -/
abbrev place (p : Fin 4) (r : Fin 256) : Fin 1024 := ⟨256 * p.val + r.val, by omega⟩

theorem weight_blk (t : Fin cfg0.N) (p : Fin 4) (hp : t.val = p.val) (r : Fin 256) (l : Fin 512) : weight m c t (ix2 r l) = m ((c : Thread nD τ).loc main_arg0) (ix2 (place p r) l) := by
  unfold weight iblk
  rw [View.read_apply]
  refine (congrArg (V m c main_arg0) (funext fun a => Fin.ext ?_)).trans (congrFun (V_main_arg0 m c) _)
  match a with
  | ⟨0, _⟩ => show win0_0.index t 0 * 256 + 1 * r.val = 256 * p.val + r.val; rw [(index0 t).1, hp]; omega
  | ⟨1, _⟩ => show win0_0.index t 1 * 512 + 1 * l.val = l.val; rw [(index0 t).2, Nat.zero_mul, Nat.zero_add, Nat.one_mul]

theorem mean_blk (t : Fin cfg0.N) (p : Fin 4) (hp : t.val = p.val) (r : Fin 256) (l : Fin 512) : mean m c t (ix2 r l) = m ((c : Thread nD τ).loc main_arg1) (ix2 (place p r) l) := by
  unfold mean iblk
  rw [View.read_apply]
  refine (congrArg (V m c main_arg1) (funext fun a => Fin.ext ?_)).trans (congrFun (V_main_arg1 m c) _)
  match a with
  | ⟨0, _⟩ => show win0_1.index t 0 * 256 + 1 * r.val = 256 * p.val + r.val; rw [(index1 t).1, hp]; omega
  | ⟨1, _⟩ => show win0_1.index t 1 * 512 + 1 * l.val = l.val; rw [(index1 t).2, Nat.zero_mul, Nat.zero_add, Nat.one_mul]

theorem square_blk (t : Fin cfg0.N) (p : Fin 4) (hp : t.val = p.val) (r : Fin 256) (l : Fin 512) : square m c t (ix2 r l) = m ((c : Thread nD τ).loc main_arg2) (ix2 (place p r) l) := by
  unfold square iblk
  rw [View.read_apply]
  refine (congrArg (V m c main_arg2) (funext fun a => Fin.ext ?_)).trans (congrFun (V_main_arg2 m c) _)
  match a with
  | ⟨0, _⟩ => show win0_2.index t 0 * 256 + 1 * r.val = 256 * p.val + r.val; rw [(index2 t).1, hp]; omega
  | ⟨1, _⟩ => show win0_2.index t 1 * 512 + 1 * l.val = l.val; rw [(index2 t).2, Nat.zero_mul, Nat.zero_add, Nat.one_mul]

theorem first_blk (t : Fin cfg0.N) (p : Fin 4) (hp : t.val = p.val) (r : Fin 256) (l : Fin 512) : first m c t (ix2 r l) = m ((c : Thread nD τ).loc main_arg3) (ix2 (place p r) l) := by
  unfold first iblk
  rw [View.read_apply]
  refine (congrArg (V m c main_arg3) (funext fun a => Fin.ext ?_)).trans (congrFun (V_main_arg3 m c) _)
  match a with
  | ⟨0, _⟩ => show win0_3.index t 0 * 256 + 1 * r.val = 256 * p.val + r.val; rw [(index3 t).1, hp]; omega
  | ⟨1, _⟩ => show win0_3.index t 1 * 512 + 1 * l.val = l.val; rw [(index3 t).2, Nat.zero_mul, Nat.zero_add, Nat.one_mul]

theorem second_blk (t : Fin cfg0.N) (p : Fin 4) (hp : t.val = p.val) (r : Fin 256) (l : Fin 512) : second m c t (ix2 r l) = m ((c : Thread nD τ).loc main_arg4) (ix2 (place p r) l) := by
  unfold second iblk
  rw [View.read_apply]
  refine (congrArg (V m c main_arg4) (funext fun a => Fin.ext ?_)).trans (congrFun (V_main_arg4 m c) _)
  match a with
  | ⟨0, _⟩ => show win0_4.index t 0 * 256 + 1 * r.val = 256 * p.val + r.val; rw [(index4 t).1, hp]; omega
  | ⟨1, _⟩ => show win0_4.index t 1 * 512 + 1 * l.val = l.val; rw [(index4 t).2, Nat.zero_mul, Nat.zero_add, Nat.one_mul]

/-! ## The arrays -/

section Whole

variable (W A B X Y : FVec Ideal S1024x512 .f32)

/-- The gradient, the move, the new mean and the new mean square as functions of the arguments. -/
def sums : FVec Ideal S1024x512 .f32 := fun y => X y + Y y
def moves : FVec Ideal S1024x512 .f32 := fun y => Step.move (W y) (A y) (B y) (X y + Y y)
def means : FVec Ideal S1024x512 .f32 := fun y => Step.mean (A y) (X y + Y y)
def squares : FVec Ideal S1024x512 .f32 := fun y => Step.square (B y) (X y + Y y)

variable (hW : W = m ((c : Thread nD τ).loc main_arg0)) (hA : A = m ((c : Thread nD τ).loc main_arg1)) (hB : B = m ((c : Thread nD τ).loc main_arg2)) (hX : X = m ((c : Thread nD τ).loc main_arg3)) (hY : Y = m ((c : Thread nD τ).loc main_arg4))

include hX hY in
theorem point_sums (t : Fin cfg0.N) (p : Fin 4) (hp : t.val = p.val) (r : Fin 256) (l : Fin 512) : k0_pay1 (F := Ideal) (first m c t) (second m c t) (ix2 r l) = sums X Y (ix2 (place p r) l) := by
  subst hX hY
  rw [sum_at, first_blk m c t p hp, second_blk m c t p hp]
  rfl

include hX hY in
theorem array_sums : (dats m 0 c).arrAt 5 cfg0.N = sums X Y := by
  refine (dats m 0 c).arrAt_eq_of_covers 5 _ (by decide +kernel) fun t hf y => ?_
  have ht : t.val < 4 := lt_of_lt_of_eq t.isLt (N_0 : cfg0.N = 4)
  have e := after0_5 m c t
  rw [point_sum] at e
  have i0 : win0_5.index t 0 * 256 + 1 * (y 0).val = 256 * t.val + (y 0).val := by rw [(index5 t).1]; omega
  have i1 : win0_5.index t 1 * 512 + 1 * (y 1).val = (y 1).val := by rw [(index5 t).2, Nat.zero_mul, Nat.zero_add, Nat.one_mul]
  have hy : y = (ix2 (y 0 : Fin 256) (y 1 : Fin 512) : S256x512.Idx) := eq_ix2 y
  have hz : ((cfg0.win 5).blk t).view.emb y = (ix2 (place ⟨t.val, ht⟩ (y 0)) (y 1) : S1024x512.Idx) :=
    funext fun a => match a with | ⟨0, _⟩ => Fin.ext i0 | ⟨1, _⟩ => Fin.ext i1
  rw [hz, ← point_sums m c X Y hX hY t ⟨t.val, ht⟩ rfl (y 0) (y 1), ← hy]
  exact congrFun e y

include hW hA hB hX hY in
theorem point_moves (t : Fin cfg0.N) (p : Fin 4) (hp : t.val = p.val) (r : Fin 256) (l : Fin 512) : k0_pay4 (F := Ideal) (first m c t) (second m c t) (mean m c t) (square m c t) (weight m c t) (ix2 r l) = moves W A B X Y (ix2 (place p r) l) := by
  subst hW hA hB hX hY
  rw [move_at, weight_blk m c t p hp, mean_blk m c t p hp, square_blk m c t p hp, first_blk m c t p hp, second_blk m c t p hp]
  rfl

include hW hA hB hX hY in
theorem array_moves : (dats m 0 c).arrAt 6 cfg0.N = moves W A B X Y := by
  refine (dats m 0 c).arrAt_eq_of_covers 6 _ (by decide +kernel) fun t hf y => ?_
  have ht : t.val < 4 := lt_of_lt_of_eq t.isLt (N_0 : cfg0.N = 4)
  have e := after0_6 m c t
  rw [point_move] at e
  have i0 : win0_6.index t 0 * 256 + 1 * (y 0).val = 256 * t.val + (y 0).val := by rw [(index6 t).1]; omega
  have i1 : win0_6.index t 1 * 512 + 1 * (y 1).val = (y 1).val := by rw [(index6 t).2, Nat.zero_mul, Nat.zero_add, Nat.one_mul]
  have hy : y = (ix2 (y 0 : Fin 256) (y 1 : Fin 512) : S256x512.Idx) := eq_ix2 y
  have hz : ((cfg0.win 6).blk t).view.emb y = (ix2 (place ⟨t.val, ht⟩ (y 0)) (y 1) : S1024x512.Idx) :=
    funext fun a => match a with | ⟨0, _⟩ => Fin.ext i0 | ⟨1, _⟩ => Fin.ext i1
  rw [hz, ← point_moves m c W A B X Y hW hA hB hX hY t ⟨t.val, ht⟩ rfl (y 0) (y 1), ← hy]
  exact congrFun e y

include hA hX hY in
theorem point_means (t : Fin cfg0.N) (p : Fin 4) (hp : t.val = p.val) (r : Fin 256) (l : Fin 512) : k0_pay2 (F := Ideal) (first m c t) (second m c t) (mean m c t) (ix2 r l) = means A X Y (ix2 (place p r) l) := by
  subst hA hX hY
  rw [mean_at, mean_blk m c t p hp, first_blk m c t p hp, second_blk m c t p hp]
  rfl

include hA hX hY in
theorem array_means : (dats m 0 c).arrAt 7 cfg0.N = means A X Y := by
  refine (dats m 0 c).arrAt_eq_of_covers 7 _ (by decide +kernel) fun t hf y => ?_
  have ht : t.val < 4 := lt_of_lt_of_eq t.isLt (N_0 : cfg0.N = 4)
  have e := after0_7 m c t
  rw [point_mean] at e
  have i0 : win0_7.index t 0 * 256 + 1 * (y 0).val = 256 * t.val + (y 0).val := by rw [(index7 t).1]; omega
  have i1 : win0_7.index t 1 * 512 + 1 * (y 1).val = (y 1).val := by rw [(index7 t).2, Nat.zero_mul, Nat.zero_add, Nat.one_mul]
  have hy : y = (ix2 (y 0 : Fin 256) (y 1 : Fin 512) : S256x512.Idx) := eq_ix2 y
  have hz : ((cfg0.win 7).blk t).view.emb y = (ix2 (place ⟨t.val, ht⟩ (y 0)) (y 1) : S1024x512.Idx) :=
    funext fun a => match a with | ⟨0, _⟩ => Fin.ext i0 | ⟨1, _⟩ => Fin.ext i1
  rw [hz, ← point_means m c A X Y hA hX hY t ⟨t.val, ht⟩ rfl (y 0) (y 1), ← hy]
  exact congrFun e y

include hB hX hY in
theorem point_squares (t : Fin cfg0.N) (p : Fin 4) (hp : t.val = p.val) (r : Fin 256) (l : Fin 512) : k0_pay3 (F := Ideal) (first m c t) (second m c t) (square m c t) (ix2 r l) = squares B X Y (ix2 (place p r) l) := by
  subst hB hX hY
  rw [square_at, square_blk m c t p hp, first_blk m c t p hp, second_blk m c t p hp]
  rfl

include hB hX hY in
theorem array_squares : (dats m 0 c).arrAt 8 cfg0.N = squares B X Y := by
  refine (dats m 0 c).arrAt_eq_of_covers 8 _ (by decide +kernel) fun t hf y => ?_
  have ht : t.val < 4 := lt_of_lt_of_eq t.isLt (N_0 : cfg0.N = 4)
  have e := after0_8 m c t
  rw [point_square] at e
  have i0 : win0_8.index t 0 * 256 + 1 * (y 0).val = 256 * t.val + (y 0).val := by rw [(index8 t).1]; omega
  have i1 : win0_8.index t 1 * 512 + 1 * (y 1).val = (y 1).val := by rw [(index8 t).2, Nat.zero_mul, Nat.zero_add, Nat.one_mul]
  have hy : y = (ix2 (y 0 : Fin 256) (y 1 : Fin 512) : S256x512.Idx) := eq_ix2 y
  have hz : ((cfg0.win 8).blk t).view.emb y = (ix2 (place ⟨t.val, ht⟩ (y 0)) (y 1) : S1024x512.Idx) :=
    funext fun a => match a with | ⟨0, _⟩ => Fin.ext i0 | ⟨1, _⟩ => Fin.ext i1
  rw [hz, ← point_squares m c B X Y hB hX hY t ⟨t.val, ht⟩ rfl (y 0) (y 1), ← hy]
  exact congrFun e y

end Whole

theorem agree : Cert.algebraic_Kernel18Ideal_Reference18Ideal (hKernel18Ideal := Cert.Kernel18Ideal.Gen.facts) (hReference18Ideal := Cert.Reference18Ideal.Gen.facts) := by
  intro m g m' g' _ he
  refine ⟨fun c => (dats m 0 c).arrAt 5 cfg0.N, fun c => (dats m 0 c).arrAt 6 cfg0.N, fun c => (dats m 0 c).arrAt 7 cfg0.N, fun c => (dats m 0 c).arrAt 8 cfg0.N,
    Cert.Kernel18Ideal.Value.run_blocks m g, ?_⟩
  refine (θ_run _ _ _).mono (fun r h c => ?_) (Cert.Reference18Ideal.Value.run m' g')
  obtain ⟨r0, r1, r2, r3, rest⟩ := h c
  obtain ⟨e0, e1, e2, e3, e4⟩ := he c
  exact ⟨r0.trans (array_sums m c _ _ e3 e4).symm,
    r1.trans ((Step.arrayMove_eq Cert.Reference18Ideal.Gen.bcast_S_S1024x512 _ _ _ _).trans (array_moves m c _ _ _ _ _ e0 e1 e2 e3 e4).symm),
    r2.trans ((Step.arrayMean_eq Cert.Reference18Ideal.Gen.bcast_S_S1024x512 _ _).trans (array_means m c _ _ _ e1 e3 e4).symm),
    r3.trans ((Step.arraySquare_eq Cert.Reference18Ideal.Gen.bcast_S_S1024x512 _ _).trans (array_squares m c _ _ _ e2 e3 e4).symm), rest⟩

end Cert.StepBranch

end
-- ==== Proof.StepPool.lean ====
/-
  The optimiser's step of the pool mixer's weight. The only grid point adds the two parts of the gradient and stores the sum,
  the weight's move and the two new means.
-/
module

public import proofs.«01_k».proof.Proof.Step
public import proofs.«01_k».proof.Proof.Gen.Kernel19Ideal.Value
public import proofs.«01_k».proof.Proof.Gen.Reference19Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.StepPool

open Cert.Kernel19Ideal Cert.Kernel19Ideal.Gen Cert.Kernel19Ideal.Value Idealize.ShloMosaic Idealize.ShloMosaic.TcCoe Idealize.SL.Sem

/-! ## One grid point -/

section Point

variable (x0 x1 x2 x3 x4 : FVec Ideal S256x256 .f32)

theorem point_sum : out0_5 (F := Ideal) x0 x1 x2 x3 x4 = k0_pay1 (F := Ideal) x3 x4 := by
  frame_out

theorem point_move : out0_6 (F := Ideal) x0 x1 x2 x3 x4 = k0_pay4 (F := Ideal) x3 x4 x1 x2 x0 := by
  frame_out

theorem point_mean : out0_7 (F := Ideal) x0 x1 x2 x3 x4 = k0_pay2 (F := Ideal) x3 x4 x1 := by
  frame_out

theorem point_square : out0_8 (F := Ideal) x0 x1 x2 x3 x4 = k0_pay3 (F := Ideal) x3 x4 x2 := by
  frame_out

theorem sum_at (r : Fin 256) (l : Fin 256) : k0_pay1 (F := Ideal) x3 x4 (ix2 r l) = x3 (ix2 r l) + x4 (ix2 r l) := by
  unfold k0_pay1
  pointwise

theorem mean_at (r : Fin 256) (l : Fin 256) : k0_pay2 (F := Ideal) x3 x4 x1 (ix2 r l) = Step.mean (x1 (ix2 r l)) (x3 (ix2 r l) + x4 (ix2 r l)) := by
  unfold k0_pay2 k0_pay1 Step.mean
  pointwise

theorem square_at (r : Fin 256) (l : Fin 256) : k0_pay3 (F := Ideal) x3 x4 x2 (ix2 r l) = Step.square (x2 (ix2 r l)) (x3 (ix2 r l) + x4 (ix2 r l)) := by
  unfold k0_pay3 k0_pay1 Step.square
  pointwise

theorem move_at (r : Fin 256) (l : Fin 256) : k0_pay4 (F := Ideal) x3 x4 x1 x2 x0 (ix2 r l) = Step.move (x0 (ix2 r l)) (x1 (ix2 r l)) (x2 (ix2 r l)) (x3 (ix2 r l) + x4 (ix2 r l)) := by
  unfold k0_pay4 Step.move
  simp only [← mean_at, ← square_at]
  pointwise

end Point

/-! ## The blocks a point is handed -/

variable (m : (ℓ : Loc nD τ sig) → Buf (Elt Ideal) ℓ) (c : Dev nD)

theorem index0 (t : Fin cfg0.N) : win0_0.index t 0 = 0 ∧ win0_0.index t 1 = 0 := by revert t; decide +kernel
theorem index1 (t : Fin cfg0.N) : win0_1.index t 0 = 0 ∧ win0_1.index t 1 = 0 := by revert t; decide +kernel
theorem index2 (t : Fin cfg0.N) : win0_2.index t 0 = 0 ∧ win0_2.index t 1 = 0 := by revert t; decide +kernel
theorem index3 (t : Fin cfg0.N) : win0_3.index t 0 = 0 ∧ win0_3.index t 1 = 0 := by revert t; decide +kernel
theorem index4 (t : Fin cfg0.N) : win0_4.index t 0 = 0 ∧ win0_4.index t 1 = 0 := by revert t; decide +kernel
theorem index5 (t : Fin cfg0.N) : win0_5.index t 0 = 0 ∧ win0_5.index t 1 = 0 := by revert t; decide +kernel
theorem index6 (t : Fin cfg0.N) : win0_6.index t 0 = 0 ∧ win0_6.index t 1 = 0 := by revert t; decide +kernel
theorem index7 (t : Fin cfg0.N) : win0_7.index t 0 = 0 ∧ win0_7.index t 1 = 0 := by revert t; decide +kernel
theorem index8 (t : Fin cfg0.N) : win0_8.index t 0 = 0 ∧ win0_8.index t 1 = 0 := by revert t; decide +kernel

/-- The input blocks of a point: the parameter, the two means, and the parts of the gradient. -/
abbrev weight (t : Fin cfg0.N) : FVec Ideal S256x256 .f32 := iblk m c 0 t
abbrev mean (t : Fin cfg0.N) : FVec Ideal S256x256 .f32 := iblk m c 1 t
abbrev square (t : Fin cfg0.N) : FVec Ideal S256x256 .f32 := iblk m c 2 t
abbrev first (t : Fin cfg0.N) : FVec Ideal S256x256 .f32 := iblk m c 3 t
abbrev second (t : Fin cfg0.N) : FVec Ideal S256x256 .f32 := iblk m c 4 t

theorem weight_blk (t : Fin cfg0.N) (r : Fin 256) (l : Fin 256) : weight m c t (ix2 r l) = m ((c : Thread nD τ).loc main_arg0) (ix2 r l) := by
  unfold weight iblk
  rw [View.read_apply]
  refine (congrArg (V m c main_arg0) (funext fun a => Fin.ext ?_)).trans (congrFun (V_main_arg0 m c) _)
  match a with
  | ⟨0, _⟩ => show win0_0.index t 0 * 256 + 1 * r.val = r.val; rw [(index0 t).1]; omega
  | ⟨1, _⟩ => show win0_0.index t 1 * 256 + 1 * l.val = l.val; rw [(index0 t).2, Nat.zero_mul, Nat.zero_add, Nat.one_mul]

theorem mean_blk (t : Fin cfg0.N) (r : Fin 256) (l : Fin 256) : mean m c t (ix2 r l) = m ((c : Thread nD τ).loc main_arg1) (ix2 r l) := by
  unfold mean iblk
  rw [View.read_apply]
  refine (congrArg (V m c main_arg1) (funext fun a => Fin.ext ?_)).trans (congrFun (V_main_arg1 m c) _)
  match a with
  | ⟨0, _⟩ => show win0_1.index t 0 * 256 + 1 * r.val = r.val; rw [(index1 t).1]; omega
  | ⟨1, _⟩ => show win0_1.index t 1 * 256 + 1 * l.val = l.val; rw [(index1 t).2, Nat.zero_mul, Nat.zero_add, Nat.one_mul]

theorem square_blk (t : Fin cfg0.N) (r : Fin 256) (l : Fin 256) : square m c t (ix2 r l) = m ((c : Thread nD τ).loc main_arg2) (ix2 r l) := by
  unfold square iblk
  rw [View.read_apply]
  refine (congrArg (V m c main_arg2) (funext fun a => Fin.ext ?_)).trans (congrFun (V_main_arg2 m c) _)
  match a with
  | ⟨0, _⟩ => show win0_2.index t 0 * 256 + 1 * r.val = r.val; rw [(index2 t).1]; omega
  | ⟨1, _⟩ => show win0_2.index t 1 * 256 + 1 * l.val = l.val; rw [(index2 t).2, Nat.zero_mul, Nat.zero_add, Nat.one_mul]

theorem first_blk (t : Fin cfg0.N) (r : Fin 256) (l : Fin 256) : first m c t (ix2 r l) = m ((c : Thread nD τ).loc main_arg3) (ix2 r l) := by
  unfold first iblk
  rw [View.read_apply]
  refine (congrArg (V m c main_arg3) (funext fun a => Fin.ext ?_)).trans (congrFun (V_main_arg3 m c) _)
  match a with
  | ⟨0, _⟩ => show win0_3.index t 0 * 256 + 1 * r.val = r.val; rw [(index3 t).1]; omega
  | ⟨1, _⟩ => show win0_3.index t 1 * 256 + 1 * l.val = l.val; rw [(index3 t).2, Nat.zero_mul, Nat.zero_add, Nat.one_mul]

theorem second_blk (t : Fin cfg0.N) (r : Fin 256) (l : Fin 256) : second m c t (ix2 r l) = m ((c : Thread nD τ).loc main_arg4) (ix2 r l) := by
  unfold second iblk
  rw [View.read_apply]
  refine (congrArg (V m c main_arg4) (funext fun a => Fin.ext ?_)).trans (congrFun (V_main_arg4 m c) _)
  match a with
  | ⟨0, _⟩ => show win0_4.index t 0 * 256 + 1 * r.val = r.val; rw [(index4 t).1]; omega
  | ⟨1, _⟩ => show win0_4.index t 1 * 256 + 1 * l.val = l.val; rw [(index4 t).2, Nat.zero_mul, Nat.zero_add, Nat.one_mul]

/-! ## The arrays -/

section Whole

variable (W A B X Y : FVec Ideal S256x256 .f32)

/-- The gradient, the move, the new mean and the new mean square as functions of the arguments. -/
def sums : FVec Ideal S256x256 .f32 := fun y => X y + Y y
def moves : FVec Ideal S256x256 .f32 := fun y => Step.move (W y) (A y) (B y) (X y + Y y)
def means : FVec Ideal S256x256 .f32 := fun y => Step.mean (A y) (X y + Y y)
def squares : FVec Ideal S256x256 .f32 := fun y => Step.square (B y) (X y + Y y)

variable (hW : W = m ((c : Thread nD τ).loc main_arg0)) (hA : A = m ((c : Thread nD τ).loc main_arg1)) (hB : B = m ((c : Thread nD τ).loc main_arg2)) (hX : X = m ((c : Thread nD τ).loc main_arg3)) (hY : Y = m ((c : Thread nD τ).loc main_arg4))

include hX hY in
theorem point_sums (t : Fin cfg0.N) (r : Fin 256) (l : Fin 256) : k0_pay1 (F := Ideal) (first m c t) (second m c t) (ix2 r l) = sums X Y (ix2 r l) := by
  subst hX hY
  rw [sum_at, first_blk m c t, second_blk m c t]
  rfl

include hX hY in
theorem array_sums : (dats m 0 c).arrAt 5 cfg0.N = sums X Y := by
  refine (dats m 0 c).arrAt_eq_of_covers 5 _ (by decide +kernel) fun t hf y => ?_
  have e := after0_5 m c t
  rw [point_sum] at e
  have i0 : win0_5.index t 0 * 256 + 1 * (y 0).val = (y 0).val := by rw [(index5 t).1]; omega
  have i1 : win0_5.index t 1 * 256 + 1 * (y 1).val = (y 1).val := by rw [(index5 t).2, Nat.zero_mul, Nat.zero_add, Nat.one_mul]
  have hy : y = (ix2 (y 0 : Fin 256) (y 1 : Fin 256) : S256x256.Idx) := eq_ix2 y
  have hz : ((cfg0.win 5).blk t).view.emb y = (ix2 (y 0) (y 1) : S256x256.Idx) :=
    funext fun a => match a with | ⟨0, _⟩ => Fin.ext i0 | ⟨1, _⟩ => Fin.ext i1
  rw [hz, ← point_sums m c X Y hX hY t (y 0) (y 1), ← hy]
  exact congrFun e y

include hW hA hB hX hY in
theorem point_moves (t : Fin cfg0.N) (r : Fin 256) (l : Fin 256) : k0_pay4 (F := Ideal) (first m c t) (second m c t) (mean m c t) (square m c t) (weight m c t) (ix2 r l) = moves W A B X Y (ix2 r l) := by
  subst hW hA hB hX hY
  rw [move_at, weight_blk m c t, mean_blk m c t, square_blk m c t, first_blk m c t, second_blk m c t]
  rfl

include hW hA hB hX hY in
theorem array_moves : (dats m 0 c).arrAt 6 cfg0.N = moves W A B X Y := by
  refine (dats m 0 c).arrAt_eq_of_covers 6 _ (by decide +kernel) fun t hf y => ?_
  have e := after0_6 m c t
  rw [point_move] at e
  have i0 : win0_6.index t 0 * 256 + 1 * (y 0).val = (y 0).val := by rw [(index6 t).1]; omega
  have i1 : win0_6.index t 1 * 256 + 1 * (y 1).val = (y 1).val := by rw [(index6 t).2, Nat.zero_mul, Nat.zero_add, Nat.one_mul]
  have hy : y = (ix2 (y 0 : Fin 256) (y 1 : Fin 256) : S256x256.Idx) := eq_ix2 y
  have hz : ((cfg0.win 6).blk t).view.emb y = (ix2 (y 0) (y 1) : S256x256.Idx) :=
    funext fun a => match a with | ⟨0, _⟩ => Fin.ext i0 | ⟨1, _⟩ => Fin.ext i1
  rw [hz, ← point_moves m c W A B X Y hW hA hB hX hY t (y 0) (y 1), ← hy]
  exact congrFun e y

include hA hX hY in
theorem point_means (t : Fin cfg0.N) (r : Fin 256) (l : Fin 256) : k0_pay2 (F := Ideal) (first m c t) (second m c t) (mean m c t) (ix2 r l) = means A X Y (ix2 r l) := by
  subst hA hX hY
  rw [mean_at, mean_blk m c t, first_blk m c t, second_blk m c t]
  rfl

include hA hX hY in
theorem array_means : (dats m 0 c).arrAt 7 cfg0.N = means A X Y := by
  refine (dats m 0 c).arrAt_eq_of_covers 7 _ (by decide +kernel) fun t hf y => ?_
  have e := after0_7 m c t
  rw [point_mean] at e
  have i0 : win0_7.index t 0 * 256 + 1 * (y 0).val = (y 0).val := by rw [(index7 t).1]; omega
  have i1 : win0_7.index t 1 * 256 + 1 * (y 1).val = (y 1).val := by rw [(index7 t).2, Nat.zero_mul, Nat.zero_add, Nat.one_mul]
  have hy : y = (ix2 (y 0 : Fin 256) (y 1 : Fin 256) : S256x256.Idx) := eq_ix2 y
  have hz : ((cfg0.win 7).blk t).view.emb y = (ix2 (y 0) (y 1) : S256x256.Idx) :=
    funext fun a => match a with | ⟨0, _⟩ => Fin.ext i0 | ⟨1, _⟩ => Fin.ext i1
  rw [hz, ← point_means m c A X Y hA hX hY t (y 0) (y 1), ← hy]
  exact congrFun e y

include hB hX hY in
theorem point_squares (t : Fin cfg0.N) (r : Fin 256) (l : Fin 256) : k0_pay3 (F := Ideal) (first m c t) (second m c t) (square m c t) (ix2 r l) = squares B X Y (ix2 r l) := by
  subst hB hX hY
  rw [square_at, square_blk m c t, first_blk m c t, second_blk m c t]
  rfl

include hB hX hY in
theorem array_squares : (dats m 0 c).arrAt 8 cfg0.N = squares B X Y := by
  refine (dats m 0 c).arrAt_eq_of_covers 8 _ (by decide +kernel) fun t hf y => ?_
  have e := after0_8 m c t
  rw [point_square] at e
  have i0 : win0_8.index t 0 * 256 + 1 * (y 0).val = (y 0).val := by rw [(index8 t).1]; omega
  have i1 : win0_8.index t 1 * 256 + 1 * (y 1).val = (y 1).val := by rw [(index8 t).2, Nat.zero_mul, Nat.zero_add, Nat.one_mul]
  have hy : y = (ix2 (y 0 : Fin 256) (y 1 : Fin 256) : S256x256.Idx) := eq_ix2 y
  have hz : ((cfg0.win 8).blk t).view.emb y = (ix2 (y 0) (y 1) : S256x256.Idx) :=
    funext fun a => match a with | ⟨0, _⟩ => Fin.ext i0 | ⟨1, _⟩ => Fin.ext i1
  rw [hz, ← point_squares m c B X Y hB hX hY t (y 0) (y 1), ← hy]
  exact congrFun e y

end Whole

theorem agree : Cert.algebraic_Kernel19Ideal_Reference19Ideal (hKernel19Ideal := Cert.Kernel19Ideal.Gen.facts) (hReference19Ideal := Cert.Reference19Ideal.Gen.facts) := by
  intro m g m' g' _ he
  refine ⟨fun c => (dats m 0 c).arrAt 5 cfg0.N, fun c => (dats m 0 c).arrAt 6 cfg0.N, fun c => (dats m 0 c).arrAt 7 cfg0.N, fun c => (dats m 0 c).arrAt 8 cfg0.N,
    Cert.Kernel19Ideal.Value.run_blocks m g, ?_⟩
  refine (θ_run _ _ _).mono (fun r h c => ?_) (Cert.Reference19Ideal.Value.run m' g')
  obtain ⟨r0, r1, r2, r3, rest⟩ := h c
  obtain ⟨e0, e1, e2, e3, e4⟩ := he c
  exact ⟨r0.trans (array_sums m c _ _ e3 e4).symm,
    r1.trans ((Step.arrayMove_eq Cert.Reference19Ideal.Gen.bcast_S_S256x256 _ _ _ _).trans (array_moves m c _ _ _ _ _ e0 e1 e2 e3 e4).symm),
    r2.trans ((Step.arrayMean_eq Cert.Reference19Ideal.Gen.bcast_S_S256x256 _ _).trans (array_means m c _ _ _ e1 e3 e4).symm),
    r3.trans ((Step.arraySquare_eq Cert.Reference19Ideal.Gen.bcast_S_S256x256 _ _).trans (array_squares m c _ _ _ e2 e3 e4).symm), rest⟩

end Cert.StepPool

end
-- ==== Proof.StepRows.lean ====
/-
  The optimiser's step of the gains, biases and coefficients, kept as the rows of one array. The only grid point stores the
  gradient as it is handed, the move and the two new means.
-/
module

public import proofs.«01_k».proof.Proof.Step
public import proofs.«01_k».proof.Proof.Gen.Kernel20Ideal.Value
public import proofs.«01_k».proof.Proof.Gen.Reference20Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.StepRows

open Cert.Kernel20Ideal Cert.Kernel20Ideal.Gen Cert.Kernel20Ideal.Value Idealize.ShloMosaic Idealize.ShloMosaic.TcCoe Idealize.SL.Sem

/-! ## One grid point -/

section Point

variable (x0 x1 x2 x3 : FVec Ideal S8x2048 .f32)

theorem point_sum : out0_4 (F := Ideal) x0 x1 x2 x3 = x3 := by
  frame_out

theorem point_move : out0_5 (F := Ideal) x0 x1 x2 x3 = k0_pay3 (F := Ideal) x3 x1 x2 x0 := by
  frame_out

theorem point_mean : out0_6 (F := Ideal) x0 x1 x2 x3 = k0_pay1 (F := Ideal) x3 x1 := by
  frame_out

theorem point_square : out0_7 (F := Ideal) x0 x1 x2 x3 = k0_pay2 (F := Ideal) x3 x2 := by
  frame_out

theorem mean_at (r : Fin 8) (l : Fin 2048) : k0_pay1 (F := Ideal) x3 x1 (ix2 r l) = Step.mean (x1 (ix2 r l)) (x3 (ix2 r l)) := by
  unfold k0_pay1 Step.mean
  pointwise

theorem square_at (r : Fin 8) (l : Fin 2048) : k0_pay2 (F := Ideal) x3 x2 (ix2 r l) = Step.square (x2 (ix2 r l)) (x3 (ix2 r l)) := by
  unfold k0_pay2 Step.square
  pointwise

theorem move_at (r : Fin 8) (l : Fin 2048) : k0_pay3 (F := Ideal) x3 x1 x2 x0 (ix2 r l) = Step.move (x0 (ix2 r l)) (x1 (ix2 r l)) (x2 (ix2 r l)) (x3 (ix2 r l)) := by
  unfold k0_pay3 Step.move
  simp only [← mean_at, ← square_at]
  pointwise

end Point

/-! ## The blocks a point is handed -/

variable (m : (ℓ : Loc nD τ sig) → Buf (Elt Ideal) ℓ) (c : Dev nD)

theorem index0 (t : Fin cfg0.N) : win0_0.index t 0 = 0 ∧ win0_0.index t 1 = 0 := by revert t; decide +kernel
theorem index1 (t : Fin cfg0.N) : win0_1.index t 0 = 0 ∧ win0_1.index t 1 = 0 := by revert t; decide +kernel
theorem index2 (t : Fin cfg0.N) : win0_2.index t 0 = 0 ∧ win0_2.index t 1 = 0 := by revert t; decide +kernel
theorem index3 (t : Fin cfg0.N) : win0_3.index t 0 = 0 ∧ win0_3.index t 1 = 0 := by revert t; decide +kernel
theorem index4 (t : Fin cfg0.N) : win0_4.index t 0 = 0 ∧ win0_4.index t 1 = 0 := by revert t; decide +kernel
theorem index5 (t : Fin cfg0.N) : win0_5.index t 0 = 0 ∧ win0_5.index t 1 = 0 := by revert t; decide +kernel
theorem index6 (t : Fin cfg0.N) : win0_6.index t 0 = 0 ∧ win0_6.index t 1 = 0 := by revert t; decide +kernel
theorem index7 (t : Fin cfg0.N) : win0_7.index t 0 = 0 ∧ win0_7.index t 1 = 0 := by revert t; decide +kernel

/-- The input blocks of a point: the parameter, the two means, and the parts of the gradient. -/
abbrev weight (t : Fin cfg0.N) : FVec Ideal S8x2048 .f32 := iblk m c 0 t
abbrev mean (t : Fin cfg0.N) : FVec Ideal S8x2048 .f32 := iblk m c 1 t
abbrev square (t : Fin cfg0.N) : FVec Ideal S8x2048 .f32 := iblk m c 2 t
abbrev first (t : Fin cfg0.N) : FVec Ideal S8x2048 .f32 := iblk m c 3 t

theorem weight_blk (t : Fin cfg0.N) (r : Fin 8) (l : Fin 2048) : weight m c t (ix2 r l) = m ((c : Thread nD τ).loc main_arg0) (ix2 r l) := by
  unfold weight iblk
  rw [View.read_apply]
  refine (congrArg (V m c main_arg0) (funext fun a => Fin.ext ?_)).trans (congrFun (V_main_arg0 m c) _)
  match a with
  | ⟨0, _⟩ => show win0_0.index t 0 * 8 + 1 * r.val = r.val; rw [(index0 t).1]; omega
  | ⟨1, _⟩ => show win0_0.index t 1 * 2048 + 1 * l.val = l.val; rw [(index0 t).2, Nat.zero_mul, Nat.zero_add, Nat.one_mul]

theorem mean_blk (t : Fin cfg0.N) (r : Fin 8) (l : Fin 2048) : mean m c t (ix2 r l) = m ((c : Thread nD τ).loc main_arg1) (ix2 r l) := by
  unfold mean iblk
  rw [View.read_apply]
  refine (congrArg (V m c main_arg1) (funext fun a => Fin.ext ?_)).trans (congrFun (V_main_arg1 m c) _)
  match a with
  | ⟨0, _⟩ => show win0_1.index t 0 * 8 + 1 * r.val = r.val; rw [(index1 t).1]; omega
  | ⟨1, _⟩ => show win0_1.index t 1 * 2048 + 1 * l.val = l.val; rw [(index1 t).2, Nat.zero_mul, Nat.zero_add, Nat.one_mul]

theorem square_blk (t : Fin cfg0.N) (r : Fin 8) (l : Fin 2048) : square m c t (ix2 r l) = m ((c : Thread nD τ).loc main_arg2) (ix2 r l) := by
  unfold square iblk
  rw [View.read_apply]
  refine (congrArg (V m c main_arg2) (funext fun a => Fin.ext ?_)).trans (congrFun (V_main_arg2 m c) _)
  match a with
  | ⟨0, _⟩ => show win0_2.index t 0 * 8 + 1 * r.val = r.val; rw [(index2 t).1]; omega
  | ⟨1, _⟩ => show win0_2.index t 1 * 2048 + 1 * l.val = l.val; rw [(index2 t).2, Nat.zero_mul, Nat.zero_add, Nat.one_mul]

theorem first_blk (t : Fin cfg0.N) (r : Fin 8) (l : Fin 2048) : first m c t (ix2 r l) = m ((c : Thread nD τ).loc main_arg3) (ix2 r l) := by
  unfold first iblk
  rw [View.read_apply]
  refine (congrArg (V m c main_arg3) (funext fun a => Fin.ext ?_)).trans (congrFun (V_main_arg3 m c) _)
  match a with
  | ⟨0, _⟩ => show win0_3.index t 0 * 8 + 1 * r.val = r.val; rw [(index3 t).1]; omega
  | ⟨1, _⟩ => show win0_3.index t 1 * 2048 + 1 * l.val = l.val; rw [(index3 t).2, Nat.zero_mul, Nat.zero_add, Nat.one_mul]

/-! ## The arrays -/

section Whole

variable (W A B X : FVec Ideal S8x2048 .f32)

/-- The gradient, the move, the new mean and the new mean square as functions of the arguments. -/
def sums : FVec Ideal S8x2048 .f32 := X
def moves : FVec Ideal S8x2048 .f32 := fun y => Step.move (W y) (A y) (B y) (X y)
def means : FVec Ideal S8x2048 .f32 := fun y => Step.mean (A y) (X y)
def squares : FVec Ideal S8x2048 .f32 := fun y => Step.square (B y) (X y)

variable (hW : W = m ((c : Thread nD τ).loc main_arg0)) (hA : A = m ((c : Thread nD τ).loc main_arg1)) (hB : B = m ((c : Thread nD τ).loc main_arg2)) (hX : X = m ((c : Thread nD τ).loc main_arg3))

include hX in
theorem point_sums (t : Fin cfg0.N) (r : Fin 8) (l : Fin 2048) : first m c t (ix2 r l) = sums X (ix2 r l) := by
  subst hX
  rw [first_blk m c t]
  rfl

include hX in
theorem array_sums : (dats m 0 c).arrAt 4 cfg0.N = sums X := by
  refine (dats m 0 c).arrAt_eq_of_covers 4 _ (by decide +kernel) fun t hf y => ?_
  have e := after0_4 m c t
  rw [point_sum] at e
  have i0 : win0_4.index t 0 * 8 + 1 * (y 0).val = (y 0).val := by rw [(index4 t).1]; omega
  have i1 : win0_4.index t 1 * 2048 + 1 * (y 1).val = (y 1).val := by rw [(index4 t).2, Nat.zero_mul, Nat.zero_add, Nat.one_mul]
  have hy : y = (ix2 (y 0 : Fin 8) (y 1 : Fin 2048) : S8x2048.Idx) := eq_ix2 y
  have hz : ((cfg0.win 4).blk t).view.emb y = (ix2 (y 0) (y 1) : S8x2048.Idx) :=
    funext fun a => match a with | ⟨0, _⟩ => Fin.ext i0 | ⟨1, _⟩ => Fin.ext i1
  rw [hz, ← point_sums m c X hX t (y 0) (y 1), ← hy]
  exact congrFun e y

include hW hA hB hX in
theorem point_moves (t : Fin cfg0.N) (r : Fin 8) (l : Fin 2048) : k0_pay3 (F := Ideal) (first m c t) (mean m c t) (square m c t) (weight m c t) (ix2 r l) = moves W A B X (ix2 r l) := by
  subst hW hA hB hX
  rw [move_at, weight_blk m c t, mean_blk m c t, square_blk m c t, first_blk m c t]
  rfl

include hW hA hB hX in
theorem array_moves : (dats m 0 c).arrAt 5 cfg0.N = moves W A B X := by
  refine (dats m 0 c).arrAt_eq_of_covers 5 _ (by decide +kernel) fun t hf y => ?_
  have e := after0_5 m c t
  rw [point_move] at e
  have i0 : win0_5.index t 0 * 8 + 1 * (y 0).val = (y 0).val := by rw [(index5 t).1]; omega
  have i1 : win0_5.index t 1 * 2048 + 1 * (y 1).val = (y 1).val := by rw [(index5 t).2, Nat.zero_mul, Nat.zero_add, Nat.one_mul]
  have hy : y = (ix2 (y 0 : Fin 8) (y 1 : Fin 2048) : S8x2048.Idx) := eq_ix2 y
  have hz : ((cfg0.win 5).blk t).view.emb y = (ix2 (y 0) (y 1) : S8x2048.Idx) :=
    funext fun a => match a with | ⟨0, _⟩ => Fin.ext i0 | ⟨1, _⟩ => Fin.ext i1
  rw [hz, ← point_moves m c W A B X hW hA hB hX t (y 0) (y 1), ← hy]
  exact congrFun e y

include hA hX in
theorem point_means (t : Fin cfg0.N) (r : Fin 8) (l : Fin 2048) : k0_pay1 (F := Ideal) (first m c t) (mean m c t) (ix2 r l) = means A X (ix2 r l) := by
  subst hA hX
  rw [mean_at, mean_blk m c t, first_blk m c t]
  rfl

include hA hX in
theorem array_means : (dats m 0 c).arrAt 6 cfg0.N = means A X := by
  refine (dats m 0 c).arrAt_eq_of_covers 6 _ (by decide +kernel) fun t hf y => ?_
  have e := after0_6 m c t
  rw [point_mean] at e
  have i0 : win0_6.index t 0 * 8 + 1 * (y 0).val = (y 0).val := by rw [(index6 t).1]; omega
  have i1 : win0_6.index t 1 * 2048 + 1 * (y 1).val = (y 1).val := by rw [(index6 t).2, Nat.zero_mul, Nat.zero_add, Nat.one_mul]
  have hy : y = (ix2 (y 0 : Fin 8) (y 1 : Fin 2048) : S8x2048.Idx) := eq_ix2 y
  have hz : ((cfg0.win 6).blk t).view.emb y = (ix2 (y 0) (y 1) : S8x2048.Idx) :=
    funext fun a => match a with | ⟨0, _⟩ => Fin.ext i0 | ⟨1, _⟩ => Fin.ext i1
  rw [hz, ← point_means m c A X hA hX t (y 0) (y 1), ← hy]
  exact congrFun e y

include hB hX in
theorem point_squares (t : Fin cfg0.N) (r : Fin 8) (l : Fin 2048) : k0_pay2 (F := Ideal) (first m c t) (square m c t) (ix2 r l) = squares B X (ix2 r l) := by
  subst hB hX
  rw [square_at, square_blk m c t, first_blk m c t]
  rfl

include hB hX in
theorem array_squares : (dats m 0 c).arrAt 7 cfg0.N = squares B X := by
  refine (dats m 0 c).arrAt_eq_of_covers 7 _ (by decide +kernel) fun t hf y => ?_
  have e := after0_7 m c t
  rw [point_square] at e
  have i0 : win0_7.index t 0 * 8 + 1 * (y 0).val = (y 0).val := by rw [(index7 t).1]; omega
  have i1 : win0_7.index t 1 * 2048 + 1 * (y 1).val = (y 1).val := by rw [(index7 t).2, Nat.zero_mul, Nat.zero_add, Nat.one_mul]
  have hy : y = (ix2 (y 0 : Fin 8) (y 1 : Fin 2048) : S8x2048.Idx) := eq_ix2 y
  have hz : ((cfg0.win 7).blk t).view.emb y = (ix2 (y 0) (y 1) : S8x2048.Idx) :=
    funext fun a => match a with | ⟨0, _⟩ => Fin.ext i0 | ⟨1, _⟩ => Fin.ext i1
  rw [hz, ← point_squares m c B X hB hX t (y 0) (y 1), ← hy]
  exact congrFun e y

end Whole

theorem agree : Cert.algebraic_Kernel20Ideal_Reference20Ideal (hKernel20Ideal := Cert.Kernel20Ideal.Gen.facts) (hReference20Ideal := Cert.Reference20Ideal.Gen.facts) := by
  intro m g m' g' _ he
  refine ⟨fun c => (dats m 0 c).arrAt 4 cfg0.N, fun c => (dats m 0 c).arrAt 5 cfg0.N, fun c => (dats m 0 c).arrAt 6 cfg0.N, fun c => (dats m 0 c).arrAt 7 cfg0.N,
    Cert.Kernel20Ideal.Value.run_blocks m g, ?_⟩
  refine (θ_run _ _ _).mono (fun r h c => ?_) (Cert.Reference20Ideal.Value.run m' g')
  obtain ⟨r0, r1, r2, r3, rest⟩ := h c
  obtain ⟨e0, e1, e2, e3⟩ := he c
  exact ⟨r0.trans (array_sums m c _ e3).symm,
    r1.trans ((Step.arrayMove_eq Cert.Reference20Ideal.Gen.bcast_S_S8x2048 _ _ _ _).trans (array_moves m c _ _ _ _ e0 e1 e2 e3).symm),
    r2.trans ((Step.arrayMean_eq Cert.Reference20Ideal.Gen.bcast_S_S8x2048 _ _).trans (array_means m c _ _ e1 e3).symm),
    r3.trans ((Step.arraySquare_eq Cert.Reference20Ideal.Gen.bcast_S_S8x2048 _ _).trans (array_squares m c _ _ e2 e3).symm), rest⟩

end Cert.StepRows

end
-- ==== Proof.PoolGrad.lean ====
/-
  The gradient behind the pool mixer's branch projection. A grid point multiplies a block of rows of the gradient with the
  transposed weight of the branch; it stores the product weighted by the mixer's scales, and, for the gradient of the scales,
  the sums over the block's rows of the product times the mixer's unscaled rows. The eight points' blocks are the two whole
  arrays.
-/
module

public import proofs.«01_k».proof.Proof.Gen.Kernel21Ideal.Value
public import proofs.«01_k».proof.Proof.Gen.Reference21Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.PoolGrad

open Cert.Kernel21Ideal Cert.Kernel21Ideal.Gen Cert.Kernel21Ideal.Value Idealize.ShloMosaic Idealize.ShloMosaic.TcCoe Idealize.SL.Sem

/-! ## One grid point -/

section Point

variable (x0 : Vec Ideal S1024x2048 .bf16) (x1 : Vec Ideal S2048x1024 .bf16) (x2 : Vec Ideal S1024x1024 .bf16) (x3 : Vec Ideal S1x1024 .f32)

theorem point_rows : out0_4 (F := Ideal) x0 x1 x2 x3 = k0_pay2 (F := Ideal) x0 x1 x3 := by
  frame_out

theorem point_sums : out0_5 (F := Ideal) x0 x1 x2 x3 = k0_pay3 (F := Ideal) x0 x1 x2 := by
  frame_out

/-- A point's product at an index. -/
def dot (r l : Fin 1024) : EReal := ∑ k : Fin 2048, x0 (ix2 r k) * x1 (ix2 k l)

theorem rows_at (r l : Fin 1024) : k0_pay2 (F := Ideal) x0 x1 x3 (ix2 r l) = dot x0 x1 r l * x3 (ix2 0 l) := by
  unfold k0_pay2 k0_pay1 dot
  pointwise

/-- The sums of a point are in the first of eight rows; the others are zero. -/
def rowSums (q : Fin 8) (l : Fin 1024) : EReal := if q.val = 0 then ∑ r : Fin 1024, dot x0 x1 r l * x2 (ix2 r l) else 0

/-- The bit that picks the first of the eight rows. -/
theorem first_row : ∀ q : Fin 8, IntOp.cmpi .eq (BitVec.ofNat 32 q.val) 0#32 = if q.val = 0 then 1#1 else 0#1 := by
  decide

theorem sums_at (q : Fin 8) (l : Fin 1024) : k0_pay3 (F := Ideal) x0 x1 x2 (ix3 0 q l) = rowSums x0 x1 x2 q l := by
  unfold k0_pay3 k0_pay1 rowSums dot
  pointwise
  rw [first_row q]
  split <;> rfl

end Point

/-! ## The blocks a point is handed -/

variable (m : (ℓ : Loc nD τ sig) → Buf (Elt Ideal) ℓ) (c : Dev nD)

theorem index0 (t : Fin cfg0.N) : win0_0.index t 0 = t.val ∧ win0_0.index t 1 = 0 := by revert t; decide +kernel
theorem index1 (t : Fin cfg0.N) : win0_1.index t 0 = 0 ∧ win0_1.index t 1 = 0 := by revert t; decide +kernel
theorem index2 (t : Fin cfg0.N) : win0_2.index t 0 = t.val ∧ win0_2.index t 1 = 0 := by revert t; decide +kernel
theorem index3 (t : Fin cfg0.N) : win0_3.index t 0 = 0 ∧ win0_3.index t 1 = 0 := by revert t; decide +kernel
theorem index4 (t : Fin cfg0.N) : win0_4.index t 0 = t.val ∧ win0_4.index t 1 = 0 := by revert t; decide +kernel
theorem index5 (t : Fin cfg0.N) : win0_5.index t 0 = t.val ∧ win0_5.index t 1 = 0 ∧ win0_5.index t 2 = 0 := by revert t; decide +kernel

/-- The input blocks of a point. -/
abbrev rows (t : Fin cfg0.N) : Vec Ideal S1024x2048 .bf16 := iblk m c 0 t
abbrev weight (t : Fin cfg0.N) : Vec Ideal S2048x1024 .bf16 := iblk m c 1 t
abbrev mixed (t : Fin cfg0.N) : Vec Ideal S1024x1024 .bf16 := iblk m c 2 t
abbrev scales (t : Fin cfg0.N) : Vec Ideal S1x1024 .f32 := iblk m c 3 t

/-- The gradient's rows, the weight and the mixer's rows, as they are handed. -/
abbrev rowsOf (X : FVec Ideal S8192x2048 .f32) : FVec Ideal S8192x2048 .bf16 := truncf .bf16 X bitsLt_bf16_f32
abbrev slabsOf (W : FVec Ideal S1024x2048 .f32) : FVec Ideal S4x512x1024 .bf16 :=
  transpose S4x512x1024 [0, 2, 1] (truncf .bf16 (transpose S4x1024x512 [1, 0, 2] (shapeCast S1024x4x512 W shapeCasts_S1024x2048_S1024x4x512 : FVec Ideal S1024x4x512 .f32)
    transposes_S1024x4x512_S4x1024x512_1_0_2 : FVec Ideal S4x1024x512 .f32) bitsLt_bf16_f32 : FVec Ideal S4x1024x512 .bf16) transposes_S4x1024x512_S4x512x1024_0_2_1
abbrev weightOf (W : FVec Ideal S1024x2048 .f32) : FVec Ideal S2048x1024 .bf16 := shapeCast S2048x1024 (slabsOf W) shapeCasts_S4x512x1024_S2048x1024
abbrev mixedOf (X : FVec Ideal S8192x1024 .f32) : FVec Ideal S8192x1024 .bf16 := truncf .bf16 X bitsLt_bf16_f32

theorem rows_handed : V m c main_v0 = rowsOf (m ((c : Thread nD τ).loc main_arg0)) := by
  have e : V m c main_v0 = StableHlo.after hostOps0 (fun b => m (c, b)) (Proc.devRef .tc main_v0) := rfl
  rw [e]
  simp only [hostOps0]
  after_results_simp

theorem weight_handed : V m c main_v6 = weightOf (m ((c : Thread nD τ).loc main_arg1)) := by
  have e : V m c main_v6 = StableHlo.after hostOps0 (fun b => m (c, b)) (Proc.devRef .tc main_v6) := rfl
  rw [e]
  simp only [hostOps0]
  after_results_simp
  rfl

theorem mixed_handed : V m c main_v4 = mixedOf (m ((c : Thread nD τ).loc main_arg2)) := by
  have e : V m c main_v4 = StableHlo.after hostOps0 (fun b => m (c, b)) (Proc.devRef .tc main_v4) := rfl
  rw [e]
  simp only [hostOps0]
  after_results_simp

/-- Place `r` of row block `p` of eight. -/
abbrev place (p : Fin 8) (r : Fin 1024) : Fin 8192 := ⟨1024 * p.val + r.val, by omega⟩

theorem rows_blk (t : Fin cfg0.N) (p : Fin 8) (hp : t.val = p.val) (r : Fin 1024) (k : Fin 2048) (A : FVec Ideal S8192x2048 .bf16) (hA : V m c main_v0 = A) :
    rows m c t (ix2 r k) = A (ix2 (place p r) k) := by
  subst hA
  unfold rows iblk
  rw [View.read_apply]
  refine congrArg (V m c main_v0) (funext fun a => Fin.ext ?_)
  match a with
  | ⟨0, _⟩ => show win0_0.index t 0 * 1024 + 1 * r.val = 1024 * p.val + r.val; rw [(index0 t).1, hp]; omega
  | ⟨1, _⟩ => show win0_0.index t 1 * 2048 + 1 * k.val = k.val; rw [(index0 t).2]; omega

theorem weight_blk (t : Fin cfg0.N) (r : Fin 2048) (k : Fin 1024) (A : FVec Ideal S2048x1024 .bf16) (hA : V m c main_v6 = A) :
    weight m c t (ix2 r k) = A (ix2 r k) := by
  subst hA
  unfold weight iblk
  rw [View.read_apply]
  refine congrArg (V m c main_v6) (funext fun a => Fin.ext ?_)
  match a with
  | ⟨0, _⟩ => show win0_1.index t 0 * 2048 + 1 * r.val = r.val; rw [(index1 t).1]; omega
  | ⟨1, _⟩ => show win0_1.index t 1 * 1024 + 1 * k.val = k.val; rw [(index1 t).2]; omega

theorem mixed_blk (t : Fin cfg0.N) (p : Fin 8) (hp : t.val = p.val) (r : Fin 1024) (k : Fin 1024) (A : FVec Ideal S8192x1024 .bf16) (hA : V m c main_v4 = A) :
    mixed m c t (ix2 r k) = A (ix2 (place p r) k) := by
  subst hA
  unfold mixed iblk
  rw [View.read_apply]
  refine congrArg (V m c main_v4) (funext fun a => Fin.ext ?_)
  match a with
  | ⟨0, _⟩ => show win0_2.index t 0 * 1024 + 1 * r.val = 1024 * p.val + r.val; rw [(index2 t).1, hp]; omega
  | ⟨1, _⟩ => show win0_2.index t 1 * 1024 + 1 * k.val = k.val; rw [(index2 t).2]; omega

theorem scales_blk (t : Fin cfg0.N) (r : Fin 1) (k : Fin 1024) (A : FVec Ideal S1x1024 .f32) (hA : V m c main_arg3 = A) :
    scales m c t (ix2 r k) = A (ix2 r k) := by
  subst hA
  unfold scales iblk
  rw [View.read_apply]
  refine congrArg (V m c main_arg3) (funext fun a => Fin.ext ?_)
  match a with
  | ⟨0, _⟩ => show win0_3.index t 0 * 1 + 1 * r.val = r.val; rw [(index3 t).1]; omega
  | ⟨1, _⟩ => show win0_3.index t 1 * 1024 + 1 * k.val = k.val; rw [(index3 t).2]; omega

theorem rowsOf_at (X : FVec Ideal S8192x2048 .f32) (i : Fin 8192) (k : Fin 2048) : rowsOf X (ix2 i k) = X (ix2 i k) := by
  unfold rowsOf
  pointwise

theorem mixedOf_at (X : FVec Ideal S8192x1024 .f32) (i : Fin 8192) (k : Fin 1024) : mixedOf X (ix2 i k) = X (ix2 i k) := by
  unfold mixedOf
  pointwise

theorem weightOf_at (W : FVec Ideal S1024x2048 .f32) (k : Fin 2048) (j : Fin 1024) : weightOf W (ix2 k j) = W (ix2 j k) := by
  unfold weightOf slabsOf
  pointwise

/-! ## The arrays, and the reference -/

section Whole

variable (D : FVec Ideal S8192x2048 .f32) (W : FVec Ideal S1024x2048 .f32) (P : FVec Ideal S8192x1024 .f32) (G : FVec Ideal S1x1024 .f32)

/-- The whole product at an index, and the two results as functions of the arguments. -/
def whole (i : Fin 8192) (j : Fin 1024) : EReal := ∑ k : Fin 2048, D (ix2 i k) * W (ix2 j k)
def rowsGrad : FVec Ideal S8192x1024 .bf16 := fun y => whole D W (y 0) (y 1) * G (ix2 0 (y 1 : Fin 1024))
def blockSum (p : Fin 8) (l : Fin 1024) : EReal := ∑ r : Fin 1024, P (ix2 (place p r) l) * whole D W (place p r) l
def scalesGrad : FVec Ideal S8x8x1024 .f32 := fun y => if (y 1).val = 0 then blockSum D W P (y 0) (y 2) else 0

variable (hD : D = m ((c : Thread nD τ).loc main_arg0)) (hW : W = m ((c : Thread nD τ).loc main_arg1)) (hP : P = m ((c : Thread nD τ).loc main_arg2)) (hG : G = m ((c : Thread nD τ).loc main_arg3))

include hD hW in
theorem dot_whole (t : Fin cfg0.N) (p : Fin 8) (hp : t.val = p.val) (r l : Fin 1024) : dot (rows m c t) (weight m c t) r l = whole D W (place p r) l := by
  have hl : V m c main_v0 = rowsOf D := by rw [hD]; exact rows_handed m c
  have hr : V m c main_v6 = weightOf W := by rw [hW]; exact weight_handed m c
  unfold dot whole
  simp only [rows_blk m c t p hp _ _ _ hl, weight_blk m c t _ _ _ hr, rowsOf_at, weightOf_at]

include hD hW hG in
theorem point_rowsGrad (t : Fin cfg0.N) (p : Fin 8) (hp : t.val = p.val) (r l : Fin 1024) :
    k0_pay2 (F := Ideal) (rows m c t) (weight m c t) (scales m c t) (ix2 r l) = rowsGrad D W G (ix2 (place p r) l) := by
  have hg : V m c main_arg3 = G := by rw [hG]; exact V_main_arg3 m c
  rw [rows_at, dot_whole m c D W hD hW t p hp, scales_blk m c t 0 l _ hg]
  rfl

include hD hW hG in
theorem array_rows : (dats m 0 c).arrAt 4 cfg0.N = rowsGrad D W G := by
  refine (dats m 0 c).arrAt_eq_of_covers 4 _ (by decide +kernel) fun t hf y => ?_
  have ht : t.val < 8 := lt_of_lt_of_eq t.isLt (N_0 : cfg0.N = 8)
  have e := after0_4 m c t
  rw [point_rows] at e
  have i0 : win0_4.index t 0 * 1024 + 1 * (y 0).val = 1024 * t.val + (y 0).val := by rw [(index4 t).1]; omega
  have i1 : win0_4.index t 1 * 1024 + 1 * (y 1).val = (y 1).val := by rw [(index4 t).2, Nat.zero_mul, Nat.zero_add, Nat.one_mul]
  have hy : y = (ix2 (y 0 : Fin 1024) (y 1 : Fin 1024) : S1024x1024.Idx) := eq_ix2 y
  have hz : ((cfg0.win 4).blk t).view.emb y = (ix2 (place ⟨t.val, ht⟩ (y 0)) (y 1) : S8192x1024.Idx) :=
    funext fun a => match a with | ⟨0, _⟩ => Fin.ext i0 | ⟨1, _⟩ => Fin.ext i1
  rw [hz, ← point_rowsGrad m c D W G hD hW hG t ⟨t.val, ht⟩ rfl (y 0) (y 1), ← hy]
  exact congrFun e y

include hD hW hP in
theorem point_scalesGrad (t : Fin cfg0.N) (p : Fin 8) (hp : t.val = p.val) (q : Fin 8) (l : Fin 1024) :
    k0_pay3 (F := Ideal) (rows m c t) (weight m c t) (mixed m c t) (ix3 0 q l) = scalesGrad D W P (ix3 p q l) := by
  have hm : V m c main_v4 = mixedOf P := by rw [hP]; exact mixed_handed m c
  rw [sums_at]
  unfold rowSums
  simp only [dot_whole m c D W hD hW t p hp, mixed_blk m c t p hp _ _ _ hm, mixedOf_at, mul_comm (whole D W _ _)]
  rfl

include hD hW hP in
theorem array_scales : (dats m 0 c).arrAt 5 cfg0.N = scalesGrad D W P := by
  refine (dats m 0 c).arrAt_eq_of_covers 5 _ (by decide +kernel) fun t hf y => ?_
  have ht : t.val < 8 := lt_of_lt_of_eq t.isLt (N_0 : cfg0.N = 8)
  have e := after0_5 m c t
  rw [point_sums] at e
  have h0 : (y 0).val = 0 := by have : (y 0).val < 1 := (y 0).isLt; omega
  have i0 : win0_5.index t 0 * 1 + 1 * (y 0).val = t.val := by rw [(index5 t).1, h0]; omega
  have i1 : win0_5.index t 1 * 8 + 1 * (y 1).val = (y 1).val := by rw [(index5 t).2.1, Nat.zero_mul, Nat.zero_add, Nat.one_mul]
  have i2 : win0_5.index t 2 * 1024 + 1 * (y 2).val = (y 2).val := by rw [(index5 t).2.2, Nat.zero_mul, Nat.zero_add, Nat.one_mul]
  have hy : y = (ix3 0 (y 1 : Fin 8) (y 2 : Fin 1024) : S1x8x1024.Idx) := funext fun a => match a with | ⟨0, _⟩ => Fin.ext h0 | ⟨1, _⟩ => rfl | ⟨2, _⟩ => rfl
  have hz : ((cfg0.win 5).blk t).view.emb y = (ix3 ⟨t.val, ht⟩ (y 1) (y 2) : S8x8x1024.Idx) :=
    funext fun a => match a with | ⟨0, _⟩ => Fin.ext i0 | ⟨1, _⟩ => Fin.ext i1 | ⟨2, _⟩ => Fin.ext i2
  rw [hz, ← point_scalesGrad m c D W P hD hW hP t ⟨t.val, ht⟩ rfl (y 1) (y 2), ← hy]
  exact congrFun e y

/-- The reference's product, cut into blocks of rows, and its results. -/
abbrev refDot : FVec Ideal Cert.Reference21Ideal.S8x1024x1024 .f32 :=
  shapeCast Cert.Reference21Ideal.S8x1024x1024 (Host.dotGeneral Cert.Reference21Ideal.dot_S8192x2048_S1024x2048_S8192x1024_1_1_0_0_n_n none D W) Cert.Reference21Ideal.Gen.shapeCasts_S8192x1024_S8x1024x1024
abbrev refRows : FVec Ideal S8192x1024 .bf16 :=
  truncf .bf16 (shapeCast Cert.Reference21Ideal.S8192x1024 (mulf (refDot D W) (broadcastInDim Cert.Reference21Ideal.S8x1024x1024 ![0, 1, 2] Cert.Reference21Ideal.Gen.bcast_S8x1x1024_S8x1024x1024_0_1_2
    (broadcastInDim Cert.Reference21Ideal.S8x1x1024 ![1, 2] Cert.Reference21Ideal.Gen.bcast_S1x1024_S8x1x1024_1_2 G))) Cert.Reference21Ideal.Gen.shapeCasts_S8x1024x1024_S8192x1024 : FVec Ideal S8192x1024 .f32) Cert.Reference21Ideal.Gen.bitsLt_bf16_f32
abbrev refSums : FVec Ideal Cert.Reference21Ideal.S8x1x1024 .f32 :=
  shapeCast Cert.Reference21Ideal.S8x1x1024 (Host.reduceAdd (mulf (shapeCast Cert.Reference21Ideal.S8x1024x1024 P Cert.Reference21Ideal.Gen.shapeCasts_S8192x1024_S8x1024x1024) (refDot D W))
    (constant Cert.Reference21Ideal.S_ .f32 0x00000000#32) Cert.Reference21Ideal.Gen.reducesTo_S8x1024x1024_S8x1024_d1 Cert.Reference21Ideal.Gen.h_S_) Cert.Reference21Ideal.Gen.shapeCasts_S8x1024_S8x1x1024
abbrev refScales : FVec Ideal S8x8x1024 .f32 :=
  concatenate Cert.Reference21Ideal.S8x8x1024 1 [⟨Cert.Reference21Ideal.S8x1x1024, refSums D W P⟩, ⟨Cert.Reference21Ideal.S8x7x1024, (broadcastInDim Cert.Reference21Ideal.S8x7x1024 ![] Cert.Reference21Ideal.Gen.bcast_S_S8x7x1024
    (constant Cert.Reference21Ideal.S_ .f32 0x00000000#32))⟩] Cert.Reference21Ideal.Gen.concatenates_S8x1x1024_S8x7x1024_S8x8x1024_d1

theorem refRows_at (p : Fin 8) (r l : Fin 1024) : refRows D W G (ix2 (place p r) l) = whole D W (place p r) l * G (ix2 0 l) := by
  have e (h : (1024 * p.val + r.val) / 1024 * 1024 + (1024 * p.val + r.val) % 1024 < 8192) :
      (⟨(1024 * p.val + r.val) / 1024 * 1024 + (1024 * p.val + r.val) % 1024, h⟩ : Fin 8192) = place p r :=
    Fin.ext (by show (1024 * p.val + r.val) / 1024 * 1024 + (1024 * p.val + r.val) % 1024 = 1024 * p.val + r.val; omega)
  unfold refRows refDot whole
  pointwise
  simp only [e]

theorem refScales_at (p q : Fin 8) (l : Fin 1024) : refScales D W P (ix3 p q l) = if q.val = 0 then blockSum D W P p l else 0 := by
  have e (r : Fin 1024) (h : p.val * 1024 + r.val < 8192) : (⟨p.val * 1024 + r.val, h⟩ : Fin 8192) = place p r :=
    Fin.ext (congrArg (· + r.val) (Nat.mul_comm _ _))
  unfold refScales refSums refDot blockSum whole
  pointwise
  simp only [e, Nat.lt_one_iff, dite_eq_ite]

theorem same_rows : refRows D W G = rowsGrad D W G := by
  refine funext fun y => ?_
  obtain ⟨p, r, l, rfl⟩ : ∃ (p : Fin 8) (r l : Fin 1024), y = ix2 (place p r) l :=
    ⟨⟨(y 0).val / 1024, by have : (y 0).val < 8192 := (y 0).isLt; omega⟩, ⟨(y 0).val % 1024, Nat.mod_lt _ (by decide)⟩, y 1,
      funext fun a => match a with | ⟨0, _⟩ => Fin.ext (Nat.div_add_mod _ _).symm | ⟨1, _⟩ => rfl⟩
  exact refRows_at D W G p r l

theorem same_scales : refScales D W P = scalesGrad D W P := by
  refine funext fun y => ?_
  obtain ⟨p, q, l, rfl⟩ : ∃ (p q : Fin 8) (l : Fin 1024), y = ix3 p q l := ⟨y 0, y 1, y 2, funext fun a => match a with | ⟨0, _⟩ => rfl | ⟨1, _⟩ => rfl | ⟨2, _⟩ => rfl⟩
  exact refScales_at D W P p q l

end Whole

theorem agree : Cert.algebraic_Kernel21Ideal_Reference21Ideal (hKernel21Ideal := Cert.Kernel21Ideal.Gen.facts) (hReference21Ideal := Cert.Reference21Ideal.Gen.facts) := by
  intro m g m' g' _ he
  refine ⟨fun c => (dats m 0 c).arrAt 4 cfg0.N, fun c => (dats m 0 c).arrAt 5 cfg0.N, Cert.Kernel21Ideal.Value.run_blocks m g, ?_⟩
  refine (θ_run _ _ _).mono (fun r h c => ?_) (Cert.Reference21Ideal.Value.run m' g')
  obtain ⟨r0, r1, rest⟩ := h c
  obtain ⟨e0, e1, e2, e3⟩ := he c
  exact ⟨r0.trans ((same_rows _ _ _).trans (array_rows m c _ _ _ e0 e1 e3).symm), r1.trans ((same_scales _ _ _).trans (array_scales m c _ _ _ e0 e1 e2).symm), rest⟩

end Cert.PoolGrad

end
-- ==== Proof.AttnOut.lean ====
/-
  The gradient behind the attention branch's projection. A grid point multiplies a block of rows of the gradient with the
  transposed weight of the branch and stores the product, in eight column blocks, one for each head; and it stores, in sixteen
  equal columns for each head, the sums over the head's columns of the product times the mixed attention output.
-/
module

public import proofs.«01_k».proof.Proof.Gen.Kernel22Ideal.Value
public import proofs.«01_k».proof.Proof.Gen.Reference22Ideal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.WholeRead
public import Idealize.ShloMosaic.Lib.Claim

@[expose] public section

set_option backward.isDefEq.respectTransparency false
set_option maxRecDepth 16384

noncomputable section

namespace Cert.AttnOut

open Cert.Kernel22Ideal Cert.Kernel22Ideal.Gen Cert.Kernel22Ideal.Value Idealize.ShloMosaic Idealize.ShloMosaic.TcCoe Idealize.SL.Sem

/-! ## One grid point -/

section Point

variable (x0 : Vec Ideal S512x2048 .bf16) (x1 : Vec Ideal S2048x1024 .bf16) (x2 : Vec Ideal S512x1024 .bf16)

/-- Column `d` of head `h`. -/
abbrev col (h : Fin 8) (d : Fin 128) : Fin 1024 := ⟨128 * h.val + d.val, by omega⟩

/-- A point's product at an index, and the sums of a head. -/
def dot (r : Fin 512) (l : Fin 1024) : EReal := ∑ k : Fin 2048, x0 (ix2 r k) * x1 (ix2 k l)
def headSum (r : Fin 512) (h : Fin 8) : EReal := ∑ d : Fin 128, dot x0 x1 r (col h d) * x2 (ix2 r (col h d))

/-- The head a column of sums belongs to. -/
abbrev headOf (l : Fin 128) : Fin 8 := ⟨l.val / 16, by omega⟩

/-- The two blocks a point stores. -/
def rowsOut : FVec Ideal S512x1024 .bf16 := fun y => dot x0 x1 (y 0) (y 1)
def sumsOut : FVec Ideal S512x128 .f32 := fun y => headSum x0 x1 x2 (y 0) (headOf (y 1))

theorem dot_at (r : Fin 512) (l : Fin 1024) : k0_pay4 (F := Ideal) x0 x1 (ix2 r l) = dot x0 x1 r l := by
  unfold k0_pay4 dot
  pointwise

/-- The columns of a head, as the slices name them. -/
theorem col_zero (d : Fin 128) (hl : d.val < 1024) : (⟨d.val, hl⟩ : Fin 1024) = col 0 d := Fin.ext (Nat.zero_add _).symm
theorem col_at (h : Fin 8) (o : ℕ) (ho : o = 128 * h.val) (d : Fin 128) (hl : o + d.val < 1024) : (⟨o + d.val, hl⟩ : Fin 1024) = col h d := by subst ho; rfl

theorem rows0 (r : Fin 512) (d : Fin 128) : k0_pay8 (F := Ideal) x0 x1 (ix2 r d) = dot x0 x1 r (col 0 d) := by
  rw [← dot_at]
  unfold k0_pay8 k0_pay5
  pointwise
  simp only [col_zero]

theorem rows1 (r : Fin 512) (d : Fin 128) : k0_pay12 (F := Ideal) x0 x1 (ix2 r d) = dot x0 x1 r (col 1 d) := by
  rw [← dot_at]
  unfold k0_pay12 k0_pay9
  pointwise
  simp only [col_at 1 128 rfl]

theorem rows2 (r : Fin 512) (d : Fin 128) : k0_pay16 (F := Ideal) (k0_pay13 (F := Ideal) x0 x1) (ix2 r d) = dot x0 x1 r (col 2 d) := by
  rw [← dot_at]
  unfold k0_pay16 k0_pay13
  pointwise
  simp only [col_at 2 256 rfl]

theorem rows3 (r : Fin 512) (d : Fin 128) : k0_pay20 (F := Ideal) (k0_pay4 (F := Ideal) x0 x1) (ix2 r d) = dot x0 x1 r (col 3 d) := by
  rw [← dot_at]
  unfold k0_pay20 k0_pay17
  pointwise
  simp only [col_at 3 384 rfl]

theorem rows4 (r : Fin 512) (d : Fin 128) : k0_pay24 (F := Ideal) (k0_pay4 (F := Ideal) x0 x1) (ix2 r d) = dot x0 x1 r (col 4 d) := by
  rw [← dot_at]
  unfold k0_pay24 k0_pay21
  pointwise
  simp only [col_at 4 512 rfl]

theorem rows5 (r : Fin 512) (d : Fin 128) : k0_pay28 (F := Ideal) (k0_pay4 (F := Ideal) x0 x1) (ix2 r d) = dot x0 x1 r (col 5 d) := by
  rw [← dot_at]
  unfold k0_pay28 k0_pay25
  pointwise
  simp only [col_at 5 640 rfl]

theorem rows6 (r : Fin 512) (d : Fin 128) : k0_pay32 (F := Ideal) (k0_pay4 (F := Ideal) x0 x1) (ix2 r d) = dot x0 x1 r (col 6 d) := by
  rw [← dot_at]
  unfold k0_pay32 k0_pay29
  pointwise
  simp only [col_at 6 768 rfl]

theorem rows7 (r : Fin 512) (d : Fin 128) : k0_pay36 (F := Ideal) (k0_pay33 (F := Ideal) (k0_pay4 (F := Ideal) x0 x1)) (ix2 r d) = dot x0 x1 r (col 7 d) := by
  rw [← dot_at]
  unfold k0_pay36 k0_pay33
  pointwise
  simp only [col_at 7 896 rfl]

theorem sum0 (v : Vec Ideal S512x128 .bf16) (r : Fin 512) : k0_pay6 (F := Ideal) x0 x1 v (ix2 r 0) = ∑ d : Fin 128, dot x0 x1 r (col 0 d) * v (ix2 r d) := by
  simp only [← dot_at]
  unfold k0_pay6 k0_pay5
  pointwise
  simp only [col_zero]

theorem sum1 (v : Vec Ideal S512x128 .bf16) (r : Fin 512) : k0_pay10 (F := Ideal) x0 x1 v (ix2 r 0) = ∑ d : Fin 128, dot x0 x1 r (col 1 d) * v (ix2 r d) := by
  simp only [← dot_at]
  unfold k0_pay10 k0_pay9
  pointwise
  simp only [col_at 1 128 rfl]

theorem sum2 (v : Vec Ideal S512x128 .bf16) (r : Fin 512) : k0_pay14 (F := Ideal) (k0_pay13 (F := Ideal) x0 x1) v (ix2 r 0) = ∑ d : Fin 128, dot x0 x1 r (col 2 d) * v (ix2 r d) := by
  simp only [← dot_at]
  unfold k0_pay14 k0_pay13
  pointwise
  simp only [col_at 2 256 rfl]

theorem sum3 (v : Vec Ideal S512x128 .bf16) (r : Fin 512) : k0_pay18 (F := Ideal) (k0_pay4 (F := Ideal) x0 x1) v (ix2 r 0) = ∑ d : Fin 128, dot x0 x1 r (col 3 d) * v (ix2 r d) := by
  simp only [← dot_at]
  unfold k0_pay18 k0_pay17
  pointwise
  simp only [col_at 3 384 rfl]

theorem sum4 (v : Vec Ideal S512x128 .bf16) (r : Fin 512) : k0_pay22 (F := Ideal) (k0_pay4 (F := Ideal) x0 x1) v (ix2 r 0) = ∑ d : Fin 128, dot x0 x1 r (col 4 d) * v (ix2 r d) := by
  simp only [← dot_at]
  unfold k0_pay22 k0_pay21
  pointwise
  simp only [col_at 4 512 rfl]

theorem sum5 (v : Vec Ideal S512x128 .bf16) (r : Fin 512) : k0_pay26 (F := Ideal) (k0_pay4 (F := Ideal) x0 x1) v (ix2 r 0) = ∑ d : Fin 128, dot x0 x1 r (col 5 d) * v (ix2 r d) := by
  simp only [← dot_at]
  unfold k0_pay26 k0_pay25
  pointwise
  simp only [col_at 5 640 rfl]

theorem sum6 (v : Vec Ideal S512x128 .bf16) (r : Fin 512) : k0_pay30 (F := Ideal) (k0_pay4 (F := Ideal) x0 x1) v (ix2 r 0) = ∑ d : Fin 128, dot x0 x1 r (col 6 d) * v (ix2 r d) := by
  simp only [← dot_at]
  unfold k0_pay30 k0_pay29
  pointwise
  simp only [col_at 6 768 rfl]

theorem sum7 (v : Vec Ideal S512x128 .bf16) (r : Fin 512) : k0_pay34 (F := Ideal) (k0_pay4 (F := Ideal) x0 x1) v (ix2 r 0) = ∑ d : Fin 128, dot x0 x1 r (col 7 d) * v (ix2 r d) := by
  simp only [← dot_at]
  unfold k0_pay34 k0_pay33
  pointwise
  simp only [col_at 7 896 rfl]

/-- The bit that picks the columns of a head. -/
theorem head_bit : ∀ (h : Fin 8) (l : Fin 128), IntOp.andi (IntOp.cmpi .sge (BitVec.ofNat 32 l.val) (BitVec.ofNat 32 (16 * h.val))) (IntOp.cmpi .slt (BitVec.ofNat 32 l.val) (BitVec.ofNat 32 (16 * h.val + 16)))
    = if headOf l = h then 1#1 else 0#1 := by
  decide +kernel

theorem packed_at (v : Fin 8 → FVec Ideal S512x1 .f32) (r : Fin 512) (l : Fin 128) :
    k0_pay40 (F := Ideal) (v 5) (v 6) (v 7) (iota .tc S512x128 32 [1] iota_S512x128_d1_w32) (k0_pay37 (F := Ideal) (v 0) (v 1) (v 2) (v 3)) k0_pay38 (k0_pay39 (F := Ideal) (v 4)) (ix2 r l)
      = v (headOf l) (ix2 r 0) := by
  unfold k0_pay40 k0_pay39 k0_pay38 k0_pay37
  pointwise
  have b0 : IntOp.andi (IntOp.cmpi .sge (BitVec.ofNat 32 l.val) 0#32) (IntOp.cmpi .slt (BitVec.ofNat 32 l.val) 16#32) = if headOf l = 0 then 1#1 else 0#1 := head_bit 0 l
  have b1 : IntOp.andi (IntOp.cmpi .sge (BitVec.ofNat 32 l.val) 16#32) (IntOp.cmpi .slt (BitVec.ofNat 32 l.val) 32#32) = if headOf l = 1 then 1#1 else 0#1 := head_bit 1 l
  have b2 : IntOp.andi (IntOp.cmpi .sge (BitVec.ofNat 32 l.val) 32#32) (IntOp.cmpi .slt (BitVec.ofNat 32 l.val) 48#32) = if headOf l = 2 then 1#1 else 0#1 := head_bit 2 l
  have b3 : IntOp.andi (IntOp.cmpi .sge (BitVec.ofNat 32 l.val) 48#32) (IntOp.cmpi .slt (BitVec.ofNat 32 l.val) 64#32) = if headOf l = 3 then 1#1 else 0#1 := head_bit 3 l
  have b4 : IntOp.andi (IntOp.cmpi .sge (BitVec.ofNat 32 l.val) 64#32) (IntOp.cmpi .slt (BitVec.ofNat 32 l.val) 80#32) = if headOf l = 4 then 1#1 else 0#1 := head_bit 4 l
  have b5 : IntOp.andi (IntOp.cmpi .sge (BitVec.ofNat 32 l.val) 80#32) (IntOp.cmpi .slt (BitVec.ofNat 32 l.val) 96#32) = if headOf l = 5 then 1#1 else 0#1 := head_bit 5 l
  have b6 : IntOp.andi (IntOp.cmpi .sge (BitVec.ofNat 32 l.val) 96#32) (IntOp.cmpi .slt (BitVec.ofNat 32 l.val) 112#32) = if headOf l = 6 then 1#1 else 0#1 := head_bit 6 l
  have b7 : IntOp.andi (IntOp.cmpi .sge (BitVec.ofNat 32 l.val) 112#32) (IntOp.cmpi .slt (BitVec.ofNat 32 l.val) 128#32) = if headOf l = 7 then 1#1 else 0#1 := head_bit 7 l
  rw [b0, b1, b2, b3, b4, b5, b6, b7]
  generalize headOf l = h
  match h with
  | 0 => rfl
  | 1 => rfl
  | 2 => rfl
  | 3 => rfl
  | 4 => rfl
  | 5 => rfl
  | 6 => rfl
  | 7 => rfl

theorem load_whole {S : Shape} {e : EltTy} {m : Memref sig .tc .vmem S e} (hm : m.IsWhole) (x : Vec Ideal S e) (o : Fin S.rank → ℕ) (inb : ∀ a, o a + S.size a ≤ S.size a) (ho : ∀ a, o a = 0) :
    View.readAt (Elt Ideal) m.view (Rect.unit (s := S) o S.size inb).toLoadRect (hm.unread x) = x := by
  funext y
  rw [hm.readAt_unread]
  exact congrArg x (funext fun a => Fin.ext (by show o a + 1 * (y a).val = (y a).val; rw [ho a]; omega))

theorem load_cols {m : Memref sig .tc .vmem S512x1024 .bf16} (hm : m.IsWhole) (x : Vec Ideal S512x1024 .bf16) (h : Fin 8) (o : ℕ)
    (inb : ∀ a, (![0, o] : Fin 2 → ℕ) a + S512x128.size a ≤ S512x1024.size a) (ho : o = 128 * h.val) (r : Fin 512) (d : Fin 128) :
    View.readAt (Elt Ideal) m.view (Rect.unit (s := S512x1024) ![0, o] S512x128.size inb).toLoadRect (hm.unread x) (ix2 r d) = x (ix2 r (col h d)) := by
  subst ho
  rw [hm.readAt_unread]
  congr 1
  funext a
  match a with
  | ⟨0, _⟩ => exact Fin.ext (by show 0 + 1 * r.val = r.val; omega)
  | ⟨1, _⟩ => exact Fin.ext (by show 128 * h.val + 1 * d.val = 128 * h.val + d.val; omega)

theorem rows_piece (h : Fin 8) (o : ℕ) (inb : ∀ a, (![0, o] : Fin 2 → ℕ) a + S512x128.size a ≤ S512x1024.size a) (ho : o = 128 * h.val) (p : FVec Ideal S512x128 .bf16)
    (hp : ∀ (r : Fin 512) (d : Fin 128), p (ix2 r d) = dot x0 x1 r (col h d)) (y : S512x128.Idx) : p y = rowsOut x0 x1 ((Rect.unit (s := S512x1024) ![0, o] S512x128.size inb).emb y) := by
  subst ho
  obtain ⟨r, d, rfl⟩ : ∃ (r : Fin 512) (d : Fin 128), y = ix2 r d := ⟨_, _, eq_ix2 y⟩
  rw [hp]
  exact congrArg₂ (dot x0 x1) (Fin.ext (by show r.val = 0 + 1 * r.val; omega)) (Fin.ext (by show 128 * h.val + d.val = 128 * h.val + 1 * d.val; omega))

theorem sums_piece (inb : ∀ a, (![0, 0] : Fin 2 → ℕ) a + S512x128.size a ≤ S512x128.size a) (p : FVec Ideal S512x128 .f32)
    (hp : ∀ (r : Fin 512) (l : Fin 128), p (ix2 r l) = headSum x0 x1 x2 r (headOf l)) (y : S512x128.Idx) : p y = sumsOut x0 x1 x2 ((Rect.unit (s := S512x128) ![0, 0] S512x128.size inb).emb y) := by
  obtain ⟨r, l, rfl⟩ : ∃ (r : Fin 512) (l : Fin 128), y = ix2 r l := ⟨_, _, eq_ix2 y⟩
  rw [hp]
  exact congrArg₂ (fun a b => headSum x0 x1 x2 a (headOf b)) (Fin.ext (by show r.val = 0 + 1 * r.val; omega)) (Fin.ext (by show l.val = 0 + 1 * l.val; omega))

/-- A head's columns of the mixed output, and the columns of sums of the eight heads. -/
abbrev part (m : Memref sig .tc .vmem S512x1024 .bf16) (hm : m.IsWhole) (x : Vec Ideal S512x1024 .bf16) (o : ℕ) (inb : ∀ a, (![0, o] : Fin 2 → ℕ) a + S512x128.size a ≤ S512x1024.size a) : Vec Ideal S512x128 .bf16 :=
  View.readAt (Elt Ideal) m.view (Rect.unit (s := S512x1024) ![0, o] S512x128.size inb).toLoadRect (hm.unread x)
def heads (m : Memref sig .tc .vmem S512x1024 .bf16) (hm : m.IsWhole) (x : Vec Ideal S512x1024 .bf16) (h : Fin 8) : FVec Ideal S512x1 .f32 :=
  match h with
  | 0 => k0_pay6 (F := Ideal) x0 x1 (part m hm x 0 inb_S512x1024_S512x128_0_0)
  | 1 => k0_pay10 (F := Ideal) x0 x1 (part m hm x 128 inb_S512x1024_S512x128_0_128)
  | 2 => k0_pay14 (F := Ideal) (k0_pay13 (F := Ideal) x0 x1) (part m hm x 256 inb_S512x1024_S512x128_0_256)
  | 3 => k0_pay18 (F := Ideal) (k0_pay4 (F := Ideal) x0 x1) (part m hm x 384 inb_S512x1024_S512x128_0_384)
  | 4 => k0_pay22 (F := Ideal) (k0_pay4 (F := Ideal) x0 x1) (part m hm x 512 inb_S512x1024_S512x128_0_512)
  | 5 => k0_pay26 (F := Ideal) (k0_pay4 (F := Ideal) x0 x1) (part m hm x 640 inb_S512x1024_S512x128_0_640)
  | 6 => k0_pay30 (F := Ideal) (k0_pay4 (F := Ideal) x0 x1) (part m hm x 768 inb_S512x1024_S512x128_0_768)
  | 7 => k0_pay34 (F := Ideal) (k0_pay4 (F := Ideal) x0 x1) (part m hm x 896 inb_S512x1024_S512x128_0_896)

variable (c : Dev nD) (i : grid0.Coords) (arg3 : Memref sig .tc .vmem S512x2048 .bf16) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .f32) (harg7 : arg7.IsWhole) (arg8 : Memref sig .tc .vmem S128x4096 .bf16) (harg8 : arg8.IsWhole) (arg9 : Memref sig .tc .vmem S32x16384 .bf16) (harg9 : arg9.IsWhole) (arg10 : Memref sig .tc .vmem S128x512 .f32) (harg10 : arg10.IsWhole) (arg11 : Memref sig .tc .vmem S32x2048 .f32) (harg11 : arg11.IsWhole) (arg12 : Memref sig .tc .vmem S8x512x128 .f32) (harg12 : arg12.IsWhole) (arg13 : Memref sig .tc .vmem S1x512x128 .f32) (harg13 : arg13.IsWhole)

theorem point_rows : out0_A_3 (F := Ideal) c i arg3 harg3 arg4 harg4 arg5 harg5 arg6 harg6 arg7 harg7 arg8 harg8 arg9 harg9 arg10 harg10 arg11 harg11 arg12 harg12 arg13 harg13 x0 x1 x2 = rowsOut x0 x1 := by
  funext y
  unfold out0_A_3
  refine View.read_writes_apply_of_pieces _ _ _ _ (View.PiecesOf.mem ?_) y (cover0_A_3 c i arg3 harg3 arg4 harg4 arg5 harg5 arg6 harg6 arg7 harg7 arg8 harg8 arg9 harg9 arg10 harg10 arg11 harg11 arg12 harg12 arg13 harg13 x0 x1 x2 y)
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.v101]
  simp only [load_whole harg3 x0 ![0, 0] inb_S512x2048_S512x2048_0_0 (by decide), load_whole harg4 x1 ![0, 0] inb_S2048x1024_S2048x1024_0_0 (by decide)]
  exact ⟨rows_piece x0 x1 7 896 inb_S512x1024_S512x128_0_896 rfl _ (rows7 x0 x1),
    rows_piece x0 x1 6 768 inb_S512x1024_S512x128_0_768 rfl _ (rows6 x0 x1),
    rows_piece x0 x1 5 640 inb_S512x1024_S512x128_0_640 rfl _ (rows5 x0 x1),
    rows_piece x0 x1 4 512 inb_S512x1024_S512x128_0_512 rfl _ (rows4 x0 x1),
    rows_piece x0 x1 3 384 inb_S512x1024_S512x128_0_384 rfl _ (rows3 x0 x1),
    rows_piece x0 x1 2 256 inb_S512x1024_S512x128_0_256 rfl _ (rows2 x0 x1),
    rows_piece x0 x1 1 128 inb_S512x1024_S512x128_0_128 rfl _ (rows1 x0 x1),
    rows_piece x0 x1 0 0 inb_S512x1024_S512x128_0_0 rfl _ (rows0 x0 x1), trivial⟩

theorem point_sums : out0_A_4 (F := Ideal) c i arg3 harg3 arg4 harg4 arg5 harg5 arg6 harg6 arg7 harg7 arg8 harg8 arg9 harg9 arg10 harg10 arg11 harg11 arg12 harg12 arg13 harg13 x0 x1 x2 = sumsOut x0 x1 x2 := by
  funext y
  unfold out0_A_4
  refine View.read_writes_apply_of_pieces _ _ _ _ (View.PiecesOf.mem ?_) y (cover0_A_4 c i arg3 harg3 arg4 harg4 arg5 harg5 arg6 harg6 arg7 harg7 arg8 harg8 arg9 harg9 arg10 harg10 arg11 harg11 arg12 harg12 arg13 harg13 x0 x1 x2 y)
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.v101]
  simp only [load_whole harg3 x0 ![0, 0] inb_S512x2048_S512x2048_0_0 (by decide), load_whole harg4 x1 ![0, 0] inb_S2048x1024_S2048x1024_0_0 (by decide)]
  refine ⟨sums_piece x0 x1 x2 inb_S512x128_S512x128_0_0 _ fun r l => ?_, trivial⟩
  refine (packed_at (heads x0 x1 arg5 harg5 x2) r l).trans ?_
  generalize headOf l = h
  unfold headSum
  match h with
  | 0 => exact (sum0 x0 x1 _ r).trans (Finset.sum_congr rfl fun d _ => congrArg (dot x0 x1 r (col 0 d) * ·) (load_cols harg5 x2 0 0 inb_S512x1024_S512x128_0_0 rfl r d))
  | 1 => exact (sum1 x0 x1 _ r).trans (Finset.sum_congr rfl fun d _ => congrArg (dot x0 x1 r (col 1 d) * ·) (load_cols harg5 x2 1 128 inb_S512x1024_S512x128_0_128 rfl r d))
  | 2 => exact (sum2 x0 x1 _ r).trans (Finset.sum_congr rfl fun d _ => congrArg (dot x0 x1 r (col 2 d) * ·) (load_cols harg5 x2 2 256 inb_S512x1024_S512x128_0_256 rfl r d))
  | 3 => exact (sum3 x0 x1 _ r).trans (Finset.sum_congr rfl fun d _ => congrArg (dot x0 x1 r (col 3 d) * ·) (load_cols harg5 x2 3 384 inb_S512x1024_S512x128_0_384 rfl r d))
  | 4 => exact (sum4 x0 x1 _ r).trans (Finset.sum_congr rfl fun d _ => congrArg (dot x0 x1 r (col 4 d) * ·) (load_cols harg5 x2 4 512 inb_S512x1024_S512x128_0_512 rfl r d))
  | 5 => exact (sum5 x0 x1 _ r).trans (Finset.sum_congr rfl fun d _ => congrArg (dot x0 x1 r (col 5 d) * ·) (load_cols harg5 x2 5 640 inb_S512x1024_S512x128_0_640 rfl r d))
  | 6 => exact (sum6 x0 x1 _ r).trans (Finset.sum_congr rfl fun d _ => congrArg (dot x0 x1 r (col 6 d) * ·) (load_cols harg5 x2 6 768 inb_S512x1024_S512x128_0_768 rfl r d))
  | 7 => exact (sum7 x0 x1 _ r).trans (Finset.sum_congr rfl fun d _ => congrArg (dot x0 x1 r (col 7 d) * ·) (load_cols harg5 x2 7 896 inb_S512x1024_S512x128_0_896 rfl r d))

end Point

/-! ## The blocks a point is handed -/

variable (m : (ℓ : Loc nD τ sig) → Buf (Elt Ideal) ℓ) (c : Dev nD)

theorem index0 (t : Fin cfg0.N) : win0_0.index t 0 = t.val ∧ win0_0.index t 1 = 0 := by revert t; decide +kernel
theorem index1 (t : Fin cfg0.N) : win0_1.index t 0 = 0 ∧ win0_1.index t 1 = 0 := by revert t; decide +kernel
theorem index2 (t : Fin cfg0.N) : win0_2.index t 0 = t.val ∧ win0_2.index t 1 = 0 := by revert t; decide +kernel
theorem index3 (t : Fin cfg0.N) : win0_3.index t 0 = t.val ∧ win0_3.index t 1 = 0 := by revert t; decide +kernel
theorem index4 (t : Fin cfg0.N) : win0_4.index t 0 = t.val ∧ win0_4.index t 1 = 0 := by revert t; decide +kernel

/-- The input blocks of a point. -/
abbrev rows (t : Fin cfg0.N) : Vec Ideal S512x2048 .bf16 := iblk m c 0 t
abbrev weight (t : Fin cfg0.N) : Vec Ideal S2048x1024 .bf16 := iblk m c 1 t
abbrev mixed (t : Fin cfg0.N) : Vec Ideal S512x1024 .bf16 := iblk m c 2 t

/-- The gradient's rows, the weight and the mixed output, as they are handed. -/
abbrev rowsOf (X : FVec Ideal S8192x2048 .f32) : FVec Ideal S8192x2048 .bf16 := truncf .bf16 X bitsLt_bf16_f32
abbrev slabsOf (W : FVec Ideal S1024x2048 .f32) : FVec Ideal S4x512x1024 .bf16 :=
  transpose S4x512x1024 [0, 2, 1] (truncf .bf16 (transpose S4x1024x512 [1, 0, 2] (shapeCast S1024x4x512 W shapeCasts_S1024x2048_S1024x4x512 : FVec Ideal S1024x4x512 .f32)
    transposes_S1024x4x512_S4x1024x512_1_0_2 : FVec Ideal S4x1024x512 .f32) bitsLt_bf16_f32 : FVec Ideal S4x1024x512 .bf16) transposes_S4x1024x512_S4x512x1024_0_2_1
abbrev weightOf (W : FVec Ideal S1024x2048 .f32) : FVec Ideal S2048x1024 .bf16 := shapeCast S2048x1024 (slabsOf W) shapeCasts_S4x512x1024_S2048x1024
abbrev mixedOf (X : FVec Ideal S8192x1024 .f32) : FVec Ideal S8192x1024 .bf16 := truncf .bf16 X bitsLt_bf16_f32

theorem rows_handed : V m c main_v0 = rowsOf (m ((c : Thread nD τ).loc main_arg0)) := by
  have e : V m c main_v0 = StableHlo.after hostOps0 (fun b => m (c, b)) (Proc.devRef .tc main_v0) := rfl
  rw [e]
  simp only [hostOps0]
  after_results_simp

theorem weight_handed : V m c main_v6 = weightOf (m ((c : Thread nD τ).loc main_arg1)) := by
  have e : V m c main_v6 = StableHlo.after hostOps0 (fun b => m (c, b)) (Proc.devRef .tc main_v6) := rfl
  rw [e]
  simp only [hostOps0]
  after_results_simp
  rfl

theorem mixed_handed : V m c main_v4 = mixedOf (m ((c : Thread nD τ).loc main_arg2)) := by
  have e : V m c main_v4 = StableHlo.after hostOps0 (fun b => m (c, b)) (Proc.devRef .tc main_v4) := rfl
  rw [e]
  simp only [hostOps0]
  after_results_simp

/-- Place `r` of row block `p` of sixteen. -/
abbrev place (p : Fin 16) (r : Fin 512) : Fin 8192 := ⟨512 * p.val + r.val, by omega⟩

theorem rows_blk (t : Fin cfg0.N) (p : Fin 16) (hp : t.val = p.val) (r : Fin 512) (k : Fin 2048) (A : FVec Ideal S8192x2048 .bf16) (hA : V m c main_v0 = A) :
    rows m c t (ix2 r k) = A (ix2 (place p r) k) := by
  subst hA
  unfold rows iblk
  rw [View.read_apply]
  refine congrArg (V m c main_v0) (funext fun a => Fin.ext ?_)
  match a with
  | ⟨0, _⟩ => show win0_0.index t 0 * 512 + 1 * r.val = 512 * p.val + r.val; rw [(index0 t).1, hp]; omega
  | ⟨1, _⟩ => show win0_0.index t 1 * 2048 + 1 * k.val = k.val; rw [(index0 t).2]; omega

theorem weight_blk (t : Fin cfg0.N) (r : Fin 2048) (k : Fin 1024) (A : FVec Ideal S2048x1024 .bf16) (hA : V m c main_v6 = A) :
    weight m c t (ix2 r k) = A (ix2 r k) := by
  subst hA
  unfold weight iblk
  rw [View.read_apply]
  refine congrArg (V m c main_v6) (funext fun a => Fin.ext ?_)
  match a with
  | ⟨0, _⟩ => show win0_1.index t 0 * 2048 + 1 * r.val = r.val; rw [(index1 t).1]; omega
  | ⟨1, _⟩ => show win0_1.index t 1 * 1024 + 1 * k.val = k.val; rw [(index1 t).2]; omega

theorem mixed_blk (t : Fin cfg0.N) (p : Fin 16) (hp : t.val = p.val) (r : Fin 512) (k : Fin 1024) (A : FVec Ideal S8192x1024 .bf16) (hA : V m c main_v4 = A) :
    mixed m c t (ix2 r k) = A (ix2 (place p r) k) := by
  subst hA
  unfold mixed iblk
  rw [View.read_apply]
  refine congrArg (V m c main_v4) (funext fun a => Fin.ext ?_)
  match a with
  | ⟨0, _⟩ => show win0_2.index t 0 * 512 + 1 * r.val = 512 * p.val + r.val; rw [(index2 t).1, hp]; omega
  | ⟨1, _⟩ => show win0_2.index t 1 * 1024 + 1 * k.val = k.val; rw [(index2 t).2]; omega

theorem rowsOf_at (X : FVec Ideal S8192x2048 .f32) (i : Fin 8192) (k : Fin 2048) : rowsOf X (ix2 i k) = X (ix2 i k) := by
  unfold rowsOf
  pointwise

theorem mixedOf_at (X : FVec Ideal S8192x1024 .f32) (i : Fin 8192) (k : Fin 1024) : mixedOf X (ix2 i k) = X (ix2 i k) := by
  unfold mixedOf
  pointwise

theorem weightOf_at (W : FVec Ideal S1024x2048 .f32) (k : Fin 2048) (j : Fin 1024) : weightOf W (ix2 k j) = W (ix2 j k) := by
  unfold weightOf slabsOf
  pointwise

/-! ## The arrays, and the reference -/

section Whole

variable (D : FVec Ideal S8192x2048 .f32) (W : FVec Ideal S1024x2048 .f32) (P : FVec Ideal S8192x1024 .f32)

/-- The whole product at an index, and the two results as functions of the arguments. -/
def whole (i : Fin 8192) (j : Fin 1024) : EReal := ∑ k : Fin 2048, D (ix2 i k) * W (ix2 j k)
def rowsGrad : FVec Ideal S8192x1024 .bf16 := fun y => whole D W (y 0) (y 1)
def headDelta (i : Fin 8192) (h : Fin 8) : EReal := ∑ d : Fin 128, whole D W i (col h d) * P (ix2 i (col h d))
def delta : FVec Ideal S8192x128 .f32 := fun y => headDelta D W P (y 0) (headOf (y 1))

variable (hD : D = m ((c : Thread nD τ).loc main_arg0)) (hW : W = m ((c : Thread nD τ).loc main_arg1)) (hP : P = m ((c : Thread nD τ).loc main_arg2))

include hD hW in
theorem dot_whole (t : Fin cfg0.N) (p : Fin 16) (hp : t.val = p.val) (r : Fin 512) (l : Fin 1024) : dot (rows m c t) (weight m c t) r l = whole D W (place p r) l := by
  have hl : V m c main_v0 = rowsOf D := by rw [hD]; exact rows_handed m c
  have hr : V m c main_v6 = weightOf W := by rw [hW]; exact weight_handed m c
  unfold dot whole
  simp only [rows_blk m c t p hp _ _ _ hl, weight_blk m c t _ _ _ hr, rowsOf_at, weightOf_at]

include hD hW hP in
theorem sum_whole (t : Fin cfg0.N) (p : Fin 16) (hp : t.val = p.val) (r : Fin 512) (h : Fin 8) :
    headSum (rows m c t) (weight m c t) (mixed m c t) r h = headDelta D W P (place p r) h := by
  have hm : V m c main_v4 = mixedOf P := by rw [hP]; exact mixed_handed m c
  unfold headSum headDelta
  simp only [dot_whole m c D W hD hW t p hp, mixed_blk m c t p hp _ _ _ hm, mixedOf_at]

include hD hW in
theorem array_rows : (dats m 0 c).arrAt 3 cfg0.N = rowsGrad D W := by
  refine (dats m 0 c).arrAt_eq_of_covers 3 _ (by decide +kernel) fun t hf y => ?_
  have ht : t.val < 16 := lt_of_lt_of_eq t.isLt (N_0 : cfg0.N = 16)
  have e := after0_3 m c t
  unfold outsAt0 at e
  dsimp only at e
  rw [point_rows] at e
  have i0 : win0_3.index t 0 * 512 + 1 * (y 0).val = 512 * t.val + (y 0).val := by rw [(index3 t).1]; omega
  have i1 : win0_3.index t 1 * 1024 + 1 * (y 1).val = (y 1).val := by rw [(index3 t).2, Nat.zero_mul, Nat.zero_add, Nat.one_mul]
  have hz : ((cfg0.win 3).blk t).view.emb y = (ix2 (place ⟨t.val, ht⟩ (y 0)) (y 1) : S8192x1024.Idx) :=
    funext fun a => match a with | ⟨0, _⟩ => Fin.ext i0 | ⟨1, _⟩ => Fin.ext i1
  rw [hz]
  exact (congrFun e y).trans (dot_whole m c D W hD hW t ⟨t.val, ht⟩ rfl (y 0) (y 1))

include hD hW hP in
theorem array_sums : (dats m 0 c).arrAt 4 cfg0.N = delta D W P := by
  refine (dats m 0 c).arrAt_eq_of_covers 4 _ (by decide +kernel) fun t hf y => ?_
  have ht : t.val < 16 := lt_of_lt_of_eq t.isLt (N_0 : cfg0.N = 16)
  have e := after0_4 m c t
  unfold outsAt0 at e
  dsimp only at e
  rw [point_sums] at e
  have i0 : win0_4.index t 0 * 512 + 1 * (y 0).val = 512 * t.val + (y 0).val := by rw [(index4 t).1]; omega
  have i1 : win0_4.index t 1 * 128 + 1 * (y 1).val = (y 1).val := by rw [(index4 t).2, Nat.zero_mul, Nat.zero_add, Nat.one_mul]
  have hz : ((cfg0.win 4).blk t).view.emb y = (ix2 (place ⟨t.val, ht⟩ (y 0)) (y 1) : S8192x128.Idx) :=
    funext fun a => match a with | ⟨0, _⟩ => Fin.ext i0 | ⟨1, _⟩ => Fin.ext i1
  rw [hz]
  exact (congrFun e y).trans (sum_whole m c D W P hD hW hP t ⟨t.val, ht⟩ rfl (y 0) (headOf (y 1)))

/-- The reference's product and its results. -/
abbrev refDot : FVec Ideal S8192x1024 .f32 := Host.dotGeneral Cert.Reference22Ideal.dot_S8192x2048_S1024x2048_S8192x1024_1_1_0_0_n_n none D W
abbrev refRows : FVec Ideal S8192x1024 .bf16 := truncf .bf16 (refDot D W) Cert.Reference22Ideal.Gen.bitsLt_bf16_f32
abbrev refDelta : FVec Ideal S8192x128 .f32 :=
  shapeCast Cert.Reference22Ideal.S8192x128 (broadcastInDim Cert.Reference22Ideal.S8192x8x16 ![0, 1] Cert.Reference22Ideal.Gen.bcast_S8192x8_S8192x8x16_0_1
    (Host.reduceAdd (shapeCast Cert.Reference22Ideal.S8192x8x128 (mulf (refDot D W) P) Cert.Reference22Ideal.Gen.shapeCasts_S8192x1024_S8192x8x128) (constant Cert.Reference22Ideal.S_ .f32 0x00000000#32)
      Cert.Reference22Ideal.Gen.reducesTo_S8192x8x128_S8192x8_d2 Cert.Reference22Ideal.Gen.h_S_)) Cert.Reference22Ideal.Gen.shapeCasts_S8192x8x16_S8192x128

theorem refRows_at (i : Fin 8192) (l : Fin 1024) : refRows D W (ix2 i l) = whole D W i l := by
  unfold refRows refDot whole
  pointwise

theorem refDelta_at (i : Fin 8192) (l : Fin 128) : refDelta D W P (ix2 i l) = headDelta D W P i (headOf l) := by
  have e (d : Fin 128) (h : l.val / 16 * 128 + d.val < 1024) : (⟨l.val / 16 * 128 + d.val, h⟩ : Fin 1024) = col (headOf l) d :=
    Fin.ext (congrArg (· + d.val) (Nat.mul_comm _ _))
  unfold refDelta refDot headDelta whole
  pointwise
  simp only [e]

theorem same_rows : refRows D W = rowsGrad D W := by
  refine funext fun y => ?_
  obtain ⟨i, l, rfl⟩ : ∃ (i : Fin 8192) (l : Fin 1024), y = ix2 i l := ⟨_, _, eq_ix2 y⟩
  exact refRows_at D W i l

theorem same_delta : refDelta D W P = delta D W P := by
  refine funext fun y => ?_
  obtain ⟨i, l, rfl⟩ : ∃ (i : Fin 8192) (l : Fin 128), y = ix2 i l := ⟨_, _, eq_ix2 y⟩
  exact refDelta_at D W P i l

end Whole

theorem agree : Cert.algebraic_Kernel22Ideal_Reference22Ideal (hKernel22Ideal := Cert.Kernel22Ideal.Gen.facts) (hReference22Ideal := Cert.Reference22Ideal.Gen.facts) := by
  intro m g m' g' _ he
  refine ⟨fun c => (dats m 0 c).arrAt 3 cfg0.N, fun c => (dats m 0 c).arrAt 4 cfg0.N, (θ_run _ _ _).mono (fun r h c => ?_) (Cert.Kernel22Ideal.Value.run_blocks m g), ?_⟩
  · obtain ⟨a, b, _, _, _, _, rest⟩ := h c
    exact ⟨a, b, rest⟩
  refine (θ_run _ _ _).mono (fun r h c => ?_) (Cert.Reference22Ideal.Value.run m' g')
  obtain ⟨r0, r1, rest⟩ := h c
  obtain ⟨e0, e1, e2⟩ := he c
  exact ⟨r0.trans ((same_rows _ _).trans (array_rows m c _ _ e0 e1).symm), r1.trans ((same_delta _ _ _).trans (array_sums m c _ _ _ e0 e1 e2).symm), rest⟩

end Cert.AttnOut

end
-- ==== Proof.InProjIdealRope.lean ====
/- The body of the input projection's kernel, run once on its staging buffers. -/
module

public import proofs.«01_k».proof.Proof.Gen.Kernel23Ideal.Frame
public import proofs.«01_k».proof.Proof.Gen.Kernel23Ideal.Launch
public import proofs.«01_k».proof.Proof.Gen.Kernel23Ideal.Points
public import proofs.«01_k».proof.Proof.Gen.Kernel23Ideal.Skeleton
public import Idealize.ShloMosaic.Lib.Exec

@[expose] public section

set_option maxRecDepth 16384

noncomputable section

namespace Cert.Kernel23Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel23Ideal Cert.Kernel23Ideal.Gen

variable {F : FTy → Type} [FloatOps F]

set_option maxHeartbeats 8000000 in
/-- The first two slabs of the weights (queries and keys): the rotary embedding. -/
def runRope (c : Dev nD) (i : grid0.Coords) (arg3 : Memref sig .tc .vmem S1024x2048 .bf16) (harg3 : arg3.IsWhole) (arg4 : Memref sig .tc .vmem S1x2048x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S256x4096 .bf16) (harg8 : arg8.IsWhole) (arg9 : Memref sig .tc .vmem S64x16384 .bf16) (harg9 : arg9.IsWhole) (arg10 : Memref sig .tc .vmem S8x1024x128 .f32) (harg10 : arg10.IsWhole) (hc1 : Scalar.cmpi .ne (Scalar.extui (Scalar.cmpi .slt (BitVec.ofNat 32 (i 1).val) 2#32)) 0#32 = 1#1) (hc2 : ¬Scalar.cmpi .ne (Scalar.extui (Scalar.cmpi .eq (BitVec.ofNat 32 (i 1).val) 2#32)) 0#32 = 1#1) (hc3 : k0_cond3 i = 1#1) (hc4 : ¬k0_cond4 i = 1#1) (hc5 : ¬k0_cond5 i = 1#1)
    (x0 : Vec F S1024x2048 .bf16) (x1 : Vec F S1x2048x1024 .bf16) (x2 x3 : Vec F S1024x128 .f32) :
    { L : List (View.Piece (Elt F) S1024x1024 .bf16) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_in_proj i arg3 harg3 arg4 harg4 arg5 harg5 arg6 harg6 arg7 harg7 arg8 harg8 arg9 harg9 arg10 harg10) K } := by
  refine ⟨?_, fun E K => ?run⟩
  case run =>
    simp only [cc0_in_proj_eq_skeleton]; unfold cc0_in_proj_skel
    simp only [k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg3.eq_unread hf0; obtain rfl := harg4.eq_unread hf1; obtain rfl := harg5.eq_unread hf2; obtain rfl := harg6.eq_unread hf3
    sl_exec (disch := first | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; iexists _; isplitr
      swap; · iexact H5
      ipureintro; rfl
    isplitl [H6]
    · iexists _; iexists _; isplitr
      swap; · iexact H6
      ipureintro; rfl
    iexists _; iexists _; isplitr
    swap; · iexact H7
    ipureintro; rfl

end Cert.Kernel23Ideal.InProj

end
-- ==== Proof.InProjIdealVal.lean ====
/- The body of the input projection's kernel, run once on its staging buffers. -/
module

public import proofs.«01_k».proof.Proof.Gen.Kernel23Ideal.Frame
public import proofs.«01_k».proof.Proof.Gen.Kernel23Ideal.Launch
public import proofs.«01_k».proof.Proof.Gen.Kernel23Ideal.Points
public import proofs.«01_k».proof.Proof.Gen.Kernel23Ideal.Skeleton
public import Idealize.ShloMosaic.Lib.Exec

@[expose] public section

set_option maxRecDepth 16384

noncomputable section

namespace Cert.Kernel23Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel23Ideal Cert.Kernel23Ideal.Gen

variable {F : FTy → Type} [FloatOps F]

set_option maxHeartbeats 8000000 in
/-- The third slab (values). -/
def runVal (c : Dev nD) (i : grid0.Coords) (arg3 : Memref sig .tc .vmem S1024x2048 .bf16) (harg3 : arg3.IsWhole) (arg4 : Memref sig .tc .vmem S1x2048x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S256x4096 .bf16) (harg8 : arg8.IsWhole) (arg9 : Memref sig .tc .vmem S64x16384 .bf16) (harg9 : arg9.IsWhole) (arg10 : Memref sig .tc .vmem S8x1024x128 .f32) (harg10 : arg10.IsWhole) (hc1 : ¬Scalar.cmpi .ne (Scalar.extui (Scalar.cmpi .slt (BitVec.ofNat 32 (i 1).val) 2#32)) 0#32 = 1#1) (hc2 : Scalar.cmpi .ne (Scalar.extui (Scalar.cmpi .eq (BitVec.ofNat 32 (i 1).val) 2#32)) 0#32 = 1#1) (hc3 : k0_cond3 i = 1#1) (hc4 : ¬k0_cond4 i = 1#1) (hc5 : ¬k0_cond5 i = 1#1)
    (x0 : Vec F S1024x2048 .bf16) (x1 : Vec F S1x2048x1024 .bf16) (x2 x3 : Vec F S1024x128 .f32) :
    { L : List (View.Piece (Elt F) S1024x1024 .bf16) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_in_proj i arg3 harg3 arg4 harg4 arg5 harg5 arg6 harg6 arg7 harg7 arg8 harg8 arg9 harg9 arg10 harg10) K } := by
  refine ⟨?_, fun E K => ?run⟩
  case run =>
    simp only [cc0_in_proj_eq_skeleton]; unfold cc0_in_proj_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg3.eq_unread hf0; obtain rfl := harg4.eq_unread hf1; obtain rfl := harg5.eq_unread hf2; obtain rfl := harg6.eq_unread hf3
    sl_exec (disch := first | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; iexists _; isplitr
      swap; · iexact H5
      ipureintro; rfl
    isplitl [H6]
    · iexists _; iexists _; isplitr
      swap; · iexact H6
      ipureintro; rfl
    iexists _; iexists _; isplitr
    swap; · iexact H7
    ipureintro; rfl

end Cert.Kernel23Ideal.InProj

end
-- ==== Proof.InProjIdealU.lean ====
/- The body of the input projection's kernel, run once on its staging buffers. -/
module

public import proofs.«01_k».proof.Proof.Gen.Kernel23Ideal.Frame
public import proofs.«01_k».proof.Proof.Gen.Kernel23Ideal.Launch
public import proofs.«01_k».proof.Proof.Gen.Kernel23Ideal.Points
public import proofs.«01_k».proof.Proof.Gen.Kernel23Ideal.Skeleton
public import Idealize.ShloMosaic.Lib.Exec

@[expose] public section

set_option maxRecDepth 16384

noncomputable section

namespace Cert.Kernel23Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel23Ideal Cert.Kernel23Ideal.Gen

variable {F : FTy → Type} [FloatOps F]

set_option maxHeartbeats 8000000 in
/-- The fourth slab. -/
def runU (c : Dev nD) (i : grid0.Coords) (arg3 : Memref sig .tc .vmem S1024x2048 .bf16) (harg3 : arg3.IsWhole) (arg4 : Memref sig .tc .vmem S1x2048x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S256x4096 .bf16) (harg8 : arg8.IsWhole) (arg9 : Memref sig .tc .vmem S64x16384 .bf16) (harg9 : arg9.IsWhole) (arg10 : Memref sig .tc .vmem S8x1024x128 .f32) (harg10 : arg10.IsWhole) (hc1 : ¬Scalar.cmpi .ne (Scalar.extui (Scalar.cmpi .slt (BitVec.ofNat 32 (i 1).val) 2#32)) 0#32 = 1#1) (hc2 : ¬Scalar.cmpi .ne (Scalar.extui (Scalar.cmpi .eq (BitVec.ofNat 32 (i 1).val) 2#32)) 0#32 = 1#1) (hc3 : ¬k0_cond3 i = 1#1) (hc4 : k0_cond4 i = 1#1) (hc5 : ¬k0_cond5 i = 1#1)
    (x0 : Vec F S1024x2048 .bf16) (x1 : Vec F S1x2048x1024 .bf16) (x2 x3 : Vec F S1024x128 .f32) :
    { L : List (View.Piece (Elt F) S1024x1024 .bf16) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_in_proj i arg3 harg3 arg4 harg4 arg5 harg5 arg6 harg6 arg7 harg7 arg8 harg8 arg9 harg9 arg10 harg10) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg3.eq_unread hf0; obtain rfl := harg4.eq_unread hf1; obtain rfl := harg5.eq_unread hf2; obtain rfl := harg6.eq_unread hf3
    sl_exec (disch := first | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; iexists _; isplitr
      swap; · iexact H5
      ipureintro; rfl
    isplitl [H6]
    · iexists _; iexists _; isplitr
      swap; · iexact H6
      ipureintro; rfl
    iexists _; iexists _; isplitr
    swap; · iexact H7
    ipureintro; rfl

set_option maxHeartbeats 8000000 in
/-- The last four slabs: the sigmoid. -/
def runGate (c : Dev nD) (i : grid0.Coords) (arg3 : Memref sig .tc .vmem S1024x2048 .bf16) (harg3 : arg3.IsWhole) (arg4 : Memref sig .tc .vmem S1x2048x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S256x4096 .bf16) (harg8 : arg8.IsWhole) (arg9 : Memref sig .tc .vmem S64x16384 .bf16) (harg9 : arg9.IsWhole) (arg10 : Memref sig .tc .vmem S8x1024x128 .f32) (harg10 : arg10.IsWhole) (hc1 : ¬Scalar.cmpi .ne (Scalar.extui (Scalar.cmpi .slt (BitVec.ofNat 32 (i 1).val) 2#32)) 0#32 = 1#1) (hc2 : ¬Scalar.cmpi .ne (Scalar.extui (Scalar.cmpi .eq (BitVec.ofNat 32 (i 1).val) 2#32)) 0#32 = 1#1) (hc3 : ¬k0_cond3 i = 1#1) (hc4 : ¬k0_cond4 i = 1#1) (hc5 : k0_cond5 i = 1#1)
    (x0 : Vec F S1024x2048 .bf16) (x1 : Vec F S1x2048x1024 .bf16) (x2 x3 : Vec F S1024x128 .f32) :
    { L : List (View.Piece (Elt F) S1024x1024 .bf16) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_in_proj i arg3 harg3 arg4 harg4 arg5 harg5 arg6 harg6 arg7 harg7 arg8 harg8 arg9 harg9 arg10 harg10) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg3.eq_unread hf0; obtain rfl := harg4.eq_unread hf1; obtain rfl := harg5.eq_unread hf2; obtain rfl := harg6.eq_unread hf3
    sl_exec (disch := first | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; iexists _; isplitr
      swap; · iexact H5
      ipureintro; rfl
    isplitl [H6]
    · iexists _; iexists _; isplitr
      swap; · iexact H6
      ipureintro; rfl
    iexists _; iexists _; isplitr
    swap; · iexact H7
    ipureintro; rfl

end Cert.Kernel23Ideal.InProj

end
-- ==== Proof.InProjIdealFrame.lean ====
/- The input projection's kernel at every point of its grid: what its staging buffers hold after the body, with the two
   rearranged copies of the result left unnamed, and what the whole program therefore leaves in memory. -/
module

public import proofs.«01_k».proof.Proof.InProjIdealRope
public import proofs.«01_k».proof.Proof.InProjIdealVal
public import proofs.«01_k».proof.Proof.InProjIdealU
public import Idealize.ShloMosaic.Lib.Pipeline.FrameBody
public import Idealize.ShloMosaic.Lib.Ring
public import Idealize.ShloMosaic.Lib.Tactic

@[expose] public section

set_option maxRecDepth 16384

noncomputable section

namespace Cert.Kernel23Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel23Ideal Cert.Kernel23Ideal.Gen

variable {F : FTy → Type} [FloatOps F]
variable (m : (ℓ : Loc nD τ sig) → Buf (Elt F) ℓ) (ρ : Dev nD → PrngReg)

theorem hs0 (t : Fin cfg0.N) : (st0_0 t).IsWhole := hstage0_0 ((cfg0.slots t 0).cast nbuf0_0)
theorem hs1 (t : Fin cfg0.N) : (st0_1 t).IsWhole := hstage0_1 ((cfg0.slots t 1).cast nbuf0_1)
theorem hs2 (t : Fin cfg0.N) : (st0_2 t).IsWhole := hstage0_2 ((cfg0.slots t 2).cast nbuf0_2)
theorem hs3 (t : Fin cfg0.N) : (st0_3 t).IsWhole := hstage0_3 ((cfg0.slots t 3).cast nbuf0_3)
theorem hs4 (t : Fin cfg0.N) : (st0_4 t).IsWhole := hstage0_4 ((cfg0.slots t 4).cast nbuf0_4)
theorem hs5 (t : Fin cfg0.N) : (st0_5 t).IsWhole := hstage0_5 ((cfg0.slots t 5).cast nbuf0_5)
theorem hs6 (t : Fin cfg0.N) : (st0_6 t).IsWhole := hstage0_6 ((cfg0.slots t 6).cast nbuf0_6)

/-- The kernel's own buffer for the heads. -/
abbrev scratch : Memref sig .tc .vmem S8x1024x128 .f32 := Memref.whole cc0_scratch0

theorem cond1 : ∀ t : Fin grid0.N, Scalar.cmpi .ne (Scalar.extui (Scalar.cmpi .slt (BitVec.ofNat 32 ((grid0.coords t) 1).val) 2#32)) 0#32 = 1#1 ↔ t.val % 8 < 2 := by decide +kernel
theorem cond2 : ∀ t : Fin grid0.N, Scalar.cmpi .ne (Scalar.extui (Scalar.cmpi .eq (BitVec.ofNat 32 ((grid0.coords t) 1).val) 2#32)) 0#32 = 1#1 ↔ t.val % 8 = 2 := by decide +kernel
theorem cond3 : ∀ t : Fin grid0.N, k0_cond3 (grid0.coords t) = 1#1 ↔ t.val % 8 < 3 := by decide +kernel
theorem cond4 : ∀ t : Fin grid0.N, k0_cond4 (grid0.coords t) = 1#1 ↔ t.val % 8 = 3 := by decide +kernel
theorem cond5 : ∀ t : Fin grid0.N, k0_cond5 (grid0.coords t) = 1#1 ↔ 4 ≤ t.val % 8 := by decide +kernel

/-- The kernel's own buffer at some contents, and the generator's register. -/
theorem inv_eq (c : Dev nD) :
    (Pipeline.ΦA spec0 c : sProp (MT nD τ sig Unit (Elt F) ℕ (UR sig nD τ) ℕ))
      = iprop((∃ d, owns (c : Thread nD τ) scratch fullShare d) ∗ (∃ r, prngReg c r)) := by
  unfold Pipeline.ΦA; rw [scopedRest0_eq]; simp only [scratch, owns_whole]; try rfl

/-- What the body stores into the first result's buffer at such a point. -/
abbrev piecesRope (c : Dev nD) (t : Fin cfg0.N) (h : t.val % 8 < 2) : List (View.Piece (Elt F) S1024x1024 .bf16) :=
  (runRope (F := F) c (grid0.coords t) (st0_0 t) (hs0 t) (st0_1 t) (hs1 t) (st0_2 t) (hs2 t) (st0_3 t) (hs3 t) (st0_4 t) (hs4 t) (st0_5 t) (hs5 t) (st0_6 t) (hs6 t) scratch (Memref.isWhole_whole _) ((cond1 t).mpr (by omega)) (fun h => by have := (cond2 t).mp h; omega) ((cond3 t).mpr (by omega)) (fun h => by have := (cond4 t).mp h; omega) (fun h => by have := (cond5 t).mp h; omega) (iblk m c 0 t) (iblk m c 1 t) (iblk m c 2 t) (iblk m c 3 t)).1
theorem coverRope (c : Dev nD) (t : Fin cfg0.N) (h : t.val % 8 < 2) (y : S1024x1024.Idx) : ∃ p ∈ piecesRope m c t h, y ∈ p.1.set :=
  View.cover_of_tiledL (piecesRope m c t h) S1024x128.size (by sl_kernel_rfl) y

/-- What the body stores into the first result's buffer at such a point. -/
abbrev piecesVal (c : Dev nD) (t : Fin cfg0.N) (h : t.val % 8 = 2) : List (View.Piece (Elt F) S1024x1024 .bf16) :=
  (runVal (F := F) c (grid0.coords t) (st0_0 t) (hs0 t) (st0_1 t) (hs1 t) (st0_2 t) (hs2 t) (st0_3 t) (hs3 t) (st0_4 t) (hs4 t) (st0_5 t) (hs5 t) (st0_6 t) (hs6 t) scratch (Memref.isWhole_whole _) (fun h => by have := (cond1 t).mp h; omega) ((cond2 t).mpr (by omega)) ((cond3 t).mpr (by omega)) (fun h => by have := (cond4 t).mp h; omega) (fun h => by have := (cond5 t).mp h; omega) (iblk m c 0 t) (iblk m c 1 t) (iblk m c 2 t) (iblk m c 3 t)).1
theorem coverVal (c : Dev nD) (t : Fin cfg0.N) (h : t.val % 8 = 2) (y : S1024x1024.Idx) : ∃ p ∈ piecesVal m c t h, y ∈ p.1.set :=
  View.cover_of_tiledL (piecesVal m c t h) S1024x128.size (by sl_kernel_rfl) y

/-- What the body stores into the first result's buffer at such a point. -/
abbrev piecesU (c : Dev nD) (t : Fin cfg0.N) (h : t.val % 8 = 3) : List (View.Piece (Elt F) S1024x1024 .bf16) :=
  (runU (F := F) c (grid0.coords t) (st0_0 t) (hs0 t) (st0_1 t) (hs1 t) (st0_2 t) (hs2 t) (st0_3 t) (hs3 t) (st0_4 t) (hs4 t) (st0_5 t) (hs5 t) (st0_6 t) (hs6 t) scratch (Memref.isWhole_whole _) (fun h => by have := (cond1 t).mp h; omega) (fun h => by have := (cond2 t).mp h; omega) (fun h => by have := (cond3 t).mp h; omega) ((cond4 t).mpr (by omega)) (fun h => by have := (cond5 t).mp h; omega) (iblk m c 0 t) (iblk m c 1 t) (iblk m c 2 t) (iblk m c 3 t)).1
theorem coverU (c : Dev nD) (t : Fin cfg0.N) (h : t.val % 8 = 3) (y : S1024x1024.Idx) : ∃ p ∈ piecesU m c t h, y ∈ p.1.set :=
  View.cover_of_tiledL (piecesU m c t h) S1024x1024.size (by sl_kernel_rfl) y

/-- What the body stores into the first result's buffer at such a point. -/
abbrev piecesGate (c : Dev nD) (t : Fin cfg0.N) (h : 4 ≤ t.val % 8) : List (View.Piece (Elt F) S1024x1024 .bf16) :=
  (runGate (F := F) c (grid0.coords t) (st0_0 t) (hs0 t) (st0_1 t) (hs1 t) (st0_2 t) (hs2 t) (st0_3 t) (hs3 t) (st0_4 t) (hs4 t) (st0_5 t) (hs5 t) (st0_6 t) (hs6 t) scratch (Memref.isWhole_whole _) (fun h => by have := (cond1 t).mp h; omega) (fun h => by have := (cond2 t).mp h; omega) (fun h => by have := (cond3 t).mp h; omega) (fun h => by have := (cond4 t).mp h; omega) ((cond5 t).mpr (by omega)) (iblk m c 0 t) (iblk m c 1 t) (iblk m c 2 t) (iblk m c 3 t)).1
theorem coverGate (c : Dev nD) (t : Fin cfg0.N) (h : 4 ≤ t.val % 8) (y : S1024x1024.Idx) : ∃ p ∈ piecesGate m c t h, y ∈ p.1.set :=
  View.cover_of_tiledL (piecesGate m c t h) S1024x1024.size (by sl_kernel_rfl) y

/-- What the first result's buffer holds after the body's run at a point. -/
def block (c : Dev nD) (t : Fin cfg0.N) : Vec F S1024x1024 .bf16 :=
  if h : t.val % 8 < 2 then (st0_4 t).view.read (Elt F) ((st0_4 t).view.writes (Elt F) (st0_4 t).view.junk (piecesRope m c t h))
  else if h : t.val % 8 = 2 then (st0_4 t).view.read (Elt F) ((st0_4 t).view.writes (Elt F) (st0_4 t).view.junk (piecesVal m c t h))
  else if h : t.val % 8 = 3 then (st0_4 t).view.read (Elt F) ((st0_4 t).view.writes (Elt F) (st0_4 t).view.junk (piecesU m c t h))
  else if h : 4 ≤ t.val % 8 then (st0_4 t).view.read (Elt F) ((st0_4 t).view.writes (Elt F) (st0_4 t).view.junk (piecesGate m c t h))
  else (st0_4 t).view.read (Elt F) (st0_4 t).view.junk
theorem blockRope (c : Dev nD) (t : Fin cfg0.N) (h : t.val % 8 < 2) : block m c t = (st0_4 t).view.read (Elt F) ((st0_4 t).view.writes (Elt F) (st0_4 t).view.junk (piecesRope m c t h)) := by
  unfold block; rw [dif_pos h]
theorem blockVal (c : Dev nD) (t : Fin cfg0.N) (h : t.val % 8 = 2) : block m c t = (st0_4 t).view.read (Elt F) ((st0_4 t).view.writes (Elt F) (st0_4 t).view.junk (piecesVal m c t h)) := by
  unfold block; rw [dif_neg (by omega)]; rw [dif_pos h]
theorem blockU (c : Dev nD) (t : Fin cfg0.N) (h : t.val % 8 = 3) : block m c t = (st0_4 t).view.read (Elt F) ((st0_4 t).view.writes (Elt F) (st0_4 t).view.junk (piecesU m c t h)) := by
  unfold block; rw [dif_neg (by omega)]; rw [dif_neg (by omega)]; rw [dif_pos h]
theorem blockGate (c : Dev nD) (t : Fin cfg0.N) (h : 4 ≤ t.val % 8) : block m c t = (st0_4 t).view.read (Elt F) ((st0_4 t).view.writes (Elt F) (st0_4 t).view.junk (piecesGate m c t h)) := by
  unfold block; rw [dif_neg (by omega)]; rw [dif_neg (by omega)]; rw [dif_neg (by omega)]; rw [dif_pos h]

/-- The windows left unnamed: the two rearranged copies. -/
def fgt : Fin 7 → Bool := ![false, false, false, false, false, true, true]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
    | ⟨5, _⟩ => fun _ => Classical.arbitrary _
    | ⟨6, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = block m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.ΦA spec0 c from rfl, inv_eq]
  by_cases h : t.val % 8 < 2
  · rw [blockRope m c t h]
    iintro ⟨⟨HS0, Hg⟩, Ho, ⟨%d0, H0⟩, ⟨%d1, H1⟩, ⟨%d2, H2⟩, ⟨%d3, H3⟩, ⟨%d4, H4⟩, H5, H6⟩
    iapply ((runRope (F := F) c (grid0.coords t) (st0_0 t) (hs0 t) (st0_1 t) (hs1 t) (st0_2 t) (hs2 t) (st0_3 t) (hs3 t) (st0_4 t) (hs4 t) (st0_5 t) (hs5 t) (st0_6 t) (hs6 t) scratch (Memref.isWhole_whole _) ((cond1 t).mpr (by omega)) (fun h => by have := (cond2 t).mp h; omega) ((cond3 t).mpr (by omega)) (fun h => by have := (cond4 t).mp h; omega) (fun h => by have := (cond5 t).mp h; omega) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    iintro ⟨H0, H1, H2, H3, ⟨%e4, H4⟩, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverRope m c t h)
    isplitl [H5]; · iexact H5
    iexact H6
  by_cases h : t.val % 8 = 2
  · rw [blockVal m c t h]
    iintro ⟨⟨HS0, Hg⟩, Ho, ⟨%d0, H0⟩, ⟨%d1, H1⟩, ⟨%d2, H2⟩, ⟨%d3, H3⟩, ⟨%d4, H4⟩, H5, H6⟩
    iapply ((runVal (F := F) c (grid0.coords t) (st0_0 t) (hs0 t) (st0_1 t) (hs1 t) (st0_2 t) (hs2 t) (st0_3 t) (hs3 t) (st0_4 t) (hs4 t) (st0_5 t) (hs5 t) (st0_6 t) (hs6 t) scratch (Memref.isWhole_whole _) (fun h => by have := (cond1 t).mp h; omega) ((cond2 t).mpr (by omega)) ((cond3 t).mpr (by omega)) (fun h => by have := (cond4 t).mp h; omega) (fun h => by have := (cond5 t).mp h; omega) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    iintro ⟨H0, H1, H2, H3, ⟨%e4, H4⟩, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverVal m c t h)
    isplitl [H5]; · iexact H5
    iexact H6
  by_cases h : t.val % 8 = 3
  · rw [blockU m c t h]
    iintro ⟨⟨HS0, Hg⟩, Ho, ⟨%d0, H0⟩, ⟨%d1, H1⟩, ⟨%d2, H2⟩, ⟨%d3, H3⟩, ⟨%d4, H4⟩, H5, H6⟩
    iapply ((runU (F := F) c (grid0.coords t) (st0_0 t) (hs0 t) (st0_1 t) (hs1 t) (st0_2 t) (hs2 t) (st0_3 t) (hs3 t) (st0_4 t) (hs4 t) (st0_5 t) (hs5 t) (st0_6 t) (hs6 t) scratch (Memref.isWhole_whole _) (fun h => by have := (cond1 t).mp h; omega) (fun h => by have := (cond2 t).mp h; omega) (fun h => by have := (cond3 t).mp h; omega) ((cond4 t).mpr (by omega)) (fun h => by have := (cond5 t).mp h; omega) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    iintro ⟨H0, H1, H2, H3, ⟨%e4, H4⟩, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverU m c t h)
    isplitl [H5]; · iexact H5
    iexact H6
  replace h : 4 ≤ t.val % 8 := by omega
  rw [blockGate m c t h]
  iintro ⟨⟨HS0, Hg⟩, Ho, ⟨%d0, H0⟩, ⟨%d1, H1⟩, ⟨%d2, H2⟩, ⟨%d3, H3⟩, ⟨%d4, H4⟩, H5, H6⟩
  iapply ((runGate (F := F) c (grid0.coords t) (st0_0 t) (hs0 t) (st0_1 t) (hs1 t) (st0_2 t) (hs2 t) (st0_3 t) (hs3 t) (st0_4 t) (hs4 t) (st0_5 t) (hs5 t) (st0_6 t) (hs6 t) scratch (Memref.isWhole_whole _) (fun h => by have := (cond1 t).mp h; omega) (fun h => by have := (cond2 t).mp h; omega) (fun h => by have := (cond3 t).mp h; omega) (fun h => by have := (cond4 t).mp h; omega) ((cond5 t).mpr (by omega)) (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  iintro ⟨H0, H1, H2, H3, ⟨%e4, H4⟩, H5, H6, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverGate m c t h)
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

/-- The body stores into the first result's buffer at every point. -/
theorem live4 : ∀ t : Fin grid0.N, cfg0.idle 4 (grid0.coords t) = false := by decide +kernel

theorem body_obligation (c : Dev nD) : BodyObligation (dats (F := F) m 0 c) (defs₀ (F := F)) Variants.none () Set.univ fgt := fun t => by
  rw [bigSep_W0, bigSep_W0, defs₀_row]
  refine triple_restated (sound_body m c t) rfl .rfl fun _ => ?_
  unfold bodyPost
  rw [show cfg0.idle 4 (cfg0.grid.coords t) = false from live4 t]
  exact .rfl

set_option backward.isDefEq.respectTransparency.types false in
/-- The whole program: the first result ends at what the points leave in it, and every counter at zero. -/
theorem run_main : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel23Ideal.InProj

end
-- ==== Proof.InProjPoint.lean ====
/-
  One grid point of the input projection. It multiplies a block of rows with a slab of columns of the weights; the first two
  slabs are turned by the rotary embedding head by head, the next two are kept, and the last four pass through the sigmoid.
-/
module

public import proofs.«01_k».proof.Proof.InProjIdealFrame
public import Idealize.ShloMosaic.Lib.Pointwise
public import Idealize.ShloMosaic.Lib.Pipeline.ValueKit
public import Idealize.ShloMosaic.Lib.Pipeline.ReadBack
public import Idealize.ShloMosaic.Lib.WholeRead

@[expose] public section

set_option backward.isDefEq.respectTransparency false
set_option maxRecDepth 16384

noncomputable section

namespace Cert.Kernel23Ideal.InProj

open Cert.Kernel23Ideal Cert.Kernel23Ideal.Gen Idealize.ShloMosaic Idealize.ShloMosaic.TcCoe Idealize.ShloMosaic.Tactic Idealize.SL.Sem

/-- The constant one half. -/
theorem half_lit : Ideal.ofBits .f32 0x3f000000#32 = ((1 / 2 : ℝ) : EReal) := by
  simp [Ideal.ofBits, Ideal.ieee, -EReal.coe_mul]; norm_num

/-- The logistic function by way of the hyperbolic tangent, at every extended real. -/
theorem tanh_form (x : EReal) : (Ideal.ofBits .f32 0x3f000000#32 : EReal) * Ideal.tanh (Ideal.ofBits .f32 0x3f000000#32 * x) + Ideal.ofBits .f32 0x3f000000#32 = Ideal.logistic x := by
  rw [half_lit]
  induction x using EReal.rec with
  | bot =>
    rw [EReal.coe_mul_bot_of_pos (by norm_num), Ideal.tanh_bot, Ideal.logistic_bot]
    have : ((-1 : ℝ) : EReal) = -1 := by simp
    rw [← this, ← EReal.coe_mul, ← EReal.coe_add]
    norm_num
  | top =>
    rw [EReal.coe_mul_top_of_pos (by norm_num), Ideal.tanh_top, Ideal.logistic_top]
    rw [← EReal.coe_one, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1/2*r)) * Real.exp (-(1/2*r)) := by rw [← Real.exp_add]; congr 1; ring
    have h2 : Real.exp (1/2*r) * Real.exp (-(1/2*r)) = 1 := by rw [← Real.exp_add]; simp
    have p1 := Real.exp_pos (1/2*r)
    have p2 := Real.exp_pos (-(1/2*r))
    rw [h1]
    generalize Real.exp (1/2*r) = a at *
    generalize Real.exp (-(1/2*r)) = b at *
    rw [show a = b⁻¹ from eq_inv_of_mul_eq_one_left h2]
    field_simp
    ring

section Point

variable (x0 : Vec Ideal S1024x2048 .bf16) (x1 : Vec Ideal S1x2048x1024 .bf16) (x2 x3 : Vec Ideal S1024x128 .f32)

/-- Column `d` of head `h`, the head and the place of a column, and the column half a head away. -/
abbrev col (h : Fin 8) (d : Fin 128) : Fin 1024 := ⟨128 * h.val + d.val, by omega⟩
abbrev headOf (l : Fin 1024) : Fin 8 := ⟨l.val / 128, by omega⟩
abbrev posOf (l : Fin 1024) : Fin 128 := ⟨l.val % 128, by omega⟩
abbrev half (d : Fin 128) : Fin 128 := ⟨(d.val + 128 - 64) % 128, by omega⟩

/-- A point's product at an index, and turned by the rotary embedding. -/
def dot (r : Fin 1024) (l : Fin 1024) : EReal := ∑ k : Fin 2048, x0 (ix2 r k) * x1 (ix3 0 k l)
def turned (r : Fin 1024) (h : Fin 8) (d : Fin 128) : EReal :=
  dot x0 x1 r (col h d) * x2 (ix2 r d) + dot x0 x1 r (col h (half d)) * x3 (ix2 r d)

/-- The heads as the kernel keeps them, and the blocks a point stores. -/
def turnedHeads : S8x1024x128.Idx → EReal := fun y => turned x0 x1 x2 x3 (y 1) (y 0) (y 2)
def plainHeads : S8x1024x128.Idx → EReal := fun y => dot x0 x1 (y 1) (col (y 0) (y 2))
def turnedOut : FVec Ideal S1024x1024 .bf16 := fun y => turned x0 x1 x2 x3 (y 0) (headOf (y 1)) (posOf (y 1))
def plainOut : FVec Ideal S1024x1024 .bf16 := fun y => dot x0 x1 (y 0) (y 1)
def keptOut : FVec Ideal S1024x1024 .bf16 := fun y => dot x0 x1 (y 0) (col (headOf (y 1)) (posOf (y 1)))
def gateOut : FVec Ideal S1024x1024 .bf16 := fun y => Ideal.logistic (dot x0 x1 (y 0) (y 1))

theorem dot_at (r : Fin 1024) (l : Fin 1024) : k0_pay1 (F := Ideal) x0 x1 (ix2 r l) = dot x0 x1 r l := by
  unfold k0_pay1 dot
  pointwise

/-- The columns of a head, as the slices name them. -/
theorem col_zero (d : Fin 128) (hl : d.val < 1024) : (⟨d.val, hl⟩ : Fin 1024) = col 0 d := Fin.ext (Nat.zero_add _).symm
theorem col_at (h : Fin 8) (o : ℕ) (ho : o = 128 * h.val) (d : Fin 128) (hl : o + d.val < 1024) : (⟨o + d.val, hl⟩ : Fin 1024) = col h d := by subst ho; rfl
theorem half_zero (d : Fin 128) (hl : (d.val + 128 - 64) % 128 < 1024) : (⟨(d.val + 128 - 64) % 128, hl⟩ : Fin 1024) = col 0 (half d) := Fin.ext (Nat.zero_add _).symm
theorem half_at (h : Fin 8) (o : ℕ) (ho : o = 128 * h.val) (d : Fin 128) (hl : o + (d.val + 128 - 64) % 128 < 1024) :
    (⟨o + (d.val + 128 - 64) % 128, hl⟩ : Fin 1024) = col h (half d) := by subst ho; rfl

theorem turned0 (r : Fin 1024) (d : Fin 128) : k0_pay11 (F := Ideal) (k0_pay1 (F := Ideal) x0 x1) x2 x3 (ix3 0 r d) = turned x0 x1 x2 x3 r 0 d := by
  unfold turned
  simp only [← dot_at]
  unfold k0_pay11 k0_pay9 k0_pay10
  pointwise
  simp only [col_zero, half_zero]

theorem turned1 (r : Fin 1024) (d : Fin 128) : k0_pay12 (F := Ideal) (k0_pay1 (F := Ideal) x0 x1) x2 x3 (ix3 0 r d) = turned x0 x1 x2 x3 r 1 d := by
  unfold turned
  simp only [← dot_at]
  unfold k0_pay12 k0_pay9 k0_pay10
  pointwise
  simp only [col_at 1 128 rfl, half_at 1 128 rfl]

theorem turned2 (r : Fin 1024) (d : Fin 128) : k0_pay13 (F := Ideal) (k0_pay1 (F := Ideal) x0 x1) x2 x3 (ix3 0 r d) = turned x0 x1 x2 x3 r 2 d := by
  unfold turned
  simp only [← dot_at]
  unfold k0_pay13 k0_pay9 k0_pay10
  pointwise
  simp only [col_at 2 256 rfl, half_at 2 256 rfl]

theorem turned3 (r : Fin 1024) (d : Fin 128) : k0_pay14 (F := Ideal) (k0_pay1 (F := Ideal) x0 x1) x2 x3 (ix3 0 r d) = turned x0 x1 x2 x3 r 3 d := by
  unfold turned
  simp only [← dot_at]
  unfold k0_pay14 k0_pay9 k0_pay10
  pointwise
  simp only [col_at 3 384 rfl, half_at 3 384 rfl]

theorem turned4 (r : Fin 1024) (d : Fin 128) : k0_pay2 (F := Ideal) x0 x1 (k0_pay9 (F := Ideal) x2) (k0_pay10 (F := Ideal) x3) (ix3 0 r d) = turned x0 x1 x2 x3 r 4 d := by
  unfold turned
  simp only [← dot_at]
  unfold k0_pay2 k0_pay9 k0_pay10
  pointwise
  simp only [col_at 4 512 rfl, half_at 4 512 rfl]

theorem turned5 (r : Fin 1024) (d : Fin 128) : k0_pay3 (F := Ideal) x0 x1 (k0_pay9 (F := Ideal) x2) (k0_pay10 (F := Ideal) x3) (ix3 0 r d) = turned x0 x1 x2 x3 r 5 d := by
  unfold turned
  simp only [← dot_at]
  unfold k0_pay3 k0_pay9 k0_pay10
  pointwise
  simp only [col_at 5 640 rfl, half_at 5 640 rfl]

theorem turned6 (r : Fin 1024) (d : Fin 128) : k0_pay4 (F := Ideal) x0 x1 (k0_pay9 (F := Ideal) x2) (k0_pay10 (F := Ideal) x3) (ix3 0 r d) = turned x0 x1 x2 x3 r 6 d := by
  unfold turned
  simp only [← dot_at]
  unfold k0_pay4 k0_pay9 k0_pay10
  pointwise
  simp only [col_at 6 768 rfl, half_at 6 768 rfl]

theorem turned7 (r : Fin 1024) (d : Fin 128) : k0_pay5 (F := Ideal) x0 x1 (k0_pay9 (F := Ideal) x2) (k0_pay10 (F := Ideal) x3) (ix3 0 r d) = turned x0 x1 x2 x3 r 7 d := by
  unfold turned
  simp only [← dot_at]
  unfold k0_pay5 k0_pay9 k0_pay10
  pointwise
  simp only [col_at 7 896 rfl, half_at 7 896 rfl]

theorem plain0 (r : Fin 1024) (d : Fin 128) : k0_pay15 (F := Ideal) (k0_pay1 (F := Ideal) x0 x1) (ix3 0 r d) = dot x0 x1 r (col 0 d) := by
  rw [← dot_at]
  unfold k0_pay15
  pointwise
  simp only [col_zero]

theorem plain1 (r : Fin 1024) (d : Fin 128) : k0_pay16 (F := Ideal) (k0_pay1 (F := Ideal) x0 x1) (ix3 0 r d) = dot x0 x1 r (col 1 d) := by
  rw [← dot_at]
  unfold k0_pay16
  pointwise
  simp only [col_at 1 128 rfl]

theorem plain2 (r : Fin 1024) (d : Fin 128) : k0_pay17 (F := Ideal) (k0_pay1 (F := Ideal) x0 x1) (ix3 0 r d) = dot x0 x1 r (col 2 d) := by
  rw [← dot_at]
  unfold k0_pay17
  pointwise
  simp only [col_at 2 256 rfl]

theorem plain3 (r : Fin 1024) (d : Fin 128) : k0_pay18 (F := Ideal) (k0_pay1 (F := Ideal) x0 x1) (ix3 0 r d) = dot x0 x1 r (col 3 d) := by
  rw [← dot_at]
  unfold k0_pay18
  pointwise
  simp only [col_at 3 384 rfl]

theorem plain4 (r : Fin 1024) (d : Fin 128) : k0_pay19 (F := Ideal) (k0_pay1 (F := Ideal) x0 x1) (ix3 0 r d) = dot x0 x1 r (col 4 d) := by
  rw [← dot_at]
  unfold k0_pay19
  pointwise
  simp only [col_at 4 512 rfl]

theorem plain5 (r : Fin 1024) (d : Fin 128) : k0_pay20 (F := Ideal) (k0_pay1 (F := Ideal) x0 x1) (ix3 0 r d) = dot x0 x1 r (col 5 d) := by
  rw [← dot_at]
  unfold k0_pay20
  pointwise
  simp only [col_at 5 640 rfl]

theorem plain6 (r : Fin 1024) (d : Fin 128) : k0_pay21 (F := Ideal) (k0_pay1 (F := Ideal) x0 x1) (ix3 0 r d) = dot x0 x1 r (col 6 d) := by
  rw [← dot_at]
  unfold k0_pay21
  pointwise
  simp only [col_at 6 768 rfl]

theorem plain7 (r : Fin 1024) (d : Fin 128) : k0_pay6 (F := Ideal) (k0_pay22 (F := Ideal) (k0_pay1 (F := Ideal) x0 x1)) (ix3 0 r d) = dot x0 x1 r (col 7 d) := by
  rw [← dot_at]
  unfold k0_pay6 k0_pay22
  pointwise
  simp only [col_at 7 896 rfl]

theorem row0 (v : Vec Ideal S1x1024x128 .f32) (r : Fin 1024) (d : Fin 128) : k0_pay23 (F := Ideal) v (ix2 r d) = v (ix3 0 r d) := by
  unfold k0_pay23
  pointwise

theorem row1 (v : Vec Ideal S1x1024x128 .f32) (r : Fin 1024) (d : Fin 128) : k0_pay24 (F := Ideal) v (ix2 r d) = v (ix3 0 r d) := by
  unfold k0_pay24
  pointwise

theorem row2 (v : Vec Ideal S1x1024x128 .f32) (r : Fin 1024) (d : Fin 128) : k0_pay25 (F := Ideal) v (ix2 r d) = v (ix3 0 r d) := by
  unfold k0_pay25
  pointwise

theorem row3 (v : Vec Ideal S1x1024x128 .f32) (r : Fin 1024) (d : Fin 128) : k0_pay26 (F := Ideal) v (ix2 r d) = v (ix3 0 r d) := by
  unfold k0_pay26
  pointwise

theorem row4 (v : Vec Ideal S1x1024x128 .f32) (r : Fin 1024) (d : Fin 128) : k0_pay27 (F := Ideal) v (ix2 r d) = v (ix3 0 r d) := by
  unfold k0_pay27
  pointwise

theorem row5 (v : Vec Ideal S1x1024x128 .f32) (r : Fin 1024) (d : Fin 128) : k0_pay28 (F := Ideal) v (ix2 r d) = v (ix3 0 r d) := by
  unfold k0_pay28
  pointwise

theorem row6 (v : Vec Ideal S1x1024x128 .f32) (r : Fin 1024) (d : Fin 128) : k0_pay29 (F := Ideal) v (ix2 r d) = v (ix3 0 r d) := by
  unfold k0_pay29
  pointwise

theorem row7 (v : Vec Ideal S1x1024x128 .f32) (r : Fin 1024) (d : Fin 128) : k0_pay30 (F := Ideal) v (ix2 r d) = v (ix3 0 r d) := by
  unfold k0_pay30
  pointwise

theorem plain_at (r : Fin 1024) (l : Fin 1024) : k0_pay7 (F := Ideal) x0 x1 (ix2 r l) = dot x0 x1 r l := by
  rw [← dot_at]
  unfold k0_pay7
  pointwise

theorem gate_at (r : Fin 1024) (l : Fin 1024) : k0_pay8 (F := Ideal) x0 x1 (ix2 r l) = Ideal.logistic (dot x0 x1 r l) := by
  rw [← dot_at]
  unfold k0_pay8
  pointwise
  exact tanh_form _

/-! ## Loads and pieces -/

theorem load_whole {S : Shape} {e : EltTy} {m : Memref sig .tc .vmem S e} (hm : m.IsWhole) (x : Vec Ideal S e) (o : Fin S.rank → ℕ) (inb : ∀ a, o a + S.size a ≤ S.size a) (ho : ∀ a, o a = 0) :
    View.readAt (Elt Ideal) m.view (Rect.unit (s := S) o S.size inb).toLoadRect (hm.unread x) = x := by
  funext y
  rw [hm.readAt_unread]
  exact congrArg x (funext fun a => Fin.ext (by show o a + 1 * (y a).val = (y a).val; rw [ho a]; omega))

/-- A head's piece of the kept heads, and of a block. -/
theorem head_piece (G : S8x1024x128.Idx → EReal) (h : Fin 8) (o : ℕ) (inb : ∀ a, (![o, 0, 0] : Fin 3 → ℕ) a + S1x1024x128.size a ≤ S8x1024x128.size a) (ho : o = h.val) (p : FVec Ideal S1x1024x128 .f32)
    (hp : ∀ (r : Fin 1024) (d : Fin 128), p (ix3 0 r d) = G (ix3 h r d)) (y : S1x1024x128.Idx) : p y = G ((Rect.unit (s := S8x1024x128) ![o, 0, 0] S1x1024x128.size inb).emb y) := by
  subst ho
  obtain ⟨r, d, rfl⟩ : ∃ (r : Fin 1024) (d : Fin 128), y = ix3 0 r d := ⟨y 1, y 2, funext fun a => match a with | ⟨0, _⟩ => Subsingleton.elim (α := Fin 1) _ _ | ⟨1, _⟩ => rfl | ⟨2, _⟩ => rfl⟩
  rw [hp]
  refine congrArg G (funext fun a => ?_)
  match a with
  | ⟨0, _⟩ => exact Fin.ext (by show h.val = h.val + 1 * 0; omega)
  | ⟨1, _⟩ => exact Fin.ext (by show r.val = 0 + 1 * r.val; omega)
  | ⟨2, _⟩ => exact Fin.ext (by show d.val = 0 + 1 * d.val; omega)

theorem block_piece (G : Fin 1024 → Fin 8 → Fin 128 → EReal) (h : Fin 8) (o : ℕ) (inb : ∀ a, (![0, o] : Fin 2 → ℕ) a + S1024x128.size a ≤ S1024x1024.size a) (ho : o = 128 * h.val) (p : FVec Ideal S1024x128 .bf16)
    (hp : ∀ (r : Fin 1024) (d : Fin 128), p (ix2 r d) = G r h d) (y : S1024x128.Idx) :
    p y = (fun z : S1024x1024.Idx => G (z 0) (headOf (z 1)) (posOf (z 1))) ((Rect.unit (s := S1024x1024) ![0, o] S1024x128.size inb).emb y) := by
  subst ho
  obtain ⟨r, d, rfl⟩ : ∃ (r : Fin 1024) (d : Fin 128), y = ix2 r d := ⟨_, _, eq_ix2 y⟩
  rw [hp]
  have e0 : r = ((Rect.unit (s := S1024x1024) ![0, 128 * h.val] S1024x128.size inb).emb (ix2 r d) 0 : Fin 1024) := Fin.ext (by show r.val = 0 + 1 * r.val; omega)
  have e1 : h = headOf ((Rect.unit (s := S1024x1024) ![0, 128 * h.val] S1024x128.size inb).emb (ix2 r d) 1) := Fin.ext (by show h.val = (128 * h.val + 1 * d.val) / 128; omega)
  have e2 : d = posOf ((Rect.unit (s := S1024x1024) ![0, 128 * h.val] S1024x128.size inb).emb (ix2 r d) 1) := Fin.ext (by show d.val = (128 * h.val + 1 * d.val) % 128; omega)
  show G r h d = G _ _ _
  rw [← e0, ← e1, ← e2]

theorem whole_piece (G : FVec Ideal S1024x1024 .bf16) (inb : ∀ a, (![0, 0] : Fin 2 → ℕ) a + S1024x1024.size a ≤ S1024x1024.size a) (p : FVec Ideal S1024x1024 .bf16)
    (hp : ∀ (r l : Fin 1024), p (ix2 r l) = G (ix2 r l)) (y : S1024x1024.Idx) : p y = G ((Rect.unit (s := S1024x1024) ![0, 0] S1024x1024.size inb).emb y) := by
  obtain ⟨r, l, rfl⟩ : ∃ (r l : Fin 1024), y = ix2 r l := ⟨_, _, eq_ix2 y⟩
  rw [hp]
  refine congrArg G (funext fun a => ?_)
  match a with
  | ⟨0, _⟩ => exact Fin.ext (by show r.val = 0 + 1 * r.val; omega)
  | ⟨1, _⟩ => exact Fin.ext (by show l.val = 0 + 1 * l.val; omega)

/-- A kept head read back from its pieces. -/
theorem head_back (v : Memref sig .tc .vmem S8x1024x128 .f32) (L : List (View.Piece (Elt Ideal) S8x1024x128 .f32)) (G : S8x1024x128.Idx → EReal)
    (hL : ∀ p ∈ L, ∀ x : p.1.shape.Idx, p.2 x = G (p.1.emb x)) (hc : ∀ y, ∃ p ∈ L, y ∈ p.1.set) (h : Fin 8) (o : ℕ)
    (inb : ∀ a, (![o, 0, 0] : Fin 3 → ℕ) a + S1x1024x128.size a ≤ S8x1024x128.size a) (ho : o = h.val) (r : Fin 1024) (d : Fin 128) :
    v.view.readCov L (Rect.unit (s := S8x1024x128) ![o, 0, 0] S1x1024x128.size inb).toLoadRect (ix3 0 r d) = G (ix3 h r d) := by
  subst ho
  unfold View.readCov
  rw [View.readAt_apply, View.read_writes_apply_of_pieces _ _ _ _ hL _ (hc _)]
  refine congrArg G (funext fun a => ?_)
  match a with
  | ⟨0, _⟩ => exact Fin.ext (by show h.val + 1 * 0 = h.val; omega)
  | ⟨1, _⟩ => exact Fin.ext (by show 0 + 1 * r.val = r.val; omega)
  | ⟨2, _⟩ => exact Fin.ext (by show 0 + 1 * d.val = d.val; omega)

variable (c : Dev nD) (i : grid0.Coords) (arg3 : Memref sig .tc .vmem S1024x2048 .bf16) (harg3 : arg3.IsWhole) (arg4 : Memref sig .tc .vmem S1x2048x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S256x4096 .bf16) (harg8 : arg8.IsWhole) (arg9 : Memref sig .tc .vmem S64x16384 .bf16) (harg9 : arg9.IsWhole) (arg10 : Memref sig .tc .vmem S8x1024x128 .f32) (harg10 : arg10.IsWhole)

/-- The heads a point keeps, turned or plain, and what it stores of them. -/
theorem kept_turned : ∀ p ∈ runRope.sl.H7_8 (F := Ideal) c arg3 harg3 arg4 harg4 arg5 harg5 arg6 harg6 x0 x1 x2 x3, ∀ x : p.1.shape.Idx, p.2 x = turnedHeads x0 x1 x2 x3 (p.1.emb x) := by
  refine View.PiecesOf.mem ?_
  unfold runRope.sl.H7_8
  simp only [runRope.sl.r, runRope.sl.r_1]
  simp only [load_whole harg3 x0 ![0, 0] inb_S1024x2048_S1024x2048_0_0 (by decide), load_whole harg4 x1 ![0, 0, 0] inb_S1x2048x1024_S1x2048x1024_0_0_0 (by decide), load_whole harg5 x2 ![0, 0] inb_S1024x128_S1024x128_0_0 (by decide), load_whole harg6 x3 ![0, 0] inb_S1024x128_S1024x128_0_0 (by decide)]
  exact ⟨head_piece (turnedHeads x0 x1 x2 x3) 7 7 inb_S8x1024x128_S1x1024x128_7_0_0 rfl _ (turned7 x0 x1 x2 x3),
    head_piece (turnedHeads x0 x1 x2 x3) 6 6 inb_S8x1024x128_S1x1024x128_6_0_0 rfl _ (turned6 x0 x1 x2 x3),
    head_piece (turnedHeads x0 x1 x2 x3) 5 5 inb_S8x1024x128_S1x1024x128_5_0_0 rfl _ (turned5 x0 x1 x2 x3),
    head_piece (turnedHeads x0 x1 x2 x3) 4 4 inb_S8x1024x128_S1x1024x128_4_0_0 rfl _ (turned4 x0 x1 x2 x3),
    head_piece (turnedHeads x0 x1 x2 x3) 3 3 inb_S8x1024x128_S1x1024x128_3_0_0 rfl _ (turned3 x0 x1 x2 x3),
    head_piece (turnedHeads x0 x1 x2 x3) 2 2 inb_S8x1024x128_S1x1024x128_2_0_0 rfl _ (turned2 x0 x1 x2 x3),
    head_piece (turnedHeads x0 x1 x2 x3) 1 1 inb_S8x1024x128_S1x1024x128_1_0_0 rfl _ (turned1 x0 x1 x2 x3),
    head_piece (turnedHeads x0 x1 x2 x3) 0 0 inb_S8x1024x128_S1x1024x128_0_0_0 rfl _ (turned0 x0 x1 x2 x3), trivial⟩

theorem kept_plain : ∀ p ∈ runVal.sl.H7_8 (F := Ideal) c arg3 harg3 arg4 harg4 x0 x1, ∀ x : p.1.shape.Idx, p.2 x = plainHeads x0 x1 (p.1.emb x) := by
  refine View.PiecesOf.mem ?_
  unfold runVal.sl.H7_8
  simp only [runVal.sl.r]
  simp only [load_whole harg3 x0 ![0, 0] inb_S1024x2048_S1024x2048_0_0 (by decide), load_whole harg4 x1 ![0, 0, 0] inb_S1x2048x1024_S1x2048x1024_0_0_0 (by decide)]
  exact ⟨head_piece (plainHeads x0 x1) 7 7 inb_S8x1024x128_S1x1024x128_7_0_0 rfl _ (plain7 x0 x1),
    head_piece (plainHeads x0 x1) 6 6 inb_S8x1024x128_S1x1024x128_6_0_0 rfl _ (plain6 x0 x1),
    head_piece (plainHeads x0 x1) 5 5 inb_S8x1024x128_S1x1024x128_5_0_0 rfl _ (plain5 x0 x1),
    head_piece (plainHeads x0 x1) 4 4 inb_S8x1024x128_S1x1024x128_4_0_0 rfl _ (plain4 x0 x1),
    head_piece (plainHeads x0 x1) 3 3 inb_S8x1024x128_S1x1024x128_3_0_0 rfl _ (plain3 x0 x1),
    head_piece (plainHeads x0 x1) 2 2 inb_S8x1024x128_S1x1024x128_2_0_0 rfl _ (plain2 x0 x1),
    head_piece (plainHeads x0 x1) 1 1 inb_S8x1024x128_S1x1024x128_1_0_0 rfl _ (plain1 x0 x1),
    head_piece (plainHeads x0 x1) 0 0 inb_S8x1024x128_S1x1024x128_0_0_0 rfl _ (plain0 x0 x1), trivial⟩

theorem cover_turned (y : S8x1024x128.Idx) : ∃ p ∈ runRope.sl.H7_8 (F := Ideal) c arg3 harg3 arg4 harg4 arg5 harg5 arg6 harg6 x0 x1 x2 x3, y ∈ p.1.set :=
  View.cover_of_tiledL (runRope.sl.H7_8 (F := Ideal) c arg3 harg3 arg4 harg4 arg5 harg5 arg6 harg6 x0 x1 x2 x3) S1x1024x128.size (by sl_kernel_rfl) y
theorem cover_plain (y : S8x1024x128.Idx) : ∃ p ∈ runVal.sl.H7_8 (F := Ideal) c arg3 harg3 arg4 harg4 x0 x1, y ∈ p.1.set :=
  View.cover_of_tiledL (runVal.sl.H7_8 (F := Ideal) c arg3 harg3 arg4 harg4 x0 x1) S1x1024x128.size (by sl_kernel_rfl) y

theorem point_turned (hc1 : Scalar.cmpi .ne (Scalar.extui (Scalar.cmpi .slt (BitVec.ofNat 32 (i 1).val) 2#32)) 0#32 = 1#1) (hc2 : ¬Scalar.cmpi .ne (Scalar.extui (Scalar.cmpi .eq (BitVec.ofNat 32 (i 1).val) 2#32)) 0#32 = 1#1) (hc3 : k0_cond3 i = 1#1) (hc4 : ¬k0_cond4 i = 1#1) (hc5 : ¬k0_cond5 i = 1#1) :
    ∀ p ∈ (runRope (F := Ideal) c i arg3 harg3 arg4 harg4 arg5 harg5 arg6 harg6 arg7 harg7 arg8 harg8 arg9 harg9 arg10 harg10 hc1 hc2 hc3 hc4 hc5 x0 x1 x2 x3).1, ∀ x : p.1.shape.Idx, p.2 x = turnedOut x0 x1 x2 x3 (p.1.emb x) := by
  refine View.PiecesOf.mem ?_
  unfold runRope
  dsimp only
  simp only [runRope.sl.v20, runRope.sl.v24, runRope.sl.v28, runRope.sl.v32, runRope.sl.v36, runRope.sl.v40, runRope.sl.v44, runRope.sl.v48]
  exact ⟨block_piece (turned x0 x1 x2 x3) 7 896 inb_S1024x1024_S1024x128_0_896 rfl _ (fun r d => (row7 _ r d).trans (head_back arg10 _ (turnedHeads x0 x1 x2 x3) (kept_turned x0 x1 x2 x3 c arg3 harg3 arg4 harg4 arg5 harg5 arg6 harg6) (cover_turned x0 x1 x2 x3 c arg3 harg3 arg4 harg4 arg5 harg5 arg6 harg6) 7 7 inb_S8x1024x128_S1x1024x128_7_0_0 rfl r d)),
    block_piece (turned x0 x1 x2 x3) 6 768 inb_S1024x1024_S1024x128_0_768 rfl _ (fun r d => (row6 _ r d).trans (head_back arg10 _ (turnedHeads x0 x1 x2 x3) (kept_turned x0 x1 x2 x3 c arg3 harg3 arg4 harg4 arg5 harg5 arg6 harg6) (cover_turned x0 x1 x2 x3 c arg3 harg3 arg4 harg4 arg5 harg5 arg6 harg6) 6 6 inb_S8x1024x128_S1x1024x128_6_0_0 rfl r d)),
    block_piece (turned x0 x1 x2 x3) 5 640 inb_S1024x1024_S1024x128_0_640 rfl _ (fun r d => (row5 _ r d).trans (head_back arg10 _ (turnedHeads x0 x1 x2 x3) (kept_turned x0 x1 x2 x3 c arg3 harg3 arg4 harg4 arg5 harg5 arg6 harg6) (cover_turned x0 x1 x2 x3 c arg3 harg3 arg4 harg4 arg5 harg5 arg6 harg6) 5 5 inb_S8x1024x128_S1x1024x128_5_0_0 rfl r d)),
    block_piece (turned x0 x1 x2 x3) 4 512 inb_S1024x1024_S1024x128_0_512 rfl _ (fun r d => (row4 _ r d).trans (head_back arg10 _ (turnedHeads x0 x1 x2 x3) (kept_turned x0 x1 x2 x3 c arg3 harg3 arg4 harg4 arg5 harg5 arg6 harg6) (cover_turned x0 x1 x2 x3 c arg3 harg3 arg4 harg4 arg5 harg5 arg6 harg6) 4 4 inb_S8x1024x128_S1x1024x128_4_0_0 rfl r d)),
    block_piece (turned x0 x1 x2 x3) 3 384 inb_S1024x1024_S1024x128_0_384 rfl _ (fun r d => (row3 _ r d).trans (head_back arg10 _ (turnedHeads x0 x1 x2 x3) (kept_turned x0 x1 x2 x3 c arg3 harg3 arg4 harg4 arg5 harg5 arg6 harg6) (cover_turned x0 x1 x2 x3 c arg3 harg3 arg4 harg4 arg5 harg5 arg6 harg6) 3 3 inb_S8x1024x128_S1x1024x128_3_0_0 rfl r d)),
    block_piece (turned x0 x1 x2 x3) 2 256 inb_S1024x1024_S1024x128_0_256 rfl _ (fun r d => (row2 _ r d).trans (head_back arg10 _ (turnedHeads x0 x1 x2 x3) (kept_turned x0 x1 x2 x3 c arg3 harg3 arg4 harg4 arg5 harg5 arg6 harg6) (cover_turned x0 x1 x2 x3 c arg3 harg3 arg4 harg4 arg5 harg5 arg6 harg6) 2 2 inb_S8x1024x128_S1x1024x128_2_0_0 rfl r d)),
    block_piece (turned x0 x1 x2 x3) 1 128 inb_S1024x1024_S1024x128_0_128 rfl _ (fun r d => (row1 _ r d).trans (head_back arg10 _ (turnedHeads x0 x1 x2 x3) (kept_turned x0 x1 x2 x3 c arg3 harg3 arg4 harg4 arg5 harg5 arg6 harg6) (cover_turned x0 x1 x2 x3 c arg3 harg3 arg4 harg4 arg5 harg5 arg6 harg6) 1 1 inb_S8x1024x128_S1x1024x128_1_0_0 rfl r d)),
    block_piece (turned x0 x1 x2 x3) 0 0 inb_S1024x1024_S1024x128_0_0 rfl _ (fun r d => (row0 _ r d).trans (head_back arg10 _ (turnedHeads x0 x1 x2 x3) (kept_turned x0 x1 x2 x3 c arg3 harg3 arg4 harg4 arg5 harg5 arg6 harg6) (cover_turned x0 x1 x2 x3 c arg3 harg3 arg4 harg4 arg5 harg5 arg6 harg6) 0 0 inb_S8x1024x128_S1x1024x128_0_0_0 rfl r d)), trivial⟩

theorem point_plain (hc1 : ¬Scalar.cmpi .ne (Scalar.extui (Scalar.cmpi .slt (BitVec.ofNat 32 (i 1).val) 2#32)) 0#32 = 1#1) (hc2 : Scalar.cmpi .ne (Scalar.extui (Scalar.cmpi .eq (BitVec.ofNat 32 (i 1).val) 2#32)) 0#32 = 1#1) (hc3 : k0_cond3 i = 1#1) (hc4 : ¬k0_cond4 i = 1#1) (hc5 : ¬k0_cond5 i = 1#1) :
    ∀ p ∈ (runVal (F := Ideal) c i arg3 harg3 arg4 harg4 arg5 harg5 arg6 harg6 arg7 harg7 arg8 harg8 arg9 harg9 arg10 harg10 hc1 hc2 hc3 hc4 hc5 x0 x1 x2 x3).1, ∀ x : p.1.shape.Idx, p.2 x = keptOut x0 x1 (p.1.emb x) := by
  refine View.PiecesOf.mem ?_
  unfold runVal
  dsimp only
  simp only [runVal.sl.v20, runVal.sl.v24, runVal.sl.v28, runVal.sl.v32, runVal.sl.v36, runVal.sl.v40, runVal.sl.v44, runVal.sl.v48]
  exact ⟨block_piece (fun r h d => dot x0 x1 r (col h d)) 7 896 inb_S1024x1024_S1024x128_0_896 rfl _ (fun r d => (row7 _ r d).trans (head_back arg10 _ (plainHeads x0 x1) (kept_plain x0 x1 c arg3 harg3 arg4 harg4) (cover_plain x0 x1 c arg3 harg3 arg4 harg4) 7 7 inb_S8x1024x128_S1x1024x128_7_0_0 rfl r d)),
    block_piece (fun r h d => dot x0 x1 r (col h d)) 6 768 inb_S1024x1024_S1024x128_0_768 rfl _ (fun r d => (row6 _ r d).trans (head_back arg10 _ (plainHeads x0 x1) (kept_plain x0 x1 c arg3 harg3 arg4 harg4) (cover_plain x0 x1 c arg3 harg3 arg4 harg4) 6 6 inb_S8x1024x128_S1x1024x128_6_0_0 rfl r d)),
    block_piece (fun r h d => dot x0 x1 r (col h d)) 5 640 inb_S1024x1024_S1024x128_0_640 rfl _ (fun r d => (row5 _ r d).trans (head_back arg10 _ (plainHeads x0 x1) (kept_plain x0 x1 c arg3 harg3 arg4 harg4) (cover_plain x0 x1 c arg3 harg3 arg4 harg4) 5 5 inb_S8x1024x128_S1x1024x128_5_0_0 rfl r d)),
    block_piece (fun r h d => dot x0 x1 r (col h d)) 4 512 inb_S1024x1024_S1024x128_0_512 rfl _ (fun r d => (row4 _ r d).trans (head_back arg10 _ (plainHeads x0 x1) (kept_plain x0 x1 c arg3 harg3 arg4 harg4) (cover_plain x0 x1 c arg3 harg3 arg4 harg4) 4 4 inb_S8x1024x128_S1x1024x128_4_0_0 rfl r d)),
    block_piece (fun r h d => dot x0 x1 r (col h d)) 3 384 inb_S1024x1024_S1024x128_0_384 rfl _ (fun r d => (row3 _ r d).trans (head_back arg10 _ (plainHeads x0 x1) (kept_plain x0 x1 c arg3 harg3 arg4 harg4) (cover_plain x0 x1 c arg3 harg3 arg4 harg4) 3 3 inb_S8x1024x128_S1x1024x128_3_0_0 rfl r d)),
    block_piece (fun r h d => dot x0 x1 r (col h d)) 2 256 inb_S1024x1024_S1024x128_0_256 rfl _ (fun r d => (row2 _ r d).trans (head_back arg10 _ (plainHeads x0 x1) (kept_plain x0 x1 c arg3 harg3 arg4 harg4) (cover_plain x0 x1 c arg3 harg3 arg4 harg4) 2 2 inb_S8x1024x128_S1x1024x128_2_0_0 rfl r d)),
    block_piece (fun r h d => dot x0 x1 r (col h d)) 1 128 inb_S1024x1024_S1024x128_0_128 rfl _ (fun r d => (row1 _ r d).trans (head_back arg10 _ (plainHeads x0 x1) (kept_plain x0 x1 c arg3 harg3 arg4 harg4) (cover_plain x0 x1 c arg3 harg3 arg4 harg4) 1 1 inb_S8x1024x128_S1x1024x128_1_0_0 rfl r d)),
    block_piece (fun r h d => dot x0 x1 r (col h d)) 0 0 inb_S1024x1024_S1024x128_0_0 rfl _ (fun r d => (row0 _ r d).trans (head_back arg10 _ (plainHeads x0 x1) (kept_plain x0 x1 c arg3 harg3 arg4 harg4) (cover_plain x0 x1 c arg3 harg3 arg4 harg4) 0 0 inb_S8x1024x128_S1x1024x128_0_0_0 rfl r d)), trivial⟩

theorem point_u (hc1 : ¬Scalar.cmpi .ne (Scalar.extui (Scalar.cmpi .slt (BitVec.ofNat 32 (i 1).val) 2#32)) 0#32 = 1#1) (hc2 : ¬Scalar.cmpi .ne (Scalar.extui (Scalar.cmpi .eq (BitVec.ofNat 32 (i 1).val) 2#32)) 0#32 = 1#1) (hc3 : ¬k0_cond3 i = 1#1) (hc4 : k0_cond4 i = 1#1) (hc5 : ¬k0_cond5 i = 1#1) :
    ∀ p ∈ (runU (F := Ideal) c i arg3 harg3 arg4 harg4 arg5 harg5 arg6 harg6 arg7 harg7 arg8 harg8 arg9 harg9 arg10 harg10 hc1 hc2 hc3 hc4 hc5 x0 x1 x2 x3).1, ∀ x : p.1.shape.Idx, p.2 x = plainOut x0 x1 (p.1.emb x) := by
  refine View.PiecesOf.mem ?_
  unfold runU
  dsimp only
  simp only [load_whole harg3 x0 ![0, 0] inb_S1024x2048_S1024x2048_0_0 (by decide), load_whole harg4 x1 ![0, 0, 0] inb_S1x2048x1024_S1x2048x1024_0_0_0 (by decide)]
  exact ⟨whole_piece (plainOut x0 x1) inb_S1024x1024_S1024x1024_0_0 _ (plain_at x0 x1), trivial⟩

theorem point_gate (hc1 : ¬Scalar.cmpi .ne (Scalar.extui (Scalar.cmpi .slt (BitVec.ofNat 32 (i 1).val) 2#32)) 0#32 = 1#1) (hc2 : ¬Scalar.cmpi .ne (Scalar.extui (Scalar.cmpi .eq (BitVec.ofNat 32 (i 1).val) 2#32)) 0#32 = 1#1) (hc3 : ¬k0_cond3 i = 1#1) (hc4 : ¬k0_cond4 i = 1#1) (hc5 : k0_cond5 i = 1#1) :
    ∀ p ∈ (runGate (F := Ideal) c i arg3 harg3 arg4 harg4 arg5 harg5 arg6 harg6 arg7 harg7 arg8 harg8 arg9 harg9 arg10 harg10 hc1 hc2 hc3 hc4 hc5 x0 x1 x2 x3).1, ∀ x : p.1.shape.Idx, p.2 x = gateOut x0 x1 (p.1.emb x) := by
  refine View.PiecesOf.mem ?_
  unfold runGate
  dsimp only
  simp only [load_whole harg3 x0 ![0, 0] inb_S1024x2048_S1024x2048_0_0 (by decide), load_whole harg4 x1 ![0, 0, 0] inb_S1x2048x1024_S1x2048x1024_0_0_0 (by decide)]
  exact ⟨whole_piece (gateOut x0 x1) inb_S1024x1024_S1024x1024_0_0 _ (gate_at x0 x1), trivial⟩

end Point

end Cert.Kernel23Ideal.InProj

end
-- ==== Proof.InProj.lean ====
/-
  The input projection's main output against the reference: the product of the rows with the whole weight, its first two slabs
  turned by the rotary embedding, the next two as they are, and the gates' four through the sigmoid.
-/
module

public import proofs.«01_k».proof.Proof.InProjPoint
public import proofs.«01_k».proof.Proof.Gen.Reference23Ideal.Run
public import proofs.«01_k».proof.Defs
public import Idealize.ShloMosaic.Lib.Claim

@[expose] public section

set_option backward.isDefEq.respectTransparency false
set_option maxRecDepth 16384

noncomputable section

namespace Cert.Kernel23Ideal.InProj

open Cert.Kernel23Ideal Cert.Kernel23Ideal.Gen Idealize.ShloMosaic Idealize.ShloMosaic.TcCoe Idealize.ShloMosaic.Tactic Idealize.SL.Sem

/-! ## What the kernel is handed -/

section Whole

variable (X : FVec Ideal S8192x2048 .f32) (P : Vec Ideal S1x8192 .i32) (W : FVec Ideal S2048x8192 .f32)

abbrev rowsOf : FVec Ideal S8192x2048 .bf16 := truncf .bf16 X bitsLt_bf16_f32
abbrev slabsOf : FVec Ideal S4x2048x2048 .bf16 :=
  transpose S4x2048x2048 [1, 0, 2] (shapeCast S2048x4x2048 (truncf .bf16 W bitsLt_bf16_f32 : FVec Ideal S2048x8192 .bf16) shapeCasts_S2048x8192_S2048x4x2048) transposes_S2048x4x2048_S4x2048x2048_1_0_2
abbrev freqs : FVec Ideal S64 .f32 :=
  Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))
abbrev anglesOf : FVec Ideal S8192x64 .f32 :=
  mulf (broadcastInDim S8192x64 ![0, 1] bcast_S8192x1_S8192x64_0_1 (broadcastInDim S8192x1 ![0] bcast_S8192_S8192x1_0 (shapeCast S8192 (sitofp .f32 P : FVec Ideal S1x8192 .f32) shapeCasts_S1x8192_S8192)))
    (broadcastInDim S8192x64 ![0, 1] bcast_S1x64_S8192x64_0_1 (broadcastInDim S1x64 ![1] bcast_S64_S1x64_1 freqs))
abbrev cosOf : FVec Ideal S8192x128 .f32 :=
  concatenate S8192x128 1 [⟨S8192x64, Host.cos (anglesOf P)⟩, ⟨S8192x64, Host.cos (anglesOf P)⟩] concatenates_S8192x64_S8192x64_S8192x128_d1
abbrev sinOf : FVec Ideal S8192x128 .f32 :=
  concatenate S8192x128 1 [⟨S8192x64, Host.negf (Host.sin (anglesOf P))⟩, ⟨S8192x64, Host.sin (anglesOf P)⟩] concatenates_S8192x64_S8192x64_S8192x128_d1

/-- The angle of a place and a frequency. -/
def angle (i : Fin 8192) (e : Fin 64) : EReal := anglesOf P (ix2 i e)
abbrev lo (e : Fin 64) : Fin 128 := ⟨e.val, by omega⟩
abbrev hi (e : Fin 64) : Fin 128 := ⟨e.val + 64, by omega⟩

theorem rowsOf_at (i : Fin 8192) (k : Fin 2048) : rowsOf X (ix2 i k) = X (ix2 i k) := by
  unfold rowsOf
  pointwise

theorem slabsOf_at (s : Fin 4) (k : Fin 2048) (n : Fin 2048) : slabsOf W (ix3 s k n) = W (ix2 k ⟨2048 * s.val + n.val, by omega⟩) := by
  have e (h : s.val * 2048 + n.val < 8192) : (⟨s.val * 2048 + n.val, h⟩ : Fin 8192) = ⟨2048 * s.val + n.val, by omega⟩ := Fin.ext (congrArg (· + n.val) (Nat.mul_comm _ _))
  unfold slabsOf
  pointwise
  simp only [e]

/-- Two tables side by side. -/
abbrev beside (A B : FVec Ideal S8192x64 .f32) : FVec Ideal S8192x128 .f32 := concatenate S8192x128 1 [⟨S8192x64, A⟩, ⟨S8192x64, B⟩] concatenates_S8192x64_S8192x64_S8192x128_d1

theorem beside_lo (A B : FVec Ideal S8192x64 .f32) (i : Fin 8192) (e : Fin 64) : beside A B (ix2 i (lo e)) = A (ix2 i e) := by
  pointwise

theorem beside_hi (A B : FVec Ideal S8192x64 .f32) (i : Fin 8192) (e : Fin 64) : beside A B (ix2 i (hi e)) = B (ix2 i e) := by
  pointwise
  rw [dif_neg (by omega)]
  exact congrArg (fun a : Fin 64 => B (ix2 i a)) (Fin.ext (by dsimp only; omega))

theorem cos_lo (i : Fin 8192) (e : Fin 64) : cosOf P (ix2 i (lo e)) = Ideal.cos (angle P i e) := beside_lo _ _ i e
theorem cos_hi (i : Fin 8192) (e : Fin 64) : cosOf P (ix2 i (hi e)) = Ideal.cos (angle P i e) := beside_hi _ _ i e
theorem sin_lo (i : Fin 8192) (e : Fin 64) : sinOf P (ix2 i (lo e)) = -Ideal.sin (angle P i e) := beside_lo _ _ i e
theorem sin_hi (i : Fin 8192) (e : Fin 64) : sinOf P (ix2 i (hi e)) = Ideal.sin (angle P i e) := beside_hi _ _ i e

/-! ## The reference -/

abbrev refDot : FVec Ideal S8192x8192 .f32 := Host.dotGeneral Cert.Reference23Ideal.dot_S8192x2048_S2048x8192_S8192x8192_1_0_0_1_n_n none X W
abbrev refFreqs : FVec Ideal S64 .f32 :=
  Host.powf (broadcastInDim S64 ![] Cert.Reference23Ideal.Gen.bcast_S_S64 (constant S_ .f32 0x461C4000#32)) (Host.divf (Host.negf (sitofp .f32 (iotaInDim S64 32 0))) (broadcastInDim S64 ![] Cert.Reference23Ideal.Gen.bcast_S_S64 (constant S_ .f32 0x42800000#32)))
abbrev refAngles : FVec Ideal Cert.Reference23Ideal.S1x8192x64 .f32 :=
  mulf (broadcastInDim Cert.Reference23Ideal.S1x8192x64 ![0, 1, 2] Cert.Reference23Ideal.Gen.bcast_S1x8192x1_S1x8192x64_0_1_2 (broadcastInDim Cert.Reference23Ideal.S1x8192x1 ![0, 1] Cert.Reference23Ideal.Gen.bcast_S1x8192_S1x8192x1_0_1 (sitofp .f32 P : FVec Ideal S1x8192 .f32)))
    (broadcastInDim Cert.Reference23Ideal.S1x8192x64 ![0, 1, 2] Cert.Reference23Ideal.Gen.bcast_S1x1x64_S1x8192x64_0_1_2 (broadcastInDim Cert.Reference23Ideal.S1x1x64 ![2] Cert.Reference23Ideal.Gen.bcast_S64_S1x1x64_2 refFreqs))
abbrev refSpread (A : FVec Ideal Cert.Reference23Ideal.S1x8192x64 .f32) : FVec Ideal Cert.Reference23Ideal.S1x8192x8x64 .f32 :=
  broadcastInDim Cert.Reference23Ideal.S1x8192x8x64 ![0, 1, 2, 3] Cert.Reference23Ideal.Gen.bcast_S1x8192x1x64_S1x8192x8x64_0_1_2_3 (broadcastInDim Cert.Reference23Ideal.S1x8192x1x64 ![0, 1, 3] Cert.Reference23Ideal.Gen.bcast_S1x8192x64_S1x8192x1x64_0_1_3 A)
abbrev refLo (Z : FVec Ideal Cert.Reference23Ideal.S8192x1024 .f32) : FVec Ideal Cert.Reference23Ideal.S1x8192x8x64 .f32 :=
  extractStridedSlice Cert.Reference23Ideal.S1x8192x8x64 ![0, 0, 0, 0] (shapeCast Cert.Reference23Ideal.S1x8192x8x128 Z Cert.Reference23Ideal.Gen.shapeCasts_S8192x1024_S1x8192x8x128) Cert.Reference23Ideal.Gen.slices_S1x8192x8x128_S1x8192x8x64_0_0_0_0
abbrev refHi (Z : FVec Ideal Cert.Reference23Ideal.S8192x1024 .f32) : FVec Ideal Cert.Reference23Ideal.S1x8192x8x64 .f32 :=
  extractStridedSlice Cert.Reference23Ideal.S1x8192x8x64 ![0, 0, 0, 64] (shapeCast Cert.Reference23Ideal.S1x8192x8x128 Z Cert.Reference23Ideal.Gen.shapeCasts_S8192x1024_S1x8192x8x128) Cert.Reference23Ideal.Gen.slices_S1x8192x8x128_S1x8192x8x64_0_0_0_64
abbrev refTurn (A : FVec Ideal Cert.Reference23Ideal.S1x8192x64 .f32) (Z : FVec Ideal Cert.Reference23Ideal.S8192x1024 .f32) : FVec Ideal Cert.Reference23Ideal.S8192x1024 .f32 :=
  shapeCast Cert.Reference23Ideal.S8192x1024 (concatenate Cert.Reference23Ideal.S1x8192x8x128 3
    [⟨Cert.Reference23Ideal.S1x8192x8x64, subf (mulf (refLo Z) (refSpread (Host.cos A))) (mulf (refHi Z) (refSpread (Host.sin A)))⟩,
     ⟨Cert.Reference23Ideal.S1x8192x8x64, addf (mulf (refHi Z) (refSpread (Host.cos A))) (mulf (refLo Z) (refSpread (Host.sin A)))⟩]
    Cert.Reference23Ideal.Gen.concatenates_S1x8192x8x64_S1x8192x8x64_S1x8192x8x128_d3 : FVec Ideal Cert.Reference23Ideal.S1x8192x8x128 .f32) Cert.Reference23Ideal.Gen.shapeCasts_S1x8192x8x128_S8192x1024
abbrev refGate (Z : FVec Ideal Cert.Reference23Ideal.S8192x2048 .f32) : FVec Ideal Cert.Reference23Ideal.S8192x2048 .f32 :=
  Host.divf (broadcastInDim Cert.Reference23Ideal.S8192x2048 ![] Cert.Reference23Ideal.Gen.bcast_S_S8192x2048 (constant S_ .f32 0x3F800000#32))
    (addf (broadcastInDim Cert.Reference23Ideal.S8192x2048 ![] Cert.Reference23Ideal.Gen.bcast_S_S8192x2048 (constant S_ .f32 0x3F800000#32)) (Host.exp (Host.negf Z)))
abbrev refSlabs (Q K V U : FVec Ideal Cert.Reference23Ideal.S8192x1024 .f32) (G H : FVec Ideal Cert.Reference23Ideal.S8192x2048 .f32) : FVec Ideal S8192x8192 .bf16 :=
  truncf .bf16 (concatenate S8192x8192 1 [⟨Cert.Reference23Ideal.S8192x1024, Q⟩, ⟨Cert.Reference23Ideal.S8192x1024, K⟩, ⟨Cert.Reference23Ideal.S8192x1024, V⟩, ⟨Cert.Reference23Ideal.S8192x1024, U⟩,
    ⟨Cert.Reference23Ideal.S8192x2048, G⟩, ⟨Cert.Reference23Ideal.S8192x2048, H⟩]
    Cert.Reference23Ideal.Gen.concatenates_S8192x1024_S8192x1024_S8192x1024_S8192x1024_S8192x2048_S8192x2048_S8192x8192_d1 : FVec Ideal S8192x8192 .f32) Cert.Reference23Ideal.Gen.bitsLt_bf16_f32
abbrev cut0 (Z : FVec Ideal S8192x8192 .f32) : FVec Ideal Cert.Reference23Ideal.S8192x1024 .f32 := extractStridedSlice Cert.Reference23Ideal.S8192x1024 ![0, 0] Z Cert.Reference23Ideal.Gen.slices_S8192x8192_S8192x1024_0_0
abbrev cut1 (Z : FVec Ideal S8192x8192 .f32) : FVec Ideal Cert.Reference23Ideal.S8192x1024 .f32 := extractStridedSlice Cert.Reference23Ideal.S8192x1024 ![0, 1024] Z Cert.Reference23Ideal.Gen.slices_S8192x8192_S8192x1024_0_1024
abbrev cut2 (Z : FVec Ideal S8192x8192 .f32) : FVec Ideal Cert.Reference23Ideal.S8192x1024 .f32 := extractStridedSlice Cert.Reference23Ideal.S8192x1024 ![0, 2048] Z Cert.Reference23Ideal.Gen.slices_S8192x8192_S8192x1024_0_2048
abbrev cut3 (Z : FVec Ideal S8192x8192 .f32) : FVec Ideal Cert.Reference23Ideal.S8192x1024 .f32 := extractStridedSlice Cert.Reference23Ideal.S8192x1024 ![0, 3072] Z Cert.Reference23Ideal.Gen.slices_S8192x8192_S8192x1024_0_3072
abbrev cut4 (Z : FVec Ideal S8192x8192 .f32) : FVec Ideal Cert.Reference23Ideal.S8192x2048 .f32 := extractStridedSlice Cert.Reference23Ideal.S8192x2048 ![0, 4096] Z Cert.Reference23Ideal.Gen.slices_S8192x8192_S8192x2048_0_4096
abbrev cut5 (Z : FVec Ideal S8192x8192 .f32) : FVec Ideal Cert.Reference23Ideal.S8192x2048 .f32 := extractStridedSlice Cert.Reference23Ideal.S8192x2048 ![0, 6144] Z Cert.Reference23Ideal.Gen.slices_S8192x8192_S8192x2048_0_6144
abbrev refH : FVec Ideal S8192x8192 .bf16 :=
  refSlabs (refTurn (refAngles P) (cut0 (refDot X W))) (refTurn (refAngles P) (cut1 (refDot X W))) (cut2 (refDot X W)) (cut3 (refDot X W)) (refGate (cut4 (refDot X W))) (refGate (cut5 (refDot X W)))

/-- The whole product at an index. -/
def whole (i : Fin 8192) (j : Fin 8192) : EReal := ∑ k : Fin 2048, X (ix2 i k) * W (ix2 k j)

theorem refDot_at (i j : Fin 8192) : refDot X W (ix2 i j) = whole X W i j := by
  unfold refDot whole
  pointwise

theorem refAngles_at (i : Fin 8192) (e : Fin 64) : refAngles P (ix3 0 i e) = angle P i e := by
  unfold angle
  pointwise

theorem refTurn_lo (A : FVec Ideal Cert.Reference23Ideal.S1x8192x64 .f32) (Z : FVec Ideal Cert.Reference23Ideal.S8192x1024 .f32) (i : Fin 8192) (h : Fin 8) (e : Fin 64) :
    refTurn A Z (ix2 i (col h (lo e))) = Z (ix2 i (col h (lo e))) * Ideal.cos (A (ix3 0 i e)) - Z (ix2 i (col h (hi e))) * Ideal.sin (A (ix3 0 i e)) := by
  have m : (128 * h.val + e.val) % 128 = e.val := by omega
  have d : (128 * h.val + e.val) / 128 = h.val := by omega
  have f : h.val * 128 = 128 * h.val := by omega
  have g : 64 + e.val = e.val + 64 := by omega
  pointwise
  simp only [m, d, f, g, e.isLt, dite_true]

theorem refTurn_hi (A : FVec Ideal Cert.Reference23Ideal.S1x8192x64 .f32) (Z : FVec Ideal Cert.Reference23Ideal.S8192x1024 .f32) (i : Fin 8192) (h : Fin 8) (e : Fin 64) :
    refTurn A Z (ix2 i (col h (hi e))) = Z (ix2 i (col h (hi e))) * Ideal.cos (A (ix3 0 i e)) + Z (ix2 i (col h (lo e))) * Ideal.sin (A (ix3 0 i e)) := by
  have m : (128 * h.val + (e.val + 64)) % 128 = e.val + 64 := by omega
  have d : (128 * h.val + (e.val + 64)) / 128 = h.val := by omega
  have f : h.val * 128 = 128 * h.val := by omega
  have g : 64 + e.val = e.val + 64 := by omega
  have n : ¬(e.val + 64 < 64) := by omega
  pointwise
  simp only [m, d, f, g, n, dite_false, Nat.add_sub_cancel]

theorem refGate_at (Z : FVec Ideal Cert.Reference23Ideal.S8192x2048 .f32) (i : Fin 8192) (l : Fin 2048) : refGate Z (ix2 i l) = Ideal.logistic (Z (ix2 i l)) := by
  unfold Ideal.logistic
  pointwise

theorem slab0 (Q K V U : FVec Ideal Cert.Reference23Ideal.S8192x1024 .f32) (G H : FVec Ideal Cert.Reference23Ideal.S8192x2048 .f32) (i : Fin 8192) (l : Fin 1024) :
    refSlabs Q K V U G H (ix2 i ⟨0 + l.val, by omega⟩) = Q (ix2 i l) := by
  pointwise

theorem cut0_at (Z : FVec Ideal S8192x8192 .f32) (i : Fin 8192) (l : Fin 1024) : cut0 Z (ix2 i l) = Z (ix2 i ⟨0 + l.val, by omega⟩) := by
  pointwise

theorem slab1 (Q K V U : FVec Ideal Cert.Reference23Ideal.S8192x1024 .f32) (G H : FVec Ideal Cert.Reference23Ideal.S8192x2048 .f32) (i : Fin 8192) (l : Fin 1024) :
    refSlabs Q K V U G H (ix2 i ⟨1024 + l.val, by omega⟩) = K (ix2 i l) := by
  pointwise

theorem cut1_at (Z : FVec Ideal S8192x8192 .f32) (i : Fin 8192) (l : Fin 1024) : cut1 Z (ix2 i l) = Z (ix2 i ⟨1024 + l.val, by omega⟩) := by
  pointwise

theorem slab2 (Q K V U : FVec Ideal Cert.Reference23Ideal.S8192x1024 .f32) (G H : FVec Ideal Cert.Reference23Ideal.S8192x2048 .f32) (i : Fin 8192) (l : Fin 1024) :
    refSlabs Q K V U G H (ix2 i ⟨2048 + l.val, by omega⟩) = V (ix2 i l) := by
  pointwise
  rw [dif_neg (by omega), dif_neg (by omega), dif_pos (by omega)]
  exact congrArg (fun a : Fin 1024 => V (ix2 i a)) (Fin.ext (by dsimp only; omega))

theorem cut2_at (Z : FVec Ideal S8192x8192 .f32) (i : Fin 8192) (l : Fin 1024) : cut2 Z (ix2 i l) = Z (ix2 i ⟨2048 + l.val, by omega⟩) := by
  pointwise

theorem slab3 (Q K V U : FVec Ideal Cert.Reference23Ideal.S8192x1024 .f32) (G H : FVec Ideal Cert.Reference23Ideal.S8192x2048 .f32) (i : Fin 8192) (l : Fin 1024) :
    refSlabs Q K V U G H (ix2 i ⟨3072 + l.val, by omega⟩) = U (ix2 i l) := by
  pointwise
  rw [dif_neg (by omega), dif_neg (by omega), dif_neg (by omega), dif_pos (by omega)]
  exact congrArg (fun a : Fin 1024 => U (ix2 i a)) (Fin.ext (by dsimp only; omega))

theorem cut3_at (Z : FVec Ideal S8192x8192 .f32) (i : Fin 8192) (l : Fin 1024) : cut3 Z (ix2 i l) = Z (ix2 i ⟨3072 + l.val, by omega⟩) := by
  pointwise

theorem slab4 (Q K V U : FVec Ideal Cert.Reference23Ideal.S8192x1024 .f32) (G H : FVec Ideal Cert.Reference23Ideal.S8192x2048 .f32) (i : Fin 8192) (l : Fin 2048) :
    refSlabs Q K V U G H (ix2 i ⟨4096 + l.val, by omega⟩) = G (ix2 i l) := by
  pointwise
  rw [dif_neg (by omega), dif_neg (by omega), dif_neg (by omega), dif_neg (by omega), dif_pos (by omega)]
  exact congrArg (fun a : Fin 2048 => G (ix2 i a)) (Fin.ext (by dsimp only; omega))

theorem cut4_at (Z : FVec Ideal S8192x8192 .f32) (i : Fin 8192) (l : Fin 2048) : cut4 Z (ix2 i l) = Z (ix2 i ⟨4096 + l.val, by omega⟩) := by
  pointwise

theorem slab5 (Q K V U : FVec Ideal Cert.Reference23Ideal.S8192x1024 .f32) (G H : FVec Ideal Cert.Reference23Ideal.S8192x2048 .f32) (i : Fin 8192) (l : Fin 2048) :
    refSlabs Q K V U G H (ix2 i ⟨6144 + l.val, by omega⟩) = H (ix2 i l) := by
  pointwise
  rw [dif_neg (by omega), dif_neg (by omega), dif_neg (by omega), dif_neg (by omega), dif_neg (by omega)]
  exact congrArg (fun a : Fin 2048 => H (ix2 i a)) (Fin.ext (by dsimp only; omega))

theorem cut5_at (Z : FVec Ideal S8192x8192 .f32) (i : Fin 8192) (l : Fin 2048) : cut5 Z (ix2 i l) = Z (ix2 i ⟨6144 + l.val, by omega⟩) := by
  pointwise

/-- The product turned by the rotary embedding, and the whole output. -/
def turnedWhole (i : Fin 8192) (j : Fin 8192) : EReal :=
  whole X W i j * cosOf P (ix2 i ⟨j.val % 128, by omega⟩) + whole X W i ⟨128 * (j.val / 128) + (j.val % 128 + 128 - 64) % 128, by omega⟩ * sinOf P (ix2 i ⟨j.val % 128, by omega⟩)
def resultAt (i : Fin 8192) (j : Fin 8192) : EReal :=
  if j.val < 2048 then turnedWhole X P W i j else if j.val < 4096 then whole X W i j else Ideal.logistic (whole X W i j)
def result : FVec Ideal S8192x8192 .bf16 := fun y => resultAt X P W (y 0) (y 1)

theorem turn_at (q : ℕ) (hq : 128 * q + 1024 ≤ 8192) (Z : FVec Ideal Cert.Reference23Ideal.S8192x1024 .f32)
    (hZ : ∀ (i : Fin 8192) (l : Fin 1024), Z (ix2 i l) = whole X W i ⟨128 * q + l.val, by omega⟩) (i : Fin 8192) (l : Fin 1024) (j : Fin 8192) (hj : j.val = 128 * q + l.val) :
    refTurn (refAngles P) Z (ix2 i l) = turnedWhole X P W i j := by
  unfold turnedWhole
  by_cases hl : l.val % 128 < 64
  · obtain ⟨e, he⟩ : ∃ e : Fin 64, e.val = l.val % 128 := ⟨⟨_, hl⟩, rfl⟩
    have h1 : l = col (headOf l) (lo e) := Fin.ext (by show l.val = 128 * (l.val / 128) + e.val; omega)
    have h2 : (⟨j.val % 128, by omega⟩ : Fin 128) = lo e := Fin.ext (by show j.val % 128 = e.val; omega)
    rw [h1, refTurn_lo, hZ, hZ, refAngles_at, h2, cos_lo, sin_lo, sub_eq_add_neg, mul_neg]
    have h3 : (⟨128 * q + (col (headOf l) (lo e)).val, by omega⟩ : Fin 8192) = j := Fin.ext (by show 128 * q + (128 * (l.val / 128) + e.val) = j.val; omega)
    have h4 : (⟨128 * q + (col (headOf l) (hi e)).val, by omega⟩ : Fin 8192) = ⟨128 * (j.val / 128) + (j.val % 128 + 128 - 64) % 128, by omega⟩ :=
      Fin.ext (by show 128 * q + (128 * (l.val / 128) + (e.val + 64)) = 128 * (j.val / 128) + (j.val % 128 + 128 - 64) % 128; omega)
    rw [h3, h4]
  · obtain ⟨e, he⟩ : ∃ e : Fin 64, e.val = l.val % 128 - 64 := ⟨⟨l.val % 128 - 64, by omega⟩, rfl⟩
    have h1 : l = col (headOf l) (hi e) := Fin.ext (by show l.val = 128 * (l.val / 128) + (e.val + 64); omega)
    have h2 : (⟨j.val % 128, by omega⟩ : Fin 128) = hi e := Fin.ext (by show j.val % 128 = e.val + 64; omega)
    rw [h1, refTurn_hi, hZ, hZ, refAngles_at, h2, cos_hi, sin_hi]
    have h3 : (⟨128 * q + (col (headOf l) (hi e)).val, by omega⟩ : Fin 8192) = j := Fin.ext (by show 128 * q + (128 * (l.val / 128) + (e.val + 64)) = j.val; omega)
    have h4 : (⟨128 * q + (col (headOf l) (lo e)).val, by omega⟩ : Fin 8192) = ⟨128 * (j.val / 128) + (j.val % 128 + 128 - 64) % 128, by omega⟩ :=
      Fin.ext (by show 128 * q + (128 * (l.val / 128) + e.val) = 128 * (j.val / 128) + (j.val % 128 + 128 - 64) % 128; omega)
    rw [h3, h4]

theorem same : refH X P W = result X P W := by
  refine funext fun y => ?_
  obtain ⟨i, j, rfl⟩ : ∃ (i j : Fin 8192), y = ix2 i j := ⟨_, _, eq_ix2 y⟩
  show refH X P W (ix2 i j) = resultAt X P W i j
  unfold resultAt refH
  by_cases b0 : j.val < 1024
  · obtain ⟨l, hl⟩ : ∃ l : Fin 1024, j = ⟨0 + l.val, by omega⟩ := ⟨⟨j.val, b0⟩, Fin.ext (by dsimp only; omega)⟩
    rw [if_pos (by omega), hl, slab0]
    exact turn_at X P W 0 (by omega) _ (fun i l => (cut0_at _ i l).trans (refDot_at X W i _)) i l _ rfl
  by_cases b1 : j.val < 2048
  · obtain ⟨l, hl⟩ : ∃ l : Fin 1024, j = ⟨1024 + l.val, by omega⟩ := ⟨⟨j.val - 1024, by omega⟩, Fin.ext (by dsimp only; omega)⟩
    rw [if_pos (by omega), hl, slab1]
    exact turn_at X P W 8 (by omega) _ (fun i l => (cut1_at _ i l).trans (refDot_at X W i _)) i l _ rfl
  rw [if_neg b1]
  by_cases b2 : j.val < 3072
  · obtain ⟨l, hl⟩ : ∃ l : Fin 1024, j = ⟨2048 + l.val, by omega⟩ := ⟨⟨j.val - 2048, by omega⟩, Fin.ext (by dsimp only; omega)⟩
    rw [if_pos (by omega), hl, slab2]
    exact (cut2_at _ i l).trans (refDot_at X W i _)
  by_cases b3 : j.val < 4096
  · obtain ⟨l, hl⟩ : ∃ l : Fin 1024, j = ⟨3072 + l.val, by omega⟩ := ⟨⟨j.val - 3072, by omega⟩, Fin.ext (by dsimp only; omega)⟩
    rw [if_pos (by omega), hl, slab3]
    exact (cut3_at _ i l).trans (refDot_at X W i _)
  rw [if_neg b3]
  by_cases b4 : j.val < 6144
  · obtain ⟨l, hl⟩ : ∃ l : Fin 2048, j = ⟨4096 + l.val, by omega⟩ := ⟨⟨j.val - 4096, by omega⟩, Fin.ext (by dsimp only; omega)⟩
    rw [hl, slab4, refGate_at]
    exact congrArg Ideal.logistic ((cut4_at _ i l).trans (refDot_at X W i _))
  obtain ⟨l, hl⟩ : ∃ l : Fin 2048, j = ⟨6144 + l.val, by omega⟩ := ⟨⟨j.val - 6144, by omega⟩, Fin.ext (by dsimp only; omega)⟩
  rw [hl, slab5, refGate_at]
  exact congrArg Ideal.logistic ((cut5_at _ i l).trans (refDot_at X W i _))

end Whole

/-! ## The blocks a point is handed -/

variable (m : (ℓ : Loc nD τ sig) → Buf (Elt Ideal) ℓ) (c : Dev nD)

theorem index0 (t : Fin cfg0.N) : win0_0.index t 0 = t.val / 8 ∧ win0_0.index t 1 = 0 := by revert t; decide +kernel
theorem index1 (t : Fin cfg0.N) : win0_1.index t 0 = t.val % 8 / 2 ∧ win0_1.index t 1 = 0 ∧ win0_1.index t 2 = t.val % 8 % 2 := by revert t; decide +kernel
theorem index2 (t : Fin cfg0.N) : win0_2.index t 0 = t.val / 8 ∧ win0_2.index t 1 = 0 := by revert t; decide +kernel
theorem index3 (t : Fin cfg0.N) : win0_3.index t 0 = t.val / 8 ∧ win0_3.index t 1 = 0 := by revert t; decide +kernel
theorem index4 (t : Fin cfg0.N) : win0_4.index t 0 = t.val / 8 ∧ win0_4.index t 1 = t.val % 8 := by revert t; decide +kernel

theorem rows_handed : V m c main_v0 = rowsOf (m ((c : Thread nD τ).loc main_arg0)) := by
  have e : V m c main_v0 = StableHlo.after hostOps0 (fun b => m (c, b)) (Proc.devRef .tc main_v0) := rfl
  rw [e]
  simp only [hostOps0]
  after_results_simp

theorem slabs_handed : V m c main_v3 = slabsOf (m ((c : Thread nD τ).loc main_arg2)) := by
  have e : V m c main_v3 = StableHlo.after hostOps0 (fun b => m (c, b)) (Proc.devRef .tc main_v3) := rfl
  rw [e]
  simp only [hostOps0]
  after_results_simp
  rfl

theorem cos_handed : V m c main_v19 = cosOf (m ((c : Thread nD τ).loc main_arg1)) := by
  have e : V m c main_v19 = StableHlo.after hostOps0 (fun b => m (c, b)) (Proc.devRef .tc main_v19) := rfl
  rw [e]
  simp only [hostOps0]
  after_results_simp
  rfl

theorem sin_handed : V m c main_v21 = sinOf (m ((c : Thread nD τ).loc main_arg1)) := by
  have e : V m c main_v21 = StableHlo.after hostOps0 (fun b => m (c, b)) (Proc.devRef .tc main_v21) := rfl
  rw [e]
  simp only [hostOps0]
  after_results_simp
  rfl

/-- Place `r` of row block `p`, or column `r` of column block `p`, of eight. -/
abbrev place (p : Fin 8) (r : Fin 1024) : Fin 8192 := ⟨1024 * p.val + r.val, by omega⟩

theorem rows_blk (t : Fin cfg0.N) (p : Fin 8) (hp : t.val / 8 = p.val) (r : Fin 1024) (k : Fin 2048) (A : FVec Ideal S8192x2048 .bf16) (hA : V m c main_v0 = A) :
    (iblk m c 0 t : Vec Ideal S1024x2048 .bf16) (ix2 r k) = A (ix2 (place p r) k) := by
  subst hA
  unfold iblk
  rw [View.read_apply]
  refine congrArg (V m c main_v0) (funext fun a => Fin.ext ?_)
  match a with
  | ⟨0, _⟩ => show win0_0.index t 0 * 1024 + 1 * r.val = 1024 * p.val + r.val; rw [(index0 t).1, hp]; omega
  | ⟨1, _⟩ => show win0_0.index t 1 * 2048 + 1 * k.val = k.val; rw [(index0 t).2]; omega

theorem slab_blk (t : Fin cfg0.N) (q : Fin 8) (hq : t.val % 8 = q.val) (k : Fin 2048) (l : Fin 1024) (A : FVec Ideal S4x2048x2048 .bf16) (hA : V m c main_v3 = A) :
    (iblk m c 1 t : Vec Ideal S1x2048x1024 .bf16) (ix3 0 k l) = A (ix3 (⟨q.val / 2, by omega⟩ : Fin 4) k (⟨1024 * (q.val % 2) + l.val, by omega⟩ : Fin 2048)) := by
  subst hA
  unfold iblk
  rw [View.read_apply]
  refine congrArg (V m c main_v3) (funext fun a => Fin.ext ?_)
  match a with
  | ⟨0, _⟩ => show win0_1.index t 0 * 1 + 1 * 0 = q.val / 2; rw [(index1 t).1, hq]; omega
  | ⟨1, _⟩ => show win0_1.index t 1 * 2048 + 1 * k.val = k.val; rw [(index1 t).2.1]; omega
  | ⟨2, _⟩ => show win0_1.index t 2 * 1024 + 1 * l.val = 1024 * (q.val % 2) + l.val; rw [(index1 t).2.2, hq]; omega

theorem cos_blk (t : Fin cfg0.N) (p : Fin 8) (hp : t.val / 8 = p.val) (r : Fin 1024) (d : Fin 128) (A : FVec Ideal S8192x128 .f32) (hA : V m c main_v19 = A) :
    (iblk m c 2 t : Vec Ideal S1024x128 .f32) (ix2 r d) = A (ix2 (place p r) d) := by
  subst hA
  unfold iblk
  rw [View.read_apply]
  refine congrArg (V m c main_v19) (funext fun a => Fin.ext ?_)
  match a with
  | ⟨0, _⟩ => show win0_2.index t 0 * 1024 + 1 * r.val = 1024 * p.val + r.val; rw [(index2 t).1, hp]; omega
  | ⟨1, _⟩ => show win0_2.index t 1 * 128 + 1 * d.val = d.val; rw [(index2 t).2]; omega

theorem sin_blk (t : Fin cfg0.N) (p : Fin 8) (hp : t.val / 8 = p.val) (r : Fin 1024) (d : Fin 128) (A : FVec Ideal S8192x128 .f32) (hA : V m c main_v21 = A) :
    (iblk m c 3 t : Vec Ideal S1024x128 .f32) (ix2 r d) = A (ix2 (place p r) d) := by
  subst hA
  unfold iblk
  rw [View.read_apply]
  refine congrArg (V m c main_v21) (funext fun a => Fin.ext ?_)
  match a with
  | ⟨0, _⟩ => show win0_3.index t 0 * 1024 + 1 * r.val = 1024 * p.val + r.val; rw [(index3 t).1, hp]; omega
  | ⟨1, _⟩ => show win0_3.index t 1 * 128 + 1 * d.val = d.val; rw [(index3 t).2]; omega

/-! ## The output -/

section Output

variable (X : FVec Ideal S8192x2048 .f32) (P : Vec Ideal S1x8192 .i32) (W : FVec Ideal S2048x8192 .f32)
variable (hX : X = m ((c : Thread nD τ).loc main_arg0)) (hP : P = m ((c : Thread nD τ).loc main_arg1)) (hW : W = m ((c : Thread nD τ).loc main_arg2))
variable (t : Fin cfg0.N) (p q : Fin 8) (hp : t.val / 8 = p.val) (hq : t.val % 8 = q.val) (r l : Fin 1024)

include hX hW hp hq in
theorem dot_whole : dot (iblk m c 0 t) (iblk m c 1 t) r l = whole X W (place p r) (place q l) := by
  have hl : V m c main_v0 = rowsOf X := by rw [hX]; exact rows_handed m c
  have hr : V m c main_v3 = slabsOf W := by rw [hW]; exact slabs_handed m c
  unfold dot whole
  refine Finset.sum_congr rfl fun k _ => ?_
  rw [rows_blk m c t p hp _ _ _ hl, slab_blk m c t q hq _ _ _ hr, rowsOf_at, slabsOf_at]
  exact congrArg (fun a : Fin 8192 => X (ix2 (place p r) k) * W (ix2 k a)) (Fin.ext (by show 2048 * (q.val / 2) + (1024 * (q.val % 2) + l.val) = 1024 * q.val + l.val; omega))

include hX hP hW hp hq in
theorem turned_whole : turned (iblk m c 0 t) (iblk m c 1 t) (iblk m c 2 t) (iblk m c 3 t) r (headOf l) (posOf l) = turnedWhole X P W (place p r) (place q l) := by
  have hc : V m c main_v19 = cosOf P := by rw [hP]; exact cos_handed m c
  have hs : V m c main_v21 = sinOf P := by rw [hP]; exact sin_handed m c
  unfold turned turnedWhole
  rw [dot_whole m c X W hX hW t p q hp hq, dot_whole m c X W hX hW t p q hp hq, cos_blk m c t p hp _ _ _ hc, sin_blk m c t p hp _ _ _ hs]
  have e0 : place q (col (headOf l) (posOf l)) = place q l := Fin.ext (by show 1024 * q.val + (128 * (l.val / 128) + l.val % 128) = 1024 * q.val + l.val; omega)
  have e1 : posOf l = (⟨(place q l).val % 128, by omega⟩ : Fin 128) := Fin.ext (by show l.val % 128 = (1024 * q.val + l.val) % 128; omega)
  have e2 : place q (col (headOf l) (half (posOf l))) = ⟨128 * ((place q l).val / 128) + ((place q l).val % 128 + 128 - 64) % 128, by omega⟩ :=
    Fin.ext (by show 1024 * q.val + (128 * (l.val / 128) + (l.val % 128 + 128 - 64) % 128) = 128 * ((1024 * q.val + l.val) / 128) + ((1024 * q.val + l.val) % 128 + 128 - 64) % 128; omega)
  rw [e0, e2, ← e1]

include hX hP hW hp hq in
theorem block_at : block m c t (ix2 r l) = resultAt X P W (place p r) (place q l) := by
  have hv : (place q l).val = 1024 * q.val + l.val := rfl
  unfold resultAt
  by_cases h : t.val % 8 < 2
  · rw [blockRope m c t h, if_pos (by omega)]
    refine (View.read_writes_apply_of_pieces _ _ _ _ (point_turned _ _ _ _ _ _ _ _ _ _ _ _ _ _ _ _ _ _ _ _ _ _ _ _ _ _ _) (ix2 r l) (coverRope m c t h _)).trans ?_
    exact turned_whole m c X P W hX hP hW t p q hp hq r l
  by_cases h : t.val % 8 = 2
  · rw [blockVal m c t h, if_neg (by omega), if_pos (by omega)]
    refine (View.read_writes_apply_of_pieces _ _ _ _ (point_plain _ _ _ _ _ _ _ _ _ _ _ _ _ _ _ _ _ _ _ _ _ _ _ _ _ _ _) (ix2 r l) (coverVal m c t h _)).trans ?_
    have e0 : col (headOf l) (posOf l) = l := Fin.ext (by show 128 * (l.val / 128) + l.val % 128 = l.val; omega)
    refine Eq.trans ?_ (dot_whole m c X W hX hW t p q hp hq r l)
    exact congrArg (dot (iblk m c 0 t) (iblk m c 1 t) r) e0
  by_cases h : t.val % 8 = 3
  · rw [blockU m c t h, if_neg (by omega), if_pos (by omega)]
    refine (View.read_writes_apply_of_pieces _ _ _ _ (point_u _ _ _ _ _ _ _ _ _ _ _ _ _ _ _ _ _ _ _ _ _ _ _ _ _ _ _) (ix2 r l) (coverU m c t h _)).trans ?_
    exact dot_whole m c X W hX hW t p q hp hq r l
  have h : 4 ≤ t.val % 8 := by omega
  rw [blockGate m c t h, if_neg (by omega), if_neg (by omega)]
  refine (View.read_writes_apply_of_pieces _ _ _ _ (point_gate _ _ _ _ _ _ _ _ _ _ _ _ _ _ _ _ _ _ _ _ _ _ _ _ _ _ _) (ix2 r l) (coverGate m c t h _)).trans ?_
  exact congrArg Ideal.logistic (dot_whole m c X W hX hW t p q hp hq r l)

end Output

theorem array (X : FVec Ideal S8192x2048 .f32) (P : Vec Ideal S1x8192 .i32) (W : FVec Ideal S2048x8192 .f32)
    (hX : X = m ((c : Thread nD τ).loc main_arg0)) (hP : P = m ((c : Thread nD τ).loc main_arg1)) (hW : W = m ((c : Thread nD τ).loc main_arg2)) :
    (dats m 0 c).arrAt 4 cfg0.N = result X P W := by
  refine (dats m 0 c).arrAt_eq_of_covers 4 _ (by decide +kernel) fun t hf y => ?_
  have ht : t.val < 64 := lt_of_lt_of_eq t.isLt (N_0 : cfg0.N = 64)
  have i0 : win0_4.index t 0 * 1024 + 1 * (y 0).val = 1024 * (t.val / 8) + (y 0).val := by rw [(index4 t).1]; omega
  have i1 : win0_4.index t 1 * 1024 + 1 * (y 1).val = 1024 * (t.val % 8) + (y 1).val := by rw [(index4 t).2]; omega
  have hz : ((cfg0.win 4).blk t).view.emb y = (ix2 (place ⟨t.val / 8, by omega⟩ (y 0)) (place ⟨t.val % 8, by omega⟩ (y 1)) : S8192x8192.Idx) :=
    funext fun a => match a with | ⟨0, _⟩ => Fin.ext i0 | ⟨1, _⟩ => Fin.ext i1
  have hy : y = (ix2 (y 0) (y 1) : S1024x1024.Idx) := eq_ix2 y
  rw [hz]
  exact (congrFun (after4 m c t) y).trans ((congrArg (block m c t) hy).trans
    (block_at m c X P W hX hP hW t ⟨t.val / 8, by omega⟩ ⟨t.val % 8, by omega⟩ rfl rfl (y 0) (y 1)))

theorem agree : Cert.algebraic_Kernel23Ideal_Reference23Ideal (hKernel23Ideal := Cert.Kernel23Ideal.Gen.facts) (hReference23Ideal := Cert.Reference23Ideal.Gen.facts) := by
  intro m g m' g' _ he
  refine ⟨fun c => (dats m 0 c).arrAt 4 cfg0.N, (θ_run _ _ _).mono (fun r h c => ?_) (run_main m g), ?_⟩
  · exact ⟨((dats m 0 c).toRForget_arrAt_iff (fgt := fgt) (w := 4) rfl _ _).mp ((h.1 c).1 4),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩
  refine (θ_run _ _ _).mono (fun r h c => ?_) (Cert.Reference23Ideal.Value.run m' g')
  obtain ⟨r0, rest⟩ := h c
  obtain ⟨e0, e1, e2⟩ := he c
  exact ⟨r0.trans ((same _ _ _).trans (array m c _ _ _ e0 e1 e2).symm), rest⟩

end Cert.Kernel23Ideal.InProj

end
-- ==== Proof.Tile.lean ====
/-
  One head's tile of the kernel's body, read at an index. A tile has 128 query rows and a window of 256 key rows (the
  query rows' own block and the block before it). The operations of the body are collected here as functions of
  the tile's operands, whichever head and block they come from.
-/
module

public import proofs.«01_k».proof.Proof.Gen.KernelIdeal.Value
public import Idealize.ShloMosaic.Lib.Pointwise
public import Idealize.ShloMosaic.Lib.WordCmp
public import Idealize.ShloMosaic.Lib.Affine

@[expose] public section

set_option backward.isDefEq.respectTransparency false
set_option maxRecDepth 16384

noncomputable section

namespace Cert.Attn

open Cert.KernelIdeal Cert.KernelIdeal.Gen Idealize.ShloMosaic Idealize.ShloMosaic.TcCoe Idealize.SL.Sem Idealize.ShloMosaic.WordCmp

/-- The scale of the scores, 1/√128 in single precision. -/
def scale : EReal := Ideal.ofBits .f32 0x3DB504F3#32

/-- The column of a statistics tile at lane `w`, as the body takes it: the other lanes are zeroed and the lanes summed. -/
def laneCol (w : BitVec 32) (st : FVec Ideal S128x128 .f32) : FVec Ideal S128x1 .f32 :=
  shapeCast S128x1 (multiReduction .add [1] S128
    (select (cmpi .eq (iota .tc S128x128 32 [1] iota_S128x128_d1_w32) (broadcast S128x128 w)) st
      (broadcast S128x128 (Scalar.ofBits .f32 0x00000000#32))) 0x00000000#32 reduces_S128x128_S128 (.inl rfl) rfl)
    shapeCasts_S128_S128x1

/-- The scores of a query tile against a window of keys (also: of an output gradient against a window of values). -/
def scoreT (q : FVec Ideal S128x128 .bf16) (kw : FVec Ideal S256x128 .bf16) : FVec Ideal S128x256 .f32 :=
  matmul dot_S128x128_S256x128_S128x256_1_1_0_0_n_n none q kw (constant S128x256 .f32 0x00000000#32)

/-- The probabilities of a tile: the exponential of the scaled score less the row's logarithm, at the pairs the mask admits. -/
def probT (w : BitVec 32) (mask : IVec S128x256 1) (sc : FVec Ideal S128x256 .f32) (lse : FVec Ideal S128x128 .f32) : FVec Ideal S128x256 .f32 :=
  select mask (exp (subf (select mask (mulf sc (broadcast S128x256 (Scalar.ofBits .f32 0x3DB504F3#32)))
    (broadcast S128x256 (Scalar.ofBits .f32 0xF149F2CA#32))) (broadcastTo S128x256 (laneCol w lse) broadcasts_S128x1_S128x256)))
    (broadcast S128x256 (Scalar.ofBits .f32 0x00000000#32))

/-- The gradient of the scores: the probability times what the value gradient exceeds the row's delta by. -/
def dsT (w : BitVec 32) (mask : IVec S128x256 1) (sc dp : FVec Ideal S128x256 .f32) (lse dl : FVec Ideal S128x128 .f32) : FVec Ideal S128x256 .bf16 :=
  truncf .bf16 (mulf (probT w mask sc lse) (subf dp (broadcastTo S128x256 (laneCol w dl) broadcasts_S128x1_S128x256))) bitsLt_bf16_f32

/-- The query gradient of a tile. -/
def dqT (kw : FVec Ideal S256x128 .bf16) (ds : FVec Ideal S128x256 .bf16) : FVec Ideal S128x128 .bf16 :=
  truncf .bf16 (mulf (matmul dot_S128x256_S256x128_S128x128_1_0_0_1_n_n none ds kw (constant S128x128 .f32 0x00000000#32))
    (broadcast S128x128 (Scalar.ofBits .f32 0x3DB504F3#32))) bitsLt_bf16_f32

/-- What a tile adds to the gradients of its window's keys. -/
def dkT (ds : FVec Ideal S128x256 .bf16) (q : FVec Ideal S128x128 .bf16) : FVec Ideal S256x128 .f32 :=
  mulf (matmul dot_S128x256_S128x128_S256x128_0_0_1_1_n_n none ds q (constant S256x128 .f32 0x00000000#32))
    (broadcast S256x128 (Scalar.ofBits .f32 0x3DB504F3#32))

/-- What a tile adds to the gradients of its window's values. -/
def dvT (p : FVec Ideal S128x256 .f32) (do' : FVec Ideal S128x128 .bf16) : FVec Ideal S256x128 .f32 :=
  matmul dot_S128x256_S128x128_S256x128_0_0_1_1_n_n none (truncf .bf16 p bitsLt_bf16_f32) do' (constant S256x128 .f32 0x00000000#32)

/-- A block's gradient: the second half of its own tile's share and the first half of the next tile's. -/
def joinT (a b : FVec Ideal S256x128 .f32) : FVec Ideal S128x128 .bf16 :=
  truncf .bf16 (addf (extractStridedSlice S128x128 ![128, 0] a slices_S256x128_o128_0_S128x128)
    (extractStridedSlice S128x128 ![0, 0] b slices_S256x128_o0_0_S128x128)) bitsLt_bf16_f32

/-- The last block's gradient: the second half of its own tile's share. -/
def lastT (a : FVec Ideal S256x128 .f32) : FVec Ideal S128x128 .bf16 :=
  truncf .bf16 (extractStridedSlice S128x128 ![128, 0] a slices_S256x128_o128_0_S128x128) bitsLt_bf16_f32

/-- The lanes' sum is the lane asked for. -/
theorem laneCol_apply (w : BitVec 32) (n : Fin 128) (hw : w = BitVec.ofNat 32 n.val) (st : FVec Ideal S128x128 .f32) (i : Fin 128) (z : Fin 1) :
    laneCol w st (ix2 i z) = st (ix2 i n) := by
  unfold laneCol
  pointwise
  subst hw
  rw [Finset.sum_eq_single n]
  · rw [cmpi_eq_ofNat (by omega) (by omega)]; simp [Scalar.select]
  · intro x _ hx
    rw [cmpi_eq_ofNat (by omega) (by omega), decide_eq_false (fun h => hx (Fin.ext h))]; rfl
  · intro h; exact absurd (Finset.mem_univ n) h

theorem scoreT_apply (q : FVec Ideal S128x128 .bf16) (kw : FVec Ideal S256x128 .bf16) (i : Fin 128) (j : Fin 256) :
    scoreT q kw (ix2 i j) = ∑ d : Fin 128, q (ix2 i d) * kw (ix2 j d) := by
  unfold scoreT
  pointwise

theorem probT_apply (w : BitVec 32) (mask : IVec S128x256 1) (sc : FVec Ideal S128x256 .f32) (lse : FVec Ideal S128x128 .f32) (i : Fin 128) (j : Fin 256) :
    probT w mask sc lse (ix2 i j) = if mask (ix2 i j) = 1#1 then Ideal.exp (sc (ix2 i j) * scale - laneCol w lse (ix2 i 0)) else 0 := by
  unfold probT
  pointwise
  by_cases h : mask (ix2 i j) = 1#1
  · rw [h]; rfl
  · rw [if_neg h]; exact if_neg h

theorem dsT_apply (w : BitVec 32) (mask : IVec S128x256 1) (sc dp : FVec Ideal S128x256 .f32) (lse dl : FVec Ideal S128x128 .f32) (i : Fin 128) (j : Fin 256) :
    dsT w mask sc dp lse dl (ix2 i j) = probT w mask sc lse (ix2 i j) * (dp (ix2 i j) - laneCol w dl (ix2 i 0)) := by
  unfold dsT
  pointwise

theorem dqT_apply (kw : FVec Ideal S256x128 .bf16) (ds : FVec Ideal S128x256 .bf16) (i : Fin 128) (d : Fin 128) :
    dqT kw ds (ix2 i d) = (∑ j : Fin 256, ds (ix2 i j) * kw (ix2 j d)) * scale := by
  unfold dqT scale
  pointwise

theorem dkT_apply (ds : FVec Ideal S128x256 .bf16) (q : FVec Ideal S128x128 .bf16) (j : Fin 256) (d : Fin 128) :
    dkT ds q (ix2 j d) = (∑ i : Fin 128, ds (ix2 i j) * q (ix2 i d)) * scale := by
  unfold dkT scale
  pointwise

theorem dvT_apply (p : FVec Ideal S128x256 .f32) (g : FVec Ideal S128x128 .bf16) (j : Fin 256) (d : Fin 128) :
    dvT p g (ix2 j d) = ∑ i : Fin 128, p (ix2 i j) * g (ix2 i d) := by
  unfold dvT
  pointwise

theorem joinT_apply (a b : FVec Ideal S256x128 .f32) (j : Fin 128) (d : Fin 128) :
    joinT a b (ix2 j d) = a (ix2 ⟨128 + j, by omega⟩ d) + b (ix2 ⟨j, by omega⟩ d) := by
  unfold joinT
  pointwise

theorem lastT_apply (a : FVec Ideal S256x128 .f32) (j : Fin 128) (d : Fin 128) :
    lastT a (ix2 j d) = a (ix2 ⟨128 + j, by omega⟩ d) := by
  unfold lastT
  pointwise

/-- The pairs a tile of block `s` admits: the key at most 128 rows back, and in the first block none before the sequence. -/
def Ok (s : Fin 4) (i : Fin 128) (j : Fin 256) : Prop := (i.val ≤ j.val ∧ j.val ≤ i.val + 128) ∧ (s = 0 → 128 ≤ j.val)

instance (s : Fin 4) (i : Fin 128) (j : Fin 256) : Decidable (Ok s i j) := by unfold Ok; infer_instance

theorem band_apply (i : Fin 128) (j : Fin 256) : k0_pay9 (ix2 i j) = 1#1 ↔ (i.val ≤ j.val ∧ j.val ≤ i.val + 128) := by
  unfold k0_pay9
  pointwise
  have e : IntOp.addi (BitVec.ofNat 32 i.val) 128#32 = BitVec.ofNat 32 (i.val + 128) := (BitVec.ofNat_add ..).symm
  rw [e, cmpi_sge_ofNat (by omega) (by omega), cmpi_sle_ofNat (by omega) (by omega), andi_ofBool, ofBool_eq_one_iff]
  simp

theorem band0_apply (i : Fin 128) (j : Fin 256) : k0_pay10 0#32 (ix2 i j) = 1#1 ↔ ((i.val ≤ j.val ∧ j.val ≤ i.val + 128) ∧ 128 ≤ j.val) := by
  unfold k0_pay10
  pointwise
  rw [show (128#32 : BitVec 32) = BitVec.ofNat 32 128 from rfl, IntOp.andi_eq_one, band_apply, cmpi_sge_ofNat (by omega) (by omega), ofBool_eq_one_iff]
  simp

/-! ## A tile as functions of the rows -/

section Rows

variable (q g : Fin 128 → Fin 128 → EReal) (kw vw : Fin 256 → Fin 128 → EReal) (ls dl : Fin 128 → EReal) (s : Fin 4)

/-- The probability of a pair. -/
def prob (i : Fin 128) (j : Fin 256) : EReal := if Ok s i j then Ideal.exp ((∑ d : Fin 128, q i d * kw j d) * scale - ls i) else 0
/-- The gradient of a pair's score. -/
def dsc (i : Fin 128) (j : Fin 256) : EReal := prob q kw ls s i j * ((∑ d : Fin 128, g i d * vw j d) - dl i)
/-- The gradient of a query row. -/
def dqR (i d : Fin 128) : EReal := (∑ j : Fin 256, dsc q g kw vw ls dl s i j * kw j d) * scale
/-- The share in the gradient of a key row of the window. -/
def dkR (j : Fin 256) (d : Fin 128) : EReal := (∑ i : Fin 128, dsc q g kw vw ls dl s i j * q i d) * scale
/-- The share in the gradient of a value row of the window. -/
def dvR (j : Fin 256) (d : Fin 128) : EReal := ∑ i : Fin 128, prob q kw ls s i j * g i d

end Rows

/-- Operands of a tile's probabilities and value gradients, read as rows: block `s`, statistics lane `n`. -/
structure GoodP (s : Fin 4) (n : Fin 128) (q g : Fin 128 → Fin 128 → EReal) (kw : Fin 256 → Fin 128 → EReal) (ls : Fin 128 → EReal)
    (w : BitVec 32) (mask : IVec S128x256 1) (qV gV : FVec Ideal S128x128 .bf16) (kV : FVec Ideal S256x128 .bf16) (lV : FVec Ideal S128x128 .f32) : Prop where
  hw : w = BitVec.ofNat 32 n.val
  hm : ∀ i j, mask (ix2 i j) = 1#1 ↔ Ok s i j
  hq : ∀ i d, qV (ix2 i d) = q i d
  hg : ∀ i d, gV (ix2 i d) = g i d
  hk : ∀ j d, kV (ix2 j d) = kw j d
  hl : ∀ i, lV (ix2 i n) = ls i

/-- Operands of a tile, read as rows: with the values and the deltas. -/
structure Good (s : Fin 4) (n : Fin 128) (q g : Fin 128 → Fin 128 → EReal) (kw vw : Fin 256 → Fin 128 → EReal) (ls dl : Fin 128 → EReal)
    (w : BitVec 32) (mask : IVec S128x256 1) (qV gV : FVec Ideal S128x128 .bf16) (kV vV : FVec Ideal S256x128 .bf16) (lV dV : FVec Ideal S128x128 .f32) : Prop
    extends GoodP s n q g kw ls w mask qV gV kV lV where
  hv : ∀ j d, vV (ix2 j d) = vw j d
  hd : ∀ i, dV (ix2 i n) = dl i

section Good

variable {s : Fin 4} {n : Fin 128} {q g : Fin 128 → Fin 128 → EReal} {kw vw : Fin 256 → Fin 128 → EReal} {ls dl : Fin 128 → EReal}
  {w : BitVec 32} {mask : IVec S128x256 1} {qV gV : FVec Ideal S128x128 .bf16} {kV vV : FVec Ideal S256x128 .bf16} {lV dV : FVec Ideal S128x128 .f32}

theorem GoodP.prob (H : GoodP s n q g kw ls w mask qV gV kV lV) (i : Fin 128) (j : Fin 256) :
    probT w mask (scoreT qV kV) lV (ix2 i j) = prob q kw ls s i j := by
  rw [probT_apply, scoreT_apply, laneCol_apply w n H.hw, H.hl]
  simp only [H.hq, H.hk]
  unfold Attn.prob
  by_cases h : Ok s i j
  · rw [if_pos h, if_pos ((H.hm i j).2 h)]
  · rw [if_neg h, if_neg (fun e => h ((H.hm i j).1 e))]

theorem Good.dsc (H : Good s n q g kw vw ls dl w mask qV gV kV vV lV dV) (i : Fin 128) (j : Fin 256) :
    dsT w mask (scoreT qV kV) (scoreT gV vV) lV dV (ix2 i j) = dsc q g kw vw ls dl s i j := by
  rw [dsT_apply, H.toGoodP.prob, scoreT_apply, laneCol_apply w n H.hw, H.hd]
  simp only [H.hg, H.hv]
  rfl

theorem Good.dq (H : Good s n q g kw vw ls dl w mask qV gV kV vV lV dV) (i d : Fin 128) :
    dqT kV (dsT w mask (scoreT qV kV) (scoreT gV vV) lV dV) (ix2 i d) = dqR q g kw vw ls dl s i d := by
  rw [dqT_apply]
  simp only [H.dsc, H.hk]
  rfl

theorem Good.dk (H : Good s n q g kw vw ls dl w mask qV gV kV vV lV dV) (j : Fin 256) (d : Fin 128) :
    dkT (dsT w mask (scoreT qV kV) (scoreT gV vV) lV dV) qV (ix2 j d) = dkR q g kw vw ls dl s j d := by
  rw [dkT_apply]
  simp only [H.dsc, H.hq]
  rfl

theorem GoodP.dv (H : GoodP s n q g kw ls w mask qV gV kV lV) (j : Fin 256) (d : Fin 128) :
    dvT (probT w mask (scoreT qV kV) lV) gV (ix2 j d) = dvR q g kw ls s j d := by
  rw [dvT_apply]
  simp only [H.prob, H.hg]
  rfl

end Good

end Cert.Attn

end
-- ==== Proof.Block.lean ====
/-
  What the kernel's body leaves in its three outputs at one grid point, as functions of the point's six input blocks: the 32
  tiles of 128 by 128 (four blocks of rows, eight heads) each output is stored in.
-/
module

public import proofs.«01_k».proof.Proof.Tile
public import Idealize.ShloMosaic.Lib.WholeRead
public import Idealize.ShloMosaic.Lib.Pipeline.ReadBack

@[expose] public section

set_option backward.isDefEq.respectTransparency false
set_option maxRecDepth 16384

noncomputable section

namespace Cert.Attn

open Cert.KernelIdeal Cert.KernelIdeal.Gen Idealize.ShloMosaic Idealize.ShloMosaic.TcCoe Idealize.SL.Sem Idealize.ShloMosaic.WordCmp

/-! ## The input blocks, cut into tiles -/

/-- Block `s` of rows, head `h`. -/
def tile (x : Vec Ideal S512x1024 .bf16) (s : Fin 4) (h : Fin 8) : Fin 128 → Fin 128 → EReal :=
  fun i d => x (ix2 ⟨128 * s.val + i.val, by omega⟩ ⟨128 * h.val + d.val, by omega⟩)

/-- The window of block `s`: the block before it (zeros before the first), then the block. -/
def window (x : Vec Ideal S512x1024 .bf16) (s : Fin 4) (h : Fin 8) : Fin 256 → Fin 128 → EReal :=
  fun j d => if hj : s.val = 0 ∧ j.val < 128 then 0 else x (ix2 ⟨128 * s.val + j.val - 128, by omega⟩ ⟨128 * h.val + d.val, by omega⟩)

/-- The lane of head `h` in a row of statistics. -/
def lane (h : Fin 8) : Fin 128 := ⟨16 * h.val, by omega⟩

/-- The statistic of block `s`'s rows for head `h`. -/
def stat (x : Vec Ideal S512x128 .f32) (s : Fin 4) (h : Fin 8) : Fin 128 → EReal :=
  fun i => x (ix2 ⟨128 * s.val + i.val, by omega⟩ (lane h))

section Spec

variable (x0 x1 x2 x3 : Vec Ideal S512x1024 .bf16) (x4 x5 : Vec Ideal S512x128 .f32)

/-- The query gradient of block `s`, head `h`. -/
def dqB (s : Fin 4) (h : Fin 8) : Fin 128 → Fin 128 → EReal :=
  dqR (tile x0 s h) (tile x3 s h) (window x1 s h) (window x2 s h) (stat x4 s h) (stat x5 s h) s

/-- The share of block `s` in its window's key gradients. -/
def dkW (s : Fin 4) (h : Fin 8) : Fin 256 → Fin 128 → EReal :=
  dkR (tile x0 s h) (tile x3 s h) (window x1 s h) (window x2 s h) (stat x4 s h) (stat x5 s h) s

/-- The share of block `s` in its window's value gradients. -/
def dvW (s : Fin 4) (h : Fin 8) : Fin 256 → Fin 128 → EReal :=
  dvR (tile x0 s h) (tile x3 s h) (window x1 s h) (stat x4 s h) s

end Spec

/-- A block's own share and the next block's share in it. -/
def join (w : Fin 4 → Fin 8 → Fin 256 → Fin 128 → EReal) (s : Fin 4) (h : Fin 8) (j d : Fin 128) : EReal :=
  if hs : s.val < 3 then w s h ⟨128 + j.val, by omega⟩ d + w ⟨s.val + 1, by omega⟩ h ⟨j.val, by omega⟩ d else w s h ⟨128 + j.val, by omega⟩ d

/-- An output block from its tiles. -/
def fromTiles (f : Fin 4 → Fin 8 → Fin 128 → Fin 128 → EReal) : Vec Ideal S512x1024 .bf16 := fun y =>
  f ⟨(y 0).val / 128, by have : (y 0).val < 512 := (y 0).isLt; omega⟩ ⟨(y 1).val / 128, by have : (y 1).val < 1024 := (y 1).isLt; omega⟩
    ⟨(y 0).val % 128, by omega⟩ ⟨(y 1).val % 128, by omega⟩

/-! ## Loads of the body -/

section Loads

theorem load_tile {m : Memref sig .tc .vmem S512x1024 .bf16} (hm : m.IsWhole) (x : Vec Ideal S512x1024 .bf16) (s : Fin 4) (h : Fin 8) (r c : ℕ)
    (inb : ∀ a, (![r, c] : Fin 2 → ℕ) a + S128x128.size a ≤ S512x1024.size a) (hr : r = 128 * s.val) (hc : c = 128 * h.val) (i d : Fin 128) :
    View.readAt (Elt Ideal) m.view (Rect.unit (s := S512x1024) ![r, c] S128x128.size inb).toLoadRect (hm.unread x) (ix2 i d) = tile x s h i d := by
  subst hr hc
  rw [hm.readAt_unread]
  unfold tile
  congr 1
  funext a
  match a with
  | ⟨0, _⟩ => exact Fin.ext (by show 128 * s.val + 1 * i.val = 128 * s.val + i.val; omega)
  | ⟨1, _⟩ => exact Fin.ext (by show 128 * h.val + 1 * d.val = 128 * h.val + d.val; omega)

theorem load_window {m : Memref sig .tc .vmem S512x1024 .bf16} (hm : m.IsWhole) (x : Vec Ideal S512x1024 .bf16) (s : Fin 4) (h : Fin 8) (r c : ℕ)
    (inb : ∀ a, (![r, c] : Fin 2 → ℕ) a + S256x128.size a ≤ S512x1024.size a) (hs : s.val ≠ 0) (hr : r + 128 = 128 * s.val) (hc : c = 128 * h.val) (j : Fin 256) (d : Fin 128) :
    View.readAt (Elt Ideal) m.view (Rect.unit (s := S512x1024) ![r, c] S256x128.size inb).toLoadRect (hm.unread x) (ix2 j d) = window x s h j d := by
  subst hc
  rw [hm.readAt_unread]
  unfold window
  rw [dif_neg (fun e => hs e.1)]
  congr 1
  funext a
  match a with
  | ⟨0, _⟩ => exact Fin.ext (by show r + 1 * j.val = 128 * s.val + j.val - 128; omega)
  | ⟨1, _⟩ => exact Fin.ext (by show 128 * h.val + 1 * d.val = 128 * h.val + d.val; omega)

theorem load_stat {m : Memref sig .tc .vmem S512x128 .f32} (hm : m.IsWhole) (x : Vec Ideal S512x128 .f32) (s : Fin 4) (h : Fin 8) (r : ℕ)
    (inb : ∀ a, (![r, 0] : Fin 2 → ℕ) a + S128x128.size a ≤ S512x128.size a) (hr : r = 128 * s.val) (i : Fin 128) :
    shapeCast S128x128 (View.readAt (Elt Ideal) m.view (Rect.unit (s := S512x128) ![r, 0] S128x128.size inb).toLoadRect (hm.unread x)) shapeCasts_S128x128_S128x128 (ix2 i (lane h)) = stat x s h i := by
  subst hr
  refine (congrFun (shapeCast_self _ _) _).trans ?_
  rw [hm.readAt_unread]
  unfold stat
  congr 1
  funext a
  match a with
  | ⟨0, _⟩ => exact Fin.ext (by show 128 * s.val + 1 * i.val = 128 * s.val + i.val; omega)
  | ⟨1, _⟩ => exact Fin.ext (by show 0 + 1 * (lane h).val = (lane h).val; omega)

/-- Two tiles one above the other. -/
theorem stacked (a b : FVec Ideal S128x128 .bf16) (j : Fin 256) (d : Fin 128) :
    concatenate S256x128 0 [⟨S128x128, a⟩, ⟨S128x128, b⟩] concatenates_S128x128_S128x128_S256x128_d0 (ix2 j d)
      = if hj : j.val < 128 then a (ix2 ⟨j.val, hj⟩ d) else b (ix2 ⟨j.val - 128, by omega⟩ d) := by
  pointwise

/-- The rows before the sequence are the zeros stored at the first grid point of a column. -/
theorem load_zero {v : View sig .tc .vmem S128x1024 .bf16} (c : ℕ) (z : FVec Ideal S128x1024 .bf16) (hz : ∀ y, z y = 0)
    (inb0 : ∀ a, (![0, 0] : Fin 2 → ℕ) a + (![128, 1024] : Fin 2 → ℕ) a ≤ S128x1024.size a)
    (inb1 : ∀ a, (![0, c] : Fin 2 → ℕ) a + S128x128.size a ≤ S128x1024.size a) (i d : Fin 128) :
    v.readCov (Val := Elt Ideal) [⟨Rect.unit ![0, 0] ![128, 1024] inb0, z⟩] (Rect.unit (s := S128x1024) ![0, c] S128x128.size inb1).toLoadRect (ix2 i d) = 0 := by
  rw [View.readCov_fill (Val := Elt Ideal) v inb0 z [] (Rect.unit (s := S128x1024) ![0, c] S128x128.size inb1) (by decide)]
  exact hz _

/-- The first block's window: zeros, then the block. -/
theorem window_first (x : Vec Ideal S512x1024 .bf16) (h : Fin 8) (a b : FVec Ideal S128x128 .bf16) (ha : ∀ i d : Fin 128, a (ix2 i d) = 0)
    (hb : ∀ i d : Fin 128, b (ix2 i d) = tile x 0 h i d) (j : Fin 256) (d : Fin 128) :
    concatenate S256x128 0 [⟨S128x128, a⟩, ⟨S128x128, b⟩] concatenates_S128x128_S128x128_S256x128_d0 (ix2 j d) = window x 0 h j d := by
  rw [stacked]
  unfold window
  by_cases hj : j.val < 128
  · rw [dif_pos hj, dif_pos ⟨rfl, hj⟩, ha]
  · rw [dif_neg hj, dif_neg (fun e => hj e.2), hb]
    unfold tile
    congr 2
    exact Fin.ext (by show 128 * 0 + (j.val - 128) = 128 * 0 + j.val - 128; omega)

end Loads

theorem zeros1 (y : S128x1024.Idx) : k0_pay1 (F := Ideal) y = 0 := by
  unfold k0_pay1; rw [shapeCast_self]; exact Ideal.ofBits_zero_bf16

theorem zeros2 (y : S128x1024.Idx) : k0_pay2 (F := Ideal) y = 0 := by
  unfold k0_pay2; rw [shapeCast_self]; exact Ideal.ofBits_zero_bf16

theorem maskFirst (i : grid0.Coords) (a : Fin 128) (b : Fin 256) : kernelRun0_A.sl.v17 i (ix2 a b) = 1#1 ↔ Ok 0 a b := by
  have e : kernelRun0_A.sl.v17 i = k0_pay10 0#32 := by
    have h1 : i 1 = (0 : Fin 1) := Subsingleton.elim (α := Fin 1) _ _
    show k0_pay10 (BitVec.ofNat 32 (i 1).val) = _
    rw [h1]; rfl
  rw [e, band0_apply]
  unfold Ok
  simp

theorem maskBand (s : Fin 4) (hs : s.val ≠ 0) (a : Fin 128) (b : Fin 256) : kernelRun0_A.sl.v12 (ix2 a b) = 1#1 ↔ Ok s a b := by
  have e : kernelRun0_A.sl.v12 = k0_pay9 := rfl
  rw [e, band_apply]
  unfold Ok
  constructor
  · exact fun h => ⟨h, fun e => absurd (congrArg Fin.val e) hs⟩
  · exact fun h => h.1

/-! ## The pieces of the three outputs -/

theorem emb_tile (s : Fin 4) (h : Fin 8) (r c : ℕ) (inb : ∀ a, (![r, c] : Fin 2 → ℕ) a + S128x128.size a ≤ S512x1024.size a)
    (hr : r = 128 * s.val) (hc : c = 128 * h.val) (f : Fin 4 → Fin 8 → Fin 128 → Fin 128 → EReal) (i d : Fin 128) :
    fromTiles f ((Rect.unit (s := S512x1024) ![r, c] S128x128.size inb).emb (ix2 i d)) = f s h i d := by
  subst hr hc
  have e0 : (((Rect.unit (s := S512x1024) ![128 * s.val, 128 * h.val] S128x128.size inb).emb (ix2 i d)) 0).val = 128 * s.val + i.val := by
    show 128 * s.val + 1 * i.val = 128 * s.val + i.val; omega
  have e1 : (((Rect.unit (s := S512x1024) ![128 * s.val, 128 * h.val] S128x128.size inb).emb (ix2 i d)) 1).val = 128 * h.val + d.val := by
    show 128 * h.val + 1 * d.val = 128 * h.val + d.val; omega
  unfold fromTiles
  have q0 : ∀ (y : S512x1024.Idx) (p0 p1 p2 p3), (y 0).val = 128 * s.val + i.val → (y 1).val = 128 * h.val + d.val →
      f ⟨(y 0).val / 128, p0⟩ ⟨(y 1).val / 128, p1⟩ ⟨(y 0).val % 128, p2⟩ ⟨(y 1).val % 128, p3⟩ = f s h i d := by
    intro y p0 p1 p2 p3 h0 h1
    have a0 : (⟨(y 0).val / 128, p0⟩ : Fin 4) = s := Fin.ext (by show (y 0).val / 128 = _; rw [h0]; omega)
    have a1 : (⟨(y 1).val / 128, p1⟩ : Fin 8) = h := Fin.ext (by show (y 1).val / 128 = _; rw [h1]; omega)
    have a2 : (⟨(y 0).val % 128, p2⟩ : Fin 128) = i := Fin.ext (by show (y 0).val % 128 = _; rw [h0]; omega)
    have a3 : (⟨(y 1).val % 128, p3⟩ : Fin 128) = d := Fin.ext (by show (y 1).val % 128 = _; rw [h1]; omega)
    rw [a0, a1, a2, a3]
  exact q0 _ _ _ _ _ e0 e1

/-- A stored tile that holds the tile of `f`. -/
theorem piece_of (s : Fin 4) (h : Fin 8) (r c : ℕ) (inb : ∀ a, (![r, c] : Fin 2 → ℕ) a + S128x128.size a ≤ S512x1024.size a)
    (hr : r = 128 * s.val) (hc : c = 128 * h.val) (f : Fin 4 → Fin 8 → Fin 128 → Fin 128 → EReal) (p : FVec Ideal S128x128 .bf16)
    (hp : ∀ i d : Fin 128, p (ix2 i d) = f s h i d) (y : S128x128.Idx) :
    p y = fromTiles f ((Rect.unit (s := S512x1024) ![r, c] S128x128.size inb).emb y) := by
  obtain ⟨i, d, rfl⟩ : ∃ i d : Fin 128, y = ix2 i d := ⟨y 0, y 1, by funext a; match a with | ⟨0, _⟩ => rfl | ⟨1, _⟩ => rfl⟩
  rw [hp, emb_tile s h r c inb hr hc]

theorem inTile (s : Fin 4) (h : Fin 8) : ∀ a, (![128 * s.val, 128 * h.val] : Fin 2 → ℕ) a + S128x128.size a ≤ S512x1024.size a := fun a =>
  match a with
  | ⟨0, _⟩ => by show 128 * s.val + 128 ≤ 512; omega
  | ⟨1, _⟩ => by show 128 * h.val + 128 ≤ 1024; omega

theorem inWindow (s : Fin 4) (h : Fin 8) : ∀ a, (![128 * (s.val - 1), 128 * h.val] : Fin 2 → ℕ) a + S256x128.size a ≤ S512x1024.size a := fun a =>
  match a with
  | ⟨0, _⟩ => by show 128 * (s.val - 1) + 256 ≤ 512; omega
  | ⟨1, _⟩ => by show 128 * h.val + 128 ≤ 1024; omega

theorem inStat (s : Fin 4) : ∀ a, (![128 * s.val, 0] : Fin 2 → ℕ) a + S128x128.size a ≤ S512x128.size a := fun a =>
  match a with
  | ⟨0, _⟩ => by show 128 * s.val + 128 ≤ 512; omega
  | ⟨1, _⟩ => by show 0 + 128 ≤ 128; omega

theorem inHead (h : Fin 8) : ∀ a, (![0, 128 * h.val] : Fin 2 → ℕ) a + S128x128.size a ≤ S128x1024.size a := fun a =>
  match a with
  | ⟨0, _⟩ => by show 0 + 128 ≤ 128; omega
  | ⟨1, _⟩ => by show 128 * h.val + 128 ≤ 1024; omega

section Pieces

variable {x0 x1 x2 x3 : Vec Ideal S512x1024 .bf16} {x4 x5 : Vec Ideal S512x128 .f32}

/-- Operands that are block `s`, head `h` of the input blocks. -/
abbrev GoodB (x0 x1 x2 x3 : Vec Ideal S512x1024 .bf16) (x4 x5 : Vec Ideal S512x128 .f32) (s : Fin 4) (h : Fin 8)
    (w : BitVec 32) (mask : IVec S128x256 1) (qV gV : FVec Ideal S128x128 .bf16) (kV vV : FVec Ideal S256x128 .bf16) (lV dV : FVec Ideal S128x128 .f32) : Prop :=
  Good s (lane h) (tile x0 s h) (tile x3 s h) (window x1 s h) (window x2 s h) (stat x4 s h) (stat x5 s h) w mask qV gV kV vV lV dV

/-- The same without the values and the deltas. -/
abbrev GoodPB (x0 x1 x3 : Vec Ideal S512x1024 .bf16) (x4 : Vec Ideal S512x128 .f32) (s : Fin 4) (h : Fin 8)
    (w : BitVec 32) (mask : IVec S128x256 1) (qV gV : FVec Ideal S128x128 .bf16) (kV : FVec Ideal S256x128 .bf16) (lV : FVec Ideal S128x128 .f32) : Prop :=
  GoodP s (lane h) (tile x0 s h) (tile x3 s h) (window x1 s h) (stat x4 s h) w mask qV gV kV lV

theorem dq_piece (s : Fin 4) (h : Fin 8)
    {w : BitVec 32} {mask : IVec S128x256 1} {qV gV : FVec Ideal S128x128 .bf16} {kV vV : FVec Ideal S256x128 .bf16} {lV dV : FVec Ideal S128x128 .f32}
    (H : GoodB x0 x1 x2 x3 x4 x5 s h w mask qV gV kV vV lV dV) (y : S128x128.Idx) :
    dqT kV (dsT w mask (scoreT qV kV) (scoreT gV vV) lV dV) y = fromTiles (dqB x0 x1 x2 x3 x4 x5) ((Rect.unit (s := S512x1024) ![128 * s.val, 128 * h.val] S128x128.size (inTile s h)).emb y) :=
  piece_of s h _ _ (inTile s h) rfl rfl _ _ (fun i d => H.dq i d) y

theorem dk_piece (s : Fin 4) (h : Fin 8) (hs : s.val < 3)
    {w w' : BitVec 32} {mask mask' : IVec S128x256 1} {qV gV qV' gV' : FVec Ideal S128x128 .bf16} {kV vV kV' vV' : FVec Ideal S256x128 .bf16} {lV dV lV' dV' : FVec Ideal S128x128 .f32}
    (H : GoodB x0 x1 x2 x3 x4 x5 s h w mask qV gV kV vV lV dV) (H' : GoodB x0 x1 x2 x3 x4 x5 ⟨s.val + 1, by omega⟩ h w' mask' qV' gV' kV' vV' lV' dV') (y : S128x128.Idx) :
    joinT (dkT (dsT w mask (scoreT qV kV) (scoreT gV vV) lV dV) qV) (dkT (dsT w' mask' (scoreT qV' kV') (scoreT gV' vV') lV' dV') qV') y
      = fromTiles (join (dkW x0 x1 x2 x3 x4 x5)) ((Rect.unit (s := S512x1024) ![128 * s.val, 128 * h.val] S128x128.size (inTile s h)).emb y) :=
  piece_of s h _ _ (inTile s h) rfl rfl _ _ (fun i d => by rw [joinT_apply, H.dk, H'.dk]; unfold join; rw [dif_pos hs]; rfl) y

theorem dk_last (h : Fin 8)
    {w : BitVec 32} {mask : IVec S128x256 1} {qV gV : FVec Ideal S128x128 .bf16} {kV vV : FVec Ideal S256x128 .bf16} {lV dV : FVec Ideal S128x128 .f32}
    (H : GoodB x0 x1 x2 x3 x4 x5 3 h w mask qV gV kV vV lV dV) (y : S128x128.Idx) :
    lastT (dkT (dsT w mask (scoreT qV kV) (scoreT gV vV) lV dV) qV) y = fromTiles (join (dkW x0 x1 x2 x3 x4 x5)) ((Rect.unit (s := S512x1024) ![128 * (3 : Fin 4).val, 128 * h.val] S128x128.size (inTile 3 h)).emb y) :=
  piece_of 3 h _ _ (inTile 3 h) rfl rfl _ _ (fun i d => by rw [lastT_apply, H.dk]; unfold join; rw [dif_neg (by decide)]; rfl) y

theorem dv_piece (s : Fin 4) (h : Fin 8) (hs : s.val < 3)
    {w w' : BitVec 32} {mask mask' : IVec S128x256 1} {qV gV qV' gV' : FVec Ideal S128x128 .bf16} {kV kV' : FVec Ideal S256x128 .bf16} {lV lV' : FVec Ideal S128x128 .f32}
    (H : GoodPB x0 x1 x3 x4 s h w mask qV gV kV lV) (H' : GoodPB x0 x1 x3 x4 ⟨s.val + 1, by omega⟩ h w' mask' qV' gV' kV' lV') (y : S128x128.Idx) :
    joinT (dvT (probT w mask (scoreT qV kV) lV) gV) (dvT (probT w' mask' (scoreT qV' kV') lV') gV') y
      = fromTiles (join (dvW x0 x1 x3 x4)) ((Rect.unit (s := S512x1024) ![128 * s.val, 128 * h.val] S128x128.size (inTile s h)).emb y) :=
  piece_of s h _ _ (inTile s h) rfl rfl _ _ (fun i d => by rw [joinT_apply, H.dv, H'.dv]; unfold join; rw [dif_pos hs]; rfl) y

theorem dv_last (h : Fin 8)
    {w : BitVec 32} {mask : IVec S128x256 1} {qV gV : FVec Ideal S128x128 .bf16} {kV : FVec Ideal S256x128 .bf16} {lV : FVec Ideal S128x128 .f32}
    (H : GoodPB x0 x1 x3 x4 3 h w mask qV gV kV lV) (y : S128x128.Idx) :
    lastT (dvT (probT w mask (scoreT qV kV) lV) gV) y = fromTiles (join (dvW x0 x1 x3 x4)) ((Rect.unit (s := S512x1024) ![128 * (3 : Fin 4).val, 128 * h.val] S128x128.size (inTile 3 h)).emb y) :=
  piece_of 3 h _ _ (inTile 3 h) rfl rfl _ _ (fun i d => by rw [lastT_apply, H.dv]; unfold join; rw [dif_neg (by decide)]; rfl) y

end Pieces

/-! ## The operands at the places where the body finds them -/

section Operands

variable {m0 m1 m2 m3 : Memref sig .tc .vmem S512x1024 .bf16} {m4 m5 : Memref sig .tc .vmem S512x128 .f32}
  (h0 : m0.IsWhole) (h1 : m1.IsWhole) (h2 : m2.IsWhole) (h3 : m3.IsWhole) (h4 : m4.IsWhole) (h5 : m5.IsWhole)
  (x0 x1 x2 x3 : Vec Ideal S512x1024 .bf16) (x4 x5 : Vec Ideal S512x128 .f32)

/-- A tile of an input block, as the body loads it. -/
abbrev tileAt {m : Memref sig .tc .vmem S512x1024 .bf16} (hm : m.IsWhole) (x : Vec Ideal S512x1024 .bf16) (s : Fin 4) (h : Fin 8) : FVec Ideal S128x128 .bf16 :=
  View.readAt (Elt Ideal) m.view (Rect.unit (s := S512x1024) ![128 * s.val, 128 * h.val] S128x128.size (inTile s h)).toLoadRect (hm.unread x)

/-- A window of an input block that does not start before it. -/
abbrev windowAt {m : Memref sig .tc .vmem S512x1024 .bf16} (hm : m.IsWhole) (x : Vec Ideal S512x1024 .bf16) (s : Fin 4) (h : Fin 8) : FVec Ideal S256x128 .bf16 :=
  View.readAt (Elt Ideal) m.view (Rect.unit (s := S512x1024) ![128 * (s.val - 1), 128 * h.val] S256x128.size (inWindow s h)).toLoadRect (hm.unread x)

/-- The window of the first tile: cleared rows, then the tile. -/
abbrev startAt {m : Memref sig .tc .vmem S512x1024 .bf16} (hm : m.IsWhole) (x : Vec Ideal S512x1024 .bf16) (v : View sig .tc .vmem S128x1024 .bf16) (z : FVec Ideal S128x1024 .bf16) (h : Fin 8) : FVec Ideal S256x128 .bf16 :=
  concatenate S256x128 0 [⟨S128x128, v.readCov (Val := Elt Ideal) [⟨Rect.unit ![0, 0] ![128, 1024] inb_S128x1024_S128x1024_0_0, z⟩] (Rect.unit (s := S128x1024) ![0, 128 * h.val] S128x128.size (inHead h)).toLoadRect⟩,
    ⟨S128x128, tileAt hm x 0 h⟩] concatenates_S128x128_S128x128_S256x128_d0

/-- A column of numbers beside a tile. -/
abbrev statAt {m : Memref sig .tc .vmem S512x128 .f32} (hm : m.IsWhole) (x : Vec Ideal S512x128 .f32) (s : Fin 4) : FVec Ideal S128x128 .f32 :=
  shapeCast S128x128 (View.readAt (Elt Ideal) m.view (Rect.unit (s := S512x128) ![128 * s.val, 0] S128x128.size (inStat s)).toLoadRect (hm.unread x)) shapeCasts_S128x128_S128x128

theorem tileAt_eq {m : Memref sig .tc .vmem S512x1024 .bf16} (hm : m.IsWhole) (x : Vec Ideal S512x1024 .bf16) (s : Fin 4) (h : Fin 8) (i d : Fin 128) :
    tileAt hm x s h (ix2 i d) = tile x s h i d := load_tile hm x s h _ _ (inTile s h) rfl rfl i d

theorem later (s : Fin 4) (h : Fin 8) (hs : s.val ≠ 0) : GoodB x0 x1 x2 x3 x4 x5 s h (BitVec.ofNat 32 (lane h).val) kernelRun0_A.sl.v12
    (tileAt h0 x0 s h) (tileAt h3 x3 s h) (windowAt h1 x1 s h) (windowAt h2 x2 s h) (statAt h4 x4 s) (statAt h5 x5 s) :=
  ⟨⟨rfl, maskBand s hs, tileAt_eq h0 x0 s h, tileAt_eq h3 x3 s h, load_window h1 x1 s h _ _ (inWindow s h) hs (by omega) rfl, load_stat h4 x4 s h _ (inStat s) rfl⟩,
    load_window h2 x2 s h _ _ (inWindow s h) hs (by omega) rfl, load_stat h5 x5 s h _ (inStat s) rfl⟩

theorem start (i : grid0.Coords) (v w : View sig .tc .vmem S128x1024 .bf16) (h : Fin 8) : GoodB x0 x1 x2 x3 x4 x5 0 h (BitVec.ofNat 32 (lane h).val) (kernelRun0_A.sl.v17 i)
    (tileAt h0 x0 0 h) (tileAt h3 x3 0 h) (startAt h1 x1 v (k0_pay1 (F := Ideal)) h) (startAt h2 x2 w (k0_pay2 (F := Ideal)) h) (statAt h4 x4 0) (statAt h5 x5 0) :=
  ⟨⟨rfl, maskFirst i, tileAt_eq h0 x0 0 h, tileAt_eq h3 x3 0 h, window_first x1 h _ _ (load_zero _ _ zeros1 _ (inHead h)) (tileAt_eq h1 x1 0 h), load_stat h4 x4 0 h _ (inStat 0) rfl⟩,
    window_first x2 h _ _ (load_zero _ _ zeros2 _ (inHead h)) (tileAt_eq h2 x2 0 h), load_stat h5 x5 0 h _ (inStat 0) rfl⟩

end Operands

end Cert.Attn

end
-- ==== Proof.Body.lean ====
/-
  The three outputs of the kernel's body at one grid point, each put together from the 32 tiles it is stored in.
-/
module

public import proofs.«01_k».proof.Proof.Block

@[expose] public section

set_option maxRecDepth 16384

noncomputable section

namespace Cert.Attn

open Cert.KernelIdeal Cert.KernelIdeal.Gen Idealize.ShloMosaic Idealize.ShloMosaic.TcCoe Idealize.SL.Sem Idealize.ShloMosaic.WordCmp

section Outputs

variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S512x1024 .f32) (harg13 : arg13.IsWhole) (arg14 : Memref sig .tc .vmem S512x1024 .f32) (harg14 : arg14.IsWhole) (hc0 : cond0_0 i) (hc1 : cond0_1 i)
    (x0 x1 x2 x3 : Vec Ideal S512x1024 .bf16) (x4 x5 : Vec Ideal S512x128 .f32)

/-- The query gradients a grid point leaves. -/
theorem out_dq : out0_A_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = fromTiles (dqB x0 x1 x2 x3 x4 x5) := by
  funext y
  unfold out0_A_6
  refine View.read_writes_apply_of_pieces _ _ _ _ (View.PiecesOf.mem ?_) y (cover0_A_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 y)
  unfold kernelRun0_A
  dsimp only
  have L := later harg2 harg3 harg4 harg5 harg6 harg7 x0 x1 x2 x3 x4 x5
  have S := start harg2 harg3 harg4 harg5 harg6 harg7 x0 x1 x2 x3 x4 x5 i arg11.view arg12.view
  refine ⟨dq_piece 3 7 (L 3 7 (by decide)),
    dq_piece 2 7 (L 2 7 (by decide)),
    dq_piece 1 7 (L 1 7 (by decide)),
    dq_piece 0 7 (S 7),
    dq_piece 3 6 (L 3 6 (by decide)),
    dq_piece 2 6 (L 2 6 (by decide)),
    dq_piece 1 6 (L 1 6 (by decide)),
    dq_piece 0 6 (S 6),
    dq_piece 3 5 (L 3 5 (by decide)),
    dq_piece 2 5 (L 2 5 (by decide)),
    dq_piece 1 5 (L 1 5 (by decide)),
    dq_piece 0 5 (S 5),
    dq_piece 3 4 (L 3 4 (by decide)),
    dq_piece 2 4 (L 2 4 (by decide)),
    dq_piece 1 4 (L 1 4 (by decide)),
    dq_piece 0 4 (S 4),
    dq_piece 3 3 (L 3 3 (by decide)),
    dq_piece 2 3 (L 2 3 (by decide)),
    dq_piece 1 3 (L 1 3 (by decide)),
    dq_piece 0 3 (S 3),
    dq_piece 3 2 (L 3 2 (by decide)),
    dq_piece 2 2 (L 2 2 (by decide)),
    dq_piece 1 2 (L 1 2 (by decide)),
    dq_piece 0 2 (S 2),
    dq_piece 3 1 (L 3 1 (by decide)),
    dq_piece 2 1 (L 2 1 (by decide)),
    dq_piece 1 1 (L 1 1 (by decide)),
    dq_piece 0 1 (S 1),
    dq_piece 3 0 (L 3 0 (by decide)),
    dq_piece 2 0 (L 2 0 (by decide)),
    dq_piece 1 0 (L 1 0 (by decide)),
    dq_piece 0 0 (S 0), trivial⟩

/-- The key gradients a grid point leaves. -/
theorem out_dk : out0_A_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = fromTiles (join (dkW x0 x1 x2 x3 x4 x5)) := by
  funext y
  unfold out0_A_7
  refine View.read_writes_apply_of_pieces _ _ _ _ (View.PiecesOf.mem ?_) y (cover0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 y)
  unfold kernelRun0_A
  dsimp only
  have L := later harg2 harg3 harg4 harg5 harg6 harg7 x0 x1 x2 x3 x4 x5
  have S := start harg2 harg3 harg4 harg5 harg6 harg7 x0 x1 x2 x3 x4 x5 i arg11.view arg12.view
  refine ⟨dk_last 7 (L 3 7 (by decide)),
    dk_piece 2 7 (by decide) (L 2 7 (by decide)) (L 3 7 (by decide)),
    dk_piece 1 7 (by decide) (L 1 7 (by decide)) (L 2 7 (by decide)),
    dk_piece 0 7 (by decide) (S 7) (L 1 7 (by decide)),
    dk_last 6 (L 3 6 (by decide)),
    dk_piece 2 6 (by decide) (L 2 6 (by decide)) (L 3 6 (by decide)),
    dk_piece 1 6 (by decide) (L 1 6 (by decide)) (L 2 6 (by decide)),
    dk_piece 0 6 (by decide) (S 6) (L 1 6 (by decide)),
    dk_last 5 (L 3 5 (by decide)),
    dk_piece 2 5 (by decide) (L 2 5 (by decide)) (L 3 5 (by decide)),
    dk_piece 1 5 (by decide) (L 1 5 (by decide)) (L 2 5 (by decide)),
    dk_piece 0 5 (by decide) (S 5) (L 1 5 (by decide)),
    dk_last 4 (L 3 4 (by decide)),
    dk_piece 2 4 (by decide) (L 2 4 (by decide)) (L 3 4 (by decide)),
    dk_piece 1 4 (by decide) (L 1 4 (by decide)) (L 2 4 (by decide)),
    dk_piece 0 4 (by decide) (S 4) (L 1 4 (by decide)),
    dk_last 3 (L 3 3 (by decide)),
    dk_piece 2 3 (by decide) (L 2 3 (by decide)) (L 3 3 (by decide)),
    dk_piece 1 3 (by decide) (L 1 3 (by decide)) (L 2 3 (by decide)),
    dk_piece 0 3 (by decide) (S 3) (L 1 3 (by decide)),
    dk_last 2 (L 3 2 (by decide)),
    dk_piece 2 2 (by decide) (L 2 2 (by decide)) (L 3 2 (by decide)),
    dk_piece 1 2 (by decide) (L 1 2 (by decide)) (L 2 2 (by decide)),
    dk_piece 0 2 (by decide) (S 2) (L 1 2 (by decide)),
    dk_last 1 (L 3 1 (by decide)),
    dk_piece 2 1 (by decide) (L 2 1 (by decide)) (L 3 1 (by decide)),
    dk_piece 1 1 (by decide) (L 1 1 (by decide)) (L 2 1 (by decide)),
    dk_piece 0 1 (by decide) (S 1) (L 1 1 (by decide)),
    dk_last 0 (L 3 0 (by decide)),
    dk_piece 2 0 (by decide) (L 2 0 (by decide)) (L 3 0 (by decide)),
    dk_piece 1 0 (by decide) (L 1 0 (by decide)) (L 2 0 (by decide)),
    dk_piece 0 0 (by decide) (S 0) (L 1 0 (by decide)), trivial⟩

/-- The value gradients a grid point leaves. -/
theorem out_dv : out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = fromTiles (join (dvW x0 x1 x3 x4)) := by
  funext y
  unfold out0_A_8
  refine View.read_writes_apply_of_pieces _ _ _ _ (View.PiecesOf.mem ?_) y (cover0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 y)
  unfold kernelRun0_A
  dsimp only
  have L := later harg2 harg3 harg4 harg5 harg6 harg7 x0 x1 x2 x3 x4 x5
  have S := start harg2 harg3 harg4 harg5 harg6 harg7 x0 x1 x2 x3 x4 x5 i arg11.view arg12.view
  refine ⟨dv_last 7 (L 3 7 (by decide)).1,
    dv_piece 2 7 (by decide) (L 2 7 (by decide)).1 (L 3 7 (by decide)).1,
    dv_piece 1 7 (by decide) (L 1 7 (by decide)).1 (L 2 7 (by decide)).1,
    dv_piece 0 7 (by decide) (S 7).1 (L 1 7 (by decide)).1,
    dv_last 6 (L 3 6 (by decide)).1,
    dv_piece 2 6 (by decide) (L 2 6 (by decide)).1 (L 3 6 (by decide)).1,
    dv_piece 1 6 (by decide) (L 1 6 (by decide)).1 (L 2 6 (by decide)).1,
    dv_piece 0 6 (by decide) (S 6).1 (L 1 6 (by decide)).1,
    dv_last 5 (L 3 5 (by decide)).1,
    dv_piece 2 5 (by decide) (L 2 5 (by decide)).1 (L 3 5 (by decide)).1,
    dv_piece 1 5 (by decide) (L 1 5 (by decide)).1 (L 2 5 (by decide)).1,
    dv_piece 0 5 (by decide) (S 5).1 (L 1 5 (by decide)).1,
    dv_last 4 (L 3 4 (by decide)).1,
    dv_piece 2 4 (by decide) (L 2 4 (by decide)).1 (L 3 4 (by decide)).1,
    dv_piece 1 4 (by decide) (L 1 4 (by decide)).1 (L 2 4 (by decide)).1,
    dv_piece 0 4 (by decide) (S 4).1 (L 1 4 (by decide)).1,
    dv_last 3 (L 3 3 (by decide)).1,
    dv_piece 2 3 (by decide) (L 2 3 (by decide)).1 (L 3 3 (by decide)).1,
    dv_piece 1 3 (by decide) (L 1 3 (by decide)).1 (L 2 3 (by decide)).1,
    dv_piece 0 3 (by decide) (S 3).1 (L 1 3 (by decide)).1,
    dv_last 2 (L 3 2 (by decide)).1,
    dv_piece 2 2 (by decide) (L 2 2 (by decide)).1 (L 3 2 (by decide)).1,
    dv_piece 1 2 (by decide) (L 1 2 (by decide)).1 (L 2 2 (by decide)).1,
    dv_piece 0 2 (by decide) (S 2).1 (L 1 2 (by decide)).1,
    dv_last 1 (L 3 1 (by decide)).1,
    dv_piece 2 1 (by decide) (L 2 1 (by decide)).1 (L 3 1 (by decide)).1,
    dv_piece 1 1 (by decide) (L 1 1 (by decide)).1 (L 2 1 (by decide)).1,
    dv_piece 0 1 (by decide) (S 1).1 (L 1 1 (by decide)).1,
    dv_last 0 (L 3 0 (by decide)).1,
    dv_piece 2 0 (by decide) (L 2 0 (by decide)).1 (L 3 0 (by decide)).1,
    dv_piece 1 0 (by decide) (L 1 0 (by decide)).1 (L 2 0 (by decide)).1,
    dv_piece 0 0 (by decide) (S 0).1 (L 1 0 (by decide)).1, trivial⟩

end Outputs

end Cert.Attn

end
-- ==== Proof.Arrays.lean ====
/-
  What the kernel's launch leaves in its three results: column block `t` is what grid point `t`'s body leaves, whose input
  blocks are column blocks of the launch's operands.
-/
module

public import proofs.«01_k».proof.Proof.Body
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- Columns `1024 * (16 * o + t)` and on of the packed projections: `o` is 0 for the queries, 1 for the keys, 2 for the values. -/
def packedBlk (A : Vec Ideal S512x49152 .bf16) (o : Fin 3) (t : Fin 16) : Vec Ideal S512x1024 .bf16 :=
  fun y => A (ix2 (y 0 : Fin 512) ⟨1024 * (16 * o.val + t.val) + (y 1).val, by have : (y 1).val < 1024 := (y 1).isLt; omega⟩)

/-- Columns `1024 * t` and on. -/
def colBlk (A : Vec Ideal S512x16384 .bf16) (t : Fin 16) : Vec Ideal S512x1024 .bf16 :=
  fun y => A (ix2 (y 0 : Fin 512) ⟨1024 * t.val + (y 1).val, by have : (y 1).val < 1024 := (y 1).isLt; omega⟩)

/-- Columns `128 * t` and on of a statistic. -/
def statBlk (A : Vec Ideal S512x2048 .f32) (t : Fin 16) : Vec Ideal S512x128 .f32 :=
  fun y => A (ix2 (y 0 : Fin 512) ⟨128 * t.val + (y 1).val, by have : (y 1).val < 128 := (y 1).isLt; omega⟩)

/-- An array from its column blocks. -/
def fromCols (f : Fin 16 → Vec Ideal S512x1024 .bf16) : Vec Ideal S512x16384 .bf16 := fun y =>
  f ⟨(y 1).val / 1024, by have : (y 1).val < 16384 := (y 1).isLt; omega⟩ (ix2 (y 0 : Fin 512) ⟨(y 1).val % 1024, by omega⟩)

/-- The grid point's number, among 16. -/
abbrev pt (t : Fin cfg0.N) : Fin 16 := ⟨t.val, by have := t.isLt; have e : cfg0.N = 16 := N_0; omega⟩

theorem index0 (t : Fin cfg0.N) : win0_0.index t 0 = 0 ∧ win0_0.index t 1 = t.val := by revert t; decide +kernel
theorem index1 (t : Fin cfg0.N) : win0_1.index t 0 = 0 ∧ win0_1.index t 1 = 16 + t.val := by revert t; decide +kernel
theorem index2 (t : Fin cfg0.N) : win0_2.index t 0 = 0 ∧ win0_2.index t 1 = 32 + t.val := by revert t; decide +kernel
theorem index3 (t : Fin cfg0.N) : win0_3.index t 0 = 0 ∧ win0_3.index t 1 = t.val := by revert t; decide +kernel
theorem index4 (t : Fin cfg0.N) : win0_4.index t 0 = 0 ∧ win0_4.index t 1 = t.val := by revert t; decide +kernel
theorem index5 (t : Fin cfg0.N) : win0_5.index t 0 = 0 ∧ win0_5.index t 1 = t.val := by revert t; decide +kernel
theorem index6 (t : Fin cfg0.N) : win0_6.index t 0 = 0 ∧ win0_6.index t 1 = t.val := by revert t; decide +kernel
theorem index7 (t : Fin cfg0.N) : win0_7.index t 0 = 0 ∧ win0_7.index t 1 = t.val := by revert t; decide +kernel
theorem index8 (t : Fin cfg0.N) : win0_8.index t 0 = 0 ∧ win0_8.index t 1 = t.val := by revert t; decide +kernel

variable (m : (ℓ : Loc nD τ sig) → Buf (Elt Ideal) ℓ) (c : Dev nD)

set_option maxHeartbeats 4000000 in
theorem iblk_0 (t : Fin cfg0.N) : iblk m c 0 t = packedBlk (m ((c : Thread nD τ).loc main_arg0)) 0 (pt t) := by
  funext y
  unfold iblk packedBlk
  rw [View.read_apply, ← V_main_arg0 m c]
  refine congrArg (V m c main_arg0) (funext fun a => Fin.ext ?_)
  match a with
  | ⟨0, _⟩ => show win0_0.index t 0 * 512 + 1 * (y 0).val = (y 0).val; rw [(index0 t).1]; omega
  | ⟨1, _⟩ => show win0_0.index t 1 * 1024 + 1 * (y 1).val = 1024 * (16 * 0 + t.val) + (y 1).val; rw [(index0 t).2]; omega

set_option maxHeartbeats 4000000 in
theorem iblk_1 (t : Fin cfg0.N) : iblk m c 1 t = packedBlk (m ((c : Thread nD τ).loc main_arg0)) 1 (pt t) := by
  funext y
  unfold iblk packedBlk
  rw [View.read_apply, ← V_main_arg0 m c]
  refine congrArg (V m c main_arg0) (funext fun a => Fin.ext ?_)
  match a with
  | ⟨0, _⟩ => show win0_1.index t 0 * 512 + 1 * (y 0).val = (y 0).val; rw [(index1 t).1]; omega
  | ⟨1, _⟩ => show win0_1.index t 1 * 1024 + 1 * (y 1).val = 1024 * (16 * 1 + t.val) + (y 1).val; rw [(index1 t).2]; omega

set_option maxHeartbeats 4000000 in
theorem iblk_2 (t : Fin cfg0.N) : iblk m c 2 t = packedBlk (m ((c : Thread nD τ).loc main_arg0)) 2 (pt t) := by
  funext y
  unfold iblk packedBlk
  rw [View.read_apply, ← V_main_arg0 m c]
  refine congrArg (V m c main_arg0) (funext fun a => Fin.ext ?_)
  match a with
  | ⟨0, _⟩ => show win0_2.index t 0 * 512 + 1 * (y 0).val = (y 0).val; rw [(index2 t).1]; omega
  | ⟨1, _⟩ => show win0_2.index t 1 * 1024 + 1 * (y 1).val = 1024 * (16 * 2 + t.val) + (y 1).val; rw [(index2 t).2]; omega

set_option maxHeartbeats 4000000 in
theorem iblk_3 (t : Fin cfg0.N) : iblk m c 3 t = colBlk (m ((c : Thread nD τ).loc main_arg1)) (pt t) := by
  funext y
  unfold iblk colBlk
  rw [View.read_apply, ← V_main_arg1 m c]
  refine congrArg (V m c main_arg1) (funext fun a => Fin.ext ?_)
  match a with
  | ⟨0, _⟩ => show win0_3.index t 0 * 512 + 1 * (y 0).val = (y 0).val; rw [(index3 t).1]; omega
  | ⟨1, _⟩ => show win0_3.index t 1 * 1024 + 1 * (y 1).val = 1024 * t.val + (y 1).val; rw [(index3 t).2]; omega

set_option maxHeartbeats 4000000 in
theorem iblk_4 (t : Fin cfg0.N) : iblk m c 4 t = statBlk (V m c main_v102) (pt t) := by
  funext y
  unfold iblk statBlk
  rw [View.read_apply]
  refine congrArg (V m c main_v102) (funext fun a => Fin.ext ?_)
  match a with
  | ⟨0, _⟩ => show win0_4.index t 0 * 512 + 1 * (y 0).val = (y 0).val; rw [(index4 t).1]; omega
  | ⟨1, _⟩ => show win0_4.index t 1 * 128 + 1 * (y 1).val = 128 * t.val + (y 1).val; rw [(index4 t).2]; omega

set_option maxHeartbeats 4000000 in
theorem iblk_5 (t : Fin cfg0.N) : iblk m c 5 t = statBlk (V m c main_v104) (pt t) := by
  funext y
  unfold iblk statBlk
  rw [View.read_apply]
  refine congrArg (V m c main_v104) (funext fun a => Fin.ext ?_)
  match a with
  | ⟨0, _⟩ => show win0_5.index t 0 * 512 + 1 * (y 0).val = (y 0).val; rw [(index5 t).1]; omega
  | ⟨1, _⟩ => show win0_5.index t 1 * 128 + 1 * (y 1).val = 128 * t.val + (y 1).val; rw [(index5 t).2]; omega

/-- An array of column blocks, read at a place of a block. -/
theorem fromCols_at (f : Fin 16 → Vec Ideal S512x1024 .bf16) (t : Fin 16) (y : S512x1024.Idx) (z : S512x16384.Idx)
    (h0 : (z 0).val = (y 0).val) (h1 : (z 1).val = 1024 * t.val + (y 1).val) : fromCols f z = f t y := by
  have hy : (y 1).val < 1024 := (y 1).isLt
  unfold fromCols
  have e : ∀ (a : Fin 16) (b : S512x1024.Idx), a = t → b = y → f a b = f t y := fun a b ha hb => by rw [ha, hb]
  refine e _ _ (Fin.ext (by show (z 1).val / 1024 = _; omega)) (funext fun a => Fin.ext ?_)
  match a with
  | ⟨0, _⟩ => exact h0
  | ⟨1, _⟩ => show (z 1).val % 1024 = (y 1).val; omega

/-- The query gradients of column block `t`. -/
def dqC (A : Vec Ideal S512x49152 .bf16) (G : Vec Ideal S512x16384 .bf16) (L D : Vec Ideal S512x2048 .f32) (t : Fin 16) : Vec Ideal S512x1024 .bf16 :=
  fromTiles (dqB (packedBlk A 0 t) (packedBlk A 1 t) (packedBlk A 2 t) (colBlk G t) (statBlk L t) (statBlk D t))
/-- The key gradients of column block `t`. -/
def dkC (A : Vec Ideal S512x49152 .bf16) (G : Vec Ideal S512x16384 .bf16) (L D : Vec Ideal S512x2048 .f32) (t : Fin 16) : Vec Ideal S512x1024 .bf16 :=
  fromTiles (join (dkW (packedBlk A 0 t) (packedBlk A 1 t) (packedBlk A 2 t) (colBlk G t) (statBlk L t) (statBlk D t)))
/-- The value gradients of column block `t`. -/
def dvC (A : Vec Ideal S512x49152 .bf16) (G : Vec Ideal S512x16384 .bf16) (L : Vec Ideal S512x2048 .f32) (t : Fin 16) : Vec Ideal S512x1024 .bf16 :=
  fromTiles (join (dvW (packedBlk A 0 t) (packedBlk A 1 t) (colBlk G t) (statBlk L t)))

/-- The first result. -/
theorem array_dq : (dats m 0 c).arrAt 6 cfg0.N
    = fromCols (dqC (m ((c : Thread nD τ).loc main_arg0)) (m ((c : Thread nD τ).loc main_arg1)) (V m c main_v102) (V m c main_v104)) := by
  refine (dats m 0 c).arrAt_eq_of_covers 6 _ (by decide +kernel) fun t hf y => ?_
  have e := after0_6 m c t
  unfold outsAt0 at e
  dsimp only at e
  rw [out_dq, iblk_0, iblk_1, iblk_2, iblk_3, iblk_4, iblk_5] at e
  rw [fromCols_at _ (pt t) y _ (by show win0_6.index t 0 * 512 + 1 * (y 0).val = (y 0).val; rw [(index6 t).1]; omega)
    (by show win0_6.index t 1 * 1024 + 1 * (y 1).val = 1024 * t.val + (y 1).val; rw [(index6 t).2]; omega)]
  exact congrFun e y

/-- The second result. -/
theorem array_dk : (dats m 0 c).arrAt 7 cfg0.N
    = fromCols (dkC (m ((c : Thread nD τ).loc main_arg0)) (m ((c : Thread nD τ).loc main_arg1)) (V m c main_v102) (V m c main_v104)) := by
  refine (dats m 0 c).arrAt_eq_of_covers 7 _ (by decide +kernel) fun t hf y => ?_
  have e := after0_7 m c t
  unfold outsAt0 at e
  dsimp only at e
  rw [out_dk, iblk_0, iblk_1, iblk_2, iblk_3, iblk_4, iblk_5] at e
  rw [fromCols_at _ (pt t) y _ (by show win0_7.index t 0 * 512 + 1 * (y 0).val = (y 0).val; rw [(index7 t).1]; omega)
    (by show win0_7.index t 1 * 1024 + 1 * (y 1).val = 1024 * t.val + (y 1).val; rw [(index7 t).2]; omega)]
  exact congrFun e y

/-- The third result. -/
theorem array_dv : (dats m 0 c).arrAt 8 cfg0.N
    = fromCols (dvC (m ((c : Thread nD τ).loc main_arg0)) (m ((c : Thread nD τ).loc main_arg1)) (V m c main_v102)) := by
  refine (dats m 0 c).arrAt_eq_of_covers 8 _ (by decide +kernel) fun t hf y => ?_
  have e := after0_8 m c t
  unfold outsAt0 at e
  dsimp only at e
  rw [out_dv, iblk_0, iblk_1, iblk_3, iblk_4] at e
  rw [fromCols_at _ (pt t) y _ (by show win0_8.index t 0 * 512 + 1 * (y 0).val = (y 0).val; rw [(index8 t).1]; omega)
    (by show win0_8.index t 1 * 1024 + 1 * (y 1).val = 1024 * t.val + (y 1).val; rw [(index8 t).2]; omega)]
  exact congrFun e y

end Cert.Attn

end
-- ==== Proof.Forward.lean ====
/-
  The host's forward attention, from which both programs take the saved statistics: its stages as functions of the packed
  projections, and each stage read at an index in the rows and windows that the kernel's tiles are stated in.
-/
module

public import proofs.«01_k».proof.Proof.Arrays
public import Idealize.ShloMosaic.Lib.ValueIdxRank6

@[expose] public section

set_option backward.isDefEq.respectTransparency false
set_option maxRecDepth 16384

noncomputable section

namespace Cert.Attn

open Cert.KernelIdeal Cert.KernelIdeal.Gen Idealize.ShloMosaic Idealize.ShloMosaic.TcCoe Idealize.SL.Sem Idealize.ShloMosaic.WordCmp

/-! ## The stages -/

/-- A row of the sequence is a row and a residue of the packed arrays. -/
theorem shapeCasts_rows : S1x8192x8x128.ShapeCasts S1x512x16x8x128 := shapeCasts_S512x16384_S1x512x16x8x128.trans shapeCasts_S512x16384_S1x8192x8x128.symm

/-- A packed third, cut into residues, blocks of rows and heads. -/
def blocked (x : FVec Ideal S512x16384 .bf16) : FVec Ideal S1x16x4x128x8x128 .f32 :=
  shapeCast S1x16x4x128x8x128 (transpose S1x16x512x8x128 [0, 2, 1, 3, 4] (shapeCast S1x512x16x8x128 (shapeCast S1x8192x8x128 (extf .f32 x bitsLt_bf16_f32)
    shapeCasts_S512x16384_S1x8192x8x128) shapeCasts_rows) transposes_S1x512x16x8x128_S1x16x512x8x128_0_2_1_3_4) shapeCasts_S1x16x512x8x128_S1x16x4x128x8x128

/-- Every block with the block before it; before the first, zeros. -/
def windowed (t : FVec Ideal S1x16x4x128x8x128 .f32) : FVec Ideal S1x16x4x256x8x128 .f32 :=
  concatenate S1x16x4x256x8x128 3 [⟨S1x16x4x128x8x128, concatenate S1x16x4x128x8x128 2 [⟨S1x16x1x128x8x128, broadcastInDim S1x16x1x128x8x128 ![] bcast_S_S1x16x1x128x8x128 (constant S_ .f32 0x00000000#32)⟩,
    ⟨S1x16x3x128x8x128, extractStridedSlice S1x16x3x128x8x128 ![0, 0, 0, 0, 0, 0] t slices_S1x16x4x128x8x128_S1x16x3x128x8x128_0_0_0_0_0_0⟩] concatenates_S1x16x1x128x8x128_S1x16x3x128x8x128_S1x16x4x128x8x128_d2⟩,
    ⟨S1x16x4x128x8x128, t⟩] concatenates_S1x16x4x128x8x128_S1x16x4x128x8x128_S1x16x4x256x8x128_d3

def qBlocks (A : FVec Ideal S512x49152 .bf16) : FVec Ideal S1x16x4x128x8x128 .f32 :=
  blocked (extractStridedSlice S512x16384 ![0, 0] A slices_S512x49152_S512x16384_0_0)
def kWindows (A : FVec Ideal S512x49152 .bf16) : FVec Ideal S1x16x4x256x8x128 .f32 :=
  windowed (blocked (extractStridedSlice S512x16384 ![0, 16384] A slices_S512x49152_S512x16384_0_16384))
def vWindows (A : FVec Ideal S512x49152 .bf16) : FVec Ideal S1x16x4x256x8x128 .f32 :=
  windowed (blocked (extractStridedSlice S512x16384 ![0, 32768] A slices_S512x49152_S512x16384_0_32768))

/-- How far a key of the window lies behind a query row. -/
def distance : IVec S128x256 32 :=
  subi (broadcastInDim S128x256 ![0, 1] bcast_S128x1_S128x256_0_1 (addi (broadcastInDim S128x1 ![0] bcast_S128_S128x1_0 (iotaInDim S128 32 0))
    (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- The pairs the attention admits. -/
def admitted : IVec S1x16x4x8x128x256 1 :=
  broadcastInDim S1x16x4x8x128x256 ![0, 1, 2, 3, 4, 5] bcast_S1x1x4x1x128x256_S1x16x4x8x128x256_0_1_2_3_4_5 (broadcastInDim S1x1x4x1x128x256 ![2, 4, 5] bcast_S4x128x256_S1x1x4x1x128x256_2_4_5
    (andi (broadcastInDim S4x128x256 ![0, 1, 2] bcast_S1x128x256_S4x128x256_0_1_2 (broadcastInDim S1x128x256 ![1, 2] bcast_S128x256_S1x128x256_1_2
        (andi (cmpi .sge distance (broadcastInDim S128x256 ![] bcast_S_S128x256 (constantI S_ 32 0#32))) (cmpi .sle distance (broadcastInDim S128x256 ![] bcast_S_S128x256 (constantI S_ 32 128#32))))))
      (broadcastInDim S4x128x256 ![0, 1, 2] bcast_S4x1x256_S4x128x256_0_1_2 (ori
        (broadcastInDim S4x1x256 ![0, 1, 2] bcast_S4x1x1_S4x1x256_0_1_2 (cmpi .sgt (broadcastInDim S4x1x1 ![0] bcast_S4_S4x1x1_0 (iotaInDim S4 32 0)) (broadcastInDim S4x1x1 ![] bcast_S_S4x1x1 (constantI S_ 32 0#32))))
        (broadcastInDim S4x1x256 ![0, 1, 2] bcast_S1x1x256_S4x1x256_0_1_2 (broadcastInDim S1x1x256 ![1, 2] bcast_S1x256_S1x1x256_1_2
          (cmpi .sge (broadcastInDim S1x256 ![1] bcast_S256_S1x256_1 (iotaInDim S256 32 0)) (broadcastInDim S1x256 ![] bcast_S_S1x256 (constantI S_ 32 128#32)))))))))

/-- The scaled scores, minus infinity at the pairs not admitted. -/
def scores (A : FVec Ideal S512x49152 .bf16) : FVec Ideal S1x16x4x8x128x256 .f32 :=
  select admitted (mulf (Host.dotGeneral dot_S1x16x4x128x8x128_S1x16x4x256x8x128_S1x16x4x8x128x256_5_5_3_3_0124_0124 none (qBlocks A) (kWindows A))
    (broadcastInDim S1x16x4x8x128x256 ![] bcast_S_S1x16x4x8x128x256 (constant S_ .f32 0x3DB504F3#32))) (broadcastInDim S1x16x4x8x128x256 ![] bcast_S_S1x16x4x8x128x256 (constant S_ .f32 0xFF800000#32))

/-- Each row's greatest score. -/
def rowMax (A : FVec Ideal S512x49152 .bf16) : FVec Ideal S1x16x4x8x128 .f32 :=
  Host.reduce FloatOps.maximumf (scores A) (constant S_ .f32 0xFF800000#32) reducesTo_S1x16x4x8x128x256_S1x16x4x8x128_d5 h_S_

/-- The exponentials of the scores less the row's greatest. -/
def expScores (A : FVec Ideal S512x49152 .bf16) : FVec Ideal S1x16x4x8x128x256 .f32 :=
  Host.exp (subf (scores A) (broadcastInDim S1x16x4x8x128x256 ![0, 1, 2, 3, 4, 5] bcast_S1x16x4x8x128x1_S1x16x4x8x128x256_0_1_2_3_4_5
    (broadcastInDim S1x16x4x8x128x1 ![0, 1, 2, 3, 4] bcast_S1x16x4x8x128_S1x16x4x8x128x1_0_1_2_3_4 (rowMax A))))

/-- Each row's sum of them. -/
def rowSum (A : FVec Ideal S512x49152 .bf16) : FVec Ideal S1x16x4x8x128 .f32 :=
  Host.reduceAdd (expScores A) (constant S_ .f32 0x00000000#32) reducesTo_S1x16x4x8x128x256_S1x16x4x8x128_d5 h_S_

/-- The values weighted by them. -/
def weighted (A : FVec Ideal S512x49152 .bf16) : FVec Ideal S1x16x4x128x8x128 .f32 :=
  transpose S1x16x4x128x8x128 [0, 1, 2, 5, 3, 4] (Host.dotGeneral dot_S1x16x4x256x8x128_S1x16x4x8x128x256_S1x16x4x8x128x128_3_5_5_4_0124_0123 none (vWindows A) (expScores A))
    transposes_S1x16x4x8x128x128_S1x16x4x128x8x128_0_1_2_5_3_4

/-- The rows' sums beside the weighted values. -/
def rowSumT (A : FVec Ideal S512x49152 .bf16) : FVec Ideal S1x16x4x128x8x1 .f32 :=
  broadcastInDim S1x16x4x128x8x1 ![0, 1, 2, 3, 4] bcast_S1x16x4x128x8_S1x16x4x128x8x1_0_1_2_3_4 (transpose S1x16x4x128x8 [0, 1, 2, 4, 3] (rowSum A) transposes_S1x16x4x8x128_S1x16x4x128x8_0_1_2_4_3)

/-- The attention's output in the sequence's order. -/
def attnOut (A : FVec Ideal S512x49152 .bf16) : FVec Ideal S1x8192x8x128 .f32 :=
  shapeCast S1x8192x8x128 (transpose S1x512x16x8x128 [0, 2, 1, 3, 4] (shapeCast S1x16x512x8x128 (Host.divf (weighted A)
    (broadcastInDim S1x16x4x128x8x128 ![0, 1, 2, 3, 4, 5] bcast_S1x16x4x128x8x1_S1x16x4x128x8x128_0_1_2_3_4_5 (rowSumT A))) shapeCasts_S1x16x4x128x8x128_S1x16x512x8x128)
    transposes_S1x16x512x8x128_S1x512x16x8x128_0_2_1_3_4) shapeCasts_S1x512x16x8x128_S1x8192x8x128

/-- One number for each row of a block and head, in the sequence's order. -/
def sequenced (x : FVec Ideal S1x16x4x128x8 .f32) : FVec Ideal S1x8192x8 .f32 :=
  shapeCast S1x8192x8 (transpose S1x512x16x8 [0, 2, 1, 3] (shapeCast S1x16x512x8 x shapeCasts_S1x16x4x128x8_S1x16x512x8) transposes_S1x16x512x8_S1x512x16x8_0_2_1_3) shapeCasts_S1x512x16x8_S1x8192x8

/-- The logarithm of the rows' sums of exponentials. -/
def rowLse (A : FVec Ideal S512x49152 .bf16) : FVec Ideal S1x16x4x128x8 .f32 :=
  transpose S1x16x4x128x8 [0, 1, 2, 4, 3] (addf (shapeCast S1x16x4x8x128 (broadcastInDim S1x16x4x8x128x1 ![0, 1, 2, 3, 4] bcast_S1x16x4x8x128_S1x16x4x8x128x1_0_1_2_3_4 (rowMax A)) shapeCasts_S1x16x4x8x128x1_S1x16x4x8x128)
    (Host.log (rowSum A))) transposes_S1x16x4x8x128_S1x16x4x128x8_0_1_2_4_3

/-! ## The stages at an index -/

/-- The place in the sequence of residue `r`, block `n`, row `i`. -/
def seqAt (r : Fin 16) (n : Fin 4) (i : Fin 128) : Fin 8192 := ⟨16 * (128 * n.val + i.val) + r.val, by omega⟩

theorem blocked_at (x : FVec Ideal S512x16384 .bf16) (r : Fin 16) (n : Fin 4) (i : Fin 128) (h : Fin 8) (d : Fin 128) :
    blocked x (ix6 0 r n i h d) = x (ix2 ⟨128 * n.val + i.val, by omega⟩ ⟨1024 * r.val + (128 * h.val + d.val), by omega⟩) := by
  unfold blocked
  pointwise
  exact congrArg x (congrArg₂ ix2 (Fin.ext (by dsimp only; omega)) (Fin.ext (by dsimp only; omega)))

theorem qBlocks_at (A : FVec Ideal S512x49152 .bf16) (r : Fin 16) (n : Fin 4) (i : Fin 128) (h : Fin 8) (d : Fin 128) :
    qBlocks A (ix6 0 r n i h d) = tile (packedBlk A 0 r) n h i d := by
  unfold qBlocks
  rw [blocked_at]
  pointwise
  unfold tile packedBlk
  exact congrArg A (congrArg₂ ix2 (Fin.ext rfl) (Fin.ext (by show _ = 1024 * (16 * 0 + r.val) + (128 * h.val + d.val); dsimp only; omega)))

theorem windowed_at (t : FVec Ideal S1x16x4x128x8x128 .f32) (r : Fin 16) (n : Fin 4) (j : Fin 256) (h : Fin 8) (d : Fin 128) :
    windowed t (ix6 0 r n j h d) = if hj : j.val < 128 then (if hn : n.val < 1 then 0 else t (ix6 0 r ⟨n.val - 1, by omega⟩ ⟨j.val, hj⟩ h d)) else t (ix6 0 r n ⟨j.val - 128, by omega⟩ h d) := by
  unfold windowed
  pointwise

/-- A window of one third, in the words of the kernel's tiles. -/
theorem window_of (x : FVec Ideal S512x16384 .bf16) (A : FVec Ideal S512x49152 .bf16) (o : Fin 3) (r : Fin 16)
    (hx : ∀ (a : Fin 512) (b : Fin 1024), x (ix2 a ⟨1024 * r.val + b.val, by omega⟩) = A (ix2 a ⟨1024 * (16 * o.val + r.val) + b.val, by omega⟩))
    (n : Fin 4) (j : Fin 256) (h : Fin 8) (d : Fin 128) :
    windowed (blocked x) (ix6 0 r n j h d) = window (packedBlk A o r) n h j d := by
  rw [windowed_at]
  unfold window packedBlk
  by_cases hj : j.val < 128
  · rw [dif_pos hj]
    by_cases hn : n.val < 1
    · rw [dif_pos hn, dif_pos ⟨by omega, hj⟩]
    · rw [dif_neg hn, dif_neg (fun e => hn (by have := e.1; omega)), blocked_at]
      refine (hx _ ⟨128 * h.val + d.val, by omega⟩).trans (congrArg A (congrArg₂ ix2 (Fin.ext ?_) (Fin.ext rfl)))
      show 128 * (n.val - 1) + j.val = 128 * n.val + j.val - 128
      omega
  · rw [dif_neg hj, dif_neg (fun e => hj e.2), blocked_at]
    refine (hx _ ⟨128 * h.val + d.val, by omega⟩).trans (congrArg A (congrArg₂ ix2 (Fin.ext ?_) (Fin.ext rfl)))
    show 128 * n.val + (j.val - 128) = 128 * n.val + j.val - 128
    omega

theorem kWindows_at (A : FVec Ideal S512x49152 .bf16) (r : Fin 16) (n : Fin 4) (j : Fin 256) (h : Fin 8) (d : Fin 128) :
    kWindows A (ix6 0 r n j h d) = window (packedBlk A 1 r) n h j d :=
  window_of _ A 1 r (fun a b => by
    pointwise
    exact congrArg A (congrArg₂ ix2 rfl (Fin.ext (by show _ = 1024 * (16 * 1 + r.val) + b.val; dsimp only; omega)))) n j h d

theorem vWindows_at (A : FVec Ideal S512x49152 .bf16) (r : Fin 16) (n : Fin 4) (j : Fin 256) (h : Fin 8) (d : Fin 128) :
    vWindows A (ix6 0 r n j h d) = window (packedBlk A 2 r) n h j d :=
  window_of _ A 2 r (fun a b => by
    pointwise
    exact congrArg A (congrArg₂ ix2 rfl (Fin.ext (by show _ = 1024 * (16 * 2 + r.val) + b.val; dsimp only; omega)))) n j h d

/-- The bits of the mask, as one condition on the numbers. -/
theorem admitted_bits (n i j : Nat) (hn : n < 4) (hi : i < 128) (hj : j < 256) :
    IntOp.andi (IntOp.andi (IntOp.cmpi .sge (IntOp.subi (IntOp.addi (BitVec.ofNat 32 i) 128#32) (BitVec.ofNat 32 j)) 0#32)
        (IntOp.cmpi .sle (IntOp.subi (IntOp.addi (BitVec.ofNat 32 i) 128#32) (BitVec.ofNat 32 j)) 128#32))
      (IntOp.ori (IntOp.cmpi .sgt (BitVec.ofNat 32 n) 0#32) (IntOp.cmpi .sge (BitVec.ofNat 32 j) 128#32))
    = BitVec.ofBool (decide ((i ≤ j ∧ j ≤ i + 128) ∧ (n = 0 → 128 ≤ j))) := by
  have e₀ : ((i : Int) + ((128 : Nat) : Int)).bmod (2 ^ 32) = i + 128 := by rw [Int.bmod_eq_of_le (by omega) (by omega)]; rfl
  have e : (BitVec.ofNat 32 i + 128#32 - BitVec.ofNat 32 j).toInt = (i : Int) + 128 - j := by
    rw [BitVec.toInt_sub, BitVec.toInt_add, toInt_ofNat_of_lt (by omega), toInt_ofNat_of_lt (by omega),
      toInt_ofNat_of_lt (a := j) (by omega), e₀, Int.bmod_eq_of_le (by omega) (by omega)]
  have a : IntOp.cmpi .sge (IntOp.subi (IntOp.addi (BitVec.ofNat 32 i) 128#32) (BitVec.ofNat 32 j)) 0#32 = BitVec.ofBool (decide (j ≤ i + 128)) := by
    rw [cmpi_sge_eq]
    refine congrArg BitVec.ofBool (decide_eq_decide.mpr ?_)
    unfold IntOp.subi IntOp.addi
    rw [e, (by decide : (0#32 : BitVec 32).toInt = 0)]; omega
  have b : IntOp.cmpi .sle (IntOp.subi (IntOp.addi (BitVec.ofNat 32 i) 128#32) (BitVec.ofNat 32 j)) 128#32 = BitVec.ofBool (decide (i ≤ j)) := by
    rw [cmpi_sle_eq]
    refine congrArg BitVec.ofBool (decide_eq_decide.mpr ?_)
    unfold IntOp.subi IntOp.addi
    rw [e, (by decide : (128#32 : BitVec 32).toInt = 128)]; omega
  rw [a, b, show (0#32 : BitVec 32) = BitVec.ofNat 32 0 from rfl, show (128#32 : BitVec 32) = BitVec.ofNat 32 128 from rfl,
    cmpi_sgt_ofNat (by omega) (by omega), cmpi_sge_ofNat (by omega) (by omega), andi_ofBool, ori_ofBool, andi_ofBool]
  refine congrArg BitVec.ofBool ?_
  rw [← Bool.decide_and, ← Bool.decide_or, ← Bool.decide_and]
  exact decide_eq_decide.mpr (by omega)

theorem admitted_at (r : Fin 16) (n : Fin 4) (h : Fin 8) (i : Fin 128) (j : Fin 256) :
    admitted (ix6 0 r n h i j) = BitVec.ofBool (decide (Ok n i j)) := by
  unfold admitted distance
  pointwise
  rw [admitted_bits _ _ _ n.isLt i.isLt j.isLt]
  exact congrArg BitVec.ofBool (decide_eq_decide.mpr (and_congr_right fun _ => imp_congr_left (by
    rw [Fin.ext_iff]; rfl)))

theorem ofBits_neg_inf : Ideal.ofBits .f32 0xFF800000#32 = (⊥ : EReal) := by
  simp [Ideal.ofBits, Ideal.ieee]

theorem scores_at (A : FVec Ideal S512x49152 .bf16) (r : Fin 16) (n : Fin 4) (h : Fin 8) (i : Fin 128) (j : Fin 256) :
    scores A (ix6 0 r n h i j) = if Ok n i j then (∑ d, tile (packedBlk A 0 r) n h i d * window (packedBlk A 1 r) n h j d) * scale else ⊥ := by
  unfold scores
  pointwise
  rw [admitted_at, ofBits_neg_inf]
  unfold Scalar.select
  by_cases e : Ok n i j
  · rw [if_pos e, decide_eq_true e]
    refine (if_pos rfl).trans ?_
    unfold scale
    refine congrArg (· * _) (Finset.sum_congr rfl fun d _ => ?_)
    rw [qBlocks_at, kWindows_at]
  · rw [if_neg e, decide_eq_false e]
    exact if_neg (by decide)

/-- A sum along the keys. -/
theorem add_keys (x : FVec Ideal S1x16x4x8x128x256 .f32) (r : Fin 16) (n : Fin 4) (h : Fin 8) (i : Fin 128) :
    Host.reduceAdd x (constant S_ .f32 0x00000000#32) reducesTo_S1x16x4x8x128x256_S1x16x4x8x128_d5 h_S_ (ix5 0 r n h i) = ∑ j, x (ix6 0 r n h i j) := by
  refine (Ideal.hostReduceAdd_single _ (a := 5) (by decide) x _ _).trans ?_
  refine (congrArg (· + _) Ideal.ofBits_zero_f32).trans ((zero_add _).trans (Finset.sum_congr rfl fun j _ => congrArg x ?_))
  funext a
  fin_cases a <;> rfl

theorem rowMax_at (A : FVec Ideal S512x49152 .bf16) (r : Fin 16) (n : Fin 4) (h : Fin 8) (i : Fin 128) :
    rowMax A (ix5 0 r n h i) = Finset.univ.fold max ⊥ fun j => scores A (ix6 0 r n h i j) := by
  unfold rowMax
  rw [Host.reduce_eq_fold_single (a := 5) _ _ _ _ (by decide)]
  show Finset.univ.fold max (Ideal.ofBits .f32 0xFF800000#32) _ = _
  rw [ofBits_neg_inf]
  refine congrArg (Finset.univ.fold max ⊥) (funext fun j => congrArg (scores A) ?_)
  funext a
  fin_cases a <;> rfl

theorem expScores_at (A : FVec Ideal S512x49152 .bf16) (r : Fin 16) (n : Fin 4) (h : Fin 8) (i : Fin 128) (j : Fin 256) :
    expScores A (ix6 0 r n h i j) = Ideal.exp (scores A (ix6 0 r n h i j) - rowMax A (ix5 0 r n h i)) := by
  unfold expScores
  pointwise

theorem rowSum_at (A : FVec Ideal S512x49152 .bf16) (r : Fin 16) (n : Fin 4) (h : Fin 8) (i : Fin 128) :
    rowSum A (ix5 0 r n h i) = ∑ j, expScores A (ix6 0 r n h i j) :=
  add_keys _ r n h i

theorem weighted_at (A : FVec Ideal S512x49152 .bf16) (r : Fin 16) (n : Fin 4) (i : Fin 128) (h : Fin 8) (d : Fin 128) :
    weighted A (ix6 0 r n i h d) = ∑ j, window (packedBlk A 2 r) n h j d * expScores A (ix6 0 r n h i j) := by
  unfold weighted
  pointwise
  exact Finset.sum_congr rfl fun j _ => by rw [vWindows_at]

theorem rowSumT_at (A : FVec Ideal S512x49152 .bf16) (r : Fin 16) (n : Fin 4) (i : Fin 128) (h : Fin 8) :
    rowSumT A (ix6 0 r n i h 0) = rowSum A (ix5 0 r n h i) := by
  unfold rowSumT
  pointwise

theorem dropped_at (x : FVec Ideal S1x16x4x8x128x1 .f32) (r : Fin 16) (n : Fin 4) (i : Fin 128) (h : Fin 8) :
    shapeCast S1x16x4x8x128 x shapeCasts_S1x16x4x8x128x1_S1x16x4x8x128 (ix5 0 r n h i) = x (ix6 0 r n h i 0) := by
  pointwise

theorem swapped_at (x y : FVec Ideal S1x16x4x8x128 .f32) (r : Fin 16) (n : Fin 4) (i : Fin 128) (h : Fin 8) :
    transpose S1x16x4x128x8 [0, 1, 2, 4, 3] (addf x (Host.log y)) transposes_S1x16x4x8x128_S1x16x4x128x8_0_1_2_4_3 (ix5 0 r n i h)
      = x (ix5 0 r n h i) + Ideal.log (y (ix5 0 r n h i)) := by
  pointwise

theorem beside_at (x : FVec Ideal S1x16x4x8x128 .f32) (r : Fin 16) (n : Fin 4) (i : Fin 128) (h : Fin 8) :
    broadcastInDim S1x16x4x8x128x1 ![0, 1, 2, 3, 4] bcast_S1x16x4x8x128_S1x16x4x8x128x1_0_1_2_3_4 x (ix6 0 r n h i 0) = x (ix5 0 r n h i) := by
  pointwise

theorem rowLse_at (A : FVec Ideal S512x49152 .bf16) (r : Fin 16) (n : Fin 4) (i : Fin 128) (h : Fin 8) :
    rowLse A (ix5 0 r n i h) = rowMax A (ix5 0 r n h i) + Ideal.log (rowSum A (ix5 0 r n h i)) := by
  unfold rowLse
  rw [swapped_at, dropped_at, beside_at]

theorem seqAt_residue (r : Fin 16) (n : Fin 4) (i : Fin 128) (b) : (⟨(seqAt r n i).val % 16, b⟩ : Fin 16) = r := Fin.ext (by unfold seqAt; dsimp only; omega)
theorem seqAt_block (r : Fin 16) (n : Fin 4) (i : Fin 128) (b) : (⟨(seqAt r n i).val / 16 / 128, b⟩ : Fin 4) = n := Fin.ext (by unfold seqAt; dsimp only; omega)
theorem seqAt_row (r : Fin 16) (n : Fin 4) (i : Fin 128) (b) : (⟨(seqAt r n i).val / 16 % 128, b⟩ : Fin 128) = i := Fin.ext (by unfold seqAt; dsimp only; omega)

theorem attnOut_at (A : FVec Ideal S512x49152 .bf16) (r : Fin 16) (n : Fin 4) (i : Fin 128) (h : Fin 8) (d : Fin 128) :
    attnOut A (ix4 0 (seqAt r n i) h d) = Ideal.div (weighted A (ix6 0 r n i h d)) (rowSum A (ix5 0 r n h i)) := by
  unfold attnOut
  generalize hs : seqAt r n i = s
  pointwise
  subst hs
  rw [seqAt_residue, seqAt_block, seqAt_row, rowSumT_at]

theorem sequenced_at (x : FVec Ideal S1x16x4x128x8 .f32) (r : Fin 16) (n : Fin 4) (i : Fin 128) (h : Fin 8) :
    sequenced x (ix3 0 (seqAt r n i) h) = x (ix5 0 r n i h) := by
  unfold sequenced
  generalize hs : seqAt r n i = s
  pointwise
  subst hs
  rw [seqAt_residue, seqAt_block, seqAt_row]

end Cert.Attn

end
-- ==== Proof.Saved.lean ====
/-
  The two statistics the kernel is handed: each row's logarithm of the sum over the three patterns, and the product of the
  mixed output with the gradient that comes in. The host's steps compute them from the six arguments; each is read at the
  lane of a head.
-/
module

public import proofs.«01_k».proof.Proof.Forward
public import Idealize.ShloMosaic.Lib.Claim

@[expose] public section

set_option backward.isDefEq.respectTransparency false
set_option maxRecDepth 16384

noncomputable section

namespace Cert.Attn

open Cert.KernelIdeal Cert.KernelIdeal.Gen Idealize.ShloMosaic Idealize.ShloMosaic.TcCoe Idealize.SL.Sem

/-- The greatest of three statistics. -/
def three (l₁ l₄ l : FVec Ideal S1x8192x8 .f32) : FVec Ideal S1x8192x8 .f32 := maximumf (maximumf l₁ l₄) l

/-- The sum of the three exponentials, each less the greatest. -/
def mass (l₁ l₄ l : FVec Ideal S1x8192x8 .f32) : FVec Ideal S1x8192x8 .f32 :=
  addf (addf (Host.exp (subf l₁ (three l₁ l₄ l))) (Host.exp (subf l₄ (three l₁ l₄ l)))) (Host.exp (subf l (three l₁ l₄ l)))

/-- One pattern's output under its weight. -/
def share (e w : FVec Ideal S1x8192x8 .f32) (o : FVec Ideal S1x8192x8x128 .f32) : FVec Ideal S1x8192x8x128 .f32 :=
  mulf (broadcastInDim S1x8192x8x128 ![0, 1, 2] bcast_S1x8192x8_S1x8192x8x128_0_1_2 (Host.divf e w)) o

/-- The mixed output of the three patterns. -/
def mixed (l₁ l₄ l : FVec Ideal S1x8192x8 .f32) (o₁ o₄ o : FVec Ideal S1x8192x8x128 .f32) : FVec Ideal S1x8192x8x128 .f32 :=
  addf (addf (share (Host.exp (subf l₁ (three l₁ l₄ l))) (mass l₁ l₄ l) o₁) (share (Host.exp (subf l₄ (three l₁ l₄ l))) (mass l₁ l₄ l) o₄))
    (share (Host.exp (subf l (three l₁ l₄ l))) (mass l₁ l₄ l) o)

/-- One number for each head, copied over the head's sixteen lanes. -/
def lanes (x : FVec Ideal S1x8192x8 .f32) : FVec Ideal S512x2048 .f32 :=
  shapeCast S512x2048 (broadcastInDim S1x8192x8x16 ![0, 1, 2] bcast_S1x8192x8_S1x8192x8x16_0_1_2 x) shapeCasts_S1x8192x8x16_S512x2048

/-- The logarithm of the whole mass. -/
def total (l₁ l₄ l : FVec Ideal S1x8192x8 .f32) : FVec Ideal S1x8192x8 .f32 := addf (three l₁ l₄ l) (Host.log (mass l₁ l₄ l))

/-- The incoming gradient's product with the mixed output. -/
def product (g : FVec Ideal S512x16384 .bf16) (x : FVec Ideal S1x8192x8x128 .f32) : FVec Ideal S1x8192x8 .f32 :=
  Host.dotGeneral dot_S1x8192x8x128_S1x8192x8x128_S1x8192x8_3_3_n_n_012_012 none (shapeCast S1x8192x8x128 (extf .f32 g bitsLt_bf16_f32) shapeCasts_S512x16384_S1x8192x8x128) x

variable (m : (ℓ : Loc nD τ sig) → Buf (Elt Ideal) ℓ) (c : Dev nD)

variable (V0 : Valuation τ sig (Elt Ideal))

/-! ## The host's steps before the launch -/

/-- A third taken apart in one step less: straight into rows, residues and heads. -/
theorem blocked_direct (x : FVec Ideal S512x16384 .bf16) :
    shapeCast S1x16x4x128x8x128 (transpose S1x16x512x8x128 [0, 2, 1, 3, 4] (shapeCast S1x512x16x8x128 (extf .f32 x bitsLt_bf16_f32) shapeCasts_S512x16384_S1x512x16x8x128)
      transposes_S1x512x16x8x128_S1x16x512x8x128_0_2_1_3_4) shapeCasts_S1x16x512x8x128_S1x16x4x128x8x128 = blocked x := by
  unfold blocked
  rw [shapeCast_comp]

theorem third_q (A : FVec Ideal S512x49152 .bf16) : (shapeCast S1x16x4x128x8x128 (transpose S1x16x512x8x128 [0, 2, 1, 3, 4] (shapeCast S1x512x16x8x128
      (extractStridedSlice S512x16384 ![0, 0] (extf .f32 A bitsLt_bf16_f32) slices_S512x49152_S512x16384_0_0) shapeCasts_S512x16384_S1x512x16x8x128)
      transposes_S1x512x16x8x128_S1x16x512x8x128_0_2_1_3_4) shapeCasts_S1x16x512x8x128_S1x16x4x128x8x128) = qBlocks A := by
  have e : extractStridedSlice S512x16384 ![0, 0] (extf .f32 A bitsLt_bf16_f32 : FVec Ideal S512x49152 .f32) slices_S512x49152_S512x16384_0_0
    = extf .f32 (extractStridedSlice S512x16384 ![0, 0] A slices_S512x49152_S512x16384_0_0 : FVec Ideal S512x16384 .bf16) bitsLt_bf16_f32 := rfl
  rw [e, blocked_direct]
  rfl

theorem third_k (A : FVec Ideal S512x49152 .bf16) : windowed (shapeCast S1x16x4x128x8x128 (transpose S1x16x512x8x128 [0, 2, 1, 3, 4] (shapeCast S1x512x16x8x128
      (extractStridedSlice S512x16384 ![0, 16384] (extf .f32 A bitsLt_bf16_f32) slices_S512x49152_S512x16384_0_16384) shapeCasts_S512x16384_S1x512x16x8x128)
      transposes_S1x512x16x8x128_S1x16x512x8x128_0_2_1_3_4) shapeCasts_S1x16x512x8x128_S1x16x4x128x8x128) = kWindows A := by
  have e : extractStridedSlice S512x16384 ![0, 16384] (extf .f32 A bitsLt_bf16_f32 : FVec Ideal S512x49152 .f32) slices_S512x49152_S512x16384_0_16384
    = extf .f32 (extractStridedSlice S512x16384 ![0, 16384] A slices_S512x49152_S512x16384_0_16384 : FVec Ideal S512x16384 .bf16) bitsLt_bf16_f32 := rfl
  rw [e, blocked_direct]
  rfl

theorem third_v (A : FVec Ideal S512x49152 .bf16) : windowed (shapeCast S1x16x4x128x8x128 (transpose S1x16x512x8x128 [0, 2, 1, 3, 4] (shapeCast S1x512x16x8x128
      (extractStridedSlice S512x16384 ![0, 32768] (extf .f32 A bitsLt_bf16_f32) slices_S512x49152_S512x16384_0_32768) shapeCasts_S512x16384_S1x512x16x8x128)
      transposes_S1x512x16x8x128_S1x16x512x8x128_0_2_1_3_4) shapeCasts_S1x16x512x8x128_S1x16x4x128x8x128) = vWindows A := by
  have e : extractStridedSlice S512x16384 ![0, 32768] (extf .f32 A bitsLt_bf16_f32 : FVec Ideal S512x49152 .f32) slices_S512x49152_S512x16384_0_32768
    = extf .f32 (extractStridedSlice S512x16384 ![0, 32768] A slices_S512x49152_S512x16384_0_32768 : FVec Ideal S512x16384 .bf16) bitsLt_bf16_f32 := rfl
  rw [e, blocked_direct]
  rfl

set_option maxHeartbeats 2000000 in
theorem first_dots : StableHlo.after hostOps0 V0 (Proc.devRef .tc main_v22)
    = mulf (Host.dotGeneral dot_S1x16x4x128x8x128_S1x16x4x256x8x128_S1x16x4x8x128x256_5_5_3_3_0124_0124 none (qBlocks (V0 (Proc.devRef .tc main_arg0))) (kWindows (V0 (Proc.devRef .tc main_arg0))))
        (broadcastInDim S1x16x4x8x128x256 ![] bcast_S_S1x16x4x8x128x256 (constant S_ .f32 0x3DB504F3#32)) := by
  simp only [hostOps0]
  after_results_simp
  exact congrArg₂ (fun q k => mulf (Host.dotGeneral dot_S1x16x4x128x8x128_S1x16x4x256x8x128_S1x16x4x8x128x256_5_5_3_3_0124_0124 none q k)
      (broadcastInDim S1x16x4x8x128x256 ![] bcast_S_S1x16x4x8x128x256 (constant S_ .f32 0x3DB504F3#32)))
    (third_q (V0 (Proc.devRef .tc main_arg0))) (third_k (V0 (Proc.devRef .tc main_arg0)))

set_option maxHeartbeats 2000000 in
theorem first_values : StableHlo.after hostOps0 V0 (Proc.devRef .tc main_v19) = vWindows (V0 (Proc.devRef .tc main_arg0)) := by
  simp only [hostOps0]
  after_results_simp
  exact third_v (V0 (Proc.devRef .tc main_arg0))

set_option maxHeartbeats 2000000 in
theorem first_mask : broadcastInDim S1x16x4x8x128x256 ![0, 1, 2, 3, 4, 5] bcast_S1x1x4x1x128x256_S1x16x4x8x128x256_0_1_2_3_4_5 (StableHlo.after hostOps0 V0 (Proc.devRef .tc main_v51)) = admitted := by
  simp only [hostOps0]
  after_results_simp
  rfl

set_option maxHeartbeats 2000000 in
theorem first_floor : StableHlo.after hostOps0 V0 (Proc.devRef .tc main_cst_5) = (constant S_ .f32 0xFF800000#32 : FVec Ideal S_ .f32) := by
  simp only [hostOps0]
  after_results_simp

set_option maxHeartbeats 2000000 in
theorem second_scores : StableHlo.after hostOps0_1 (StableHlo.after hostOps0 V0) (Proc.devRef .tc main_v52) = scores (V0 (Proc.devRef .tc main_arg0)) := by
  generalize hW : StableHlo.after hostOps0 V0 = W
  simp only [hostOps0_1]
  after_results_simp
  subst hW
  show select (broadcastInDim S1x16x4x8x128x256 ![0, 1, 2, 3, 4, 5] bcast_S1x1x4x1x128x256_S1x16x4x8x128x256_0_1_2_3_4_5 (StableHlo.after hostOps0 V0 (Proc.devRef .tc main_v51)))
    (StableHlo.after hostOps0 V0 (Proc.devRef .tc main_v22)) (broadcastInDim S1x16x4x8x128x256 ![] bcast_S_S1x16x4x8x128x256 (StableHlo.after hostOps0 V0 (Proc.devRef .tc main_cst_5))) = _
  rw [first_mask, first_dots, first_floor]
  rfl

set_option maxHeartbeats 2000000 in
theorem second_keep (b : Ref sig .tc) (h : b = main_v19 ∨ b = main_arg1 ∨ b = main_arg2 ∨ b = main_arg3 ∨ b = main_arg4 ∨ b = main_arg5) :
    StableHlo.after hostOps0_1 V0 (Proc.devRef .tc b) = V0 (Proc.devRef .tc b) := by
  rcases h with rfl | rfl | rfl | rfl | rfl | rfl <;> (simp only [hostOps0_1]; after_results_simp)

set_option maxHeartbeats 2000000 in
theorem first_keep (b : Ref sig .tc) (h : b = main_arg1 ∨ b = main_arg2 ∨ b = main_arg3 ∨ b = main_arg4 ∨ b = main_arg5) :
    StableHlo.after hostOps0 V0 (Proc.devRef .tc b) = V0 (Proc.devRef .tc b) := by
  rcases h with rfl | rfl | rfl | rfl | rfl <;> (simp only [hostOps0]; after_results_simp)

set_option maxHeartbeats 2000000 in
theorem third_total (A : FVec Ideal S512x49152 .bf16) (hs : V0 (Proc.devRef .tc main_v52) = scores A) :
    StableHlo.after hostOps0_2 V0 (Proc.devRef .tc main_v102) = lanes (total (V0 (Proc.devRef .tc main_arg3)) (V0 (Proc.devRef .tc main_arg5)) (sequenced (rowLse A))) := by
  simp only [hostOps0_2]
  after_results_simp
  rw [hs]
  rfl

set_option maxHeartbeats 2000000 in
theorem third_product (A : FVec Ideal S512x49152 .bf16) (hs : V0 (Proc.devRef .tc main_v52) = scores A) (hv : V0 (Proc.devRef .tc main_v19) = vWindows A) :
    StableHlo.after hostOps0_2 V0 (Proc.devRef .tc main_v104) = lanes (product (V0 (Proc.devRef .tc main_arg1))
      (mixed (V0 (Proc.devRef .tc main_arg3)) (V0 (Proc.devRef .tc main_arg5)) (sequenced (rowLse A)) (V0 (Proc.devRef .tc main_arg2)) (V0 (Proc.devRef .tc main_arg4)) (attnOut A))) := by
  simp only [hostOps0_2]
  after_results_simp
  rw [hs, hv]
  rfl

/-! ## What the kernel is handed -/

variable (m : (ℓ : Loc nD τ sig) → Buf (Elt Ideal) ℓ) (c : Dev nD)

theorem entry_steps (b : Ref sig .tc) : V m c b = StableHlo.after hostOps0_2 (StableHlo.after hostOps0_1 (StableHlo.after hostOps0 fun b => m (c, b))) (Proc.devRef .tc b) := rfl

theorem entry_total : V m c main_v102
    = lanes (total (m ((c : Thread nD τ).loc main_arg3)) (m ((c : Thread nD τ).loc main_arg5)) (sequenced (rowLse (m ((c : Thread nD τ).loc main_arg0))))) := by
  rw [entry_steps, third_total _ _ (second_scores _), second_keep _ main_arg3 (by simp), second_keep _ main_arg5 (by simp), first_keep _ main_arg3 (by simp), first_keep _ main_arg5 (by simp)]

theorem entry_product : V m c main_v104
    = lanes (product (m ((c : Thread nD τ).loc main_arg1)) (mixed (m ((c : Thread nD τ).loc main_arg3)) (m ((c : Thread nD τ).loc main_arg5)) (sequenced (rowLse (m ((c : Thread nD τ).loc main_arg0))))
        (m ((c : Thread nD τ).loc main_arg2)) (m ((c : Thread nD τ).loc main_arg4)) (attnOut (m ((c : Thread nD τ).loc main_arg0))))) := by
  rw [entry_steps, third_product _ _ (second_scores _) ((second_keep _ main_v19 (by simp)).trans (first_values _)), second_keep _ main_arg1 (by simp), second_keep _ main_arg2 (by simp),
    second_keep _ main_arg3 (by simp), second_keep _ main_arg4 (by simp), second_keep _ main_arg5 (by simp), first_keep _ main_arg1 (by simp), first_keep _ main_arg2 (by simp),
    first_keep _ main_arg3 (by simp), first_keep _ main_arg4 (by simp), first_keep _ main_arg5 (by simp)]

/-! ## The statistics at an index -/

theorem lanes_at (x : FVec Ideal S1x8192x8 .f32) (r : Fin 16) (n : Fin 4) (h : Fin 8) (i : Fin 128) :
    stat (statBlk (lanes x) r) n h i = x (ix3 0 (seqAt r n i) h) := by
  unfold stat statBlk lanes lane
  pointwise
  exact congrArg (fun s => x (ix3 0 s h)) (Fin.ext (by unfold seqAt; dsimp only; omega))

theorem three_at (l₁ l₄ l : FVec Ideal S1x8192x8 .f32) (s : Fin 8192) (h : Fin 8) :
    three l₁ l₄ l (ix3 0 s h) = max (max (l₁ (ix3 0 s h)) (l₄ (ix3 0 s h))) (l (ix3 0 s h)) := by
  unfold three
  pointwise

theorem mass_at (l₁ l₄ l : FVec Ideal S1x8192x8 .f32) (s : Fin 8192) (h : Fin 8) :
    mass l₁ l₄ l (ix3 0 s h) = Ideal.exp (l₁ (ix3 0 s h) - three l₁ l₄ l (ix3 0 s h)) + Ideal.exp (l₄ (ix3 0 s h) - three l₁ l₄ l (ix3 0 s h)) + Ideal.exp (l (ix3 0 s h) - three l₁ l₄ l (ix3 0 s h)) := by
  unfold mass
  generalize three l₁ l₄ l = t
  pointwise

theorem total_at (l₁ l₄ l : FVec Ideal S1x8192x8 .f32) (s : Fin 8192) (h : Fin 8) :
    total l₁ l₄ l (ix3 0 s h) = three l₁ l₄ l (ix3 0 s h) + Ideal.log (mass l₁ l₄ l (ix3 0 s h)) := by
  unfold total
  generalize three l₁ l₄ l = t, mass l₁ l₄ l = u
  pointwise

theorem share_at (e w : FVec Ideal S1x8192x8 .f32) (o : FVec Ideal S1x8192x8x128 .f32) (s : Fin 8192) (h : Fin 8) (d : Fin 128) :
    share e w o (ix4 0 s h d) = Ideal.div (e (ix3 0 s h)) (w (ix3 0 s h)) * o (ix4 0 s h d) := by
  unfold share
  pointwise

theorem mixed_at (l₁ l₄ l : FVec Ideal S1x8192x8 .f32) (o₁ o₄ o : FVec Ideal S1x8192x8x128 .f32) (s : Fin 8192) (h : Fin 8) (d : Fin 128) :
    mixed l₁ l₄ l o₁ o₄ o (ix4 0 s h d)
      = Ideal.div (Ideal.exp (l₁ (ix3 0 s h) - three l₁ l₄ l (ix3 0 s h))) (mass l₁ l₄ l (ix3 0 s h)) * o₁ (ix4 0 s h d)
        + Ideal.div (Ideal.exp (l₄ (ix3 0 s h) - three l₁ l₄ l (ix3 0 s h))) (mass l₁ l₄ l (ix3 0 s h)) * o₄ (ix4 0 s h d)
        + Ideal.div (Ideal.exp (l (ix3 0 s h) - three l₁ l₄ l (ix3 0 s h))) (mass l₁ l₄ l (ix3 0 s h)) * o (ix4 0 s h d) := by
  unfold mixed
  generalize three l₁ l₄ l = t, mass l₁ l₄ l = u
  refine (addf_apply _ _ _).trans (congrArg₂ (· + ·) ((addf_apply _ _ _).trans (congrArg₂ (· + ·) ?_ ?_)) ?_)
  all_goals exact (share_at _ _ _ s h d)

theorem product_at (g : FVec Ideal S512x16384 .bf16) (x : FVec Ideal S1x8192x8x128 .f32) (r : Fin 16) (n : Fin 4) (i : Fin 128) (h : Fin 8) :
    product g x (ix3 0 (seqAt r n i) h) = ∑ d, tile (colBlk g r) n h i d * x (ix4 0 (seqAt r n i) h d) := by
  unfold product
  generalize hs : seqAt r n i = s
  pointwise
  subst hs
  refine Finset.sum_congr rfl fun d _ => congrArg (· * _) ?_
  unfold tile colBlk seqAt
  exact congrArg g (congrArg₂ ix2 (Fin.ext (by show _ = 128 * n.val + i.val; dsimp only; omega)) (Fin.ext (by show _ = 1024 * r.val + (128 * h.val + d.val); dsimp only; omega)))

end Cert.Attn

end
-- ==== Proof.Stages.lean ====
/-
  The reference's stages at an index: the forward ones are the host's forward stages, and the cotangents are read one after
  the other, from the mixture's weights back to the gradients of the blocks and windows.
-/
module

public import proofs.«01_k».proof.Proof.Saved
public import proofs.«01_k».proof.Proof.Gen.ReferenceIdeal.Run

@[expose] public section

set_option backward.isDefEq.respectTransparency false
set_option maxRecDepth 16384

noncomputable section

namespace Cert.Attn

open Cert.ReferenceIdeal Cert.ReferenceIdeal.Gen Idealize.ShloMosaic Idealize.ShloMosaic.TcCoe Idealize.SL.Sem Idealize.ShloMosaic.WordCmp Cert.ReferenceIdeal.Value

/-! ## Sums over axes of one entry -/

theorem add_single {s t : Shape} {axes : List (Fin s.rank)} (h : s.ReducesTo axes t) (x : s.Idx → EReal) (c : EReal) (j : t.Idx) (e : s.Idx)
    (he : ∀ i, h.drop i = j ↔ i = e) : Ideal.hostReduceAdd h x c j = c + x e := by
  unfold Ideal.hostReduceAdd
  refine congrArg (c + ·) ?_
  rw [Finset.filter_congr fun i _ => he i, Finset.sum_filter, Finset.sum_ite_eq' Finset.univ e x, if_pos (Finset.mem_univ e)]

theorem fin_one (a b : Fin 1) : a.val = b.val := by omega

theorem add_a14 (x : FVec Ideal S3x1x8192x8x1 .f32) (p : Fin 3) (s : Fin 8192) (h : Fin 8) :
    Host.reduceAdd x (constant S_ .f32 0x00000000#32) reducesTo_S3x1x8192x8x1_S3x8192x8_d1_4 h_S_ (ix3 p s h) = x (ix5 p 0 s h 0) := by
  refine (add_single _ x _ _ (ix5 p 0 s h 0) fun i => ⟨fun e => ?_, fun e => ?_⟩).trans ((congrArg (· + _) Ideal.ofBits_zero_f32).trans (zero_add _))
  · funext a; apply Fin.ext
    match a with
    | ⟨0, _⟩ => exact congrArg Fin.val (congrFun e 0)
    | ⟨1, _⟩ => exact fin_one _ _
    | ⟨2, _⟩ => exact congrArg Fin.val (congrFun e 1)
    | ⟨3, _⟩ => exact congrArg Fin.val (congrFun e 2)
    | ⟨4, _⟩ => exact fin_one _ _
  · subst e
    funext b; apply Fin.ext
    match b with
    | ⟨0, _⟩ => rfl
    | ⟨1, _⟩ => rfl
    | ⟨2, _⟩ => rfl

theorem add_a01 (x : FVec Ideal S1x1x8192x8 .f32) (s : Fin 8192) (h : Fin 8) :
    Host.reduceAdd x (constant S_ .f32 0x00000000#32) reducesTo_S1x1x8192x8_S8192x8_d0_1 h_S_ (ix2 s h) = x (ix4 0 0 s h) := by
  refine (add_single _ x _ _ (ix4 0 0 s h) fun i => ⟨fun e => ?_, fun e => ?_⟩).trans ((congrArg (· + _) Ideal.ofBits_zero_f32).trans (zero_add _))
  · funext a; apply Fin.ext
    match a with
    | ⟨0, _⟩ => exact fin_one _ _
    | ⟨1, _⟩ => exact fin_one _ _
    | ⟨2, _⟩ => exact congrArg Fin.val (congrFun e 0)
    | ⟨3, _⟩ => exact congrArg Fin.val (congrFun e 1)
  · subst e
    funext b; apply Fin.ext
    match b with
    | ⟨0, _⟩ => rfl
    | ⟨1, _⟩ => rfl

theorem add_a05 (x : FVec Ideal S1x16x4x128x8x1 .f32) (r : Fin 16) (n : Fin 4) (i : Fin 128) (h : Fin 8) :
    Host.reduceAdd x (constant S_ .f32 0x00000000#32) reducesTo_S1x16x4x128x8x1_S16x4x128x8_d0_5 h_S_ (ix4 r n i h) = x (ix6 0 r n i h 0) := by
  refine (add_single _ x _ _ (ix6 0 r n i h 0) fun i => ⟨fun e => ?_, fun e => ?_⟩).trans ((congrArg (· + _) Ideal.ofBits_zero_f32).trans (zero_add _))
  · funext a; apply Fin.ext
    match a with
    | ⟨0, _⟩ => exact fin_one _ _
    | ⟨1, _⟩ => exact congrArg Fin.val (congrFun e 0)
    | ⟨2, _⟩ => exact congrArg Fin.val (congrFun e 1)
    | ⟨3, _⟩ => exact congrArg Fin.val (congrFun e 2)
    | ⟨4, _⟩ => exact congrArg Fin.val (congrFun e 3)
    | ⟨5, _⟩ => exact fin_one _ _
  · subst e
    funext b; apply Fin.ext
    match b with
    | ⟨0, _⟩ => rfl
    | ⟨1, _⟩ => rfl
    | ⟨2, _⟩ => rfl
    | ⟨3, _⟩ => rfl

theorem add_a05' (x : FVec Ideal S1x16x4x8x128x1 .f32) (r : Fin 16) (n : Fin 4) (h : Fin 8) (i : Fin 128) :
    Host.reduceAdd x (constant S_ .f32 0x00000000#32) reducesTo_S1x16x4x8x128x1_S16x4x8x128_d0_5 h_S_ (ix4 r n h i) = x (ix6 0 r n h i 0) := by
  refine (add_single _ x _ _ (ix6 0 r n h i 0) fun i => ⟨fun e => ?_, fun e => ?_⟩).trans ((congrArg (· + _) Ideal.ofBits_zero_f32).trans (zero_add _))
  · funext a; apply Fin.ext
    match a with
    | ⟨0, _⟩ => exact fin_one _ _
    | ⟨1, _⟩ => exact congrArg Fin.val (congrFun e 0)
    | ⟨2, _⟩ => exact congrArg Fin.val (congrFun e 1)
    | ⟨3, _⟩ => exact congrArg Fin.val (congrFun e 2)
    | ⟨4, _⟩ => exact congrArg Fin.val (congrFun e 3)
    | ⟨5, _⟩ => exact fin_one _ _
  · subst e
    funext b; apply Fin.ext
    match b with
    | ⟨0, _⟩ => rfl
    | ⟨1, _⟩ => rfl
    | ⟨2, _⟩ => rfl
    | ⟨3, _⟩ => rfl

theorem add_a14z (x : FVec Ideal S3x1x8192x8x1 .f32) (p : Fin 3) (s : Fin 8192) (h : Fin 8) : Ideal.hostReduceAdd reducesTo_S3x1x8192x8x1_S3x8192x8_d1_4 x 0 (ix3 p s h) = x (ix5 p 0 s h 0) :=
  (congrArg (Ideal.hostReduceAdd reducesTo_S3x1x8192x8x1_S3x8192x8_d1_4 x · (ix3 p s h)) Ideal.ofBits_zero_f32).symm.trans (add_a14 x p s h)

theorem add_a01z (x : FVec Ideal S1x1x8192x8 .f32) (s : Fin 8192) (h : Fin 8) : Ideal.hostReduceAdd reducesTo_S1x1x8192x8_S8192x8_d0_1 x 0 (ix2 s h) = x (ix4 0 0 s h) :=
  (congrArg (Ideal.hostReduceAdd reducesTo_S1x1x8192x8_S8192x8_d0_1 x · (ix2 s h)) Ideal.ofBits_zero_f32).symm.trans (add_a01 x s h)

theorem add_a05z (x : FVec Ideal S1x16x4x128x8x1 .f32) (r : Fin 16) (n : Fin 4) (i : Fin 128) (h : Fin 8) : Ideal.hostReduceAdd reducesTo_S1x16x4x128x8x1_S16x4x128x8_d0_5 x 0 (ix4 r n i h) = x (ix6 0 r n i h 0) :=
  (congrArg (Ideal.hostReduceAdd reducesTo_S1x16x4x128x8x1_S16x4x128x8_d0_5 x · (ix4 r n i h)) Ideal.ofBits_zero_f32).symm.trans (add_a05 x r n i h)

theorem add_a05'z (x : FVec Ideal S1x16x4x8x128x1 .f32) (r : Fin 16) (n : Fin 4) (h : Fin 8) (i : Fin 128) : Ideal.hostReduceAdd reducesTo_S1x16x4x8x128x1_S16x4x8x128_d0_5 x 0 (ix4 r n h i) = x (ix6 0 r n h i 0) :=
  (congrArg (Ideal.hostReduceAdd reducesTo_S1x16x4x8x128x1_S16x4x8x128_d0_5 x · (ix4 r n h i)) Ideal.ofBits_zero_f32).symm.trans (add_a05' x r n h i)

theorem add_lanes (x : FVec Ideal S1x16x4x128x8x128 .f32) (r : Fin 16) (n : Fin 4) (i : Fin 128) (h : Fin 8) :
    Ideal.hostReduceAdd reducesTo_S1x16x4x128x8x128_S1x16x4x128x8_d5 x 0 (ix5 0 r n i h) = ∑ d, x (ix6 0 r n i h d) := by
  refine (Ideal.hostReduceAdd_single _ (a := 5) (by decide) x _ _).trans ((zero_add _).trans (Finset.sum_congr rfl fun d _ => congrArg x ?_))
  funext a
  fin_cases a <;> rfl

/-! ## The forward stages -/

variable (V : Valuation τ sig (Elt Ideal))

/-- The six arguments. -/
def argA : FVec Ideal S512x49152 .bf16 := V (Proc.devRef .tc main_arg0)
def argG : FVec Ideal S512x16384 .bf16 := V (Proc.devRef .tc main_arg1)
def argO₁ : FVec Ideal S1x8192x8x128 .f32 := V (Proc.devRef .tc main_arg2)
def argL₁ : FVec Ideal S1x8192x8 .f32 := V (Proc.devRef .tc main_arg3)
def argO₄ : FVec Ideal S1x8192x8x128 .f32 := V (Proc.devRef .tc main_arg4)
def argL₄ : FVec Ideal S1x8192x8 .f32 := V (Proc.devRef .tc main_arg5)
/-- The pattern's own statistic. -/
def ownL : FVec Ideal S1x8192x8 .f32 := sequenced (rowLse (argA V))

theorem ref_q : res_main_v11 V = qBlocks (argA V) := rfl
theorem ref_k : res_main_v20 V = kWindows (argA V) := rfl
theorem ref_v : res_main_v29 V = vWindows (argA V) := rfl
theorem ref_ok : res_main_v62_1 V = admitted := rfl
theorem ref_s : res_main_v62_0 V = scores (argA V) := rfl
theorem ref_max : res_main_v63 V = rowMax (argA V) := rfl
theorem ref_p : res_main_v72 V = expScores (argA V) := rfl
theorem ref_l : res_main_v73 V = rowSum (argA V) := rfl
theorem ref_o : res_main_v75 V = weighted (argA V) := rfl
theorem ref_lT : res_main_v77 V = rowSumT (argA V) := rfl

/-! ## The mixture -/

/-- Three statistics stacked. -/
def stackL (a b c : FVec Ideal S1x8192x8 .f32) : FVec Ideal S3x1x8192x8 .f32 :=
  concatenate S3x1x8192x8 0 [⟨S1x1x8192x8, broadcastInDim S1x1x8192x8 ![1, 2, 3] bcast_S1x8192x8_S1x1x8192x8_1_2_3 a⟩,
    ⟨S1x1x8192x8, broadcastInDim S1x1x8192x8 ![1, 2, 3] bcast_S1x8192x8_S1x1x8192x8_1_2_3 b⟩,
    ⟨S1x1x8192x8, broadcastInDim S1x1x8192x8 ![1, 2, 3] bcast_S1x8192x8_S1x1x8192x8_1_2_3 c⟩]
    concatenates_S1x1x8192x8_S1x1x8192x8_S1x1x8192x8_S3x1x8192x8_d0

/-- Three outputs stacked. -/
def stackO (a b c : FVec Ideal S1x8192x8x128 .f32) : FVec Ideal S3x1x8192x8x128 .f32 :=
  concatenate S3x1x8192x8x128 0 [⟨S1x1x8192x8x128, broadcastInDim S1x1x8192x8x128 ![1, 2, 3, 4] bcast_S1x8192x8x128_S1x1x8192x8x128_1_2_3_4 a⟩,
    ⟨S1x1x8192x8x128, broadcastInDim S1x1x8192x8x128 ![1, 2, 3, 4] bcast_S1x8192x8x128_S1x1x8192x8x128_1_2_3_4 b⟩,
    ⟨S1x1x8192x8x128, broadcastInDim S1x1x8192x8x128 ![1, 2, 3, 4] bcast_S1x8192x8x128_S1x1x8192x8x128_1_2_3_4 c⟩]
    concatenates_S1x1x8192x8x128_S1x1x8192x8x128_S1x1x8192x8x128_S3x1x8192x8x128_d0

theorem ref_stackL : res_main_v96 V = stackL (argL₁ V) (argL₄ V) (ownL V) := rfl
theorem ref_stackO : res_main_v131 V = stackO (argO₁ V) (argO₄ V) (attnOut (argA V)) := rfl

/-- One of three. -/
def pick3 {α : Type} (a b c : α) (p : Fin 3) : α := if p.val < 1 then a else if p.val < 2 then b else c

theorem stackL_at (a b c : FVec Ideal S1x8192x8 .f32) (p : Fin 3) (s : Fin 8192) (h : Fin 8) :
    stackL a b c (ix4 p 0 s h) = pick3 (a (ix3 0 s h)) (b (ix3 0 s h)) (c (ix3 0 s h)) p := by
  unfold stackL
  pointwise
  unfold pick3
  match p with
  | 0 => rfl
  | 1 => rfl
  | 2 => rfl

theorem stackO_at (a b c : FVec Ideal S1x8192x8x128 .f32) (p : Fin 3) (s : Fin 8192) (h : Fin 8) (d : Fin 128) :
    stackO a b c (ix5 p 0 s h d) = pick3 (a (ix4 0 s h d)) (b (ix4 0 s h d)) (c (ix4 0 s h d)) p := by
  unfold stackO
  pointwise
  unfold pick3
  match p with
  | 0 => rfl
  | 1 => rfl
  | 2 => rfl

theorem ref_three (s : Fin 8192) (h : Fin 8) : res_main_v99 V (ix3 0 s h) = three (argL₁ V) (argL₄ V) (ownL V) (ix3 0 s h) := by
  unfold res_main_v99
  rw [ref_stackL]
  refine (Host.reduce_eq_fold_single (a := 0) (FloatOps.maximumf (F := Ideal) (φ := .f32)) _ _ _ (by decide) _ _).trans ?_
  rw [three_at]
  show Finset.univ.fold max (Ideal.ofBits .f32 0xFF800000#32) _ = _
  rw [ofBits_neg_inf]
  refine (congrArg (Finset.univ.fold max ⊥) (funext fun p => (congrArg (stackL (argL₁ V) (argL₄ V) (ownL V)) (?_ : _ = ix4 p 0 s h)).trans (stackL_at _ _ _ p s h))).trans ?_
  · funext a
    fin_cases a <;> rfl
  · rw [show (Finset.univ : Finset (Fin 3)) = {0, 1, 2} from rfl, Finset.fold_insert (by decide), Finset.fold_insert (by decide), Finset.fold_singleton]
    show max _ (max _ (max _ ⊥)) = _
    rw [max_bot_right, ← max_assoc]
    rfl

theorem ref_e (p : Fin 3) (s : Fin 8192) (h : Fin 8) :
    res_main_v119 V (ix4 p 0 s h) = Ideal.exp (pick3 (argL₁ V (ix3 0 s h)) (argL₄ V (ix3 0 s h)) (ownL V (ix3 0 s h)) p - three (argL₁ V) (argL₄ V) (ownL V) (ix3 0 s h)) := by
  unfold res_main_v119
  rw [← stackL_at, ref_stackL, ← ref_three]
  generalize stackL (argL₁ V) (argL₄ V) (ownL V) = x
  generalize hy : res_main_v99 V = y
  pointwise
  rw [ofBits_neg_inf, max_bot_left]

/-! ## The cotangents -/

/-- The incoming gradient, once for each pattern. -/
def gradAll (g : FVec Ideal S512x16384 .bf16) : FVec Ideal S3x1x8192x8x128 .f32 :=
  broadcastInDim S3x1x8192x8x128 ![1, 2, 3, 4] bcast_S1x8192x8x128_S3x1x8192x8x128_1_2_3_4 (shapeCast _ (extf .f32 g bitsLt_bf16_f32) shapeCasts_S512x16384_S1x8192x8x128)

/-- The incoming gradient's product with each pattern's output. -/
def prodAll (x y : FVec Ideal S3x1x8192x8x128 .f32) : FVec Ideal S3x1x8192x8 .f32 :=
  broadcastInDim S3x1x8192x8 ![0, 2, 3] bcast_S3x8192x8_S3x1x8192x8_0_2_3 (Host.reduceAdd (shapeCast _ (Host.reduceAdd (mulf x y) (constant S_ .f32 0x00000000#32) reducesTo_S3x1x8192x8x128_S3x1x8192x8_d4 h_S_) shapeCasts_S3x1x8192x8_S3x1x8192x8x1) (constant S_ .f32 0x00000000#32) reducesTo_S3x1x8192x8x1_S3x8192x8_d1_4 h_S_)

/-- The statistics' cotangents. -/
def cotAll (y e : FVec Ideal S3x1x8192x8 .f32) (t : FVec Ideal S1x1x8192x8 .f32) : FVec Ideal S3x1x8192x8 .f32 :=
  mulf (addf (Host.divf y (broadcastInDim S3x1x8192x8 ![0, 1, 2, 3] bcast_S1x1x8192x8_S3x1x8192x8_0_1_2_3 t)) (broadcastInDim S3x1x8192x8 ![1, 2, 3] bcast_S1x8192x8_S3x1x8192x8_1_2_3 (broadcastInDim S1x8192x8 ![1, 2] bcast_S8192x8_S1x8192x8_1_2 (Host.reduceAdd (Host.negf (shapeCast _ (Host.reduceAdd (mulf (mulf y (broadcastInDim S3x1x8192x8 ![0, 1, 2, 3] bcast_S1x1x8192x8_S3x1x8192x8_0_1_2_3 (Host.divf (broadcastInDim S1x1x8192x8 ![] bcast_S_S1x1x8192x8 (constant S_ .f32 0x3F800000#32)) (mulf t t)))) e) (constant S_ .f32 0x00000000#32) reducesTo_S3x1x8192x8_S1x8192x8_d0 h_S_) shapeCasts_S1x8192x8_S1x1x8192x8)) (constant S_ .f32 0x00000000#32) reducesTo_S1x1x8192x8_S8192x8_d0_1 h_S_)))) e

/-- The weights beside the outputs. -/
def weightAll (e : FVec Ideal S3x1x8192x8 .f32) (t : FVec Ideal S1x1x8192x8 .f32) : FVec Ideal S3x1x8192x8x1 .f32 :=
  broadcastInDim S3x1x8192x8x1 ![0, 1, 2, 3] bcast_S3x1x8192x8_S3x1x8192x8x1_0_1_2_3 (Host.divf e (broadcastInDim S3x1x8192x8 ![0, 1, 2, 3] bcast_S1x1x8192x8_S3x1x8192x8_0_1_2_3 t))

/-- The outputs' cotangents. -/
def shareAll (w : FVec Ideal S3x1x8192x8x1 .f32) (g : FVec Ideal S3x1x8192x8x128 .f32) : FVec Ideal S3x1x8192x8x128 .f32 :=
  mulf (broadcastInDim S3x1x8192x8x128 ![0, 1, 2, 3, 4] bcast_S3x1x8192x8x1_S3x1x8192x8x128_0_1_2_3_4 w) g

/-- The own output's cotangent, in blocks. -/
def ownGrad (x : FVec Ideal S3x1x8192x8x128 .f32) : FVec Ideal S1x16x4x128x8x128 .f32 :=
  shapeCast _ (transpose S1x16x512x8x128 [0, 2, 1, 3, 4] (shapeCast _ (shapeCast _ (extractStridedSlice S1x1x8192x8x128 ![2, 0, 0, 0, 0] x slices_S3x1x8192x8x128_S1x1x8192x8x128_2_0_0_0_0) shapeCasts_S1x1x8192x8x128_S1x8192x8x128) shapeCasts_S1x8192x8x128_S1x512x16x8x128) transposes_S1x512x16x8x128_S1x16x512x8x128_0_2_1_3_4) shapeCasts_S1x16x512x8x128_S1x16x4x128x8x128

/-- The own statistic's cotangent, in blocks. -/
def ownCot (x : FVec Ideal S3x1x8192x8 .f32) : FVec Ideal S1x16x4x8x128 .f32 :=
  transpose S1x16x4x8x128 [0, 1, 2, 4, 3] (shapeCast _ (transpose S1x16x512x8 [0, 2, 1, 3] (shapeCast _ (shapeCast _ (extractStridedSlice S1x1x8192x8 ![2, 0, 0, 0] x slices_S3x1x8192x8_S1x1x8192x8_2_0_0_0) shapeCasts_S1x1x8192x8_S1x8192x8) shapeCasts_S1x8192x8_S1x512x16x8) transposes_S1x512x16x8_S1x16x512x8_0_2_1_3) shapeCasts_S1x16x512x8_S1x16x4x128x8) transposes_S1x16x4x128x8_S1x16x4x8x128_0_1_2_4_3

/-- The weighted values' cotangent. -/
def overSum (w : FVec Ideal S1x16x4x128x8x128 .f32) (l : FVec Ideal S1x16x4x128x8x1 .f32) : FVec Ideal S1x16x4x8x128x128 .f32 :=
  transpose S1x16x4x8x128x128 [0, 1, 2, 4, 5, 3] (Host.divf w (broadcastInDim S1x16x4x128x8x128 ![0, 1, 2, 3, 4, 5] bcast_S1x16x4x128x8x1_S1x16x4x128x8x128_0_1_2_3_4_5 l)) transposes_S1x16x4x128x8x128_S1x16x4x8x128x128_0_1_2_4_5_3

/-- The value windows' cotangent. -/
def valueGrad (a : FVec Ideal S1x16x4x8x128x128 .f32) (p : FVec Ideal S1x16x4x8x128x256 .f32) : FVec Ideal S1x16x4x256x8x128 .f32 :=
  transpose S1x16x4x256x8x128 [0, 1, 2, 5, 3, 4] (Host.dotGeneral dot_S1x16x4x8x128x128_S1x16x4x8x128x256_S1x16x4x8x128x256_5_4_4_5_0123_0123 none a p) transposes_S1x16x4x8x128x256_S1x16x4x256x8x128_0_1_2_5_3_4

/-- The cotangent of the scores less their maximum. -/
def scoreGrad (a : FVec Ideal S1x16x4x8x128x128 .f32) (v : FVec Ideal S1x16x4x256x8x128 .f32) (k l : FVec Ideal S1x16x4x8x128 .f32) (w o : FVec Ideal S1x16x4x128x8x128 .f32) (lT : FVec Ideal S1x16x4x128x8x1 .f32) (p : FVec Ideal S1x16x4x8x128x256 .f32) : FVec Ideal S1x16x4x8x128x256 .f32 :=
  mulf (addf (Host.dotGeneral dot_S1x16x4x8x128x128_S1x16x4x256x8x128_S1x16x4x8x128x256_4_5_5_3_0123_0124 none a v) (broadcastInDim S1x16x4x8x128x256 ![0, 1, 2, 3, 4] bcast_S1x16x4x8x128_S1x16x4x8x128x256_0_1_2_3_4 (addf (Host.divf k l) (transpose S1x16x4x8x128 [0, 1, 2, 4, 3] (broadcastInDim S1x16x4x128x8 ![1, 2, 3, 4] bcast_S16x4x128x8_S1x16x4x128x8_1_2_3_4 (Host.reduceAdd (Host.negf (shapeCast _ (Host.reduceAdd (mulf (mulf w (broadcastInDim S1x16x4x128x8x128 ![0, 1, 2, 3, 4, 5] bcast_S1x16x4x128x8x1_S1x16x4x128x8x128_0_1_2_3_4_5 (Host.divf (broadcastInDim S1x16x4x128x8x1 ![] bcast_S_S1x16x4x128x8x1 (constant S_ .f32 0x3F800000#32)) (mulf lT lT)))) o) (constant S_ .f32 0x00000000#32) reducesTo_S1x16x4x128x8x128_S1x16x4x128x8_d5 h_S_) shapeCasts_S1x16x4x128x8_S1x16x4x128x8x1)) (constant S_ .f32 0x00000000#32) reducesTo_S1x16x4x128x8x1_S16x4x128x8_d0_5 h_S_)) transposes_S1x16x4x128x8_S1x16x4x8x128_0_1_2_4_3)))) p

/-- One where the score is the row's greatest. -/
def hot (s : FVec Ideal S1x16x4x8x128x256 .f32) (m : FVec Ideal S1x16x4x8x128 .f32) : FVec Ideal S1x16x4x8x128x256 .f32 :=
  uitofp .f32 (cmpf .oeq s (broadcastInDim S1x16x4x8x128x256 ![0, 1, 2, 3, 4, 5] bcast_S1x16x4x8x128x1_S1x16x4x8x128x256_0_1_2_3_4_5 (shapeCast _ m shapeCasts_S1x16x4x8x128_S1x16x4x8x128x1)))

/-- The cotangent of the products of queries and keys. -/
def dotGrad (ok : IVec S1x16x4x8x128x256 1) (x z : FVec Ideal S1x16x4x8x128x256 .f32) (k : FVec Ideal S1x16x4x8x128 .f32) : FVec Ideal S1x16x4x8x128x256 .f32 :=
  mulf (select ok (addf x (mulf (broadcastInDim S1x16x4x8x128x256 ![0, 1, 2, 3, 4] bcast_S1x16x4x8x128_S1x16x4x8x128x256_0_1_2_3_4 (Host.divf (broadcastInDim S1x16x4x8x128 ![1, 2, 3, 4] bcast_S16x4x8x128_S1x16x4x8x128_1_2_3_4 (Host.reduceAdd (addf (broadcastInDim S1x16x4x8x128x1 ![0, 1, 2, 3, 4] bcast_S1x16x4x8x128_S1x16x4x8x128x1_0_1_2_3_4 k) (shapeCast _ (Host.reduceAdd (Host.negf x) (constant S_ .f32 0x00000000#32) reducesTo_S1x16x4x8x128x256_S1x16x4x8x128_d5 h_S_) shapeCasts_S1x16x4x8x128_S1x16x4x8x128x1)) (constant S_ .f32 0x00000000#32) reducesTo_S1x16x4x8x128x1_S16x4x8x128_d0_5 h_S_)) (Host.reduceAdd z (constant S_ .f32 0x00000000#32) reducesTo_S1x16x4x8x128x256_S1x16x4x8x128_d5 h_S_))) z)) (broadcastInDim S1x16x4x8x128x256 ![] bcast_S_S1x16x4x8x128x256 (constant S_ .f32 0x00000000#32))) (broadcastInDim S1x16x4x8x128x256 ![] bcast_S_S1x16x4x8x128x256 (constant S_ .f32 0x3DB504F3#32))

/-- The key windows' cotangent. -/
def keyGrad (x : FVec Ideal S1x16x4x8x128x256 .f32) (q : FVec Ideal S1x16x4x128x8x128 .f32) : FVec Ideal S1x16x4x256x8x128 .f32 :=
  transpose S1x16x4x256x8x128 [0, 1, 2, 4, 3, 5] (Host.dotGeneral dot_S1x16x4x8x128x256_S1x16x4x128x8x128_S1x16x4x8x256x128_4_3_5_5_0123_0124 none x q) transposes_S1x16x4x8x256x128_S1x16x4x256x8x128_0_1_2_4_3_5

theorem ref_grad : res_main_v139 V = gradAll (argG V) := rfl
theorem ref_prod : res_main_v152 V = prodAll (gradAll (argG V)) (res_main_v131 V) := rfl
theorem ref_cot : res_main_v165 V = cotAll (res_main_v152 V) (res_main_v119 V) (res_main_v121 V) := rfl
theorem ref_weight : res_main_v127 V = weightAll (res_main_v119 V) (res_main_v121 V) := rfl
theorem ref_share : res_main_v141 V = shareAll (res_main_v127 V) (gradAll (argG V)) := rfl
theorem ref_ownGrad : res_main_v177 V = ownGrad (res_main_v141 V) := rfl
theorem ref_ownCot : res_main_v178 V = ownCot (res_main_v165 V) := rfl
theorem ref_overSum : res_main_v193 V = overSum (res_main_v177 V) (rowSumT (argA V)) := rfl
theorem ref_valueGrad : res_main_v196 V = valueGrad (res_main_v193 V) (expScores (argA V)) := rfl
theorem ref_scoreGrad : res_main_v199 V = scoreGrad (res_main_v193 V) (vWindows (argA V)) (res_main_v178 V) (rowSum (argA V)) (res_main_v177 V) (weighted (argA V)) (rowSumT (argA V)) (expScores (argA V)) := rfl
theorem ref_hot : res_main_v67 V = hot (scores (argA V)) (rowMax (argA V)) := rfl
theorem ref_dotGrad : res_main_v212 V = dotGrad admitted (res_main_v199 V) (res_main_v67 V) (res_main_v178 V) := rfl
theorem ref_keyGrad : res_main_v214 V = keyGrad (res_main_v212 V) (qBlocks (argA V)) := rfl

/-! ## The cotangents at an index -/

theorem add_three (x : FVec Ideal S3x1x8192x8 .f32) (s : Fin 8192) (h : Fin 8) :
    Host.reduceAdd x (constant S_ .f32 0x00000000#32) reducesTo_S3x1x8192x8_S1x8192x8_d0 h_S_ (ix3 0 s h) = x (ix4 0 0 s h) + x (ix4 1 0 s h) + x (ix4 2 0 s h) := by
  pointwise
  exact Fin.sum_univ_three _

theorem spread_at (x : FVec Ideal S1x8192x8 .f32) (s : Fin 8192) (h : Fin 8) :
    broadcastInDim S1x1x8192x8 ![1, 2, 3] bcast_S1x8192x8_S1x1x8192x8_1_2_3 x (ix4 0 0 s h) = x (ix3 0 s h) := by
  pointwise

theorem ref_mass (s : Fin 8192) (h : Fin 8) : res_main_v121 V (ix4 0 0 s h) = mass (argL₁ V) (argL₄ V) (ownL V) (ix3 0 s h) := by
  rw [mass_at]
  refine (spread_at _ s h).trans ((add_three _ s h).trans ?_)
  rw [ref_e, ref_e, ref_e]
  rfl

theorem gradAll_at (g : FVec Ideal S512x16384 .bf16) (p : Fin 3) (r : Fin 16) (n : Fin 4) (i : Fin 128) (h : Fin 8) (d : Fin 128) :
    gradAll g (ix5 p 0 (seqAt r n i) h d) = tile (colBlk g r) n h i d := by
  unfold gradAll
  generalize hs : seqAt r n i = s
  pointwise
  subst hs
  unfold tile colBlk seqAt
  exact congrArg g (congrArg₂ ix2 (Fin.ext (by show _ = 128 * n.val + i.val; dsimp only; omega)) (Fin.ext (by show _ = 1024 * r.val + (128 * h.val + d.val); dsimp only; omega)))

theorem prodAll_at (x y : FVec Ideal S3x1x8192x8x128 .f32) (p : Fin 3) (s : Fin 8192) (h : Fin 8) :
    prodAll x y (ix4 p 0 s h) = ∑ d, x (ix5 p 0 s h d) * y (ix5 p 0 s h d) := by
  unfold prodAll
  refine (by pointwise : _ = Host.reduceAdd (shapeCast S3x1x8192x8x1 (Host.reduceAdd (mulf x y) (constant S_ .f32 0x00000000#32) reducesTo_S3x1x8192x8x128_S3x1x8192x8_d4 h_S_) shapeCasts_S3x1x8192x8_S3x1x8192x8x1)
    (constant S_ .f32 0x00000000#32) reducesTo_S3x1x8192x8x1_S3x8192x8_d1_4 h_S_ (ix3 p s h)).trans ?_
  rw [add_a14]
  pointwise

theorem cotAll_at (y e : FVec Ideal S3x1x8192x8 .f32) (t : FVec Ideal S1x1x8192x8 .f32) (p : Fin 3) (s : Fin 8192) (h : Fin 8) :
    cotAll y e t (ix4 p 0 s h) = (Ideal.div (y (ix4 p 0 s h)) (t (ix4 0 0 s h))
      + -(∑ a, y (ix4 a 0 s h) * Ideal.div 1 (t (ix4 0 0 s h) * t (ix4 0 0 s h)) * e (ix4 a 0 s h))) * e (ix4 p 0 s h) := by
  unfold cotAll
  pointwise
  rw [add_a01z]
  pointwise

theorem shareAll_at (e : FVec Ideal S3x1x8192x8 .f32) (t : FVec Ideal S1x1x8192x8 .f32) (g : FVec Ideal S3x1x8192x8x128 .f32) (p : Fin 3) (s : Fin 8192) (h : Fin 8) (d : Fin 128) :
    shareAll (weightAll e t) g (ix5 p 0 s h d) = Ideal.div (e (ix4 p 0 s h)) (t (ix4 0 0 s h)) * g (ix5 p 0 s h d) := by
  unfold shareAll weightAll
  pointwise

theorem ownGrad_at (x : FVec Ideal S3x1x8192x8x128 .f32) (r : Fin 16) (n : Fin 4) (i : Fin 128) (h : Fin 8) (d : Fin 128) :
    ownGrad x (ix6 0 r n i h d) = x (ix5 2 0 (seqAt r n i) h d) := by
  unfold ownGrad
  pointwise
  exact congrArg x (congrArg (ix5 2 0 · h d) (Fin.ext (by show _ = 16 * (128 * n.val + i.val) + r.val; dsimp only; omega)))

theorem ownCot_at (x : FVec Ideal S3x1x8192x8 .f32) (r : Fin 16) (n : Fin 4) (h : Fin 8) (i : Fin 128) :
    ownCot x (ix5 0 r n h i) = x (ix4 2 0 (seqAt r n i) h) := by
  unfold ownCot
  pointwise
  exact congrArg x (congrArg (ix4 2 0 · h) (Fin.ext (by show _ = 16 * (128 * n.val + i.val) + r.val; dsimp only; omega)))

theorem overSum_at (w : FVec Ideal S1x16x4x128x8x128 .f32) (l : FVec Ideal S1x16x4x128x8x1 .f32) (r : Fin 16) (n : Fin 4) (h : Fin 8) (d i : Fin 128) :
    overSum w l (ix6 0 r n h d i) = Ideal.div (w (ix6 0 r n i h d)) (l (ix6 0 r n i h 0)) := by
  unfold overSum
  pointwise

theorem valueGrad_at (a : FVec Ideal S1x16x4x8x128x128 .f32) (p : FVec Ideal S1x16x4x8x128x256 .f32) (r : Fin 16) (n : Fin 4) (j : Fin 256) (h : Fin 8) (d : Fin 128) :
    valueGrad a p (ix6 0 r n j h d) = ∑ i, a (ix6 0 r n h d i) * p (ix6 0 r n h i j) := by
  unfold valueGrad
  pointwise

theorem keyGrad_at (x : FVec Ideal S1x16x4x8x128x256 .f32) (q : FVec Ideal S1x16x4x128x8x128 .f32) (r : Fin 16) (n : Fin 4) (j : Fin 256) (h : Fin 8) (d : Fin 128) :
    keyGrad x q (ix6 0 r n j h d) = ∑ i, x (ix6 0 r n h i j) * q (ix6 0 r n i h d) := by
  unfold keyGrad
  pointwise

theorem hot_at (s : FVec Ideal S1x16x4x8x128x256 .f32) (m : FVec Ideal S1x16x4x8x128 .f32) (r : Fin 16) (n : Fin 4) (h : Fin 8) (i : Fin 128) (j : Fin 256) :
    hot s m (ix6 0 r n h i j) = if s (ix6 0 r n h i j) = m (ix5 0 r n h i) then 1 else 0 := by
  unfold hot
  pointwise
  by_cases e : s (ix6 0 r n h i j) = m (ix5 0 r n h i)
  · rw [if_pos e, decide_eq_true e]
    show ((((1 : Nat) : ℝ) : EReal)) = 1
    rw [Nat.cast_one]; rfl
  · rw [if_neg e, decide_eq_false e]
    show ((((0 : Nat) : ℝ) : EReal)) = 0
    rw [Nat.cast_zero]; rfl

theorem scoreGrad_at (a : FVec Ideal S1x16x4x8x128x128 .f32) (v : FVec Ideal S1x16x4x256x8x128 .f32) (k l : FVec Ideal S1x16x4x8x128 .f32) (w o : FVec Ideal S1x16x4x128x8x128 .f32) (lT : FVec Ideal S1x16x4x128x8x1 .f32) (p : FVec Ideal S1x16x4x8x128x256 .f32)
    (r : Fin 16) (n : Fin 4) (h : Fin 8) (i : Fin 128) (j : Fin 256) :
    scoreGrad a v k l w o lT p (ix6 0 r n h i j) = (∑ d, a (ix6 0 r n h d i) * v (ix6 0 r n j h d)
      + (Ideal.div (k (ix5 0 r n h i)) (l (ix5 0 r n h i))
        + -(∑ d, w (ix6 0 r n i h d) * Ideal.div 1 (lT (ix6 0 r n i h 0) * lT (ix6 0 r n i h 0)) * o (ix6 0 r n i h d)))) * p (ix6 0 r n h i j) := by
  unfold scoreGrad
  pointwise
  rw [add_a05z]
  pointwise
  rw [add_lanes]
  pointwise

theorem dotGrad_at (ok : IVec S1x16x4x8x128x256 1) (x z : FVec Ideal S1x16x4x8x128x256 .f32) (k : FVec Ideal S1x16x4x8x128 .f32) (r : Fin 16) (n : Fin 4) (h : Fin 8) (i : Fin 128) (j : Fin 256) :
    dotGrad ok x z k (ix6 0 r n h i j) = Scalar.select (ok (ix6 0 r n h i j))
      ((x (ix6 0 r n h i j) + Ideal.div (k (ix5 0 r n h i) + ∑ a, -(x (ix6 0 r n h i a))) (∑ a, z (ix6 0 r n h i a)) * z (ix6 0 r n h i j)) * scale) 0 := by
  unfold dotGrad
  pointwise
  rw [add_a05'z]
  have e₁ : Ideal.hostReduceAdd reducesTo_S1x16x4x8x128x256_S1x16x4x8x128_d5 z 0 (ix5 0 r n h i) = ∑ a, z (ix6 0 r n h i a) := by
    rw [← add_keys]
    exact congrArg (Ideal.hostReduceAdd _ z · _) Ideal.ofBits_zero_f32.symm
  have e₂ : shapeCast S1x16x4x8x128x1 (Host.reduceAdd (Host.negf x) (constant S_ .f32 0x00000000#32) reducesTo_S1x16x4x8x128x256_S1x16x4x8x128_d5 h_S_)
      shapeCasts_S1x16x4x8x128_S1x16x4x8x128x1 (ix6 0 r n h i 0) = ∑ a, -(x (ix6 0 r n h i a)) := by
    refine Eq.trans ?_ (add_keys (Host.negf x) r n h i)
    generalize Host.reduceAdd (Host.negf x) (constant S_ .f32 0x00000000#32) reducesTo_S1x16x4x8x128x256_S1x16x4x8x128_d5 h_S_ = y
    pointwise
  rw [e₁]
  have e₃ : (addf (broadcastInDim S1x16x4x8x128x1 ![0, 1, 2, 3, 4] bcast_S1x16x4x8x128_S1x16x4x8x128x1_0_1_2_3_4 k)
      (shapeCast S1x16x4x8x128x1 (Host.reduceAdd (Host.negf x) (constant S_ .f32 0x00000000#32) reducesTo_S1x16x4x8x128x256_S1x16x4x8x128_d5 h_S_)
      shapeCasts_S1x16x4x8x128_S1x16x4x8x128x1)) (ix6 0 r n h i 0) = k (ix5 0 r n h i) + ∑ a, -(x (ix6 0 r n h i a)) := by
    rw [← e₂]
    generalize shapeCast S1x16x4x8x128x1 (Host.reduceAdd (Host.negf x) (constant S_ .f32 0x00000000#32) reducesTo_S1x16x4x8x128x256_S1x16x4x8x128_d5 h_S_)
      shapeCasts_S1x16x4x8x128_S1x16x4x8x128x1 = y
    pointwise
  rw [e₃]
  rfl

end Cert.Attn

end
-- ==== Proof.Results.lean ====
/-
  The reference's three results at an index: the gradients of the blocks and windows, each entry put where its place in the
  sequence stands in the array.
-/
module

public import proofs.«01_k».proof.Proof.Stages

@[expose] public section

set_option backward.isDefEq.respectTransparency false
set_option maxRecDepth 16384

noncomputable section

namespace Cert.Attn

open Cert.ReferenceIdeal Cert.ReferenceIdeal.Gen Idealize.ShloMosaic Idealize.ShloMosaic.TcCoe Idealize.SL.Sem Idealize.ShloMosaic.WordCmp Cert.ReferenceIdeal.Value

/-- A block array written back in the order of the sequence, as a matrix. -/
def written (x : FVec Ideal S1x16x4x128x8x128 .f32) : FVec Ideal S512x16384 .bf16 :=
  truncf .bf16 (shapeCast _ (shapeCast _ (transpose S1x512x16x8x128 [0, 2, 1, 3, 4] (shapeCast _ x shapeCasts_S1x16x4x128x8x128_S1x16x512x8x128) transposes_S1x16x512x8x128_S1x512x16x8x128_0_2_1_3_4) shapeCasts_S1x512x16x8x128_S1x8192x8x128) shapeCasts_S1x8192x8x128_S512x16384) bitsLt_bf16_f32

/-- The query gradients, in blocks. -/
def queryGrad (x : FVec Ideal S1x16x4x8x128x256 .f32) (k : FVec Ideal S1x16x4x256x8x128 .f32) : FVec Ideal S1x16x4x128x8x128 .f32 :=
  transpose S1x16x4x128x8x128 [0, 1, 2, 4, 3, 5] (Host.dotGeneral dot_S1x16x4x8x128x256_S1x16x4x256x8x128_S1x16x4x8x128x128_5_3_4_5_0123_0124 none x k) transposes_S1x16x4x8x128x128_S1x16x4x128x8x128_0_1_2_4_3_5

/-- A block's share of a window gradient: its own half and the next block's first half. -/
def rejoined (w : FVec Ideal S1x16x4x256x8x128 .f32) : FVec Ideal S1x16x4x128x8x128 .f32 :=
  addf (extractStridedSlice S1x16x4x128x8x128 ![0, 0, 0, 128, 0, 0] w slices_S1x16x4x256x8x128_S1x16x4x128x8x128_0_0_0_128_0_0) (pad S1x16x4x128x8x128 ![0, 0, 0, 0, 0, 0] ![0, 0, 1, 0, 0, 0] ![0, 0, 0, 0, 0, 0] (extractStridedSlice S1x16x3x128x8x128 ![0, 0, 1, 0, 0, 0] (extractStridedSlice S1x16x4x128x8x128 ![0, 0, 0, 0, 0, 0] w slices_S1x16x4x256x8x128_S1x16x4x128x8x128_0_0_0_0_0_0) slices_S1x16x4x128x8x128_S1x16x3x128x8x128_0_0_1_0_0_0) (constant S_ .f32 0x00000000#32) pads_S1x16x3x128x8x128_S1x16x4x128x8x128_000_000_010_000_000_000 h_S_)

theorem written_at (x : FVec Ideal S1x16x4x128x8x128 .f32) (a : Fin 512) (b : Fin 16384) :
    written x (ix2 a b) = x (ix6 0 ⟨b.val / 1024, by omega⟩ ⟨a.val / 128, by omega⟩ ⟨a.val % 128, by omega⟩ ⟨b.val % 1024 / 128, by omega⟩ ⟨b.val % 128, by omega⟩) := by
  unfold written
  pointwise
  exact congrArg x (congrArg (ix6 0 _ _ _ · _) (Fin.ext (by show b.val / 128 % 8 = b.val % 1024 / 128; omega)))

theorem queryGrad_at (x : FVec Ideal S1x16x4x8x128x256 .f32) (k : FVec Ideal S1x16x4x256x8x128 .f32) (r : Fin 16) (n : Fin 4) (i : Fin 128) (h : Fin 8) (d : Fin 128) :
    queryGrad x k (ix6 0 r n i h d) = ∑ j, x (ix6 0 r n h i j) * k (ix6 0 r n j h d) := by
  unfold queryGrad
  pointwise

theorem rejoined_at (w : FVec Ideal S1x16x4x256x8x128 .f32) (r : Fin 16) (n : Fin 4) (i : Fin 128) (h : Fin 8) (d : Fin 128) :
    rejoined w (ix6 0 r n i h d) = join (fun n h j d => w (ix6 0 r n j h d)) n h i d := by
  unfold rejoined join
  pointwise
  by_cases e : n.val < 3
  · rw [dif_pos e, dif_pos e]
    have e' : (⟨1 + n.val, by omega⟩ : Fin 4) = ⟨n.val + 1, by omega⟩ := Fin.ext (Nat.add_comm _ _)
    rw [e']
  · rw [dif_neg e, dif_neg e, add_zero]

end Cert.Attn

end
-- ==== Proof.RowMath.lean ====
/-
  One query row over the reals: the gradient of a softmax over an admitted set of keys, mixed with two other softmaxes through
  their logarithms, in the reference's steps and in the kernel's. The steps are given as equations on extended reals;
  every one of them is a real number, and the two gradients are the same real number.
-/
module

public import proofs.«01_k».proof.Proof.Stages

@[expose] public section

noncomputable section

namespace Cert.Attn

open Idealize.ShloMosaic

theorem coe_sum {α : Type} (s : Finset α) (f : α → ℝ) : ∑ a ∈ s, (f a : EReal) = ((∑ a ∈ s, f a : ℝ) : EReal) := by
  classical
  refine Finset.induction_on s rfl fun a t h e => ?_
  rw [Finset.sum_insert h, Finset.sum_insert h, e, EReal.coe_add]

theorem div_real (x : ℝ) {y : ℝ} (h : y ≠ 0) : Ideal.div (x : EReal) (y : EReal) = ((x / y : ℝ) : EReal) := by
  rw [Ideal.div_coe h, ← EReal.coe_mul, mul_one_div]

theorem exp_diff (x y : ℝ) : Ideal.exp ((x : EReal) - (y : EReal)) = ((Real.exp (x - y) : ℝ) : EReal) := by
  rw [← EReal.coe_sub, Ideal.exp_coe]

theorem log_real {x : ℝ} (h : 0 < x) : Ideal.log (x : EReal) = ((Real.log x : ℝ) : EReal) := by
  rw [Ideal.log_coe, if_neg (not_le.mpr h)]

theorem max_real (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The greatest of the admitted scores is one of them. -/
theorem greatest {J : Type} [Fintype J] (ok : J → Prop) [DecidablePred ok] (hok : ∃ j, ok j) (x : J → ℝ) :
    ∃ j, ok j ∧ Finset.univ.fold max ⊥ (fun j => if ok j then (x j : EReal) else ⊥) = (x j : EReal) := by
  obtain ⟨j₀, h₀⟩ := hok
  obtain ⟨j, -, hj⟩ := Finset.exists_max_image Finset.univ (fun j => if ok j then (x j : EReal) else ⊥) ⟨j₀, Finset.mem_univ _⟩
  have h : ok j := by
    by_contra e
    have := hj j₀ (Finset.mem_univ _)
    simp only [h₀, e, if_true, if_false] at this
    exact absurd (le_bot_iff.mp this) (EReal.coe_ne_bot _)
  refine ⟨j, h, ?_⟩
  rw [if_pos h] at hj
  refine le_antisymm ((Finset.fold_max_le _).mpr ⟨bot_le, fun a ha => hj a ha⟩) ((Finset.le_fold_max _).mpr (Or.inr ⟨j, Finset.mem_univ _, ?_⟩))
  rw [if_pos h]

section Row

variable {J D : Type} [Fintype J] [Fintype D]

/-- The reals behind one row. -/
theorem row (ok : J → Prop) [DecidablePred ok] (hok : ∃ j, ok j) (sc : ℝ) (y : J → ℝ) (g : D → ℝ) (v : J → D → ℝ) (o₁ o₄ : D → ℝ) (l₁ l₄ : ℝ)
    {S P : J → EReal} {μ L lse M E₁ E₄ E T : EReal} {num : D → EReal}
    (hS : ∀ j, S j = if ok j then (y j : EReal) * (sc : EReal) else ⊥)
    (hμ : μ = Finset.univ.fold max ⊥ S) (hP : ∀ j, P j = Ideal.exp (S j - μ)) (hL : L = ∑ j, P j)
    (hnum : ∀ d, num d = ∑ j, (v j d : EReal) * P j) (hlse : lse = μ + Ideal.log L)
    (hM : M = max (max (l₁ : EReal) (l₄ : EReal)) lse)
    (hE₁ : E₁ = Ideal.exp ((l₁ : EReal) - M)) (hE₄ : E₄ = Ideal.exp ((l₄ : EReal) - M)) (hE : E = Ideal.exp (lse - M)) (hT : T = E₁ + E₄ + E)
    {tot : EReal} (htot : tot = M + Ideal.log T)
    {mix : D → EReal} (hmix : ∀ d, mix d = Ideal.div E₁ T * (o₁ d : EReal) + Ideal.div E₄ T * (o₄ d : EReal) + Ideal.div E T * Ideal.div (num d) L)
    {delta : EReal} (hdelta : delta = ∑ d, (g d : EReal) * mix d)
    {go₁ go₄ go : EReal} (hgo₁ : go₁ = ∑ d, (g d : EReal) * (o₁ d : EReal)) (hgo₄ : go₄ = ∑ d, (g d : EReal) * (o₄ d : EReal))
    (hgo : go = ∑ d, (g d : EReal) * Ideal.div (num d) L)
    {W : D → EReal} (hW : ∀ d, W d = Ideal.div E T * (g d : EReal))
    {cl : EReal} (hcl : cl = (Ideal.div go T + -(go₁ * Ideal.div 1 (T * T) * E₁ + go₄ * Ideal.div 1 (T * T) * E₄ + go * Ideal.div 1 (T * T) * E)) * E)
    {A : D → EReal} (hA : ∀ d, A d = Ideal.div (W d) L)
    {sg : J → EReal} (hsg : ∀ j, sg j = (∑ d, A d * (v j d : EReal) + (Ideal.div cl L + -(∑ d, W d * Ideal.div 1 (L * L) * num d))) * P j)
    {hot : J → EReal} (hhot : ∀ j, hot j = if S j = μ then 1 else 0) :
    ∃ pr ds : J → ℝ, (∀ j, (if ok j then Ideal.exp ((y j : EReal) * (sc : EReal) - tot) else 0) = (pr j : EReal))
      ∧ (∀ j, (pr j : EReal) * ((∑ d, (g d : EReal) * (v j d : EReal)) - delta) = (ds j : EReal))
      ∧ (∀ j d, A d * P j = ((pr j * g d : ℝ) : EReal))
      ∧ (∀ j, ok j → (sg j + Ideal.div (cl + ∑ a, -(sg a)) (∑ a, hot a) * hot j) * (sc : EReal) = ((ds j * sc : ℝ) : EReal))
      ∧ (∀ j, ¬ ok j → ds j = 0) := by
  classical
  obtain ⟨j₀, h₀, e₀⟩ := greatest ok hok (fun j => y j * sc)
  have hS' : S = fun j => if ok j then ((y j * sc : ℝ) : EReal) else ⊥ := by
    funext j; rw [hS j]; simp only [EReal.coe_mul]
  generalize hm : y j₀ * sc = m at e₀
  have hμ' : μ = (m : EReal) := by rw [hμ, hS', e₀]
  -- the weights and their sum
  let p : J → ℝ := fun j => if ok j then Real.exp (y j * sc - m) else 0
  have hP' : ∀ j, P j = (p j : EReal) := fun j => by
    rw [hP j, hS', hμ']
    by_cases e : ok j
    · simp only [p, if_pos e]; rw [exp_diff]
    · simp only [p, if_neg e]; rw [EReal.bot_sub, Ideal.exp_bot, EReal.coe_zero]
  have hp0 : ∀ j, 0 ≤ p j := fun j => by simp only [p]; split_ifs <;> positivity
  generalize hl : ∑ j, p j = l
  have hlpos : 0 < l := by
    rw [← hl]
    refine Finset.sum_pos' (fun j _ => hp0 j) ⟨j₀, Finset.mem_univ _, ?_⟩
    simp only [p, if_pos h₀]; positivity
  have hL' : L = (l : EReal) := by rw [hL, ← hl, ← coe_sum]; exact Finset.sum_congr rfl fun j _ => hP' j
  have hnum' : ∀ d, num d = ((∑ j, v j d * p j : ℝ) : EReal) := fun d => by
    rw [hnum d, ← coe_sum]; exact Finset.sum_congr rfl fun j _ => by rw [hP' j, EReal.coe_mul]
  have hlse' : lse = ((m + Real.log l : ℝ) : EReal) := by rw [hlse, hμ', hL', log_real hlpos, EReal.coe_add]
  generalize hM' : max (max l₁ l₄) (m + Real.log l) = M'
  have eM : M = (M' : EReal) := by rw [hM, hlse', max_real, max_real, hM']
  generalize ha₁ : Real.exp (l₁ - M') = a₁
  generalize ha₄ : Real.exp (l₄ - M') = a₄
  generalize ha : Real.exp (m + Real.log l - M') = a
  have p₁ : 0 < a₁ := ha₁ ▸ Real.exp_pos _
  have p₄ : 0 < a₄ := ha₄ ▸ Real.exp_pos _
  have p₀ : 0 < a := ha ▸ Real.exp_pos _
  have eE₁ : E₁ = (a₁ : EReal) := by rw [hE₁, eM, exp_diff, ha₁]
  have eE₄ : E₄ = (a₄ : EReal) := by rw [hE₄, eM, exp_diff, ha₄]
  have eE : E = (a : EReal) := by rw [hE, hlse', eM, exp_diff, ha]
  generalize ht : a₁ + a₄ + a = t
  have tpos : 0 < t := by rw [← ht]; positivity
  have tne := tpos.ne'
  have lne := hlpos.ne'
  have eT : T = (t : EReal) := by rw [hT, eE₁, eE₄, eE, ← ht, EReal.coe_add, EReal.coe_add]
  have etot : tot = ((M' + Real.log t : ℝ) : EReal) := by rw [htot, eM, eT, log_real tpos, EReal.coe_add]
  -- the outputs
  let n : D → ℝ := fun d => ∑ j, v j d * p j
  have en : ∀ d, num d = (n d : EReal) := hnum'
  have eo : ∀ d, Ideal.div (num d) L = ((n d / l : ℝ) : EReal) := fun d => by rw [en, hL', div_real _ lne]
  have emix : ∀ d, mix d = ((a₁ / t * o₁ d + a₄ / t * o₄ d + a / t * (n d / l) : ℝ) : EReal) := fun d => by
    rw [hmix, eo, eE₁, eE₄, eE, eT, div_real _ tne, div_real _ tne, div_real _ tne]
    simp only [EReal.coe_add, EReal.coe_mul]
  generalize hc₁ : ∑ d, g d * o₁ d = c₁
  generalize hc₄ : ∑ d, g d * o₄ d = c₄
  generalize hc : ∑ d, g d * n d = c
  have ego₁ : go₁ = (c₁ : EReal) := by rw [hgo₁, ← hc₁, ← coe_sum]; simp only [EReal.coe_mul]
  have ego₄ : go₄ = (c₄ : EReal) := by rw [hgo₄, ← hc₄, ← coe_sum]; simp only [EReal.coe_mul]
  have ego : go = ((c / l : ℝ) : EReal) := by
    rw [hgo, ← hc, Finset.sum_div, ← coe_sum]
    exact Finset.sum_congr rfl fun d _ => by rw [eo, ← EReal.coe_mul, mul_div_assoc]
  generalize hδ : a₁ / t * c₁ + a₄ / t * c₄ + a / t * (c / l) = δ
  have edelta : delta = (δ : EReal) := by
    rw [hdelta, ← hδ, ← hc₁, ← hc₄, ← hc, Finset.sum_div, Finset.mul_sum, Finset.mul_sum, Finset.mul_sum, ← Finset.sum_add_distrib, ← Finset.sum_add_distrib, ← coe_sum]
    refine Finset.sum_congr rfl fun d _ => ?_
    rw [emix, ← EReal.coe_mul]
    congr 1; ring
  -- the reference's cotangents
  have eW : ∀ d, W d = ((a / t * g d : ℝ) : EReal) := fun d => by rw [hW, eE, eT, div_real _ tne, ← EReal.coe_mul]
  have ett : Ideal.div 1 (T * T) = ((1 / (t * t) : ℝ) : EReal) := by
    rw [eT, ← EReal.coe_mul, ← EReal.coe_one, div_real _ (mul_ne_zero tne tne)]
  have ell : Ideal.div 1 (L * L) = ((1 / (l * l) : ℝ) : EReal) := by
    rw [hL', ← EReal.coe_mul, ← EReal.coe_one, div_real _ (mul_ne_zero lne lne)]
  have ecl : cl = ((a / t * (c / l - δ) : ℝ) : EReal) := by
    rw [hcl, ett, ego₁, ego₄, ego, eE₁, eE₄, eE, eT, div_real _ tne]
    simp only [← EReal.coe_mul, ← EReal.coe_add, ← EReal.coe_neg]
    congr 1
    rw [← hδ]; field_simp; ring
  have eA : ∀ d, A d = ((a / t * g d / l : ℝ) : EReal) := fun d => by rw [hA, eW, hL', div_real _ lne]
  have egv : ∀ j, (∑ d, A d * (v j d : EReal)) = ((a / t / l * ∑ d, g d * v j d : ℝ) : EReal) := fun j => by
    rw [Finset.mul_sum, ← coe_sum]
    refine Finset.sum_congr rfl fun d _ => ?_
    rw [eA, ← EReal.coe_mul]; congr 1; ring
  have ewn : (∑ d, W d * Ideal.div 1 (L * L) * num d) = ((a / t / (l * l) * c : ℝ) : EReal) := by
    rw [← hc, Finset.mul_sum, ← coe_sum]
    refine Finset.sum_congr rfl fun d _ => ?_
    rw [eW, ell, en, ← EReal.coe_mul, ← EReal.coe_mul]; congr 1; field_simp
  have esg : ∀ j, sg j = ((a / t / l * ((∑ d, g d * v j d) - δ) * p j : ℝ) : EReal) := fun j => by
    rw [hsg, egv, ecl, hL', div_real _ lne, ← hL', ewn, hP', ← EReal.coe_neg, ← EReal.coe_add, ← EReal.coe_add, ← EReal.coe_mul]
    congr 1; field_simp; ring
  have esum : cl + ∑ b, -(sg b) = 0 := by
    have h₁ : ∑ b, -(sg b) = ((∑ b, -(a / t / l * ((∑ d, g d * v b d) - δ) * p b) : ℝ) : EReal) := by
      rw [← coe_sum]; exact Finset.sum_congr rfl fun b _ => by rw [esg, EReal.coe_neg]
    have h₂ : ∑ b, (∑ d, g d * v b d) * p b = c := by
      rw [← hc]
      simp only [n, Finset.sum_mul, Finset.mul_sum]
      rw [Finset.sum_comm]
      exact Finset.sum_congr rfl fun d _ => Finset.sum_congr rfl fun b _ => by ring
    have h₃ : ∑ b, -(a / t / l * ((∑ d, g d * v b d) - δ) * p b) = -(a / t / l * (c - δ * l)) := by
      rw [← h₂, ← hl, Finset.sum_neg_distrib, Finset.mul_sum, ← Finset.sum_sub_distrib, Finset.mul_sum]
      exact congrArg _ (Finset.sum_congr rfl fun b _ => by ring)
    rw [h₁, h₃, ecl, ← EReal.coe_add, ← EReal.coe_zero]
    congr 1; field_simp; ring
  have ehot : ∃ k : ℝ, 0 < k ∧ ∑ b, hot b = (k : EReal) := by
    refine ⟨∑ b, if S b = μ then 1 else 0, ?_, ?_⟩
    · refine Finset.sum_pos' (fun b _ => by split_ifs <;> norm_num) ⟨j₀, Finset.mem_univ _, ?_⟩
      have : S j₀ = μ := by rw [hS', hμ']; simp only [if_pos h₀, hm]
      rw [if_pos this]; norm_num
    · rw [← coe_sum]
      exact Finset.sum_congr rfl fun b _ => by rw [hhot]; split_ifs <;> rfl
  obtain ⟨k, hk, ek⟩ := ehot
  -- the kernel's probabilities
  have key : ∀ x : ℝ, Real.exp (x - (M' + Real.log t)) = a / t / l * Real.exp (x - m) := fun x => by
    rw [← ha, ← sub_sub, Real.exp_sub _ (Real.log t), Real.exp_log tpos, show m + Real.log l - M' = (m - M') + Real.log l by ring, Real.exp_add, Real.exp_log hlpos,
      show x - M' = (x - m) + (m - M') by ring, Real.exp_add]
    field_simp
  refine ⟨fun j => a / t / l * p j, fun j => a / t / l * p j * ((∑ d, g d * v j d) - δ), fun j => ?_, fun j => ?_, fun j d => ?_, fun j hj => ?_, fun j hj => ?_⟩
  · by_cases e : ok j
    · simp only [p, if_pos e]
      rw [← EReal.coe_mul, etot, exp_diff, key]
    · simp only [p, if_neg e]; rw [mul_zero, EReal.coe_zero]
  · rw [edelta, EReal.coe_mul (a / t / l * p j), EReal.coe_sub, ← coe_sum]
    simp only [EReal.coe_mul]
  · rw [eA, hP', ← EReal.coe_mul]; congr 1; ring
  · rw [esum, ek, ← EReal.coe_zero, div_real _ hk.ne', zero_div, EReal.coe_zero, zero_mul, add_zero, esg, ← EReal.coe_mul]
    congr 1; ring
  · simp only [p, if_neg hj]; ring

end Row

end Cert.Attn

end
-- ==== Proof.Equation.lean ====
/-
  The equation: on real arguments the kernel's three gradients are the reference's.
-/
module

public import proofs.«01_k».proof.Proof.Results
public import proofs.«01_k».proof.Proof.RowMath

@[expose] public section

set_option maxRecDepth 16384

noncomputable section

namespace Cert.Attn

open Cert.ReferenceIdeal Cert.ReferenceIdeal.Gen Idealize.ShloMosaic Idealize.ShloMosaic.TcCoe Idealize.SL.Sem Idealize.ShloMosaic.WordCmp Cert.ReferenceIdeal.Value

/-- A real number among the extended ones. -/
def Real' (x : EReal) : Prop := x = (x.toReal : EReal)

theorem real_coe (x : ℝ) : Real' (x : EReal) := by unfold Real'; rw [EReal.toReal_coe]

theorem real_zero : Real' 0 := real_coe 0

theorem scale_real : Real' scale := by
  unfold scale
  have : ∃ x : ℝ, Ideal.ofBits .f32 0x3DB504F3#32 = (x : EReal) := by
    simp [Ideal.ofBits, Ideal.ieee, -EReal.coe_mul]
  obtain ⟨x, e⟩ := this
  rw [e]; exact real_coe x

theorem tile_real {x : Vec Ideal Cert.KernelIdeal.S512x1024 .bf16} (hx : ∀ y, Real' (x y)) (s : Fin 4) (h : Fin 8) (i d : Fin 128) : Real' (tile x s h i d) := hx _

theorem window_real {x : Vec Ideal Cert.KernelIdeal.S512x1024 .bf16} (hx : ∀ y, Real' (x y)) (s : Fin 4) (h : Fin 8) (j : Fin 256) (d : Fin 128) : Real' (window x s h j d) := by
  unfold window
  split_ifs
  · exact real_zero
  · exact hx _

theorem sum_products {α : Type} [Fintype α] {x y : α → EReal} (hx : ∀ a, Real' (x a)) (hy : ∀ a, Real' (y a)) :
    ∑ a, x a * y a = ((∑ a, (x a).toReal * (y a).toReal : ℝ) : EReal) := by
  rw [← coe_sum]
  exact Finset.sum_congr rfl fun a _ => by rw [EReal.coe_mul, ← hx a, ← hy a]

variable (V : Valuation Cert.ReferenceIdeal.τ Cert.ReferenceIdeal.sig (Elt Ideal))

/-- All arguments are real. -/
structure AllReal : Prop where
  A : ∀ y, Real' (argA V y)
  G : ∀ y, Real' (argG V y)
  O₁ : ∀ y, Real' (argO₁ V y)
  L₁ : ∀ y, Real' (argL₁ V y)
  O₄ : ∀ y, Real' (argO₄ V y)
  L₄ : ∀ y, Real' (argL₄ V y)

/-- The kernel's row statistic. -/
abbrev statV : FVec Ideal S1x8192x8 .f32 := total (argL₁ V) (argL₄ V) (ownL V)
/-- The kernel's row delta. -/
abbrev deltaV : FVec Ideal S1x8192x8 .f32 := product (argG V) (mixed (argL₁ V) (argL₄ V) (ownL V) (argO₁ V) (argO₄ V) (attnOut (argA V)))

/-- The cotangent of the weighted values. -/
abbrev refA : FVec Ideal S1x16x4x8x128x128 .f32 := res_main_v193 V
/-- The cotangent of the products of queries and keys. -/
abbrev refD : FVec Ideal S1x16x4x8x128x256 .f32 := res_main_v212 V
/-- The incoming gradient against each output. -/
abbrev refGo : FVec Ideal S3x1x8192x8 .f32 := res_main_v152 V
/-- The own output's cotangent. -/
abbrev refW : FVec Ideal S1x16x4x128x8x128 .f32 := res_main_v177 V

theorem gradAll_tile (p : Fin 3) (r : Fin 16) (n : Fin 4) (i : Fin 128) (h : Fin 8) (o : Fin 3 → Fin 128 → EReal)
    (ho : ∀ d, res_main_v131 V (ix5 p 0 (seqAt r n i) h d) = o p d) :
    refGo V (ix4 p 0 (seqAt r n i) h) = ∑ d, tile (colBlk (argG V) r) n h i d * o p d := by
  unfold refGo
  rw [ref_prod, prodAll_at]
  exact Finset.sum_congr rfl fun d _ => by rw [gradAll_at, ho]

theorem ownGrad_row (r : Fin 16) (n : Fin 4) (i : Fin 128) (h : Fin 8) (d : Fin 128) :
    refW V (ix6 0 r n i h d) = Ideal.div (Ideal.exp (ownL V (ix3 0 (seqAt r n i) h) - three (argL₁ V) (argL₄ V) (ownL V) (ix3 0 (seqAt r n i) h)))
      (mass (argL₁ V) (argL₄ V) (ownL V) (ix3 0 (seqAt r n i) h)) * tile (colBlk (argG V) r) n h i d := by
  unfold refW
  rw [ref_ownGrad, ownGrad_at, ref_share, ref_weight, shareAll_at, ref_e, ref_mass, gradAll_at]
  rfl

/-- One row of the two programs. -/
theorem row_of (H : AllReal V) (r : Fin 16) (n : Fin 4) (h : Fin 8) (i : Fin 128) :
    ∃ pr ds : Fin 256 → ℝ,
      (∀ j, prob (tile (packedBlk (argA V) 0 r) n h) (window (packedBlk (argA V) 1 r) n h) (stat (statBlk (lanes (statV V)) r) n h) n i j = (pr j : EReal))
      ∧ (∀ j, dsc (tile (packedBlk (argA V) 0 r) n h) (tile (colBlk (argG V) r) n h) (window (packedBlk (argA V) 1 r) n h) (window (packedBlk (argA V) 2 r) n h)
          (stat (statBlk (lanes (statV V)) r) n h) (stat (statBlk (lanes (deltaV V)) r) n h) n i j = (ds j : EReal))
      ∧ (∀ j d, refA V (ix6 0 r n h d i) * expScores (argA V) (ix6 0 r n h i j) = ((pr j * (tile (colBlk (argG V) r) n h i d).toReal : ℝ) : EReal))
      ∧ (∀ j, refD V (ix6 0 r n h i j) = ((ds j * scale.toReal : ℝ) : EReal)) := by
  have hq := tile_real (x := packedBlk (argA V) 0 r) (fun _ => H.A _) n h i
  have hk := window_real (x := packedBlk (argA V) 1 r) (fun _ => H.A _) n h
  have hv := window_real (x := packedBlk (argA V) 2 r) (fun _ => H.A _) n h
  have hg := tile_real (x := colBlk (argG V) r) (fun _ => H.G _) n h i
  have hl₁ := H.L₁ (ix3 0 (seqAt r n i) h)
  have hl₄ := H.L₄ (ix3 0 (seqAt r n i) h)
  have ho₁ := fun d => H.O₁ (ix4 0 (seqAt r n i) h d)
  have ho₄ := fun d => H.O₄ (ix4 0 (seqAt r n i) h d)
  have hsc := scale_real
  have hg' : ∀ d, tile (colBlk (argG V) r) n h i d = ((tile (colBlk (argG V) r) n h i d).toReal : EReal) := hg
  have hv' : ∀ j d, window (packedBlk (argA V) 2 r) n h j d = ((window (packedBlk (argA V) 2 r) n h j d).toReal : EReal) := hv
  unfold Real' at hl₁ hl₄ ho₁ ho₄ hsc
  have hok : ∃ j : Fin 256, Ok n i j := ⟨⟨i.val + 128, by omega⟩, ⟨Nat.le_add_right _ _, le_refl _⟩, fun _ => Nat.le_add_left _ _⟩
  have hy : ∀ j, ∑ d, tile (packedBlk (argA V) 0 r) n h i d * window (packedBlk (argA V) 1 r) n h j d
      = ((∑ d, (tile (packedBlk (argA V) 0 r) n h i d).toReal * (window (packedBlk (argA V) 1 r) n h j d).toReal : ℝ) : EReal) := fun j => sum_products hq (hk j)
  obtain ⟨pr, ds, e₁, e₂, e₃, e₄, e₅⟩ := row (fun j => Ok n i j) hok scale.toReal
    (fun j => ∑ d, (tile (packedBlk (argA V) 0 r) n h i d).toReal * (window (packedBlk (argA V) 1 r) n h j d).toReal)
    (fun d => (tile (colBlk (argG V) r) n h i d).toReal) (fun j d => (window (packedBlk (argA V) 2 r) n h j d).toReal)
    (fun d => (argO₁ V (ix4 0 (seqAt r n i) h d)).toReal) (fun d => (argO₄ V (ix4 0 (seqAt r n i) h d)).toReal)
    (argL₁ V (ix3 0 (seqAt r n i) h)).toReal (argL₄ V (ix3 0 (seqAt r n i) h)).toReal
    (S := fun j => scores (argA V) (ix6 0 r n h i j)) (P := fun j => expScores (argA V) (ix6 0 r n h i j))
    (μ := rowMax (argA V) (ix5 0 r n h i)) (L := rowSum (argA V) (ix5 0 r n h i)) (lse := ownL V (ix3 0 (seqAt r n i) h))
    (M := three (argL₁ V) (argL₄ V) (ownL V) (ix3 0 (seqAt r n i) h))
    (T := mass (argL₁ V) (argL₄ V) (ownL V) (ix3 0 (seqAt r n i) h))
    (num := fun d => weighted (argA V) (ix6 0 r n i h d))
    (hS := fun j => by rw [← hsc, ← hy]; exact scores_at _ r n h i j)
    (hμ := rowMax_at _ r n h i) (hP := fun j => expScores_at _ r n h i j) (hL := rowSum_at _ r n h i)
    (hnum := fun d => by simp only [← hv']; exact weighted_at _ r n i h d)
    (hlse := (sequenced_at _ r n i h).trans (rowLse_at _ r n i h))
    (hM := by rw [← hl₁, ← hl₄]; exact three_at _ _ _ _ _)
    (hE₁ := rfl) (hE₄ := rfl) (hE := rfl)
    (hT := by rw [← hl₁, ← hl₄]; exact mass_at _ _ _ _ _)
    (tot := statV V (ix3 0 (seqAt r n i) h)) (htot := total_at _ _ _ _ _)
    (mix := fun d => mixed (argL₁ V) (argL₄ V) (ownL V) (argO₁ V) (argO₄ V) (attnOut (argA V)) (ix4 0 (seqAt r n i) h d))
    (hmix := fun d => by rw [← hl₁, ← hl₄, ← ho₁, ← ho₄, ← attnOut_at]; exact mixed_at _ _ _ _ _ _ _ _ _)
    (delta := deltaV V (ix3 0 (seqAt r n i) h)) (hdelta := by simp only [← hg']; exact product_at _ _ r n i h)
    (go₁ := refGo V (ix4 0 0 (seqAt r n i) h)) (go₄ := refGo V (ix4 1 0 (seqAt r n i) h)) (go := refGo V (ix4 2 0 (seqAt r n i) h))
    (hgo₁ := by
      simp only [← hg', ← ho₁]
      exact gradAll_tile V 0 r n i h (fun _ d => argO₁ V (ix4 0 (seqAt r n i) h d)) fun d => by rw [ref_stackO, stackO_at]; rfl)
    (hgo₄ := by
      simp only [← hg', ← ho₄]
      exact gradAll_tile V 1 r n i h (fun _ d => argO₄ V (ix4 0 (seqAt r n i) h d)) fun d => by rw [ref_stackO, stackO_at]; rfl)
    (hgo := by
      simp only [← hg']
      exact gradAll_tile V 2 r n i h (fun _ d => Ideal.div (weighted (argA V) (ix6 0 r n i h d)) (rowSum (argA V) (ix5 0 r n h i))) fun d => by
        rw [ref_stackO, stackO_at, ← attnOut_at]; rfl)
    (W := fun d => refW V (ix6 0 r n i h d)) (hW := fun d => by rw [← hg']; exact ownGrad_row V r n i h d)
    (cl := res_main_v178 V (ix5 0 r n h i))
    (hcl := by
      unfold refGo
      rw [ref_ownCot, ownCot_at, ref_cot, cotAll_at, Fin.sum_univ_three, ref_e, ref_e, ref_e, ref_mass, ← hl₁, ← hl₄]
      rfl)
    (A := fun d => refA V (ix6 0 r n h d i))
    (hA := fun d => by unfold refA refW; rw [ref_overSum, overSum_at, rowSumT_at])
    (sg := fun j => res_main_v199 V (ix6 0 r n h i j))
    (hsg := fun j => by
      simp only [← hv']
      unfold refA refW
      rw [ref_scoreGrad, scoreGrad_at, rowSumT_at]
      simp only [vWindows_at])
    (hot := fun j => res_main_v67 V (ix6 0 r n h i j)) (hhot := fun j => by rw [ref_hot, hot_at])
  refine ⟨pr, ds, fun j => ?_, fun j => ?_, e₃, fun j => ?_⟩
  · unfold prob
    rw [← e₁, hy, ← hsc, lanes_at]
  · unfold dsc prob
    rw [← e₂, ← e₁, hy, ← hsc, lanes_at, lanes_at]
    simp only [← hg', ← hv']
  · unfold refD
    rw [ref_dotGrad, dotGrad_at, admitted_at]
    by_cases hj : Ok n i j
    · rw [decide_eq_true hj, ← e₄ j hj, ← hsc]
      rfl
    · rw [decide_eq_false hj, e₅ j hj, zero_mul]
      rfl

theorem fromTiles_at (f : Fin 4 → Fin 8 → Fin 128 → Fin 128 → EReal) (a : Fin 512) (b : Fin 1024) :
    fromTiles f (ix2 a b) = f ⟨a.val / 128, by omega⟩ ⟨b.val / 128, by omega⟩ ⟨a.val % 128, by omega⟩ ⟨b.val % 128, by omega⟩ := rfl

/-- An array written in the order of the sequence is the columns of its tiles. -/
theorem written_eq (x : FVec Ideal S1x16x4x128x8x128 .f32) (f : Fin 16 → Fin 4 → Fin 8 → Fin 128 → Fin 128 → EReal)
    (hx : ∀ r n i h d, x (ix6 0 r n i h d) = f r n h i d) : written x = fromCols fun r => fromTiles (f r) := by
  refine funext fun z => ?_
  obtain ⟨a, b, rfl⟩ : ∃ (a : Fin 512) (b : Fin 16384), z = ix2 a b := ⟨z 0, z 1, by funext k; fin_cases k <;> rfl⟩
  rw [written_at, hx]
  show _ = f _ _ _ _ ⟨b.val % 1024 % 128, _⟩
  have e : b.val % 1024 % 128 = b.val % 128 := by omega
  exact congrArg (f _ _ _ _) (Fin.ext e.symm)

theorem real_products {α : Type} [Fintype α] {x y : α → EReal} {u : α → ℝ} (hx : ∀ a, x a = (u a : EReal)) (hy : ∀ a, Real' (y a)) :
    ∑ a, x a * y a = ((∑ a, u a * (y a).toReal : ℝ) : EReal) := by
  rw [← coe_sum]
  exact Finset.sum_congr rfl fun a _ => by rw [EReal.coe_mul, ← hy a, hx a]

/-- The scale outside the sum or inside. -/
theorem scaled_sum {α : Type} [Fintype α] {x x' y : α → EReal} (hx : ∀ a, ∃ u : ℝ, x a = (u : EReal) ∧ x' a = ((u * scale.toReal : ℝ) : EReal)) (hy : ∀ a, Real' (y a)) :
    ∑ a, x' a * y a = (∑ a, x a * y a) * scale := by
  choose u h₁ h₂ using hx
  have hs : scale = (scale.toReal : EReal) := scale_real
  rw [real_products h₁ hy, real_products h₂ hy, hs, ← EReal.coe_mul, Finset.sum_mul, EReal.toReal_coe]
  exact congrArg _ (Finset.sum_congr rfl fun a _ => by ring)

/-- The query gradients. -/
theorem dq_eq (H : AllReal V) : written (queryGrad (refD V) (kWindows (argA V)))
    = fromCols (dqC (argA V) (argG V) (lanes (statV V)) (lanes (deltaV V))) := by
  refine written_eq _ (fun r => dqB (packedBlk (argA V) 0 r) (packedBlk (argA V) 1 r) (packedBlk (argA V) 2 r) (colBlk (argG V) r)
    (statBlk (lanes (statV V)) r) (statBlk (lanes (deltaV V)) r)) fun r n i h d => ?_
  obtain ⟨pr, ds, e₁, e₂, e₃, e₄⟩ := row_of V H r n h i
  rw [queryGrad_at]
  unfold dqB dqR
  simp only [kWindows_at]
  exact scaled_sum (fun j => ⟨ds j, e₂ j, e₄ j⟩) (fun j => window_real (fun _ => H.A _) n h j d)

/-- The key gradients. -/
theorem dk_eq (H : AllReal V) : written (rejoined (keyGrad (refD V) (qBlocks (argA V))))
    = fromCols (dkC (argA V) (argG V) (lanes (statV V)) (lanes (deltaV V))) := by
  refine written_eq _ (fun r => join (dkW (packedBlk (argA V) 0 r) (packedBlk (argA V) 1 r) (packedBlk (argA V) 2 r) (colBlk (argG V) r)
    (statBlk (lanes (statV V)) r) (statBlk (lanes (deltaV V)) r))) fun r n i h d => ?_
  rw [rejoined_at]
  refine congrArg (join · n h i d) (funext fun n => funext fun h => funext fun j => funext fun d => ?_)
  rw [keyGrad_at]
  unfold dkW dkR
  simp only [qBlocks_at]
  refine scaled_sum (fun i => ?_) (fun i => tile_real (fun _ => H.A _) n h i d)
  obtain ⟨pr, ds, e₁, e₂, e₃, e₄⟩ := row_of V H r n h i
  exact ⟨ds j, e₂ j, e₄ j⟩

/-- The value gradients. -/
theorem dv_eq (H : AllReal V) : written (rejoined (valueGrad (refA V) (expScores (argA V))))
    = fromCols (dvC (argA V) (argG V) (lanes (statV V))) := by
  refine written_eq _ (fun r => join (dvW (packedBlk (argA V) 0 r) (packedBlk (argA V) 1 r) (colBlk (argG V) r) (statBlk (lanes (statV V)) r))) fun r n i h d => ?_
  rw [rejoined_at]
  refine congrArg (join · n h i d) (funext fun n => funext fun h => funext fun j => funext fun d => ?_)
  rw [valueGrad_at]
  unfold dvW dvR
  refine Finset.sum_congr rfl fun i _ => ?_
  obtain ⟨pr, ds, e₁, e₂, e₃, e₄⟩ := row_of V H r n h i
  have hg : tile (colBlk (argG V) r) n h i d = ((tile (colBlk (argG V) r) n h i d).toReal : EReal) := tile_real (x := colBlk (argG V) r) (fun _ => H.G _) n h i d
  rw [e₃, e₁, EReal.coe_mul, ← hg]

end Cert.Attn

end
-- ==== Proof.Agree.lean ====
/-
  The two runs compared: the precondition makes every argument entry a real number, and then both programs end with the same
  three gradients.
-/
module

public import proofs.«01_k».proof.Defs
public import proofs.«01_k».proof.Proof.Gen.Pre_finite
public import proofs.«01_k».proof.Proof.Equation

@[expose] public section

set_option maxRecDepth 16384

noncomputable section

namespace Cert.Attn

open Idealize.ShloMosaic Idealize.ShloMosaic.TcCoe Idealize.SL.Sem Idealize.ShloMosaic.WordCmp

/-- A magnitude below infinity belongs to a real number. -/
theorem real_of_below (x : EReal) (h : max x (-x) < ⊤) : Real' x := by
  induction x with
  | bot => rw [EReal.neg_bot, max_bot_left] at h; exact absurd h (lt_irrefl _)
  | top => rw [max_top_left] at h; exact absurd h (lt_irrefl _)
  | coe x => exact real_coe x

theorem ofBits_inf : Ideal.ofBits .f32 0x7F800000#32 = ⊤ := by simp [Ideal.ofBits, Ideal.ieee]

theorem real_of_bit (x : EReal) (h : FloatOps.cmpf (F := Ideal) (φ := .f32) .olt (max x (-x)) (Ideal.ofBits .f32 0x7F800000#32) = 1#1) : Real' x := by
  rw [ofBits_inf] at h
  refine real_of_below x ?_
  by_contra e
  have : FloatOps.cmpf (F := Ideal) (φ := .f32) .olt (max x (-x)) ⊤ = BitVec.ofBool (decide (max x (-x) < ⊤)) := rfl
  rw [this, decide_eq_false e] at h
  exact absurd h (by decide)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem allReal (c : Dev Cert.KernelIdeal.nD) (hp : Cert.Pre_KernelIdeal_finite (hPre_finite := Cert.Pre_finite.Gen.facts) m)
    (V : Valuation Cert.ReferenceIdeal.τ Cert.ReferenceIdeal.sig (Elt Ideal))
    (h0 : argA V = m ((c.tc : Thread Cert.KernelIdeal.nD Cert.KernelIdeal.τ).loc Cert.KernelIdeal.main_arg0))
    (h1 : argG V = m ((c.tc : Thread Cert.KernelIdeal.nD Cert.KernelIdeal.τ).loc Cert.KernelIdeal.main_arg1))
    (h2 : argO₁ V = m ((c.tc : Thread Cert.KernelIdeal.nD Cert.KernelIdeal.τ).loc Cert.KernelIdeal.main_arg2))
    (h3 : argL₁ V = m ((c.tc : Thread Cert.KernelIdeal.nD Cert.KernelIdeal.τ).loc Cert.KernelIdeal.main_arg3))
    (h4 : argO₄ V = m ((c.tc : Thread Cert.KernelIdeal.nD Cert.KernelIdeal.τ).loc Cert.KernelIdeal.main_arg4))
    (h5 : argL₄ V = m ((c.tc : Thread Cert.KernelIdeal.nD Cert.KernelIdeal.τ).loc Cert.KernelIdeal.main_arg5)) : AllReal V := by
  obtain ⟨p0, p1, p2, p3, p4, p5⟩ := hp c
  exact ⟨fun y => h0 ▸ real_of_bit _ (congrFun p0 y), fun y => h1 ▸ real_of_bit _ (congrFun p1 y), fun y => h2 ▸ real_of_bit _ (congrFun p2 y),
    fun y => h3 ▸ real_of_bit _ (congrFun p3 y), fun y => h4 ▸ real_of_bit _ (congrFun p4 y), fun y => h5 ▸ real_of_bit _ (congrFun p5 y)⟩

/-- The reference's arguments at the launch, on one device. -/
abbrev atLaunch (c : Dev Cert.ReferenceIdeal.nD) : Valuation Cert.ReferenceIdeal.τ Cert.ReferenceIdeal.sig (Elt Ideal) := StableHlo.launchContents m' c

/-- The reference's run, its results in the stages' words. -/
theorem ref_results (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = written (queryGrad (refD (atLaunch m' c)) (kWindows (argA (atLaunch m' c))))
          ∧ r.2.mem ((c.tc : Thread Cert.ReferenceIdeal.nD Cert.ReferenceIdeal.τ).loc Cert.ReferenceIdeal.main_v241) = written (rejoined (keyGrad (refD (atLaunch m' c)) (qBlocks (argA (atLaunch m' c)))))
          ∧ r.2.mem ((c.tc : Thread Cert.ReferenceIdeal.nD Cert.ReferenceIdeal.τ).loc Cert.ReferenceIdeal.main_v243) = written (rejoined (valueGrad (refA (atLaunch m' c)) (expScores (argA (atLaunch m' c)))))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  Cert.ReferenceIdeal.Value.run m' g'

section Arrays

variable (c : Dev Cert.KernelIdeal.nD) (V : Valuation Cert.ReferenceIdeal.τ Cert.ReferenceIdeal.sig (Elt Ideal)) (H : AllReal V)
    (h0 : argA V = m ((c.tc : Thread Cert.KernelIdeal.nD Cert.KernelIdeal.τ).loc Cert.KernelIdeal.main_arg0))
    (h1 : argG V = m ((c.tc : Thread Cert.KernelIdeal.nD Cert.KernelIdeal.τ).loc Cert.KernelIdeal.main_arg1))
    (h2 : argO₁ V = m ((c.tc : Thread Cert.KernelIdeal.nD Cert.KernelIdeal.τ).loc Cert.KernelIdeal.main_arg2))
    (h3 : argL₁ V = m ((c.tc : Thread Cert.KernelIdeal.nD Cert.KernelIdeal.τ).loc Cert.KernelIdeal.main_arg3))
    (h4 : argO₄ V = m ((c.tc : Thread Cert.KernelIdeal.nD Cert.KernelIdeal.τ).loc Cert.KernelIdeal.main_arg4))
    (h5 : argL₄ V = m ((c.tc : Thread Cert.KernelIdeal.nD Cert.KernelIdeal.τ).loc Cert.KernelIdeal.main_arg5))

include h0 h3 h5 in
theorem handed_stat : Cert.KernelIdeal.Gen.V m c Cert.KernelIdeal.main_v102 = lanes (statV V) := by
  rw [entry_total, ← h0, ← h3, ← h5]
  rfl

include h0 h1 h2 h3 h4 h5 in
theorem handed_delta : Cert.KernelIdeal.Gen.V m c Cert.KernelIdeal.main_v104 = lanes (deltaV V) := by
  rw [entry_product, ← h0, ← h1, ← h2, ← h3, ← h4, ← h5]
  rfl

include H h0 h1 h2 h3 h4 h5 in
theorem same_dq : written (queryGrad (refD V) (kWindows (argA V))) = (Cert.KernelIdeal.Gen.dats m 0 c).arrAt 6 Cert.KernelIdeal.cfg0.N := by
  rw [dq_eq V H, array_dq, handed_stat m c V h0 h3 h5, handed_delta m c V h0 h1 h2 h3 h4 h5, h0, h1]

include H h0 h1 h2 h3 h4 h5 in
theorem same_dk : written (rejoined (keyGrad (refD V) (qBlocks (argA V)))) = (Cert.KernelIdeal.Gen.dats m 0 c).arrAt 7 Cert.KernelIdeal.cfg0.N := by
  rw [dk_eq V H, array_dk, handed_stat m c V h0 h3 h5, handed_delta m c V h0 h1 h2 h3 h4 h5, h0, h1]

include H h0 h1 h3 h5 in
theorem same_dv : written (rejoined (valueGrad (refA V) (expScores (argA V)))) = (Cert.KernelIdeal.Gen.dats m 0 c).arrAt 8 Cert.KernelIdeal.cfg0.N := by
  rw [dv_eq V H, array_dv, handed_stat m c V h0 h3 h5, h0, h1]

end Arrays

set_option maxHeartbeats 2000000 in
theorem agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp he
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m g, ?_⟩
  refine (θ_run _ _ _).mono (fun r h c => ?_) (ref_results m' g')
  obtain ⟨r0, r1, r2, rest⟩ := h c
  obtain ⟨e0, e1, e2, e3, e4, e5⟩ := he c
  have H := allReal m c hp (atLaunch m' c) e0 e1 e2 e3 e4 e5
  exact ⟨r0.trans (same_dq m c _ H e0 e1 e2 e3 e4 e5), r1.trans (same_dk m c _ H e0 e1 e2 e3 e4 e5), r2.trans (same_dv m c _ H e0 e1 e3 e5), rest⟩

end Cert.Attn

end
-- ==== Proof.MlpDown.lean ====
/-
  The gradient of the MLP's pre-activation. A grid point multiplies a block of rows of the gradient with a block of rows of
  the second weight and scales the product by the activation's slope; the 64 points' blocks are the whole array. The
  reference differentiates the squared positive part: its slope is twice the positive part where the pre-activation is
  positive, and zero elsewhere, where twice the positive part is zero as well.
-/
module

public import proofs.«01_k».proof.Proof.Parts
public import proofs.«01_k».proof.Proof.Gen.Kernel2Ideal.Value
public import proofs.«01_k».proof.Proof.Gen.Reference2Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.MlpDown

open Cert.Kernel2Ideal Cert.Kernel2Ideal.Gen Cert.Kernel2Ideal.Value Idealize.ShloMosaic Idealize.ShloMosaic.TcCoe Idealize.SL.Sem Cert.Parts

/-! ## One grid point -/

theorem point_eq (x0 : Vec Ideal S1024x2048 .bf16) (x1 : Vec Ideal S1024x2048 .bf16) (x2 : Vec Ideal S1024x1024 .bf16) : out0_3 x0 x1 x2 = k0_pay1 (F := Ideal) x0 x1 x2 := by
  frame_out

theorem point_at (x0 : Vec Ideal S1024x2048 .bf16) (x1 : Vec Ideal S1024x2048 .bf16) (x2 : Vec Ideal S1024x1024 .bf16) (r l : Fin 1024) :
    k0_pay1 (F := Ideal) x0 x1 x2 (ix2 r l) = (∑ k : Fin 2048, x0 (ix2 r k) * x1 (ix2 l k)) * x2 (ix2 r l) := by
  unfold k0_pay1
  pointwise

/-! ## The blocks a point is handed -/

variable (m : (ℓ : Loc nD τ sig) → Buf (Elt Ideal) ℓ) (c : Dev nD)

theorem index0 (t : Fin cfg0.N) : win0_0.index t 0 = t.val / 8 ∧ win0_0.index t 1 = 0 := by revert t; decide +kernel
theorem index1 (t : Fin cfg0.N) : win0_1.index t 0 = t.val % 8 ∧ win0_1.index t 1 = 0 := by revert t; decide +kernel
theorem index2 (t : Fin cfg0.N) : win0_2.index t 0 = t.val / 8 ∧ win0_2.index t 1 = t.val % 8 := by revert t; decide +kernel
theorem index3 (t : Fin cfg0.N) : win0_3.index t 0 = t.val / 8 ∧ win0_3.index t 1 = t.val % 8 := by revert t; decide +kernel

/-- The three input blocks of a point. -/
abbrev left (t : Fin cfg0.N) : Vec Ideal S1024x2048 .bf16 := iblk m c 0 t
abbrev right (t : Fin cfg0.N) : Vec Ideal S1024x2048 .bf16 := iblk m c 1 t
abbrev slope (t : Fin cfg0.N) : Vec Ideal S1024x1024 .bf16 := iblk m c 2 t

/-- The gradient, the weight and the slope, as they are handed. -/
abbrev handed (D : FVec Ideal S8192x2048 .f32) : FVec Ideal S8192x2048 .bf16 := truncf .bf16 D bitsLt_bf16_f32
abbrev slopeOf (A : FVec Ideal S8192x8192 .f32) : FVec Ideal S8192x8192 .bf16 :=
  truncf .bf16 (mulf (broadcastInDim S8192x8192 ![] bcast_S_S8192x8192 (constant S_ .f32 0x40000000#32))
    (maximumf A (broadcastInDim S8192x8192 ![] bcast_S_S8192x8192 (constant S_ .f32 0x00000000#32)))) bitsLt_bf16_f32

theorem grad_handed : V m c main_v4 = handed (m ((c : Thread nD τ).loc main_arg0)) := by
  have e : V m c main_v4 = StableHlo.after hostOps0 (fun b => m (c, b)) (Proc.devRef .tc main_v4) := rfl
  rw [e]
  simp only [hostOps0]
  after_results_simp

theorem weight_handed : V m c main_v5 = handed (m ((c : Thread nD τ).loc main_arg1)) := by
  have e : V m c main_v5 = StableHlo.after hostOps0 (fun b => m (c, b)) (Proc.devRef .tc main_v5) := rfl
  rw [e]
  simp only [hostOps0]
  after_results_simp

theorem slope_handed : V m c main_v6 = slopeOf (m ((c : Thread nD τ).loc main_arg2)) := by
  have e : V m c main_v6 = StableHlo.after hostOps0 (fun b => m (c, b)) (Proc.devRef .tc main_v6) := rfl
  rw [e]
  simp only [hostOps0]
  after_results_simp

/-- The whole operands. -/
def wholeLeft : FVec Ideal S8192x2048 .bf16 := V m c main_v4
def wholeRight : FVec Ideal S8192x2048 .bf16 := V m c main_v5
def wholeSlope : FVec Ideal S8192x8192 .bf16 := V m c main_v6

/-- Place `r` of block `q` of an axis cut into eight. -/
abbrev place (q : Fin 8) (r : Fin 1024) : Fin 8192 := ⟨1024 * q.val + r.val, by omega⟩

theorem left_blk (t : Fin cfg0.N) (q : Fin 8) (hq : t.val / 8 = q.val) (r : Fin 1024) (k : Fin 2048) : left m c t (ix2 r k) = wholeLeft m c (ix2 (place q r) k) := by
  unfold left iblk wholeLeft
  rw [View.read_apply]
  refine congrArg (V m c main_v4) (funext fun a => Fin.ext ?_)
  match a with
  | ⟨0, _⟩ => show win0_0.index t 0 * 1024 + 1 * r.val = 1024 * q.val + r.val; rw [(index0 t).1, hq]; omega
  | ⟨1, _⟩ => show win0_0.index t 1 * 2048 + 1 * k.val = k.val; rw [(index0 t).2]; omega

theorem right_blk (t : Fin cfg0.N) (q : Fin 8) (hq : t.val % 8 = q.val) (r : Fin 1024) (k : Fin 2048) : right m c t (ix2 r k) = wholeRight m c (ix2 (place q r) k) := by
  unfold right iblk wholeRight
  rw [View.read_apply]
  refine congrArg (V m c main_v5) (funext fun a => Fin.ext ?_)
  match a with
  | ⟨0, _⟩ => show win0_1.index t 0 * 1024 + 1 * r.val = 1024 * q.val + r.val; rw [(index1 t).1, hq]; omega
  | ⟨1, _⟩ => show win0_1.index t 1 * 2048 + 1 * k.val = k.val; rw [(index1 t).2]; omega

theorem slope_blk (t : Fin cfg0.N) (p q : Fin 8) (hp : t.val / 8 = p.val) (hq : t.val % 8 = q.val) (r l : Fin 1024) :
    slope m c t (ix2 r l) = wholeSlope m c (ix2 (place p r) (place q l)) := by
  unfold slope iblk wholeSlope
  rw [View.read_apply]
  refine congrArg (V m c main_v6) (funext fun a => Fin.ext ?_)
  match a with
  | ⟨0, _⟩ => show win0_2.index t 0 * 1024 + 1 * r.val = 1024 * p.val + r.val; rw [(index2 t).1, hp]; omega
  | ⟨1, _⟩ => show win0_2.index t 1 * 1024 + 1 * l.val = 1024 * q.val + l.val; rw [(index2 t).2, hq]; omega

/-! ## The array, and the reference -/

/-- The result as one function of the operands: the product, times the slope. -/
def product : FVec Ideal S8192x8192 .bf16 := fun y =>
  (∑ k : Fin 2048, wholeLeft m c (ix2 (y 0 : Fin 8192) k) * wholeRight m c (ix2 (y 1 : Fin 8192) k)) * wholeSlope m c y

/-- A point's block of the result. -/
theorem point_whole (t : Fin cfg0.N) (p q : Fin 8) (hp : t.val / 8 = p.val) (hq : t.val % 8 = q.val) (r l : Fin 1024) :
    k0_pay1 (F := Ideal) (left m c t) (right m c t) (slope m c t) (ix2 r l) = product m c (ix2 (place p r) (place q l)) := by
  rw [point_at, slope_blk m c t p q hp hq]
  simp only [left_blk m c t p hp, right_blk m c t q hq]
  rfl

theorem array_eq : (dats m 0 c).arrAt 3 cfg0.N = product m c := by
  refine (dats m 0 c).arrAt_eq_of_covers 3 _ (by decide +kernel) fun t hf y => ?_
  have ht : t.val < 64 := lt_of_lt_of_eq t.isLt (N_0 : cfg0.N = 64)
  have e := after0_3 m c t
  rw [point_eq] at e
  have i0 : win0_3.index t 0 * 1024 + 1 * (y 0).val = 1024 * (t.val / 8) + (y 0).val := by rw [(index3 t).1]; omega
  have i1 : win0_3.index t 1 * 1024 + 1 * (y 1).val = 1024 * (t.val % 8) + (y 1).val := by rw [(index3 t).2]; omega
  have hy : y = (ix2 (y 0 : Fin 1024) (y 1 : Fin 1024) : S1024x1024.Idx) := eq_ix2 y
  have hz : ((cfg0.win 3).blk t).view.emb y = (ix2 (place ⟨t.val / 8, by omega⟩ (y 0)) (place ⟨t.val % 8, by omega⟩ (y 1)) : S8192x8192.Idx) :=
    funext fun a => match a with | ⟨0, _⟩ => Fin.ext i0 | ⟨1, _⟩ => Fin.ext i1
  have w := point_whole m c t ⟨t.val / 8, by omega⟩ ⟨t.val % 8, by omega⟩ rfl rfl (y 0) (y 1)
  rw [hz, ← w, ← hy]
  exact congrFun e y

/-- The reference's result. -/
abbrev reference (D W : FVec Ideal S8192x2048 .f32) (A : FVec Ideal S8192x8192 .f32) : FVec Ideal S8192x8192 .bf16 :=
  truncf .bf16 (select (cmpf .ogt A (broadcastInDim Cert.Reference2Ideal.S8192x8192 ![] Cert.Reference2Ideal.Gen.bcast_S_S8192x8192 (constant Cert.Reference2Ideal.S_ .f32 0x00000000#32)))
    (mulf (Host.dotGeneral Cert.Reference2Ideal.dot_S8192x2048_S8192x2048_S8192x8192_1_1_0_0_n_n none D W)
      (mulf (broadcastInDim Cert.Reference2Ideal.S8192x8192 ![] Cert.Reference2Ideal.Gen.bcast_S_S8192x8192 (constant Cert.Reference2Ideal.S_ .f32 0x40000000#32))
        (maximumf A (broadcastInDim Cert.Reference2Ideal.S8192x8192 ![] Cert.Reference2Ideal.Gen.bcast_S_S8192x8192 (constant Cert.Reference2Ideal.S_ .f32 0x00000000#32)))))
    (broadcastInDim Cert.Reference2Ideal.S8192x8192 ![] Cert.Reference2Ideal.Gen.bcast_S_S8192x8192 (constant Cert.Reference2Ideal.S_ .f32 0x00000000#32)))
    Cert.Reference2Ideal.Gen.bitsLt_bf16_f32

theorem reference_at (D W : FVec Ideal S8192x2048 .f32) (A : FVec Ideal S8192x8192 .f32) (i j : Fin 8192) :
    reference D W A (ix2 i j) = (∑ k : Fin 2048, D (ix2 i k) * W (ix2 j k)) * slopeOf A (ix2 i j) := by
  unfold reference slopeOf
  pointwise
  split_ifs with h
  · rfl
  · rw [max_eq_right (not_lt.mp h), mul_zero, mul_zero]

theorem handed_at (D : FVec Ideal S8192x2048 .f32) (i : Fin 8192) (j : Fin 2048) : handed D (ix2 i j) = D (ix2 i j) := by
  unfold handed
  pointwise

/-- The reference's result is the kernel's. -/
theorem same (D W : FVec Ideal S8192x2048 .f32) (A : FVec Ideal S8192x8192 .f32) (hD : D = m ((c : Thread nD τ).loc main_arg0))
    (hW : W = m ((c : Thread nD τ).loc main_arg1)) (hA : A = m ((c : Thread nD τ).loc main_arg2)) : reference D W A = (dats m 0 c).arrAt 3 cfg0.N := by
  rw [array_eq]
  refine funext fun y => ?_
  obtain ⟨i, j, rfl⟩ : ∃ i j : Fin 8192, y = ix2 i j := ⟨_, _, eq_ix2 y⟩
  have hl : wholeLeft m c = handed D := by rw [hD]; exact grad_handed m c
  have hr : wholeRight m c = handed W := by rw [hW]; exact weight_handed m c
  have hs : wholeSlope m c = slopeOf A := by rw [hA]; exact slope_handed m c
  have e : product m c (ix2 i j) = (∑ k : Fin 2048, handed D (ix2 i k) * handed W (ix2 j k)) * slopeOf A (ix2 i j) := by
    unfold product
    rw [hl, hr, hs]
    rfl
  simp only [handed_at] at e
  exact (reference_at D W A i j).trans e.symm

theorem agree : Cert.algebraic_Kernel2Ideal_Reference2Ideal (hKernel2Ideal := Cert.Kernel2Ideal.Gen.facts) (hReference2Ideal := Cert.Reference2Ideal.Gen.facts) := by
  intro m g m' g' _ he
  refine ⟨fun c => (dats m 0 c).arrAt 3 cfg0.N, Cert.Kernel2Ideal.Value.run_blocks m g, ?_⟩
  refine (θ_run _ _ _).mono (fun r h c => ?_) (Cert.Reference2Ideal.Value.run m' g')
  obtain ⟨r0, rest⟩ := h c
  obtain ⟨e0, e1, e2⟩ := he c
  exact ⟨r0.trans (same m c _ _ _ e0 e1 e2), rest⟩

end Cert.MlpDown

end
-- ==== Proof.WeightDown.lean ====
/-
  The gradient of the MLP's second weight. A grid point adds the product of a block of rows to the accumulator; four points
  make an output block, the first of them starting from zero and the last storing the sum. Together the four row blocks are
  all the rows, so the block is the contraction over the whole row axis, which is what the reference computes.
-/
module

public import proofs.«01_k».proof.Proof.Parts
public import proofs.«01_k».proof.Proof.Gen.Kernel3Ideal.Value
public import proofs.«01_k».proof.Proof.Gen.Reference3Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.WeightDown

open Cert.Kernel3Ideal Cert.Kernel3Ideal.Gen Cert.Kernel3Ideal.Value Idealize.ShloMosaic Idealize.ShloMosaic.TcCoe Idealize.SL.Sem Cert.Parts

/-! ## One grid point -/

section Point

variable (c : Dev nD) (i : grid0.Coords) (arg3 : Memref sig .tc .vmem S2048x2048 .bf16) (harg3 : arg3.IsWhole) (arg4 : Memref sig .tc .vmem S2048x1024 .bf16) (harg4 : arg4.IsWhole)
  (arg5 : Memref sig .tc .vmem S1x2048x1024 .bf16) (harg5 : arg5.IsWhole) (arg6 : Memref sig .tc .vmem S2048x1024 .f32) (harg6 : arg6.IsWhole)
  (x0 : Vec Ideal S2048x2048 .bf16) (x1 : Vec Ideal S2048x1024 .bf16) (acc : Vec Ideal S2048x1024 .f32)

theorem first_point (hc0 : cond0_0 i) (hc1 : ¬cond0_1 i) : sout0_A_0 c i arg3 harg3 arg4 harg4 arg5 harg5 arg6 harg6 hc0 hc1 x0 x1 = k0_pay2 k0_pay1 x0 x1 := by
  frame_out

theorem middle_point (hc0 : ¬cond0_0 i) (hc1 : ¬cond0_1 i) : sout0_B_0 c i arg3 harg3 arg4 harg4 arg5 harg5 arg6 harg6 hc0 hc1 x0 x1 acc = k0_pay2 acc x0 x1 := by
  frame_out

theorem last_point (hc0 : ¬cond0_0 i) (hc1 : cond0_1 i) : out0_C_2 c i arg3 harg3 arg4 harg4 arg5 harg5 arg6 harg6 hc0 hc1 x0 x1 acc = k0_pay3 (k0_pay2 acc x0 x1) := by
  frame_out

end Point

/-- A step of the accumulation at an index. -/
theorem step_at (acc : Vec Ideal S2048x1024 .f32) (a : Vec Ideal S2048x2048 .bf16) (b : Vec Ideal S2048x1024 .bf16) (r : Fin 2048) (j : Fin 1024) :
    k0_pay2 (F := Ideal) acc a b (ix2 r j) = acc (ix2 r j) + ∑ k : Fin 2048, a (ix2 k r) * b (ix2 k j) := by
  unfold k0_pay2
  pointwise

theorem zero_at (r : Fin 2048) (j : Fin 1024) : k0_pay1 (F := Ideal) (ix2 r j) = 0 := by
  unfold k0_pay1
  pointwise

/-- What is stored is the accumulator. -/
theorem store_at (v : Vec Ideal S2048x1024 .f32) (r : Fin 2048) (j : Fin 1024) : k0_pay3 (F := Ideal) v (ix3 0 r j) = v (ix2 r j) := by
  unfold k0_pay3
  pointwise

/-! ## The four points of a block -/

variable (m : (ℓ : Loc nD τ sig) → Buf (Elt Ideal) ℓ) (c : Dev nD)

/-- The carried pair after a point: the output block and the accumulator. -/
abbrev Carried := Vec Ideal S1x2048x1024 .bf16 × Vec Ideal S2048x1024 .f32

/-- The two input blocks of a point. -/
abbrev left (t : Fin cfg0.N) : Vec Ideal S2048x2048 .bf16 := iblk m c 0 t
abbrev right (t : Fin cfg0.N) : Vec Ideal S2048x1024 .bf16 := iblk m c 1 t

/-- The first of a block's points leaves one product, whatever was there. -/
theorem scratch_first (t : Fin cfg0.N) (h4 : t.val % 4 = 0) (acc : Carried) :
    (stAt0 m c t.val t.isLt acc).2 = k0_pay2 (F := Ideal) (k0_pay1 (F := Ideal)) (left m c t) (right m c t) := by
  rw [stAt0_A m c t acc h4 (fun e => by omega)]
  dsimp only
  exact first_point c (grid0.coords t) (ms0_0 t) (hs0_0 t) (ms0_1 t) (hs0_1 t) (ms0_2 t) (hs0_2 t) scM0_0 (Memref.isWhole_whole _) (left m c t) (right m c t) _ _

/-- A point in between adds a product. -/
theorem scratch_middle (t : Fin cfg0.N) (h4 : ¬t.val % 4 = 0) (h3 : ¬t.val % 4 = 3) (acc : Carried) :
    (stAt0 m c t.val t.isLt acc).2 = k0_pay2 (F := Ideal) acc.2 (left m c t) (right m c t) :=
  by
  rw [stAt0_B m c t acc h4 h3]
  dsimp only
  exact middle_point c (grid0.coords t) (ms0_0 t) (hs0_0 t) (ms0_1 t) (hs0_1 t) (ms0_2 t) (hs0_2 t) scM0_0 (Memref.isWhole_whole _) (left m c t) (right m c t) acc.2 _ _

/-- The last one adds a product and stores. -/
theorem block_last (t : Fin cfg0.N) (h3 : t.val % 4 = 3) (acc : Carried) :
    (stAt0 m c t.val t.isLt acc).1 = k0_pay3 (F := Ideal) (k0_pay2 acc.2 (left m c t) (right m c t)) :=
  by
  rw [stAt0_C m c t acc (fun e => by omega) h3]
  dsimp only
  exact last_point c (grid0.coords t) (ms0_0 t) (hs0_0 t) (ms0_1 t) (hs0_1 t) (ms0_2 t) (hs0_2 t) scM0_0 (Memref.isWhole_whole _) (left m c t) (right m c t) acc.2 _ _

/-- What the first of a block's points leaves. -/
theorem after_first : ∀ (n : ℕ) (h : n < cfg0.N), n % 4 = 0 → (outsAt0 m c n h).2 = k0_pay2 (F := Ideal) (k0_pay1 (F := Ideal)) (left m c ⟨n, h⟩) (right m c ⟨n, h⟩)
  | 0, h, h4 => (congrArg Prod.snd (outsAt0_zero m c h)).trans (scratch_first m c ⟨0, h⟩ h4 _)
  | n + 1, h, h4 => (congrArg Prod.snd (outsAt0_succ m c n h)).trans (scratch_first m c ⟨n + 1, h⟩ h4 _)

/-- A product added to what the point before left. -/
theorem after_middle (n : ℕ) (h : n + 1 < cfg0.N) (h4 : ¬(n + 1) % 4 = 0) (h3 : ¬(n + 1) % 4 = 3) :
    (outsAt0 m c (n + 1) h).2 = k0_pay2 (F := Ideal) (outsAt0 m c n (Nat.lt_of_succ_lt h)).2 (left m c ⟨n + 1, h⟩) (right m c ⟨n + 1, h⟩) :=
  (congrArg Prod.snd (outsAt0_succ m c n h)).trans (scratch_middle m c ⟨n + 1, h⟩ h4 h3 _)

theorem after_last (n : ℕ) (h : n + 1 < cfg0.N) (h3 : (n + 1) % 4 = 3) :
    (outsAt0 m c (n + 1) h).1 = k0_pay3 (F := Ideal) (k0_pay2 (outsAt0 m c n (Nat.lt_of_succ_lt h)).2 (left m c ⟨n + 1, h⟩) (right m c ⟨n + 1, h⟩)) :=
  (congrArg Prod.fst (outsAt0_succ m c n h)).trans (block_last m c ⟨n + 1, h⟩ h3 _)

/-- The block its four points leave. -/
theorem block_eq (q : ℕ) (h : 4 * q + 3 < cfg0.N) :
    (outsAt0 m c (4 * q + 3) h).1 = k0_pay3 (F := Ideal) (k0_pay2 (k0_pay2 (k0_pay2 (k0_pay2 (k0_pay1 (F := Ideal))
      (left m c ⟨4 * q, by omega⟩) (right m c ⟨4 * q, by omega⟩))
      (left m c ⟨4 * q + 1, by omega⟩) (right m c ⟨4 * q + 1, by omega⟩))
      (left m c ⟨4 * q + 2, by omega⟩) (right m c ⟨4 * q + 2, by omega⟩))
      (left m c ⟨4 * q + 3, h⟩) (right m c ⟨4 * q + 3, h⟩)) := by
  rw [after_last m c (4 * q + 2) h (by omega), after_middle m c (4 * q + 1) (by omega) (by omega) (by omega),
    after_middle m c (4 * q) (by omega) (by omega) (by omega), after_first m c (4 * q) (by omega) (by omega)]

/-! ## The blocks a point is handed -/

theorem index0 (t : Fin cfg0.N) : win0_0.index t 0 = t.val % 4 ∧ win0_0.index t 1 = t.val / 8 := by revert t; decide +kernel
theorem index1 (t : Fin cfg0.N) : win0_1.index t 0 = t.val % 4 ∧ win0_1.index t 1 = t.val / 4 % 2 := by revert t; decide +kernel

/-- The squared activations, as they are handed. -/
abbrev squareOf (A : FVec Ideal S8192x8192 .f32) : FVec Ideal S8192x8192 .bf16 :=
  truncf .bf16 (mulf (maximumf A (broadcastInDim S8192x8192 ![] bcast_S_S8192x8192 (constant S_ .f32 0x00000000#32)))
    (maximumf A (broadcastInDim S8192x8192 ![] bcast_S_S8192x8192 (constant S_ .f32 0x00000000#32)))) bitsLt_bf16_f32

/-- The gradient, as it is handed. -/
abbrev gradOf (D : FVec Ideal S8192x2048 .f32) : FVec Ideal S8192x2048 .bf16 := truncf .bf16 D bitsLt_bf16_f32

theorem square_handed : V m c main_v3 = squareOf (m ((c : Thread nD τ).loc main_arg1)) := by
  have e : V m c main_v3 = StableHlo.after hostOps0 (fun b => m (c, b)) (Proc.devRef .tc main_v3) := rfl
  rw [e]
  simp only [hostOps0]
  after_results_simp

theorem grad_handed : V m c main_v4 = gradOf (m ((c : Thread nD τ).loc main_arg0)) := by
  have e : V m c main_v4 = StableHlo.after hostOps0 (fun b => m (c, b)) (Proc.devRef .tc main_v4) := rfl
  rw [e]
  simp only [hostOps0]
  after_results_simp

/-- The whole operands. -/
def wholeLeft : FVec Ideal S8192x8192 .bf16 := V m c main_v3
def wholeRight : FVec Ideal S8192x2048 .bf16 := V m c main_v4

/-- Column `l` of column block `j`. -/
abbrev colAt (j : Fin 2) (l : Fin 1024) : Fin 2048 := ⟨1024 * j.val + l.val, by omega⟩

/-- Rows `2048 * s` and on, columns `2048 * i` and on. -/
theorem left_blk (t : Fin cfg0.N) (s : Fin 4) (i : Fin 4) (hs : t.val % 4 = s.val) (hi : t.val / 8 = i.val) (k r : Fin 2048) :
    left m c t (ix2 k r) = wholeLeft m c (ix2 (at' s k) (at' i r)) := by
  unfold left iblk wholeLeft
  rw [View.read_apply]
  refine congrArg (V m c main_v3) (funext fun a => Fin.ext ?_)
  match a with
  | ⟨0, _⟩ => show win0_0.index t 0 * 2048 + 1 * k.val = 2048 * s.val + k.val; rw [(index0 t).1, hs]; omega
  | ⟨1, _⟩ => show win0_0.index t 1 * 2048 + 1 * r.val = 2048 * i.val + r.val; rw [(index0 t).2, hi]; omega

/-- Rows `2048 * s` and on, columns `1024 * j` and on. -/
theorem right_blk (t : Fin cfg0.N) (s : Fin 4) (hs : t.val % 4 = s.val) (j : Fin 2) (hj : t.val / 4 % 2 = j.val) (k : Fin 2048) (l : Fin 1024) :
    right m c t (ix2 k l) = wholeRight m c (ix2 (at' s k) (colAt j l)) := by
  unfold right iblk wholeRight
  rw [View.read_apply]
  refine congrArg (V m c main_v4) (funext fun a => Fin.ext ?_)
  match a with
  | ⟨0, _⟩ => show win0_1.index t 0 * 2048 + 1 * k.val = 2048 * s.val + k.val; rw [(index1 t).1, hs]; omega
  | ⟨1, _⟩ => show win0_1.index t 1 * 1024 + 1 * l.val = 1024 * j.val + l.val; rw [(index1 t).2, hj]; omega

/-- A point's step at an index, in terms of the whole operands. -/
theorem step_whole (n : ℕ) (h : n < cfg0.N) (s : Fin 4) (i : Fin 4) (j : Fin 2) (hn : n = 4 * (2 * i.val + j.val) + s.val)
    (acc : Vec Ideal S2048x1024 .f32) (r : Fin 2048) (l : Fin 1024) :
    k0_pay2 (F := Ideal) acc (left m c ⟨n, h⟩) (right m c ⟨n, h⟩) (ix2 r l)
      = acc (ix2 r l) + ∑ k : Fin 2048, wholeLeft m c (ix2 (at' s k) (at' i r)) * wholeRight m c (ix2 (at' s k) (colAt j l)) := by
  rw [step_at]
  refine congrArg (acc (ix2 r l) + ·) (Finset.sum_congr rfl fun k _ => ?_)
  rw [left_blk m c ⟨n, h⟩ s i (by show n % 4 = _; omega) (by show n / 8 = _; omega), right_blk m c ⟨n, h⟩ s (by show n % 4 = _; omega) j (by show n / 4 % 2 = _; omega)]

/-! ## The array, and the reference -/

/-- The result. -/
def result : FVec Ideal S1x8192x2048 .bf16 := G2 m c

/-- The result at an index: the contraction over all rows. -/
theorem result_at (i : Fin 4) (r : Fin 2048) (j : Fin 2) (l : Fin 1024) :
    result m c (ix3 0 (at' i r) (colAt j l)) = ∑ k : Fin 8192, wholeLeft m c (ix2 k (at' i r)) * wholeRight m c (ix2 k (colAt j l)) := by
  have hN : cfg0.N = 32 := N_0
  have hq : pt2Of (ix3 0 (at' i r) (colAt j l)) = 4 * (2 * i.val + j.val) + 3 := by
    show 4 * (8 * (0 / 1 - 0) + 2 * ((2048 * i.val + r.val) / 2048 - 0) + 1 * ((1024 * j.val + l.val) / 1024 - 0)) + 3 = _
    omega
  have hl : loc2Of (ix3 0 (at' i r) (colAt j l)) = (ix3 0 r l : S1x2048x1024.Idx) := by
    refine funext fun a => Fin.ext ?_
    match a with
    | ⟨0, _⟩ => rfl
    | ⟨1, _⟩ => show (2048 * i.val + r.val) % 2048 = r.val; omega
    | ⟨2, _⟩ => show (1024 * j.val + l.val) % 1024 = l.val; omega
  have hlt : 4 * (2 * i.val + j.val) + 3 < cfg0.N := by omega
  have hp : pt2Of (ix3 0 (at' i r) (colAt j l)) < cfg0.N := by rw [hq]; exact hlt
  have e : result m c (ix3 0 (at' i r) (colAt j l)) = (outsAt0 m c (4 * (2 * i.val + j.val) + 3) hlt).1 (ix3 0 r l) := by
    unfold result G2
    rw [dif_pos hp, hl, fold0_congr m c _ (by omega) (4 * (2 * i.val + j.val) + 3) (by omega) hq, ← outsAt0_sweep m c _ hlt]
  rw [e, block_eq m c _ hlt, store_at, step_whole m c (4 * (2 * i.val + j.val) + 3) hlt 3 i j rfl,
    step_whole m c (4 * (2 * i.val + j.val) + 2) (by omega) 2 i j rfl, step_whole m c (4 * (2 * i.val + j.val) + 1) (by omega) 1 i j rfl,
    step_whole m c (4 * (2 * i.val + j.val)) (by omega) 0 i j rfl, zero_at]
  exact four_parts fun k => wholeLeft m c (ix2 k (at' i r)) * wholeRight m c (ix2 k (colAt j l))

/-- The squared activations before they are handed. -/
abbrev squared (A : FVec Ideal S8192x8192 .f32) : FVec Ideal S8192x8192 .f32 :=
  mulf (maximumf A (broadcastInDim S8192x8192 ![] bcast_S_S8192x8192 (constant S_ .f32 0x00000000#32)))
    (maximumf A (broadcastInDim S8192x8192 ![] bcast_S_S8192x8192 (constant S_ .f32 0x00000000#32)))

/-- The reference's result, in the squared activations. -/
abbrev reference (D : FVec Ideal S8192x2048 .f32) (R : FVec Ideal S8192x8192 .f32) : FVec Ideal S1x8192x2048 .bf16 :=
  broadcastInDim Cert.Reference3Ideal.S1x8192x2048 ![1, 2] Cert.Reference3Ideal.Gen.bcast_S8192x2048_S1x8192x2048_1_2
    (truncf .bf16 (transpose Cert.Reference3Ideal.S8192x2048 [1, 0]
      (Host.dotGeneral Cert.Reference3Ideal.dot_S8192x2048_S8192x8192_S2048x8192_0_0_1_1_n_n none D R) Cert.Reference3Ideal.Gen.transposes_S2048x8192_S8192x2048_1_0)
      Cert.Reference3Ideal.Gen.bitsLt_bf16_f32)

theorem reference_at (D : FVec Ideal S8192x2048 .f32) (R : FVec Ideal S8192x8192 .f32) (i : Fin 8192) (j : Fin 2048) :
    reference D R (ix3 0 i j) = ∑ k : Fin 8192, D (ix2 k j) * R (ix2 k i) := by
  unfold reference
  pointwise

theorem squareOf_at (A : FVec Ideal S8192x8192 .f32) (i j : Fin 8192) : squareOf A (ix2 i j) = squared A (ix2 i j) := by
  unfold squareOf squared
  pointwise

theorem gradOf_at (D : FVec Ideal S8192x2048 .f32) (i : Fin 8192) (j : Fin 2048) : gradOf D (ix2 i j) = D (ix2 i j) := by
  unfold gradOf
  pointwise

/-- The reference's result is the kernel's. -/
theorem same (D : FVec Ideal S8192x2048 .f32) (A : FVec Ideal S8192x8192 .f32) (hD : D = m ((c : Thread nD τ).loc main_arg0))
    (hA : A = m ((c : Thread nD τ).loc main_arg1)) : reference D (squared A) = G2 m c := by
  refine funext fun y => ?_
  obtain ⟨i, j, rfl⟩ : ∃ (i : Fin 8192) (j : Fin 2048), y = ix3 0 i j :=
    ⟨y 1, y 2, funext fun a => match a with | ⟨0, _⟩ => Fin.ext (by have : (y 0).val < 1 := (y 0).isLt; show (y 0).val = 0; omega) | ⟨1, _⟩ => rfl | ⟨2, _⟩ => rfl⟩
  obtain ⟨s, r, rfl⟩ : ∃ (s : Fin 4) (r : Fin 2048), i = at' s r :=
    ⟨⟨i.val / 2048, by omega⟩, ⟨i.val % 2048, by omega⟩, Fin.ext (by show i.val = 2048 * (i.val / 2048) + i.val % 2048; omega)⟩
  obtain ⟨b, l, rfl⟩ : ∃ (b : Fin 2) (l : Fin 1024), j = colAt b l :=
    ⟨⟨j.val / 1024, by omega⟩, ⟨j.val % 1024, by omega⟩, Fin.ext (by show j.val = 1024 * (j.val / 1024) + j.val % 1024; omega)⟩
  have hl : wholeLeft m c = squareOf A := by rw [hA]; exact square_handed m c
  have hr : wholeRight m c = gradOf D := by rw [hD]; exact grad_handed m c
  refine (reference_at D (squared A) _ _).trans (Eq.trans ?_ (result_at m c s r b l).symm)
  rw [hl, hr]
  exact Finset.sum_congr rfl fun k _ => by rw [squareOf_at, gradOf_at, mul_comm]

theorem agree : Cert.algebraic_Kernel3Ideal_Reference3Ideal (hKernel3Ideal := Cert.Kernel3Ideal.Gen.facts) (hReference3Ideal := Cert.Reference3Ideal.Gen.facts) := by
  intro m g m' g' _ he
  refine ⟨fun c => G2 m c, Cert.Kernel3Ideal.Value.run m g, ?_⟩
  refine (θ_run _ _ _).mono (fun r h c => ?_) (Cert.Reference3Ideal.Value.run m' g')
  obtain ⟨r0, rest⟩ := h c
  obtain ⟨e0, e1⟩ := he c
  exact ⟨r0.trans (same m c _ _ e0 e1), rest⟩

end Cert.WeightDown

end
-- ==== Proof.WeightUp.lean ====
/-
  The gradient of the MLP's first weight, stored as four column blocks. A grid point adds the product of a block of rows to
  the accumulator; four points make an output block, the first of them starting from zero and the last storing the sum.
  Together the four row blocks are all the rows, so the block is the contraction over the whole row axis, which is what the
  reference computes and then cuts into column blocks.
-/
module

public import proofs.«01_k».proof.Proof.Parts
public import proofs.«01_k».proof.Proof.Gen.Kernel4Ideal.Value
public import proofs.«01_k».proof.Proof.Gen.Reference4Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.WeightUp

open Cert.Kernel4Ideal Cert.Kernel4Ideal.Gen Cert.Kernel4Ideal.Value Idealize.ShloMosaic Idealize.ShloMosaic.TcCoe Idealize.SL.Sem Cert.Parts

/-! ## One grid point -/

section Point

variable (c : Dev nD) (i : grid0.Coords) (arg3 : Memref sig .tc .vmem S2048x2048 .bf16) (harg3 : arg3.IsWhole) (arg4 : Memref sig .tc .vmem S2048x1024 .bf16) (harg4 : arg4.IsWhole)
  (arg5 : Memref sig .tc .vmem S1x2048x1024 .bf16) (harg5 : arg5.IsWhole) (arg6 : Memref sig .tc .vmem S2048x1024 .f32) (harg6 : arg6.IsWhole)
  (x0 : Vec Ideal S2048x2048 .bf16) (x1 : Vec Ideal S2048x1024 .bf16) (acc : Vec Ideal S2048x1024 .f32)

theorem first_point (hc0 : cond0_0 i) (hc1 : ¬cond0_1 i) : sout0_A_0 c i arg3 harg3 arg4 harg4 arg5 harg5 arg6 harg6 hc0 hc1 x0 x1 = k0_pay2 k0_pay1 x0 x1 := by
  frame_out

theorem middle_point (hc0 : ¬cond0_0 i) (hc1 : ¬cond0_1 i) : sout0_B_0 c i arg3 harg3 arg4 harg4 arg5 harg5 arg6 harg6 hc0 hc1 x0 x1 acc = k0_pay2 acc x0 x1 := by
  frame_out

theorem last_point (hc0 : ¬cond0_0 i) (hc1 : cond0_1 i) : out0_C_2 c i arg3 harg3 arg4 harg4 arg5 harg5 arg6 harg6 hc0 hc1 x0 x1 acc = k0_pay3 (k0_pay2 acc x0 x1) := by
  frame_out

end Point

/-- A step of the accumulation at an index. -/
theorem step_at (acc : Vec Ideal S2048x1024 .f32) (a : Vec Ideal S2048x2048 .bf16) (b : Vec Ideal S2048x1024 .bf16) (r : Fin 2048) (j : Fin 1024) :
    k0_pay2 (F := Ideal) acc a b (ix2 r j) = acc (ix2 r j) + ∑ k : Fin 2048, a (ix2 k r) * b (ix2 k j) := by
  unfold k0_pay2
  pointwise

theorem zero_at (r : Fin 2048) (j : Fin 1024) : k0_pay1 (F := Ideal) (ix2 r j) = 0 := by
  unfold k0_pay1
  pointwise

/-- What is stored is the accumulator. -/
theorem store_at (v : Vec Ideal S2048x1024 .f32) (r : Fin 2048) (j : Fin 1024) : k0_pay3 (F := Ideal) v (ix3 0 r j) = v (ix2 r j) := by
  unfold k0_pay3
  pointwise

/-! ## The four points of a block -/

variable (m : (ℓ : Loc nD τ sig) → Buf (Elt Ideal) ℓ) (c : Dev nD)

/-- The carried pair after a point: the output block and the accumulator. -/
abbrev Carried := Vec Ideal S1x2048x1024 .bf16 × Vec Ideal S2048x1024 .f32

/-- The two input blocks of a point. -/
abbrev left (t : Fin cfg0.N) : Vec Ideal S2048x2048 .bf16 := iblk m c 0 t
abbrev right (t : Fin cfg0.N) : Vec Ideal S2048x1024 .bf16 := iblk m c 1 t

/-- The first of a block's points leaves one product, whatever was there. -/
theorem scratch_first (t : Fin cfg0.N) (h4 : t.val % 4 = 0) (acc : Carried) :
    (stAt0 m c t.val t.isLt acc).2 = k0_pay2 (F := Ideal) (k0_pay1 (F := Ideal)) (left m c t) (right m c t) := by
  rw [stAt0_A m c t acc h4 (fun e => by omega)]
  dsimp only
  exact first_point c (grid0.coords t) (ms0_0 t) (hs0_0 t) (ms0_1 t) (hs0_1 t) (ms0_2 t) (hs0_2 t) scM0_0 (Memref.isWhole_whole _) (left m c t) (right m c t) _ _

/-- A point in between adds a product. -/
theorem scratch_middle (t : Fin cfg0.N) (h4 : ¬t.val % 4 = 0) (h3 : ¬t.val % 4 = 3) (acc : Carried) :
    (stAt0 m c t.val t.isLt acc).2 = k0_pay2 (F := Ideal) acc.2 (left m c t) (right m c t) :=
  by
  rw [stAt0_B m c t acc h4 h3]
  dsimp only
  exact middle_point c (grid0.coords t) (ms0_0 t) (hs0_0 t) (ms0_1 t) (hs0_1 t) (ms0_2 t) (hs0_2 t) scM0_0 (Memref.isWhole_whole _) (left m c t) (right m c t) acc.2 _ _

/-- The last one adds a product and stores. -/
theorem block_last (t : Fin cfg0.N) (h3 : t.val % 4 = 3) (acc : Carried) :
    (stAt0 m c t.val t.isLt acc).1 = k0_pay3 (F := Ideal) (k0_pay2 acc.2 (left m c t) (right m c t)) :=
  by
  rw [stAt0_C m c t acc (fun e => by omega) h3]
  dsimp only
  exact last_point c (grid0.coords t) (ms0_0 t) (hs0_0 t) (ms0_1 t) (hs0_1 t) (ms0_2 t) (hs0_2 t) scM0_0 (Memref.isWhole_whole _) (left m c t) (right m c t) acc.2 _ _

/-- What the first of a block's points leaves. -/
theorem after_first : ∀ (n : ℕ) (h : n < cfg0.N), n % 4 = 0 → (outsAt0 m c n h).2 = k0_pay2 (F := Ideal) (k0_pay1 (F := Ideal)) (left m c ⟨n, h⟩) (right m c ⟨n, h⟩)
  | 0, h, h4 => (congrArg Prod.snd (outsAt0_zero m c h)).trans (scratch_first m c ⟨0, h⟩ h4 _)
  | n + 1, h, h4 => (congrArg Prod.snd (outsAt0_succ m c n h)).trans (scratch_first m c ⟨n + 1, h⟩ h4 _)

/-- A product added to what the point before left. -/
theorem after_middle (n : ℕ) (h : n + 1 < cfg0.N) (h4 : ¬(n + 1) % 4 = 0) (h3 : ¬(n + 1) % 4 = 3) :
    (outsAt0 m c (n + 1) h).2 = k0_pay2 (F := Ideal) (outsAt0 m c n (Nat.lt_of_succ_lt h)).2 (left m c ⟨n + 1, h⟩) (right m c ⟨n + 1, h⟩) :=
  (congrArg Prod.snd (outsAt0_succ m c n h)).trans (scratch_middle m c ⟨n + 1, h⟩ h4 h3 _)

theorem after_last (n : ℕ) (h : n + 1 < cfg0.N) (h3 : (n + 1) % 4 = 3) :
    (outsAt0 m c (n + 1) h).1 = k0_pay3 (F := Ideal) (k0_pay2 (outsAt0 m c n (Nat.lt_of_succ_lt h)).2 (left m c ⟨n + 1, h⟩) (right m c ⟨n + 1, h⟩)) :=
  (congrArg Prod.fst (outsAt0_succ m c n h)).trans (block_last m c ⟨n + 1, h⟩ h3 _)

/-- The block its four points leave. -/
theorem block_eq (q : ℕ) (h : 4 * q + 3 < cfg0.N) :
    (outsAt0 m c (4 * q + 3) h).1 = k0_pay3 (F := Ideal) (k0_pay2 (k0_pay2 (k0_pay2 (k0_pay2 (k0_pay1 (F := Ideal))
      (left m c ⟨4 * q, by omega⟩) (right m c ⟨4 * q, by omega⟩))
      (left m c ⟨4 * q + 1, by omega⟩) (right m c ⟨4 * q + 1, by omega⟩))
      (left m c ⟨4 * q + 2, by omega⟩) (right m c ⟨4 * q + 2, by omega⟩))
      (left m c ⟨4 * q + 3, h⟩) (right m c ⟨4 * q + 3, h⟩)) := by
  rw [after_last m c (4 * q + 2) h (by omega), after_middle m c (4 * q + 1) (by omega) (by omega) (by omega),
    after_middle m c (4 * q) (by omega) (by omega) (by omega), after_first m c (4 * q) (by omega) (by omega)]

/-! ## The blocks a point is handed -/

theorem index0 (t : Fin cfg0.N) : win0_0.index t 0 = t.val % 4 ∧ win0_0.index t 1 = 0 := by revert t; decide +kernel
theorem index1 (t : Fin cfg0.N) : win0_1.index t 0 = t.val % 4 ∧ win0_1.index t 1 = t.val / 4 := by revert t; decide +kernel

/-- The activations and the gradient, as they are handed. -/
abbrev rowsOf (X : FVec Ideal S8192x2048 .f32) : FVec Ideal S8192x2048 .bf16 := truncf .bf16 X bitsLt_bf16_f32
abbrev gradOf (D : FVec Ideal S8192x8192 .f32) : FVec Ideal S8192x8192 .bf16 := truncf .bf16 D bitsLt_bf16_f32

theorem rows_handed : V m c main_v0 = rowsOf (m ((c : Thread nD τ).loc main_arg1)) := by
  have e : V m c main_v0 = StableHlo.after hostOps0 (fun b => m (c, b)) (Proc.devRef .tc main_v0) := rfl
  rw [e]
  simp only [hostOps0]
  after_results_simp

theorem grad_handed : V m c main_v1 = gradOf (m ((c : Thread nD τ).loc main_arg0)) := by
  have e : V m c main_v1 = StableHlo.after hostOps0 (fun b => m (c, b)) (Proc.devRef .tc main_v1) := rfl
  rw [e]
  simp only [hostOps0]
  after_results_simp

/-- The whole operands. -/
def wholeLeft : FVec Ideal S8192x2048 .bf16 := V m c main_v0
def wholeRight : FVec Ideal S8192x8192 .bf16 := V m c main_v1

/-- Column `l` of half `h` of column block `b`, in the block and in the whole. -/
abbrev halfAt (h : Fin 2) (l : Fin 1024) : Fin 2048 := ⟨1024 * h.val + l.val, by omega⟩

/-- Rows `2048 * s` and on. -/
theorem left_blk (t : Fin cfg0.N) (s : Fin 4) (hs : t.val % 4 = s.val) (k r : Fin 2048) :
    left m c t (ix2 k r) = wholeLeft m c (ix2 (at' s k) r) := by
  unfold left iblk wholeLeft
  rw [View.read_apply]
  refine congrArg (V m c main_v0) (funext fun a => Fin.ext ?_)
  match a with
  | ⟨0, _⟩ => show win0_0.index t 0 * 2048 + 1 * k.val = 2048 * s.val + k.val; rw [(index0 t).1, hs]; omega
  | ⟨1, _⟩ => show win0_0.index t 1 * 2048 + 1 * r.val = r.val; rw [(index0 t).2]; omega

/-- Rows `2048 * s` and on, columns `1024 * (2 * b + h)` and on. -/
theorem right_blk (t : Fin cfg0.N) (s : Fin 4) (hs : t.val % 4 = s.val) (b : Fin 4) (h : Fin 2) (hj : t.val / 4 = 2 * b.val + h.val) (k : Fin 2048) (l : Fin 1024) :
    right m c t (ix2 k l) = wholeRight m c (ix2 (at' s k) (at' b (halfAt h l))) := by
  unfold right iblk wholeRight
  rw [View.read_apply]
  refine congrArg (V m c main_v1) (funext fun a => Fin.ext ?_)
  match a with
  | ⟨0, _⟩ => show win0_1.index t 0 * 2048 + 1 * k.val = 2048 * s.val + k.val; rw [(index1 t).1, hs]; omega
  | ⟨1, _⟩ => show win0_1.index t 1 * 1024 + 1 * l.val = 2048 * b.val + (1024 * h.val + l.val); rw [(index1 t).2, hj]; omega

/-- A point's step at an index, in terms of the whole operands. -/
theorem step_whole (n : ℕ) (hn : n < cfg0.N) (s : Fin 4) (b : Fin 4) (h : Fin 2) (e : n = 4 * (2 * b.val + h.val) + s.val)
    (acc : Vec Ideal S2048x1024 .f32) (r : Fin 2048) (l : Fin 1024) :
    k0_pay2 (F := Ideal) acc (left m c ⟨n, hn⟩) (right m c ⟨n, hn⟩) (ix2 r l)
      = acc (ix2 r l) + ∑ k : Fin 2048, wholeLeft m c (ix2 (at' s k) r) * wholeRight m c (ix2 (at' s k) (at' b (halfAt h l))) := by
  rw [step_at]
  refine congrArg (acc (ix2 r l) + ·) (Finset.sum_congr rfl fun k _ => ?_)
  rw [left_blk m c ⟨n, hn⟩ s (by show n % 4 = _; omega), right_blk m c ⟨n, hn⟩ s (by show n % 4 = _; omega) b h (by show n / 4 = _; omega)]

/-! ## The array, and the reference -/

/-- The result. -/
def result : FVec Ideal S4x2048x2048 .bf16 := G2 m c

/-- The result at an index: the contraction over all rows. -/
theorem result_at (b : Fin 4) (r : Fin 2048) (h : Fin 2) (l : Fin 1024) :
    result m c (ix3 b r (halfAt h l)) = ∑ k : Fin 8192, wholeLeft m c (ix2 k r) * wholeRight m c (ix2 k (at' b (halfAt h l))) := by
  have hN : cfg0.N = 32 := N_0
  have hq : pt2Of (ix3 b r (halfAt h l)) = 4 * (2 * b.val + h.val) + 3 := by
    show 4 * (2 * (b.val / 1 - 0) + 2 * (r.val / 2048 - 0) + 1 * ((1024 * h.val + l.val) / 1024 - 0)) + 3 = _
    omega
  have hl : loc2Of (ix3 b r (halfAt h l)) = (ix3 0 r l : S1x2048x1024.Idx) := by
    refine funext fun a => Fin.ext ?_
    match a with
    | ⟨0, _⟩ => show b.val % 1 = 0; omega
    | ⟨1, _⟩ => show r.val % 2048 = r.val; omega
    | ⟨2, _⟩ => show (1024 * h.val + l.val) % 1024 = l.val; omega
  have hlt : 4 * (2 * b.val + h.val) + 3 < cfg0.N := by omega
  have hp : pt2Of (ix3 b r (halfAt h l)) < cfg0.N := by rw [hq]; exact hlt
  have e : result m c (ix3 b r (halfAt h l)) = (outsAt0 m c (4 * (2 * b.val + h.val) + 3) hlt).1 (ix3 0 r l) := by
    unfold result G2
    rw [dif_pos hp, hl, fold0_congr m c _ (by omega) (4 * (2 * b.val + h.val) + 3) (by omega) hq, ← outsAt0_sweep m c _ hlt]
  rw [e, block_eq m c _ hlt, store_at, step_whole m c (4 * (2 * b.val + h.val) + 3) hlt 3 b h rfl,
    step_whole m c (4 * (2 * b.val + h.val) + 2) (by omega) 2 b h rfl, step_whole m c (4 * (2 * b.val + h.val) + 1) (by omega) 1 b h rfl,
    step_whole m c (4 * (2 * b.val + h.val)) (by omega) 0 b h rfl, zero_at]
  exact four_parts fun k => wholeLeft m c (ix2 k r) * wholeRight m c (ix2 k (at' b (halfAt h l)))

/-- The reference's whole gradient, and its column blocks. -/
abbrev gradient (D : FVec Ideal S8192x8192 .f32) (X : FVec Ideal S8192x2048 .f32) : FVec Ideal Cert.Reference4Ideal.S2048x8192 .bf16 :=
  truncf .bf16 (transpose Cert.Reference4Ideal.S2048x8192 [1, 0]
    (Host.dotGeneral Cert.Reference4Ideal.dot_S8192x8192_S8192x2048_S8192x2048_0_0_1_1_n_n none D X) Cert.Reference4Ideal.Gen.transposes_S8192x2048_S2048x8192_1_0)
    Cert.Reference4Ideal.Gen.bitsLt_bf16_f32
abbrev columns (G : FVec Ideal Cert.Reference4Ideal.S2048x8192 .bf16) : FVec Ideal S4x2048x2048 .bf16 :=
  transpose Cert.Reference4Ideal.S4x2048x2048 [1, 0, 2] (shapeCast _ G Cert.Reference4Ideal.Gen.shapeCasts_S2048x8192_S2048x4x2048)
    Cert.Reference4Ideal.Gen.transposes_S2048x4x2048_S4x2048x2048_1_0_2

theorem gradient_at (D : FVec Ideal S8192x8192 .f32) (X : FVec Ideal S8192x2048 .f32) (i : Fin 2048) (j : Fin 8192) :
    gradient D X (ix2 i j) = ∑ k : Fin 8192, D (ix2 k j) * X (ix2 k i) := by
  unfold gradient
  pointwise

theorem columns_at (G : FVec Ideal Cert.Reference4Ideal.S2048x8192 .bf16) (b : Fin 4) (r j : Fin 2048) : columns G (ix3 b r j) = G (ix2 r (at' b j)) := by
  unfold columns
  pointwise
  exact congrArg (fun q => G (ix2 r q)) (Fin.ext (by show b.val * 2048 + j.val = 2048 * b.val + j.val; omega))

theorem rowsOf_at (X : FVec Ideal S8192x2048 .f32) (i : Fin 8192) (j : Fin 2048) : rowsOf X (ix2 i j) = X (ix2 i j) := by
  unfold rowsOf
  pointwise

theorem gradOf_at (D : FVec Ideal S8192x8192 .f32) (i j : Fin 8192) : gradOf D (ix2 i j) = D (ix2 i j) := by
  unfold gradOf
  pointwise

/-- The reference's result is the kernel's. -/
theorem same (D : FVec Ideal S8192x8192 .f32) (X : FVec Ideal S8192x2048 .f32) (hD : D = m ((c : Thread nD τ).loc main_arg0))
    (hX : X = m ((c : Thread nD τ).loc main_arg1)) : columns (gradient D X) = G2 m c := by
  refine funext fun y => ?_
  obtain ⟨b, r, j, rfl⟩ : ∃ (b : Fin 4) (r j : Fin 2048), y = ix3 b r j :=
    ⟨y 0, y 1, y 2, funext fun a => match a with | ⟨0, _⟩ => rfl | ⟨1, _⟩ => rfl | ⟨2, _⟩ => rfl⟩
  obtain ⟨h, l, rfl⟩ : ∃ (h : Fin 2) (l : Fin 1024), j = halfAt h l :=
    ⟨⟨j.val / 1024, by omega⟩, ⟨j.val % 1024, by omega⟩, Fin.ext (by show j.val = 1024 * (j.val / 1024) + j.val % 1024; omega)⟩
  have hl : wholeLeft m c = rowsOf X := by rw [hX]; exact rows_handed m c
  have hr : wholeRight m c = gradOf D := by rw [hD]; exact grad_handed m c
  refine ((columns_at _ b r _).trans (gradient_at D X r _)).trans (Eq.trans ?_ (result_at m c b r h l).symm)
  rw [hl, hr]
  exact Finset.sum_congr rfl fun k _ => by rw [rowsOf_at, gradOf_at, mul_comm]

theorem agree : Cert.algebraic_Kernel4Ideal_Reference4Ideal (hKernel4Ideal := Cert.Kernel4Ideal.Gen.facts) (hReference4Ideal := Cert.Reference4Ideal.Gen.facts) := by
  intro m g m' g' _ he
  refine ⟨fun c => G2 m c, Cert.Kernel4Ideal.Value.run m g, ?_⟩
  refine (θ_run _ _ _).mono (fun r h c => ?_) (Cert.Reference4Ideal.Value.run m' g')
  obtain ⟨r0, rest⟩ := h c
  obtain ⟨e0, e1⟩ := he c
  exact ⟨r0.trans (same m c _ _ e0 e1), rest⟩

end Cert.WeightUp

end
-- ==== Proof.InputGrad.lean ====
/-
  The gradient of the step's input: the product of the gradient behind the input projection with that projection's weight,
  plus the scaled gradient that comes through the residual connection. A grid point adds the product of a block of columns
  to the accumulator; four points make a row block, the first of them starting from zero and the last storing the sum with
  the scaled gradient. Together the four column blocks are all the columns, so the block is the contraction over the whole
  column axis, which is what the reference computes.
-/
module

public import proofs.«01_k».proof.Proof.Parts
public import proofs.«01_k».proof.Proof.Gen.Kernel5Ideal.Value
public import proofs.«01_k».proof.Proof.Gen.Reference5Ideal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

@[expose] public section

set_option backward.isDefEq.respectTransparency false
set_option maxRecDepth 16384

noncomputable section

namespace Cert.InputGrad

open Cert.Kernel5Ideal Cert.Kernel5Ideal.Gen Cert.Kernel5Ideal.Value Idealize.ShloMosaic Idealize.ShloMosaic.TcCoe Idealize.SL.Sem Cert.Parts

/-! ## One grid point -/

/-- The scaled other gradient plus the sum. -/
abbrev kept (u v : FVec Ideal S512x2048 .f32) : FVec Ideal S512x2048 .f32 :=
  addf (mulf (broadcast S512x2048 (Scalar.ofBits .f32 0x3F9837F0#32)) u) v

section Point

variable (c : Dev nD) (i : grid0.Coords) (arg3 : Memref sig .tc .vmem S512x2048 .bf16) (harg3 : arg3.IsWhole) (arg4 : Memref sig .tc .vmem S1x2048x2048 .bf16) (harg4 : arg4.IsWhole)
  (arg5 : Memref sig .tc .vmem S512x2048 .f32) (harg5 : arg5.IsWhole) (arg6 : Memref sig .tc .vmem S512x2048 .f32) (harg6 : arg6.IsWhole) (arg7 : Memref sig .tc .vmem S512x2048 .f32) (harg7 : arg7.IsWhole)
  (x0 : Vec Ideal S512x2048 .bf16) (x1 : Vec Ideal S1x2048x2048 .bf16) (x2 : Vec Ideal S512x2048 .f32) (acc : Vec Ideal S512x2048 .f32)

theorem first_point (hc0 : cond0_0 i) (hc1 : ¬cond0_1 i) : sout0_A_0 c i arg3 harg3 arg4 harg4 arg5 harg5 arg6 harg6 arg7 harg7 hc0 hc1 x0 x1 x2 = k0_pay2 k0_pay1 x0 x1 := by
  frame_out

theorem middle_point (hc0 : ¬cond0_0 i) (hc1 : ¬cond0_1 i) : sout0_B_0 c i arg3 harg3 arg4 harg4 arg5 harg5 arg6 harg6 arg7 harg7 hc0 hc1 x0 x1 x2 acc = k0_pay2 acc x0 x1 := by
  frame_out

/-- The last point stores, in two halves of 256 rows, the scaled other gradient plus the sum. -/
theorem last_point (hc0 : ¬cond0_0 i) (hc1 : cond0_1 i) (y : S512x2048.Idx) :
    out0_C_3 c i arg3 harg3 arg4 harg4 arg5 harg5 arg6 harg6 arg7 harg7 hc0 hc1 x0 x1 x2 acc y = kept x2 (k0_pay2 acc x0 x1) y := by
  frame_out
  simp (disch := decide) only [View.readCov_fill]
  refine View.canon_apply_of_pieces (Val := Elt Ideal) (e := .f32) (kept x2 (k0_pay2 acc x0 x1)) _ ?_ y ?_
  · intro p hp x
    rcases List.mem_cons.mp hp with rfl | hp
    · rfl
    · rcases List.mem_cons.mp hp with rfl | hp
      · rfl
      · exact absurd hp List.not_mem_nil
  · by_cases h : (y 0).val < 256
    · refine ⟨_, List.mem_cons_of_mem _ List.mem_cons_self, ?_⟩
      refine (Rect.mem_set_unit (inb := inb_S512x2048_S256x2048_0_0)).mpr fun a => ?_
      match a with
      | ⟨0, _⟩ => exact ⟨Nat.zero_le _, by show (y 0).val < 0 + 256; omega⟩
      | ⟨1, _⟩ => exact ⟨Nat.zero_le _, by have : (y 1).val < 2048 := (y 1).isLt; show (y 1).val < 0 + 2048; omega⟩
    · refine ⟨_, List.mem_cons_self, ?_⟩
      refine (Rect.mem_set_unit (inb := inb_S512x2048_S256x2048_256_0)).mpr fun a => ?_
      match a with
      | ⟨0, _⟩ => exact ⟨by show 256 ≤ (y 0).val; omega, by have : (y 0).val < 512 := (y 0).isLt; show (y 0).val < 256 + 256; omega⟩
      | ⟨1, _⟩ => exact ⟨Nat.zero_le _, by have : (y 1).val < 2048 := (y 1).isLt; show (y 1).val < 0 + 2048; omega⟩

end Point

/-- A step of the accumulation at an index. -/
theorem step_at (acc : Vec Ideal S512x2048 .f32) (a : Vec Ideal S512x2048 .bf16) (b : Vec Ideal S1x2048x2048 .bf16) (r : Fin 512) (j : Fin 2048) :
    k0_pay2 (F := Ideal) acc a b (ix2 r j) = acc (ix2 r j) + ∑ k : Fin 2048, a (ix2 r k) * b (ix3 0 j k) := by
  unfold k0_pay2
  pointwise

theorem zero_at (r : Fin 512) (j : Fin 2048) : k0_pay1 (F := Ideal) (ix2 r j) = 0 := by
  unfold k0_pay1
  pointwise

/-- The scale of the residual connection. -/
abbrev scale : EReal := (Scalar.ofBits .f32 0x3F9837F0#32 : Ideal .f32)

theorem kept_at (u v : FVec Ideal S512x2048 .f32) (r : Fin 512) (j : Fin 2048) : kept u v (ix2 r j) = scale * u (ix2 r j) + v (ix2 r j) := rfl

/-! ## The four points of a block -/

variable (m : (ℓ : Loc nD τ sig) → Buf (Elt Ideal) ℓ) (c : Dev nD)

/-- The carried pair after a point: the output block and the accumulator. -/
abbrev Carried := Vec Ideal S512x2048 .f32 × Vec Ideal S512x2048 .f32

/-- The three input blocks of a point. -/
abbrev left (t : Fin cfg0.N) : Vec Ideal S512x2048 .bf16 := iblk m c 0 t
abbrev right (t : Fin cfg0.N) : Vec Ideal S1x2048x2048 .bf16 := iblk m c 1 t
abbrev other (t : Fin cfg0.N) : Vec Ideal S512x2048 .f32 := iblk m c 2 t

/-- The first of a block's points leaves one product, whatever was there. -/
theorem scratch_first (t : Fin cfg0.N) (h4 : t.val % 4 = 0) (acc : Carried) :
    (stAt0 m c t.val t.isLt acc).2 = k0_pay2 (F := Ideal) (k0_pay1 (F := Ideal)) (left m c t) (right m c t) := by
  rw [stAt0_A m c t acc h4 (fun e => by omega)]
  dsimp only
  exact first_point c (grid0.coords t) (ms0_0 t) (hs0_0 t) (ms0_1 t) (hs0_1 t) (ms0_2 t) (hs0_2 t) (ms0_3 t) (hs0_3 t) scM0_0 (Memref.isWhole_whole _) (left m c t) (right m c t) (other m c t) _ _

/-- A point in between adds a product. -/
theorem scratch_middle (t : Fin cfg0.N) (h4 : ¬t.val % 4 = 0) (h3 : ¬t.val % 4 = 3) (acc : Carried) :
    (stAt0 m c t.val t.isLt acc).2 = k0_pay2 (F := Ideal) acc.2 (left m c t) (right m c t) := by
  rw [stAt0_B m c t acc h4 h3]
  dsimp only
  exact middle_point c (grid0.coords t) (ms0_0 t) (hs0_0 t) (ms0_1 t) (hs0_1 t) (ms0_2 t) (hs0_2 t) (ms0_3 t) (hs0_3 t) scM0_0 (Memref.isWhole_whole _) (left m c t) (right m c t) (other m c t) acc.2 _ _

/-- The last one adds a product and stores. -/
theorem block_last (t : Fin cfg0.N) (h3 : t.val % 4 = 3) (acc : Carried) :
    (stAt0 m c t.val t.isLt acc).1 = kept (other m c t) (k0_pay2 acc.2 (left m c t) (right m c t)) := by
  rw [stAt0_C m c t acc (fun e => by omega) h3]
  dsimp only
  exact funext fun y => last_point c (grid0.coords t) (ms0_0 t) (hs0_0 t) (ms0_1 t) (hs0_1 t) (ms0_2 t) (hs0_2 t) (ms0_3 t) (hs0_3 t) scM0_0 (Memref.isWhole_whole _) (left m c t) (right m c t) (other m c t) acc.2 _ _ y

/-- What the first of a block's points leaves. -/
theorem after_first : ∀ (n : ℕ) (h : n < cfg0.N), n % 4 = 0 → (outsAt0 m c n h).2 = k0_pay2 (F := Ideal) (k0_pay1 (F := Ideal)) (left m c ⟨n, h⟩) (right m c ⟨n, h⟩)
  | 0, h, h4 => (congrArg Prod.snd (outsAt0_zero m c h)).trans (scratch_first m c ⟨0, h⟩ h4 _)
  | n + 1, h, h4 => (congrArg Prod.snd (outsAt0_succ m c n h)).trans (scratch_first m c ⟨n + 1, h⟩ h4 _)

/-- A product added to what the point before left. -/
theorem after_middle (n : ℕ) (h : n + 1 < cfg0.N) (h4 : ¬(n + 1) % 4 = 0) (h3 : ¬(n + 1) % 4 = 3) :
    (outsAt0 m c (n + 1) h).2 = k0_pay2 (F := Ideal) (outsAt0 m c n (Nat.lt_of_succ_lt h)).2 (left m c ⟨n + 1, h⟩) (right m c ⟨n + 1, h⟩) :=
  (congrArg Prod.snd (outsAt0_succ m c n h)).trans (scratch_middle m c ⟨n + 1, h⟩ h4 h3 _)

theorem after_last (n : ℕ) (h : n + 1 < cfg0.N) (h3 : (n + 1) % 4 = 3) :
    (outsAt0 m c (n + 1) h).1 = kept (other m c ⟨n + 1, h⟩) (k0_pay2 (outsAt0 m c n (Nat.lt_of_succ_lt h)).2 (left m c ⟨n + 1, h⟩) (right m c ⟨n + 1, h⟩)) :=
  (congrArg Prod.fst (outsAt0_succ m c n h)).trans (block_last m c ⟨n + 1, h⟩ h3 _)

/-- The block its four points leave. -/
theorem block_eq (q : ℕ) (h : 4 * q + 3 < cfg0.N) :
    (outsAt0 m c (4 * q + 3) h).1 = kept (other m c ⟨4 * q + 3, h⟩) (k0_pay2 (k0_pay2 (k0_pay2 (k0_pay2 (k0_pay1 (F := Ideal))
      (left m c ⟨4 * q, by omega⟩) (right m c ⟨4 * q, by omega⟩))
      (left m c ⟨4 * q + 1, by omega⟩) (right m c ⟨4 * q + 1, by omega⟩))
      (left m c ⟨4 * q + 2, by omega⟩) (right m c ⟨4 * q + 2, by omega⟩))
      (left m c ⟨4 * q + 3, h⟩) (right m c ⟨4 * q + 3, h⟩)) := by
  rw [after_last m c (4 * q + 2) h (by omega), after_middle m c (4 * q + 1) (by omega) (by omega) (by omega),
    after_middle m c (4 * q) (by omega) (by omega) (by omega), after_first m c (4 * q) (by omega) (by omega)]

/-! ## The blocks a point is handed -/

theorem index0 (t : Fin cfg0.N) : win0_0.index t 0 = t.val / 4 ∧ win0_0.index t 1 = t.val % 4 := by revert t; decide +kernel
theorem index1 (t : Fin cfg0.N) : win0_1.index t 0 = t.val % 4 ∧ win0_1.index t 1 = 0 ∧ win0_1.index t 2 = 0 := by revert t; decide +kernel
theorem index2 (t : Fin cfg0.N) : win0_2.index t 0 = t.val / 4 ∧ win0_2.index t 1 = 0 := by revert t; decide +kernel

/-- The gradient and the weight's column blocks, as they are handed. -/
abbrev gradOf (D : FVec Ideal S8192x8192 .f32) : FVec Ideal S8192x8192 .bf16 := truncf .bf16 D bitsLt_bf16_f32
abbrev blocksOf (W : FVec Ideal S2048x8192 .f32) : FVec Ideal S4x2048x2048 .bf16 :=
  transpose S4x2048x2048 [1, 0, 2] (shapeCast S2048x4x2048 (truncf .bf16 W bitsLt_bf16_f32 : FVec Ideal S2048x8192 .bf16) shapeCasts_S2048x8192_S2048x4x2048)
    transposes_S2048x4x2048_S4x2048x2048_1_0_2

theorem grad_handed : V m c main_v0 = gradOf (m ((c : Thread nD τ).loc main_arg0)) := by
  have e : V m c main_v0 = StableHlo.after hostOps0 (fun b => m (c, b)) (Proc.devRef .tc main_v0) := rfl
  rw [e]
  simp only [hostOps0]
  after_results_simp

theorem blocks_handed : V m c main_v3 = blocksOf (m ((c : Thread nD τ).loc main_arg2)) := by
  have e : V m c main_v3 = StableHlo.after hostOps0 (fun b => m (c, b)) (Proc.devRef .tc main_v3) := rfl
  rw [e]
  simp only [hostOps0]
  after_results_simp
  rfl

/-- The whole operands. -/
def wholeLeft : FVec Ideal S8192x8192 .bf16 := V m c main_v0
def wholeRight : FVec Ideal S4x2048x2048 .bf16 := V m c main_v3
def wholeOther : FVec Ideal S8192x2048 .f32 := V m c main_arg1

/-- Row `r` of row block `q`. -/
abbrev rowAt (q : Fin 16) (r : Fin 512) : Fin 8192 := ⟨512 * q.val + r.val, by omega⟩

/-- Rows `512 * q` and on, columns `2048 * s` and on. -/
theorem left_blk (t : Fin cfg0.N) (s : Fin 4) (q : Fin 16) (hs : t.val % 4 = s.val) (hq : t.val / 4 = q.val) (r : Fin 512) (k : Fin 2048) :
    left m c t (ix2 r k) = wholeLeft m c (ix2 (rowAt q r) (at' s k)) := by
  unfold left iblk wholeLeft
  rw [View.read_apply]
  refine congrArg (V m c main_v0) (funext fun a => Fin.ext ?_)
  match a with
  | ⟨0, _⟩ => show win0_0.index t 0 * 512 + 1 * r.val = 512 * q.val + r.val; rw [(index0 t).1, hq]; omega
  | ⟨1, _⟩ => show win0_0.index t 1 * 2048 + 1 * k.val = 2048 * s.val + k.val; rw [(index0 t).2, hs]; omega

/-- Column block `s` of the weight. -/
theorem right_blk (t : Fin cfg0.N) (s : Fin 4) (hs : t.val % 4 = s.val) (j k : Fin 2048) :
    right m c t (ix3 0 j k) = wholeRight m c (ix3 s j k) := by
  unfold right iblk wholeRight
  rw [View.read_apply]
  refine congrArg (V m c main_v3) (funext fun a => Fin.ext ?_)
  match a with
  | ⟨0, _⟩ => show win0_1.index t 0 * 1 + 1 * 0 = s.val; rw [(index1 t).1, hs]; omega
  | ⟨1, _⟩ => show win0_1.index t 1 * 2048 + 1 * j.val = j.val; rw [(index1 t).2.1]; omega
  | ⟨2, _⟩ => show win0_1.index t 2 * 2048 + 1 * k.val = k.val; rw [(index1 t).2.2]; omega

/-- Rows `512 * q` and on. -/
theorem other_blk (t : Fin cfg0.N) (q : Fin 16) (hq : t.val / 4 = q.val) (r : Fin 512) (j : Fin 2048) :
    other m c t (ix2 r j) = wholeOther m c (ix2 (rowAt q r) j) := by
  unfold other iblk wholeOther
  rw [View.read_apply]
  refine congrArg (V m c main_arg1) (funext fun a => Fin.ext ?_)
  match a with
  | ⟨0, _⟩ => show win0_2.index t 0 * 512 + 1 * r.val = 512 * q.val + r.val; rw [(index2 t).1, hq]; omega
  | ⟨1, _⟩ => show win0_2.index t 1 * 2048 + 1 * j.val = j.val; rw [(index2 t).2]; omega

/-- A point's step at an index, in terms of the whole operands. -/
theorem step_whole (n : ℕ) (h : n < cfg0.N) (s : Fin 4) (q : Fin 16) (hn : n = 4 * q.val + s.val)
    (acc : Vec Ideal S512x2048 .f32) (r : Fin 512) (j : Fin 2048) :
    k0_pay2 (F := Ideal) acc (left m c ⟨n, h⟩) (right m c ⟨n, h⟩) (ix2 r j)
      = acc (ix2 r j) + ∑ k : Fin 2048, wholeLeft m c (ix2 (rowAt q r) (at' s k)) * wholeRight m c (ix3 s j k) := by
  rw [step_at]
  refine congrArg (acc (ix2 r j) + ·) (Finset.sum_congr rfl fun k _ => ?_)
  rw [left_blk m c ⟨n, h⟩ s q (by show n % 4 = _; omega) (by show n / 4 = _; omega), right_blk m c ⟨n, h⟩ s (by show n % 4 = _; omega)]

theorem blocksOf_at (W : FVec Ideal S2048x8192 .f32) (s : Fin 4) (j k : Fin 2048) : blocksOf W (ix3 s j k) = W (ix2 j (at' s k)) := by
  unfold blocksOf
  pointwise
  exact congrArg (fun q => W (ix2 j q)) (Fin.ext (by show s.val * 2048 + k.val = 2048 * s.val + k.val; omega))

theorem gradOf_at (D : FVec Ideal S8192x8192 .f32) (i j : Fin 8192) : gradOf D (ix2 i j) = D (ix2 i j) := by
  unfold gradOf
  pointwise

/-! ## The array, and the reference -/

/-- The result. -/
def result : FVec Ideal S8192x2048 .f32 := G3 m c

/-- The result at an index: the scaled gradient plus the contraction over all columns. -/
theorem result_at (D : FVec Ideal S8192x8192 .f32) (Z : FVec Ideal S8192x2048 .f32) (W : FVec Ideal S2048x8192 .f32)
    (hD : wholeLeft m c = gradOf D) (hZ : wholeOther m c = Z) (hW : wholeRight m c = blocksOf W) (q : Fin 16) (r : Fin 512) (j : Fin 2048) :
    result m c (ix2 (rowAt q r) j) = scale * Z (ix2 (rowAt q r) j) + ∑ k : Fin 8192, D (ix2 (rowAt q r) k) * W (ix2 j k) := by
  have hN : cfg0.N = 64 := N_0
  have hq : pt3Of (ix2 (rowAt q r) j) = 4 * q.val + 3 := by
    show 4 * (1 * ((512 * q.val + r.val) / 512 - 0) + 1 * (j.val / 2048 - 0)) + 3 = _
    omega
  have hl : loc3Of (ix2 (rowAt q r) j) = (ix2 r j : S512x2048.Idx) := by
    refine funext fun a => Fin.ext ?_
    match a with
    | ⟨0, _⟩ => show (512 * q.val + r.val) % 512 = r.val; omega
    | ⟨1, _⟩ => show j.val % 2048 = j.val; omega
  have hlt : 4 * q.val + 3 < cfg0.N := by omega
  have hp : pt3Of (ix2 (rowAt q r) j) < cfg0.N := by rw [hq]; exact hlt
  have e : result m c (ix2 (rowAt q r) j) = (outsAt0 m c (4 * q.val + 3) hlt).1 (ix2 r j) := by
    unfold result G3
    rw [dif_pos hp, hl, fold0_congr m c _ (by omega) (4 * q.val + 3) (by omega) hq, ← outsAt0_sweep m c _ hlt]
  rw [e, block_eq m c _ hlt, kept_at, other_blk m c ⟨4 * q.val + 3, hlt⟩ q (by show (4 * q.val + 3) / 4 = _; omega), hZ,
    step_whole m c (4 * q.val + 3) hlt 3 q rfl, step_whole m c (4 * q.val + 2) (by omega) 2 q rfl,
    step_whole m c (4 * q.val + 1) (by omega) 1 q rfl, step_whole m c (4 * q.val) (by omega) 0 q rfl, zero_at]
  simp only [hD, hW, gradOf_at, blocksOf_at]
  exact congrArg (scale * Z (ix2 (rowAt q r) j) + ·) (four_parts fun k => D (ix2 (rowAt q r) k) * W (ix2 j k))

/-- The reference's result. -/
abbrev reference (D : FVec Ideal S8192x8192 .f32) (Z : FVec Ideal S8192x2048 .f32) (W : FVec Ideal S2048x8192 .f32) : FVec Ideal S8192x2048 .f32 :=
  addf (mulf (broadcastInDim Cert.Reference5Ideal.S8192x2048 ![] Cert.Reference5Ideal.Gen.bcast_S_S8192x2048 (constant Cert.Reference5Ideal.S_ .f32 0x3F9837F0#32)) Z)
    (Host.dotGeneral Cert.Reference5Ideal.dot_S8192x8192_S2048x8192_S8192x2048_1_1_0_0_n_n none D W)

theorem product_at (D : FVec Ideal S8192x8192 .f32) (W : FVec Ideal S2048x8192 .f32) (i : Fin 8192) (j : Fin 2048) :
    (Host.dotGeneral Cert.Reference5Ideal.dot_S8192x8192_S2048x8192_S8192x2048_1_1_0_0_n_n none D W : FVec Ideal S8192x2048 .f32) (ix2 i j) = ∑ k : Fin 8192, D (ix2 i k) * W (ix2 j k) := by
  pointwise

theorem reference_at (D : FVec Ideal S8192x8192 .f32) (Z : FVec Ideal S8192x2048 .f32) (W : FVec Ideal S2048x8192 .f32) (i : Fin 8192) (j : Fin 2048) :
    reference D Z W (ix2 i j) = scale * Z (ix2 i j) + ∑ k : Fin 8192, D (ix2 i k) * W (ix2 j k) := by
  rw [← product_at]
  rfl

/-- The reference's result is the kernel's. -/
theorem same (D : FVec Ideal S8192x8192 .f32) (Z : FVec Ideal S8192x2048 .f32) (W : FVec Ideal S2048x8192 .f32)
    (hD : D = m ((c : Thread nD τ).loc main_arg0)) (hZ : Z = m ((c : Thread nD τ).loc main_arg1)) (hW : W = m ((c : Thread nD τ).loc main_arg2)) :
    reference D Z W = G3 m c := by
  refine funext fun y => ?_
  obtain ⟨i, j, rfl⟩ : ∃ (i : Fin 8192) (j : Fin 2048), y = ix2 i j := ⟨_, _, eq_ix2 y⟩
  obtain ⟨q, r, rfl⟩ : ∃ (q : Fin 16) (r : Fin 512), i = rowAt q r :=
    ⟨⟨i.val / 512, by omega⟩, ⟨i.val % 512, by omega⟩, Fin.ext (by show i.val = 512 * (i.val / 512) + i.val % 512; omega)⟩
  exact (reference_at D Z W _ _).trans (result_at m c D Z W (by rw [hD]; exact grad_handed m c) (by rw [hZ]; exact V_main_arg1 m c)
    (by rw [hW]; exact blocks_handed m c) q r j).symm

theorem agree : Cert.algebraic_Kernel5Ideal_Reference5Ideal (hKernel5Ideal := Cert.Kernel5Ideal.Gen.facts) (hReference5Ideal := Cert.Reference5Ideal.Gen.facts) := by
  intro m g m' g' _ he
  refine ⟨fun c => G3 m c, Cert.Kernel5Ideal.Value.run m g, ?_⟩
  refine (θ_run _ _ _).mono (fun r h c => ?_) (Cert.Reference5Ideal.Value.run m' g')
  obtain ⟨r0, rest⟩ := h c
  obtain ⟨e0, e1, e2⟩ := he c
  exact ⟨r0.trans (same m c _ _ _ e0 e1 e2), rest⟩

end Cert.InputGrad

end
-- ==== Proof.MlpUp.lean ====
/-
  The MLP's first product with its activation. A grid point multiplies a block of rows with a column block of the weight and
  stores the squared positive part and the activation's slope; the 64 points' blocks are the two whole arrays. The reference
  squares the positive part and takes the slope by differentiating that: twice the positive part where the product is
  positive, and zero elsewhere, where twice the positive part is zero as well.
-/
module

public import proofs.«01_k».proof.Proof.Parts
public import proofs.«01_k».proof.Proof.Gen.Kernel6Ideal.Value
public import proofs.«01_k».proof.Proof.Gen.Reference6Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.MlpUp

open Cert.Kernel6Ideal Cert.Kernel6Ideal.Gen Cert.Kernel6Ideal.Value Idealize.ShloMosaic Idealize.ShloMosaic.TcCoe Idealize.SL.Sem Cert.Parts

/-! ## One grid point -/

theorem point_square (x0 : Vec Ideal S1024x2048 .bf16) (x1 : Vec Ideal S1x2048x1024 .bf16) : out0_2 x0 x1 = k0_pay2 (F := Ideal) x0 x1 := by
  frame_out

theorem point_slope (x0 : Vec Ideal S1024x2048 .bf16) (x1 : Vec Ideal S1x2048x1024 .bf16) : out0_3 x0 x1 = k0_pay3 (F := Ideal) x0 x1 := by
  frame_out

/-- The product at an index. -/
abbrev dot (x0 : Vec Ideal S1024x2048 .bf16) (x1 : Vec Ideal S1x2048x1024 .bf16) (r l : Fin 1024) : EReal := ∑ k : Fin 2048, x0 (ix2 r k) * x1 (ix3 0 k l)

/-- The constant two, as it is written. -/
abbrev two : EReal := Ideal.ofBits FTy.f32 0x40000000#32

theorem square_at (x0 : Vec Ideal S1024x2048 .bf16) (x1 : Vec Ideal S1x2048x1024 .bf16) (r l : Fin 1024) :
    k0_pay2 (F := Ideal) x0 x1 (ix2 r l) = max (dot x0 x1 r l) 0 * max (dot x0 x1 r l) 0 := by
  unfold k0_pay2 k0_pay1
  pointwise

theorem slope_at (x0 : Vec Ideal S1024x2048 .bf16) (x1 : Vec Ideal S1x2048x1024 .bf16) (r l : Fin 1024) :
    k0_pay3 (F := Ideal) x0 x1 (ix2 r l) = two * max (dot x0 x1 r l) 0 := by
  unfold k0_pay3 k0_pay1
  pointwise

/-! ## The blocks a point is handed -/

variable (m : (ℓ : Loc nD τ sig) → Buf (Elt Ideal) ℓ) (c : Dev nD)

theorem index0 (t : Fin cfg0.N) : win0_0.index t 0 = t.val / 8 ∧ win0_0.index t 1 = 0 := by revert t; decide +kernel
theorem index1 (t : Fin cfg0.N) : win0_1.index t 0 = t.val % 8 / 2 ∧ win0_1.index t 1 = 0 ∧ win0_1.index t 2 = t.val % 8 % 2 := by revert t; decide +kernel
theorem index2 (t : Fin cfg0.N) : win0_2.index t 0 = t.val / 8 ∧ win0_2.index t 1 = t.val % 8 := by revert t; decide +kernel
theorem index3 (t : Fin cfg0.N) : win0_3.index t 0 = t.val / 8 ∧ win0_3.index t 1 = t.val % 8 := by revert t; decide +kernel

/-- The two input blocks of a point. -/
abbrev left (t : Fin cfg0.N) : Vec Ideal S1024x2048 .bf16 := iblk m c 0 t
abbrev right (t : Fin cfg0.N) : Vec Ideal S1x2048x1024 .bf16 := iblk m c 1 t

/-- The activations and the weight's column blocks, as they are handed. -/
abbrev rowsOf (X : FVec Ideal S8192x2048 .f32) : FVec Ideal S8192x2048 .bf16 := truncf .bf16 X bitsLt_bf16_f32
abbrev blocksOf (W : FVec Ideal S2048x8192 .f32) : FVec Ideal S4x2048x2048 .bf16 :=
  transpose S4x2048x2048 [1, 0, 2] (shapeCast S2048x4x2048 (truncf .bf16 W bitsLt_bf16_f32 : FVec Ideal S2048x8192 .bf16) shapeCasts_S2048x8192_S2048x4x2048)
    transposes_S2048x4x2048_S4x2048x2048_1_0_2

theorem rows_handed : V m c main_v0 = rowsOf (m ((c : Thread nD τ).loc main_arg0)) := by
  have e : V m c main_v0 = StableHlo.after hostOps0 (fun b => m (c, b)) (Proc.devRef .tc main_v0) := rfl
  rw [e]
  simp only [hostOps0]
  after_results_simp

theorem blocks_handed : V m c main_v3 = blocksOf (m ((c : Thread nD τ).loc main_arg1)) := by
  have e : V m c main_v3 = StableHlo.after hostOps0 (fun b => m (c, b)) (Proc.devRef .tc main_v3) := rfl
  rw [e]
  simp only [hostOps0]
  after_results_simp
  rfl

/-- The whole operands. -/
def wholeLeft : FVec Ideal S8192x2048 .bf16 := V m c main_v0
def wholeRight : FVec Ideal S4x2048x2048 .bf16 := V m c main_v3

/-- Place `r` of block `q` of an axis cut into eight. -/
abbrev place (q : Fin 8) (r : Fin 1024) : Fin 8192 := ⟨1024 * q.val + r.val, by omega⟩

theorem left_blk (t : Fin cfg0.N) (q : Fin 8) (hq : t.val / 8 = q.val) (r : Fin 1024) (k : Fin 2048) : left m c t (ix2 r k) = wholeLeft m c (ix2 (place q r) k) := by
  unfold left iblk wholeLeft
  rw [View.read_apply]
  refine congrArg (V m c main_v0) (funext fun a => Fin.ext ?_)
  match a with
  | ⟨0, _⟩ => show win0_0.index t 0 * 1024 + 1 * r.val = 1024 * q.val + r.val; rw [(index0 t).1, hq]; omega
  | ⟨1, _⟩ => show win0_0.index t 1 * 2048 + 1 * k.val = k.val; rw [(index0 t).2]; omega

theorem right_blk (t : Fin cfg0.N) (q : Fin 8) (hq : t.val % 8 = q.val) (k : Fin 2048) (l : Fin 1024) :
    right m c t (ix3 0 k l) = wholeRight m c (ix3 (⟨q.val / 2, by omega⟩ : Fin 4) k (⟨1024 * (q.val % 2) + l.val, by omega⟩ : Fin 2048)) := by
  unfold right iblk wholeRight
  rw [View.read_apply]
  refine congrArg (V m c main_v3) (funext fun a => Fin.ext ?_)
  match a with
  | ⟨0, _⟩ => show win0_1.index t 0 * 1 + 1 * 0 = q.val / 2; rw [(index1 t).1, hq]; omega
  | ⟨1, _⟩ => show win0_1.index t 1 * 2048 + 1 * k.val = k.val; rw [(index1 t).2.1]; omega
  | ⟨2, _⟩ => show win0_1.index t 2 * 1024 + 1 * l.val = 1024 * (q.val % 2) + l.val; rw [(index1 t).2.2, hq]; omega

theorem blocksOf_at (W : FVec Ideal S2048x8192 .f32) (q : Fin 8) (k : Fin 2048) (l : Fin 1024) :
    blocksOf W (ix3 (⟨q.val / 2, by omega⟩ : Fin 4) k (⟨1024 * (q.val % 2) + l.val, by omega⟩ : Fin 2048)) = W (ix2 k (place q l)) := by
  unfold blocksOf
  pointwise
  exact congrArg (fun q => W (ix2 k q)) (Fin.ext (by show q.val / 2 * 2048 + (1024 * (q.val % 2) + l.val) = 1024 * q.val + l.val; omega))

theorem rowsOf_at (X : FVec Ideal S8192x2048 .f32) (i : Fin 8192) (j : Fin 2048) : rowsOf X (ix2 i j) = X (ix2 i j) := by
  unfold rowsOf
  pointwise

/-! ## The arrays, and the reference -/

section Whole

variable (X : FVec Ideal S8192x2048 .f32) (W : FVec Ideal S2048x8192 .f32)

/-- The whole product at an index. -/
def whole (i j : Fin 8192) : EReal := ∑ k : Fin 2048, X (ix2 i k) * W (ix2 k j)

/-- The two results as functions of the arguments. -/
def squares : FVec Ideal S8192x8192 .bf16 := fun y => max (whole X W (y 0) (y 1)) 0 * max (whole X W (y 0) (y 1)) 0
def slopes : FVec Ideal S8192x8192 .bf16 := fun y => two * max (whole X W (y 0) (y 1)) 0

variable (hX : X = m ((c : Thread nD τ).loc main_arg0)) (hW : W = m ((c : Thread nD τ).loc main_arg1))

include hX hW in
/-- A point's product. -/
theorem dot_whole (t : Fin cfg0.N) (p q : Fin 8) (hp : t.val / 8 = p.val) (hq : t.val % 8 = q.val) (r l : Fin 1024) :
    dot (left m c t) (right m c t) r l = whole X W (place p r) (place q l) := by
  have hl : wholeLeft m c = rowsOf X := by rw [hX]; exact rows_handed m c
  have hr : wholeRight m c = blocksOf W := by rw [hW]; exact blocks_handed m c
  unfold dot whole
  simp only [left_blk m c t p hp, right_blk m c t q hq, hl, hr, rowsOf_at, blocksOf_at]

include hX hW in
theorem point_squares (t : Fin cfg0.N) (p q : Fin 8) (hp : t.val / 8 = p.val) (hq : t.val % 8 = q.val) (r l : Fin 1024) :
    k0_pay2 (F := Ideal) (left m c t) (right m c t) (ix2 r l) = squares X W (ix2 (place p r) (place q l)) := by
  rw [square_at, dot_whole m c X W hX hW t p q hp hq]
  rfl

include hX hW in
theorem array_squares : (dats m 0 c).arrAt 2 cfg0.N = squares X W := by
  refine (dats m 0 c).arrAt_eq_of_covers 2 _ (by decide +kernel) fun t hf y => ?_
  have ht : t.val < 64 := lt_of_lt_of_eq t.isLt (N_0 : cfg0.N = 64)
  have e := after0_2 m c t
  rw [point_square] at e
  have i0 : win0_2.index t 0 * 1024 + 1 * (y 0).val = 1024 * (t.val / 8) + (y 0).val := by rw [(index2 t).1]; omega
  have i1 : win0_2.index t 1 * 1024 + 1 * (y 1).val = 1024 * (t.val % 8) + (y 1).val := by rw [(index2 t).2]; omega
  have hy : y = (ix2 (y 0 : Fin 1024) (y 1 : Fin 1024) : S1024x1024.Idx) := eq_ix2 y
  have hz : ((cfg0.win 2).blk t).view.emb y = (ix2 (place ⟨t.val / 8, by omega⟩ (y 0)) (place ⟨t.val % 8, by omega⟩ (y 1)) : S8192x8192.Idx) :=
    funext fun a => match a with | ⟨0, _⟩ => Fin.ext i0 | ⟨1, _⟩ => Fin.ext i1
  rw [hz, ← point_squares m c X W hX hW t ⟨t.val / 8, by omega⟩ ⟨t.val % 8, by omega⟩ rfl rfl (y 0) (y 1), ← hy]
  exact congrFun e y

include hX hW in
theorem point_slopes (t : Fin cfg0.N) (p q : Fin 8) (hp : t.val / 8 = p.val) (hq : t.val % 8 = q.val) (r l : Fin 1024) :
    k0_pay3 (F := Ideal) (left m c t) (right m c t) (ix2 r l) = slopes X W (ix2 (place p r) (place q l)) := by
  rw [slope_at, dot_whole m c X W hX hW t p q hp hq]
  rfl

include hX hW in
theorem array_slopes : (dats m 0 c).arrAt 3 cfg0.N = slopes X W := by
  refine (dats m 0 c).arrAt_eq_of_covers 3 _ (by decide +kernel) fun t hf y => ?_
  have ht : t.val < 64 := lt_of_lt_of_eq t.isLt (N_0 : cfg0.N = 64)
  have e := after0_3 m c t
  rw [point_slope] at e
  have i0 : win0_3.index t 0 * 1024 + 1 * (y 0).val = 1024 * (t.val / 8) + (y 0).val := by rw [(index3 t).1]; omega
  have i1 : win0_3.index t 1 * 1024 + 1 * (y 1).val = 1024 * (t.val % 8) + (y 1).val := by rw [(index3 t).2]; omega
  have hy : y = (ix2 (y 0 : Fin 1024) (y 1 : Fin 1024) : S1024x1024.Idx) := eq_ix2 y
  have hz : ((cfg0.win 3).blk t).view.emb y = (ix2 (place ⟨t.val / 8, by omega⟩ (y 0)) (place ⟨t.val % 8, by omega⟩ (y 1)) : S8192x8192.Idx) :=
    funext fun a => match a with | ⟨0, _⟩ => Fin.ext i0 | ⟨1, _⟩ => Fin.ext i1
  rw [hz, ← point_slopes m c X W hX hW t ⟨t.val / 8, by omega⟩ ⟨t.val % 8, by omega⟩ rfl rfl (y 0) (y 1), ← hy]
  exact congrFun e y

/-- The reference's product and its two results. -/
abbrev product : FVec Ideal S8192x8192 .f32 := Host.dotGeneral Cert.Reference6Ideal.dot_S8192x2048_S2048x8192_S8192x8192_1_0_0_1_n_n none X W
abbrev filled (b : BitVec 32) : FVec Ideal S8192x8192 .f32 :=
  broadcastInDim Cert.Reference6Ideal.S8192x8192 ![] Cert.Reference6Ideal.Gen.bcast_S_S8192x8192 (constant Cert.Reference6Ideal.S_ .f32 b)
abbrev refSquares (P : FVec Ideal S8192x8192 .f32) : FVec Ideal S8192x8192 .bf16 :=
  truncf .bf16 (mulf (maximumf P (filled 0x00000000#32)) (maximumf P (filled 0x00000000#32))) Cert.Reference6Ideal.Gen.bitsLt_bf16_f32
abbrev refSlopes (P : FVec Ideal S8192x8192 .f32) : FVec Ideal S8192x8192 .bf16 :=
  truncf .bf16 (select (cmpf .ogt P (filled 0x00000000#32)) (mulf (filled 0x3F800000#32) (mulf (filled 0x40000000#32) (maximumf P (filled 0x00000000#32)))) (filled 0x00000000#32))
    Cert.Reference6Ideal.Gen.bitsLt_bf16_f32

theorem product_at (i j : Fin 8192) : product X W (ix2 i j) = whole X W i j := by
  unfold product whole
  pointwise

theorem refSquares_at (P : FVec Ideal S8192x8192 .f32) (i j : Fin 8192) : refSquares P (ix2 i j) = max (P (ix2 i j)) 0 * max (P (ix2 i j)) 0 := by
  unfold refSquares filled
  pointwise

theorem refSlopes_at (P : FVec Ideal S8192x8192 .f32) (i j : Fin 8192) : refSlopes P (ix2 i j) = two * max (P (ix2 i j)) 0 := by
  unfold refSlopes filled
  pointwise
  split_ifs with h
  · first | rfl | rw [one_mul]
  · rw [max_eq_right (not_lt.mp h), mul_zero]

include hX hW in
theorem same_squares : refSquares (product X W) = (dats m 0 c).arrAt 2 cfg0.N := by
  rw [array_squares m c X W hX hW]
  refine funext fun y => ?_
  obtain ⟨i, j, rfl⟩ : ∃ i j : Fin 8192, y = ix2 i j := ⟨_, _, eq_ix2 y⟩
  refine (refSquares_at _ i j).trans ?_
  rw [product_at]
  rfl

include hX hW in
theorem same_slopes : refSlopes (product X W) = (dats m 0 c).arrAt 3 cfg0.N := by
  rw [array_slopes m c X W hX hW]
  refine funext fun y => ?_
  obtain ⟨i, j, rfl⟩ : ∃ i j : Fin 8192, y = ix2 i j := ⟨_, _, eq_ix2 y⟩
  refine (refSlopes_at _ i j).trans ?_
  rw [product_at]
  rfl

end Whole

theorem agree : Cert.algebraic_Kernel6Ideal_Reference6Ideal (hKernel6Ideal := Cert.Kernel6Ideal.Gen.facts) (hReference6Ideal := Cert.Reference6Ideal.Gen.facts) := by
  intro m g m' g' _ he
  refine ⟨fun c => (dats m 0 c).arrAt 2 cfg0.N, fun c => (dats m 0 c).arrAt 3 cfg0.N, Cert.Kernel6Ideal.Value.run_blocks m g, ?_⟩
  refine (θ_run _ _ _).mono (fun r h c => ?_) (Cert.Reference6Ideal.Value.run m' g')
  obtain ⟨r0, r1, rest⟩ := h c
  obtain ⟨e0, e1⟩ := he c
  exact ⟨r0.trans (same_squares m c _ _ e0 e1), r1.trans (same_slopes m c _ _ e0 e1), rest⟩

end Cert.MlpUp

end
-- ==== Proof.NormRow.lean ====
/-
  One row of a layer norm, as it is written: the row's mean, an entry's distance from it, and the reciprocal of the row's
  deviation.
-/
module

public import proofs.«01_k».proof.Proof.Parts
public import Idealize.ShloMosaic.Lib.Pointwise

@[expose] public section

noncomputable section

namespace Cert.NormRow

open Idealize.ShloMosaic

/-- The row's length and the number added to its variance, as they are written. -/
abbrev count : EReal := Ideal.ofBits FTy.f32 0x45000000#32
abbrev small : EReal := Ideal.ofBits FTy.f32 0x3727C5AC#32

variable (z : Fin 2048 → EReal)

def mean : EReal := Ideal.div (∑ k : Fin 2048, z k) count
def away (k : Fin 2048) : EReal := z k - mean z
def scale : EReal := Ideal.rsqrt (Ideal.div (∑ k : Fin 2048, away z k * away z k) count + small)
def unit (k : Fin 2048) : EReal := away z k * scale z

end Cert.NormRow

end
-- ==== Proof.NormGrad.lean ====
/-
  The gradient of one row of a layer norm, in two forms. The kernel's takes the distance of each weighted gradient from the
  row's mean and takes off the part along the normalized row; the reference's is the chain rule through the
  reciprocal deviation, the variance and the mean, step by step. For a row of finite numbers every step is a real number, and
  the two forms are the same one: the distances from the mean sum to zero, and the square of the reciprocal deviation is the
  reciprocal of the variance.
-/
module

public import proofs.«01_k».proof.Proof.NormRow
public import proofs.«01_k».proof.Proof.RowMath

@[expose] public section

noncomputable section

namespace Cert.NormRow

open Idealize.ShloMosaic Cert.Attn

/-! ## The constants -/

theorem count_real : count = ((2048 : ℝ) : EReal) := by
  simp [count, Ideal.ofBits, Ideal.ieee]
  rw [← EReal.coe_mul, EReal.coe_eq_coe_iff]
  norm_num

theorem small_real : ∃ x : ℝ, 0 < x ∧ small = (x : EReal) := by
  simp [small, Ideal.ofBits, Ideal.ieee, -EReal.coe_mul]

abbrev half : EReal := Ideal.ofBits FTy.f32 0xBF000000#32
abbrev two : EReal := Ideal.ofBits FTy.f32 0x40000000#32
abbrev factor : EReal := Ideal.ofBits FTy.f32 0x3F9837F0#32

theorem half_real : half = ((-(1 / 2) : ℝ) : EReal) := by
  simp [half, Ideal.ofBits, Ideal.ieee]
  rw [← EReal.coe_mul, EReal.coe_eq_coe_iff]
  norm_num

theorem two_real : two = ((2 : ℝ) : EReal) := by
  simp [two, Ideal.ofBits, Ideal.ieee]
  rw [← EReal.coe_mul, EReal.coe_eq_coe_iff]
  norm_num

theorem factor_real : ∃ x : ℝ, factor = (x : EReal) := by
  simp [factor, Ideal.ofBits, Ideal.ieee, -EReal.coe_mul]

/-! ## The two forms -/

/-- A finite number. -/
def Fin' (x : EReal) : Prop := ∃ r : ℝ, x = (r : EReal)

theorem fin_add {x y : EReal} (hx : Fin' x) (hy : Fin' y) : Fin' (x + y) := by
  obtain ⟨a, rfl⟩ := hx; obtain ⟨b, rfl⟩ := hy; exact ⟨a + b, (EReal.coe_add a b).symm⟩
theorem fin_sub {x y : EReal} (hx : Fin' x) (hy : Fin' y) : Fin' (x - y) := by
  obtain ⟨a, rfl⟩ := hx; obtain ⟨b, rfl⟩ := hy; exact ⟨a - b, (EReal.coe_sub a b).symm⟩
theorem fin_mul {x y : EReal} (hx : Fin' x) (hy : Fin' y) : Fin' (x * y) := by
  obtain ⟨a, rfl⟩ := hx; obtain ⟨b, rfl⟩ := hy; exact ⟨a * b, (EReal.coe_mul a b).symm⟩
theorem fin_sum {n : ℕ} {f : Fin n → EReal} (h : ∀ k, Fin' (f k)) : Fin' (∑ k, f k) := by
  choose r hr using h
  exact ⟨∑ k, r k, by rw [← coe_sum]; exact Finset.sum_congr rfl fun k _ => hr k⟩

variable (z w : Fin 2048 → EReal)

/-- The variance with the small number. -/
def spread : EReal := Ideal.div (∑ k : Fin 2048, away z k * away z k) count + small

/-- The gradient of a row from the weighted gradient `w`, the normalized row `x` and the reciprocal deviation `s`. -/
def back (x : Fin 2048 → EReal) (s : EReal) (j : Fin 2048) : EReal :=
  s * (w j - Ideal.div (∑ k : Fin 2048, w k) count - x j * Ideal.div (∑ k : Fin 2048, w k * x k) count)

/-- The chain rule's steps: the coefficient behind the variance, its part of the gradient, and the gradient. -/
def coefficient : EReal := Ideal.div ((∑ k : Fin 2048, away z k * w k) * (half * Ideal.div (scale z) (spread z))) count
def through (j : Fin 2048) : EReal := coefficient z w * (two * away z j)
def chain (j : Fin 2048) : EReal :=
  w j * scale z + through z w j + Ideal.div ((∑ k : Fin 2048, -(w k * scale z)) + ∑ k : Fin 2048, -(through z w k)) count

/-- The reals behind a row. -/
theorem row_real (hz : ∀ k, Fin' (z k)) :
    ∃ (a : Fin 2048 → ℝ) (v s : ℝ), 0 < v ∧ s * s = 1 / v ∧ ∑ k, a k = 0 ∧ (∀ k, away z k = (a k : EReal)) ∧ spread z = (v : EReal) ∧ scale z = (s : EReal) := by
  choose r hr using hz
  obtain ⟨e, he, hs⟩ := small_real
  have hm : mean z = (((∑ k, r k) / 2048 : ℝ) : EReal) := by
    unfold mean
    rw [count_real, Finset.sum_congr rfl fun k _ => hr k, coe_sum, div_real _ (by norm_num)]
  have ha : ∀ k, away z k = ((r k - (∑ k, r k) / 2048 : ℝ) : EReal) := fun k => by
    unfold away
    rw [hm, hr k, EReal.coe_sub]
  have hv : spread z = (((∑ k, (r k - (∑ k, r k) / 2048) * (r k - (∑ k, r k) / 2048)) / 2048 + e : ℝ) : EReal) := by
    unfold spread
    have : ∑ k, away z k * away z k = ((∑ k, (r k - (∑ k, r k) / 2048) * (r k - (∑ k, r k) / 2048) : ℝ) : EReal) := by
      rw [← coe_sum]
      exact Finset.sum_congr rfl fun k _ => by rw [ha k, EReal.coe_mul]
    rw [this, count_real, hs, div_real _ (by norm_num), EReal.coe_add]
  have hpos : 0 < (∑ k, (r k - (∑ k, r k) / 2048) * (r k - (∑ k, r k) / 2048)) / 2048 + e :=
    add_pos_of_nonneg_of_pos (div_nonneg (Finset.sum_nonneg fun k _ => mul_self_nonneg _) (by norm_num)) he
  refine ⟨_, _, (Real.sqrt ((∑ k, (r k - (∑ k, r k) / 2048) * (r k - (∑ k, r k) / 2048)) / 2048 + e))⁻¹, hpos, ?_, ?_, ha, hv, ?_⟩
  · rw [← mul_inv, Real.mul_self_sqrt hpos.le, one_div]
  · rw [Finset.sum_sub_distrib, Finset.sum_const, Finset.card_univ, Fintype.card_fin, nsmul_eq_mul]
    norm_num
    ring
  · show Ideal.rsqrt (spread z) = _
    rw [hv, Ideal.rsqrt_coe, if_neg (not_lt.mpr hpos.le), if_neg hpos.ne']

/-- The two forms are one. -/
theorem back_eq_chain (hz : ∀ k, Fin' (z k)) (hw : ∀ k, Fin' (w k)) (j : Fin 2048) : back w (unit z) (scale z) j = chain z w j := by
  obtain ⟨a, v, s, hv, hs, h0, ha, hsp, hsc⟩ := row_real z hz
  choose b hb using hw
  have hA : ∑ k, away z k * w k = ((∑ k, a k * b k : ℝ) : EReal) := by
    rw [← coe_sum]; exact Finset.sum_congr rfl fun k _ => by rw [ha k, hb k, EReal.coe_mul]
  have hU : ∑ k, w k * unit z k = ((s * ∑ k, a k * b k : ℝ) : EReal) := by
    rw [Finset.mul_sum, ← coe_sum]
    refine Finset.sum_congr rfl fun k _ => ?_
    unfold unit
    rw [ha k, hb k, hsc, ← EReal.coe_mul, ← EReal.coe_mul]
    exact congrArg _ (by ring)
  have hW : ∑ k, w k = ((∑ k, b k : ℝ) : EReal) := by
    rw [← coe_sum]; exact Finset.sum_congr rfl fun k _ => hb k
  generalize hAr : ∑ k, a k * b k = A at hA hU
  generalize hWr : ∑ k, b k = W at hW
  have hc : coefficient z w = ((A * (-(1 / 2) * (s / v)) / 2048 : ℝ) : EReal) := by
    unfold coefficient
    rw [hA, half_real, hsc, hsp, div_real _ hv.ne', ← EReal.coe_mul, ← EReal.coe_mul, count_real, div_real _ (by norm_num)]
  have ht : ∀ k, through z w k = ((A * (-(1 / 2) * (s / v)) / 2048 * (2 * a k) : ℝ) : EReal) := fun k => by
    unfold through
    rw [hc, two_real, ha k, ← EReal.coe_mul, ← EReal.coe_mul]
  have hT : ∑ k, -(through z w k) = ((0 : ℝ) : EReal) := by
    rw [Finset.sum_congr rfl fun k _ => by rw [ht k, ← EReal.coe_neg], coe_sum]
    refine congrArg _ ?_
    rw [Finset.sum_neg_distrib, ← Finset.mul_sum, ← Finset.mul_sum, h0, mul_zero, mul_zero, neg_zero]
  have hN : ∑ k, -(w k * scale z) = ((-(W * s) : ℝ) : EReal) := by
    rw [Finset.sum_congr rfl fun k _ => by rw [hb k, hsc, ← EReal.coe_mul, ← EReal.coe_neg], coe_sum]
    refine congrArg _ ?_
    rw [Finset.sum_neg_distrib, ← Finset.sum_mul, hWr]
  unfold back chain
  rw [hU, hW, hT, hN, ht j, hb j, hsc, count_real, ← EReal.coe_add, div_real _ (by norm_num), div_real _ (by norm_num), div_real _ (by norm_num)]
  unfold unit
  rw [ha j, hsc]
  simp only [← EReal.coe_mul, ← EReal.coe_sub, ← EReal.coe_add]
  refine congrArg _ ?_
  have e : s / v = s * (s * s) := by rw [hs]; ring
  rw [e]
  ring

end Cert.NormRow

end
-- ==== Proof.MixNorm.lean ====
/-
  The mixer's output product with its layer norm. A grid point multiplies a block of rows with the whole weight, adds the
  scaled residual, and stores the normalized rows, the reciprocal of each row's deviation and the rows after gain and bias;
  the 16 points' blocks are the three whole arrays. The reference normalizes the whole array.
-/
module

public import proofs.«01_k».proof.Proof.NormRow
public import proofs.«01_k».proof.Proof.Gen.Kernel10Ideal.Value
public import proofs.«01_k».proof.Proof.Gen.Reference10Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.MixNorm

open Cert.Kernel10Ideal Cert.Kernel10Ideal.Gen Cert.Kernel10Ideal.Value Idealize.ShloMosaic Idealize.ShloMosaic.TcCoe Idealize.SL.Sem Cert.Parts

/-! ## One grid point -/

section Point

variable (x0 : Vec Ideal S512x2048 .bf16) (x1 : Vec Ideal S2048x2048 .bf16) (x2 : FVec Ideal S512x2048 .f32) (x3 x4 : FVec Ideal S1x2048 .f32)

theorem point_unit : out0_5 x0 x1 x2 x3 x4 = k0_pay3 (F := Ideal) x0 x1 x2 := by
  frame_out

theorem point_scale : out0_6 x0 x1 x2 x3 x4 = k0_pay2 (F := Ideal) x0 x1 x2 := by
  frame_out

theorem point_result : out0_7 x0 x1 x2 x3 x4 = k0_pay4 (F := Ideal) x0 x1 x2 x3 x4 := by
  frame_out

/-- The residual's factor, as it is written. -/
abbrev factor : EReal := Ideal.ofBits FTy.f32 0x3F9837F0#32

/-- A row of the block before it is normalized. -/
def row (r : Fin 512) (k : Fin 2048) : EReal := factor * x2 (ix2 r k) + ∑ j : Fin 2048, x0 (ix2 r j) * x1 (ix2 j k)

theorem away_at (r : Fin 512) (l : Fin 2048) : k0_pay1 (F := Ideal) x0 x1 x2 (ix2 r l) = NormRow.away (row x0 x1 x2 r) l := by
  unfold k0_pay1 NormRow.away NormRow.mean row
  pointwise

theorem scale_at (r : Fin 512) : k0_pay2 (F := Ideal) x0 x1 x2 (ix2 r 0) = NormRow.scale (row x0 x1 x2 r) := by
  unfold k0_pay2 NormRow.scale
  simp only [← away_at]
  pointwise

theorem unit_at (r : Fin 512) (l : Fin 2048) : k0_pay3 (F := Ideal) x0 x1 x2 (ix2 r l) = NormRow.unit (row x0 x1 x2 r) l := by
  unfold k0_pay3 NormRow.unit
  simp only [← away_at, ← scale_at]
  pointwise

theorem result_at (r : Fin 512) (l : Fin 2048) :
    k0_pay4 (F := Ideal) x0 x1 x2 x3 x4 (ix2 r l) = NormRow.unit (row x0 x1 x2 r) l * x3 (ix2 0 l) + x4 (ix2 0 l) := by
  unfold k0_pay4
  simp only [← unit_at]
  pointwise

end Point

/-! ## The blocks a point is handed -/

variable (m : (ℓ : Loc nD τ sig) → Buf (Elt Ideal) ℓ) (c : Dev nD)

theorem index0 (t : Fin cfg0.N) : win0_0.index t 0 = t.val ∧ win0_0.index t 1 = 0 := by revert t; decide +kernel
theorem index1 (t : Fin cfg0.N) : win0_1.index t 0 = 0 ∧ win0_1.index t 1 = 0 := by revert t; decide +kernel
theorem index2 (t : Fin cfg0.N) : win0_2.index t 0 = t.val ∧ win0_2.index t 1 = 0 := by revert t; decide +kernel
theorem index3 (t : Fin cfg0.N) : win0_3.index t 0 = 0 ∧ win0_3.index t 1 = 0 := by revert t; decide +kernel
theorem index4 (t : Fin cfg0.N) : win0_4.index t 0 = 0 ∧ win0_4.index t 1 = 0 := by revert t; decide +kernel
theorem index5 (t : Fin cfg0.N) : win0_5.index t 0 = t.val ∧ win0_5.index t 1 = 0 := by revert t; decide +kernel
theorem index6 (t : Fin cfg0.N) : win0_6.index t 0 = t.val ∧ win0_6.index t 1 = 0 := by revert t; decide +kernel
theorem index7 (t : Fin cfg0.N) : win0_7.index t 0 = t.val ∧ win0_7.index t 1 = 0 := by revert t; decide +kernel

/-- The five input blocks of a point. -/
abbrev left (t : Fin cfg0.N) : Vec Ideal S512x2048 .bf16 := iblk m c 0 t
abbrev right (t : Fin cfg0.N) : Vec Ideal S2048x2048 .bf16 := iblk m c 1 t
abbrev residual (t : Fin cfg0.N) : FVec Ideal S512x2048 .f32 := iblk m c 2 t
abbrev gain (t : Fin cfg0.N) : FVec Ideal S1x2048 .f32 := iblk m c 3 t
abbrev bias (t : Fin cfg0.N) : FVec Ideal S1x2048 .f32 := iblk m c 4 t

/-- The two factors, as they are handed. -/
abbrev rowsOf (X : FVec Ideal S8192x2048 .f32) : FVec Ideal S8192x2048 .bf16 := truncf .bf16 X bitsLt_bf16_f32
abbrev weightOf (W : FVec Ideal S2048x2048 .f32) : FVec Ideal S2048x2048 .bf16 := truncf .bf16 W bitsLt_bf16_f32

theorem rows_handed : V m c main_v0 = rowsOf (m ((c : Thread nD τ).loc main_arg0)) := by
  have e : V m c main_v0 = StableHlo.after hostOps0 (fun b => m (c, b)) (Proc.devRef .tc main_v0) := rfl
  rw [e]
  simp only [hostOps0]
  after_results_simp

theorem weight_handed : V m c main_v1 = weightOf (m ((c : Thread nD τ).loc main_arg1)) := by
  have e : V m c main_v1 = StableHlo.after hostOps0 (fun b => m (c, b)) (Proc.devRef .tc main_v1) := rfl
  rw [e]
  simp only [hostOps0]
  after_results_simp

/-- Place `r` of row block `p` of sixteen. -/
abbrev place (p : Fin 16) (r : Fin 512) : Fin 8192 := ⟨512 * p.val + r.val, by omega⟩

theorem left_blk (t : Fin cfg0.N) (p : Fin 16) (hp : t.val = p.val) (r : Fin 512) (k : Fin 2048) (A : FVec Ideal S8192x2048 .bf16) (hA : V m c main_v0 = A) :
    left m c t (ix2 r k) = A (ix2 (place p r) k) := by
  subst hA
  unfold left iblk
  rw [View.read_apply]
  refine congrArg (V m c main_v0) (funext fun a => Fin.ext ?_)
  match a with
  | ⟨0, _⟩ => show win0_0.index t 0 * 512 + 1 * r.val = 512 * p.val + r.val; rw [(index0 t).1, hp]; omega
  | ⟨1, _⟩ => show win0_0.index t 1 * 2048 + 1 * k.val = k.val; rw [(index0 t).2]; omega

theorem residual_blk (t : Fin cfg0.N) (p : Fin 16) (hp : t.val = p.val) (r : Fin 512) (k : Fin 2048) (A : FVec Ideal S8192x2048 .f32) (hA : V m c main_arg2 = A) :
    residual m c t (ix2 r k) = A (ix2 (place p r) k) := by
  subst hA
  unfold residual iblk
  rw [View.read_apply]
  refine congrArg (V m c main_arg2) (funext fun a => Fin.ext ?_)
  match a with
  | ⟨0, _⟩ => show win0_2.index t 0 * 512 + 1 * r.val = 512 * p.val + r.val; rw [(index2 t).1, hp]; omega
  | ⟨1, _⟩ => show win0_2.index t 1 * 2048 + 1 * k.val = k.val; rw [(index2 t).2]; omega

theorem right_blk (t : Fin cfg0.N) (j k : Fin 2048) (A : FVec Ideal S2048x2048 .bf16) (hA : V m c main_v1 = A) : right m c t (ix2 j k) = A (ix2 j k) := by
  subst hA
  unfold right iblk
  rw [View.read_apply]
  refine congrArg (V m c main_v1) (funext fun a => Fin.ext ?_)
  match a with
  | ⟨0, _⟩ => show win0_1.index t 0 * 2048 + 1 * j.val = j.val; rw [(index1 t).1]; omega
  | ⟨1, _⟩ => show win0_1.index t 1 * 2048 + 1 * k.val = k.val; rw [(index1 t).2]; omega

theorem gain_blk (t : Fin cfg0.N) (k : Fin 2048) (A : FVec Ideal S1x2048 .f32) (hA : V m c main_arg3 = A) : gain m c t (ix2 0 k) = A (ix2 0 k) := by
  subst hA
  unfold gain iblk
  rw [View.read_apply]
  refine congrArg (V m c main_arg3) (funext fun a => Fin.ext ?_)
  match a with
  | ⟨0, _⟩ => show win0_3.index t 0 * 1 + 1 * 0 = 0; rw [(index3 t).1]
  | ⟨1, _⟩ => show win0_3.index t 1 * 2048 + 1 * k.val = k.val; rw [(index3 t).2]; omega

theorem bias_blk (t : Fin cfg0.N) (k : Fin 2048) (A : FVec Ideal S1x2048 .f32) (hA : V m c main_arg4 = A) : bias m c t (ix2 0 k) = A (ix2 0 k) := by
  subst hA
  unfold bias iblk
  rw [View.read_apply]
  refine congrArg (V m c main_arg4) (funext fun a => Fin.ext ?_)
  match a with
  | ⟨0, _⟩ => show win0_4.index t 0 * 1 + 1 * 0 = 0; rw [(index4 t).1]
  | ⟨1, _⟩ => show win0_4.index t 1 * 2048 + 1 * k.val = k.val; rw [(index4 t).2]; omega

theorem rowsOf_at (X : FVec Ideal S8192x2048 .f32) (i : Fin 8192) (k : Fin 2048) : rowsOf X (ix2 i k) = X (ix2 i k) := by
  unfold rowsOf
  pointwise

theorem weightOf_at (W : FVec Ideal S2048x2048 .f32) (j k : Fin 2048) : weightOf W (ix2 j k) = W (ix2 j k) := by
  unfold weightOf
  pointwise

/-! ## The arrays, and the reference -/

section Whole

variable (M : FVec Ideal S8192x2048 .f32) (W : FVec Ideal S2048x2048 .f32) (X : FVec Ideal S8192x2048 .f32) (G B : FVec Ideal S1x2048 .f32)

/-- A row of the whole array before it is normalized, and the three results as functions of the arguments. -/
def wholeRow (i : Fin 8192) (k : Fin 2048) : EReal := factor * X (ix2 i k) + ∑ j : Fin 2048, M (ix2 i j) * W (ix2 j k)
def units : FVec Ideal S8192x2048 .f32 := fun y => NormRow.unit (wholeRow M W X (y 0)) (y 1)
def scales : FVec Ideal S8192x1 .f32 := fun y => NormRow.scale (wholeRow M W X (y 0))
def results : FVec Ideal S8192x2048 .bf16 := fun y => NormRow.unit (wholeRow M W X (y 0)) (y 1) * G (ix2 0 (y 1 : Fin 2048)) + B (ix2 0 (y 1 : Fin 2048))

variable (hM : M = m ((c : Thread nD τ).loc main_arg0)) (hW : W = m ((c : Thread nD τ).loc main_arg1)) (hX : X = m ((c : Thread nD τ).loc main_arg2))
  (hG : G = m ((c : Thread nD τ).loc main_arg3)) (hB : B = m ((c : Thread nD τ).loc main_arg4))

include hM hW hX in
theorem row_whole (t : Fin cfg0.N) (p : Fin 16) (hp : t.val = p.val) (r : Fin 512) :
    row (left m c t) (right m c t) (residual m c t) r = wholeRow M W X (place p r) := by
  have hl : V m c main_v0 = rowsOf M := by rw [hM]; exact rows_handed m c
  have hr : V m c main_v1 = weightOf W := by rw [hW]; exact weight_handed m c
  have hx : V m c main_arg2 = X := by rw [hX]; exact V_main_arg2 m c
  funext k
  unfold row wholeRow
  simp only [left_blk m c t p hp _ _ _ hl, right_blk m c t _ _ _ hr, residual_blk m c t p hp _ _ _ hx, rowsOf_at, weightOf_at]

include hM hW hX in
theorem point_units (t : Fin cfg0.N) (p : Fin 16) (hp : t.val = p.val) (r : Fin 512) (l : Fin 2048) :
    k0_pay3 (F := Ideal) (left m c t) (right m c t) (residual m c t) (ix2 r l) = units M W X (ix2 (place p r) l) := by
  rw [unit_at, row_whole m c M W X hM hW hX t p hp]
  rfl

include hM hW hX in
theorem point_scales (t : Fin cfg0.N) (p : Fin 16) (hp : t.val = p.val) (r : Fin 512) :
    k0_pay2 (F := Ideal) (left m c t) (right m c t) (residual m c t) (ix2 r 0) = scales M W X (ix2 (place p r) 0) := by
  rw [scale_at, row_whole m c M W X hM hW hX t p hp]
  rfl

include hM hW hX hG hB in
theorem point_results (t : Fin cfg0.N) (p : Fin 16) (hp : t.val = p.val) (r : Fin 512) (l : Fin 2048) :
    k0_pay4 (F := Ideal) (left m c t) (right m c t) (residual m c t) (gain m c t) (bias m c t) (ix2 r l) = results M W X G B (ix2 (place p r) l) := by
  have hg : V m c main_arg3 = G := by rw [hG]; exact V_main_arg3 m c
  have hb : V m c main_arg4 = B := by rw [hB]; exact V_main_arg4 m c
  rw [result_at, row_whole m c M W X hM hW hX t p hp, gain_blk m c t l _ hg, bias_blk m c t l _ hb]
  rfl

/-- An index of a block is the pair of its places. -/
theorem pair_of (y : S512x2048.Idx) : y = ix2 (y 0) (y 1) := funext fun a => match a with | ⟨0, _⟩ => rfl | ⟨1, _⟩ => rfl

include hM hW hX in
theorem array_units : (dats m 0 c).arrAt 5 cfg0.N = units M W X := by
  refine (dats m 0 c).arrAt_eq_of_covers 5 _ (by decide +kernel) fun t hf y => ?_
  have ht : t.val < 16 := lt_of_lt_of_eq t.isLt (N_0 : cfg0.N = 16)
  have e := after0_5 m c t
  rw [point_unit] at e
  have i0 : win0_5.index t 0 * 512 + 1 * (y 0).val = 512 * t.val + (y 0).val := by rw [(index5 t).1]; omega
  have i1 : win0_5.index t 1 * 2048 + 1 * (y 1).val = (y 1).val := by rw [(index5 t).2, Nat.zero_mul, Nat.zero_add, Nat.one_mul]
  have hy : y = (ix2 (y 0 : Fin 512) (y 1 : Fin 2048) : S512x2048.Idx) := pair_of y
  have hz : ((cfg0.win 5).blk t).view.emb y = (ix2 (place ⟨t.val, ht⟩ (y 0)) (y 1) : S8192x2048.Idx) :=
    funext fun a => match a with | ⟨0, _⟩ => Fin.ext i0 | ⟨1, _⟩ => Fin.ext i1
  rw [hz, ← point_units m c M W X hM hW hX t ⟨t.val, ht⟩ rfl (y 0) (y 1), ← hy]
  exact congrFun e y

include hM hW hX in
theorem array_scales : (dats m 0 c).arrAt 6 cfg0.N = scales M W X := by
  refine (dats m 0 c).arrAt_eq_of_covers 6 _ (by decide +kernel) fun t hf y => ?_
  have ht : t.val < 16 := lt_of_lt_of_eq t.isLt (N_0 : cfg0.N = 16)
  have e := after0_6 m c t
  rw [point_scale] at e
  have i0 : win0_6.index t 0 * 512 + 1 * (y 0).val = 512 * t.val + (y 0).val := by rw [(index6 t).1]; omega
  have h1 : (y 1).val = 0 := Nat.lt_one_iff.mp (y 1).isLt
  have i1 : win0_6.index t 1 * 1 + 1 * (y 1).val = 0 := by rw [(index6 t).2, h1]
  have hy : y = (ix2 (y 0 : Fin 512) 0 : S512x1.Idx) := funext fun a => match a with | ⟨0, _⟩ => rfl | ⟨1, _⟩ => Fin.ext h1
  have hz : ((cfg0.win 6).blk t).view.emb y = (ix2 (place ⟨t.val, ht⟩ (y 0)) 0 : S8192x1.Idx) :=
    funext fun a => match a with | ⟨0, _⟩ => Fin.ext i0 | ⟨1, _⟩ => Fin.ext i1
  rw [hz, ← point_scales m c M W X hM hW hX t ⟨t.val, ht⟩ rfl (y 0), ← hy]
  exact congrFun e y

include hM hW hX hG hB in
theorem array_results : (dats m 0 c).arrAt 7 cfg0.N = results M W X G B := by
  refine (dats m 0 c).arrAt_eq_of_covers 7 _ (by decide +kernel) fun t hf y => ?_
  have ht : t.val < 16 := lt_of_lt_of_eq t.isLt (N_0 : cfg0.N = 16)
  have e := after0_7 m c t
  rw [point_result] at e
  have i0 : win0_7.index t 0 * 512 + 1 * (y 0).val = 512 * t.val + (y 0).val := by rw [(index7 t).1]; omega
  have i1 : win0_7.index t 1 * 2048 + 1 * (y 1).val = (y 1).val := by rw [(index7 t).2, Nat.zero_mul, Nat.zero_add, Nat.one_mul]
  have hy : y = (ix2 (y 0 : Fin 512) (y 1 : Fin 2048) : S512x2048.Idx) := pair_of y
  have hz : ((cfg0.win 7).blk t).view.emb y = (ix2 (place ⟨t.val, ht⟩ (y 0)) (y 1) : S8192x2048.Idx) :=
    funext fun a => match a with | ⟨0, _⟩ => Fin.ext i0 | ⟨1, _⟩ => Fin.ext i1
  rw [hz, ← point_results m c M W X G B hM hW hX hG hB t ⟨t.val, ht⟩ rfl (y 0) (y 1), ← hy]
  exact congrFun e y

/-- The reference's rows before the normalization, their mean, distance and scale, and its results. -/
abbrev refRows : FVec Ideal S8192x2048 .f32 :=
  addf (mulf (broadcastInDim Cert.Reference10Ideal.S8192x2048 ![] Cert.Reference10Ideal.Gen.bcast_S_S8192x2048 (constant Cert.Reference10Ideal.S_ .f32 0x3F9837F0#32)) X)
    (Host.dotGeneral Cert.Reference10Ideal.dot_S8192x2048_S2048x2048_S8192x2048_1_0_0_1_n_n none M W)
abbrev refMean (Z : FVec Ideal S8192x2048 .f32) : FVec Ideal S8192x1 .f32 :=
  Host.divf (broadcastInDim Cert.Reference10Ideal.S8192x1 ![0] Cert.Reference10Ideal.Gen.bcast_S8192_S8192x1_0 (Host.reduceAdd Z (constant Cert.Reference10Ideal.S_ .f32 0x00000000#32) Cert.Reference10Ideal.Gen.reducesTo_S8192x2048_S8192_d1 Cert.Reference10Ideal.Gen.h_S_))
    (broadcastInDim Cert.Reference10Ideal.S8192x1 ![] Cert.Reference10Ideal.Gen.bcast_S_S8192x1 (constant Cert.Reference10Ideal.S_ .f32 0x45000000#32))
abbrev spread (A : FVec Ideal S8192x1 .f32) : FVec Ideal S8192x2048 .f32 := broadcastInDim Cert.Reference10Ideal.S8192x2048 ![0, 1] Cert.Reference10Ideal.Gen.bcast_S8192x1_S8192x2048_0_1 A
abbrev below (A : FVec Ideal S1x2048 .f32) : FVec Ideal S8192x2048 .f32 := broadcastInDim Cert.Reference10Ideal.S8192x2048 ![0, 1] Cert.Reference10Ideal.Gen.bcast_S1x2048_S8192x2048_0_1 A
abbrev refAway (Z : FVec Ideal S8192x2048 .f32) : FVec Ideal S8192x2048 .f32 := subf Z (spread (refMean Z))
abbrev refScale (D : FVec Ideal S8192x2048 .f32) : FVec Ideal S8192x1 .f32 :=
  Host.rsqrt (addf (refMean (mulf D D)) (broadcastInDim Cert.Reference10Ideal.S8192x1 ![] Cert.Reference10Ideal.Gen.bcast_S_S8192x1 (constant Cert.Reference10Ideal.S_ .f32 0x3727C5AC#32)))
abbrev refUnit (Z : FVec Ideal S8192x2048 .f32) : FVec Ideal S8192x2048 .f32 := mulf (refAway Z) (spread (refScale (refAway Z)))
abbrev refResult (U : FVec Ideal S8192x2048 .f32) : FVec Ideal S8192x2048 .bf16 := truncf .bf16 (addf (mulf U (below G)) (below B)) Cert.Reference10Ideal.Gen.bitsLt_bf16_f32

theorem refRows_at (i : Fin 8192) (k : Fin 2048) : refRows M W X (ix2 i k) = wholeRow M W X i k := by
  unfold refRows wholeRow
  pointwise

theorem refMean_at (Z : FVec Ideal S8192x2048 .f32) (i : Fin 8192) : refMean Z (ix2 i 0) = NormRow.mean fun k => Z (ix2 i k) := by
  unfold refMean NormRow.mean
  pointwise

theorem refAway_at (Z : FVec Ideal S8192x2048 .f32) (i : Fin 8192) (k : Fin 2048) : refAway Z (ix2 i k) = NormRow.away (fun k => Z (ix2 i k)) k := by
  unfold NormRow.away
  rw [← refMean_at]
  generalize hA : refMean Z = A
  unfold refAway spread
  rw [hA]
  pointwise

theorem refScale_at (Z : FVec Ideal S8192x2048 .f32) (i : Fin 8192) : refScale (refAway Z) (ix2 i 0) = NormRow.scale fun k => Z (ix2 i k) := by
  unfold NormRow.scale
  simp only [← refAway_at]
  generalize refAway Z = D
  unfold refScale refMean
  pointwise

theorem refUnit_at (Z : FVec Ideal S8192x2048 .f32) (i : Fin 8192) (k : Fin 2048) : refUnit Z (ix2 i k) = NormRow.unit (fun k => Z (ix2 i k)) k := by
  unfold NormRow.unit
  rw [← refAway_at, ← refScale_at]
  unfold refUnit
  generalize refScale (refAway Z) = A
  generalize refAway Z = D
  unfold spread
  pointwise

theorem refResult_at (U : FVec Ideal S8192x2048 .f32) (i : Fin 8192) (k : Fin 2048) : refResult G B U (ix2 i k) = U (ix2 i k) * G (ix2 0 k) + B (ix2 0 k) := by
  unfold refResult below
  pointwise

theorem refRows_row (i : Fin 8192) : (fun k => refRows M W X (ix2 i k)) = wholeRow M W X i := funext fun k => refRows_at M W X i k

theorem same_units : refUnit (refRows M W X) = units M W X := by
  refine funext fun y => ?_
  obtain ⟨i, j, rfl⟩ : ∃ (i : Fin 8192) (j : Fin 2048), y = ix2 i j := ⟨_, _, eq_ix2 y⟩
  refine (refUnit_at _ i j).trans ?_
  rw [refRows_row]
  rfl

theorem same_scales : refScale (refAway (refRows M W X)) = scales M W X := by
  refine funext fun y => ?_
  obtain ⟨i, rfl⟩ : ∃ i : Fin 8192, y = ix2 i 0 :=
    ⟨y 0, funext fun a => match a with | ⟨0, _⟩ => rfl | ⟨1, _⟩ => Fin.ext (Nat.lt_one_iff.mp (y 1).isLt)⟩
  refine (refScale_at _ i).trans ?_
  rw [refRows_row]
  rfl

theorem same_results : refResult G B (refUnit (refRows M W X)) = results M W X G B := by
  refine funext fun y => ?_
  obtain ⟨i, j, rfl⟩ : ∃ (i : Fin 8192) (j : Fin 2048), y = ix2 i j := ⟨_, _, eq_ix2 y⟩
  refine (refResult_at _ _ _ i j).trans ?_
  rw [refUnit_at, refRows_row]
  rfl

end Whole

theorem agree : Cert.algebraic_Kernel10Ideal_Reference10Ideal (hKernel10Ideal := Cert.Kernel10Ideal.Gen.facts) (hReference10Ideal := Cert.Reference10Ideal.Gen.facts) := by
  intro m g m' g' _ he
  refine ⟨fun c => (dats m 0 c).arrAt 5 cfg0.N, fun c => (dats m 0 c).arrAt 6 cfg0.N, fun c => (dats m 0 c).arrAt 7 cfg0.N, Cert.Kernel10Ideal.Value.run_blocks m g, ?_⟩
  refine (θ_run _ _ _).mono (fun r h c => ?_) (Cert.Reference10Ideal.Value.run m' g')
  obtain ⟨r0, r1, r2, rest⟩ := h c
  obtain ⟨e0, e1, e2, e3, e4⟩ := he c
  exact ⟨r0.trans ((same_units _ _ _).trans (array_units m c _ _ _ e0 e1 e2).symm), r1.trans ((same_scales _ _ _).trans (array_scales m c _ _ _ e0 e1 e2).symm),
    r2.trans ((same_results _ _ _ _ _).trans (array_results m c _ _ _ _ _ e0 e1 e2 e3 e4).symm), rest⟩

end Cert.MixNorm

end
-- ==== Proof.ChainRef.lean ====
/-
  The gradient of the rows of a layer norm, as the reference writes it over whole arrays: the chain rule through the
  reciprocal deviation, the variance and the mean. At an index it is the one row's `chain`.
-/
module

public import proofs.«01_k».proof.Proof.NormGrad
public import proofs.«01_k».proof.Proof.MixNorm
public import proofs.«01_k».proof.Proof.Gen.Reference11Ideal
public import Idealize.ShloMosaic.Lib.Pointwise

@[expose] public section

set_option backward.isDefEq.respectTransparency false
set_option maxRecDepth 16384

noncomputable section

namespace Cert.ChainRef

open Cert.Reference11Ideal Cert.Reference11Ideal.Gen Idealize.ShloMosaic Cert.MixNorm

/-- A number in every row. -/
abbrev every (b : BitVec 32) : FVec Ideal S8192x1 .f32 := broadcastInDim S8192x1 ![] bcast_S_S8192x1 (constant S_ .f32 b)
/-- A row's sum, over its columns or over its one column. -/
abbrev rowSum (A : FVec Ideal S8192x2048 .f32) : FVec Ideal S8192x1 .f32 :=
  shapeCast S8192x1 (Host.reduceAdd A (constant S_ .f32 0x00000000#32) reducesTo_S8192x2048_S8192_d1 h_S_ : FVec Ideal S8192 .f32) shapeCasts_S8192_S8192x1
abbrev oneSum (A : FVec Ideal S8192x1 .f32) : FVec Ideal S8192x2048 .f32 :=
  broadcastInDim S8192x2048 ![0] bcast_S8192_S8192x2048_0 (Host.reduceAdd A (constant S_ .f32 0x00000000#32) reducesTo_S8192x1_S8192_d1 h_S_ : FVec Ideal S8192 .f32)
/-- The variance with the small number, from the distances. -/
abbrev variance (D : FVec Ideal S8192x2048 .f32) : FVec Ideal S8192x1 .f32 := addf (refMean (mulf D D)) (every 0x3727C5AC#32)
/-- The steps of the chain rule, from the distances, the weighted gradients, the scale and the variance. -/
abbrev coefficients (D W : FVec Ideal S8192x2048 .f32) (S V : FVec Ideal S8192x1 .f32) : FVec Ideal S8192x1 .f32 :=
  Host.divf (mulf (rowSum (mulf D W)) (mulf (every 0xBF000000#32) (Host.divf S V))) (every 0x45000000#32)
abbrev throughs (D : FVec Ideal S8192x2048 .f32) (C : FVec Ideal S8192x1 .f32) : FVec Ideal S8192x2048 .f32 :=
  mulf (oneSum C) (mulf (broadcastInDim S8192x2048 ![] bcast_S_S8192x2048 (constant S_ .f32 0x40000000#32)) D)
abbrev direct (W : FVec Ideal S8192x2048 .f32) (S : FVec Ideal S8192x1 .f32) : FVec Ideal S8192x2048 .f32 := mulf W (MixNorm.spread S)
abbrev total (A T : FVec Ideal S8192x2048 .f32) : FVec Ideal S8192x2048 .f32 :=
  addf (addf A T) (oneSum (Host.divf (addf (rowSum (Host.negf A)) (rowSum (Host.negf T))) (every 0x45000000#32)))

/-- The whole gradient. -/
abbrev refChain (Z W : FVec Ideal S8192x2048 .f32) : FVec Ideal S8192x2048 .f32 :=
  total (direct W (refScale (refAway Z))) (throughs (refAway Z) (coefficients (refAway Z) W (refScale (refAway Z)) (variance (refAway Z))))

theorem rowSum_at (A : FVec Ideal S8192x2048 .f32) (i : Fin 8192) : rowSum A (ix2 i 0) = ∑ k : Fin 2048, A (ix2 i k) := by
  unfold rowSum
  pointwise

theorem oneSum_at (A : FVec Ideal S8192x1 .f32) (i : Fin 8192) (k : Fin 2048) : oneSum A (ix2 i k) = A (ix2 i 0) := by
  unfold oneSum
  pointwise
  exact Fin.sum_univ_one _

theorem variance_at (Z : FVec Ideal S8192x2048 .f32) (i : Fin 8192) : variance (refAway Z) (ix2 i 0) = NormRow.spread fun k => Z (ix2 i k) := by
  unfold NormRow.spread
  simp only [← refAway_at]
  generalize refAway Z = D
  unfold variance refMean
  pointwise

theorem negated_at (A : FVec Ideal S8192x2048 .f32) (i : Fin 8192) (k : Fin 2048) : (Host.negf A : FVec Ideal S8192x2048 .f32) (ix2 i k) = -(A (ix2 i k)) := by
  pointwise

theorem coefficient_at (D W : FVec Ideal S8192x2048 .f32) (S V : FVec Ideal S8192x1 .f32) (i : Fin 8192) :
    coefficients D W S V (ix2 i 0) = Ideal.div ((∑ k : Fin 2048, D (ix2 i k) * W (ix2 i k)) * (NormRow.half * Ideal.div (S (ix2 i 0)) (V (ix2 i 0)))) NormRow.count := by
  rw [show (∑ k : Fin 2048, D (ix2 i k) * W (ix2 i k)) = rowSum (mulf D W) (ix2 i 0) from (rowSum_at (mulf D W) i).symm]
  rfl

theorem through_at (D : FVec Ideal S8192x2048 .f32) (C : FVec Ideal S8192x1 .f32) (i : Fin 8192) (k : Fin 2048) :
    throughs D C (ix2 i k) = C (ix2 i 0) * (NormRow.two * D (ix2 i k)) := by
  rw [← oneSum_at C i k]
  rfl

theorem direct_at (W : FVec Ideal S8192x2048 .f32) (S : FVec Ideal S8192x1 .f32) (i : Fin 8192) (k : Fin 2048) :
    direct W S (ix2 i k) = W (ix2 i k) * S (ix2 i 0) := by
  unfold direct MixNorm.spread
  pointwise

theorem total_at (A T : FVec Ideal S8192x2048 .f32) (i : Fin 8192) (k : Fin 2048) :
    total A T (ix2 i k) = A (ix2 i k) + T (ix2 i k) + Ideal.div ((∑ l : Fin 2048, -(A (ix2 i l))) + ∑ l : Fin 2048, -(T (ix2 i l))) NormRow.count := by
  simp only [← negated_at]
  rw [← rowSum_at (Host.negf A), ← rowSum_at (Host.negf T)]
  refine congrArg (A (ix2 i k) + T (ix2 i k) + ·) ?_
  exact oneSum_at _ i k

/-- At an index the reference's gradient is the row's. -/
theorem chain_at (Z W : FVec Ideal S8192x2048 .f32) (i : Fin 8192) (k : Fin 2048) :
    refChain Z W (ix2 i k) = NormRow.chain (fun k => Z (ix2 i k)) (fun k => W (ix2 i k)) k := by
  refine (total_at _ _ i k).trans ?_
  simp only [through_at, coefficient_at, direct_at, variance_at, refScale_at, refAway_at]
  rfl

end Cert.ChainRef

end
-- ==== Proof.LossGrad.lean ====
/-
  The end of the forward pass and the start of the backward one: the second product of the MLP, the scaled residual, the last
  layer norm, and the gradient of the loss taken back through that norm. A grid point adds the product of a block of the
  hidden layer's columns to the accumulator; the last of a row block's four points forms the normalized rows, their distance
  from the target and the gradient before the norm, 128 rows at a time, in the two storage types. The reference is the chain
  rule over the whole arrays.
-/
module

public import proofs.«01_k».proof.Proof.Gen.Kernel12Ideal.Value
public import proofs.«01_k».proof.Proof.Gen.Reference12Ideal.Run
public import proofs.«01_k».proof.Proof.ChainRef
public import proofs.«01_k».proof.Proof.Parts
public import proofs.«01_k».proof.Proof.Gen.Pre_finite12
public import proofs.«01_k».proof.Proof.Agree
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

@[expose] public section

set_option backward.isDefEq.respectTransparency false
set_option maxRecDepth 16384

noncomputable section

namespace Cert.LossGrad

open Cert.Kernel12Ideal Cert.Kernel12Ideal.Gen Cert.Kernel12Ideal.Value Idealize.ShloMosaic Idealize.ShloMosaic.TcCoe Idealize.SL.Sem Cert.Parts

/-! ## Reading 128 rows of a block -/

/-- Row `r` of the 128 rows from `o` on. -/
abbrev inRows (o : ℕ) (ho : o + 128 ≤ 512) (r : Fin 128) : Fin 512 := ⟨o + r.val, by omega⟩

theorem emb_rows (o : ℕ) (ho : o + 128 ≤ 512) (inb : ∀ a, (![o, 0] : Fin 2 → ℕ) a + (![128, 2048] : Fin 2 → ℕ) a ≤ S512x2048.size a) (r : Fin 128) (k : Fin 2048) :
    (Rect.unit (s := S512x2048) ![o, 0] ![128, 2048] inb).emb (ix2 r k) = (ix2 (inRows o ho r) k : S512x2048.Idx) := by
  refine funext fun a => Fin.ext ?_
  match a with
  | ⟨0, _⟩ => show o + 1 * r.val = o + r.val; omega
  | ⟨1, _⟩ => show 0 + 1 * k.val = k.val; omega

theorem ld_rows (o : ℕ) (ho : o + 128 ≤ 512) (inb : ∀ a, (![o, 0] : Fin 2 → ℕ) a + (![128, 2048] : Fin 2 → ℕ) a ≤ S512x2048.size a) (x : Vec Ideal S512x2048 .f32) (r : Fin 128) (k : Fin 2048) :
    (View.ld (Val := Elt Ideal) (e' := .f32) x (Rect.unit (s := S512x2048) ![o, 0] ![128, 2048] inb) : FVec Ideal S128x2048 .f32) (ix2 r k) = x (ix2 (inRows o ho r) k) :=
  congrArg x (emb_rows o ho inb r k)

theorem mem_rows (o : ℕ) (inb : ∀ a, (![o, 0] : Fin 2 → ℕ) a + (![128, 2048] : Fin 2 → ℕ) a ≤ S512x2048.size a) (y : S512x2048.Idx) (h : o ≤ (y 0).val) (h' : (y 0).val < o + 128) :
    y ∈ (Rect.unit (s := S512x2048) ![o, 0] ![128, 2048] inb).set := by
  refine (Rect.mem_set_unit (inb := inb)).mpr fun a => ?_
  match a with
  | ⟨0, _⟩ => exact ⟨h, h'⟩
  | ⟨1, _⟩ => exact ⟨Nat.zero_le _, by have : (y 1).val < 2048 := (y 1).isLt; show (y 1).val < 0 + 2048; omega⟩

/-! ## One grid point -/

/-- The number that the distance from the target is multiplied by, as it is written. -/
abbrev part : EReal := Ideal.ofBits FTy.f32 0x3A000000#32

/-- A row before the norm, from the row normalized before, that norm's gain and shift, and the sum. -/
def before (x g b a : Fin 2048 → EReal) (k : Fin 2048) : EReal := NormRow.factor * (x k * g k + b k) + a k

/-- A row's distance from the target behind the gain, from the row before the norm. -/
def apart (z g b t : Fin 2048 → EReal) (k : Fin 2048) : EReal := (NormRow.unit z k * g k + b k - t k) * part * g k

/-- A row's gradient before the norm. -/
def lossRow (x g b a g' b' t : Fin 2048 → EReal) (k : Fin 2048) : EReal :=
  NormRow.back (apart (before x g b a) g' b' t) (NormRow.unit (before x g b a)) (NormRow.scale (before x g b a)) k

section Rows

variable (x2 : Vec Ideal S512x2048 .f32) (x3 x4 x5 x6 : Vec Ideal S1x2048 .f32) (x7 acc : Vec Ideal S512x2048 .f32)

/-- The gradient of the rows of a block. -/
def rowsGrad (y : S512x2048.Idx) : EReal :=
  lossRow (fun k => x2 (ix2 (y 0) k)) (fun k => x3 (ix2 0 k)) (fun k => x4 (ix2 0 k)) (fun k => acc (ix2 (y 0) k)) (fun k => x5 (ix2 0 k)) (fun k => x6 (ix2 0 k)) (fun k => x7 (ix2 (y 0) k)) (y 1)

section Chunk

variable (g b g' b' : FVec Ideal S1x2048 .f32) (x a t : FVec Ideal S128x2048 .f32) (r : Fin 128) (k : Fin 2048)

/-- The gradient of one of 128 rows. -/
def chunkGrad : EReal :=
  lossRow (fun k => x (ix2 r k)) (fun k => g (ix2 0 k)) (fun k => b (ix2 0 k)) (fun k => a (ix2 r k)) (fun k => g' (ix2 0 k)) (fun k => b' (ix2 0 k)) (fun k => t (ix2 r k)) k

/-- A row of the 128 before the norm. -/
abbrev rowOf : Fin 2048 → EReal := before (fun k => x (ix2 r k)) (fun k => g (ix2 0 k)) (fun k => b (ix2 0 k)) fun k => a (ix2 r k)

theorem away_at : k0_pay4 (F := Ideal) g b x a (ix2 r k) = NormRow.away (rowOf g b x a r) k := by
  unfold k0_pay4 NormRow.away NormRow.mean rowOf before
  pointwise

theorem scale_at : k0_pay5 (F := Ideal) g b x a (ix2 r 0) = NormRow.scale (rowOf g b x a r) := by
  unfold k0_pay5 NormRow.scale
  simp only [← away_at]
  pointwise

theorem unit_at : k0_pay6 (F := Ideal) g b x a (ix2 r k) = NormRow.unit (rowOf g b x a r) k := by
  unfold k0_pay6 NormRow.unit
  simp only [← away_at, ← scale_at]
  pointwise

theorem apart_at : k0_pay9 (F := Ideal) g b g' b' x a t (ix2 r k)
    = apart (rowOf g b x a r) (fun k => g' (ix2 0 k)) (fun k => b' (ix2 0 k)) (fun k => t (ix2 r k)) k := by
  unfold k0_pay9 k0_pay8 k0_pay7 apart
  simp only [← unit_at]
  pointwise

theorem back_at (s : FVec Ideal S128x1 .f32) (u w : FVec Ideal S128x2048 .f32) :
    k0_pay10 (F := Ideal) s u w (ix2 r k) = NormRow.back (fun k => w (ix2 r k)) (fun k => u (ix2 r k)) (s (ix2 r 0)) k := by
  unfold k0_pay10 NormRow.back
  pointwise

/-- The gradient of the first 128 rows; the others' is the same term, written in other steps. -/
theorem chunk0_at : k0_pay10 (F := Ideal) (k0_pay5 g b x a) (k0_pay6 g b x a) (k0_pay9 g b g' b' x a t) (ix2 r k) = chunkGrad g b g' b' x a t r k := by
  rw [back_at, funext (apart_at g b g' b' x a t r), funext (unit_at g b x a r), scale_at]
  rfl

theorem short0_at : k0_pay11 (F := Ideal) (k0_pay5 g b x a) (k0_pay6 g b x a) (k0_pay9 g b g' b' x a t) (ix2 r k) = chunkGrad g b g' b' x a t r k :=
  chunk0_at g b g' b' x a t r k

theorem same128 : k0_pay22 (F := Ideal) g' b' (k0_pay15 g b x a) (k0_pay16 g b x a) t = k0_pay10 (F := Ideal) (k0_pay5 g b x a) (k0_pay6 g b x a) (k0_pay9 g b g' b' x a t) := rfl

theorem chunk128_at : k0_pay22 (F := Ideal) g' b' (k0_pay15 g b x a) (k0_pay16 g b x a) t (ix2 r k) = chunkGrad g b g' b' x a t r k :=
  (congrFun (same128 g b g' b' x a t) (ix2 r k)).trans (chunk0_at g b g' b' x a t r k)

theorem short128_at : k0_pay23 (F := Ideal) g' b' (k0_pay15 g b x a) (k0_pay16 g b x a) t (ix2 r k) = chunkGrad g b g' b' x a t r k :=
  chunk128_at g b g' b' x a t r k

theorem same256 : k0_pay32 (F := Ideal) g' (k0_pay28 g b x a) (k0_pay29 g b x a) (k0_pay30 g b g' b' x a t) = k0_pay10 (F := Ideal) (k0_pay5 g b x a) (k0_pay6 g b x a) (k0_pay9 g b g' b' x a t) := rfl

theorem chunk256_at : k0_pay32 (F := Ideal) g' (k0_pay28 g b x a) (k0_pay29 g b x a) (k0_pay30 g b g' b' x a t) (ix2 r k) = chunkGrad g b g' b' x a t r k :=
  (congrFun (same256 g b g' b' x a t) (ix2 r k)).trans (chunk0_at g b g' b' x a t r k)

theorem short256_at : k0_pay33 (F := Ideal) g' (k0_pay28 g b x a) (k0_pay29 g b x a) (k0_pay30 g b g' b' x a t) (ix2 r k) = chunkGrad g b g' b' x a t r k :=
  chunk256_at g b g' b' x a t r k

theorem same384 : k0_pay44 (F := Ideal) g' b' (k0_pay37 g b x) k0_pay38 a t = k0_pay10 (F := Ideal) (k0_pay5 g b x a) (k0_pay6 g b x a) (k0_pay9 g b g' b' x a t) := rfl

theorem chunk384_at : k0_pay44 (F := Ideal) g' b' (k0_pay37 g b x) k0_pay38 a t (ix2 r k) = chunkGrad g b g' b' x a t r k :=
  (congrFun (same384 g b g' b' x a t) (ix2 r k)).trans (chunk0_at g b g' b' x a t r k)

theorem short384_at : k0_pay45 (F := Ideal) (k0_pay44 g' b' (k0_pay37 g b x) k0_pay38 a t) (ix2 r k) = chunkGrad g b g' b' x a t r k :=
  chunk384_at g b g' b' x a t r k

end Chunk

theorem chunk_of (x a t : FVec Ideal S128x2048 .f32) (r : Fin 128) (k : Fin 2048) (R : Fin 512) (hx : ∀ k, x (ix2 r k) = x2 (ix2 R k))
    (ha : ∀ k, a (ix2 r k) = acc (ix2 R k)) (ht : ∀ k, t (ix2 r k) = x7 (ix2 R k)) :
    chunkGrad x3 x4 x5 x6 x a t r k = rowsGrad x2 x3 x4 x5 x6 x7 acc (ix2 R k) := by
  unfold chunkGrad
  rw [funext hx, funext ha, funext ht]
  rfl

/-- The gradient of 128 rows of the block, from the blocks' rows. -/
theorem chunk_rows (o : ℕ) (ho : o + 128 ≤ 512) (inb : ∀ a, (![o, 0] : Fin 2 → ℕ) a + (![128, 2048] : Fin 2 → ℕ) a ≤ S512x2048.size a) (r : Fin 128) (k : Fin 2048) :
    chunkGrad x3 x4 x5 x6 (View.ld (Val := Elt Ideal) (e' := .f32) x2 (Rect.unit (s := S512x2048) ![o, 0] ![128, 2048] inb)) (View.ld (Val := Elt Ideal) (e' := .f32) acc (Rect.unit (s := S512x2048) ![o, 0] ![128, 2048] inb))
      (View.ld (Val := Elt Ideal) (e' := .f32) x7 (Rect.unit (s := S512x2048) ![o, 0] ![128, 2048] inb)) r k
      = rowsGrad x2 x3 x4 x5 x6 x7 acc ((Rect.unit (s := S512x2048) ![o, 0] ![128, 2048] inb).emb (ix2 r k)) := by
  rw [emb_rows o ho inb r k]
  exact chunk_of x2 x3 x4 x5 x6 x7 acc _ _ _ r k (inRows o ho r) (fun k => ld_rows o ho inb x2 r k) (fun k => ld_rows o ho inb acc r k) (fun k => ld_rows o ho inb x7 r k)

end Rows

section Point

variable (c : Dev nD) (i : grid0.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S1x8x2048 .f32) (harg13 : arg13.IsWhole) (arg14 : Memref sig .tc .vmem S512x2048 .f32) (harg14 : arg14.IsWhole)
  (x0 : Vec Ideal S512x2048 .bf16) (x1 : Vec Ideal S2048x2048 .bf16) (x2 : Vec Ideal S512x2048 .f32) (x3 x4 x5 x6 : Vec Ideal S1x2048 .f32) (x7 acc : Vec Ideal S512x2048 .f32)

theorem first_point (hc0 : cond0_0 i) (hc1 : ¬cond0_1 i) : sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay2 k0_pay1 x0 x1 := by
  frame_out

theorem middle_point (hc0 : ¬cond0_0 i) (hc1 : ¬cond0_1 i) : sout0_B_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 acc = k0_pay2 acc x0 x1 := by
  frame_out

/-- The last point stores, in four parts of 128 rows, the gradient of the rows. -/
theorem last_point8 (hc0 : ¬cond0_0 i) (hc1 : cond0_1 i) (y : S512x2048.Idx) :
    out0_C_8 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 acc y = rowsGrad x2 x3 x4 x5 x6 x7 (k0_pay2 acc x0 x1) y := by
  frame_out
  simp (disch := decide) only [View.readCov_fill]
  refine View.canon_apply_of_pieces (Val := Elt Ideal) (e := .f32) (rowsGrad x2 x3 x4 x5 x6 x7 (k0_pay2 acc x0 x1)) _ ?_ y ?_
  · intro p hp x
    rcases List.mem_cons.mp hp with rfl | hp
    · obtain ⟨r, k, rfl⟩ : ∃ (r : Fin 128) (k : Fin 2048), x = ix2 r k := ⟨_, _, eq_ix2 x⟩
      exact (chunk384_at _ _ _ _ _ _ _ r k).trans (chunk_rows x2 x3 x4 x5 x6 x7 (k0_pay2 acc x0 x1) 384 (by decide) inb_S512x2048_S128x2048_384_0 r k)
    rcases List.mem_cons.mp hp with rfl | hp
    · obtain ⟨r, k, rfl⟩ : ∃ (r : Fin 128) (k : Fin 2048), x = ix2 r k := ⟨_, _, eq_ix2 x⟩
      exact (chunk256_at _ _ _ _ _ _ _ r k).trans (chunk_rows x2 x3 x4 x5 x6 x7 (k0_pay2 acc x0 x1) 256 (by decide) inb_S512x2048_S128x2048_256_0 r k)
    rcases List.mem_cons.mp hp with rfl | hp
    · obtain ⟨r, k, rfl⟩ : ∃ (r : Fin 128) (k : Fin 2048), x = ix2 r k := ⟨_, _, eq_ix2 x⟩
      exact (chunk128_at _ _ _ _ _ _ _ r k).trans (chunk_rows x2 x3 x4 x5 x6 x7 (k0_pay2 acc x0 x1) 128 (by decide) inb_S512x2048_S128x2048_128_0 r k)
    rcases List.mem_cons.mp hp with rfl | hp
    · obtain ⟨r, k, rfl⟩ : ∃ (r : Fin 128) (k : Fin 2048), x = ix2 r k := ⟨_, _, eq_ix2 x⟩
      exact (chunk0_at _ _ _ _ _ _ _ r k).trans (chunk_rows x2 x3 x4 x5 x6 x7 (k0_pay2 acc x0 x1) 0 (by decide) inb_S512x2048_S128x2048_0_0 r k)
    exact absurd hp List.not_mem_nil
  · have hy : (y 0).val < 512 := (y 0).isLt
    rcases (by omega : (y 0).val < 128 ∨ (128 ≤ (y 0).val ∧ (y 0).val < 256) ∨ (256 ≤ (y 0).val ∧ (y 0).val < 384) ∨ 384 ≤ (y 0).val) with h | h | h | h
    · exact ⟨_, List.mem_cons_of_mem _ (List.mem_cons_of_mem _ (List.mem_cons_of_mem _ List.mem_cons_self)), mem_rows 0 inb_S512x2048_S128x2048_0_0 y (Nat.zero_le _) (by omega)⟩
    · exact ⟨_, List.mem_cons_of_mem _ (List.mem_cons_of_mem _ List.mem_cons_self), mem_rows 128 inb_S512x2048_S128x2048_128_0 y h.1 (by omega)⟩
    · exact ⟨_, List.mem_cons_of_mem _ List.mem_cons_self, mem_rows 256 inb_S512x2048_S128x2048_256_0 y h.1 (by omega)⟩
    · exact ⟨_, List.mem_cons_self, mem_rows 384 inb_S512x2048_S128x2048_384_0 y h (by omega)⟩

/-- The same in the shorter type. -/
theorem last_point9 (hc0 : ¬cond0_0 i) (hc1 : cond0_1 i) (y : S512x2048.Idx) :
    out0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 acc y = rowsGrad x2 x3 x4 x5 x6 x7 (k0_pay2 acc x0 x1) y := by
  frame_out
  simp (disch := decide) only [View.readCov_fill]
  refine View.canon_apply_of_pieces (Val := Elt Ideal) (e := .bf16) (rowsGrad x2 x3 x4 x5 x6 x7 (k0_pay2 acc x0 x1)) _ ?_ y ?_
  · intro p hp x
    rcases List.mem_cons.mp hp with rfl | hp
    · obtain ⟨r, k, rfl⟩ : ∃ (r : Fin 128) (k : Fin 2048), x = ix2 r k := ⟨_, _, eq_ix2 x⟩
      exact (short384_at _ _ _ _ _ _ _ r k).trans (chunk_rows x2 x3 x4 x5 x6 x7 (k0_pay2 acc x0 x1) 384 (by decide) inb_S512x2048_S128x2048_384_0 r k)
    rcases List.mem_cons.mp hp with rfl | hp
    · obtain ⟨r, k, rfl⟩ : ∃ (r : Fin 128) (k : Fin 2048), x = ix2 r k := ⟨_, _, eq_ix2 x⟩
      exact (short256_at _ _ _ _ _ _ _ r k).trans (chunk_rows x2 x3 x4 x5 x6 x7 (k0_pay2 acc x0 x1) 256 (by decide) inb_S512x2048_S128x2048_256_0 r k)
    rcases List.mem_cons.mp hp with rfl | hp
    · obtain ⟨r, k, rfl⟩ : ∃ (r : Fin 128) (k : Fin 2048), x = ix2 r k := ⟨_, _, eq_ix2 x⟩
      exact (short128_at _ _ _ _ _ _ _ r k).trans (chunk_rows x2 x3 x4 x5 x6 x7 (k0_pay2 acc x0 x1) 128 (by decide) inb_S512x2048_S128x2048_128_0 r k)
    rcases List.mem_cons.mp hp with rfl | hp
    · obtain ⟨r, k, rfl⟩ : ∃ (r : Fin 128) (k : Fin 2048), x = ix2 r k := ⟨_, _, eq_ix2 x⟩
      exact (short0_at _ _ _ _ _ _ _ r k).trans (chunk_rows x2 x3 x4 x5 x6 x7 (k0_pay2 acc x0 x1) 0 (by decide) inb_S512x2048_S128x2048_0_0 r k)
    exact absurd hp List.not_mem_nil
  · have hy : (y 0).val < 512 := (y 0).isLt
    rcases (by omega : (y 0).val < 128 ∨ (128 ≤ (y 0).val ∧ (y 0).val < 256) ∨ (256 ≤ (y 0).val ∧ (y 0).val < 384) ∨ 384 ≤ (y 0).val) with h | h | h | h
    · exact ⟨_, List.mem_cons_of_mem _ (List.mem_cons_of_mem _ (List.mem_cons_of_mem _ List.mem_cons_self)), mem_rows 0 inb_S512x2048_S128x2048_0_0 y (Nat.zero_le _) (by omega)⟩
    · exact ⟨_, List.mem_cons_of_mem _ (List.mem_cons_of_mem _ List.mem_cons_self), mem_rows 128 inb_S512x2048_S128x2048_128_0 y h.1 (by omega)⟩
    · exact ⟨_, List.mem_cons_of_mem _ List.mem_cons_self, mem_rows 256 inb_S512x2048_S128x2048_256_0 y h.1 (by omega)⟩
    · exact ⟨_, List.mem_cons_self, mem_rows 384 inb_S512x2048_S128x2048_384_0 y h (by omega)⟩

end Point

/-- A step of the accumulation at an index. -/
theorem step_at (acc : Vec Ideal S512x2048 .f32) (a : Vec Ideal S512x2048 .bf16) (b : Vec Ideal S2048x2048 .bf16) (r : Fin 512) (j : Fin 2048) :
    k0_pay2 (F := Ideal) acc a b (ix2 r j) = acc (ix2 r j) + ∑ k : Fin 2048, a (ix2 r k) * b (ix2 k j) := by
  unfold k0_pay2
  pointwise

theorem zero_at (r : Fin 512) (j : Fin 2048) : k0_pay1 (F := Ideal) (ix2 r j) = 0 := by
  unfold k0_pay1
  pointwise

/-! ## The four points of a block -/

variable (m : (ℓ : Loc nD τ sig) → Buf (Elt Ideal) ℓ) (c : Dev nD)

/-- What is carried after a point: the output blocks and the accumulator. -/
abbrev Carried := Vec Ideal S512x2048 .f32 × Vec Ideal S512x2048 .bf16 × Vec Ideal S1x8x2048 .f32 × Vec Ideal S512x2048 .f32

/-- The input blocks of a point. -/
abbrev left (t : Fin cfg0.N) : Vec Ideal S512x2048 .bf16 := iblk m c 0 t
abbrev right (t : Fin cfg0.N) : Vec Ideal S2048x2048 .bf16 := iblk m c 1 t
abbrev units (t : Fin cfg0.N) : Vec Ideal S512x2048 .f32 := iblk m c 2 t
abbrev gain (t : Fin cfg0.N) : Vec Ideal S1x2048 .f32 := iblk m c 3 t
abbrev bias (t : Fin cfg0.N) : Vec Ideal S1x2048 .f32 := iblk m c 4 t
abbrev gain' (t : Fin cfg0.N) : Vec Ideal S1x2048 .f32 := iblk m c 5 t
abbrev bias' (t : Fin cfg0.N) : Vec Ideal S1x2048 .f32 := iblk m c 6 t
abbrev target (t : Fin cfg0.N) : Vec Ideal S512x2048 .f32 := iblk m c 7 t

/-- The first of a block's points leaves one product, whatever was there. -/
theorem scratch_first (t : Fin cfg0.N) (h4 : t.val % 4 = 0) (acc : Carried) :
    (stAt0 m c t.val t.isLt acc).2.2.2 = k0_pay2 (F := Ideal) (k0_pay1 (F := Ideal)) (left m c t) (right m c t) := by
  rw [stAt0_A m c t acc h4 (fun e => by omega)]
  dsimp only
  exact first_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (left m c t) (right m c t) (units m c t) (gain m c t) (bias m c t) (gain' m c t) (bias' m c t) (target m c t) _ _

/-- A point in between adds a product. -/
theorem scratch_middle (t : Fin cfg0.N) (h4 : ¬t.val % 4 = 0) (h3 : ¬t.val % 4 = 3) (acc : Carried) :
    (stAt0 m c t.val t.isLt acc).2.2.2 = k0_pay2 (F := Ideal) acc.2.2.2 (left m c t) (right m c t) := by
  rw [stAt0_B m c t acc h4 h3]
  dsimp only
  exact middle_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (left m c t) (right m c t) (units m c t) (gain m c t) (bias m c t) (gain' m c t) (bias' m c t) (target m c t) acc.2.2.2 _ _

/-- The last one adds a product and stores. -/
theorem block_last (t : Fin cfg0.N) (h3 : t.val % 4 = 3) (acc : Carried) (y : S512x2048.Idx) :
    (stAt0 m c t.val t.isLt acc).1 y = rowsGrad (units m c t) (gain m c t) (bias m c t) (gain' m c t) (bias' m c t) (target m c t) (k0_pay2 acc.2.2.2 (left m c t) (right m c t)) y := by
  rw [stAt0_C m c t acc (fun e => by omega) h3]
  dsimp only
  exact last_point8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (left m c t) (right m c t) (units m c t) (gain m c t) (bias m c t) (gain' m c t) (bias' m c t) (target m c t) acc.2.2.2 _ _ y

theorem block_last_short (t : Fin cfg0.N) (h3 : t.val % 4 = 3) (acc : Carried) (y : S512x2048.Idx) :
    (stAt0 m c t.val t.isLt acc).2.1 y = rowsGrad (units m c t) (gain m c t) (bias m c t) (gain' m c t) (bias' m c t) (target m c t) (k0_pay2 acc.2.2.2 (left m c t) (right m c t)) y := by
  rw [stAt0_C m c t acc (fun e => by omega) h3]
  dsimp only
  exact last_point9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (left m c t) (right m c t) (units m c t) (gain m c t) (bias m c t) (gain' m c t) (bias' m c t) (target m c t) acc.2.2.2 _ _ y

/-- The accumulator, of what is carried. -/
abbrev held (p : Carried) : Vec Ideal S512x2048 .f32 := p.2.2.2

/-- What the first of a block's points leaves. -/
theorem after_first : ∀ (n : ℕ) (h : n < cfg0.N), n % 4 = 0 → (outsAt0 m c n h).2.2.2 = k0_pay2 (F := Ideal) (k0_pay1 (F := Ideal)) (left m c ⟨n, h⟩) (right m c ⟨n, h⟩)
  | 0, h, h4 => (congrArg held (outsAt0_zero m c h)).trans (scratch_first m c ⟨0, h⟩ h4 _)
  | n + 1, h, h4 => (congrArg held (outsAt0_succ m c n h)).trans (scratch_first m c ⟨n + 1, h⟩ h4 _)

/-- A product added to what the point before left. -/
theorem after_middle (n : ℕ) (h : n + 1 < cfg0.N) (h4 : ¬(n + 1) % 4 = 0) (h3 : ¬(n + 1) % 4 = 3) :
    (outsAt0 m c (n + 1) h).2.2.2 = k0_pay2 (F := Ideal) (outsAt0 m c n (Nat.lt_of_succ_lt h)).2.2.2 (left m c ⟨n + 1, h⟩) (right m c ⟨n + 1, h⟩) :=
  (congrArg held (outsAt0_succ m c n h)).trans (scratch_middle m c ⟨n + 1, h⟩ h4 h3 _)

/-- The sum of a block's four products. -/
def sumOf (q : ℕ) (h : 4 * q + 3 < cfg0.N) : Vec Ideal S512x2048 .f32 :=
  k0_pay2 (k0_pay2 (k0_pay2 (k0_pay2 (k0_pay1 (F := Ideal))
      (left m c ⟨4 * q, by omega⟩) (right m c ⟨4 * q, by omega⟩))
      (left m c ⟨4 * q + 1, by omega⟩) (right m c ⟨4 * q + 1, by omega⟩))
      (left m c ⟨4 * q + 2, by omega⟩) (right m c ⟨4 * q + 2, by omega⟩))
      (left m c ⟨4 * q + 3, h⟩) (right m c ⟨4 * q + 3, h⟩)

theorem before_last (q : ℕ) (h : 4 * q + 3 < cfg0.N) :
    k0_pay2 (outsAt0 m c (4 * q + 2) (Nat.lt_of_succ_lt h)).2.2.2 (left m c ⟨4 * q + 3, h⟩) (right m c ⟨4 * q + 3, h⟩) = sumOf m c q h := by
  rw [after_middle m c (4 * q + 1) (by omega) (by omega) (by omega),
    after_middle m c (4 * q) (by omega) (by omega) (by omega), after_first m c (4 * q) (by omega) (by omega)]
  rfl

/-- The blocks its four points leave. -/
theorem block_eq (q : ℕ) (h : 4 * q + 3 < cfg0.N) (y : S512x2048.Idx) :
    (outsAt0 m c (4 * q + 3) h).1 y = rowsGrad (units m c ⟨4 * q + 3, h⟩) (gain m c ⟨4 * q + 3, h⟩) (bias m c ⟨4 * q + 3, h⟩) (gain' m c ⟨4 * q + 3, h⟩) (bias' m c ⟨4 * q + 3, h⟩) (target m c ⟨4 * q + 3, h⟩) (sumOf m c q h) y := by
  rw [← before_last]
  exact (congrFun (congrArg Prod.fst (outsAt0_succ m c (4 * q + 2) h)) y).trans (block_last m c ⟨4 * q + 3, h⟩ (by show (4 * q + 3) % 4 = 3; omega) _ y)

theorem block_eq_short (q : ℕ) (h : 4 * q + 3 < cfg0.N) (y : S512x2048.Idx) :
    (outsAt0 m c (4 * q + 3) h).2.1 y = rowsGrad (units m c ⟨4 * q + 3, h⟩) (gain m c ⟨4 * q + 3, h⟩) (bias m c ⟨4 * q + 3, h⟩) (gain' m c ⟨4 * q + 3, h⟩) (bias' m c ⟨4 * q + 3, h⟩) (target m c ⟨4 * q + 3, h⟩) (sumOf m c q h) y := by
  rw [← before_last]
  exact (congrFun (congrArg (fun p : Carried => p.2.1) (outsAt0_succ m c (4 * q + 2) h)) y).trans (block_last_short m c ⟨4 * q + 3, h⟩ (by show (4 * q + 3) % 4 = 3; omega) _ y)

/-! ## The blocks a point is handed -/

theorem index0 (t : Fin cfg0.N) : win0_0.index t 0 = t.val / 4 ∧ win0_0.index t 1 = t.val % 4 := by revert t; decide +kernel
theorem index1 (t : Fin cfg0.N) : win0_1.index t 0 = t.val % 4 ∧ win0_1.index t 1 = 0 := by revert t; decide +kernel
theorem index2 (t : Fin cfg0.N) : win0_2.index t 0 = t.val / 4 ∧ win0_2.index t 1 = 0 := by revert t; decide +kernel
theorem index3 (t : Fin cfg0.N) : win0_3.index t 0 = 0 ∧ win0_3.index t 1 = 0 := by revert t; decide +kernel
theorem index4 (t : Fin cfg0.N) : win0_4.index t 0 = 0 ∧ win0_4.index t 1 = 0 := by revert t; decide +kernel
theorem index5 (t : Fin cfg0.N) : win0_5.index t 0 = 0 ∧ win0_5.index t 1 = 0 := by revert t; decide +kernel
theorem index6 (t : Fin cfg0.N) : win0_6.index t 0 = 0 ∧ win0_6.index t 1 = 0 := by revert t; decide +kernel
theorem index7 (t : Fin cfg0.N) : win0_7.index t 0 = t.val / 4 ∧ win0_7.index t 1 = 0 := by revert t; decide +kernel

/-- The positive part of an array, its square, and the weight, as they are handed. -/
abbrev positive (A : FVec Ideal S8192x8192 .f32) : FVec Ideal S8192x8192 .f32 := maximumf A (broadcastInDim S8192x8192 ![] bcast_S_S8192x8192 (constant S_ .f32 0x00000000#32))
abbrev squareOf (A : FVec Ideal S8192x8192 .f32) : FVec Ideal S8192x8192 .bf16 := truncf .bf16 (mulf (positive A) (positive A)) bitsLt_bf16_f32
abbrev weightOf (W : FVec Ideal S8192x2048 .f32) : FVec Ideal S8192x2048 .bf16 := truncf .bf16 W bitsLt_bf16_f32

theorem square_handed : V m c main_v3 = squareOf (m ((c : Thread nD τ).loc main_arg0)) := by
  have e : V m c main_v3 = StableHlo.after hostOps0 (fun b => m (c, b)) (Proc.devRef .tc main_v3) := rfl
  rw [e]
  simp only [hostOps0]
  after_results_simp

theorem weight_handed : V m c main_v4 = weightOf (m ((c : Thread nD τ).loc main_arg1)) := by
  have e : V m c main_v4 = StableHlo.after hostOps0 (fun b => m (c, b)) (Proc.devRef .tc main_v4) := rfl
  rw [e]
  simp only [hostOps0]
  after_results_simp

/-- The whole operands. -/
def wholeLeft : FVec Ideal S8192x8192 .bf16 := V m c main_v3
def wholeRight : FVec Ideal S8192x2048 .bf16 := V m c main_v4
def wholeUnits : FVec Ideal S8192x2048 .f32 := V m c main_arg2
def wholeGain : FVec Ideal S1x2048 .f32 := V m c main_arg3
def wholeBias : FVec Ideal S1x2048 .f32 := V m c main_arg4
def wholeGain' : FVec Ideal S1x2048 .f32 := V m c main_arg5
def wholeBias' : FVec Ideal S1x2048 .f32 := V m c main_arg6
def wholeTarget : FVec Ideal S8192x2048 .f32 := V m c main_arg7

/-- Row `r` of row block `q`. -/
abbrev rowAt (q : Fin 16) (r : Fin 512) : Fin 8192 := ⟨512 * q.val + r.val, by omega⟩

/-- Rows `512 * q` and on, columns `2048 * s` and on. -/
theorem left_blk (t : Fin cfg0.N) (s : Fin 4) (q : Fin 16) (hs : t.val % 4 = s.val) (hq : t.val / 4 = q.val) (r : Fin 512) (k : Fin 2048) :
    left m c t (ix2 r k) = wholeLeft m c (ix2 (rowAt q r) (at' s k)) := by
  unfold left iblk wholeLeft
  rw [View.read_apply]
  refine congrArg (V m c main_v3) (funext fun a => Fin.ext ?_)
  match a with
  | ⟨0, _⟩ => show win0_0.index t 0 * 512 + 1 * r.val = 512 * q.val + r.val; rw [(index0 t).1, hq]; omega
  | ⟨1, _⟩ => show win0_0.index t 1 * 2048 + 1 * k.val = 2048 * s.val + k.val; rw [(index0 t).2, hs]; omega

/-- Rows `2048 * s` and on of the weight. -/
theorem right_blk (t : Fin cfg0.N) (s : Fin 4) (hs : t.val % 4 = s.val) (k j : Fin 2048) :
    right m c t (ix2 k j) = wholeRight m c (ix2 (at' s k) j) := by
  unfold right iblk wholeRight
  rw [View.read_apply]
  refine congrArg (V m c main_v4) (funext fun a => Fin.ext ?_)
  match a with
  | ⟨0, _⟩ => show win0_1.index t 0 * 2048 + 1 * k.val = 2048 * s.val + k.val; rw [(index1 t).1, hs]; omega
  | ⟨1, _⟩ => show win0_1.index t 1 * 2048 + 1 * j.val = j.val; rw [(index1 t).2, Nat.zero_mul, Nat.zero_add, Nat.one_mul]

/-- Rows `512 * q` and on. -/
theorem units_blk (t : Fin cfg0.N) (q : Fin 16) (hq : t.val / 4 = q.val) (r : Fin 512) (j : Fin 2048) :
    units m c t (ix2 r j) = wholeUnits m c (ix2 (rowAt q r) j) := by
  unfold units iblk wholeUnits
  rw [View.read_apply]
  refine congrArg (V m c main_arg2) (funext fun a => Fin.ext ?_)
  match a with
  | ⟨0, _⟩ => show win0_2.index t 0 * 512 + 1 * r.val = 512 * q.val + r.val; rw [(index2 t).1, hq]; omega
  | ⟨1, _⟩ => show win0_2.index t 1 * 2048 + 1 * j.val = j.val; rw [(index2 t).2, Nat.zero_mul, Nat.zero_add, Nat.one_mul]

/-- Rows `512 * q` and on. -/
theorem target_blk (t : Fin cfg0.N) (q : Fin 16) (hq : t.val / 4 = q.val) (r : Fin 512) (j : Fin 2048) :
    target m c t (ix2 r j) = wholeTarget m c (ix2 (rowAt q r) j) := by
  unfold target iblk wholeTarget
  rw [View.read_apply]
  refine congrArg (V m c main_arg7) (funext fun a => Fin.ext ?_)
  match a with
  | ⟨0, _⟩ => show win0_7.index t 0 * 512 + 1 * r.val = 512 * q.val + r.val; rw [(index7 t).1, hq]; omega
  | ⟨1, _⟩ => show win0_7.index t 1 * 2048 + 1 * j.val = j.val; rw [(index7 t).2, Nat.zero_mul, Nat.zero_add, Nat.one_mul]

theorem gain_blk (t : Fin cfg0.N) (j : Fin 2048) : gain m c t (ix2 0 j) = wholeGain m c (ix2 0 j) := by
  unfold gain iblk wholeGain
  rw [View.read_apply]
  refine congrArg (V m c main_arg3) (funext fun a => Fin.ext ?_)
  match a with
  | ⟨0, _⟩ => show win0_3.index t 0 * 1 + 1 * 0 = 0; rw [(index3 t).1]
  | ⟨1, _⟩ => show win0_3.index t 1 * 2048 + 1 * j.val = j.val; rw [(index3 t).2, Nat.zero_mul, Nat.zero_add, Nat.one_mul]

theorem bias_blk (t : Fin cfg0.N) (j : Fin 2048) : bias m c t (ix2 0 j) = wholeBias m c (ix2 0 j) := by
  unfold bias iblk wholeBias
  rw [View.read_apply]
  refine congrArg (V m c main_arg4) (funext fun a => Fin.ext ?_)
  match a with
  | ⟨0, _⟩ => show win0_4.index t 0 * 1 + 1 * 0 = 0; rw [(index4 t).1]
  | ⟨1, _⟩ => show win0_4.index t 1 * 2048 + 1 * j.val = j.val; rw [(index4 t).2, Nat.zero_mul, Nat.zero_add, Nat.one_mul]

theorem gain2_blk (t : Fin cfg0.N) (j : Fin 2048) : gain' m c t (ix2 0 j) = wholeGain' m c (ix2 0 j) := by
  unfold gain' iblk wholeGain'
  rw [View.read_apply]
  refine congrArg (V m c main_arg5) (funext fun a => Fin.ext ?_)
  match a with
  | ⟨0, _⟩ => show win0_5.index t 0 * 1 + 1 * 0 = 0; rw [(index5 t).1]
  | ⟨1, _⟩ => show win0_5.index t 1 * 2048 + 1 * j.val = j.val; rw [(index5 t).2, Nat.zero_mul, Nat.zero_add, Nat.one_mul]

theorem bias2_blk (t : Fin cfg0.N) (j : Fin 2048) : bias' m c t (ix2 0 j) = wholeBias' m c (ix2 0 j) := by
  unfold bias' iblk wholeBias'
  rw [View.read_apply]
  refine congrArg (V m c main_arg6) (funext fun a => Fin.ext ?_)
  match a with
  | ⟨0, _⟩ => show win0_6.index t 0 * 1 + 1 * 0 = 0; rw [(index6 t).1]
  | ⟨1, _⟩ => show win0_6.index t 1 * 2048 + 1 * j.val = j.val; rw [(index6 t).2, Nat.zero_mul, Nat.zero_add, Nat.one_mul]

/-- A point's step at an index, in terms of the whole operands. -/
theorem step_whole (n : ℕ) (h : n < cfg0.N) (s : Fin 4) (q : Fin 16) (hn : n = 4 * q.val + s.val)
    (acc : Vec Ideal S512x2048 .f32) (r : Fin 512) (j : Fin 2048) :
    k0_pay2 (F := Ideal) acc (left m c ⟨n, h⟩) (right m c ⟨n, h⟩) (ix2 r j)
      = acc (ix2 r j) + ∑ k : Fin 2048, wholeLeft m c (ix2 (rowAt q r) (at' s k)) * wholeRight m c (ix2 (at' s k) j) := by
  rw [step_at]
  refine congrArg (acc (ix2 r j) + ·) (Finset.sum_congr rfl fun k _ => ?_)
  rw [left_blk m c ⟨n, h⟩ s q (by show n % 4 = _; omega) (by show n / 4 = _; omega), right_blk m c ⟨n, h⟩ s (by show n % 4 = _; omega)]

/-- The square of the positive part. -/
def act (x : EReal) : EReal := max x 0 * max x 0

theorem squareOf_at (A : FVec Ideal S8192x8192 .f32) (i j : Fin 8192) : squareOf A (ix2 i j) = act (A (ix2 i j)) := by
  unfold squareOf positive act
  pointwise

theorem weightOf_at (W : FVec Ideal S8192x2048 .f32) (i : Fin 8192) (j : Fin 2048) : weightOf W (ix2 i j) = W (ix2 i j) := by
  unfold weightOf
  pointwise

/-! ## The arrays, and the reference -/

section Whole

variable (A : FVec Ideal S8192x8192 .f32) (W : FVec Ideal S8192x2048 .f32) (X : FVec Ideal S8192x2048 .f32) (G B G' B' : FVec Ideal S1x2048 .f32) (T : FVec Ideal S8192x2048 .f32)

/-- A row of the hidden layer times the weight. -/
def hiddenRow (i : Fin 8192) (k : Fin 2048) : EReal := ∑ j : Fin 8192, act (A (ix2 i j)) * W (ix2 j k)

/-- A row before the norm. -/
def sumRow (i : Fin 8192) : Fin 2048 → EReal := before (fun k => X (ix2 i k)) (fun k => G (ix2 0 k)) (fun k => B (ix2 0 k)) (hiddenRow A W i)

/-- The gradient of a row. -/
def rowGrad (i : Fin 8192) (k : Fin 2048) : EReal :=
  lossRow (fun k => X (ix2 i k)) (fun k => G (ix2 0 k)) (fun k => B (ix2 0 k)) (hiddenRow A W i) (fun k => G' (ix2 0 k)) (fun k => B' (ix2 0 k)) (fun k => T (ix2 i k)) k

/-- What the sum of a block's products is. -/
theorem sumOf_at (hA : wholeLeft m c = squareOf A) (hW : wholeRight m c = weightOf W) (q : Fin 16) (h : 4 * q.val + 3 < cfg0.N) (r : Fin 512) (j : Fin 2048) :
    sumOf m c q.val h (ix2 r j) = hiddenRow A W (rowAt q r) j := by
  unfold sumOf
  rw [step_whole m c (4 * q.val + 3) h 3 q rfl, step_whole m c (4 * q.val + 2) (by omega) 2 q rfl,
    step_whole m c (4 * q.val + 1) (by omega) 1 q rfl, step_whole m c (4 * q.val) (by omega) 0 q rfl, zero_at]
  simp only [hA, hW, squareOf_at, weightOf_at]
  exact four_parts fun k => act (A (ix2 (rowAt q r) k)) * W (ix2 k j)

/-- A block's row is the whole arrays' row. -/
theorem rows_whole (hA : wholeLeft m c = squareOf A) (hW : wholeRight m c = weightOf W) (hX : wholeUnits m c = X) (hG : wholeGain m c = G) (hB : wholeBias m c = B)
    (hG' : wholeGain' m c = G') (hB' : wholeBias' m c = B') (hT : wholeTarget m c = T) (q : Fin 16) (h : 4 * q.val + 3 < cfg0.N) (r : Fin 512) (j : Fin 2048) :
    rowsGrad (units m c ⟨4 * q.val + 3, h⟩) (gain m c ⟨4 * q.val + 3, h⟩) (bias m c ⟨4 * q.val + 3, h⟩) (gain' m c ⟨4 * q.val + 3, h⟩) (bias' m c ⟨4 * q.val + 3, h⟩) (target m c ⟨4 * q.val + 3, h⟩) (sumOf m c q.val h) (ix2 r j)
      = rowGrad A W X G B G' B' T (rowAt q r) j := by
  have hq : (⟨4 * q.val + 3, h⟩ : Fin cfg0.N).val / 4 = q.val := by show (4 * q.val + 3) / 4 = _; omega
  have ex : (fun k => units m c ⟨4 * q.val + 3, h⟩ (ix2 r k)) = fun k => X (ix2 (rowAt q r) k) := funext fun k => by rw [units_blk m c _ q hq, hX]
  have et : (fun k => target m c ⟨4 * q.val + 3, h⟩ (ix2 r k)) = fun k => T (ix2 (rowAt q r) k) := funext fun k => by rw [target_blk m c _ q hq, hT]
  have eg : (fun k => gain m c ⟨4 * q.val + 3, h⟩ (ix2 0 k)) = fun k => G (ix2 0 k) := funext fun k => by rw [gain_blk, hG]
  have eb : (fun k => bias m c ⟨4 * q.val + 3, h⟩ (ix2 0 k)) = fun k => B (ix2 0 k) := funext fun k => by rw [bias_blk, hB]
  have eg' : (fun k => gain' m c ⟨4 * q.val + 3, h⟩ (ix2 0 k)) = fun k => G' (ix2 0 k) := funext fun k => by rw [gain2_blk, hG']
  have eb' : (fun k => bias' m c ⟨4 * q.val + 3, h⟩ (ix2 0 k)) = fun k => B' (ix2 0 k) := funext fun k => by rw [bias2_blk, hB']
  have es : (fun k => sumOf m c q.val h (ix2 r k)) = hiddenRow A W (rowAt q r) := funext fun k => sumOf_at m c A W hA hW q h r k
  show lossRow (fun k => units m c ⟨4 * q.val + 3, h⟩ (ix2 r k)) (fun k => gain m c ⟨4 * q.val + 3, h⟩ (ix2 0 k)) (fun k => bias m c ⟨4 * q.val + 3, h⟩ (ix2 0 k)) (fun k => sumOf m c q.val h (ix2 r k))
    (fun k => gain' m c ⟨4 * q.val + 3, h⟩ (ix2 0 k)) (fun k => bias' m c ⟨4 * q.val + 3, h⟩ (ix2 0 k)) (fun k => target m c ⟨4 * q.val + 3, h⟩ (ix2 r k)) j = _
  rw [ex, et, eg, eb, eg', eb', es]
  rfl

def result : FVec Ideal S8192x2048 .f32 := G8 m c

theorem result_at (hA : wholeLeft m c = squareOf A) (hW : wholeRight m c = weightOf W) (hX : wholeUnits m c = X) (hG : wholeGain m c = G) (hB : wholeBias m c = B)
    (hG' : wholeGain' m c = G') (hB' : wholeBias' m c = B') (hT : wholeTarget m c = T) (q : Fin 16) (r : Fin 512) (j : Fin 2048) :
    result m c (ix2 (rowAt q r) j) = rowGrad A W X G B G' B' T (rowAt q r) j := by
  have hN : cfg0.N = 64 := N_0
  have hq : pt8Of (ix2 (rowAt q r) j) = 4 * q.val + 3 := by
    show 4 * (1 * ((512 * q.val + r.val) / 512 - 0) + 1 * (j.val / 2048 - 0)) + 3 = _
    omega
  have hl : loc8Of (ix2 (rowAt q r) j) = (ix2 r j : S512x2048.Idx) := by
    refine funext fun a => Fin.ext ?_
    match a with
    | ⟨0, _⟩ => show (512 * q.val + r.val) % 512 = r.val; omega
    | ⟨1, _⟩ => show j.val % 2048 = j.val; omega
  have hlt : 4 * q.val + 3 < cfg0.N := by omega
  have hp : pt8Of (ix2 (rowAt q r) j) < cfg0.N := by rw [hq]; exact hlt
  have e : result m c (ix2 (rowAt q r) j) = (outsAt0 m c (4 * q.val + 3) hlt).1 (ix2 r j) := by
    unfold result G8
    rw [dif_pos hp, hl, fold0_congr m c _ (by omega) (4 * q.val + 3) (by omega) hq, ← outsAt0_sweep m c _ hlt]
  rw [e, block_eq m c _ hlt]
  exact rows_whole m c A W X G B G' B' T hA hW hX hG hB hG' hB' hT q hlt r j

def short : FVec Ideal S8192x2048 .bf16 := G9 m c

theorem short_at (hA : wholeLeft m c = squareOf A) (hW : wholeRight m c = weightOf W) (hX : wholeUnits m c = X) (hG : wholeGain m c = G) (hB : wholeBias m c = B)
    (hG' : wholeGain' m c = G') (hB' : wholeBias' m c = B') (hT : wholeTarget m c = T) (q : Fin 16) (r : Fin 512) (j : Fin 2048) :
    short m c (ix2 (rowAt q r) j) = rowGrad A W X G B G' B' T (rowAt q r) j := by
  have hN : cfg0.N = 64 := N_0
  have hq : pt9Of (ix2 (rowAt q r) j) = 4 * q.val + 3 := by
    show 4 * (1 * ((512 * q.val + r.val) / 512 - 0) + 1 * (j.val / 2048 - 0)) + 3 = _
    omega
  have hl : loc9Of (ix2 (rowAt q r) j) = (ix2 r j : S512x2048.Idx) := by
    refine funext fun a => Fin.ext ?_
    match a with
    | ⟨0, _⟩ => show (512 * q.val + r.val) % 512 = r.val; omega
    | ⟨1, _⟩ => show j.val % 2048 = j.val; omega
  have hlt : 4 * q.val + 3 < cfg0.N := by omega
  have hp : pt9Of (ix2 (rowAt q r) j) < cfg0.N := by rw [hq]; exact hlt
  have e : short m c (ix2 (rowAt q r) j) = (outsAt0 m c (4 * q.val + 3) hlt).2.1 (ix2 r j) := by
    unfold short G9
    rw [dif_pos hp, hl, fold0_congr m c _ (by omega) (4 * q.val + 3) (by omega) hq, ← outsAt0_sweep m c _ hlt]
  rw [e, block_eq_short m c _ hlt]
  exact rows_whole m c A W X G B G' B' T hA hW hX hG hB hG' hB' hT q hlt r j

/-- The reference's rows before the norm. -/
abbrev refSum : FVec Ideal S8192x2048 .f32 :=
  addf (mulf (broadcastInDim Cert.Reference12Ideal.S8192x2048 ![] Cert.Reference12Ideal.Gen.bcast_S_S8192x2048 (constant Cert.Reference12Ideal.S_ .f32 0x3F9837F0#32)) (addf (mulf X (MixNorm.below G)) (MixNorm.below B)))
    (Host.dotGeneral Cert.Reference12Ideal.dot_S8192x8192_S8192x2048_S8192x2048_1_0_0_1_n_n none (mulf (positive A) (positive A)) W)

/-- The reference's gradient behind the gain, from the rows before the norm. -/
abbrev refApart (Z : FVec Ideal S8192x2048 .f32) : FVec Ideal S8192x2048 .f32 :=
  mulf (mulf (broadcastInDim Cert.Reference12Ideal.S8192x2048 ![0] Cert.Reference12Ideal.Gen.bcast_S8192_S8192x2048_0
      (Host.divf (broadcastInDim Cert.Reference12Ideal.S8192 ![] Cert.Reference12Ideal.Gen.bcast_S_S8192 (mulf (constant Cert.Reference12Ideal.S_ .f32 0x3F000000#32) (constant Cert.Reference12Ideal.S_ .f32 0x3F800000#32)))
        (broadcastInDim Cert.Reference12Ideal.S8192 ![] Cert.Reference12Ideal.Gen.bcast_S_S8192 (constant Cert.Reference12Ideal.S_ .f32 0x45000000#32))))
    (mulf (broadcastInDim Cert.Reference12Ideal.S8192x2048 ![] Cert.Reference12Ideal.Gen.bcast_S_S8192x2048 (constant Cert.Reference12Ideal.S_ .f32 0x40000000#32))
      (subf (addf (mulf (MixNorm.refUnit Z) (MixNorm.below G')) (MixNorm.below B')) T))) (MixNorm.below G')

abbrev refGrad : FVec Ideal S8192x2048 .f32 := ChainRef.refChain (refSum A W X G B) (refApart G' B' T (refSum A W X G B))

theorem refSum_at (i : Fin 8192) (k : Fin 2048) : refSum A W X G B (ix2 i k) = sumRow A W X G B i k := by
  unfold refSum MixNorm.below positive sumRow before hiddenRow act
  pointwise

/-- A distance behind its two written numbers, one half over the count and two. -/
theorem coefficient_real (d : EReal) (hd : NormRow.Fin' d) : Ideal.div (Ideal.ofBits FTy.f32 0x3F000000#32 * 1) NormRow.count * (NormRow.two * d) = d * part := by
  obtain ⟨x, rfl⟩ := hd
  have e1 : Ideal.ofBits FTy.f32 0x3F000000#32 = ((1 / 2 : ℝ) : EReal) := by
    simp [Ideal.ofBits, Ideal.ieee]
    rw [← EReal.coe_mul, EReal.coe_eq_coe_iff]
    norm_num
  have e2 : part = ((1 / 2048 : ℝ) : EReal) := by
    simp [part, Ideal.ofBits, Ideal.ieee]
    rw [← EReal.coe_mul, EReal.coe_eq_coe_iff]
    norm_num
  rw [mul_one, e1, e2, NormRow.count_real, NormRow.two_real, Attn.div_real _ (by norm_num), ← EReal.coe_mul, ← EReal.coe_mul, ← EReal.coe_mul, EReal.coe_eq_coe_iff]
  ring

theorem distance_at (U : FVec Ideal S8192x2048 .f32) (i : Fin 8192) (k : Fin 2048) :
    mulf (mulf (broadcastInDim Cert.Reference12Ideal.S8192x2048 ![0] Cert.Reference12Ideal.Gen.bcast_S8192_S8192x2048_0
      (Host.divf (broadcastInDim Cert.Reference12Ideal.S8192 ![] Cert.Reference12Ideal.Gen.bcast_S_S8192 (mulf (constant Cert.Reference12Ideal.S_ .f32 0x3F000000#32) (constant Cert.Reference12Ideal.S_ .f32 0x3F800000#32)))
        (broadcastInDim Cert.Reference12Ideal.S8192 ![] Cert.Reference12Ideal.Gen.bcast_S_S8192 (constant Cert.Reference12Ideal.S_ .f32 0x45000000#32))))
    (mulf (broadcastInDim Cert.Reference12Ideal.S8192x2048 ![] Cert.Reference12Ideal.Gen.bcast_S_S8192x2048 (constant Cert.Reference12Ideal.S_ .f32 0x40000000#32))
      (subf (addf (mulf U (MixNorm.below G')) (MixNorm.below B')) T))) (MixNorm.below G') (ix2 i k)
      = Ideal.div (Ideal.ofBits FTy.f32 0x3F000000#32 * 1) NormRow.count * (NormRow.two * (U (ix2 i k) * G' (ix2 0 k) + B' (ix2 0 k) - T (ix2 i k))) * G' (ix2 0 k) := by
  unfold MixNorm.below NormRow.count NormRow.two
  pointwise

/-- Every entry of the arguments is a finite number. -/
structure Finite : Prop where
  a : ∀ i j, NormRow.Fin' (A (ix2 i j))
  w : ∀ i j, NormRow.Fin' (W (ix2 i j))
  x : ∀ i j, NormRow.Fin' (X (ix2 i j))
  g : ∀ j, NormRow.Fin' (G (ix2 0 j))
  b : ∀ j, NormRow.Fin' (B (ix2 0 j))
  g' : ∀ j, NormRow.Fin' (G' (ix2 0 j))
  b' : ∀ j, NormRow.Fin' (B' (ix2 0 j))
  t : ∀ i j, NormRow.Fin' (T (ix2 i j))

theorem act_fin {x : EReal} (h : NormRow.Fin' x) : NormRow.Fin' (act x) := by
  obtain ⟨r, rfl⟩ := h
  exact NormRow.fin_mul ⟨max r 0, Attn.max_real r 0⟩ ⟨max r 0, Attn.max_real r 0⟩

theorem sum_fin (H : Finite A W X G B G' B' T) (i : Fin 8192) (k : Fin 2048) : NormRow.Fin' (sumRow A W X G B i k) :=
  NormRow.fin_add (NormRow.fin_mul NormRow.factor_real (NormRow.fin_add (NormRow.fin_mul (H.x i k) (H.g k)) (H.b k))) (NormRow.fin_sum fun j => NormRow.fin_mul (act_fin (H.a i j)) (H.w j k))

theorem unit_fin (z : Fin 2048 → EReal) (hz : ∀ k, NormRow.Fin' (z k)) (k : Fin 2048) : NormRow.Fin' (NormRow.unit z k) := by
  obtain ⟨a, v, s, -, -, -, ha, -, hs⟩ := NormRow.row_real z hz
  exact NormRow.fin_mul ⟨_, ha k⟩ ⟨_, hs⟩

/-- The distance of a row from the target. -/
theorem distance_fin (H : Finite A W X G B G' B' T) (i : Fin 8192) (k : Fin 2048) :
    NormRow.Fin' (NormRow.unit (sumRow A W X G B i) k * G' (ix2 0 k) + B' (ix2 0 k) - T (ix2 i k)) :=
  NormRow.fin_sub (NormRow.fin_add (NormRow.fin_mul (unit_fin _ (sum_fin A W X G B G' B' T H i) k) (H.g' k)) (H.b' k)) (H.t i k)

theorem refApart_at (H : Finite A W X G B G' B' T) (i : Fin 8192) (k : Fin 2048) :
    refApart G' B' T (refSum A W X G B) (ix2 i k) = apart (sumRow A W X G B i) (fun k => G' (ix2 0 k)) (fun k => B' (ix2 0 k)) (fun k => T (ix2 i k)) k := by
  refine (distance_at G' B' T (MixNorm.refUnit (refSum A W X G B)) i k).trans ?_
  rw [MixNorm.refUnit_at, funext (refSum_at A W X G B i), coefficient_real _ (distance_fin A W X G B G' B' T H i k)]
  rfl

theorem part_fin : NormRow.Fin' part := by
  simp [part, NormRow.Fin', Ideal.ofBits, Ideal.ieee, -EReal.coe_mul]

theorem apart_fin (H : Finite A W X G B G' B' T) (i : Fin 8192) (k : Fin 2048) :
    NormRow.Fin' (apart (sumRow A W X G B i) (fun k => G' (ix2 0 k)) (fun k => B' (ix2 0 k)) (fun k => T (ix2 i k)) k) :=
  NormRow.fin_mul (NormRow.fin_mul (distance_fin A W X G B G' B' T H i k) part_fin) (H.g' k)

/-- The reference's gradient at an index. -/
theorem reference_at (H : Finite A W X G B G' B' T) (i : Fin 8192) (k : Fin 2048) : refGrad A W X G B G' B' T (ix2 i k) = rowGrad A W X G B G' B' T i k := by
  refine (ChainRef.chain_at _ _ i k).trans ?_
  rw [funext (refApart_at A W X G B G' B' T H i), funext (refSum_at A W X G B i)]
  exact (NormRow.back_eq_chain _ _ (sum_fin A W X G B G' B' T H i) (apart_fin A W X G B G' B' T H i) k).symm

theorem same (H : Finite A W X G B G' B' T) (h0 : A = m ((c : Thread nD τ).loc main_arg0)) (h1 : W = m ((c : Thread nD τ).loc main_arg1)) (h2 : X = m ((c : Thread nD τ).loc main_arg2)) (h3 : G = m ((c : Thread nD τ).loc main_arg3)) (h4 : B = m ((c : Thread nD τ).loc main_arg4)) (h5 : G' = m ((c : Thread nD τ).loc main_arg5)) (h6 : B' = m ((c : Thread nD τ).loc main_arg6)) (h7 : T = m ((c : Thread nD τ).loc main_arg7)) :
    refGrad A W X G B G' B' T = G8 m c ∧ (truncf .bf16 (refGrad A W X G B G' B' T) bitsLt_bf16_f32 : FVec Ideal S8192x2048 .bf16) = G9 m c := by
  have e0 : wholeLeft m c = squareOf A := by rw [h0]; exact square_handed m c
  have e1 : wholeRight m c = weightOf W := by rw [h1]; exact weight_handed m c
  have e2 : wholeUnits m c = X := by rw [h2]; exact V_main_arg2 m c
  have e3 : wholeGain m c = G := by rw [h3]; exact V_main_arg3 m c
  have e4 : wholeBias m c = B := by rw [h4]; exact V_main_arg4 m c
  have e5 : wholeGain' m c = G' := by rw [h5]; exact V_main_arg5 m c
  have e6 : wholeBias' m c = B' := by rw [h6]; exact V_main_arg6 m c
  have e7 : wholeTarget m c = T := by rw [h7]; exact V_main_arg7 m c
  have split : ∀ y : S8192x2048.Idx, ∃ (q : Fin 16) (r : Fin 512) (j : Fin 2048), y = ix2 (rowAt q r) j := fun y => by
    obtain ⟨i, j, rfl⟩ : ∃ (i : Fin 8192) (j : Fin 2048), y = ix2 i j := ⟨_, _, eq_ix2 y⟩
    obtain ⟨q, r, rfl⟩ : ∃ (q : Fin 16) (r : Fin 512), i = rowAt q r :=
      ⟨⟨i.val / 512, by omega⟩, ⟨i.val % 512, by omega⟩, Fin.ext (by show i.val = 512 * (i.val / 512) + i.val % 512; omega)⟩
    exact ⟨q, r, j, rfl⟩
  refine ⟨funext fun y => ?_, funext fun y => ?_⟩
  · obtain ⟨q, r, j, rfl⟩ := split y
    exact (reference_at A W X G B G' B' T H _ j).trans (result_at m c A W X G B G' B' T e0 e1 e2 e3 e4 e5 e6 e7 q r j).symm
  · obtain ⟨q, r, j, rfl⟩ := split y
    exact (reference_at A W X G B G' B' T H _ j).trans (short_at m c A W X G B G' B' T e0 e1 e2 e3 e4 e5 e6 e7 q r j).symm

end Whole

set_option maxHeartbeats 2000000 in
theorem agree : Cert.algebraic_Kernel12Ideal_Reference12Ideal_pre_finite12 (hKernel12Ideal := Cert.Kernel12Ideal.Gen.facts) (hReference12Ideal := Cert.Reference12Ideal.Gen.facts)
    (hPre_finite12 := Cert.Pre_finite12.Gen.facts) := by
  intro m g m' g' hp he
  refine ⟨fun c => G8 m c, fun c => G9 m c, ?_, ?_⟩
  · refine (θ_run _ _ _).mono (fun r h c => ?_) (Cert.Kernel12Ideal.Value.run m g)
    obtain ⟨r0, r1, _, rest⟩ := h c
    exact ⟨r0, r1, rest⟩
  refine (θ_run _ _ _).mono (fun r h c => ?_) (Cert.Reference12Ideal.Value.run m' g')
  obtain ⟨r0, r1, rest⟩ := h c
  obtain ⟨e0, e1, e2, e3, e4, e5, e6, e7⟩ := he c
  obtain ⟨p0, p1, p2, p3, p4, p5, p6, p7⟩ := hp c
  have H : Finite (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
    ⟨fun i j => ⟨_, Attn.real_of_bit _ (congrFun p0 (ix2 i j))⟩, fun i j => ⟨_, Attn.real_of_bit _ (congrFun p1 (ix2 i j))⟩, fun i j => ⟨_, Attn.real_of_bit _ (congrFun p2 (ix2 i j))⟩, fun j => ⟨_, Attn.real_of_bit _ (congrFun p3 (ix2 0 j))⟩, fun j => ⟨_, Attn.real_of_bit _ (congrFun p4 (ix2 0 j))⟩, fun j => ⟨_, Attn.real_of_bit _ (congrFun p5 (ix2 0 j))⟩, fun j => ⟨_, Attn.real_of_bit _ (congrFun p6 (ix2 0 j))⟩, fun i j => ⟨_, Attn.real_of_bit _ (congrFun p7 (ix2 i j))⟩⟩
  have s := same m c _ _ _ _ _ _ _ _ (e0 ▸ e1 ▸ e2 ▸ e3 ▸ e4 ▸ e5 ▸ e6 ▸ e7 ▸ H) e0 e1 e2 e3 e4 e5 e6 e7
  exact ⟨r0.trans s.1, r1.trans s.2, rest⟩

end Cert.LossGrad

end
-- ==== Proof.UpGrad.lean ====
/-
  The gradient behind the gated hybrid's layer norm: the product of the gradient of the hidden layer with the first weight of
  the MLP, plus the scaled gradient that comes through the residual connection, taken back through the layer norm's gain and
  the norm itself. A grid point adds the product of a block of columns to the accumulator; the last of a row block's four
  points forms the gradient of its rows, 128 at a time, in the two storage types. The reference is the chain rule over the
  whole arrays.
-/
module

public import proofs.«01_k».proof.Proof.Gen.Kernel11Ideal.Value
public import proofs.«01_k».proof.Proof.Gen.Reference11Ideal.Run
public import proofs.«01_k».proof.Proof.ChainRef
public import proofs.«01_k».proof.Proof.Parts
public import proofs.«01_k».proof.Proof.Gen.Pre_finite11
public import proofs.«01_k».proof.Proof.Agree
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

@[expose] public section

set_option backward.isDefEq.respectTransparency false
set_option maxRecDepth 16384

noncomputable section

namespace Cert.UpGrad

open Cert.Kernel11Ideal Cert.Kernel11Ideal.Gen Cert.Kernel11Ideal.Value Idealize.ShloMosaic Idealize.ShloMosaic.TcCoe Idealize.SL.Sem Cert.Parts

/-! ## Reading 128 rows of a block -/

/-- Row `r` of the 128 rows from `o` on. -/
abbrev inRows (o : ℕ) (ho : o + 128 ≤ 512) (r : Fin 128) : Fin 512 := ⟨o + r.val, by omega⟩

theorem emb_rows (o : ℕ) (ho : o + 128 ≤ 512) (inb : ∀ a, (![o, 0] : Fin 2 → ℕ) a + (![128, 2048] : Fin 2 → ℕ) a ≤ S512x2048.size a) (r : Fin 128) (k : Fin 2048) :
    (Rect.unit (s := S512x2048) ![o, 0] ![128, 2048] inb).emb (ix2 r k) = (ix2 (inRows o ho r) k : S512x2048.Idx) := by
  refine funext fun a => Fin.ext ?_
  match a with
  | ⟨0, _⟩ => show o + 1 * r.val = o + r.val; omega
  | ⟨1, _⟩ => show 0 + 1 * k.val = k.val; omega

theorem emb_row (o : ℕ) (ho : o + 128 ≤ 512) (inb : ∀ a, (![o, 0] : Fin 2 → ℕ) a + (![128, 1] : Fin 2 → ℕ) a ≤ S512x1.size a) (r : Fin 128) :
    (Rect.unit (s := S512x1) ![o, 0] ![128, 1] inb).emb (ix2 r 0) = (ix2 (inRows o ho r) 0 : S512x1.Idx) := by
  refine funext fun a => Fin.ext ?_
  match a with
  | ⟨0, _⟩ => show o + 1 * r.val = o + r.val; omega
  | ⟨1, _⟩ => show 0 + 1 * 0 = 0; omega

theorem ld_rows (o : ℕ) (ho : o + 128 ≤ 512) (inb : ∀ a, (![o, 0] : Fin 2 → ℕ) a + (![128, 2048] : Fin 2 → ℕ) a ≤ S512x2048.size a) (x : Vec Ideal S512x2048 .f32) (r : Fin 128) (k : Fin 2048) :
    (View.ld (Val := Elt Ideal) (e' := .f32) x (Rect.unit (s := S512x2048) ![o, 0] ![128, 2048] inb) : FVec Ideal S128x2048 .f32) (ix2 r k) = x (ix2 (inRows o ho r) k) :=
  congrArg x (emb_rows o ho inb r k)

theorem ld_row (o : ℕ) (ho : o + 128 ≤ 512) (inb : ∀ a, (![o, 0] : Fin 2 → ℕ) a + (![128, 1] : Fin 2 → ℕ) a ≤ S512x1.size a) (x : Vec Ideal S512x1 .f32) (r : Fin 128) :
    (View.ld (Val := Elt Ideal) (e' := .f32) x (Rect.unit (s := S512x1) ![o, 0] ![128, 1] inb) : FVec Ideal S128x1 .f32) (ix2 r 0) = x (ix2 (inRows o ho r) 0) :=
  congrArg x (emb_row o ho inb r)

theorem mem_rows (o : ℕ) (inb : ∀ a, (![o, 0] : Fin 2 → ℕ) a + (![128, 2048] : Fin 2 → ℕ) a ≤ S512x2048.size a) (y : S512x2048.Idx) (h : o ≤ (y 0).val) (h' : (y 0).val < o + 128) :
    y ∈ (Rect.unit (s := S512x2048) ![o, 0] ![128, 2048] inb).set := by
  refine (Rect.mem_set_unit (inb := inb)).mpr fun a => ?_
  match a with
  | ⟨0, _⟩ => exact ⟨h, h'⟩
  | ⟨1, _⟩ => exact ⟨Nat.zero_le _, by have : (y 1).val < 2048 := (y 1).isLt; show (y 1).val < 0 + 2048; omega⟩

/-! ## One grid point -/

section Rows

variable (x2 : Vec Ideal S512x2048 .f32) (x3 : Vec Ideal S512x2048 .f32) (x4 : Vec Ideal S512x1 .f32) (x5 : Vec Ideal S1x2048 .f32) (acc : Vec Ideal S512x2048 .f32)

/-- A row's gradient behind the gain. -/
def weighted (r : Fin 512) (k : Fin 2048) : EReal := (NormRow.factor * x2 (ix2 r k) + acc (ix2 r k)) * x5 (ix2 0 k)

/-- The gradient of the rows of a block. -/
def rowsGrad (y : S512x2048.Idx) : EReal := NormRow.back (weighted x2 x5 acc (y 0)) (fun k => x3 (ix2 (y 0) k)) (x4 (ix2 (y 0) 0)) (y 1)

section Chunk

variable (g : FVec Ideal S1x2048 .f32) (d a x : FVec Ideal S128x2048 .f32) (s : FVec Ideal S128x1 .f32) (r : Fin 128) (k : Fin 2048)

/-- The gradient of one of 128 rows. -/
def chunkGrad : EReal := NormRow.back (fun k => (NormRow.factor * d (ix2 r k) + a (ix2 r k)) * g (ix2 0 k)) (fun k => x (ix2 r k)) (s (ix2 r 0)) k

theorem chunk0_at : k0_pay6 (F := Ideal) g d a x s (ix2 r k) = chunkGrad g d a x s r k := by
  unfold k0_pay6 k0_pay4 k0_pay5 chunkGrad NormRow.back
  pointwise

theorem chunk128_at : k0_pay12 (F := Ideal) g d a x s (ix2 r k) = chunkGrad g d a x s r k := by
  unfold k0_pay12 k0_pay10 k0_pay11 chunkGrad NormRow.back
  pointwise

theorem chunk256_at : k0_pay18 (F := Ideal) g d a x s (ix2 r k) = chunkGrad g d a x s r k := by
  unfold k0_pay18 k0_pay16 k0_pay17 chunkGrad NormRow.back
  pointwise

theorem chunk384_at : k0_pay25 (F := Ideal) g d k0_pay22 a x s (ix2 r k) = chunkGrad g d a x s r k := by
  unfold k0_pay25 k0_pay23 k0_pay24 k0_pay22 chunkGrad NormRow.back
  pointwise

theorem short0_at : k0_pay7 (F := Ideal) g d a x s (ix2 r k) = chunkGrad g d a x s r k := (chunk0_at g d a x s r k)

theorem short128_at : k0_pay13 (F := Ideal) g d a x s (ix2 r k) = chunkGrad g d a x s r k := (chunk128_at g d a x s r k)

theorem short256_at : k0_pay19 (F := Ideal) g d a x s (ix2 r k) = chunkGrad g d a x s r k := (chunk256_at g d a x s r k)

theorem short384_at : k0_pay26 (F := Ideal) g d k0_pay22 a x s (ix2 r k) = chunkGrad g d a x s r k := (chunk384_at g d a x s r k)

end Chunk

theorem chunk_of (d a x : FVec Ideal S128x2048 .f32) (s : FVec Ideal S128x1 .f32) (r : Fin 128) (k : Fin 2048) (R : Fin 512) (hd : ∀ k, d (ix2 r k) = x2 (ix2 R k))
    (ha : ∀ k, a (ix2 r k) = acc (ix2 R k)) (hx : ∀ k, x (ix2 r k) = x3 (ix2 R k)) (hs : s (ix2 r 0) = x4 (ix2 R 0)) :
    chunkGrad x5 d a x s r k = rowsGrad x2 x3 x4 x5 acc (ix2 R k) := by
  unfold chunkGrad
  rw [funext hx, hs, show (fun k => (NormRow.factor * d (ix2 r k) + a (ix2 r k)) * x5 (ix2 0 k)) = weighted x2 x5 acc R from funext fun k => by rw [hd, ha]; rfl]
  rfl

/-- The gradient of 128 rows of the block, from the blocks' rows. -/
theorem chunk_rows (o : ℕ) (ho : o + 128 ≤ 512) (inb : ∀ a, (![o, 0] : Fin 2 → ℕ) a + (![128, 2048] : Fin 2 → ℕ) a ≤ S512x2048.size a)
    (inb' : ∀ a, (![o, 0] : Fin 2 → ℕ) a + (![128, 1] : Fin 2 → ℕ) a ≤ S512x1.size a) (r : Fin 128) (k : Fin 2048) :
    chunkGrad x5 (View.ld (Val := Elt Ideal) (e' := .f32) x2 (Rect.unit (s := S512x2048) ![o, 0] ![128, 2048] inb)) (View.ld (Val := Elt Ideal) (e' := .f32) acc (Rect.unit (s := S512x2048) ![o, 0] ![128, 2048] inb))
      (View.ld (Val := Elt Ideal) (e' := .f32) x3 (Rect.unit (s := S512x2048) ![o, 0] ![128, 2048] inb)) (View.ld (Val := Elt Ideal) (e' := .f32) x4 (Rect.unit (s := S512x1) ![o, 0] ![128, 1] inb')) r k
      = rowsGrad x2 x3 x4 x5 acc ((Rect.unit (s := S512x2048) ![o, 0] ![128, 2048] inb).emb (ix2 r k)) := by
  rw [emb_rows o ho inb r k]
  exact chunk_of x2 x3 x4 x5 acc _ _ _ _ r k (inRows o ho r) (fun k => ld_rows o ho inb x2 r k) (fun k => ld_rows o ho inb acc r k) (fun k => ld_rows o ho inb x3 r k) (ld_row o ho inb' x4 r)

end Rows

section Point

variable (c : Dev nD) (i : grid0.Coords) (arg3 : Memref sig .tc .vmem S512x2048 .bf16) (harg3 : arg3.IsWhole) (arg4 : Memref sig .tc .vmem S1x2048x2048 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x1 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S1x8x2048 .f32) (harg11 : arg11.IsWhole) (arg12 : Memref sig .tc .vmem S512x2048 .f32) (harg12 : arg12.IsWhole)
  (x0 : Vec Ideal S512x2048 .bf16) (x1 : Vec Ideal S1x2048x2048 .bf16) (x2 : Vec Ideal S512x2048 .f32) (x3 : Vec Ideal S512x2048 .f32) (x4 : Vec Ideal S512x1 .f32) (x5 : Vec Ideal S1x2048 .f32) (acc : Vec Ideal S512x2048 .f32)

theorem first_point (hc0 : cond0_0 i) (hc1 : ¬cond0_1 i) : sout0_A_0 c i arg3 harg3 arg4 harg4 arg5 harg5 arg6 harg6 arg7 harg7 arg8 harg8 arg9 harg9 arg10 harg10 arg11 harg11 arg12 harg12 hc0 hc1 x0 x1 x2 x3 x4 x5 = k0_pay2 k0_pay1 x0 x1 := by
  frame_out

theorem middle_point (hc0 : ¬cond0_0 i) (hc1 : ¬cond0_1 i) : sout0_B_0 c i arg3 harg3 arg4 harg4 arg5 harg5 arg6 harg6 arg7 harg7 arg8 harg8 arg9 harg9 arg10 harg10 arg11 harg11 arg12 harg12 hc0 hc1 x0 x1 x2 x3 x4 x5 acc = k0_pay2 acc x0 x1 := by
  frame_out

/-- The last point stores, in four parts of 128 rows, the gradient of the rows. -/
theorem last_point6 (hc0 : ¬cond0_0 i) (hc1 : cond0_1 i) (y : S512x2048.Idx) :
    out0_C_6 c i arg3 harg3 arg4 harg4 arg5 harg5 arg6 harg6 arg7 harg7 arg8 harg8 arg9 harg9 arg10 harg10 arg11 harg11 arg12 harg12 hc0 hc1 x0 x1 x2 x3 x4 x5 acc y = rowsGrad x2 x3 x4 x5 (k0_pay2 acc x0 x1) y := by
  frame_out
  simp (disch := decide) only [View.readCov_fill]
  refine View.canon_apply_of_pieces (Val := Elt Ideal) (e := .f32) (rowsGrad x2 x3 x4 x5 (k0_pay2 acc x0 x1)) _ ?_ y ?_
  · intro p hp x
    rcases List.mem_cons.mp hp with rfl | hp
    · obtain ⟨r, k, rfl⟩ : ∃ (r : Fin 128) (k : Fin 2048), x = ix2 r k := ⟨_, _, eq_ix2 x⟩
      exact (chunk384_at _ _ _ _ _ r k).trans (chunk_rows x2 x3 x4 x5 (k0_pay2 acc x0 x1) 384 (by decide) inb_S512x2048_S128x2048_384_0 inb_S512x1_S128x1_384_0 r k)
    rcases List.mem_cons.mp hp with rfl | hp
    · obtain ⟨r, k, rfl⟩ : ∃ (r : Fin 128) (k : Fin 2048), x = ix2 r k := ⟨_, _, eq_ix2 x⟩
      exact (chunk256_at _ _ _ _ _ r k).trans (chunk_rows x2 x3 x4 x5 (k0_pay2 acc x0 x1) 256 (by decide) inb_S512x2048_S128x2048_256_0 inb_S512x1_S128x1_256_0 r k)
    rcases List.mem_cons.mp hp with rfl | hp
    · obtain ⟨r, k, rfl⟩ : ∃ (r : Fin 128) (k : Fin 2048), x = ix2 r k := ⟨_, _, eq_ix2 x⟩
      exact (chunk128_at _ _ _ _ _ r k).trans (chunk_rows x2 x3 x4 x5 (k0_pay2 acc x0 x1) 128 (by decide) inb_S512x2048_S128x2048_128_0 inb_S512x1_S128x1_128_0 r k)
    rcases List.mem_cons.mp hp with rfl | hp
    · obtain ⟨r, k, rfl⟩ : ∃ (r : Fin 128) (k : Fin 2048), x = ix2 r k := ⟨_, _, eq_ix2 x⟩
      exact (chunk0_at _ _ _ _ _ r k).trans (chunk_rows x2 x3 x4 x5 (k0_pay2 acc x0 x1) 0 (by decide) inb_S512x2048_S128x2048_0_0 inb_S512x1_S128x1_0_0 r k)
    exact absurd hp List.not_mem_nil
  · have hy : (y 0).val < 512 := (y 0).isLt
    rcases (by omega : (y 0).val < 128 ∨ (128 ≤ (y 0).val ∧ (y 0).val < 256) ∨ (256 ≤ (y 0).val ∧ (y 0).val < 384) ∨ 384 ≤ (y 0).val) with h | h | h | h
    · exact ⟨_, List.mem_cons_of_mem _ (List.mem_cons_of_mem _ (List.mem_cons_of_mem _ List.mem_cons_self)), mem_rows 0 inb_S512x2048_S128x2048_0_0 y (Nat.zero_le _) (by omega)⟩
    · exact ⟨_, List.mem_cons_of_mem _ (List.mem_cons_of_mem _ List.mem_cons_self), mem_rows 128 inb_S512x2048_S128x2048_128_0 y h.1 (by omega)⟩
    · exact ⟨_, List.mem_cons_of_mem _ List.mem_cons_self, mem_rows 256 inb_S512x2048_S128x2048_256_0 y h.1 (by omega)⟩
    · exact ⟨_, List.mem_cons_self, mem_rows 384 inb_S512x2048_S128x2048_384_0 y h (by omega)⟩

/-- The same in the shorter type. -/
theorem last_point7 (hc0 : ¬cond0_0 i) (hc1 : cond0_1 i) (y : S512x2048.Idx) :
    out0_C_7 c i arg3 harg3 arg4 harg4 arg5 harg5 arg6 harg6 arg7 harg7 arg8 harg8 arg9 harg9 arg10 harg10 arg11 harg11 arg12 harg12 hc0 hc1 x0 x1 x2 x3 x4 x5 acc y = rowsGrad x2 x3 x4 x5 (k0_pay2 acc x0 x1) y := by
  frame_out
  simp (disch := decide) only [View.readCov_fill]
  refine View.canon_apply_of_pieces (Val := Elt Ideal) (e := .bf16) (rowsGrad x2 x3 x4 x5 (k0_pay2 acc x0 x1)) _ ?_ y ?_
  · intro p hp x
    rcases List.mem_cons.mp hp with rfl | hp
    · obtain ⟨r, k, rfl⟩ : ∃ (r : Fin 128) (k : Fin 2048), x = ix2 r k := ⟨_, _, eq_ix2 x⟩
      exact (short384_at _ _ _ _ _ r k).trans (chunk_rows x2 x3 x4 x5 (k0_pay2 acc x0 x1) 384 (by decide) inb_S512x2048_S128x2048_384_0 inb_S512x1_S128x1_384_0 r k)
    rcases List.mem_cons.mp hp with rfl | hp
    · obtain ⟨r, k, rfl⟩ : ∃ (r : Fin 128) (k : Fin 2048), x = ix2 r k := ⟨_, _, eq_ix2 x⟩
      exact (short256_at _ _ _ _ _ r k).trans (chunk_rows x2 x3 x4 x5 (k0_pay2 acc x0 x1) 256 (by decide) inb_S512x2048_S128x2048_256_0 inb_S512x1_S128x1_256_0 r k)
    rcases List.mem_cons.mp hp with rfl | hp
    · obtain ⟨r, k, rfl⟩ : ∃ (r : Fin 128) (k : Fin 2048), x = ix2 r k := ⟨_, _, eq_ix2 x⟩
      exact (short128_at _ _ _ _ _ r k).trans (chunk_rows x2 x3 x4 x5 (k0_pay2 acc x0 x1) 128 (by decide) inb_S512x2048_S128x2048_128_0 inb_S512x1_S128x1_128_0 r k)
    rcases List.mem_cons.mp hp with rfl | hp
    · obtain ⟨r, k, rfl⟩ : ∃ (r : Fin 128) (k : Fin 2048), x = ix2 r k := ⟨_, _, eq_ix2 x⟩
      exact (short0_at _ _ _ _ _ r k).trans (chunk_rows x2 x3 x4 x5 (k0_pay2 acc x0 x1) 0 (by decide) inb_S512x2048_S128x2048_0_0 inb_S512x1_S128x1_0_0 r k)
    exact absurd hp List.not_mem_nil
  · have hy : (y 0).val < 512 := (y 0).isLt
    rcases (by omega : (y 0).val < 128 ∨ (128 ≤ (y 0).val ∧ (y 0).val < 256) ∨ (256 ≤ (y 0).val ∧ (y 0).val < 384) ∨ 384 ≤ (y 0).val) with h | h | h | h
    · exact ⟨_, List.mem_cons_of_mem _ (List.mem_cons_of_mem _ (List.mem_cons_of_mem _ List.mem_cons_self)), mem_rows 0 inb_S512x2048_S128x2048_0_0 y (Nat.zero_le _) (by omega)⟩
    · exact ⟨_, List.mem_cons_of_mem _ (List.mem_cons_of_mem _ List.mem_cons_self), mem_rows 128 inb_S512x2048_S128x2048_128_0 y h.1 (by omega)⟩
    · exact ⟨_, List.mem_cons_of_mem _ List.mem_cons_self, mem_rows 256 inb_S512x2048_S128x2048_256_0 y h.1 (by omega)⟩
    · exact ⟨_, List.mem_cons_self, mem_rows 384 inb_S512x2048_S128x2048_384_0 y h (by omega)⟩

end Point

/-- A step of the accumulation at an index. -/
theorem step_at (acc : Vec Ideal S512x2048 .f32) (a : Vec Ideal S512x2048 .bf16) (b : Vec Ideal S1x2048x2048 .bf16) (r : Fin 512) (j : Fin 2048) :
    k0_pay2 (F := Ideal) acc a b (ix2 r j) = acc (ix2 r j) + ∑ k : Fin 2048, a (ix2 r k) * b (ix3 0 j k) := by
  unfold k0_pay2
  pointwise

theorem zero_at (r : Fin 512) (j : Fin 2048) : k0_pay1 (F := Ideal) (ix2 r j) = 0 := by
  unfold k0_pay1
  pointwise

/-! ## The four points of a block -/

variable (m : (ℓ : Loc nD τ sig) → Buf (Elt Ideal) ℓ) (c : Dev nD)

/-- What is carried after a point: the output blocks and the accumulator. -/
abbrev Carried := Vec Ideal S512x2048 .f32 × Vec Ideal S512x2048 .bf16 × Vec Ideal S1x8x2048 .f32 × Vec Ideal S512x2048 .f32

/-- The input blocks of a point. -/
abbrev left (t : Fin cfg0.N) : Vec Ideal S512x2048 .bf16 := iblk m c 0 t
abbrev right (t : Fin cfg0.N) : Vec Ideal S1x2048x2048 .bf16 := iblk m c 1 t
abbrev other (t : Fin cfg0.N) : Vec Ideal S512x2048 .f32 := iblk m c 2 t
abbrev units (t : Fin cfg0.N) : Vec Ideal S512x2048 .f32 := iblk m c 3 t
abbrev scales (t : Fin cfg0.N) : Vec Ideal S512x1 .f32 := iblk m c 4 t
abbrev gain (t : Fin cfg0.N) : Vec Ideal S1x2048 .f32 := iblk m c 5 t

/-- The first of a block's points leaves one product, whatever was there. -/
theorem scratch_first (t : Fin cfg0.N) (h4 : t.val % 4 = 0) (acc : Carried) :
    (stAt0 m c t.val t.isLt acc).2.2.2 = k0_pay2 (F := Ideal) (k0_pay1 (F := Ideal)) (left m c t) (right m c t) := by
  rw [stAt0_A m c t acc h4 (fun e => by omega)]
  dsimp only
  exact first_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (left m c t) (right m c t) (other m c t) (units m c t) (scales m c t) (gain m c t) _ _

/-- A point in between adds a product. -/
theorem scratch_middle (t : Fin cfg0.N) (h4 : ¬t.val % 4 = 0) (h3 : ¬t.val % 4 = 3) (acc : Carried) :
    (stAt0 m c t.val t.isLt acc).2.2.2 = k0_pay2 (F := Ideal) acc.2.2.2 (left m c t) (right m c t) := by
  rw [stAt0_B m c t acc h4 h3]
  dsimp only
  exact middle_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (left m c t) (right m c t) (other m c t) (units m c t) (scales m c t) (gain m c t) acc.2.2.2 _ _

/-- The last one adds a product and stores. -/
theorem block_last (t : Fin cfg0.N) (h3 : t.val % 4 = 3) (acc : Carried) (y : S512x2048.Idx) :
    (stAt0 m c t.val t.isLt acc).1 y = rowsGrad (other m c t) (units m c t) (scales m c t) (gain m c t) (k0_pay2 acc.2.2.2 (left m c t) (right m c t)) y := by
  rw [stAt0_C m c t acc (fun e => by omega) h3]
  dsimp only
  exact last_point6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (left m c t) (right m c t) (other m c t) (units m c t) (scales m c t) (gain m c t) acc.2.2.2 _ _ y

theorem block_last_short (t : Fin cfg0.N) (h3 : t.val % 4 = 3) (acc : Carried) (y : S512x2048.Idx) :
    (stAt0 m c t.val t.isLt acc).2.1 y = rowsGrad (other m c t) (units m c t) (scales m c t) (gain m c t) (k0_pay2 acc.2.2.2 (left m c t) (right m c t)) y := by
  rw [stAt0_C m c t acc (fun e => by omega) h3]
  dsimp only
  exact last_point7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (left m c t) (right m c t) (other m c t) (units m c t) (scales m c t) (gain m c t) acc.2.2.2 _ _ y

/-- The accumulator, of what is carried. -/
abbrev held (p : Carried) : Vec Ideal S512x2048 .f32 := p.2.2.2

/-- What the first of a block's points leaves. -/
theorem after_first : ∀ (n : ℕ) (h : n < cfg0.N), n % 4 = 0 → (outsAt0 m c n h).2.2.2 = k0_pay2 (F := Ideal) (k0_pay1 (F := Ideal)) (left m c ⟨n, h⟩) (right m c ⟨n, h⟩)
  | 0, h, h4 => (congrArg held (outsAt0_zero m c h)).trans (scratch_first m c ⟨0, h⟩ h4 _)
  | n + 1, h, h4 => (congrArg held (outsAt0_succ m c n h)).trans (scratch_first m c ⟨n + 1, h⟩ h4 _)

/-- A product added to what the point before left. -/
theorem after_middle (n : ℕ) (h : n + 1 < cfg0.N) (h4 : ¬(n + 1) % 4 = 0) (h3 : ¬(n + 1) % 4 = 3) :
    (outsAt0 m c (n + 1) h).2.2.2 = k0_pay2 (F := Ideal) (outsAt0 m c n (Nat.lt_of_succ_lt h)).2.2.2 (left m c ⟨n + 1, h⟩) (right m c ⟨n + 1, h⟩) :=
  (congrArg held (outsAt0_succ m c n h)).trans (scratch_middle m c ⟨n + 1, h⟩ h4 h3 _)

/-- The sum of a block's four products. -/
def sumOf (q : ℕ) (h : 4 * q + 3 < cfg0.N) : Vec Ideal S512x2048 .f32 :=
  k0_pay2 (k0_pay2 (k0_pay2 (k0_pay2 (k0_pay1 (F := Ideal))
      (left m c ⟨4 * q, by omega⟩) (right m c ⟨4 * q, by omega⟩))
      (left m c ⟨4 * q + 1, by omega⟩) (right m c ⟨4 * q + 1, by omega⟩))
      (left m c ⟨4 * q + 2, by omega⟩) (right m c ⟨4 * q + 2, by omega⟩))
      (left m c ⟨4 * q + 3, h⟩) (right m c ⟨4 * q + 3, h⟩)

theorem before_last (q : ℕ) (h : 4 * q + 3 < cfg0.N) :
    k0_pay2 (outsAt0 m c (4 * q + 2) (Nat.lt_of_succ_lt h)).2.2.2 (left m c ⟨4 * q + 3, h⟩) (right m c ⟨4 * q + 3, h⟩) = sumOf m c q h := by
  rw [after_middle m c (4 * q + 1) (by omega) (by omega) (by omega),
    after_middle m c (4 * q) (by omega) (by omega) (by omega), after_first m c (4 * q) (by omega) (by omega)]
  rfl

/-- The blocks its four points leave. -/
theorem block_eq (q : ℕ) (h : 4 * q + 3 < cfg0.N) (y : S512x2048.Idx) :
    (outsAt0 m c (4 * q + 3) h).1 y = rowsGrad (other m c ⟨4 * q + 3, h⟩) (units m c ⟨4 * q + 3, h⟩) (scales m c ⟨4 * q + 3, h⟩) (gain m c ⟨4 * q + 3, h⟩) (sumOf m c q h) y := by
  rw [← before_last]
  exact (congrFun (congrArg Prod.fst (outsAt0_succ m c (4 * q + 2) h)) y).trans (block_last m c ⟨4 * q + 3, h⟩ (by show (4 * q + 3) % 4 = 3; omega) _ y)

theorem block_eq_short (q : ℕ) (h : 4 * q + 3 < cfg0.N) (y : S512x2048.Idx) :
    (outsAt0 m c (4 * q + 3) h).2.1 y = rowsGrad (other m c ⟨4 * q + 3, h⟩) (units m c ⟨4 * q + 3, h⟩) (scales m c ⟨4 * q + 3, h⟩) (gain m c ⟨4 * q + 3, h⟩) (sumOf m c q h) y := by
  rw [← before_last]
  exact (congrFun (congrArg (fun p : Carried => p.2.1) (outsAt0_succ m c (4 * q + 2) h)) y).trans (block_last_short m c ⟨4 * q + 3, h⟩ (by show (4 * q + 3) % 4 = 3; omega) _ y)

/-! ## The blocks a point is handed -/

theorem index0 (t : Fin cfg0.N) : win0_0.index t 0 = t.val / 4 ∧ win0_0.index t 1 = t.val % 4 := by revert t; decide +kernel
theorem index1 (t : Fin cfg0.N) : win0_1.index t 0 = t.val % 4 ∧ win0_1.index t 1 = 0 ∧ win0_1.index t 2 = 0 := by revert t; decide +kernel
theorem index2 (t : Fin cfg0.N) : win0_2.index t 0 = t.val / 4 ∧ win0_2.index t 1 = 0 := by revert t; decide +kernel
theorem index3 (t : Fin cfg0.N) : win0_3.index t 0 = t.val / 4 ∧ win0_3.index t 1 = 0 := by revert t; decide +kernel
theorem index4 (t : Fin cfg0.N) : win0_4.index t 0 = t.val / 4 ∧ win0_4.index t 1 = 0 := by revert t; decide +kernel
theorem index5 (t : Fin cfg0.N) : win0_5.index t 0 = 0 ∧ win0_5.index t 1 = 0 := by revert t; decide +kernel

/-- The gradient and the weight's column blocks, as they are handed. -/
abbrev gradOf (D : FVec Ideal S8192x8192 .f32) : FVec Ideal S8192x8192 .bf16 := truncf .bf16 D bitsLt_bf16_f32
abbrev blocksOf (W : FVec Ideal S2048x8192 .f32) : FVec Ideal S4x2048x2048 .bf16 :=
  transpose S4x2048x2048 [1, 0, 2] (shapeCast S2048x4x2048 (truncf .bf16 W bitsLt_bf16_f32 : FVec Ideal S2048x8192 .bf16) shapeCasts_S2048x8192_S2048x4x2048)
    transposes_S2048x4x2048_S4x2048x2048_1_0_2

theorem grad_handed : V m c main_v18 = gradOf (m ((c : Thread nD τ).loc main_arg0)) := by
  have e : V m c main_v18 = StableHlo.after hostOps0 (fun b => m (c, b)) (Proc.devRef .tc main_v18) := rfl
  rw [e]
  simp only [hostOps0]
  after_results_simp

theorem blocks_handed : V m c main_v21 = blocksOf (m ((c : Thread nD τ).loc main_arg1)) := by
  have e : V m c main_v21 = StableHlo.after hostOps0 (fun b => m (c, b)) (Proc.devRef .tc main_v21) := rfl
  rw [e]
  simp only [hostOps0]
  after_results_simp
  rfl

theorem units_handed : V m c main_v17 = MixNorm.refUnit (m ((c : Thread nD τ).loc main_arg3)) := by
  have e : V m c main_v17 = StableHlo.after hostOps0 (fun b => m (c, b)) (Proc.devRef .tc main_v17) := rfl
  rw [e]
  simp only [hostOps0]
  after_results_simp

theorem scales_handed : V m c main_v13 = MixNorm.refScale (MixNorm.refAway (m ((c : Thread nD τ).loc main_arg3))) := by
  have e : V m c main_v13 = StableHlo.after hostOps0 (fun b => m (c, b)) (Proc.devRef .tc main_v13) := rfl
  rw [e]
  simp only [hostOps0]
  after_results_simp

/-- The whole operands. -/
def wholeLeft : FVec Ideal S8192x8192 .bf16 := V m c main_v18
def wholeRight : FVec Ideal S4x2048x2048 .bf16 := V m c main_v21
def wholeOther : FVec Ideal S8192x2048 .f32 := V m c main_arg2
def wholeUnits : FVec Ideal S8192x2048 .f32 := V m c main_v17
def wholeScales : FVec Ideal S8192x1 .f32 := V m c main_v13
def wholeGain : FVec Ideal S1x2048 .f32 := V m c main_arg4

/-- Row `r` of row block `q`. -/
abbrev rowAt (q : Fin 16) (r : Fin 512) : Fin 8192 := ⟨512 * q.val + r.val, by omega⟩

/-- Rows `512 * q` and on, columns `2048 * s` and on. -/
theorem left_blk (t : Fin cfg0.N) (s : Fin 4) (q : Fin 16) (hs : t.val % 4 = s.val) (hq : t.val / 4 = q.val) (r : Fin 512) (k : Fin 2048) :
    left m c t (ix2 r k) = wholeLeft m c (ix2 (rowAt q r) (at' s k)) := by
  unfold left iblk wholeLeft
  rw [View.read_apply]
  refine congrArg (V m c main_v18) (funext fun a => Fin.ext ?_)
  match a with
  | ⟨0, _⟩ => show win0_0.index t 0 * 512 + 1 * r.val = 512 * q.val + r.val; rw [(index0 t).1, hq]; omega
  | ⟨1, _⟩ => show win0_0.index t 1 * 2048 + 1 * k.val = 2048 * s.val + k.val; rw [(index0 t).2, hs]; omega

/-- Column block `s` of the weight. -/
theorem right_blk (t : Fin cfg0.N) (s : Fin 4) (hs : t.val % 4 = s.val) (j k : Fin 2048) :
    right m c t (ix3 0 j k) = wholeRight m c (ix3 s j k) := by
  unfold right iblk wholeRight
  rw [View.read_apply]
  refine congrArg (V m c main_v21) (funext fun a => Fin.ext ?_)
  match a with
  | ⟨0, _⟩ => show win0_1.index t 0 * 1 + 1 * 0 = s.val; rw [(index1 t).1, hs]; omega
  | ⟨1, _⟩ => show win0_1.index t 1 * 2048 + 1 * j.val = j.val; rw [(index1 t).2.1]; omega
  | ⟨2, _⟩ => show win0_1.index t 2 * 2048 + 1 * k.val = k.val; rw [(index1 t).2.2]; omega

/-- Rows `512 * q` and on. -/
theorem other_blk (t : Fin cfg0.N) (q : Fin 16) (hq : t.val / 4 = q.val) (r : Fin 512) (j : Fin 2048) :
    other m c t (ix2 r j) = wholeOther m c (ix2 (rowAt q r) j) := by
  unfold other iblk wholeOther
  rw [View.read_apply]
  refine congrArg (V m c main_arg2) (funext fun a => Fin.ext ?_)
  match a with
  | ⟨0, _⟩ => show win0_2.index t 0 * 512 + 1 * r.val = 512 * q.val + r.val; rw [(index2 t).1, hq]; omega
  | ⟨1, _⟩ => show win0_2.index t 1 * 2048 + 1 * j.val = j.val; rw [(index2 t).2]; omega

/-- Rows `512 * q` and on. -/
theorem units_blk (t : Fin cfg0.N) (q : Fin 16) (hq : t.val / 4 = q.val) (r : Fin 512) (j : Fin 2048) :
    units m c t (ix2 r j) = wholeUnits m c (ix2 (rowAt q r) j) := by
  unfold units iblk wholeUnits
  rw [View.read_apply]
  refine congrArg (V m c main_v17) (funext fun a => Fin.ext ?_)
  match a with
  | ⟨0, _⟩ => show win0_3.index t 0 * 512 + 1 * r.val = 512 * q.val + r.val; rw [(index3 t).1, hq]; omega
  | ⟨1, _⟩ => show win0_3.index t 1 * 2048 + 1 * j.val = j.val; rw [(index3 t).2]; omega

theorem scales_blk (t : Fin cfg0.N) (q : Fin 16) (hq : t.val / 4 = q.val) (r : Fin 512) : scales m c t (ix2 r 0) = wholeScales m c (ix2 (rowAt q r) 0) := by
  unfold scales iblk wholeScales
  rw [View.read_apply]
  refine congrArg (V m c main_v13) (funext fun a => Fin.ext ?_)
  match a with
  | ⟨0, _⟩ => show win0_4.index t 0 * 512 + 1 * r.val = 512 * q.val + r.val; rw [(index4 t).1, hq]; omega
  | ⟨1, _⟩ => show win0_4.index t 1 * 1 + 1 * 0 = 0; rw [(index4 t).2]

theorem gain_blk (t : Fin cfg0.N) (j : Fin 2048) : gain m c t (ix2 0 j) = wholeGain m c (ix2 0 j) := by
  unfold gain iblk wholeGain
  rw [View.read_apply]
  refine congrArg (V m c main_arg4) (funext fun a => Fin.ext ?_)
  match a with
  | ⟨0, _⟩ => show win0_5.index t 0 * 1 + 1 * 0 = 0; rw [(index5 t).1]
  | ⟨1, _⟩ => show win0_5.index t 1 * 2048 + 1 * j.val = j.val; rw [(index5 t).2, Nat.zero_mul, Nat.zero_add, Nat.one_mul]

/-- A point's step at an index, in terms of the whole operands. -/
theorem step_whole (n : ℕ) (h : n < cfg0.N) (s : Fin 4) (q : Fin 16) (hn : n = 4 * q.val + s.val)
    (acc : Vec Ideal S512x2048 .f32) (r : Fin 512) (j : Fin 2048) :
    k0_pay2 (F := Ideal) acc (left m c ⟨n, h⟩) (right m c ⟨n, h⟩) (ix2 r j)
      = acc (ix2 r j) + ∑ k : Fin 2048, wholeLeft m c (ix2 (rowAt q r) (at' s k)) * wholeRight m c (ix3 s j k) := by
  rw [step_at]
  refine congrArg (acc (ix2 r j) + ·) (Finset.sum_congr rfl fun k _ => ?_)
  rw [left_blk m c ⟨n, h⟩ s q (by show n % 4 = _; omega) (by show n / 4 = _; omega), right_blk m c ⟨n, h⟩ s (by show n % 4 = _; omega)]

theorem blocksOf_at (W : FVec Ideal S2048x8192 .f32) (s : Fin 4) (j k : Fin 2048) : blocksOf W (ix3 s j k) = W (ix2 j (at' s k)) := by
  unfold blocksOf
  pointwise
  exact congrArg (fun q => W (ix2 j q)) (Fin.ext (by show s.val * 2048 + k.val = 2048 * s.val + k.val; omega))

theorem gradOf_at (D : FVec Ideal S8192x8192 .f32) (i j : Fin 8192) : gradOf D (ix2 i j) = D (ix2 i j) := by
  unfold gradOf
  pointwise

/-! ## The arrays, and the reference -/

section Whole

variable (D : FVec Ideal S8192x8192 .f32) (W : FVec Ideal S2048x8192 .f32) (Z : FVec Ideal S8192x2048 .f32) (Y : FVec Ideal S8192x2048 .f32) (G : FVec Ideal S1x2048 .f32)

/-- A row's gradient behind the gain. -/
def weightedRow (i : Fin 8192) (k : Fin 2048) : EReal := (NormRow.factor * Z (ix2 i k) + ∑ j : Fin 8192, D (ix2 i j) * W (ix2 k j)) * G (ix2 0 k)

/-- The gradient of a row. -/
def rowGrad (i : Fin 8192) (k : Fin 2048) : EReal := NormRow.back (weightedRow D W Z G i) (NormRow.unit fun k => Y (ix2 i k)) (NormRow.scale fun k => Y (ix2 i k)) k

/-- What the sum of a block's products is. -/
theorem sumOf_at (hD : wholeLeft m c = gradOf D) (hW : wholeRight m c = blocksOf W) (q : Fin 16) (h : 4 * q.val + 3 < cfg0.N) (r : Fin 512) (j : Fin 2048) :
    sumOf m c q.val h (ix2 r j) = ∑ k : Fin 8192, D (ix2 (rowAt q r) k) * W (ix2 j k) := by
  unfold sumOf
  rw [step_whole m c (4 * q.val + 3) h 3 q rfl, step_whole m c (4 * q.val + 2) (by omega) 2 q rfl,
    step_whole m c (4 * q.val + 1) (by omega) 1 q rfl, step_whole m c (4 * q.val) (by omega) 0 q rfl, zero_at]
  simp only [hD, hW, gradOf_at, blocksOf_at]
  exact four_parts fun k => D (ix2 (rowAt q r) k) * W (ix2 j k)

/-- A block's row is the whole arrays' row. -/
theorem rows_whole (hD : wholeLeft m c = gradOf D) (hW : wholeRight m c = blocksOf W) (hZ : wholeOther m c = Z) (hU : wholeUnits m c = MixNorm.refUnit Y)
    (hS : wholeScales m c = MixNorm.refScale (MixNorm.refAway Y)) (hG : wholeGain m c = G) (q : Fin 16) (h : 4 * q.val + 3 < cfg0.N) (r : Fin 512) (j : Fin 2048) :
    rowsGrad (other m c ⟨4 * q.val + 3, h⟩) (units m c ⟨4 * q.val + 3, h⟩) (scales m c ⟨4 * q.val + 3, h⟩) (gain m c ⟨4 * q.val + 3, h⟩) (sumOf m c q.val h) (ix2 r j)
      = rowGrad D W Z Y G (rowAt q r) j := by
  have hq : (⟨4 * q.val + 3, h⟩ : Fin cfg0.N).val / 4 = q.val := by show (4 * q.val + 3) / 4 = _; omega
  have ew : weighted (other m c ⟨4 * q.val + 3, h⟩) (gain m c ⟨4 * q.val + 3, h⟩) (sumOf m c q.val h) r = weightedRow D W Z G (rowAt q r) := funext fun k => by
    unfold weighted weightedRow
    rw [other_blk m c _ q hq, gain_blk, sumOf_at m c D W hD hW, hZ, hG]
  have eu : (fun k => units m c ⟨4 * q.val + 3, h⟩ (ix2 r k)) = NormRow.unit fun k => Y (ix2 (rowAt q r) k) := funext fun k => by
    rw [units_blk m c _ q hq, hU]
    exact MixNorm.refUnit_at Y _ k
  have es : scales m c ⟨4 * q.val + 3, h⟩ (ix2 r 0) = NormRow.scale fun k => Y (ix2 (rowAt q r) k) := by
    rw [scales_blk m c _ q hq, hS]
    exact MixNorm.refScale_at Y _
  show NormRow.back (weighted (other m c ⟨4 * q.val + 3, h⟩) (gain m c ⟨4 * q.val + 3, h⟩) (sumOf m c q.val h) r) (fun k => units m c ⟨4 * q.val + 3, h⟩ (ix2 r k))
    (scales m c ⟨4 * q.val + 3, h⟩ (ix2 r 0)) j = _
  rw [ew, eu, es]
  rfl

def result : FVec Ideal S8192x2048 .f32 := G6 m c

theorem result_at (hD : wholeLeft m c = gradOf D) (hW : wholeRight m c = blocksOf W) (hZ : wholeOther m c = Z) (hU : wholeUnits m c = MixNorm.refUnit Y)
    (hS : wholeScales m c = MixNorm.refScale (MixNorm.refAway Y)) (hG : wholeGain m c = G) (q : Fin 16) (r : Fin 512) (j : Fin 2048) :
    result m c (ix2 (rowAt q r) j) = rowGrad D W Z Y G (rowAt q r) j := by
  have hN : cfg0.N = 64 := N_0
  have hq : pt6Of (ix2 (rowAt q r) j) = 4 * q.val + 3 := by
    show 4 * (1 * ((512 * q.val + r.val) / 512 - 0) + 1 * (j.val / 2048 - 0)) + 3 = _
    omega
  have hl : loc6Of (ix2 (rowAt q r) j) = (ix2 r j : S512x2048.Idx) := by
    refine funext fun a => Fin.ext ?_
    match a with
    | ⟨0, _⟩ => show (512 * q.val + r.val) % 512 = r.val; omega
    | ⟨1, _⟩ => show j.val % 2048 = j.val; omega
  have hlt : 4 * q.val + 3 < cfg0.N := by omega
  have hp : pt6Of (ix2 (rowAt q r) j) < cfg0.N := by rw [hq]; exact hlt
  have e : result m c (ix2 (rowAt q r) j) = (outsAt0 m c (4 * q.val + 3) hlt).1 (ix2 r j) := by
    unfold result G6
    rw [dif_pos hp, hl, fold0_congr m c _ (by omega) (4 * q.val + 3) (by omega) hq, ← outsAt0_sweep m c _ hlt]
  rw [e, block_eq m c _ hlt]
  exact rows_whole m c D W Z Y G hD hW hZ hU hS hG q hlt r j

def short : FVec Ideal S8192x2048 .bf16 := G7 m c

theorem short_at (hD : wholeLeft m c = gradOf D) (hW : wholeRight m c = blocksOf W) (hZ : wholeOther m c = Z) (hU : wholeUnits m c = MixNorm.refUnit Y)
    (hS : wholeScales m c = MixNorm.refScale (MixNorm.refAway Y)) (hG : wholeGain m c = G) (q : Fin 16) (r : Fin 512) (j : Fin 2048) :
    short m c (ix2 (rowAt q r) j) = rowGrad D W Z Y G (rowAt q r) j := by
  have hN : cfg0.N = 64 := N_0
  have hq : pt7Of (ix2 (rowAt q r) j) = 4 * q.val + 3 := by
    show 4 * (1 * ((512 * q.val + r.val) / 512 - 0) + 1 * (j.val / 2048 - 0)) + 3 = _
    omega
  have hl : loc7Of (ix2 (rowAt q r) j) = (ix2 r j : S512x2048.Idx) := by
    refine funext fun a => Fin.ext ?_
    match a with
    | ⟨0, _⟩ => show (512 * q.val + r.val) % 512 = r.val; omega
    | ⟨1, _⟩ => show j.val % 2048 = j.val; omega
  have hlt : 4 * q.val + 3 < cfg0.N := by omega
  have hp : pt7Of (ix2 (rowAt q r) j) < cfg0.N := by rw [hq]; exact hlt
  have e : short m c (ix2 (rowAt q r) j) = (outsAt0 m c (4 * q.val + 3) hlt).2.1 (ix2 r j) := by
    unfold short G7
    rw [dif_pos hp, hl, fold0_congr m c _ (by omega) (4 * q.val + 3) (by omega) hq, ← outsAt0_sweep m c _ hlt]
  rw [e, block_eq_short m c _ hlt]
  exact rows_whole m c D W Z Y G hD hW hZ hU hS hG q hlt r j

/-- The reference's gradient behind the gain. -/
abbrev refWeighted : FVec Ideal S8192x2048 .f32 :=
  mulf (addf (mulf (broadcastInDim Cert.Reference11Ideal.S8192x2048 ![] Cert.Reference11Ideal.Gen.bcast_S_S8192x2048 (constant Cert.Reference11Ideal.S_ .f32 0x3F9837F0#32)) Z)
    (Host.dotGeneral Cert.Reference11Ideal.dot_S8192x8192_S2048x8192_S8192x2048_1_1_0_0_n_n none D W)) (MixNorm.below G)

theorem refWeighted_at (i : Fin 8192) (k : Fin 2048) : refWeighted D W Z G (ix2 i k) = weightedRow D W Z G i k := by
  unfold refWeighted MixNorm.below weightedRow
  pointwise

/-- Every entry of the arguments is a finite number. -/
structure Finite : Prop where
  d : ∀ i j, NormRow.Fin' (D (ix2 i j))
  w : ∀ i j, NormRow.Fin' (W (ix2 i j))
  z : ∀ i j, NormRow.Fin' (Z (ix2 i j))
  y : ∀ i j, NormRow.Fin' (Y (ix2 i j))
  g : ∀ j, NormRow.Fin' (G (ix2 0 j))

theorem weighted_fin (H : Finite D W Z Y G) (i : Fin 8192) (k : Fin 2048) : NormRow.Fin' (weightedRow D W Z G i k) :=
  NormRow.fin_mul (NormRow.fin_add (NormRow.fin_mul NormRow.factor_real (H.z i k)) (NormRow.fin_sum fun j => NormRow.fin_mul (H.d i j) (H.w k j))) (H.g k)

/-- The reference's gradient at an index. -/
theorem reference_at (H : Finite D W Z Y G) (i : Fin 8192) (k : Fin 2048) : ChainRef.refChain Y (refWeighted D W Z G) (ix2 i k) = rowGrad D W Z Y G i k := by
  refine (ChainRef.chain_at Y _ i k).trans ?_
  rw [funext (refWeighted_at D W Z G i)]
  exact (NormRow.back_eq_chain _ _ (H.y i) (weighted_fin D W Z Y G H i) k).symm

theorem same (H : Finite D W Z Y G) (hD : D = m ((c : Thread nD τ).loc main_arg0)) (hW : W = m ((c : Thread nD τ).loc main_arg1)) (hZ : Z = m ((c : Thread nD τ).loc main_arg2))
    (hY : Y = m ((c : Thread nD τ).loc main_arg3)) (hG : G = m ((c : Thread nD τ).loc main_arg4)) :
    ChainRef.refChain Y (refWeighted D W Z G) = G6 m c ∧ (truncf .bf16 (ChainRef.refChain Y (refWeighted D W Z G)) bitsLt_bf16_f32 : FVec Ideal S8192x2048 .bf16) = G7 m c := by
  have e0 : wholeLeft m c = gradOf D := by rw [hD]; exact grad_handed m c
  have e1 : wholeRight m c = blocksOf W := by rw [hW]; exact blocks_handed m c
  have e2 : wholeOther m c = Z := by rw [hZ]; exact V_main_arg2 m c
  have e3 : wholeUnits m c = MixNorm.refUnit Y := by rw [hY]; exact units_handed m c
  have e4 : wholeScales m c = MixNorm.refScale (MixNorm.refAway Y) := by rw [hY]; exact scales_handed m c
  have e5 : wholeGain m c = G := by rw [hG]; exact V_main_arg4 m c
  have split : ∀ y : S8192x2048.Idx, ∃ (q : Fin 16) (r : Fin 512) (j : Fin 2048), y = ix2 (rowAt q r) j := fun y => by
    obtain ⟨i, j, rfl⟩ : ∃ (i : Fin 8192) (j : Fin 2048), y = ix2 i j := ⟨_, _, eq_ix2 y⟩
    obtain ⟨q, r, rfl⟩ : ∃ (q : Fin 16) (r : Fin 512), i = rowAt q r :=
      ⟨⟨i.val / 512, by omega⟩, ⟨i.val % 512, by omega⟩, Fin.ext (by show i.val = 512 * (i.val / 512) + i.val % 512; omega)⟩
    exact ⟨q, r, j, rfl⟩
  refine ⟨funext fun y => ?_, funext fun y => ?_⟩
  · obtain ⟨q, r, j, rfl⟩ := split y
    exact (reference_at D W Z Y G H _ j).trans (result_at m c D W Z Y G e0 e1 e2 e3 e4 e5 q r j).symm
  · obtain ⟨q, r, j, rfl⟩ := split y
    exact (reference_at D W Z Y G H _ j).trans (short_at m c D W Z Y G e0 e1 e2 e3 e4 e5 q r j).symm

end Whole

set_option maxHeartbeats 2000000 in
theorem agree : Cert.algebraic_Kernel11Ideal_Reference11Ideal_pre_finite11 (hKernel11Ideal := Cert.Kernel11Ideal.Gen.facts) (hReference11Ideal := Cert.Reference11Ideal.Gen.facts)
    (hPre_finite11 := Cert.Pre_finite11.Gen.facts) := by
  intro m g m' g' hp he
  refine ⟨fun c => G6 m c, fun c => G7 m c, ?_, ?_⟩
  · refine (θ_run _ _ _).mono (fun r h c => ?_) (Cert.Kernel11Ideal.Value.run m g)
    obtain ⟨r0, r1, _, rest⟩ := h c
    exact ⟨r0, r1, rest⟩
  refine (θ_run _ _ _).mono (fun r h c => ?_) (Cert.Reference11Ideal.Value.run m' g')
  obtain ⟨r0, r1, rest⟩ := h c
  obtain ⟨e0, e1, e2, e3, e4⟩ := he c
  obtain ⟨p0, p1, p2, p3, p4⟩ := hp c
  have H : Finite (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
    ⟨fun i j => ⟨_, Attn.real_of_bit _ (congrFun p0 (ix2 i j))⟩, fun i j => ⟨_, Attn.real_of_bit _ (congrFun p1 (ix2 i j))⟩, fun i j => ⟨_, Attn.real_of_bit _ (congrFun p2 (ix2 i j))⟩,
      fun i j => ⟨_, Attn.real_of_bit _ (congrFun p3 (ix2 i j))⟩, fun j => ⟨_, Attn.real_of_bit _ (congrFun p4 (ix2 0 j))⟩⟩
  have s := same m c _ _ _ _ _ (e0 ▸ e1 ▸ e2 ▸ e3 ▸ e4 ▸ H) e0 e1 e2 e3 e4
  exact ⟨r0.trans s.1, r1.trans s.2, rest⟩

end Cert.UpGrad

end
-- ==== Proof.Merge.lean ====
/-
  The two branches merged. A grid point multiplies its block of rows of the attention's output with a column block of that
  branch's weight, and likewise the pool mixer's output with its weight; it stores both products and their sum weighted by
  the two gates, read from the columns of the array that holds the input projections and the gates side by side. The 32
  points' blocks are the three whole arrays. The gates are the logistic function of the last half of the projection's
  columns.
-/
module

public import proofs.«01_k».proof.Proof.Parts
public import proofs.«01_k».proof.Proof.Gen.Kernel9Ideal.Value
public import proofs.«01_k».proof.Proof.Gen.Reference9Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.Merge

open Cert.Kernel9Ideal Cert.Kernel9Ideal.Gen Cert.Kernel9Ideal.Value Idealize.ShloMosaic Idealize.ShloMosaic.TcCoe Idealize.SL.Sem Cert.Parts

/-! ## One grid point -/

section Point

variable (x0 x1 : Vec Ideal S1024x1024 .bf16) (x2 x3 : Vec Ideal S1x1024x512 .bf16) (x4 x5 : Vec Ideal S1024x512 .bf16)

theorem point_attn : out0_6 x0 x1 x2 x3 x4 x5 = k0_pay3 (F := Ideal) x0 x2 := by
  frame_out

theorem point_pool : out0_7 x0 x1 x2 x3 x4 x5 = k0_pay4 (F := Ideal) x1 x3 := by
  frame_out

theorem point_merged : out0_8 x0 x1 x2 x3 x4 x5 = k0_pay5 (F := Ideal) x0 x2 x1 x3 x4 x5 := by
  frame_out

end Point

/-- A point's product at an index. -/
abbrev dot (x : Vec Ideal S1024x1024 .bf16) (w : Vec Ideal S1x1024x512 .bf16) (r : Fin 1024) (l : Fin 512) : EReal := ∑ k : Fin 1024, x (ix2 r k) * w (ix3 0 k l)

theorem attn_at (x : Vec Ideal S1024x1024 .bf16) (w : Vec Ideal S1x1024x512 .bf16) (r : Fin 1024) (l : Fin 512) :
    k0_pay3 (F := Ideal) x w (ix2 r l) = dot x w r l := by
  unfold k0_pay3 k0_pay1
  pointwise

theorem pool_at (x : Vec Ideal S1024x1024 .bf16) (w : Vec Ideal S1x1024x512 .bf16) (r : Fin 1024) (l : Fin 512) :
    k0_pay4 (F := Ideal) x w (ix2 r l) = dot x w r l := by
  unfold k0_pay4 k0_pay2
  pointwise

theorem merged_at (x0 x1 : Vec Ideal S1024x1024 .bf16) (x2 x3 : Vec Ideal S1x1024x512 .bf16) (x4 x5 : FVec Ideal S1024x512 .bf16) (r : Fin 1024) (l : Fin 512) :
    k0_pay5 (F := Ideal) x0 x2 x1 x3 x4 x5 (ix2 r l) = x4 (ix2 r l) * dot x0 x2 r l + x5 (ix2 r l) * dot x1 x3 r l := by
  unfold k0_pay5 k0_pay1 k0_pay2
  pointwise

/-! ## The blocks a point is handed -/

variable (m : (ℓ : Loc nD τ sig) → Buf (Elt Ideal) ℓ) (c : Dev nD)

theorem index0 (t : Fin cfg0.N) : win0_0.index t 0 = t.val / 4 ∧ win0_0.index t 1 = 0 := by revert t; decide +kernel
theorem index1 (t : Fin cfg0.N) : win0_1.index t 0 = t.val / 4 ∧ win0_1.index t 1 = 0 := by revert t; decide +kernel
theorem index2 (t : Fin cfg0.N) : win0_2.index t 0 = t.val % 4 ∧ win0_2.index t 1 = 0 ∧ win0_2.index t 2 = 0 := by revert t; decide +kernel
theorem index3 (t : Fin cfg0.N) : win0_3.index t 0 = t.val % 4 ∧ win0_3.index t 1 = 0 ∧ win0_3.index t 2 = 0 := by revert t; decide +kernel
theorem index4 (t : Fin cfg0.N) : win0_4.index t 0 = t.val / 4 ∧ win0_4.index t 1 = t.val % 4 + 8 := by revert t; decide +kernel
theorem index5 (t : Fin cfg0.N) : win0_5.index t 0 = t.val / 4 ∧ win0_5.index t 1 = t.val % 4 + 12 := by revert t; decide +kernel
theorem index6 (t : Fin cfg0.N) : win0_6.index t 0 = t.val / 4 ∧ win0_6.index t 1 = t.val % 4 := by revert t; decide +kernel
theorem index7 (t : Fin cfg0.N) : win0_7.index t 0 = t.val / 4 ∧ win0_7.index t 1 = t.val % 4 := by revert t; decide +kernel
theorem index8 (t : Fin cfg0.N) : win0_8.index t 0 = t.val / 4 ∧ win0_8.index t 1 = t.val % 4 := by revert t; decide +kernel

/-- The six input blocks of a point. -/
abbrev attnRows (t : Fin cfg0.N) : Vec Ideal S1024x1024 .bf16 := iblk m c 0 t
abbrev poolRows (t : Fin cfg0.N) : Vec Ideal S1024x1024 .bf16 := iblk m c 1 t
abbrev attnCols (t : Fin cfg0.N) : Vec Ideal S1x1024x512 .bf16 := iblk m c 2 t
abbrev poolCols (t : Fin cfg0.N) : Vec Ideal S1x1024x512 .bf16 := iblk m c 3 t
abbrev attnGate (t : Fin cfg0.N) : FVec Ideal S1024x512 .bf16 := iblk m c 4 t
abbrev poolGate (t : Fin cfg0.N) : FVec Ideal S1024x512 .bf16 := iblk m c 5 t

/-- The branches' rows, the weights' column blocks and the gated projection, as they are handed. -/
abbrev rowsOf (X : FVec Ideal S8192x1024 .f32) : FVec Ideal S8192x1024 .bf16 := truncf .bf16 X bitsLt_bf16_f32
abbrev blocksOf (W : FVec Ideal S1024x2048 .f32) : FVec Ideal S4x1024x512 .bf16 :=
  transpose S4x1024x512 [1, 0, 2] (shapeCast S1024x4x512 (truncf .bf16 W bitsLt_bf16_f32 : FVec Ideal S1024x2048 .bf16) shapeCasts_S1024x2048_S1024x4x512)
    transposes_S1024x4x512_S4x1024x512_1_0_2
abbrev ones : FVec Ideal S8192x4096 .f32 := broadcastInDim S8192x4096 ![] bcast_S_S8192x4096 (constant S_ .f32 0x3F800000#32)
abbrev gates (H : FVec Ideal S8192x8192 .f32) : FVec Ideal S8192x4096 .f32 :=
  Host.divf ones (addf ones (Host.exp (Host.negf (extractStridedSlice S8192x4096 ![0, 4096] H slices_S8192x8192_S8192x4096_0_4096 : FVec Ideal S8192x4096 .f32))))
abbrev gatedOf (H : FVec Ideal S8192x8192 .f32) : FVec Ideal S8192x8192 .bf16 :=
  truncf .bf16 (concatenate S8192x8192 1
    [⟨S8192x4096, (extractStridedSlice S8192x4096 ![0, 0] H slices_S8192x8192_S8192x4096_0_0 : FVec Ideal S8192x4096 .f32)⟩, ⟨S8192x4096, gates H⟩]
    concatenates_S8192x4096_S8192x4096_S8192x8192_d1 : FVec Ideal S8192x8192 .f32) bitsLt_bf16_f32

theorem attn_rows_handed : V m c main_v7 = rowsOf (m ((c : Thread nD τ).loc main_arg0)) := by
  have e : V m c main_v7 = StableHlo.after hostOps0 (fun b => m (c, b)) (Proc.devRef .tc main_v7) := rfl
  rw [e]
  simp only [hostOps0]
  after_results_simp

theorem pool_rows_handed : V m c main_v8 = rowsOf (m ((c : Thread nD τ).loc main_arg1)) := by
  have e : V m c main_v8 = StableHlo.after hostOps0 (fun b => m (c, b)) (Proc.devRef .tc main_v8) := rfl
  rw [e]
  simp only [hostOps0]
  after_results_simp

theorem attn_cols_handed : V m c main_v11 = blocksOf (m ((c : Thread nD τ).loc main_arg2)) := by
  have e : V m c main_v11 = StableHlo.after hostOps0 (fun b => m (c, b)) (Proc.devRef .tc main_v11) := rfl
  rw [e]
  simp only [hostOps0]
  after_results_simp
  rfl

theorem pool_cols_handed : V m c main_v14 = blocksOf (m ((c : Thread nD τ).loc main_arg3)) := by
  have e : V m c main_v14 = StableHlo.after hostOps0 (fun b => m (c, b)) (Proc.devRef .tc main_v14) := rfl
  rw [e]
  simp only [hostOps0]
  after_results_simp
  rfl

theorem gated_handed : V m c main_v17 = gatedOf (m ((c : Thread nD τ).loc main_arg4)) := by
  have e : V m c main_v17 = StableHlo.after hostOps0 (fun b => m (c, b)) (Proc.devRef .tc main_v17) := rfl
  rw [e]
  simp only [hostOps0]
  after_results_simp
  rfl

/-- Place `r` of row block `p` of eight, and place `l` of column block `q` of four. -/
abbrev place (p : Fin 8) (r : Fin 1024) : Fin 8192 := ⟨1024 * p.val + r.val, by omega⟩
abbrev col (q : Fin 4) (l : Fin 512) : Fin 2048 := ⟨512 * q.val + l.val, by omega⟩

/-- The column of the projection that holds the attention's gate of an output column, and the pool mixer's. -/
abbrev attnPlace (j : Fin 2048) : Fin 8192 := ⟨4096 + j.val, by omega⟩
abbrev poolPlace (j : Fin 2048) : Fin 8192 := ⟨6144 + j.val, by omega⟩

theorem attnRows_blk (t : Fin cfg0.N) (p : Fin 8) (hp : t.val / 4 = p.val) (r k : Fin 1024) (A : FVec Ideal S8192x1024 .bf16) (hA : V m c main_v7 = A) :
    attnRows m c t (ix2 r k) = A (ix2 (place p r) k) := by
  subst hA
  unfold attnRows iblk
  rw [View.read_apply]
  refine congrArg (V m c main_v7) (funext fun a => Fin.ext ?_)
  match a with
  | ⟨0, _⟩ => show win0_0.index t 0 * 1024 + 1 * r.val = 1024 * p.val + r.val; rw [(index0 t).1, hp]; omega
  | ⟨1, _⟩ => show win0_0.index t 1 * 1024 + 1 * k.val = k.val; rw [(index0 t).2]; omega

theorem poolRows_blk (t : Fin cfg0.N) (p : Fin 8) (hp : t.val / 4 = p.val) (r k : Fin 1024) (A : FVec Ideal S8192x1024 .bf16) (hA : V m c main_v8 = A) :
    poolRows m c t (ix2 r k) = A (ix2 (place p r) k) := by
  subst hA
  unfold poolRows iblk
  rw [View.read_apply]
  refine congrArg (V m c main_v8) (funext fun a => Fin.ext ?_)
  match a with
  | ⟨0, _⟩ => show win0_1.index t 0 * 1024 + 1 * r.val = 1024 * p.val + r.val; rw [(index1 t).1, hp]; omega
  | ⟨1, _⟩ => show win0_1.index t 1 * 1024 + 1 * k.val = k.val; rw [(index1 t).2]; omega

theorem attnCols_blk (t : Fin cfg0.N) (q : Fin 4) (hq : t.val % 4 = q.val) (k : Fin 1024) (l : Fin 512) (A : FVec Ideal S4x1024x512 .bf16) (hA : V m c main_v11 = A) :
    attnCols m c t (ix3 0 k l) = A (ix3 q k l) := by
  subst hA
  unfold attnCols iblk
  rw [View.read_apply]
  refine congrArg (V m c main_v11) (funext fun a => Fin.ext ?_)
  match a with
  | ⟨0, _⟩ => show win0_2.index t 0 * 1 + 1 * 0 = q.val; rw [(index2 t).1, hq]; omega
  | ⟨1, _⟩ => show win0_2.index t 1 * 1024 + 1 * k.val = k.val; rw [(index2 t).2.1]; omega
  | ⟨2, _⟩ => show win0_2.index t 2 * 512 + 1 * l.val = l.val; rw [(index2 t).2.2]; omega

theorem poolCols_blk (t : Fin cfg0.N) (q : Fin 4) (hq : t.val % 4 = q.val) (k : Fin 1024) (l : Fin 512) (A : FVec Ideal S4x1024x512 .bf16) (hA : V m c main_v14 = A) :
    poolCols m c t (ix3 0 k l) = A (ix3 q k l) := by
  subst hA
  unfold poolCols iblk
  rw [View.read_apply]
  refine congrArg (V m c main_v14) (funext fun a => Fin.ext ?_)
  match a with
  | ⟨0, _⟩ => show win0_3.index t 0 * 1 + 1 * 0 = q.val; rw [(index3 t).1, hq]; omega
  | ⟨1, _⟩ => show win0_3.index t 1 * 1024 + 1 * k.val = k.val; rw [(index3 t).2.1]; omega
  | ⟨2, _⟩ => show win0_3.index t 2 * 512 + 1 * l.val = l.val; rw [(index3 t).2.2]; omega

theorem attnGate_blk (t : Fin cfg0.N) (p : Fin 8) (q : Fin 4) (hp : t.val / 4 = p.val) (hq : t.val % 4 = q.val) (r : Fin 1024) (l : Fin 512)
    (A : FVec Ideal S8192x8192 .bf16) (hA : V m c main_v17 = A) : attnGate m c t (ix2 r l) = A (ix2 (place p r) (attnPlace (col q l))) := by
  subst hA
  unfold attnGate iblk
  rw [View.read_apply]
  refine congrArg (V m c main_v17) (funext fun a => Fin.ext ?_)
  match a with
  | ⟨0, _⟩ => show win0_4.index t 0 * 1024 + 1 * r.val = 1024 * p.val + r.val; rw [(index4 t).1, hp]; omega
  | ⟨1, _⟩ => show win0_4.index t 1 * 512 + 1 * l.val = 4096 + (512 * q.val + l.val); rw [(index4 t).2, hq]; omega

theorem poolGate_blk (t : Fin cfg0.N) (p : Fin 8) (q : Fin 4) (hp : t.val / 4 = p.val) (hq : t.val % 4 = q.val) (r : Fin 1024) (l : Fin 512)
    (A : FVec Ideal S8192x8192 .bf16) (hA : V m c main_v17 = A) : poolGate m c t (ix2 r l) = A (ix2 (place p r) (poolPlace (col q l))) := by
  subst hA
  unfold poolGate iblk
  rw [View.read_apply]
  refine congrArg (V m c main_v17) (funext fun a => Fin.ext ?_)
  match a with
  | ⟨0, _⟩ => show win0_5.index t 0 * 1024 + 1 * r.val = 1024 * p.val + r.val; rw [(index5 t).1, hp]; omega
  | ⟨1, _⟩ => show win0_5.index t 1 * 512 + 1 * l.val = 6144 + (512 * q.val + l.val); rw [(index5 t).2, hq]; omega

theorem rowsOf_at (X : FVec Ideal S8192x1024 .f32) (i : Fin 8192) (k : Fin 1024) : rowsOf X (ix2 i k) = X (ix2 i k) := by
  unfold rowsOf
  pointwise

theorem blocksOf_at (W : FVec Ideal S1024x2048 .f32) (q : Fin 4) (k : Fin 1024) (l : Fin 512) : blocksOf W (ix3 q k l) = W (ix2 k (col q l)) := by
  unfold blocksOf
  pointwise
  exact congrArg (fun q => W (ix2 k q)) (Fin.ext (by show q.val * 512 + l.val = 512 * q.val + l.val; omega))

/-- The logistic function, as it is written. -/
abbrev logistic (x : EReal) : EReal := Ideal.div 1 (1 + Ideal.exp (-x))

theorem gatedOf_attn (H : FVec Ideal S8192x8192 .f32) (i : Fin 8192) (j : Fin 2048) : gatedOf H (ix2 i (attnPlace j)) = logistic (H (ix2 i (attnPlace j))) := by
  unfold gatedOf gates ones
  pointwise

theorem gatedOf_pool (H : FVec Ideal S8192x8192 .f32) (i : Fin 8192) (j : Fin 2048) : gatedOf H (ix2 i (poolPlace j)) = logistic (H (ix2 i (poolPlace j))) := by
  unfold gatedOf gates ones
  pointwise
  rw [dif_neg (by omega)]
  have e : (⟨4096 + (6144 + j.val - 4096), by omega⟩ : Fin 8192) = poolPlace j := Fin.ext (by show 4096 + (6144 + j.val - 4096) = 6144 + j.val; omega)
  rw [e]

/-! ## The arrays, and the reference -/

section Whole

variable (O Y : FVec Ideal S8192x1024 .f32) (A B : FVec Ideal S1024x2048 .f32) (H : FVec Ideal S8192x8192 .f32)

/-- A branch's whole product at an index, and the three results as functions of the arguments. -/
def whole (X : FVec Ideal S8192x1024 .f32) (W : FVec Ideal S1024x2048 .f32) (i : Fin 8192) (j : Fin 2048) : EReal := ∑ k : Fin 1024, X (ix2 i k) * W (ix2 k j)
def branch (X : FVec Ideal S8192x1024 .f32) (W : FVec Ideal S1024x2048 .f32) : FVec Ideal S8192x2048 .bf16 := fun y => whole X W (y 0) (y 1)
def merged : FVec Ideal S8192x2048 .bf16 := fun y =>
  logistic (H (ix2 (y 0 : Fin 8192) (attnPlace (y 1)))) * whole O A (y 0) (y 1) + logistic (H (ix2 (y 0 : Fin 8192) (poolPlace (y 1)))) * whole Y B (y 0) (y 1)

variable (hO : O = m ((c : Thread nD τ).loc main_arg0)) (hY : Y = m ((c : Thread nD τ).loc main_arg1)) (hA : A = m ((c : Thread nD τ).loc main_arg2))
  (hB : B = m ((c : Thread nD τ).loc main_arg3)) (hH : H = m ((c : Thread nD τ).loc main_arg4))

include hO hA in
theorem dot_attn (t : Fin cfg0.N) (p : Fin 8) (q : Fin 4) (hp : t.val / 4 = p.val) (hq : t.val % 4 = q.val) (r : Fin 1024) (l : Fin 512) :
    dot (attnRows m c t) (attnCols m c t) r l = whole O A (place p r) (col q l) := by
  have hl : V m c main_v7 = rowsOf O := by rw [hO]; exact attn_rows_handed m c
  have hr : V m c main_v11 = blocksOf A := by rw [hA]; exact attn_cols_handed m c
  unfold dot whole
  simp only [attnRows_blk m c t p hp _ _ _ hl, attnCols_blk m c t q hq _ _ _ hr, rowsOf_at, blocksOf_at]

include hY hB in
theorem dot_pool (t : Fin cfg0.N) (p : Fin 8) (q : Fin 4) (hp : t.val / 4 = p.val) (hq : t.val % 4 = q.val) (r : Fin 1024) (l : Fin 512) :
    dot (poolRows m c t) (poolCols m c t) r l = whole Y B (place p r) (col q l) := by
  have hl : V m c main_v8 = rowsOf Y := by rw [hY]; exact pool_rows_handed m c
  have hr : V m c main_v14 = blocksOf B := by rw [hB]; exact pool_cols_handed m c
  unfold dot whole
  simp only [poolRows_blk m c t p hp _ _ _ hl, poolCols_blk m c t q hq _ _ _ hr, rowsOf_at, blocksOf_at]

include hO hA in
theorem point_attns (t : Fin cfg0.N) (p : Fin 8) (q : Fin 4) (hp : t.val / 4 = p.val) (hq : t.val % 4 = q.val) (r : Fin 1024) (l : Fin 512) :
    k0_pay3 (F := Ideal) (attnRows m c t) (attnCols m c t) (ix2 r l) = branch O A (ix2 (place p r) (col q l)) := by
  rw [attn_at, dot_attn m c O A hO hA t p q hp hq]
  rfl

include hY hB in
theorem point_pools (t : Fin cfg0.N) (p : Fin 8) (q : Fin 4) (hp : t.val / 4 = p.val) (hq : t.val % 4 = q.val) (r : Fin 1024) (l : Fin 512) :
    k0_pay4 (F := Ideal) (poolRows m c t) (poolCols m c t) (ix2 r l) = branch Y B (ix2 (place p r) (col q l)) := by
  rw [pool_at, dot_pool m c Y B hY hB t p q hp hq]
  rfl

include hO hY hA hB hH in
theorem point_mergeds (t : Fin cfg0.N) (p : Fin 8) (q : Fin 4) (hp : t.val / 4 = p.val) (hq : t.val % 4 = q.val) (r : Fin 1024) (l : Fin 512) :
    k0_pay5 (F := Ideal) (attnRows m c t) (attnCols m c t) (poolRows m c t) (poolCols m c t) (attnGate m c t) (poolGate m c t) (ix2 r l)
      = merged O Y A B H (ix2 (place p r) (col q l)) := by
  have hg : V m c main_v17 = gatedOf H := by rw [hH]; exact gated_handed m c
  rw [merged_at, dot_attn m c O A hO hA t p q hp hq, dot_pool m c Y B hY hB t p q hp hq, attnGate_blk m c t p q hp hq r l _ hg,
    poolGate_blk m c t p q hp hq r l _ hg, gatedOf_attn, gatedOf_pool]
  rfl

include hO hA in
theorem array_attn : (dats m 0 c).arrAt 6 cfg0.N = branch O A := by
  refine (dats m 0 c).arrAt_eq_of_covers 6 _ (by decide +kernel) fun t hf y => ?_
  have ht : t.val < 32 := lt_of_lt_of_eq t.isLt (N_0 : cfg0.N = 32)
  have e := after0_6 m c t
  rw [point_attn] at e
  have i0 : win0_6.index t 0 * 1024 + 1 * (y 0).val = 1024 * (t.val / 4) + (y 0).val := by rw [(index6 t).1]; omega
  have i1 : win0_6.index t 1 * 512 + 1 * (y 1).val = 512 * (t.val % 4) + (y 1).val := by rw [(index6 t).2]; omega
  have hy : y = (ix2 (y 0 : Fin 1024) (y 1 : Fin 512) : S1024x512.Idx) := eq_ix2 y
  have hz : ((cfg0.win 6).blk t).view.emb y = (ix2 (place ⟨t.val / 4, by omega⟩ (y 0)) (col ⟨t.val % 4, by omega⟩ (y 1)) : S8192x2048.Idx) :=
    funext fun a => match a with | ⟨0, _⟩ => Fin.ext i0 | ⟨1, _⟩ => Fin.ext i1
  rw [hz, ← point_attns m c O A hO hA t ⟨t.val / 4, by omega⟩ ⟨t.val % 4, by omega⟩ rfl rfl (y 0) (y 1), ← hy]
  exact congrFun e y

include hY hB in
theorem array_pool : (dats m 0 c).arrAt 7 cfg0.N = branch Y B := by
  refine (dats m 0 c).arrAt_eq_of_covers 7 _ (by decide +kernel) fun t hf y => ?_
  have ht : t.val < 32 := lt_of_lt_of_eq t.isLt (N_0 : cfg0.N = 32)
  have e := after0_7 m c t
  rw [point_pool] at e
  have i0 : win0_7.index t 0 * 1024 + 1 * (y 0).val = 1024 * (t.val / 4) + (y 0).val := by rw [(index7 t).1]; omega
  have i1 : win0_7.index t 1 * 512 + 1 * (y 1).val = 512 * (t.val % 4) + (y 1).val := by rw [(index7 t).2]; omega
  have hy : y = (ix2 (y 0 : Fin 1024) (y 1 : Fin 512) : S1024x512.Idx) := eq_ix2 y
  have hz : ((cfg0.win 7).blk t).view.emb y = (ix2 (place ⟨t.val / 4, by omega⟩ (y 0)) (col ⟨t.val % 4, by omega⟩ (y 1)) : S8192x2048.Idx) :=
    funext fun a => match a with | ⟨0, _⟩ => Fin.ext i0 | ⟨1, _⟩ => Fin.ext i1
  rw [hz, ← point_pools m c Y B hY hB t ⟨t.val / 4, by omega⟩ ⟨t.val % 4, by omega⟩ rfl rfl (y 0) (y 1), ← hy]
  exact congrFun e y

include hO hY hA hB hH in
theorem array_merged : (dats m 0 c).arrAt 8 cfg0.N = merged O Y A B H := by
  refine (dats m 0 c).arrAt_eq_of_covers 8 _ (by decide +kernel) fun t hf y => ?_
  have ht : t.val < 32 := lt_of_lt_of_eq t.isLt (N_0 : cfg0.N = 32)
  have e := after0_8 m c t
  rw [point_merged] at e
  have i0 : win0_8.index t 0 * 1024 + 1 * (y 0).val = 1024 * (t.val / 4) + (y 0).val := by rw [(index8 t).1]; omega
  have i1 : win0_8.index t 1 * 512 + 1 * (y 1).val = 512 * (t.val % 4) + (y 1).val := by rw [(index8 t).2]; omega
  have hy : y = (ix2 (y 0 : Fin 1024) (y 1 : Fin 512) : S1024x512.Idx) := eq_ix2 y
  have hz : ((cfg0.win 8).blk t).view.emb y = (ix2 (place ⟨t.val / 4, by omega⟩ (y 0)) (col ⟨t.val % 4, by omega⟩ (y 1)) : S8192x2048.Idx) :=
    funext fun a => match a with | ⟨0, _⟩ => Fin.ext i0 | ⟨1, _⟩ => Fin.ext i1
  rw [hz, ← point_mergeds m c O Y A B H hO hY hA hB hH t ⟨t.val / 4, by omega⟩ ⟨t.val % 4, by omega⟩ rfl rfl (y 0) (y 1), ← hy]
  exact congrFun e y

/-- The reference's products, gates and results. -/
abbrev product (X : FVec Ideal S8192x1024 .f32) (W : FVec Ideal S1024x2048 .f32) : FVec Ideal S8192x2048 .f32 :=
  Host.dotGeneral Cert.Reference9Ideal.dot_S8192x1024_S1024x2048_S8192x2048_1_0_0_1_n_n none X W
abbrev rounded (P : FVec Ideal S8192x2048 .f32) : FVec Ideal S8192x2048 .bf16 := truncf .bf16 P Cert.Reference9Ideal.Gen.bitsLt_bf16_f32
abbrev refOnes : FVec Ideal S8192x2048 .f32 :=
  broadcastInDim Cert.Reference9Ideal.S8192x2048 ![] Cert.Reference9Ideal.Gen.bcast_S_S8192x2048 (constant Cert.Reference9Ideal.S_ .f32 0x3F800000#32)
abbrev refGate (S : FVec Ideal S8192x2048 .f32) : FVec Ideal S8192x2048 .f32 := Host.divf refOnes (addf refOnes (Host.exp (Host.negf S)))
abbrev attnSlice : FVec Ideal S8192x2048 .f32 := extractStridedSlice Cert.Reference9Ideal.S8192x2048 ![0, 4096] H Cert.Reference9Ideal.Gen.slices_S8192x8192_S8192x2048_0_4096
abbrev poolSlice : FVec Ideal S8192x2048 .f32 := extractStridedSlice Cert.Reference9Ideal.S8192x2048 ![0, 6144] H Cert.Reference9Ideal.Gen.slices_S8192x8192_S8192x2048_0_6144
abbrev refMerged (P Q S T : FVec Ideal S8192x2048 .f32) : FVec Ideal S8192x2048 .bf16 := rounded (addf (mulf (refGate S) P) (mulf (refGate T) Q))

theorem product_at (X : FVec Ideal S8192x1024 .f32) (W : FVec Ideal S1024x2048 .f32) (i : Fin 8192) (j : Fin 2048) : product X W (ix2 i j) = whole X W i j := by
  unfold product whole
  pointwise

theorem rounded_at (P : FVec Ideal S8192x2048 .f32) (i : Fin 8192) (j : Fin 2048) : rounded P (ix2 i j) = P (ix2 i j) := by
  unfold rounded
  pointwise

theorem refMerged_at (P Q S T : FVec Ideal S8192x2048 .f32) (i : Fin 8192) (j : Fin 2048) :
    refMerged P Q S T (ix2 i j) = logistic (S (ix2 i j)) * P (ix2 i j) + logistic (T (ix2 i j)) * Q (ix2 i j) := by
  unfold refMerged rounded refGate refOnes
  pointwise

theorem attnSlice_at (i : Fin 8192) (j : Fin 2048) : attnSlice H (ix2 i j) = H (ix2 i (attnPlace j)) := by
  unfold attnSlice
  pointwise

theorem poolSlice_at (i : Fin 8192) (j : Fin 2048) : poolSlice H (ix2 i j) = H (ix2 i (poolPlace j)) := by
  unfold poolSlice
  pointwise

theorem same_branch (X : FVec Ideal S8192x1024 .f32) (W : FVec Ideal S1024x2048 .f32) : rounded (product X W) = branch X W := by
  refine funext fun y => ?_
  obtain ⟨i, j, rfl⟩ : ∃ (i : Fin 8192) (j : Fin 2048), y = ix2 i j := ⟨_, _, eq_ix2 y⟩
  refine (rounded_at _ i j).trans ?_
  rw [product_at]
  rfl

theorem same_merged : refMerged (product O A) (product Y B) (attnSlice H) (poolSlice H) = merged O Y A B H := by
  refine funext fun y => ?_
  obtain ⟨i, j, rfl⟩ : ∃ (i : Fin 8192) (j : Fin 2048), y = ix2 i j := ⟨_, _, eq_ix2 y⟩
  refine (refMerged_at _ _ _ _ i j).trans ?_
  rw [product_at, product_at, attnSlice_at, poolSlice_at]
  rfl

end Whole

theorem agree : Cert.algebraic_Kernel9Ideal_Reference9Ideal (hKernel9Ideal := Cert.Kernel9Ideal.Gen.facts) (hReference9Ideal := Cert.Reference9Ideal.Gen.facts) := by
  intro m g m' g' _ he
  refine ⟨fun c => (dats m 0 c).arrAt 6 cfg0.N, fun c => (dats m 0 c).arrAt 7 cfg0.N, fun c => (dats m 0 c).arrAt 8 cfg0.N, Cert.Kernel9Ideal.Value.run_blocks m g, ?_⟩
  refine (θ_run _ _ _).mono (fun r h c => ?_) (Cert.Reference9Ideal.Value.run m' g')
  obtain ⟨r0, r1, r2, rest⟩ := h c
  obtain ⟨e0, e1, e2, e3, e4⟩ := he c
  exact ⟨r0.trans ((same_branch _ _).trans (array_attn m c _ _ e0 e2).symm), r1.trans ((same_branch _ _).trans (array_pool m c _ _ e1 e3).symm),
    r2.trans ((same_merged _ _ _ _ _).trans (array_merged m c _ _ _ _ _ e0 e1 e2 e3 e4).symm), rest⟩

end Cert.Merge

end
-- ==== Proof.WeightOut.lean ====
/-
  The gradient of the output projection's weight. A grid point adds the product of a block of rows to the accumulator; four
  points make an output block, the first of them starting from zero and the last storing the sum. Together the four row blocks
  are all the rows, so the block is the contraction over the whole row axis.
-/
module

public import proofs.«01_k».proof.Proof.Parts
public import proofs.«01_k».proof.Proof.Gen.Kernel8Ideal.Value
public import proofs.«01_k».proof.Proof.Gen.Reference8Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.WeightOut

open Cert.Kernel8Ideal Cert.Kernel8Ideal.Gen Cert.Kernel8Ideal.Value Idealize.ShloMosaic Idealize.ShloMosaic.TcCoe Idealize.SL.Sem Cert.Parts

/-! ## One grid point -/

section Point

variable (c : Dev nD) (i : grid0.Coords) (arg3 : Memref sig .tc .vmem S2048x2048 .bf16) (harg3 : arg3.IsWhole) (arg4 : Memref sig .tc .vmem S2048x1024 .bf16) (harg4 : arg4.IsWhole)
  (arg5 : Memref sig .tc .vmem S1x2048x1024 .bf16) (harg5 : arg5.IsWhole) (arg6 : Memref sig .tc .vmem S2048x1024 .f32) (harg6 : arg6.IsWhole)
  (x0 : Vec Ideal S2048x2048 .bf16) (x1 : Vec Ideal S2048x1024 .bf16) (acc : Vec Ideal S2048x1024 .f32)

theorem first_point (hc0 : cond0_0 i) (hc1 : ¬cond0_1 i) : sout0_A_0 c i arg3 harg3 arg4 harg4 arg5 harg5 arg6 harg6 hc0 hc1 x0 x1 = k0_pay2 k0_pay1 x0 x1 := by
  frame_out

theorem middle_point (hc0 : ¬cond0_0 i) (hc1 : ¬cond0_1 i) : sout0_B_0 c i arg3 harg3 arg4 harg4 arg5 harg5 arg6 harg6 hc0 hc1 x0 x1 acc = k0_pay2 acc x0 x1 := by
  frame_out

theorem last_point (hc0 : ¬cond0_0 i) (hc1 : cond0_1 i) : out0_C_2 c i arg3 harg3 arg4 harg4 arg5 harg5 arg6 harg6 hc0 hc1 x0 x1 acc = k0_pay3 (k0_pay2 acc x0 x1) := by
  frame_out

end Point

/-- A step of the accumulation at an index. -/
theorem step_at (acc : Vec Ideal S2048x1024 .f32) (a : Vec Ideal S2048x2048 .bf16) (b : Vec Ideal S2048x1024 .bf16) (r : Fin 2048) (j : Fin 1024) :
    k0_pay2 (F := Ideal) acc a b (ix2 r j) = acc (ix2 r j) + ∑ k : Fin 2048, a (ix2 k r) * b (ix2 k j) := by
  unfold k0_pay2
  pointwise

theorem zero_at (r : Fin 2048) (j : Fin 1024) : k0_pay1 (F := Ideal) (ix2 r j) = 0 := by
  unfold k0_pay1
  pointwise

/-- What is stored is the accumulator. -/
theorem store_at (v : Vec Ideal S2048x1024 .f32) (r : Fin 2048) (j : Fin 1024) : k0_pay3 (F := Ideal) v (ix3 0 r j) = v (ix2 r j) := by
  unfold k0_pay3
  pointwise

/-! ## The four points of a block -/

variable (m : (ℓ : Loc nD τ sig) → Buf (Elt Ideal) ℓ) (c : Dev nD)

/-- The carried pair after a point: the output block and the accumulator. -/
abbrev Carried := Vec Ideal S1x2048x1024 .bf16 × Vec Ideal S2048x1024 .f32

/-- The two input blocks of a point. -/
abbrev left (t : Fin cfg0.N) : Vec Ideal S2048x2048 .bf16 := iblk m c 0 t
abbrev right (t : Fin cfg0.N) : Vec Ideal S2048x1024 .bf16 := iblk m c 1 t

/-- The first of a block's points leaves one product, whatever was there. -/
theorem scratch_first (t : Fin cfg0.N) (h4 : t.val % 4 = 0) (acc : Carried) :
    (stAt0 m c t.val t.isLt acc).2 = k0_pay2 (F := Ideal) (k0_pay1 (F := Ideal)) (left m c t) (right m c t) := by
  rw [stAt0_A m c t acc h4 (fun e => by omega)]
  dsimp only
  exact first_point c (grid0.coords t) (ms0_0 t) (hs0_0 t) (ms0_1 t) (hs0_1 t) (ms0_2 t) (hs0_2 t) scM0_0 (Memref.isWhole_whole _) (left m c t) (right m c t) _ _

/-- A point in between adds a product. -/
theorem scratch_middle (t : Fin cfg0.N) (h4 : ¬t.val % 4 = 0) (h3 : ¬t.val % 4 = 3) (acc : Carried) :
    (stAt0 m c t.val t.isLt acc).2 = k0_pay2 (F := Ideal) acc.2 (left m c t) (right m c t) :=
  by
  rw [stAt0_B m c t acc h4 h3]
  dsimp only
  exact middle_point c (grid0.coords t) (ms0_0 t) (hs0_0 t) (ms0_1 t) (hs0_1 t) (ms0_2 t) (hs0_2 t) scM0_0 (Memref.isWhole_whole _) (left m c t) (right m c t) acc.2 _ _

/-- The last one adds a product and stores. -/
theorem block_last (t : Fin cfg0.N) (h3 : t.val % 4 = 3) (acc : Carried) :
    (stAt0 m c t.val t.isLt acc).1 = k0_pay3 (F := Ideal) (k0_pay2 acc.2 (left m c t) (right m c t)) :=
  by
  rw [stAt0_C m c t acc (fun e => by omega) h3]
  dsimp only
  exact last_point c (grid0.coords t) (ms0_0 t) (hs0_0 t) (ms0_1 t) (hs0_1 t) (ms0_2 t) (hs0_2 t) scM0_0 (Memref.isWhole_whole _) (left m c t) (right m c t) acc.2 _ _

/-- What the first of a block's points leaves. -/
theorem after_first : ∀ (n : ℕ) (h : n < cfg0.N), n % 4 = 0 → (outsAt0 m c n h).2 = k0_pay2 (F := Ideal) (k0_pay1 (F := Ideal)) (left m c ⟨n, h⟩) (right m c ⟨n, h⟩)
  | 0, h, h4 => (congrArg Prod.snd (outsAt0_zero m c h)).trans (scratch_first m c ⟨0, h⟩ h4 _)
  | n + 1, h, h4 => (congrArg Prod.snd (outsAt0_succ m c n h)).trans (scratch_first m c ⟨n + 1, h⟩ h4 _)

/-- A product added to what the point before left. -/
theorem after_middle (n : ℕ) (h : n + 1 < cfg0.N) (h4 : ¬(n + 1) % 4 = 0) (h3 : ¬(n + 1) % 4 = 3) :
    (outsAt0 m c (n + 1) h).2 = k0_pay2 (F := Ideal) (outsAt0 m c n (Nat.lt_of_succ_lt h)).2 (left m c ⟨n + 1, h⟩) (right m c ⟨n + 1, h⟩) :=
  (congrArg Prod.snd (outsAt0_succ m c n h)).trans (scratch_middle m c ⟨n + 1, h⟩ h4 h3 _)

theorem after_last (n : ℕ) (h : n + 1 < cfg0.N) (h3 : (n + 1) % 4 = 3) :
    (outsAt0 m c (n + 1) h).1 = k0_pay3 (F := Ideal) (k0_pay2 (outsAt0 m c n (Nat.lt_of_succ_lt h)).2 (left m c ⟨n + 1, h⟩) (right m c ⟨n + 1, h⟩)) :=
  (congrArg Prod.fst (outsAt0_succ m c n h)).trans (block_last m c ⟨n + 1, h⟩ h3 _)

/-- The block its four points leave. -/
theorem block_eq (q : ℕ) (h : 4 * q + 3 < cfg0.N) :
    (outsAt0 m c (4 * q + 3) h).1 = k0_pay3 (F := Ideal) (k0_pay2 (k0_pay2 (k0_pay2 (k0_pay2 (k0_pay1 (F := Ideal))
      (left m c ⟨4 * q, by omega⟩) (right m c ⟨4 * q, by omega⟩))
      (left m c ⟨4 * q + 1, by omega⟩) (right m c ⟨4 * q + 1, by omega⟩))
      (left m c ⟨4 * q + 2, by omega⟩) (right m c ⟨4 * q + 2, by omega⟩))
      (left m c ⟨4 * q + 3, h⟩) (right m c ⟨4 * q + 3, h⟩)) := by
  rw [after_last m c (4 * q + 2) h (by omega), after_middle m c (4 * q + 1) (by omega) (by omega) (by omega),
    after_middle m c (4 * q) (by omega) (by omega) (by omega), after_first m c (4 * q) (by omega) (by omega)]

/-! ## The blocks a point is handed -/

theorem index0 (t : Fin cfg0.N) : win0_0.index t 0 = t.val % 4 ∧ win0_0.index t 1 = 0 := by revert t; decide +kernel
theorem index1 (t : Fin cfg0.N) : win0_1.index t 0 = t.val % 4 ∧ win0_1.index t 1 = t.val / 4 := by revert t; decide +kernel

/-- The activations and the gradient, as they are handed. -/
abbrev rowsOf (X : FVec Ideal S8192x2048 .f32) : FVec Ideal S8192x2048 .bf16 := truncf .bf16 X bitsLt_bf16_f32
abbrev gradOf (D : FVec Ideal S8192x2048 .f32) : FVec Ideal S8192x2048 .bf16 := truncf .bf16 D bitsLt_bf16_f32

theorem rows_handed : V m c main_v0 = rowsOf (m ((c : Thread nD τ).loc main_arg1)) := by
  have e : V m c main_v0 = StableHlo.after hostOps0 (fun b => m (c, b)) (Proc.devRef .tc main_v0) := rfl
  rw [e]
  simp only [hostOps0]
  after_results_simp

theorem grad_handed : V m c main_v1 = gradOf (m ((c : Thread nD τ).loc main_arg0)) := by
  have e : V m c main_v1 = StableHlo.after hostOps0 (fun b => m (c, b)) (Proc.devRef .tc main_v1) := rfl
  rw [e]
  simp only [hostOps0]
  after_results_simp

/-- The whole operands. -/
def wholeLeft : FVec Ideal S8192x2048 .bf16 := V m c main_v0
def wholeRight : FVec Ideal S8192x2048 .bf16 := V m c main_v1

/-- Column `l` of half `h`. -/
abbrev halfAt (h : Fin 2) (l : Fin 1024) : Fin 2048 := ⟨1024 * h.val + l.val, by omega⟩

/-- Rows `2048 * s` and on. -/
theorem left_blk (t : Fin cfg0.N) (s : Fin 4) (hs : t.val % 4 = s.val) (k r : Fin 2048) :
    left m c t (ix2 k r) = wholeLeft m c (ix2 (at' s k) r) := by
  unfold left iblk wholeLeft
  rw [View.read_apply]
  refine congrArg (V m c main_v0) (funext fun a => Fin.ext ?_)
  match a with
  | ⟨0, _⟩ => show win0_0.index t 0 * 2048 + 1 * k.val = 2048 * s.val + k.val; rw [(index0 t).1, hs]; omega
  | ⟨1, _⟩ => show win0_0.index t 1 * 2048 + 1 * r.val = r.val; rw [(index0 t).2]; omega

/-- Rows `2048 * s` and on, columns `1024 * h` and on. -/
theorem right_blk (t : Fin cfg0.N) (s : Fin 4) (hs : t.val % 4 = s.val) (h : Fin 2) (hj : t.val / 4 = h.val) (k : Fin 2048) (l : Fin 1024) :
    right m c t (ix2 k l) = wholeRight m c (ix2 (at' s k) (halfAt h l)) := by
  unfold right iblk wholeRight
  rw [View.read_apply]
  refine congrArg (V m c main_v1) (funext fun a => Fin.ext ?_)
  match a with
  | ⟨0, _⟩ => show win0_1.index t 0 * 2048 + 1 * k.val = 2048 * s.val + k.val; rw [(index1 t).1, hs]; omega
  | ⟨1, _⟩ => show win0_1.index t 1 * 1024 + 1 * l.val = 1024 * h.val + l.val; rw [(index1 t).2, hj]; omega

/-- A point's step at an index, in terms of the whole operands. -/
theorem step_whole (n : ℕ) (hn : n < cfg0.N) (s : Fin 4) (h : Fin 2) (e : n = 4 * h.val + s.val)
    (acc : Vec Ideal S2048x1024 .f32) (r : Fin 2048) (l : Fin 1024) :
    k0_pay2 (F := Ideal) acc (left m c ⟨n, hn⟩) (right m c ⟨n, hn⟩) (ix2 r l)
      = acc (ix2 r l) + ∑ k : Fin 2048, wholeLeft m c (ix2 (at' s k) r) * wholeRight m c (ix2 (at' s k) (halfAt h l)) := by
  rw [step_at]
  refine congrArg (acc (ix2 r l) + ·) (Finset.sum_congr rfl fun k _ => ?_)
  rw [left_blk m c ⟨n, hn⟩ s (by show n % 4 = _; omega), right_blk m c ⟨n, hn⟩ s (by show n % 4 = _; omega) h (by show n / 4 = _; omega)]

/-! ## The array, and the reference -/

/-- The result. -/
def result : FVec Ideal S1x2048x2048 .bf16 := G2 m c

/-- The result at an index: the contraction over all rows. -/
theorem result_at (r : Fin 2048) (h : Fin 2) (l : Fin 1024) :
    result m c (ix3 0 r (halfAt h l)) = ∑ k : Fin 8192, wholeLeft m c (ix2 k r) * wholeRight m c (ix2 k (halfAt h l)) := by
  have hN : cfg0.N = 8 := N_0
  have hq : pt2Of (ix3 0 r (halfAt h l)) = 4 * h.val + 3 := by
    show 4 * (2 * (0 / 1 - 0) + 2 * (r.val / 2048 - 0) + 1 * ((1024 * h.val + l.val) / 1024 - 0)) + 3 = _
    omega
  have hl : loc2Of (ix3 0 r (halfAt h l)) = (ix3 0 r l : S1x2048x1024.Idx) := by
    refine funext fun a => Fin.ext ?_
    match a with
    | ⟨0, _⟩ => rfl
    | ⟨1, _⟩ => show r.val % 2048 = r.val; omega
    | ⟨2, _⟩ => show (1024 * h.val + l.val) % 1024 = l.val; omega
  have hlt : 4 * h.val + 3 < cfg0.N := by omega
  have hp : pt2Of (ix3 0 r (halfAt h l)) < cfg0.N := by rw [hq]; exact hlt
  have e : result m c (ix3 0 r (halfAt h l)) = (outsAt0 m c (4 * h.val + 3) hlt).1 (ix3 0 r l) := by
    unfold result G2
    rw [dif_pos hp, hl, fold0_congr m c _ (by omega) (4 * h.val + 3) (by omega) hq, ← outsAt0_sweep m c _ hlt]
  rw [e, block_eq m c _ hlt, store_at, step_whole m c (4 * h.val + 3) hlt 3 h rfl,
    step_whole m c (4 * h.val + 2) (by omega) 2 h rfl, step_whole m c (4 * h.val + 1) (by omega) 1 h rfl,
    step_whole m c (4 * h.val) (by omega) 0 h rfl, zero_at]
  exact four_parts fun k => wholeLeft m c (ix2 k r) * wholeRight m c (ix2 k (halfAt h l))

/-- The reference's gradient, with a leading axis of one. -/
abbrev gradient (D X : FVec Ideal S8192x2048 .f32) : FVec Ideal S1x2048x2048 .bf16 :=
  broadcastInDim S1x2048x2048 ![1, 2] Cert.Reference8Ideal.Gen.bcast_S2048x2048_S1x2048x2048_1_2 (truncf .bf16 (transpose Cert.Reference8Ideal.S2048x2048 [1, 0]
    (Host.dotGeneral Cert.Reference8Ideal.dot_S8192x2048_S8192x2048_S2048x2048_0_0_1_1_n_n none D X) Cert.Reference8Ideal.Gen.transposes_S2048x2048_S2048x2048_1_0)
    Cert.Reference8Ideal.Gen.bitsLt_bf16_f32 : FVec Ideal Cert.Reference8Ideal.S2048x2048 .bf16)

theorem gradient_at (D X : FVec Ideal S8192x2048 .f32) (i j : Fin 2048) : gradient D X (ix3 0 i j) = ∑ k : Fin 8192, D (ix2 k j) * X (ix2 k i) := by
  unfold gradient
  pointwise

theorem rowsOf_at (X : FVec Ideal S8192x2048 .f32) (i : Fin 8192) (j : Fin 2048) : rowsOf X (ix2 i j) = X (ix2 i j) := by
  unfold rowsOf
  pointwise

theorem gradOf_at (D : FVec Ideal S8192x2048 .f32) (i : Fin 8192) (j : Fin 2048) : gradOf D (ix2 i j) = D (ix2 i j) := by
  unfold gradOf
  pointwise

/-- The reference's result is the kernel's. -/
theorem same (D : FVec Ideal S8192x2048 .f32) (X : FVec Ideal S8192x2048 .f32) (hD : D = m ((c : Thread nD τ).loc main_arg0))
    (hX : X = m ((c : Thread nD τ).loc main_arg1)) : gradient D X = G2 m c := by
  refine funext fun y => ?_
  obtain ⟨r, j, rfl⟩ : ∃ r j : Fin 2048, y = ix3 0 r j :=
    ⟨y 1, y 2, funext fun a => match a with | ⟨0, _⟩ => Subsingleton.elim (α := Fin 1) _ _ | ⟨1, _⟩ => rfl | ⟨2, _⟩ => rfl⟩
  obtain ⟨h, l, rfl⟩ : ∃ (h : Fin 2) (l : Fin 1024), j = halfAt h l :=
    ⟨⟨j.val / 1024, by omega⟩, ⟨j.val % 1024, by omega⟩, Fin.ext (by show j.val = 1024 * (j.val / 1024) + j.val % 1024; omega)⟩
  have hl : wholeLeft m c = rowsOf X := by rw [hX]; exact rows_handed m c
  have hr : wholeRight m c = gradOf D := by rw [hD]; exact grad_handed m c
  refine (gradient_at D X r _).trans (Eq.trans ?_ (result_at m c r h l).symm)
  rw [hl, hr]
  exact Finset.sum_congr rfl fun k _ => by rw [rowsOf_at, gradOf_at, mul_comm]

theorem agree : Cert.algebraic_Kernel8Ideal_Reference8Ideal (hKernel8Ideal := Cert.Kernel8Ideal.Gen.facts) (hReference8Ideal := Cert.Reference8Ideal.Gen.facts) := by
  intro m g m' g' _ he
  refine ⟨fun c => G2 m c, Cert.Kernel8Ideal.Value.run m g, ?_⟩
  refine (θ_run _ _ _).mono (fun r h c => ?_) (Cert.Reference8Ideal.Value.run m' g')
  obtain ⟨r0, rest⟩ := h c
  obtain ⟨e0, e1⟩ := he c
  exact ⟨r0.trans (same m c _ _ e0 e1), rest⟩

end Cert.WeightOut

end
-- ==== Proof.WeightIn.lean ====
/-
  The gradient of the input projection's weight, stored as four column blocks. A grid point adds the product of a block of rows to
  the accumulator; four points make an output block, the first of them starting from zero and the last storing the sum.
  Together the four row blocks are all the rows, so the block is the contraction over the whole row axis, which is what the
  reference computes and then cuts into column blocks.
-/
module

public import proofs.«01_k».proof.Proof.Parts
public import proofs.«01_k».proof.Proof.Gen.Kernel7Ideal.Value
public import proofs.«01_k».proof.Proof.Gen.Reference7Ideal.Run
public import proofs.«01_k».proof.Defs
public import Idealize.ShloMosaic.Lib.Pointwise
public import Idealize.ShloMosaic.Lib.Pipeline.ValueKit
public import Idealize.ShloMosaic.Lib.Claim

@[expose] public section

set_option backward.isDefEq.respectTransparency false
set_option maxRecDepth 16384

noncomputable section

namespace Cert.WeightIn

open Cert.Kernel7Ideal Cert.Kernel7Ideal.Gen Cert.Kernel7Ideal.Value Idealize.ShloMosaic Idealize.ShloMosaic.TcCoe Idealize.SL.Sem Cert.Parts

/-! ## One grid point -/

section Point

variable (c : Dev nD) (i : grid0.Coords) (arg3 : Memref sig .tc .vmem S2048x2048 .bf16) (harg3 : arg3.IsWhole) (arg4 : Memref sig .tc .vmem S2048x1024 .bf16) (harg4 : arg4.IsWhole)
  (arg5 : Memref sig .tc .vmem S1x2048x1024 .bf16) (harg5 : arg5.IsWhole) (arg6 : Memref sig .tc .vmem S2048x1024 .f32) (harg6 : arg6.IsWhole)
  (x0 : Vec Ideal S2048x2048 .bf16) (x1 : Vec Ideal S2048x1024 .bf16) (acc : Vec Ideal S2048x1024 .f32)

theorem first_point (hc0 : cond0_0 i) (hc1 : ¬cond0_1 i) : sout0_A_0 c i arg3 harg3 arg4 harg4 arg5 harg5 arg6 harg6 hc0 hc1 x0 x1 = k0_pay2 k0_pay1 x0 x1 := by
  frame_out

theorem middle_point (hc0 : ¬cond0_0 i) (hc1 : ¬cond0_1 i) : sout0_B_0 c i arg3 harg3 arg4 harg4 arg5 harg5 arg6 harg6 hc0 hc1 x0 x1 acc = k0_pay2 acc x0 x1 := by
  frame_out

theorem last_point (hc0 : ¬cond0_0 i) (hc1 : cond0_1 i) : out0_C_2 c i arg3 harg3 arg4 harg4 arg5 harg5 arg6 harg6 hc0 hc1 x0 x1 acc = k0_pay3 (k0_pay2 acc x0 x1) := by
  frame_out

end Point

/-- A step of the accumulation at an index. -/
theorem step_at (acc : Vec Ideal S2048x1024 .f32) (a : Vec Ideal S2048x2048 .bf16) (b : Vec Ideal S2048x1024 .bf16) (r : Fin 2048) (j : Fin 1024) :
    k0_pay2 (F := Ideal) acc a b (ix2 r j) = acc (ix2 r j) + ∑ k : Fin 2048, a (ix2 k r) * b (ix2 k j) := by
  unfold k0_pay2
  pointwise

theorem zero_at (r : Fin 2048) (j : Fin 1024) : k0_pay1 (F := Ideal) (ix2 r j) = 0 := by
  unfold k0_pay1
  pointwise

/-- What is stored is the accumulator. -/
theorem store_at (v : Vec Ideal S2048x1024 .f32) (r : Fin 2048) (j : Fin 1024) : k0_pay3 (F := Ideal) v (ix3 0 r j) = v (ix2 r j) := by
  unfold k0_pay3
  pointwise

/-! ## The four points of a block -/

variable (m : (ℓ : Loc nD τ sig) → Buf (Elt Ideal) ℓ) (c : Dev nD)

/-- The carried pair after a point: the output block and the accumulator. -/
abbrev Carried := Vec Ideal S1x2048x1024 .bf16 × Vec Ideal S2048x1024 .f32

/-- The two input blocks of a point. -/
abbrev left (t : Fin cfg0.N) : Vec Ideal S2048x2048 .bf16 := iblk m c 0 t
abbrev right (t : Fin cfg0.N) : Vec Ideal S2048x1024 .bf16 := iblk m c 1 t

/-- The first of a block's points leaves one product, whatever was there. -/
theorem scratch_first (t : Fin cfg0.N) (h4 : t.val % 4 = 0) (acc : Carried) :
    (stAt0 m c t.val t.isLt acc).2 = k0_pay2 (F := Ideal) (k0_pay1 (F := Ideal)) (left m c t) (right m c t) := by
  rw [stAt0_A m c t acc h4 (fun e => by omega)]
  dsimp only
  exact first_point c (grid0.coords t) (ms0_0 t) (hs0_0 t) (ms0_1 t) (hs0_1 t) (ms0_2 t) (hs0_2 t) scM0_0 (Memref.isWhole_whole _) (left m c t) (right m c t) _ _

/-- A point in between adds a product. -/
theorem scratch_middle (t : Fin cfg0.N) (h4 : ¬t.val % 4 = 0) (h3 : ¬t.val % 4 = 3) (acc : Carried) :
    (stAt0 m c t.val t.isLt acc).2 = k0_pay2 (F := Ideal) acc.2 (left m c t) (right m c t) :=
  by
  rw [stAt0_B m c t acc h4 h3]
  dsimp only
  exact middle_point c (grid0.coords t) (ms0_0 t) (hs0_0 t) (ms0_1 t) (hs0_1 t) (ms0_2 t) (hs0_2 t) scM0_0 (Memref.isWhole_whole _) (left m c t) (right m c t) acc.2 _ _

/-- The last one adds a product and stores. -/
theorem block_last (t : Fin cfg0.N) (h3 : t.val % 4 = 3) (acc : Carried) :
    (stAt0 m c t.val t.isLt acc).1 = k0_pay3 (F := Ideal) (k0_pay2 acc.2 (left m c t) (right m c t)) :=
  by
  rw [stAt0_C m c t acc (fun e => by omega) h3]
  dsimp only
  exact last_point c (grid0.coords t) (ms0_0 t) (hs0_0 t) (ms0_1 t) (hs0_1 t) (ms0_2 t) (hs0_2 t) scM0_0 (Memref.isWhole_whole _) (left m c t) (right m c t) acc.2 _ _

/-- What the first of a block's points leaves. -/
theorem after_first : ∀ (n : ℕ) (h : n < cfg0.N), n % 4 = 0 → (outsAt0 m c n h).2 = k0_pay2 (F := Ideal) (k0_pay1 (F := Ideal)) (left m c ⟨n, h⟩) (right m c ⟨n, h⟩)
  | 0, h, h4 => (congrArg Prod.snd (outsAt0_zero m c h)).trans (scratch_first m c ⟨0, h⟩ h4 _)
  | n + 1, h, h4 => (congrArg Prod.snd (outsAt0_succ m c n h)).trans (scratch_first m c ⟨n + 1, h⟩ h4 _)

/-- A product added to what the point before left. -/
theorem after_middle (n : ℕ) (h : n + 1 < cfg0.N) (h4 : ¬(n + 1) % 4 = 0) (h3 : ¬(n + 1) % 4 = 3) :
    (outsAt0 m c (n + 1) h).2 = k0_pay2 (F := Ideal) (outsAt0 m c n (Nat.lt_of_succ_lt h)).2 (left m c ⟨n + 1, h⟩) (right m c ⟨n + 1, h⟩) :=
  (congrArg Prod.snd (outsAt0_succ m c n h)).trans (scratch_middle m c ⟨n + 1, h⟩ h4 h3 _)

theorem after_last (n : ℕ) (h : n + 1 < cfg0.N) (h3 : (n + 1) % 4 = 3) :
    (outsAt0 m c (n + 1) h).1 = k0_pay3 (F := Ideal) (k0_pay2 (outsAt0 m c n (Nat.lt_of_succ_lt h)).2 (left m c ⟨n + 1, h⟩) (right m c ⟨n + 1, h⟩)) :=
  (congrArg Prod.fst (outsAt0_succ m c n h)).trans (block_last m c ⟨n + 1, h⟩ h3 _)

/-- The block its four points leave. -/
theorem block_eq (q : ℕ) (h : 4 * q + 3 < cfg0.N) :
    (outsAt0 m c (4 * q + 3) h).1 = k0_pay3 (F := Ideal) (k0_pay2 (k0_pay2 (k0_pay2 (k0_pay2 (k0_pay1 (F := Ideal))
      (left m c ⟨4 * q, by omega⟩) (right m c ⟨4 * q, by omega⟩))
      (left m c ⟨4 * q + 1, by omega⟩) (right m c ⟨4 * q + 1, by omega⟩))
      (left m c ⟨4 * q + 2, by omega⟩) (right m c ⟨4 * q + 2, by omega⟩))
      (left m c ⟨4 * q + 3, h⟩) (right m c ⟨4 * q + 3, h⟩)) := by
  rw [after_last m c (4 * q + 2) h (by omega), after_middle m c (4 * q + 1) (by omega) (by omega) (by omega),
    after_middle m c (4 * q) (by omega) (by omega) (by omega), after_first m c (4 * q) (by omega) (by omega)]

/-! ## The blocks a point is handed -/

theorem index0 (t : Fin cfg0.N) : win0_0.index t 0 = t.val % 4 ∧ win0_0.index t 1 = 0 := by revert t; decide +kernel
theorem index1 (t : Fin cfg0.N) : win0_1.index t 0 = t.val % 4 ∧ win0_1.index t 1 = t.val / 4 := by revert t; decide +kernel

/-- The activations and the gradient, as they are handed. -/
abbrev rowsOf (X : FVec Ideal S8192x2048 .f32) : FVec Ideal S8192x2048 .bf16 := truncf .bf16 X bitsLt_bf16_f32
abbrev gradOf (D : FVec Ideal S8192x8192 .f32) : FVec Ideal S8192x8192 .bf16 := truncf .bf16 D bitsLt_bf16_f32

theorem rows_handed : V m c main_v0 = rowsOf (m ((c : Thread nD τ).loc main_arg1)) := by
  have e : V m c main_v0 = StableHlo.after hostOps0 (fun b => m (c, b)) (Proc.devRef .tc main_v0) := rfl
  rw [e]
  simp only [hostOps0]
  after_results_simp

theorem grad_handed : V m c main_v1 = gradOf (m ((c : Thread nD τ).loc main_arg0)) := by
  have e : V m c main_v1 = StableHlo.after hostOps0 (fun b => m (c, b)) (Proc.devRef .tc main_v1) := rfl
  rw [e]
  simp only [hostOps0]
  after_results_simp

/-- The whole operands. -/
def wholeLeft : FVec Ideal S8192x2048 .bf16 := V m c main_v0
def wholeRight : FVec Ideal S8192x8192 .bf16 := V m c main_v1

/-- Column `l` of half `h` of column block `b`, in the block and in the whole. -/
abbrev halfAt (h : Fin 2) (l : Fin 1024) : Fin 2048 := ⟨1024 * h.val + l.val, by omega⟩

/-- Rows `2048 * s` and on. -/
theorem left_blk (t : Fin cfg0.N) (s : Fin 4) (hs : t.val % 4 = s.val) (k r : Fin 2048) :
    left m c t (ix2 k r) = wholeLeft m c (ix2 (at' s k) r) := by
  unfold left iblk wholeLeft
  rw [View.read_apply]
  refine congrArg (V m c main_v0) (funext fun a => Fin.ext ?_)
  match a with
  | ⟨0, _⟩ => show win0_0.index t 0 * 2048 + 1 * k.val = 2048 * s.val + k.val; rw [(index0 t).1, hs]; omega
  | ⟨1, _⟩ => show win0_0.index t 1 * 2048 + 1 * r.val = r.val; rw [(index0 t).2]; omega

/-- Rows `2048 * s` and on, columns `1024 * (2 * b + h)` and on. -/
theorem right_blk (t : Fin cfg0.N) (s : Fin 4) (hs : t.val % 4 = s.val) (b : Fin 4) (h : Fin 2) (hj : t.val / 4 = 2 * b.val + h.val) (k : Fin 2048) (l : Fin 1024) :
    right m c t (ix2 k l) = wholeRight m c (ix2 (at' s k) (at' b (halfAt h l))) := by
  unfold right iblk wholeRight
  rw [View.read_apply]
  refine congrArg (V m c main_v1) (funext fun a => Fin.ext ?_)
  match a with
  | ⟨0, _⟩ => show win0_1.index t 0 * 2048 + 1 * k.val = 2048 * s.val + k.val; rw [(index1 t).1, hs]; omega
  | ⟨1, _⟩ => show win0_1.index t 1 * 1024 + 1 * l.val = 2048 * b.val + (1024 * h.val + l.val); rw [(index1 t).2, hj]; omega

/-- A point's step at an index, in terms of the whole operands. -/
theorem step_whole (n : ℕ) (hn : n < cfg0.N) (s : Fin 4) (b : Fin 4) (h : Fin 2) (e : n = 4 * (2 * b.val + h.val) + s.val)
    (acc : Vec Ideal S2048x1024 .f32) (r : Fin 2048) (l : Fin 1024) :
    k0_pay2 (F := Ideal) acc (left m c ⟨n, hn⟩) (right m c ⟨n, hn⟩) (ix2 r l)
      = acc (ix2 r l) + ∑ k : Fin 2048, wholeLeft m c (ix2 (at' s k) r) * wholeRight m c (ix2 (at' s k) (at' b (halfAt h l))) := by
  rw [step_at]
  refine congrArg (acc (ix2 r l) + ·) (Finset.sum_congr rfl fun k _ => ?_)
  rw [left_blk m c ⟨n, hn⟩ s (by show n % 4 = _; omega), right_blk m c ⟨n, hn⟩ s (by show n % 4 = _; omega) b h (by show n / 4 = _; omega)]

/-! ## The array, and the reference -/

/-- The result. -/
def result : FVec Ideal S4x2048x2048 .bf16 := G2 m c

/-- The result at an index: the contraction over all rows. -/
theorem result_at (b : Fin 4) (r : Fin 2048) (h : Fin 2) (l : Fin 1024) :
    result m c (ix3 b r (halfAt h l)) = ∑ k : Fin 8192, wholeLeft m c (ix2 k r) * wholeRight m c (ix2 k (at' b (halfAt h l))) := by
  have hN : cfg0.N = 32 := N_0
  have hq : pt2Of (ix3 b r (halfAt h l)) = 4 * (2 * b.val + h.val) + 3 := by
    show 4 * (2 * (b.val / 1 - 0) + 2 * (r.val / 2048 - 0) + 1 * ((1024 * h.val + l.val) / 1024 - 0)) + 3 = _
    omega
  have hl : loc2Of (ix3 b r (halfAt h l)) = (ix3 0 r l : S1x2048x1024.Idx) := by
    refine funext fun a => Fin.ext ?_
    match a with
    | ⟨0, _⟩ => show b.val % 1 = 0; omega
    | ⟨1, _⟩ => show r.val % 2048 = r.val; omega
    | ⟨2, _⟩ => show (1024 * h.val + l.val) % 1024 = l.val; omega
  have hlt : 4 * (2 * b.val + h.val) + 3 < cfg0.N := by omega
  have hp : pt2Of (ix3 b r (halfAt h l)) < cfg0.N := by rw [hq]; exact hlt
  have e : result m c (ix3 b r (halfAt h l)) = (outsAt0 m c (4 * (2 * b.val + h.val) + 3) hlt).1 (ix3 0 r l) := by
    unfold result G2
    rw [dif_pos hp, hl, fold0_congr m c _ (by omega) (4 * (2 * b.val + h.val) + 3) (by omega) hq, ← outsAt0_sweep m c _ hlt]
  rw [e, block_eq m c _ hlt, store_at, step_whole m c (4 * (2 * b.val + h.val) + 3) hlt 3 b h rfl,
    step_whole m c (4 * (2 * b.val + h.val) + 2) (by omega) 2 b h rfl, step_whole m c (4 * (2 * b.val + h.val) + 1) (by omega) 1 b h rfl,
    step_whole m c (4 * (2 * b.val + h.val)) (by omega) 0 b h rfl, zero_at]
  exact four_parts fun k => wholeLeft m c (ix2 k r) * wholeRight m c (ix2 k (at' b (halfAt h l)))

/-- The reference's whole gradient, and its column blocks. -/
abbrev gradient (D : FVec Ideal S8192x8192 .f32) (X : FVec Ideal S8192x2048 .f32) : FVec Ideal Cert.Reference7Ideal.S2048x8192 .bf16 :=
  truncf .bf16 (transpose Cert.Reference7Ideal.S2048x8192 [1, 0]
    (Host.dotGeneral Cert.Reference7Ideal.dot_S8192x8192_S8192x2048_S8192x2048_0_0_1_1_n_n none D X) Cert.Reference7Ideal.Gen.transposes_S8192x2048_S2048x8192_1_0)
    Cert.Reference7Ideal.Gen.bitsLt_bf16_f32
abbrev columns (G : FVec Ideal Cert.Reference7Ideal.S2048x8192 .bf16) : FVec Ideal S4x2048x2048 .bf16 :=
  transpose Cert.Reference7Ideal.S4x2048x2048 [1, 0, 2] (shapeCast _ G Cert.Reference7Ideal.Gen.shapeCasts_S2048x8192_S2048x4x2048)
    Cert.Reference7Ideal.Gen.transposes_S2048x4x2048_S4x2048x2048_1_0_2

theorem gradient_at (D : FVec Ideal S8192x8192 .f32) (X : FVec Ideal S8192x2048 .f32) (i : Fin 2048) (j : Fin 8192) :
    gradient D X (ix2 i j) = ∑ k : Fin 8192, D (ix2 k j) * X (ix2 k i) := by
  unfold gradient
  pointwise

theorem columns_at (G : FVec Ideal Cert.Reference7Ideal.S2048x8192 .bf16) (b : Fin 4) (r j : Fin 2048) : columns G (ix3 b r j) = G (ix2 r (at' b j)) := by
  unfold columns
  pointwise
  exact congrArg (fun q => G (ix2 r q)) (Fin.ext (by show b.val * 2048 + j.val = 2048 * b.val + j.val; omega))

theorem rowsOf_at (X : FVec Ideal S8192x2048 .f32) (i : Fin 8192) (j : Fin 2048) : rowsOf X (ix2 i j) = X (ix2 i j) := by
  unfold rowsOf
  pointwise

theorem gradOf_at (D : FVec Ideal S8192x8192 .f32) (i j : Fin 8192) : gradOf D (ix2 i j) = D (ix2 i j) := by
  unfold gradOf
  pointwise

/-- The reference's result is the kernel's. -/
theorem same (D : FVec Ideal S8192x8192 .f32) (X : FVec Ideal S8192x2048 .f32) (hD : D = m ((c : Thread nD τ).loc main_arg0))
    (hX : X = m ((c : Thread nD τ).loc main_arg1)) : columns (gradient D X) = G2 m c := by
  refine funext fun y => ?_
  obtain ⟨b, r, j, rfl⟩ : ∃ (b : Fin 4) (r j : Fin 2048), y = ix3 b r j :=
    ⟨y 0, y 1, y 2, funext fun a => match a with | ⟨0, _⟩ => rfl | ⟨1, _⟩ => rfl | ⟨2, _⟩ => rfl⟩
  obtain ⟨h, l, rfl⟩ : ∃ (h : Fin 2) (l : Fin 1024), j = halfAt h l :=
    ⟨⟨j.val / 1024, by omega⟩, ⟨j.val % 1024, by omega⟩, Fin.ext (by show j.val = 1024 * (j.val / 1024) + j.val % 1024; omega)⟩
  have hl : wholeLeft m c = rowsOf X := by rw [hX]; exact rows_handed m c
  have hr : wholeRight m c = gradOf D := by rw [hD]; exact grad_handed m c
  refine ((columns_at _ b r _).trans (gradient_at D X r _)).trans (Eq.trans ?_ (result_at m c b r h l).symm)
  rw [hl, hr]
  exact Finset.sum_congr rfl fun k _ => by rw [rowsOf_at, gradOf_at, mul_comm]

theorem agree : Cert.algebraic_Kernel7Ideal_Reference7Ideal (hKernel7Ideal := Cert.Kernel7Ideal.Gen.facts) (hReference7Ideal := Cert.Reference7Ideal.Gen.facts) := by
  intro m g m' g' _ he
  refine ⟨fun c => G2 m c, Cert.Kernel7Ideal.Value.run m g, ?_⟩
  refine (θ_run _ _ _).mono (fun r h c => ?_) (Cert.Reference7Ideal.Value.run m' g')
  obtain ⟨r0, rest⟩ := h c
  obtain ⟨e0, e1⟩ := he c
  exact ⟨r0.trans (same m c _ _ e0 e1), rest⟩

end Cert.WeightIn

end
-- ==== Proof.lean ====
/- The certificate of the attention gradient's program and of the other calls' programs. -/
module

public import proofs.«01_k».proof.Proof.Gen.Kernel11Ideal.Value
public import proofs.«01_k».proof.Proof.Gen.Reference11Ideal.Run
public import proofs.«01_k».proof.Proof.Gen.Kernel11.Frame
public import proofs.«01_k».proof.Proof.Gen.Kernel14Ideal.Value
public import proofs.«01_k».proof.Proof.Gen.Reference14Ideal.Run
public import proofs.«01_k».proof.Proof.Gen.Kernel14.Frame
public import proofs.«01_k».proof.Proof.MergeGrad
public import proofs.«01_k».proof.Proof.Gen.Kernel15Ideal.Value
public import proofs.«01_k».proof.Proof.Gen.Reference15Ideal.Run
public import proofs.«01_k».proof.Proof.Gen.Kernel15.Frame
public import proofs.«01_k».proof.Proof.WeightBranch
public import proofs.«01_k».proof.Proof.Gen.Kernel16Ideal.Value
public import proofs.«01_k».proof.Proof.Gen.Reference16Ideal.Run
public import proofs.«01_k».proof.Proof.Gen.Kernel16.Frame
public import proofs.«01_k».proof.Proof.StepWide
public import proofs.«01_k».proof.Proof.Gen.Kernel17Ideal.Value
public import proofs.«01_k».proof.Proof.Gen.Reference17Ideal.Run
public import proofs.«01_k».proof.Proof.Gen.Kernel17.Frame
public import proofs.«01_k».proof.Proof.StepOut
public import proofs.«01_k».proof.Proof.Gen.Kernel18Ideal.Value
public import proofs.«01_k».proof.Proof.Gen.Reference18Ideal.Run
public import proofs.«01_k».proof.Proof.Gen.Kernel18.Frame
public import proofs.«01_k».proof.Proof.StepBranch
public import proofs.«01_k».proof.Proof.Gen.Kernel19Ideal.Value
public import proofs.«01_k».proof.Proof.Gen.Reference19Ideal.Run
public import proofs.«01_k».proof.Proof.Gen.Kernel19.Frame
public import proofs.«01_k».proof.Proof.StepPool
public import proofs.«01_k».proof.Proof.Gen.Kernel20Ideal.Value
public import proofs.«01_k».proof.Proof.Gen.Reference20Ideal.Run
public import proofs.«01_k».proof.Proof.Gen.Kernel20.Frame
public import proofs.«01_k».proof.Proof.StepRows
public import proofs.«01_k».proof.Proof.Gen.Kernel21Ideal.Value
public import proofs.«01_k».proof.Proof.Gen.Reference21Ideal.Run
public import proofs.«01_k».proof.Proof.Gen.Kernel21.Frame
public import proofs.«01_k».proof.Proof.PoolGrad
public import proofs.«01_k».proof.Proof.Gen.Kernel22Ideal.Value
public import proofs.«01_k».proof.Proof.Gen.Reference22Ideal.Run
public import proofs.«01_k».proof.Proof.Gen.Kernel22.Frame
public import proofs.«01_k».proof.Proof.AttnOut
public import proofs.«01_k».proof.Proof.Gen.Reference23Ideal.Run
public import proofs.«01_k».proof.Proof.InProjFrame
public import proofs.«01_k».proof.Proof.InProj
public import proofs.«01_k».proof.Proof.Gen.Kernel12Ideal.Value
public import proofs.«01_k».proof.Proof.Gen.Reference12Ideal.Run
public import proofs.«01_k».proof.Proof.Gen.Kernel12.Frame
public import proofs.«01_k».proof.Proof.Gen.Pre_finite11
public import proofs.«01_k».proof.Proof.Gen.Pre_finite12
public import proofs.«01_k».proof.Proof.Gen.KernelIdeal.Value
public import proofs.«01_k».proof.Proof.Gen.ReferenceIdeal.Run
public import proofs.«01_k».proof.Proof.Gen.Pre_finite
public import proofs.«01_k».proof.Proof.Agree
public import proofs.«01_k».proof.Proof.MlpDown
public import proofs.«01_k».proof.Proof.WeightDown
public import proofs.«01_k».proof.Proof.WeightUp
public import proofs.«01_k».proof.Proof.InputGrad
public import proofs.«01_k».proof.Proof.MlpUp
public import proofs.«01_k».proof.Proof.LossGrad
public import proofs.«01_k».proof.Proof.UpGrad
public import proofs.«01_k».proof.Proof.MixNorm
public import proofs.«01_k».proof.Proof.Merge
public import proofs.«01_k».proof.Proof.WeightOut
public import proofs.«01_k».proof.Proof.WeightIn
public import proofs.«01_k».proof.Proof.Gen.Kernel2Ideal.Value
public import proofs.«01_k».proof.Proof.Gen.Reference2Ideal.Run
public import proofs.«01_k».proof.Proof.Gen.Kernel2.Frame
public import proofs.«01_k».proof.Proof.Gen.Kernel3Ideal.Value
public import proofs.«01_k».proof.Proof.Gen.Reference3Ideal.Run
public import proofs.«01_k».proof.Proof.Gen.Kernel3.Frame
public import proofs.«01_k».proof.Proof.Gen.Kernel4Ideal.Value
public import proofs.«01_k».proof.Proof.Gen.Reference4Ideal.Run
public import proofs.«01_k».proof.Proof.Gen.Kernel4.Frame
public import proofs.«01_k».proof.Proof.Gen.Kernel5Ideal.Value
public import proofs.«01_k».proof.Proof.Gen.Reference5Ideal.Run
public import proofs.«01_k».proof.Proof.Gen.Kernel5.Frame
public import proofs.«01_k».proof.Proof.Gen.Kernel6Ideal.Value
public import proofs.«01_k».proof.Proof.Gen.Reference6Ideal.Run
public import proofs.«01_k».proof.Proof.Gen.Kernel6.Frame
public import proofs.«01_k».proof.Proof.Gen.Kernel7Ideal.Value
public import proofs.«01_k».proof.Proof.Gen.Reference7Ideal.Run
public import proofs.«01_k».proof.Proof.Gen.Kernel7.Frame
public import proofs.«01_k».proof.Proof.Gen.Kernel8Ideal.Value
public import proofs.«01_k».proof.Proof.Gen.Reference8Ideal.Run
public import proofs.«01_k».proof.Proof.Gen.Kernel8.Frame
public import proofs.«01_k».proof.Proof.Gen.Kernel9Ideal.Value
public import proofs.«01_k».proof.Proof.Gen.Reference9Ideal.Run
public import proofs.«01_k».proof.Proof.Gen.Kernel9.Frame
public import proofs.«01_k».proof.Proof.Gen.Kernel10Ideal.Value
public import proofs.«01_k».proof.Proof.Gen.Reference10Ideal.Run
public import proofs.«01_k».proof.Proof.Gen.Kernel10.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Pre_finite.Gen.facts, Cert.Pre_finite11.Gen.facts, Cert.Pre_finite12.Gen.facts,
  fun m ρ _ => Cert.Kernel.Gen.frame m ρ, fun m ρ _ => Cert.KernelIdeal.Gen.frame m ρ, fun m ρ _ => Cert.KernelIdeal.Gen.frame m ρ,
  fun m ρ _ => (θ_run _ _ _).mono (fun _ h => ⟨fun c => (h c).2.2.2, sem_eq_zero_of_no_sems (by decide) _⟩) (Cert.ReferenceIdeal.Value.run m ρ),
  fun m ρ _ => (θ_run _ _ _).mono (fun _ h => ⟨fun c => (h c).2.2.2, sem_eq_zero_of_no_sems (by decide) _⟩) (Cert.ReferenceIdeal.Value.run m ρ),
  fun m ρ _ => Cert.Kernel2.Gen.frame m ρ, fun m ρ _ => Cert.Kernel2Ideal.Gen.frame m ρ,
  fun m ρ _ => (θ_run _ _ _).mono (fun _ h => ⟨fun c => (h c).2, sem_eq_zero_of_no_sems (by decide) _⟩) (Cert.Reference2Ideal.Value.run m ρ),
  fun m ρ _ => Cert.Kernel3.Gen.frame m ρ, fun m ρ _ => Cert.Kernel3Ideal.Gen.frame m ρ,
  fun m ρ _ => (θ_run _ _ _).mono (fun _ h => ⟨fun c => (h c).2, sem_eq_zero_of_no_sems (by decide) _⟩) (Cert.Reference3Ideal.Value.run m ρ),
  fun m ρ _ => Cert.Kernel4.Gen.frame m ρ, fun m ρ _ => Cert.Kernel4Ideal.Gen.frame m ρ,
  fun m ρ _ => (θ_run _ _ _).mono (fun _ h => ⟨fun c => (h c).2, sem_eq_zero_of_no_sems (by decide) _⟩) (Cert.Reference4Ideal.Value.run m ρ),
  fun m ρ _ => Cert.Kernel5.Gen.frame m ρ, fun m ρ _ => Cert.Kernel5Ideal.Gen.frame m ρ,
  fun m ρ _ => (θ_run _ _ _).mono (fun _ h => ⟨fun c => (h c).2, sem_eq_zero_of_no_sems (by decide) _⟩) (Cert.Reference5Ideal.Value.run m ρ),
  fun m ρ _ => Cert.Kernel6.Gen.frame m ρ, fun m ρ _ => Cert.Kernel6Ideal.Gen.frame m ρ,
  fun m ρ _ => (θ_run _ _ _).mono (fun _ h => ⟨fun c => (h c).2.2, sem_eq_zero_of_no_sems (by decide) _⟩) (Cert.Reference6Ideal.Value.run m ρ),
  fun m ρ _ => Cert.Kernel7.Gen.frame m ρ, fun m ρ _ => Cert.Kernel7Ideal.Gen.frame m ρ,
  fun m ρ _ => (θ_run _ _ _).mono (fun _ h => ⟨fun c => (h c).2, sem_eq_zero_of_no_sems (by decide) _⟩) (Cert.Reference7Ideal.Value.run m ρ),
  fun m ρ _ => Cert.Kernel8.Gen.frame m ρ, fun m ρ _ => Cert.Kernel8Ideal.Gen.frame m ρ,
  fun m ρ _ => (θ_run _ _ _).mono (fun _ h => ⟨fun c => (h c).2, sem_eq_zero_of_no_sems (by decide) _⟩) (Cert.Reference8Ideal.Value.run m ρ),
  fun m ρ _ => Cert.Kernel9.Gen.frame m ρ, fun m ρ _ => Cert.Kernel9Ideal.Gen.frame m ρ,
  fun m ρ _ => (θ_run _ _ _).mono (fun _ h => ⟨fun c => (h c).2.2.2, sem_eq_zero_of_no_sems (by decide) _⟩) (Cert.Reference9Ideal.Value.run m ρ),
  fun m ρ _ => Cert.Kernel10.Gen.frame m ρ, fun m ρ _ => Cert.Kernel10Ideal.Gen.frame m ρ,
  fun m ρ _ => (θ_run _ _ _).mono (fun _ h => ⟨fun c => (h c).2.2.2, sem_eq_zero_of_no_sems (by decide) _⟩) (Cert.Reference10Ideal.Value.run m ρ),
  fun m ρ _ => Cert.Kernel11.Gen.frame m ρ, fun m ρ _ => Cert.Kernel11Ideal.Gen.frame m ρ, fun m ρ _ => Cert.Kernel11Ideal.Gen.frame m ρ,
  fun m ρ _ => (θ_run _ _ _).mono (fun _ h => ⟨fun c => (h c).2.2, sem_eq_zero_of_no_sems (by decide) _⟩) (Cert.Reference11Ideal.Value.run m ρ),
  fun m ρ _ => (θ_run _ _ _).mono (fun _ h => ⟨fun c => (h c).2.2, sem_eq_zero_of_no_sems (by decide) _⟩) (Cert.Reference11Ideal.Value.run m ρ),
  fun m ρ _ => Cert.Kernel12.Gen.frame m ρ, fun m ρ _ => Cert.Kernel12Ideal.Gen.frame m ρ, fun m ρ _ => Cert.Kernel12Ideal.Gen.frame m ρ,
  fun m ρ _ => (θ_run _ _ _).mono (fun _ h => ⟨fun c => (h c).2.2, sem_eq_zero_of_no_sems (by decide) _⟩) (Cert.Reference12Ideal.Value.run m ρ),
  fun m ρ _ => (θ_run _ _ _).mono (fun _ h => ⟨fun c => (h c).2.2, sem_eq_zero_of_no_sems (by decide) _⟩) (Cert.Reference12Ideal.Value.run m ρ),
  fun m ρ _ => Cert.Kernel14.Gen.frame m ρ, fun m ρ _ => Cert.Kernel14Ideal.Gen.frame m ρ,
  fun m ρ _ => (θ_run _ _ _).mono (fun _ h => ⟨fun c => (h c).2.2, sem_eq_zero_of_no_sems (by decide) _⟩) (Cert.Reference14Ideal.Value.run m ρ),
  fun m ρ _ => Cert.Kernel15.Gen.frame m ρ, fun m ρ _ => Cert.Kernel15Ideal.Gen.frame m ρ,
  fun m ρ _ => (θ_run _ _ _).mono (fun _ h => ⟨fun c => (h c).2, sem_eq_zero_of_no_sems (by decide) _⟩) (Cert.Reference15Ideal.Value.run m ρ),
  fun m ρ _ => Cert.Kernel16.Gen.frame m ρ, fun m ρ _ => Cert.Kernel16Ideal.Gen.frame m ρ,
  fun m ρ _ => (θ_run _ _ _).mono (fun _ h => ⟨fun c => (h c).2.2.2.2, sem_eq_zero_of_no_sems (by decide) _⟩) (Cert.Reference16Ideal.Value.run m ρ),
  fun m ρ _ => Cert.Kernel17.Gen.frame m ρ, fun m ρ _ => Cert.Kernel17Ideal.Gen.frame m ρ,
  fun m ρ _ => (θ_run _ _ _).mono (fun _ h => ⟨fun c => (h c).2.2.2.2, sem_eq_zero_of_no_sems (by decide) _⟩) (Cert.Reference17Ideal.Value.run m ρ),
  fun m ρ _ => Cert.Kernel18.Gen.frame m ρ, fun m ρ _ => Cert.Kernel18Ideal.Gen.frame m ρ,
  fun m ρ _ => (θ_run _ _ _).mono (fun _ h => ⟨fun c => (h c).2.2.2.2, sem_eq_zero_of_no_sems (by decide) _⟩) (Cert.Reference18Ideal.Value.run m ρ),
  fun m ρ _ => Cert.Kernel19.Gen.frame m ρ, fun m ρ _ => Cert.Kernel19Ideal.Gen.frame m ρ,
  fun m ρ _ => (θ_run _ _ _).mono (fun _ h => ⟨fun c => (h c).2.2.2.2, sem_eq_zero_of_no_sems (by decide) _⟩) (Cert.Reference19Ideal.Value.run m ρ),
  fun m ρ _ => Cert.Kernel20.Gen.frame m ρ, fun m ρ _ => Cert.Kernel20Ideal.Gen.frame m ρ,
  fun m ρ _ => (θ_run _ _ _).mono (fun _ h => ⟨fun c => (h c).2.2.2.2, sem_eq_zero_of_no_sems (by decide) _⟩) (Cert.Reference20Ideal.Value.run m ρ),
  fun m ρ _ => Cert.Kernel21.Gen.frame m ρ, fun m ρ _ => Cert.Kernel21Ideal.Gen.frame m ρ,
  fun m ρ _ => (θ_run _ _ _).mono (fun _ h => ⟨fun c => (h c).2.2, sem_eq_zero_of_no_sems (by decide) _⟩) (Cert.Reference21Ideal.Value.run m ρ),
  fun m ρ _ => Cert.Kernel22.Gen.frame m ρ, fun m ρ _ => Cert.Kernel22Ideal.Gen.frame m ρ,
  fun m ρ _ => (θ_run _ _ _).mono (fun _ h => ⟨fun c => (h c).2.2, sem_eq_zero_of_no_sems (by decide) _⟩) (Cert.Reference22Ideal.Value.run m ρ),
  fun m ρ _ => Cert.Kernel23.InProj.frame m ρ, fun m ρ _ => Cert.Kernel23Ideal.InProj.frame m ρ,
  fun m ρ _ => (θ_run _ _ _).mono (fun _ h => ⟨fun c => (h c).2, sem_eq_zero_of_no_sems (by decide) _⟩) (Cert.Reference23Ideal.Value.run m ρ),
  trivial, Cert.Attn.agree,
  trivial, Cert.MlpDown.agree,
  trivial, Cert.WeightDown.agree,
  trivial, Cert.WeightUp.agree,
  trivial, Cert.InputGrad.agree,
  trivial, Cert.MlpUp.agree,
  trivial, Cert.WeightIn.agree,
  trivial, Cert.WeightOut.agree,
  trivial, Cert.Merge.agree,
  trivial, Cert.MixNorm.agree,
  trivial, Cert.UpGrad.agree,
  trivial, Cert.LossGrad.agree,
  trivial, Cert.MergeGrad.agree,
  trivial, Cert.WeightBranch.agree,
  trivial, Cert.StepWide.agree,
  trivial, Cert.StepOut.agree,
  trivial, Cert.StepBranch.agree,
  trivial, Cert.StepPool.agree,
  trivial, Cert.StepRows.agree,
  trivial, Cert.PoolGrad.agree,
  trivial, Cert.AttnOut.agree,
  trivial, Cert.Kernel23Ideal.InProj.agree⟩

end Cert.Proof

end
